-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_gate_finite [hPre_gate_finite : Cert.Pre_gate_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_gate_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_gate_finite [hPre_gate_finite : Cert.Pre_gate_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_gate_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_out_finite [hPre_out_finite : Cert.Pre_out_finite.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_out_finite.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_out_finite [hPre_out_finite : Cert.Pre_out_finite.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_out_finite.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_last_finite [hPre_last_finite : Cert.Pre_last_finite.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_last_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_last_finite [hPre_last_finite : Cert.Pre_last_finite.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_last_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_gate_finite [hKernel6Ideal : Cert.Kernel6Ideal.Facts] [hPre_gate_finite : Cert.Pre_gate_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_gate_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_gate_finite [hReference6Ideal : Cert.Reference6Ideal.Facts] [hPre_gate_finite : Cert.Pre_gate_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_gate_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Kernel16Ideal_pre_out_finite [hKernel16Ideal : Cert.Kernel16Ideal.Facts] [hPre_out_finite : Cert.Pre_out_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_out_finite m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Reference16Ideal_pre_out_finite [hReference16Ideal : Cert.Reference16Ideal.Facts] [hPre_out_finite : Cert.Pre_out_finite.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_out_finite m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel17Ideal_pre_last_finite [hKernel17Ideal : Cert.Kernel17Ideal.Facts] [hPre_last_finite : Cert.Pre_last_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_last_finite m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Reference17Ideal_pre_last_finite [hReference17Ideal : Cert.Reference17Ideal.Facts] [hPre_last_finite : Cert.Pre_last_finite.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_last_finite m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_gate_finite [hKernel6Ideal : Cert.Kernel6Ideal.Facts] [hReference6Ideal : Cert.Reference6Ideal.Facts] [hPre_gate_finite : Cert.Pre_gate_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_gate_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)) (v2 : (c : Dev Cert.Kernel6Ideal.nD) → Buf (Elt Ideal) ((c.tc : Thread Cert.Kernel6Ideal.nD Cert.Kernel6Ideal.τ).loc Cert.Kernel6Ideal.main_v32_2)) (v3 : (c : Dev Cert.Kernel6Ideal.nD) → Buf (Elt Ideal) ((c.tc : Thread Cert.Kernel6Ideal.nD Cert.Kernel6Ideal.τ).loc Cert.Kernel6Ideal.main_v32_3)) (v4 : (c : Dev Cert.Kernel6Ideal.nD) → Buf (Elt Ideal) ((c.tc : Thread Cert.Kernel6Ideal.nD Cert.Kernel6Ideal.τ).loc Cert.Kernel6Ideal.main_v32_4)) (v5 : (c : Dev Cert.Kernel6Ideal.nD) → Buf (Elt Ideal) ((c.tc : Thread Cert.Kernel6Ideal.nD Cert.Kernel6Ideal.τ).loc Cert.Kernel6Ideal.main_v32_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_v32_2) = v2 c
          ∧ r.2.mem ((c.tc : Thread Cert.Kernel6Ideal.nD Cert.Kernel6Ideal.τ).loc Cert.Kernel6Ideal.main_v32_3) = v3 c
          ∧ r.2.mem ((c.tc : Thread Cert.Kernel6Ideal.nD Cert.Kernel6Ideal.τ).loc Cert.Kernel6Ideal.main_v32_4) = v4 c
          ∧ r.2.mem ((c.tc : Thread Cert.Kernel6Ideal.nD Cert.Kernel6Ideal.τ).loc Cert.Kernel6Ideal.main_v32_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_v79) = v1 c
          ∧ r.2.mem ((c.tc : Thread Cert.Reference6Ideal.nD Cert.Reference6Ideal.τ).loc Cert.Reference6Ideal.main_v80) = v2 c
          ∧ r.2.mem ((c.tc : Thread Cert.Reference6Ideal.nD Cert.Reference6Ideal.τ).loc Cert.Reference6Ideal.main_v81) = v3 c
          ∧ r.2.mem ((c.tc : Thread Cert.Reference6Ideal.nD Cert.Reference6Ideal.τ).loc Cert.Reference6Ideal.main_v82) = v4 c
          ∧ r.2.mem ((c.tc : Thread Cert.Reference6Ideal.nD Cert.Reference6Ideal.τ).loc Cert.Reference6Ideal.main_v83) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v91) = v0 c
          ∧ r.2.mem ((c.tc : Thread Cert.Reference8Ideal.nD Cert.Reference8Ideal.τ).loc Cert.Reference8Ideal.main_v92) = v1 c
          ∧ r.2.mem ((c.tc : Thread Cert.Reference8Ideal.nD Cert.Reference8Ideal.τ).loc Cert.Reference8Ideal.main_v93) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal_pre_out_finite [hKernel16Ideal : Cert.Kernel16Ideal.Facts] [hReference16Ideal : Cert.Reference16Ideal.Facts] [hPre_out_finite : Cert.Pre_out_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_out_finite m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)) (v3 : (c : Dev Cert.Kernel16Ideal.nD) → Buf (Elt Ideal) ((c.tc : Thread Cert.Kernel16Ideal.nD Cert.Kernel16Ideal.τ).loc Cert.Kernel16Ideal.main_v6_3)) (v4 : (c : Dev Cert.Kernel16Ideal.nD) → Buf (Elt Ideal) ((c.tc : Thread Cert.Kernel16Ideal.nD Cert.Kernel16Ideal.τ).loc Cert.Kernel16Ideal.main_v6_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_v6_3) = v3 c
          ∧ r.2.mem ((c.tc : Thread Cert.Kernel16Ideal.nD Cert.Kernel16Ideal.τ).loc Cert.Kernel16Ideal.main_v6_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v68) = v0 c
          ∧ r.2.mem ((c.tc : Thread Cert.Reference16Ideal.nD Cert.Reference16Ideal.τ).loc Cert.Reference16Ideal.main_v70) = v1 c
          ∧ r.2.mem ((c.tc : Thread Cert.Reference16Ideal.nD Cert.Reference16Ideal.τ).loc Cert.Reference16Ideal.main_v71) = v2 c
          ∧ r.2.mem ((c.tc : Thread Cert.Reference16Ideal.nD Cert.Reference16Ideal.τ).loc Cert.Reference16Ideal.main_v72) = v3 c
          ∧ r.2.mem ((c.tc : Thread Cert.Reference16Ideal.nD Cert.Reference16Ideal.τ).loc Cert.Reference16Ideal.main_v69) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal_pre_last_finite [hKernel17Ideal : Cert.Kernel17Ideal.Facts] [hReference17Ideal : Cert.Reference17Ideal.Facts] [hPre_last_finite : Cert.Pre_last_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_last_finite m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v6_0)) (v1 : (c : Dev Cert.Kernel17Ideal.nD) → Buf (Elt Ideal) ((c.tc : Thread Cert.Kernel17Ideal.nD Cert.Kernel17Ideal.τ).loc Cert.Kernel17Ideal.main_v6_1)) (v2 : (c : Dev Cert.Kernel17Ideal.nD) → Buf (Elt Ideal) ((c.tc : Thread Cert.Kernel17Ideal.nD Cert.Kernel17Ideal.τ).loc Cert.Kernel17Ideal.main_v6_2)) (v3 : (c : Dev Cert.Kernel17Ideal.nD) → Buf (Elt Ideal) ((c.tc : Thread Cert.Kernel17Ideal.nD Cert.Kernel17Ideal.τ).loc Cert.Kernel17Ideal.main_v6_3)) (v4 : (c : Dev Cert.Kernel17Ideal.nD) → Buf (Elt Ideal) ((c.tc : Thread Cert.Kernel17Ideal.nD Cert.Kernel17Ideal.τ).loc Cert.Kernel17Ideal.main_v6_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6_0) = v0 c
          ∧ r.2.mem ((c.tc : Thread Cert.Kernel17Ideal.nD Cert.Kernel17Ideal.τ).loc Cert.Kernel17Ideal.main_v6_1) = v1 c
          ∧ r.2.mem ((c.tc : Thread Cert.Kernel17Ideal.nD Cert.Kernel17Ideal.τ).loc Cert.Kernel17Ideal.main_v6_2) = v2 c
          ∧ r.2.mem ((c.tc : Thread Cert.Kernel17Ideal.nD Cert.Kernel17Ideal.τ).loc Cert.Kernel17Ideal.main_v6_3) = v3 c
          ∧ r.2.mem ((c.tc : Thread Cert.Kernel17Ideal.nD Cert.Kernel17Ideal.τ).loc Cert.Kernel17Ideal.main_v6_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v81) = v0 c
          ∧ r.2.mem ((c.tc : Thread Cert.Reference17Ideal.nD Cert.Reference17Ideal.τ).loc Cert.Reference17Ideal.main_v83) = v1 c
          ∧ r.2.mem ((c.tc : Thread Cert.Reference17Ideal.nD Cert.Reference17Ideal.τ).loc Cert.Reference17Ideal.main_v84) = v2 c
          ∧ r.2.mem ((c.tc : Thread Cert.Reference17Ideal.nD Cert.Reference17Ideal.τ).loc Cert.Reference17Ideal.main_v85) = v3 c
          ∧ r.2.mem ((c.tc : Thread Cert.Reference17Ideal.nD Cert.Reference17Ideal.τ).loc Cert.Reference17Ideal.main_v86) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v35) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v3_0)) (v1 : (c : Dev Cert.Kernel23Ideal.nD) → Buf (Elt Ideal) ((c.tc : Thread Cert.Kernel23Ideal.nD Cert.Kernel23Ideal.τ).loc Cert.Kernel23Ideal.main_v3_1)) (v2 : (c : Dev Cert.Kernel23Ideal.nD) → Buf (Elt Ideal) ((c.tc : Thread Cert.Kernel23Ideal.nD Cert.Kernel23Ideal.τ).loc Cert.Kernel23Ideal.main_v3_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3_0) = v0 c
          ∧ r.2.mem ((c.tc : Thread Cert.Kernel23Ideal.nD Cert.Kernel23Ideal.τ).loc Cert.Kernel23Ideal.main_v3_1) = v1 c
          ∧ r.2.mem ((c.tc : Thread Cert.Kernel23Ideal.nD Cert.Kernel23Ideal.τ).loc Cert.Kernel23Ideal.main_v3_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v31) = v0 c
          ∧ r.2.mem ((c.tc : Thread Cert.Reference23Ideal.nD Cert.Reference23Ideal.τ).loc Cert.Reference23Ideal.main_v32) = v1 c
          ∧ r.2.mem ((c.tc : Thread Cert.Reference23Ideal.nD Cert.Reference23Ideal.τ).loc Cert.Reference23Ideal.main_v33) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v35) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_all_finite : Cert.Pre_all_finite.Facts) (hPre_gate_finite : Cert.Pre_gate_finite.Facts) (hPre_out_finite : Cert.Pre_out_finite.Facts) (hPre_last_finite : Cert.Pre_last_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_gate_finite (hKernel6Ideal := hKernel6Ideal) (hPre_gate_finite := hPre_gate_finite)
    ∧ quiescent_Reference6Ideal (hReference6Ideal := hReference6Ideal)
    ∧ quiescent_Reference6Ideal_pre_gate_finite (hReference6Ideal := hReference6Ideal) (hPre_gate_finite := hPre_gate_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_out_finite (hKernel16Ideal := hKernel16Ideal) (hPre_out_finite := hPre_out_finite)
    ∧ quiescent_Reference16Ideal (hReference16Ideal := hReference16Ideal)
    ∧ quiescent_Reference16Ideal_pre_out_finite (hReference16Ideal := hReference16Ideal) (hPre_out_finite := hPre_out_finite)
    ∧ quiescent_Kernel17 (hKernel17 := hKernel17)
    ∧ quiescent_Kernel17Ideal (hKernel17Ideal := hKernel17Ideal)
    ∧ quiescent_Kernel17Ideal_pre_last_finite (hKernel17Ideal := hKernel17Ideal) (hPre_last_finite := hPre_last_finite)
    ∧ quiescent_Reference17Ideal (hReference17Ideal := hReference17Ideal)
    ∧ quiescent_Reference17Ideal_pre_last_finite (hReference17Ideal := hReference17Ideal) (hPre_last_finite := hPre_last_finite)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_gate_finite (hKernel6Ideal := hKernel6Ideal) (hReference6Ideal := hReference6Ideal) (hPre_gate_finite := hPre_gate_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_out_finite (hKernel16Ideal := hKernel16Ideal) (hReference16Ideal := hReference16Ideal) (hPre_out_finite := hPre_out_finite)
    ∧ preserves_Kernel17_Kernel17Ideal
    ∧ algebraic_Kernel17Ideal_Reference17Ideal_pre_last_finite (hKernel17Ideal := hKernel17Ideal) (hReference17Ideal := hReference17Ideal) (hPre_last_finite := hPre_last_finite)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_all_finite.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S8192x1024 .f32) (main_arg6 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2816 .f32) (main_arg1 : FVec F S8192x1024 .f32) (main_arg2 : FVec F S2816x1024 .f32) (main_arg3 : FVec F S1024 .f32) (main_arg4 : FVec F S1024 .f32) (main_arg5 : FVec F S8192x1024 .f32) (main_arg6 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Pre_gate_finite.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v13 : IVec S_ 1) (main_v16 : IVec S5632 1) : IVec S_ 1 :=
  let main_c_5 : IVec S_ 1 := constantI S_ 1 1#1
  let main_v17 : IVec S_ 1 := (fun x v => Host.reduce IntOp.andi x v reducesTo_S5632_S_d0 h_S_) main_v16 main_c_5
  let main_v18 : IVec S_ 1 := andi main_v13 main_v17
  main_v18

def fn {F : FTy → Type} [FloatOps F] (main_arg0 : FVec F S8192x5632 .bf16) (main_arg1 : FVec F S8192x2816 .bf16) (main_arg2 : FVec F S3x5632 .f32) (main_arg3 : FVec F S5632 .f32) : IVec S_ 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S8192x2816 .bf16 := Host.absf main_arg1
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S5632 .f32 := Host.absf main_arg3
  let main_cst_4 : FVec F S_ .f32 := constant S_ .f32 0x7F800000#32
  let main_v15 : FVec F S5632 .f32 := broadcastInDim S5632 ![] bcast_S_S5632 main_cst_4
  let main_v16 : IVec S5632 1 := cmpf .olt main_v14 main_v15
  fn_part1 (F := F) main_v13 main_v16
-- ==== Pre_last_finite.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S8192x1024 .f32) (main_arg6 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2816 .f32) (main_arg1 : FVec F S8192x1024 .f32) (main_arg2 : FVec F S2816x1024 .f32) (main_arg3 : FVec F S1024 .f32) (main_arg4 : FVec F S1024 .f32) (main_arg5 : FVec F S8192x1024 .f32) (main_arg6 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Pre_out_finite.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S8192x1024 .f32) (main_arg6 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024 .f32) (main_arg5 : FVec F S8192x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .hbm, ⟨17, _⟩ => ⟨S1x1024, .f32⟩
  | .hbm, ⟨18, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x2816, .bf16⟩
  | .local _ .vmem, ⟨15, _⟩ => ⟨S512x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_28 : BitVec 32 := 0#32
  let v60 : BitVec 1 := Scalar.cmpi .ne v59 c0_i32_28
  v60

def k0_cond2 (i : grid0.Coords) : BitVec 1 :=
  let arg0 : BitVec 32 := BitVec.ofNat 32 (i 0).val
  let c0_i32_29 : BitVec 32 := 0#32
  let v61 : BitVec 1 := Scalar.cmpi .sgt arg0 c0_i32_29
  let v62 : BitVec 32 := Scalar.extui v61
  let c0_i32_30 : BitVec 32 := 0#32
  let v63 : BitVec 1 := Scalar.cmpi .ne v62 c0_i32_30
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x2816, .f32⟩
  | .hbm, ⟨97, _⟩ => ⟨S8192x1024, .bf16⟩
  | .hbm, ⟨98, _⟩ => ⟨S1x1024, .f32⟩
  | .hbm, ⟨99, _⟩ => ⟨S1x1024, .f32⟩
  | .hbm, ⟨100, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Kernel2.lean ====
abbrev S8192x2816 : Shape := ⟨2, ![8192, 2816]⟩
abbrev S4x4x1024x1408 : Shape := ⟨4, ![4, 4, 1024, 1408]⟩
abbrev S8192x1024 : Shape := ⟨2, ![8192, 1024]⟩
abbrev S1024x1408 : Shape := ⟨2, ![1024, 1408]⟩
abbrev S1x1x512x1408 : Shape := ⟨4, ![1, 1, 512, 1408]⟩
abbrev S1024x512 : Shape := ⟨2, ![1024, 512]⟩
abbrev S512x1408 : Shape := ⟨2, ![512, 1408]⟩

abbrev nBuf : Space → Nat
  | .hbm => 4
  | .vmem => 18
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x4x1024x1408, .bf16⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1x1x512x1408, .bf16⟩
  | .local _ .vmem, ⟨9, _⟩ => ⟨S1x1x512x1408, .bf16⟩
  | .local _ .vmem, ⟨10, _⟩ => ⟨S1x1x512x1408, .bf16⟩
  | .local _ .vmem, ⟨11, _⟩ => ⟨S1x1x512x1408, .bf16⟩
  | .local _ .vmem, ⟨12, _⟩ => ⟨S1x1x512x1408, .bf16⟩
  | .local _ .vmem, ⟨13, _⟩ => ⟨S1x1x512x1408, .bf16⟩
  | .local _ .vmem, ⟨14, _⟩ => ⟨S1x1x512x1408, .bf16⟩
  | .local _ .vmem, ⟨15, _⟩ => ⟨S1x1x512x1408, .bf16⟩
  | .local _ .vmem, ⟨16, _⟩ => ⟨S1024x512, .f32⟩
  | .local _ .vmem, ⟨17, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8192x2816 : Shape := ⟨2, ![8192, 2816]⟩
abbrev S4x4x1024x1408 : Shape := ⟨4, ![4, 4, 1024, 1408]⟩
abbrev S1x1x1024x1408 : Shape := ⟨4, ![1, 1, 1024, 1408]⟩
abbrev S1024x1408 : Shape := ⟨2, ![1024, 1408]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x4x1024x1408, .bf16⟩
  | .hbm, ⟨3, _⟩ => ⟨S1x1x1024x1408, .bf16⟩
  | .hbm, ⟨4, _⟩ => ⟨S1024x1408, .bf16⟩
  | .hbm, ⟨5, _⟩ => ⟨S1024x1408, .f32⟩
  | .hbm, ⟨6, _⟩ => ⟨S1x1x1024x1408, .bf16⟩
  | .hbm, ⟨7, _⟩ => ⟨S1024x1408, .bf16⟩
  | .hbm, ⟨8, _⟩ => ⟨S1024x1408, .f32⟩
  | .hbm, ⟨9, _⟩ => ⟨S1x1x1024x1408, .bf16⟩
  | .hbm, ⟨10, _⟩ => ⟨S1024x1408, .bf16⟩
  | .hbm, ⟨11, _⟩ => ⟨S1024x1408, .f32⟩
  | .hbm, ⟨12, _⟩ => ⟨S1x1x1024x1408, .bf16⟩
  | .hbm, ⟨13, _⟩ => ⟨S1024x1408, .bf16⟩
  | .hbm, ⟨14, _⟩ => ⟨S1024x1408, .f32⟩
  | .hbm, ⟨15, _⟩ => ⟨S1024x5632, .f32⟩
  | .hbm, ⟨16, _⟩ => ⟨S_, .f32⟩
  | .hbm, ⟨17, _⟩ => ⟨S8192x1024, .f32⟩
  | .hbm, ⟨18, _⟩ => ⟨S8192x5632, .f32⟩
  | .hbm, ⟨19, _⟩ => ⟨S8192x2816, .f32⟩
  | .hbm, ⟨20, _⟩ => ⟨S8192x2816, .f32⟩
  | .hbm, ⟨21, _⟩ => ⟨S8192x5632, .f32⟩
  | .hbm, ⟨22, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S4x4x1024x1408 : Shape := ⟨4, ![4, 4, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x4x1024x1408, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x1024 : Shape := ⟨2, ![8192, 1024]⟩
abbrev S4x4x1024x1408 : Shape := ⟨4, ![4, 4, 1024, 1408]⟩
abbrev S1x1x1024x1408 : Shape := ⟨4, ![1, 1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x4x1024x1408, .bf16⟩
  | .hbm, ⟨2, _⟩ => ⟨S8192x1024, .f32⟩
  | .hbm, ⟨3, _⟩ => ⟨S1x1x1024x1408, .bf16⟩
  | .hbm, ⟨4, _⟩ => ⟨S1024x1408, .bf16⟩
  | .hbm, ⟨5, _⟩ => ⟨S1024x1408, .f32⟩
  | .hbm, ⟨6, _⟩ => ⟨S1x1x1024x1408, .bf16⟩
  | .hbm, ⟨7, _⟩ => ⟨S1024x1408, .bf16⟩
  | .hbm, ⟨8, _⟩ => ⟨S1024x1408, .f32⟩
  | .hbm, ⟨9, _⟩ => ⟨S1x1x1024x1408, .bf16⟩
  | .hbm, ⟨10, _⟩ => ⟨S1024x1408, .bf16⟩
  | .hbm, ⟨11, _⟩ => ⟨S1024x1408, .f32⟩
  | .hbm, ⟨12, _⟩ => ⟨S1x1x1024x1408, .bf16⟩
  | .hbm, ⟨13, _⟩ => ⟨S1024x1408, .bf16⟩
  | .hbm, ⟨14, _⟩ => ⟨S1024x1408, .f32⟩
  | .hbm, ⟨15, _⟩ => ⟨S1024x5632, .f32⟩
  | .hbm, ⟨16, _⟩ => ⟨S8192x5632, .f32⟩
  | .hbm, ⟨17, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel6.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S5x5632 : Shape := ⟨2, ![5, 5632]⟩
abbrev S8x5632 : Shape := ⟨2, ![8, 5632]⟩
abbrev S8x2816 : Shape := ⟨2, ![8, 2816]⟩
abbrev S1x2816 : Shape := ⟨2, ![1, 2816]⟩
abbrev S2048x256 : Shape := ⟨2, ![2048, 256]⟩
abbrev S16x256 : Shape := ⟨2, ![16, 256]⟩
abbrev S8x256 : Shape := ⟨2, ![8, 256]⟩
abbrev S1x256 : Shape := ⟨2, ![1, 256]⟩
abbrev S144x256 : Shape := ⟨2, ![144, 256]⟩
abbrev S128x256 : Shape := ⟨2, ![128, 256]⟩
abbrev S256 : Shape := ⟨1, ![256]⟩
abbrev S5x256 : Shape := ⟨2, ![5, 256]⟩

abbrev nBuf : Space → Nat
  | .hbm => 45
  | .vmem => 32
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S3x5632, .f32⟩
  | .hbm, ⟨3, _⟩ => ⟨S5632, .f32⟩
  | .hbm, ⟨4, _⟩ => ⟨S8192x5632, .f32⟩
  | .hbm, ⟨5, _⟩ => ⟨S1x5632, .f32⟩
  | .hbm, ⟨6, _⟩ => ⟨S5632, .f32⟩
  | .hbm, ⟨7, _⟩ => ⟨S_, .f32⟩
  | .hbm, ⟨8, _⟩ => ⟨S2x5632, .f32⟩
  | .hbm, ⟨9, _⟩ => ⟨S8190x5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S5632, .f32⟩
  | .hbm, ⟨16, _⟩ => ⟨S_, .f32⟩
  | .hbm, ⟨17, _⟩ => ⟨S1x5632, .f32⟩
  | .hbm, ⟨18, _⟩ => ⟨S8191x5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .bf16⟩
  | .hbm, ⟨34, _⟩ => ⟨S8192x2816, .bf16⟩
  | .hbm, ⟨35, _⟩ => ⟨S8192x2816, .bf16⟩
  | .hbm, ⟨36, _⟩ => ⟨S_, .f32⟩
  | .hbm, ⟨37, _⟩ => ⟨S5x5632, .f32⟩
  | .hbm, ⟨38, _⟩ => ⟨S8x5632, .f32⟩
  | .hbm, ⟨39, _⟩ => ⟨S8192x2816, .bf16⟩
  | .hbm, ⟨40, _⟩ => ⟨S8192x2816, .bf16⟩
  | .hbm, ⟨41, _⟩ => ⟨S8x2816, .f32⟩
  | .hbm, ⟨42, _⟩ => ⟨S8x2816, .f32⟩
  | .hbm, ⟨43, _⟩ => ⟨S1x2816, .f32⟩
  | .hbm, ⟨44, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S16x256, .bf16⟩
  | .local _ .vmem, ⟨7, _⟩ => ⟨S16x256, .bf16⟩
  | .local _ .vmem, ⟨8, _⟩ => ⟨S2048x256, .bf16⟩
  | .local _ .vmem, ⟨9, _⟩ => ⟨S2048x256, .bf16⟩
  | .local _ .vmem, ⟨10, _⟩ => ⟨S16x256, .bf16⟩
  | .local _ .vmem, ⟨11, _⟩ => ⟨S16x256, .bf16⟩
  | .local _ .vmem, ⟨12, _⟩ => ⟨S2048x256, .bf16⟩
  | .local _ .vmem, ⟨13, _⟩ => ⟨S2048x256, .bf16⟩
  | .local _ .vmem, ⟨14, _⟩ => ⟨S16x256, .bf16⟩
  | .local _ .vmem, ⟨15, _⟩ => ⟨S16x256, .bf16⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S8x256, .f32⟩
  | .local _ .vmem, ⟨25, _⟩ => ⟨S8x256, .f32⟩
  | .local _ .vmem, ⟨26, _⟩ => ⟨S8x256, .f32⟩
  | .local _ .vmem, ⟨27, _⟩ => ⟨S8x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v1470 : BitVec 1 := Scalar.cmpi .eq arg1 c0_i32
  let v1471 : BitVec 32 := Scalar.extui v1470
  let c0_i32_472 : BitVec 32 := 0#32
  let v1472 : BitVec 1 := Scalar.cmpi .ne v1471 c0_i32_472
  v1472

def k0_cond2 (i : grid0.Coords) : BitVec 1 :=
  let arg1 : BitVec 32 := BitVec.ofNat 32 (i 1).val
  let c0_i32_473 : BitVec 32 := 0#32
  let v1473 : BitVec 1 := Scalar.cmpi .sgt arg1 c0_i32_473
  let v1474 : BitVec 32 := Scalar.extui v1473
  let c0_i32_474 : BitVec 32 := 0#32
  let v1475 : BitVec 1 := Scalar.cmpi .ne v1474 c0_i32_474
  v1475

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference6Ideal.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S8x5632 : Shape := ⟨2, ![8, 5632]⟩
abbrev S8x2816 : Shape := ⟨2, ![8, 2816]⟩
abbrev S1x2816 : Shape := ⟨2, ![1, 2816]⟩

abbrev nBuf : Space → Nat
  | .hbm => 122
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S3x5632, .f32⟩
  | .hbm, ⟨3, _⟩ => ⟨S5632, .f32⟩
  | .hbm, ⟨4, _⟩ => ⟨S8192x5632, .f32⟩
  | .hbm, ⟨5, _⟩ => ⟨S1x5632, .f32⟩
  | .hbm, ⟨6, _⟩ => ⟨S5632, .f32⟩
  | .hbm, ⟨7, _⟩ => ⟨S_, .f32⟩
  | .hbm, ⟨8, _⟩ => ⟨S2x5632, .f32⟩
  | .hbm, ⟨9, _⟩ => ⟨S8190x5632, .f32⟩
  | .hbm, ⟨10, _⟩ => ⟨S8192x5632, .f32⟩
  | .hbm, ⟨11, _⟩ => ⟨S_, .f32⟩
  | .hbm, ⟨12, _⟩ => ⟨S2x5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S_, .f32⟩
  | .hbm, ⟨19, _⟩ => ⟨S1x5632, .f32⟩
  | .hbm, ⟨20, _⟩ => ⟨S8191x5632, .f32⟩
  | .hbm, ⟨21, _⟩ => ⟨S8192x5632, .f32⟩
  | .hbm, ⟨22, _⟩ => ⟨S_, .f32⟩
  | .hbm, ⟨23, _⟩ => ⟨S1x5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S8192x5632, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S5632, .f32⟩
  | .hbm, ⟨66, _⟩ => ⟨S8192x5632, .f32⟩
  | .hbm, ⟨67, _⟩ => ⟨S8192x5632, .f32⟩
  | .hbm, ⟨68, _⟩ => ⟨S8192x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S3x5632, .f32⟩
  | .hbm, ⟨77, _⟩ => ⟨S8192x5632, .f32⟩
  | .hbm, ⟨78, _⟩ => ⟨S8192x5632, .f32⟩
  | .hbm, ⟨79, _⟩ => ⟨S8192x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S8191x5632, .f32⟩
  | .hbm, ⟨87, _⟩ => ⟨S_, .f32⟩
  | .hbm, ⟨88, _⟩ => ⟨S8192x5632, .f32⟩
  | .hbm, ⟨89, _⟩ => ⟨S8192x5632, .f32⟩
  | .hbm, ⟨90, _⟩ => ⟨S1x5632, .f32⟩
  | .hbm, ⟨91, _⟩ => ⟨S_, .f32⟩
  | .hbm, ⟨92, _⟩ => ⟨S3x5632, .f32⟩
  | .hbm, ⟨93, _⟩ => ⟨S3x5632, .f32⟩
  | .hbm, ⟨94, _⟩ => ⟨S8192x5632, .f32⟩
  | .hbm, ⟨95, _⟩ => ⟨S8192x5632, .f32⟩
  | .hbm, ⟨96, _⟩ => ⟨S8192x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S5632, .f32⟩
  | .hbm, ⟨102, _⟩ => ⟨S2x5632, .f32⟩
  | .hbm, ⟨103, _⟩ => ⟨S8190x5632, .f32⟩
  | .hbm, ⟨104, _⟩ => ⟨S_, .f32⟩
  | .hbm, ⟨105, _⟩ => ⟨S8192x5632, .f32⟩
  | .hbm, ⟨106, _⟩ => ⟨S8192x5632, .f32⟩
  | .hbm, ⟨107, _⟩ => ⟨S1x5632, .f32⟩
  | .hbm, ⟨108, _⟩ => ⟨S_, .f32⟩
  | .hbm, ⟨109, _⟩ => ⟨S3x5632, .f32⟩
  | .hbm, ⟨110, _⟩ => ⟨S3x5632, .f32⟩
  | .hbm, ⟨111, _⟩ => ⟨S8192x5632, .bf16⟩
  | .hbm, ⟨112, _⟩ => ⟨S_, .i32⟩
  | .hbm, ⟨113, _⟩ => ⟨S_, .f32⟩
  | .hbm, ⟨114, _⟩ => ⟨S8x5632, .f32⟩
  | .hbm, ⟨115, _⟩ => ⟨S1x5632, .f32⟩
  | .hbm, ⟨116, _⟩ => ⟨S8192x2816, .bf16⟩
  | .hbm, ⟨117, _⟩ => ⟨S8192x2816, .bf16⟩
  | .hbm, ⟨118, _⟩ => ⟨S8x2816, .f32⟩
  | .hbm, ⟨119, _⟩ => ⟨S8x2816, .f32⟩
  | .hbm, ⟨120, _⟩ => ⟨S1x2816, .f32⟩
  | .hbm, ⟨121, _⟩ => ⟨S1x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v31_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v31_1 : Ref sig .tc := ⟨.hbm, 50, rfl⟩
abbrev main_v31_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c : Ref sig .tc := ⟨.hbm, 112, rfl⟩
abbrev main_call2_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel8.lean ====
abbrev S8192x512 : Shape := ⟨2, ![8192, 512]⟩
abbrev S8192x1792 : Shape := ⟨2, ![8192, 1792]⟩
abbrev S4x512 : Shape := ⟨2, ![4, 512]⟩
abbrev S_ : Shape := ⟨0, ![]⟩
abbrev S8x512 : Shape := ⟨2, ![8, 512]⟩
abbrev S1x512 : Shape := ⟨2, ![1, 512]⟩
abbrev S1024x256 : Shape := ⟨2, ![1024, 256]⟩
abbrev S16x256 : Shape := ⟨2, ![16, 256]⟩
abbrev S8x256 : Shape := ⟨2, ![8, 256]⟩
abbrev S1x256 : Shape := ⟨2, ![1, 256]⟩
abbrev S144x256 : Shape := ⟨2, ![144, 256]⟩
abbrev S128x256 : Shape := ⟨2, ![128, 256]⟩
abbrev S256 : Shape := ⟨1, ![256]⟩
abbrev S4x256 : Shape := ⟨2, ![4, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x1792, .f32⟩
  | .hbm, ⟨2, _⟩ => ⟨S4x512, .f32⟩
  | .hbm, ⟨3, _⟩ => ⟨S_, .f32⟩
  | .hbm, ⟨4, _⟩ => ⟨S4x512, .f32⟩
  | .hbm, ⟨5, _⟩ => ⟨S8x512, .f32⟩
  | .hbm, ⟨6, _⟩ => ⟨S8192x512, .bf16⟩
  | .hbm, ⟨7, _⟩ => ⟨S8x512, .f32⟩
  | .hbm, ⟨8, _⟩ => ⟨S1x512, .f32⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S1024x256, .f32⟩
  | .local _ .vmem, ⟨5, _⟩ => ⟨S1024x256, .f32⟩
  | .local _ .vmem, ⟨6, _⟩ => ⟨S16x256, .f32⟩
  | .local _ .vmem, ⟨7, _⟩ => ⟨S16x256, .f32⟩
  | .local _ .vmem, ⟨8, _⟩ => ⟨S8x256, .f32⟩
  | .local _ .vmem, ⟨9, _⟩ => ⟨S8x256, .f32⟩
  | .local _ .vmem, ⟨10, _⟩ => ⟨S1024x256, .bf16⟩
  | .local _ .vmem, ⟨11, _⟩ => ⟨S1024x256, .bf16⟩
  | .local _ .vmem, ⟨12, _⟩ => ⟨S8x256, .f32⟩
  | .local _ .vmem, ⟨13, _⟩ => ⟨S8x256, .f32⟩
  | .local _ .vmem, ⟨14, _⟩ => ⟨S1x256, .f32⟩
  | .local _ .vmem, ⟨15, _⟩ => ⟨S1x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v365 : BitVec 1 := Scalar.cmpi .eq arg1 c0_i32
  let v366 : BitVec 32 := Scalar.extui v365
  let c0_i32_113 : BitVec 32 := 0#32
  let v367 : BitVec 1 := Scalar.cmpi .ne v366 c0_i32_113
  v367

def k0_cond2 (i : grid0.Coords) : BitVec 1 :=
  let arg1 : BitVec 32 := BitVec.ofNat 32 (i 1).val
  let c0_i32_114 : BitVec 32 := 0#32
  let v368 : BitVec 1 := Scalar.cmpi .sgt arg1 c0_i32_114
  let v369 : BitVec 32 := Scalar.extui v368
  let c0_i32_115 : BitVec 32 := 0#32
  let v370 : BitVec 1 := Scalar.cmpi .ne v369 c0_i32_115
  v370

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S8192x512 : Shape := ⟨2, ![8192, 512]⟩
abbrev S8192x1792 : Shape := ⟨2, ![8192, 1792]⟩
abbrev S4x512 : Shape := ⟨2, ![4, 512]⟩
abbrev S_ : Shape := ⟨0, ![]⟩
abbrev S512 : Shape := ⟨1, ![512]⟩
abbrev S1x512 : Shape := ⟨2, ![1, 512]⟩
abbrev S3x512 : Shape := ⟨2, ![3, 512]⟩
abbrev S8189x512 : Shape := ⟨2, ![8189, 512]⟩
abbrev S2x512 : Shape := ⟨2, ![2, 512]⟩
abbrev S8190x512 : Shape := ⟨2, ![8190, 512]⟩
abbrev S8191x512 : Shape := ⟨2, ![8191, 512]⟩
abbrev S8x512 : Shape := ⟨2, ![8, 512]⟩

abbrev nBuf : Space → Nat
  | .hbm => 123
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1792, .f32⟩
  | .hbm, ⟨2, _⟩ => ⟨S4x512, .f32⟩
  | .hbm, ⟨3, _⟩ => ⟨S8192x512, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S512, .f32⟩
  | .hbm, ⟨8, _⟩ => ⟨S_, .f32⟩
  | .hbm, ⟨9, _⟩ => ⟨S3x512, .f32⟩
  | .hbm, ⟨10, _⟩ => ⟨S8189x512, .f32⟩
  | .hbm, ⟨11, _⟩ => ⟨S8192x512, .f32⟩
  | .hbm, ⟨12, _⟩ => ⟨S_, .f32⟩
  | .hbm, ⟨13, _⟩ => ⟨S3x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S512, .f32⟩
  | .hbm, ⟨19, _⟩ => ⟨S_, .f32⟩
  | .hbm, ⟨20, _⟩ => ⟨S2x512, .f32⟩
  | .hbm, ⟨21, _⟩ => ⟨S8190x512, .f32⟩
  | .hbm, ⟨22, _⟩ => ⟨S8192x512, .f32⟩
  | .hbm, ⟨23, _⟩ => ⟨S_, .f32⟩
  | .hbm, ⟨24, _⟩ => ⟨S2x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S512, .f32⟩
  | .hbm, ⟨31, _⟩ => ⟨S_, .f32⟩
  | .hbm, ⟨32, _⟩ => ⟨S1x512, .f32⟩
  | .hbm, ⟨33, _⟩ => ⟨S8191x512, .f32⟩
  | .hbm, ⟨34, _⟩ => ⟨S8192x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S_, .f32⟩
  | .hbm, ⟨66, _⟩ => ⟨S4x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8191x512, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S1x512, .f32⟩
  | .hbm, ⟨81, _⟩ => ⟨S_, .f32⟩
  | .hbm, ⟨82, _⟩ => ⟨S4x512, .f32⟩
  | .hbm, ⟨83, _⟩ => ⟨S4x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S512, .f32⟩
  | .hbm, ⟨89, _⟩ => ⟨S1x512, .f32⟩
  | .hbm, ⟨90, _⟩ => ⟨S_, .f32⟩
  | .hbm, ⟨91, _⟩ => ⟨S512, .f32⟩
  | .hbm, ⟨92, _⟩ => ⟨S2x512, .f32⟩
  | .hbm, ⟨93, _⟩ => ⟨S8190x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S1x512, .f32⟩
  | .hbm, ⟨98, _⟩ => ⟨S_, .f32⟩
  | .hbm, ⟨99, _⟩ => ⟨S4x512, .f32⟩
  | .hbm, ⟨100, _⟩ => ⟨S4x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S_, .f32⟩
  | .hbm, ⟨105, _⟩ => ⟨S512, .f32⟩
  | .hbm, ⟨106, _⟩ => ⟨S1x512, .f32⟩
  | .hbm, ⟨107, _⟩ => ⟨S_, .f32⟩
  | .hbm, ⟨108, _⟩ => ⟨S512, .f32⟩
  | .hbm, ⟨109, _⟩ => ⟨S3x512, .f32⟩
  | .hbm, ⟨110, _⟩ => ⟨S8189x512, .f32⟩
  | .hbm, ⟨111, _⟩ => ⟨S_, .f32⟩
  | .hbm, ⟨112, _⟩ => ⟨S8192x512, .f32⟩
  | .hbm, ⟨113, _⟩ => ⟨S8192x512, .f32⟩
  | .hbm, ⟨114, _⟩ => ⟨S1x512, .f32⟩
  | .hbm, ⟨115, _⟩ => ⟨S_, .f32⟩
  | .hbm, ⟨116, _⟩ => ⟨S4x512, .f32⟩
  | .hbm, ⟨117, _⟩ => ⟨S4x512, .f32⟩
  | .hbm, ⟨118, _⟩ => ⟨S8192x512, .bf16⟩
  | .hbm, ⟨119, _⟩ => ⟨S_, .i32⟩
  | .hbm, ⟨120, _⟩ => ⟨S_, .f32⟩
  | .hbm, ⟨121, _⟩ => ⟨S8x512, .f32⟩
  | .hbm, ⟨122, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_18 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_19 : Ref sig .tc := ⟨.hbm, 104, rfl⟩
abbrev main_v81 : Ref sig .tc := ⟨.hbm, 105, rfl⟩
abbrev main_v82 : Ref sig .tc := ⟨.hbm, 106, rfl⟩
abbrev main_cst_20 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_21 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_22 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c : Ref sig .tc := ⟨.hbm, 119, rfl⟩
abbrev main_call0_v0 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel9.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x3456 : Shape := ⟨2, ![1024, 3456]⟩
abbrev S8192x3456 : Shape := ⟨2, ![8192, 3456]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1024x3456 : Shape := ⟨2, ![1024, 3456]⟩
abbrev S8192x3456 : Shape := ⟨2, ![8192, 3456]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x1024, .f32⟩
  | .hbm, ⟨3, _⟩ => ⟨S1024x3456, .f32⟩
  | .hbm, ⟨4, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x1792 : Shape := ⟨2, ![1024, 1792]⟩
abbrev S8192x1792 : Shape := ⟨2, ![8192, 1792]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1792, .bf16⟩
  | .hbm, ⟨2, _⟩ => ⟨S8192x1792, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1792 : Shape := ⟨2, ![1024, 1792]⟩
abbrev S8192x1792 : Shape := ⟨2, ![8192, 1792]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1792, .bf16⟩
  | .hbm, ⟨2, _⟩ => ⟨S8192x1024, .f32⟩
  | .hbm, ⟨3, _⟩ => ⟨S1024x1792, .f32⟩
  | .hbm, ⟨4, _⟩ => ⟨S8192x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x512 : Shape := ⟨2, ![8192, 512]⟩
abbrev S8192x768 : Shape := ⟨2, ![8192, 768]⟩
abbrev S8192x128 : Shape := ⟨2, ![8192, 128]⟩
abbrev S1024x3456 : Shape := ⟨2, ![1024, 3456]⟩
abbrev S8192x1024 : Shape := ⟨2, ![8192, 1024]⟩
abbrev S1024x512 : Shape := ⟨2, ![1024, 512]⟩
abbrev S1024x256 : Shape := ⟨2, ![1024, 256]⟩
abbrev S1024x128 : Shape := ⟨2, ![1024, 128]⟩
abbrev S512x512 : Shape := ⟨2, ![512, 512]⟩
abbrev S512x256 : Shape := ⟨2, ![512, 256]⟩
abbrev S512x128 : Shape := ⟨2, ![512, 128]⟩

abbrev nBuf : Space → Nat
  | .hbm => 9
  | .vmem => 38
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x768, .bf16⟩
  | .hbm, ⟨6, _⟩ => ⟨S8192x128, .bf16⟩
  | .hbm, ⟨7, _⟩ => ⟨S1024x3456, .bf16⟩
  | .hbm, ⟨8, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x128, .bf16⟩
  | .local _ .vmem, ⟨17, _⟩ => ⟨S1024x128, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x128, .bf16⟩
  | .local _ .vmem, ⟨35, _⟩ => ⟨S512x128, .bf16⟩
  | .local _ .vmem, ⟨36, _⟩ => ⟨S1024x512, .f32⟩
  | .local _ .vmem, ⟨37, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_14 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg1.toNat, c10_i32.toNat]

def cc0_transform_15 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg1.toNat, c11_i32.toNat]

def cc0_transform_16 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg1.toNat, c12_i32.toNat]

def cc0_transform_17 (i : grid0.Coords) : Fin 2 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg1.toNat, c26_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference14Ideal.lean ====
abbrev S8192x512 : Shape := ⟨2, ![8192, 512]⟩
abbrev S8192x768 : Shape := ⟨2, ![8192, 768]⟩
abbrev S8192x128 : Shape := ⟨2, ![8192, 128]⟩
abbrev S1024x3456 : Shape := ⟨2, ![1024, 3456]⟩
abbrev S_ : Shape := ⟨0, ![]⟩
abbrev S8192x1024 : Shape := ⟨2, ![8192, 1024]⟩
abbrev S8192x3456 : Shape := ⟨2, ![8192, 3456]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x768, .bf16⟩
  | .hbm, ⟨6, _⟩ => ⟨S8192x128, .bf16⟩
  | .hbm, ⟨7, _⟩ => ⟨S1024x3456, .bf16⟩
  | .hbm, ⟨8, _⟩ => ⟨S_, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x768, .f32⟩
  | .hbm, ⟨16, _⟩ => ⟨S8192x128, .f32⟩
  | .hbm, ⟨17, _⟩ => ⟨S8192x3456, .f32⟩
  | .hbm, ⟨18, _⟩ => ⟨S1024x3456, .f32⟩
  | .hbm, ⟨19, _⟩ => ⟨S8192x3456, .f32⟩
  | .hbm, ⟨20, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Kernel15.lean ====
abbrev S8192x512 : Shape := ⟨2, ![8192, 512]⟩
abbrev S8192x128 : Shape := ⟨2, ![8192, 128]⟩
abbrev S1024x1792 : Shape := ⟨2, ![1024, 1792]⟩
abbrev S8192x1024 : Shape := ⟨2, ![8192, 1024]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x128, .f32⟩
  | .hbm, ⟨4, _⟩ => ⟨S8192x128, .f32⟩
  | .hbm, ⟨5, _⟩ => ⟨S1024x1792, .bf16⟩
  | .hbm, ⟨6, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg1.toNat, c12_i32.toNat]

def cc0_transform_9 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg1.toNat, c13_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference15Ideal.lean ====
abbrev S8192x512 : Shape := ⟨2, ![8192, 512]⟩
abbrev S8192x128 : Shape := ⟨2, ![8192, 128]⟩
abbrev S1024x1792 : Shape := ⟨2, ![1024, 1792]⟩
abbrev S_ : Shape := ⟨0, ![]⟩
abbrev S8192x1024 : Shape := ⟨2, ![8192, 1024]⟩
abbrev S8192x1792 : Shape := ⟨2, ![8192, 1792]⟩

abbrev nBuf : Space → Nat
  | .hbm => 15
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x128, .f32⟩
  | .hbm, ⟨4, _⟩ => ⟨S8192x128, .f32⟩
  | .hbm, ⟨5, _⟩ => ⟨S1024x1792, .bf16⟩
  | .hbm, ⟨6, _⟩ => ⟨S_, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x1792, .f32⟩
  | .hbm, ⟨12, _⟩ => ⟨S1024x1792, .f32⟩
  | .hbm, ⟨13, _⟩ => ⟨S8192x1792, .f32⟩
  | .hbm, ⟨14, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024x1024, .bf16⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .hbm, ⟨17, _⟩ => ⟨S1x1024, .f32⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_28 : BitVec 32 := 0#32
  let v59 : BitVec 1 := Scalar.cmpi .ne v58 c0_i32_28
  v59

def k0_cond2 (i : grid0.Coords) : BitVec 1 :=
  let arg0 : BitVec 32 := BitVec.ofNat 32 (i 0).val
  let c0_i32_29 : BitVec 32 := 0#32
  let v60 : BitVec 1 := Scalar.cmpi .sgt arg0 c0_i32_29
  let v61 : BitVec 32 := Scalar.extui v60
  let c0_i32_30 : BitVec 32 := 0#32
  let v62 : BitVec 1 := Scalar.cmpi .ne v61 c0_i32_30
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Kernel17.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .hbm, ⟨17, _⟩ => ⟨S1x1024, .f32⟩
  | .hbm, ⟨18, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x2816, .bf16⟩
  | .local _ .vmem, ⟨15, _⟩ => ⟨S512x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_28 : BitVec 32 := 0#32
  let v60 : BitVec 1 := Scalar.cmpi .ne v59 c0_i32_28
  v60

def k0_cond2 (i : grid0.Coords) : BitVec 1 :=
  let arg0 : BitVec 32 := BitVec.ofNat 32 (i 0).val
  let c0_i32_29 : BitVec 32 := 0#32
  let v61 : BitVec 1 := Scalar.cmpi .sgt arg0 c0_i32_29
  let v62 : BitVec 32 := Scalar.extui v61
  let c0_i32_30 : BitVec 32 := 0#32
  let v63 : BitVec 1 := Scalar.cmpi .ne v62 c0_i32_30
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference17Ideal.lean ====
abbrev S8192x2816 : Shape := ⟨2, ![8192, 2816]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S8192x2816, .f32⟩
  | .hbm, ⟨117, _⟩ => ⟨S8192x1024, .bf16⟩
  | .hbm, ⟨118, _⟩ => ⟨S1x1024, .f32⟩
  | .hbm, ⟨119, _⟩ => ⟨S1x1024, .f32⟩
  | .hbm, ⟨120, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_8 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_v27 : Ref sig .tc := ⟨.hbm, 46, rfl⟩
abbrev main_cst_11 : Ref sig .tc := ⟨.hbm, 47, rfl⟩
abbrev main_v28 : Ref sig .tc := ⟨.hbm, 48, rfl⟩
abbrev main_v29 : Ref sig .tc := ⟨.hbm, 49, rfl⟩
abbrev main_cst_12 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_13 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_20 : Ref sig .tc := ⟨.hbm, 93, rfl⟩
abbrev main_v65 : Ref sig .tc := ⟨.hbm, 94, rfl⟩
abbrev main_v66 : Ref sig .tc := ⟨.hbm, 95, rfl⟩
abbrev main_cst_21 : Ref sig .tc := ⟨.hbm, 96, rfl⟩
abbrev main_v67 : Ref sig .tc := ⟨.hbm, 97, rfl⟩
abbrev main_v68 : Ref sig .tc := ⟨.hbm, 98, rfl⟩
abbrev main_cst_22 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_23 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_24 : Ref sig .tc := ⟨.hbm, 109, rfl⟩
abbrev main_v77 : Ref sig .tc := ⟨.hbm, 110, rfl⟩
abbrev main_v78 : Ref sig .tc := ⟨.hbm, 111, rfl⟩
abbrev main_cst_25 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Kernel18.lean ====
abbrev S8192x1024 : Shape := ⟨2, ![8192, 1024]⟩
abbrev S8192x768 : Shape := ⟨2, ![8192, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S768x1024, .f32⟩
  | .hbm, ⟨8, _⟩ => ⟨S1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .bf16⟩
  | .hbm, ⟨7, _⟩ => ⟨S8192x128, .f32⟩
  | .hbm, ⟨8, _⟩ => ⟨S128x1024, .f32⟩
  | .hbm, ⟨9, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference21Ideal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024, .f32⟩
  | .hbm, ⟨6, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S8192x1792 : Shape := ⟨2, ![8192, 1792]⟩
abbrev S4x512 : Shape := ⟨2, ![4, 512]⟩
abbrev S512 : Shape := ⟨1, ![512]⟩
abbrev S_ : Shape := ⟨0, ![]⟩
abbrev S8x512 : Shape := ⟨2, ![8, 512]⟩
abbrev S1x512 : Shape := ⟨2, ![1, 512]⟩
abbrev S8192x512 : Shape := ⟨2, ![8192, 512]⟩
abbrev S1024x256 : Shape := ⟨2, ![1024, 256]⟩
abbrev S16x256 : Shape := ⟨2, ![16, 256]⟩
abbrev S8x256 : Shape := ⟨2, ![8, 256]⟩
abbrev S1x256 : Shape := ⟨2, ![1, 256]⟩
abbrev S128x256 : Shape := ⟨2, ![128, 256]⟩
abbrev S144x256 : Shape := ⟨2, ![144, 256]⟩

abbrev nBuf : Space → Nat
  | .hbm => 8
  | .vmem => 10
  | .smem => 0
  | _ => 0

abbrev bufTy : (tb : Table) → Fin (tcTables nBuf tb) → BufTy
  | .hbm, ⟨0, _⟩ => ⟨S8192x1792, .f32⟩
  | .hbm, ⟨1, _⟩ => ⟨S4x512, .f32⟩
  | .hbm, ⟨2, _⟩ => ⟨S512, .f32⟩
  | .hbm, ⟨3, _⟩ => ⟨S_, .f32⟩
  | .hbm, ⟨4, _⟩ => ⟨S4x512, .f32⟩
  | .hbm, ⟨5, _⟩ => ⟨S8x512, .f32⟩
  | .hbm, ⟨6, _⟩ => ⟨S1x512, .f32⟩
  | .hbm, ⟨7, _⟩ => ⟨S8192x512, .f32⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S8x256, .f32⟩
  | .local _ .vmem, ⟨5, _⟩ => ⟨S8x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S8192x1792 : Shape := ⟨2, ![8192, 1792]⟩
abbrev S4x512 : Shape := ⟨2, ![4, 512]⟩
abbrev S512 : Shape := ⟨1, ![512]⟩
abbrev S8192x512 : Shape := ⟨2, ![8192, 512]⟩
abbrev S1x512 : Shape := ⟨2, ![1, 512]⟩
abbrev S_ : Shape := ⟨0, ![]⟩
abbrev S3x512 : Shape := ⟨2, ![3, 512]⟩
abbrev S8189x512 : Shape := ⟨2, ![8189, 512]⟩
abbrev S2x512 : Shape := ⟨2, ![2, 512]⟩
abbrev S8190x512 : Shape := ⟨2, ![8190, 512]⟩
abbrev S8191x512 : Shape := ⟨2, ![8191, 512]⟩

abbrev nBuf : Space → Nat
  | .hbm => 42
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S4x512, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S512, .f32⟩
  | .hbm, ⟨6, _⟩ => ⟨S_, .f32⟩
  | .hbm, ⟨7, _⟩ => ⟨S3x512, .f32⟩
  | .hbm, ⟨8, _⟩ => ⟨S8189x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S1x512, .f32⟩
  | .hbm, ⟨14, _⟩ => ⟨S512, .f32⟩
  | .hbm, ⟨15, _⟩ => ⟨S_, .f32⟩
  | .hbm, ⟨16, _⟩ => ⟨S2x512, .f32⟩
  | .hbm, ⟨17, _⟩ => ⟨S8190x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S512, .f32⟩
  | .hbm, ⟨25, _⟩ => ⟨S_, .f32⟩
  | .hbm, ⟨26, _⟩ => ⟨S1x512, .f32⟩
  | .hbm, ⟨27, _⟩ => ⟨S8191x512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel23.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S5x5632 : Shape := ⟨2, ![5, 5632]⟩
abbrev S8x5632 : Shape := ⟨2, ![8, 5632]⟩
abbrev S1x5632 : Shape := ⟨2, ![1, 5632]⟩
abbrev S8192x2816 : Shape := ⟨2, ![8192, 2816]⟩
abbrev S2048x256 : Shape := ⟨2, ![2048, 256]⟩
abbrev S16x256 : Shape := ⟨2, ![16, 256]⟩
abbrev S8x256 : Shape := ⟨2, ![8, 256]⟩
abbrev S1x256 : Shape := ⟨2, ![1, 256]⟩
abbrev S128x256 : Shape := ⟨2, ![128, 256]⟩
abbrev S144x256 : Shape := ⟨2, ![144, 256]⟩

abbrev nBuf : Space → Nat
  | .hbm => 10
  | .vmem => 22
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S5x5632, .f32⟩
  | .hbm, ⟨5, _⟩ => ⟨S8x5632, .f32⟩
  | .hbm, ⟨6, _⟩ => ⟨S1x5632, .f32⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S2048x256, .bf16⟩
  | .local _ .vmem, ⟨1, _⟩ => ⟨S2048x256, .bf16⟩
  | .local _ .vmem, ⟨2, _⟩ => ⟨S16x256, .bf16⟩
  | .local _ .vmem, ⟨3, _⟩ => ⟨S16x256, .bf16⟩
  | .local _ .vmem, ⟨4, _⟩ => ⟨S2048x256, .bf16⟩
  | .local _ .vmem, ⟨5, _⟩ => ⟨S2048x256, .bf16⟩
  | .local _ .vmem, ⟨6, _⟩ => ⟨S16x256, .bf16⟩
  | .local _ .vmem, ⟨7, _⟩ => ⟨S16x256, .bf16⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference23Ideal.lean ====
abbrev S8192x5632 : Shape := ⟨2, ![8192, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S8192x2816 : Shape := ⟨2, ![8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x5632, .f32⟩
  | .hbm, ⟨4, _⟩ => ⟨S1x5632, .f32⟩
  | .hbm, ⟨5, _⟩ => ⟨S5632, .f32⟩
  | .hbm, ⟨6, _⟩ => ⟨S_, .f32⟩
  | .hbm, ⟨7, _⟩ => ⟨S2x5632, .f32⟩
  | .hbm, ⟨8, _⟩ => ⟨S8190x5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S_, .f32⟩
  | .hbm, ⟨16, _⟩ => ⟨S1x5632, .f32⟩
  | .hbm, ⟨17, _⟩ => ⟨S8191x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .bf16⟩
  | .hbm, ⟨45, _⟩ => ⟨S8192x2816, .bf16⟩
  | .hbm, ⟨46, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel24.lean ====
abbrev S8192x3456 : Shape := ⟨2, ![8192, 3456]⟩
abbrev S4x768 : Shape := ⟨2, ![4, 768]⟩
abbrev S768 : Shape := ⟨1, ![768]⟩
abbrev S_ : Shape := ⟨0, ![]⟩
abbrev S8x768 : Shape := ⟨2, ![8, 768]⟩
abbrev S1x768 : Shape := ⟨2, ![1, 768]⟩
abbrev S8192x768 : Shape := ⟨2, ![8192, 768]⟩
abbrev S1024x256 : Shape := ⟨2, ![1024, 256]⟩
abbrev S16x256 : Shape := ⟨2, ![16, 256]⟩
abbrev S8x256 : Shape := ⟨2, ![8, 256]⟩
abbrev S1x256 : Shape := ⟨2, ![1, 256]⟩
abbrev S128x256 : Shape := ⟨2, ![128, 256]⟩
abbrev S144x256 : Shape := ⟨2, ![144, 256]⟩

abbrev nBuf : Space → Nat
  | .hbm => 8
  | .vmem => 10
  | .smem => 0
  | _ => 0

abbrev bufTy : (tb : Table) → Fin (tcTables nBuf tb) → BufTy
  | .hbm, ⟨0, _⟩ => ⟨S8192x3456, .f32⟩
  | .hbm, ⟨1, _⟩ => ⟨S4x768, .f32⟩
  | .hbm, ⟨2, _⟩ => ⟨S768, .f32⟩
  | .hbm, ⟨3, _⟩ => ⟨S_, .f32⟩
  | .hbm, ⟨4, _⟩ => ⟨S4x768, .f32⟩
  | .hbm, ⟨5, _⟩ => ⟨S8x768, .f32⟩
  | .hbm, ⟨6, _⟩ => ⟨S1x768, .f32⟩
  | .hbm, ⟨7, _⟩ => ⟨S8192x768, .f32⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S8x256, .f32⟩
  | .local _ .vmem, ⟨5, _⟩ => ⟨S8x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S8192x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S8192x3456 : Shape := ⟨2, ![8192, 3456]⟩
abbrev S4x768 : Shape := ⟨2, ![4, 768]⟩
abbrev S768 : Shape := ⟨1, ![768]⟩
abbrev S8192x768 : Shape := ⟨2, ![8192, 768]⟩
abbrev S1x768 : Shape := ⟨2, ![1, 768]⟩
abbrev S_ : Shape := ⟨0, ![]⟩
abbrev S3x768 : Shape := ⟨2, ![3, 768]⟩
abbrev S8189x768 : Shape := ⟨2, ![8189, 768]⟩
abbrev S2x768 : Shape := ⟨2, ![2, 768]⟩
abbrev S8190x768 : Shape := ⟨2, ![8190, 768]⟩
abbrev S8191x768 : Shape := ⟨2, ![8191, 768]⟩

abbrev nBuf : Space → Nat
  | .hbm => 42
  | .vmem => 0
  | .smem => 0
  | _ => 0

abbrev bufTy : (tb : Table) → Fin (tcTables nBuf tb) → BufTy
  | .hbm, ⟨0, _⟩ => ⟨S8192x3456, .f32⟩
  | .hbm, ⟨1, _⟩ => ⟨S4x768, .f32⟩
  | .hbm, ⟨2, _⟩ => ⟨S768, .f32⟩
  | .hbm, ⟨3, _⟩ => ⟨S8192x768, .f32⟩
  | .hbm, ⟨4, _⟩ => ⟨S1x768, .f32⟩
  | .hbm, ⟨5, _⟩ => ⟨S768, .f32⟩
  | .hbm, ⟨6, _⟩ => ⟨S_, .f32⟩
  | .hbm, ⟨7, _⟩ => ⟨S3x768, .f32⟩
  | .hbm, ⟨8, _⟩ => ⟨S8189x768, .f32⟩
  | .hbm, ⟨9, _⟩ => ⟨S8192x768, .f32⟩
  | .hbm, ⟨10, _⟩ => ⟨S1x768, .f32⟩
  | .hbm, ⟨11, _⟩ => ⟨S8192x768, .f32⟩
  | .hbm, ⟨12, _⟩ => ⟨S8192x768, .f32⟩
  | .hbm, ⟨13, _⟩ => ⟨S1x768, .f32⟩
  | .hbm, ⟨14, _⟩ => ⟨S768, .f32⟩
  | .hbm, ⟨15, _⟩ => ⟨S_, .f32⟩
  | .hbm, ⟨16, _⟩ => ⟨S2x768, .f32⟩
  | .hbm, ⟨17, _⟩ => ⟨S8190x768, .f32⟩
  | .hbm, ⟨18, _⟩ => ⟨S8192x768, .f32⟩
  | .hbm, ⟨19, _⟩ => ⟨S1x768, .f32⟩
  | .hbm, ⟨20, _⟩ => ⟨S8192x768, .f32⟩
  | .hbm, ⟨21, _⟩ => ⟨S8192x768, .f32⟩
  | .hbm, ⟨22, _⟩ => ⟨S8192x768, .f32⟩
  | .hbm, ⟨23, _⟩ => ⟨S1x768, .f32⟩
  | .hbm, ⟨24, _⟩ => ⟨S768, .f32⟩
  | .hbm, ⟨25, _⟩ => ⟨S_, .f32⟩
  | .hbm, ⟨26, _⟩ => ⟨S1x768, .f32⟩
  | .hbm, ⟨27, _⟩ => ⟨S8191x768, .f32⟩
  | .hbm, ⟨28, _⟩ => ⟨S8192x768, .f32⟩
  | .hbm, ⟨29, _⟩ => ⟨S1x768, .f32⟩
  | .hbm, ⟨30, _⟩ => ⟨S8192x768, .f32⟩
  | .hbm, ⟨31, _⟩ => ⟨S8192x768, .f32⟩
  | .hbm, ⟨32, _⟩ => ⟨S8192x768, .f32⟩
  | .hbm, ⟨33, _⟩ => ⟨S1x768, .f32⟩
  | .hbm, ⟨34, _⟩ => ⟨S768, .f32⟩
  | .hbm, ⟨35, _⟩ => ⟨S1x768, .f32⟩
  | .hbm, ⟨36, _⟩ => ⟨S8192x768, .f32⟩
  | .hbm, ⟨37, _⟩ => ⟨S8192x768, .f32⟩
  | .hbm, ⟨38, _⟩ => ⟨S8192x768, .f32⟩
  | .hbm, ⟨39, _⟩ => ⟨S1x768, .f32⟩
  | .hbm, ⟨40, _⟩ => ⟨S8192x768, .f32⟩
  | .hbm, ⟨41, _⟩ => ⟨S8192x768, .f32⟩
  | _, _ => ⟨S8192x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Proof.Reals.lean ====
/-
  Reading the ideal arithmetic at real numbers: sums, quotients and inverse roots of reals are the reals' own, and the
  literals of the programs are the rationals their words encode.
-/
module

public import Idealize.ShloMosaic.Lib.ValueIdx
public import Idealize.ShloMosaic.Lib.Pointwise

@[expose] public section

noncomputable section

namespace Cert.Reals

open Idealize.ShloMosaic

/-- A finite sum of reals, taken among the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The inverse root of a positive real. -/
theorem rsqrt_pos {x : ℝ} (hx : 0 < x) : Ideal.rsqrt (x : EReal) = (((Real.sqrt x)⁻¹ : ℝ) : EReal) := by
  rw [Ideal.rsqrt_coe, if_neg hx.not_gt, if_neg hx.ne']

/-- The literal `1024.0`. -/
theorem ofBits_1024 : Ideal.ofBits .f32 0x44800000#32 = ((1024 : ℝ) : EReal) := by
  simp [Ideal.ofBits, Ideal.ieee, -EReal.coe_mul]; norm_num

/-- The literal `2.0`. -/
theorem ofBits_two : Ideal.ofBits .f32 0x40000000#32 = ((2 : ℝ) : EReal) := by
  simp [Ideal.ofBits, Ideal.ieee, -EReal.coe_mul]; norm_num

/-- The literal `-0.5`. -/
theorem ofBits_neg_half : Ideal.ofBits .f32 0xBF000000#32 = ((-(1 / 2) : ℝ) : EReal) := by
  simp [Ideal.ofBits, Ideal.ieee, -EReal.coe_mul, -EReal.coe_neg]; norm_num

/-- The residual scale of the step, as its single-precision literal: the fourth root of eight, rounded. -/
def alpha : ℝ := 14107901 / 8388608

/-- The literal of the residual scale. -/
theorem ofBits_alpha : Ideal.ofBits .f32 0x3FD744FD#32 = (alpha : EReal) := by
  unfold alpha; simp [Ideal.ofBits, Ideal.ieee, -EReal.coe_mul]; norm_num

/-- The norm's epsilon, as its single-precision literal. -/
def eps : ℝ := 10995116 / 1099511627776

/-- The literal of the norm's epsilon. -/
theorem ofBits_eps : Ideal.ofBits .f32 0x3727C5AC#32 = (eps : EReal) := by
  unfold eps; simp [Ideal.ofBits, Ideal.ieee, -EReal.coe_mul]; norm_num

theorem eps_pos : 0 < eps := by unfold eps; norm_num

end Cert.Reals

end
-- ==== Proof.Finite.lean ====
/-
  Reading a finiteness precondition: an array all of whose elements are below infinity in absolute value holds real
  numbers.
-/
module

public import Idealize.ShloMosaic.Lib.ReduceAll
public import proofs.«01_k».proof.Proof.Reals

@[expose] public section

noncomputable section

namespace Cert.Reals

open Idealize.ShloMosaic

/-- The literals for infinity. -/
theorem ofBits_inf : Ideal.ofBits .f32 0x7F800000#32 = (⊤ : EReal) := by
  simp [Ideal.ofBits, Ideal.ieee]

theorem ofBits_inf_half : Ideal.ofBits .bf16 0x7F80#16 = (⊤ : EReal) := by
  simp [Ideal.ofBits, Ideal.ieee]

/-- An extended real whose absolute value is below infinity is a real. -/
theorem finite_of_abs_lt {x : EReal} (h : max x (-x) < ⊤) : ((x.toReal : ℝ) : EReal) = x := by
  refine EReal.coe_toReal ?_ ?_
  · rintro rfl; simp at h
  · rintro rfl; simp at h

/-- The scalar shape. -/
abbrev Unit0 : Shape := ⟨0, ![]⟩

/-- The precondition's test of one array, against the literal `k`. -/
abbrev below {s : Shape} {φ : FTy} (k : BitVec φ.bits) (x : FVec Ideal s φ) (hb : Unit0.BroadcastsInDim s (![] : Fin 0 → Fin s.rank)) : IVec s 1 :=
  cmpf .olt (Host.absf x) (broadcastInDim s ![] hb (constant Unit0 φ k))

theorem finite_of_below {s : Shape} {φ : FTy} {k : BitVec φ.bits} (hk : Ideal.ofBits φ k = ⊤) {x : FVec Ideal s φ}
    {hb : Unit0.BroadcastsInDim s (![] : Fin 0 → Fin s.rank)} {i : s.Idx} (h : below k x hb i = 1#1) : (((x i : EReal).toReal : ℝ) : EReal) = x i := by
  have h' : Ideal.cmp .olt (max (x i) (-(x i))) (Ideal.ofBits φ k) = 1#1 := h
  rw [hk] at h'
  refine finite_of_abs_lt ?_
  by_contra hc
  simp [Ideal.cmp, hc] at h'

/-- The test over a whole array: every element is a real. -/
theorem finite_of_all {s : Shape} {φ : FTy} {k : BitVec φ.bits} (hk : Ideal.ofBits φ k = ⊤) {axes : List (Fin s.rank)} {x : FVec Ideal s φ}
    {hb : Unit0.BroadcastsInDim s (![] : Fin 0 → Fin s.rank)} {init : Unit0.Idx → BitVec 1} {hr : s.ReducesTo axes Unit0} {hu : 0 < Unit0.numel} {j : Unit0.Idx}
    (h : Host.reduce IntOp.andi (below k x hb) init hr hu j = 1#1) (i : s.Idx) : (((x i : EReal).toReal : ℝ) : EReal) = x i :=
  have : Subsingleton Unit0.Idx := ⟨fun a b => funext fun k => k.elim0⟩
  finite_of_below hk (Host.reduce_andi_all _ _ _ _ _ h i)

end Cert.Reals

end
-- ==== Proof.BlockAt.lean ====
/-
  Where a window's block lies in its array.
-/
module

public import Idealize.ShloMosaic.Lib.Pipeline.ValueKit

@[expose] public section

namespace Cert

open Idealize.ShloMosaic

/-- An index by its two coordinates. -/
theorem at2 {A B : ℕ} (i : Shape.Idx ⟨2, ![A, B]⟩) {p : Fin A} {q : Fin B} (h0 : (i 0).val = p.val) (h1 : (i 1).val = q.val) : i = ix2 p q := by
  funext a; apply Fin.ext
  match a with
  | ⟨0, _⟩ => exact h0
  | ⟨1, _⟩ => exact h1

/-- A coordinate of a block's entry, from the block's number along that axis and its size. -/
theorem spot (B x : ℕ) {n k p : ℕ} (h : n = k) (e : k * B + 1 * x = p) : n * B + 1 * x = p := h ▸ e

/-- A coordinate that lies in the block of that number. -/
theorem span (B x : ℕ) {n k : ℕ} (h : n = k) (e : k * B ≤ x ∧ x < k * B + B) : n * B ≤ x ∧ x < n * B + B := h ▸ e

end Cert
-- ==== Proof.NormMath.lean ====
/-
  The gradient of a layer norm over one row of 1024 reals, in the two spellings met in this certificate, and their
  equality. The short spelling subtracts two means; the long one is what differentiating mean, variance, inverse root and
  product one after the other gives.
-/
module

public import proofs.«01_k».proof.Proof.Reals

@[expose] public section

noncomputable section

namespace Cert.Norm

open Cert.Reals

/-- The mean of a row. -/
def mean (f : Fin 1024 → ℝ) : ℝ := (∑ k, f k) / 1024

/-- A row less its mean. -/
def centred (f : Fin 1024 → ℝ) (j : Fin 1024) : ℝ := f j - mean f

/-- The variance of a row, plus epsilon. -/
def spread (f : Fin 1024 → ℝ) : ℝ := mean (fun k => centred f k * centred f k) + eps

/-- The inverse standard deviation of a row. -/
def invStd (f : Fin 1024 → ℝ) : ℝ := (Real.sqrt (spread f))⁻¹

/-- The normalised row. -/
def unit (f : Fin 1024 → ℝ) (j : Fin 1024) : ℝ := centred f j * invStd f

/-- The gradient with respect to the row, of the normalised row against the cotangent `d`: the short spelling. -/
def grad (f d : Fin 1024 → ℝ) (j : Fin 1024) : ℝ :=
  invStd f * (d j - mean d - unit f j * mean (fun k => d k * unit f k))

/-- The cotangent of the variance sum, as the chain rule gives it. -/
def varCt (f d : Fin 1024 → ℝ) : ℝ := (∑ k, centred f k * d k) * (-(1 / 2) * (invStd f / spread f)) / 1024

/-- The same gradient as the chain rule gives it, step by step: the long spelling. -/
def chainGrad (f d : Fin 1024 → ℝ) (j : Fin 1024) : ℝ :=
  d j * invStd f + varCt f d * (2 * centred f j)
    + ((∑ k, -(d k * invStd f)) + (∑ k, -(varCt f d * (2 * centred f k)))) / 1024

theorem spread_pos (f : Fin 1024 → ℝ) : 0 < spread f := by
  have h : 0 ≤ mean (fun k => centred f k * centred f k) :=
    div_nonneg (Finset.sum_nonneg fun k _ => mul_self_nonneg _) (by norm_num)
  have := eps_pos
  unfold spread; linarith

/-- A centred row sums to zero. -/
theorem sum_centred (f : Fin 1024 → ℝ) : ∑ k, centred f k = 0 := by
  unfold centred mean
  rw [Finset.sum_sub_distrib, Finset.sum_const, Finset.card_univ, Fintype.card_fin, nsmul_eq_mul]
  push_cast
  ring

/-- The square of the inverse deviation is the inverse of the spread. -/
theorem invStd_div_spread (f : Fin 1024 → ℝ) : invStd f / spread f = invStd f * (invStd f * invStd f) := by
  have hs : invStd f * invStd f = (spread f)⁻¹ := by
    unfold invStd
    rw [← mul_inv, Real.mul_self_sqrt (spread_pos f).le]
  rw [hs, div_eq_mul_inv]

/-- The two spellings are one function. -/
theorem chainGrad_eq (f d : Fin 1024 → ℝ) (j : Fin 1024) : chainGrad f d j = grad f d j := by
  have h1 : ∑ k, -(varCt f d * (2 * centred f k)) = 0 := by
    rw [Finset.sum_neg_distrib, ← Finset.mul_sum, ← Finset.mul_sum, sum_centred]; ring
  have h2 : ∑ k, -(d k * invStd f) = -((∑ k, d k) * invStd f) := by
    rw [Finset.sum_neg_distrib, Finset.sum_mul]
  have h3 : mean (fun k => d k * unit f k) = (∑ k, centred f k * d k) * invStd f / 1024 := by
    unfold mean unit
    rw [Finset.sum_mul]
    congr 1
    exact Finset.sum_congr rfl fun k _ => by ring
  unfold chainGrad grad
  rw [h1, h2, h3]
  unfold varCt
  rw [invStd_div_spread]
  unfold unit mean
  ring

end Cert.Norm

end
-- ==== Proof.Sums.lean ====
/-
  A sum over rows taken block by block.
-/
module

public import Mathlib.Algebra.BigOperators.Fin
public import Mathlib.Algebra.BigOperators.Intervals

@[expose] public section

namespace Cert.Sums

variable {N : ℕ} {M : Type*} [AddCommMonoid M]

/-- The sum of `f` over the first `n` rows. -/
def upTo (f : Fin N → M) (n : ℕ) : M := ∑ k ∈ Finset.range n, if h : k < N then f ⟨k, h⟩ else 0

theorem upTo_all (f : Fin N → M) : upTo f N = ∑ p, f p := by
  unfold upTo
  rw [Finset.sum_range]
  exact Finset.sum_congr rfl fun k _ => by rw [dif_pos k.isLt]

/-- Another block of `B` rows added to the sum. -/
theorem upTo_add (f : Fin N → M) (n B : ℕ) (hn : n + B ≤ N) :
    upTo f (n + B) = upTo f n + ∑ p : Fin B, f ⟨n + p.val, by have := p.isLt; omega⟩ := by
  unfold upTo
  rw [Finset.sum_range_add, Finset.sum_range (n := B)]
  exact congrArg _ (Finset.sum_congr rfl fun k _ => by
    have := k.isLt
    rw [dif_pos (by omega)])

theorem upTo_zero (f : Fin N → M) : upTo f 0 = 0 := by unfold upTo; simp

/-- A sum over four blocks of `B`. -/
theorem sum_four (B : ℕ) (f : Fin N → M) (h : N = B + B + B + B) :
    ∑ k, f k = (((∑ k : Fin B, f ⟨k.val, by have := k.isLt; omega⟩) + ∑ k : Fin B, f ⟨B + k.val, by have := k.isLt; omega⟩)
      + ∑ k : Fin B, f ⟨B + B + k.val, by have := k.isLt; omega⟩) + ∑ k : Fin B, f ⟨B + B + B + k.val, by have := k.isLt; omega⟩ := by
  subst h
  rw [← upTo_all, upTo_add f _ B (by omega), upTo_add f _ B (by omega), upTo_add f B B (by omega)]
  have e := upTo_add f 0 B (by omega)
  simp only [upTo_zero, zero_add] at e
  rw [e]

/-- A sum over `a + b` rows is the sum over the first `a` and over the last `b`. -/
theorem sum_split {n : ℕ} (a b : ℕ) (h : n = a + b) (f : Fin n → M) :
    ∑ k, f k = (∑ k : Fin a, f ⟨k.val, by have := k.isLt; omega⟩) + ∑ k : Fin b, f ⟨a + k.val, by have := k.isLt; omega⟩ := by
  subst h
  exact Fin.sum_univ_add f

end Cert.Sums
-- ==== Proof.NormResult.lean ====
/-
  The gradient of the residual layer norm as whole arrays of reals: what both programs are shown to return. The residual
  sum is `alpha * x + a @ w`, and the incoming gradient is `alpha * dya + dyb`.
-/
module

public import proofs.«01_k».proof.Proof.NormMath
public import proofs.«01_k».proof.Proof.Sums

@[expose] public section

noncomputable section

namespace Cert.Norm

open Cert.Reals

/-- The arrays the gradient is taken at, as reals: hidden activations, residual stream, down projection, scale, and the
    two incoming gradients. -/
structure Inputs where
  a : Fin 8192 → Fin 2816 → ℝ
  x : Fin 8192 → Fin 1024 → ℝ
  w : Fin 2816 → Fin 1024 → ℝ
  g : Fin 1024 → ℝ
  dya : Fin 8192 → Fin 1024 → ℝ
  dyb : Fin 8192 → Fin 1024 → ℝ

/-- The incoming gradient of a row. -/
def dy (a b : Fin 1024 → ℝ) (j : Fin 1024) : ℝ := alpha * a j + b j

/-- The incoming gradient times the scale: the cotangent of the normalised row. -/
def scaled (g d : Fin 1024 → ℝ) (j : Fin 1024) : ℝ := d j * g j

/-- The gradient of one row. -/
abbrev rowGrad (a b r g : Fin 1024 → ℝ) : Fin 1024 → ℝ := grad r (scaled g (dy a b))

variable (I : Inputs)

/-- The residual sum the norm is applied to. -/
def Inputs.r (p : Fin 8192) (j : Fin 1024) : ℝ := alpha * I.x p j + ∑ k, I.a p k * I.w k j

/-- The gradient with respect to the residual sum. -/
def Inputs.dr (p : Fin 8192) (j : Fin 1024) : ℝ := rowGrad (I.dya p) (I.dyb p) (I.r p) I.g j

/-- One row's part of the scale's gradient. -/
def Inputs.dgRow (p : Fin 8192) (j : Fin 1024) : ℝ := dy (I.dya p) (I.dyb p) j * unit (I.r p) j

/-- One row's part of the shift's gradient. -/
def Inputs.dbRow (p : Fin 8192) (j : Fin 1024) : ℝ := dy (I.dya p) (I.dyb p) j

/-- The gradient with respect to the hidden activations. -/
def Inputs.da (p : Fin 8192) (n : Fin 2816) : ℝ := ∑ k, I.dr p k * I.w n k

end Cert.Norm

end
-- ==== Proof.NormBlock.lean ====
/-
  What one grid point of the norm-gradient kernel computes from its blocks, at real inputs: the scaled sum of the two
  incoming gradients, the norm's gradient row by row, and the partial sums for scale and shift.
-/
module

public import proofs.«01_k».proof.Proof.NormResult
public import proofs.«01_k».proof.Proof.Gen.KernelIdeal.Skeleton

@[expose] public section

set_option maxRecDepth 16384

noncomputable section

namespace Cert.Norm

open Cert.Reals Cert.KernelIdeal Cert.KernelIdeal.Gen Idealize.ShloMosaic

section
variable (x0 x1 x2 : Vec Ideal S512x1024 .f32) (x3 : Vec Ideal S1x1024 .f32)
variable (a b r : Fin 512 → Fin 1024 → ℝ) (g : Fin 1024 → ℝ)

theorem pay8_at (h0 : ∀ p j, x0 (ix2 p j) = (a p j : EReal)) (h1 : ∀ p j, x1 (ix2 p j) = (b p j : EReal)) (p : Fin 512) (j : Fin 1024) :
    k0_pay8 x0 x1 (ix2 p j) = (dy (a p) (b p) j : EReal) := by
  pointwise [k0_pay8, h0, h1, ofBits_alpha]
  unfold dy; push_cast; rfl

theorem pay9_at (h2 : ∀ p j, x2 (ix2 p j) = (r p j : EReal)) (p : Fin 512) (j : Fin 1024) :
    k0_pay9 x2 (ix2 p j) = (centred (r p) j : EReal) := by
  pointwise [k0_pay9, h2, ofBits_1024, sum_coe]
  rw [div_coe_coe _ (by norm_num), ← EReal.coe_sub]; rfl

theorem pay10_at (h2 : ∀ p j, x2 (ix2 p j) = (r p j : EReal)) (p : Fin 512) :
    k0_pay10 x2 (ix2 p 0) = (invStd (r p) : EReal) := by
  have h := pay9_at x2 r h2
  pointwise [k0_pay10, h, ofBits_1024, ofBits_eps, ← EReal.coe_mul, sum_coe]
  rw [div_coe_coe _ (by norm_num), ← EReal.coe_add]
  exact rsqrt_pos (spread_pos (r p))

theorem pay11_at (h2 : ∀ p j, x2 (ix2 p j) = (r p j : EReal)) (p : Fin 512) (j : Fin 1024) :
    k0_pay11 x2 (ix2 p j) = (unit (r p) j : EReal) := by
  have h := pay9_at x2 r h2
  have h' := pay10_at x2 r h2
  pointwise [k0_pay11, h, h', ← EReal.coe_mul]
  rfl

theorem pay12_at (h0 : ∀ p j, x0 (ix2 p j) = (a p j : EReal)) (h1 : ∀ p j, x1 (ix2 p j) = (b p j : EReal))
    (h3 : ∀ j, x3 (ix2 0 j) = (g j : EReal)) (p : Fin 512) (j : Fin 1024) :
    k0_pay12 x0 x1 x3 (ix2 p j) = (scaled g (dy (a p) (b p)) j : EReal) := by
  have h := pay8_at x0 x1 a b h0 h1
  pointwise [k0_pay12, h, h3, ← EReal.coe_mul]
  rfl

theorem pay13_at (h0 : ∀ p j, x0 (ix2 p j) = (a p j : EReal)) (h1 : ∀ p j, x1 (ix2 p j) = (b p j : EReal))
    (h3 : ∀ j, x3 (ix2 0 j) = (g j : EReal)) (p : Fin 512) (j : Fin 1024) :
    k0_pay13 x0 x1 x3 (ix2 p j)
      = (scaled g (dy (a p) (b p)) j - mean (scaled g (dy (a p) (b p))) : ℝ) := by
  have h := pay12_at x0 x1 x3 a b g h0 h1 h3
  pointwise [k0_pay13, h, ofBits_1024, sum_coe]
  rw [div_coe_coe _ (by norm_num), ← EReal.coe_sub]; rfl

theorem pay14_at (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) :
    k0_pay14 x0 x1 x2 x3 (ix2 p 0)
      = (mean (fun k => scaled g (dy (a p) (b p)) k * unit (r p) k) : EReal) := by
  have h := pay12_at x0 x1 x3 a b g h0 h1 h3
  have h' := pay11_at x2 r h2
  pointwise [k0_pay14, h, h', ofBits_1024, ← EReal.coe_mul, sum_coe]
  rw [div_coe_coe _ (by norm_num)]; rfl

/-- The stored gradient block. -/
theorem pay1_at (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) (j : Fin 1024) :
    k0_pay1 (k0_pay10 x2) (k0_pay11 x2) (k0_pay13 x0 x1 x3) (k0_pay14 x0 x1 x2 x3) (ix2 p j)
      = (rowGrad (a p) (b p) (r p) g j : EReal) := by
  have h10 := pay10_at x2 r h2
  have h11 := pay11_at x2 r h2
  have h13 := pay13_at x0 x1 x3 a b g h0 h1 h3
  have h14 := pay14_at x0 x1 x2 x3 a b r g h0 h1 h2 h3
  pointwise [k0_pay1, h10, h11, h13, h14]
  rw [← EReal.coe_mul, ← EReal.coe_sub, ← EReal.coe_mul]; rfl

/-- The stored product block: the gradient times the transposed matrix. -/
theorem pay3_at (w : Vec Ideal S2816x1024 .bf16)
    (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) (n : Fin 2816) :
    k0_pay3 (k0_pay10 x2) (k0_pay11 x2) (k0_pay13 x0 x1 x3) (k0_pay14 x0 x1 x2 x3) w (ix2 p n)
      = ∑ k : Fin 1024, (rowGrad (a p) (b p) (r p) g k : EReal) * w (ix2 n k) := by
  have h := pay1_at x0 x1 x2 x3 a b r g h0 h1 h2 h3
  pointwise [k0_pay3, k0_pay2, dot_S512x1024_S2816x1024_S512x2816_1_1_0_0_n_n, h]

/-- The block's part of the scale's gradient. -/
theorem pay4_at (h0 : ∀ p j, x0 (ix2 p j) = (a p j : EReal)) (h1 : ∀ p j, x1 (ix2 p j) = (b p j : EReal))
    (h2 : ∀ p j, x2 (ix2 p j) = (r p j : EReal)) (j : Fin 1024) :
    k0_pay4 (k0_pay8 x0 x1) (k0_pay11 x2) (ix2 0 j) = ((∑ p, dy (a p) (b p) j * unit (r p) j : ℝ) : EReal) := by
  have h8 := pay8_at x0 x1 a b h0 h1
  have h11 := pay11_at x2 r h2
  pointwise [k0_pay4, h8, h11, ← EReal.coe_mul, sum_coe]

/-- The block's part of the shift's gradient. -/
theorem pay5_at (h0 : ∀ p j, x0 (ix2 p j) = (a p j : EReal)) (h1 : ∀ p j, x1 (ix2 p j) = (b p j : EReal)) (j : Fin 1024) :
    k0_pay5 (k0_pay8 x0 x1) (ix2 0 j) = ((∑ p, dy (a p) (b p) j : ℝ) : EReal) := by
  have h8 := pay8_at x0 x1 a b h0 h1
  pointwise [k0_pay5, h8, sum_coe]

end

end Cert.Norm

end
-- ==== Proof.NormCases.lean ====
/-
  What one grid point of the norm-gradient kernel leaves in each output's staging buffer: at the first point (case A) the
  block's values, at a later point (case B) the same with the running sums for scale and shift added to.
-/
module

public import Idealize.ShloMosaic.Lib.Pipeline.ValueKit
public import proofs.«01_k».proof.Proof.Gen.KernelIdeal.Frame
public import Idealize.ShloMosaic.Lib.Pipeline.Value
public import Idealize.ShloMosaic.Lib.Tactic

@[expose] public section

set_option maxRecDepth 16384

noncomputable section

namespace Cert.Norm

open Cert.KernelIdeal Cert.KernelIdeal.Gen Idealize.ShloMosaic Idealize.ShloMosaic.TcCoe Idealize.SL.Sem

variable {F : FTy → Type} [FloatOps F]
variable (c : Dev nD) (i : grid0.Coords)
variable (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S2816x1024 .bf16) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (a10 : Memref sig .tc .vmem S512x2816 .bf16) (h10 : a10.IsWhole)
variable (x0 x1 x2 : Vec F S512x1024 .f32) (x3 : Vec F S1x1024 .f32) (x4 : Vec F S2816x1024 .bf16) (xo7 xo8 : Vec F S1x1024 .f32)

/-- Case A, the gradient block. -/
theorem out_A_5 (hc0 : cond0_0 i) (hc1 : ¬cond0_1 i) :
    out0_A_5 c i a1 h1 a2 h2 a3 h3 a4 h4 a5 h5 a6 h6 a7 h7 a8 h8 a9 h9 a10 h10 hc0 hc1 x0 x1 x2 x3 x4
      = k0_pay1 (k0_pay10 x2) (k0_pay11 x2) (k0_pay13 x0 x1 x3) (k0_pay14 x0 x1 x2 x3) := by
  frame_out

/-- Case A, its half-precision copy. -/
theorem out_A_6 (hc0 : cond0_0 i) (hc1 : ¬cond0_1 i) :
    out0_A_6 c i a1 h1 a2 h2 a3 h3 a4 h4 a5 h5 a6 h6 a7 h7 a8 h8 a9 h9 a10 h10 hc0 hc1 x0 x1 x2 x3 x4
      = k0_pay2 (k0_pay10 x2) (k0_pay11 x2) (k0_pay13 x0 x1 x3) (k0_pay14 x0 x1 x2 x3) := by
  frame_out

/-- Case A, the scale's gradient. -/
theorem out_A_7 (hc0 : cond0_0 i) (hc1 : ¬cond0_1 i) :
    out0_A_7 c i a1 h1 a2 h2 a3 h3 a4 h4 a5 h5 a6 h6 a7 h7 a8 h8 a9 h9 a10 h10 hc0 hc1 x0 x1 x2 x3 x4
      = k0_pay4 (k0_pay8 x0 x1) (k0_pay11 x2) := by
  frame_out

/-- Case A, the shift's gradient. -/
theorem out_A_8 (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4
      = k0_pay5 (k0_pay8 x0 x1) := by
  frame_out

/-- Case A, the product block. -/
theorem out_A_9 (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4
      = k0_pay3 (k0_pay10 x2) (k0_pay11 x2) (k0_pay13 x0 x1 x3) (k0_pay14 x0 x1 x2 x3) x4 := by
  frame_out

/-- Case B, the gradient block. -/
theorem out_B_5 (hc0 : ¬cond0_0 i) (hc1 : cond0_1 i) :
    out0_B_5 c i a1 h1 a2 h2 a3 h3 a4 h4 a5 h5 a6 h6 a7 h7 a8 h8 a9 h9 a10 h10 hc0 hc1 x0 x1 x2 x3 x4 xo7 xo8
      = k0_pay1 (k0_pay10 x2) (k0_pay11 x2) (k0_pay13 x0 x1 x3) (k0_pay14 x0 x1 x2 x3) := by
  frame_out

/-- Case B, its half-precision copy. -/
theorem out_B_6 (hc0 : ¬cond0_0 i) (hc1 : cond0_1 i) :
    out0_B_6 c i a1 h1 a2 h2 a3 h3 a4 h4 a5 h5 a6 h6 a7 h7 a8 h8 a9 h9 a10 h10 hc0 hc1 x0 x1 x2 x3 x4 xo7 xo8
      = k0_pay2 (k0_pay10 x2) (k0_pay11 x2) (k0_pay13 x0 x1 x3) (k0_pay14 x0 x1 x2 x3) := by
  frame_out

/-- Case B, the scale's gradient. -/
theorem out_B_7 (hc0 : ¬cond0_0 i) (hc1 : cond0_1 i) :
    out0_B_7 c i a1 h1 a2 h2 a3 h3 a4 h4 a5 h5 a6 h6 a7 h7 a8 h8 a9 h9 a10 h10 hc0 hc1 x0 x1 x2 x3 x4 xo7 xo8
      = k0_pay6 (k0_pay8 x0 x1) (k0_pay11 x2) xo7 := by
  frame_out

/-- Case B, the shift's gradient. -/
theorem out_B_8 (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 xo7 xo8
      = k0_pay7 (k0_pay8 x0 x1) xo8 := by
  frame_out

/-- Case B, the product block. -/
theorem out_B_9 (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 xo7 xo8
      = k0_pay3 (k0_pay10 x2) (k0_pay11 x2) (k0_pay13 x0 x1 x3) (k0_pay14 x0 x1 x2 x3) x4 := by
  frame_out

end Cert.Norm

end
-- ==== Proof.NormArrays.lean ====
/-
  The arrays the norm-gradient kernel leaves, at real inputs: the blocks each grid point reads, what it writes back, and
  the five result arrays whole.
-/
module

public import proofs.«01_k».proof.Proof.BlockAt
public import proofs.«01_k».proof.Proof.NormBlock
public import proofs.«01_k».proof.Proof.NormCases
public import proofs.«01_k».proof.Proof.Gen.KernelIdeal.Value

@[expose] public section

set_option maxRecDepth 16384

noncomputable section

namespace Cert.Norm

open Cert.Reals Cert.Sums Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (I : Inputs)

/-- The kernel's argument arrays hold the reals `I`. -/
structure Holds : Prop where
  a : ∀ p k, m ((c : Thread nD τ).loc main_arg0) (ix2 p k) = (I.a p k : EReal)
  x : ∀ p k, m ((c : Thread nD τ).loc main_arg1) (ix2 p k) = (I.x p k : EReal)
  w : ∀ p k, m ((c : Thread nD τ).loc main_arg2) (ix2 p k) = (I.w p k : EReal)
  g : ∀ k, m ((c : Thread nD τ).loc main_arg3) (ix1 k) = (I.g k : EReal)
  dya : ∀ p k, m ((c : Thread nD τ).loc main_arg5) (ix2 p k) = (I.dya p k : EReal)
  dyb : ∀ p k, m ((c : Thread nD τ).loc main_arg6) (ix2 p k) = (I.dyb p k : EReal)

variable {m c I}

/-- The residual sum the host prepares. -/
theorem V_r (H : Holds m c I) (p : Fin 8192) (j : Fin 1024) : V m c main_v3 (ix2 p j) = (I.r p j : EReal) := by
  have e : V m c main_v3 = addf (F := Ideal) (φ := .f32) (mulf (broadcastInDim S8192x1024 ![] bcast_S_S8192x1024 (constant S_ .f32 0x3FD744FD#32)) (m ((c : Thread nD τ).loc main_arg1)))
      (Host.dotGeneral (φ₁ := .f32) (φ₂ := .f32) dot_S8192x2816_S2816x1024_S8192x1024_1_0_0_1_n_n none (m ((c : Thread nD τ).loc main_arg0)) (m ((c : Thread nD τ).loc main_arg2))) := by
    unfold V; after_results_simp <;> rfl
  rw [e]
  pointwise [dot_S8192x2816_S2816x1024_S8192x1024_1_0_0_1_n_n, ofBits_alpha, H.a, H.x, H.w, ← EReal.coe_mul, sum_coe]
  rw [← EReal.coe_add]; rfl

/-- The row of scales. -/
theorem V_g (H : Holds m c I) (j : Fin 1024) : V m c main_v5 (ix2 0 j) = (I.g j : EReal) := by
  have e : V m c main_v5 = shapeCast S1x1024 (m ((c : Thread nD τ).loc main_arg3)) shapeCasts_S1024_S1x1024 := by
    unfold V; after_results_simp <;> rfl
  rw [e]
  pointwise [H.g]

/-- The projection in half precision. -/
theorem V_w (H : Holds m c I) (p : Fin 2816) (j : Fin 1024) : V m c main_v4 (ix2 p j) = (I.w p j : EReal) := by
  have e : V m c main_v4 = truncf (F := Ideal) (φ := .f32) .bf16 (m ((c : Thread nD τ).loc main_arg2)) bitsLt_bf16_f32 := by
    unfold V; after_results_simp <;> rfl
  rw [e]
  pointwise [H.w]

/-- Row `q` of grid point `t`'s blocks, as a row of the arrays. -/
def row (t : Fin cfg0.N) (q : Fin 512) : Fin 8192 := ⟨512 * t.val + q.val, by have := t.isLt; have : cfg0.N = 16 := N_0; have := q.isLt; omega⟩

theorem index_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) ∧ (win0_9.index t 0 = t.val ∧ win0_9.index t 1 = 0) := by
  decide +kernel

theorem iblk0 (H : Holds m c I) (t : Fin cfg0.N) (q : Fin 512) (j : Fin 1024) : iblk m c 0 t (ix2 q j) = (I.dya (row t q) j : EReal) := by
  obtain ⟨h0, h1⟩ := (index_rows t).1
  rw [← H.dya, ← V_main_arg5 m c]
  unfold iblk
  exact congrArg (V m c main_arg5) (at2 _ (spot 512 q.val h0 (by show _ = 512 * t.val + q.val; omega)) (spot 1024 j.val h1 (by show _ = j.val; omega)))

theorem iblk1 (H : Holds m c I) (t : Fin cfg0.N) (q : Fin 512) (j : Fin 1024) : iblk m c 1 t (ix2 q j) = (I.dyb (row t q) j : EReal) := by
  obtain ⟨h0, h1⟩ := (index_rows t).2.1
  rw [← H.dyb, ← V_main_arg6 m c]
  unfold iblk
  exact congrArg (V m c main_arg6) (at2 _ (spot 512 q.val h0 (by show _ = 512 * t.val + q.val; omega)) (spot 1024 j.val h1 (by show _ = j.val; omega)))

theorem iblk2 (H : Holds m c I) (t : Fin cfg0.N) (q : Fin 512) (j : Fin 1024) : iblk m c 2 t (ix2 q j) = (I.r (row t q) j : EReal) := by
  obtain ⟨h0, h1⟩ := (index_rows t).2.2.1
  rw [← V_r H]
  unfold iblk
  exact congrArg (V m c main_v3) (at2 _ (spot 512 q.val h0 (by show _ = 512 * t.val + q.val; omega)) (spot 1024 j.val h1 (by show _ = j.val; omega)))

theorem iblk3 (H : Holds m c I) (t : Fin cfg0.N) (j : Fin 1024) : iblk m c 3 t (ix2 0 j) = (I.g j : EReal) := by
  obtain ⟨h0, h1⟩ := (index_rows t).2.2.2.1
  rw [← V_g H]
  unfold iblk
  exact congrArg (V m c main_v5) (at2 _ (spot 1 0 h0 (by show _ = 0; omega)) (spot 1024 j.val h1 (by show _ = j.val; omega)))

theorem iblk4 (H : Holds m c I) (t : Fin cfg0.N) (q : Fin 2816) (j : Fin 1024) : iblk m c 4 t (ix2 q j) = (I.w q j : EReal) := by
  obtain ⟨h0, h1⟩ := (index_rows t).2.2.2.2.1
  rw [← V_w H]
  unfold iblk
  exact congrArg (V m c main_v4) (at2 _ (spot 2816 q.val h0 (by show _ = q.val; omega)) (spot 1024 j.val h1 (by show _ = j.val; omega)))

/-- The gradient block a point leaves. -/
theorem outs5 (H : Holds m c I) (t : Fin cfg0.N) (q : Fin 512) (j : Fin 1024) :
    (outsAt0 m c t.val t.isLt).1 (ix2 q j) = (I.dr (row t q) j : EReal) := by
  have hN : cfg0.N = 16 := N_0
  have ht := t.isLt
  by_cases h : t.val = 0
  · rw [outsAt0_A m c t (by omega) (by omega)]
    dsimp only
    rw [out_A_5]
    exact pay1_at _ _ _ _ _ _ _ _ (iblk0 H t) (iblk1 H t) (iblk2 H t) (iblk3 H t) q j
  · rw [outsAt0_B m c t (by omega) (by omega)]
    dsimp only
    rw [out_B_5]
    exact pay1_at _ _ _ _ _ _ _ _ (iblk0 H t) (iblk1 H t) (iblk2 H t) (iblk3 H t) q j

/-- Its half-precision copy. -/
theorem outs6 (H : Holds m c I) (t : Fin cfg0.N) (q : Fin 512) (j : Fin 1024) :
    (outsAt0 m c t.val t.isLt).2.1 (ix2 q j) = (I.dr (row t q) j : EReal) := by
  have hN : cfg0.N = 16 := N_0
  have ht := t.isLt
  by_cases h : t.val = 0
  · rw [outsAt0_A m c t (by omega) (by omega)]
    dsimp only
    rw [out_A_6]
    exact pay1_at _ _ _ _ _ _ _ _ (iblk0 H t) (iblk1 H t) (iblk2 H t) (iblk3 H t) q j
  · rw [outsAt0_B m c t (by omega) (by omega)]
    dsimp only
    rw [out_B_6]
    exact pay1_at _ _ _ _ _ _ _ _ (iblk0 H t) (iblk1 H t) (iblk2 H t) (iblk3 H t) q j

/-- The product block. -/
theorem outs9 (H : Holds m c I) (t : Fin cfg0.N) (q : Fin 512) (n : Fin 2816) :
    (outsAt0 m c t.val t.isLt).2.2.2.2 (ix2 q n) = (I.da (row t q) n : EReal) := by
  have hN : cfg0.N = 16 := N_0
  have ht := t.isLt
  by_cases h : t.val = 0
  · rw [outsAt0_A m c t (by omega) (by omega)]
    dsimp only
    rw [out_A_9]
    rw [pay3_at _ _ _ _ _ _ _ _ _ (iblk0 H t) (iblk1 H t) (iblk2 H t) (iblk3 H t) q n]
    simp only [iblk4 H t, ← EReal.coe_mul, sum_coe]; rfl
  · rw [outsAt0_B m c t (by omega) (by omega)]
    dsimp only
    rw [out_B_9]
    rw [pay3_at _ _ _ _ _ _ _ _ _ (iblk0 H t) (iblk1 H t) (iblk2 H t) (iblk3 H t) q n]
    simp only [iblk4 H t, ← EReal.coe_mul, sum_coe]; rfl

/-- The running sum for the scale after point `n`: the rows of the blocks so far. -/
theorem outs7 (H : Holds m c I) (j : Fin 1024) : ∀ (n : ℕ) (hn : n < cfg0.N),
    (outsAt0 m c n hn).2.2.1 (ix2 0 j) = ((upTo (fun p => I.dgRow p j) (512 * (n + 1)) : ℝ) : EReal)
  | 0, hn => by
    have hA := outsAt0_A m c ⟨0, hn⟩ (by simp) (by simp)
    dsimp only at hA
    rw [hA]
    dsimp only
    rw [out_A_7, pay4_at _ _ _ _ _ _ (iblk0 H _) (iblk1 H _) (iblk2 H _) j]
    rw [show 512 * (0 + 1) = 0 + 512 from rfl, upTo_add _ _ 512 (by omega), upTo_zero, zero_add]
    rfl
  | n + 1, hn => by
    have hN : cfg0.N = 16 := N_0
    have hB := outsAt0_B m c ⟨n + 1, hn⟩ (by dsimp only; omega) (by dsimp only; omega)
    dsimp only at hB
    rw [hB]
    dsimp only
    have ih := outs7 H j n (Nat.lt_of_succ_lt hn)
    have hb := pay4_at _ _ _ _ _ _ (iblk0 H ⟨n + 1, hn⟩) (iblk1 H ⟨n + 1, hn⟩) (iblk2 H ⟨n + 1, hn⟩) j
    rw [out_B_7]
    pointwise [k0_pay6, hb]
    have e : (outsAt0 m c (n + 1 - 1) (Nat.lt_of_succ_lt hn)).2.2.1 (ix2 0 j) = _ := ih
    rw [show 512 * (n + 1 + 1) = 512 * (n + 1) + 512 by ring, upTo_add _ _ 512 (by omega), EReal.coe_add]
    exact congrArg₂ (· + ·) ih rfl

/-- The running sum for the shift after point `n`: the rows of the blocks so far. -/
theorem outs8 (H : Holds m c I) (j : Fin 1024) : ∀ (n : ℕ) (hn : n < cfg0.N),
    (outsAt0 m c n hn).2.2.2.1 (ix2 0 j) = ((upTo (fun p => I.dbRow p j) (512 * (n + 1)) : ℝ) : EReal)
  | 0, hn => by
    have hA := outsAt0_A m c ⟨0, hn⟩ (by simp) (by simp)
    dsimp only at hA
    rw [hA]
    dsimp only
    rw [out_A_8, pay5_at _ _ _ _ (iblk0 H _) (iblk1 H _) j]
    rw [show 512 * (0 + 1) = 0 + 512 from rfl, upTo_add _ _ 512 (by omega), upTo_zero, zero_add]
    rfl
  | n + 1, hn => by
    have hN : cfg0.N = 16 := N_0
    have hB := outsAt0_B m c ⟨n + 1, hn⟩ (by dsimp only; omega) (by dsimp only; omega)
    dsimp only at hB
    rw [hB]
    dsimp only
    have ih := outs8 H j n (Nat.lt_of_succ_lt hn)
    have hb := pay5_at _ _ _ _ (iblk0 H ⟨n + 1, hn⟩) (iblk1 H ⟨n + 1, hn⟩) j
    rw [out_B_8]
    pointwise [k0_pay7, hb]
    have e : (outsAt0 m c (n + 1 - 1) (Nat.lt_of_succ_lt hn)).2.2.2.1 (ix2 0 j) = _ := ih
    rw [show 512 * (n + 1 + 1) = 512 * (n + 1) + 512 by ring, upTo_add _ _ 512 (by omega), EReal.coe_add]
    exact congrArg₂ (· + ·) ih rfl

/-- The gradient array. -/
theorem final5 (H : Holds m c I) (p : Fin 8192) (j : Fin 1024) :
    (dats m 0 c).arrAt 5 cfg0.N (ix2 p j) = (I.dr p j : EReal) := by
  have hN : cfg0.N = 16 := N_0
  refine (dats m 0 c).arrAt_forall_of_cover 5 (fun i v => v = (I.dr (i 0) (i 1) : EReal)) (fun t hf y => ?_) (fun i => ?_) (ix2 p j)
  · obtain ⟨h0, h1⟩ := (index_rows t).2.2.2.2.2.1
    rw [Value.flushed5]
    have e := outs5 H t (y 0) (y 1)
    have hy : (y : S512x1024.Idx) = ix2 (y 0) (y 1) := eq_ix2 _
    refine Eq.trans (?_ : _ = _) (e.trans ?_)
    · exact congrArg (outsAt0 m c t.val t.isLt).1 hy
    · have e0 : row t (y 0) = ((cfg0.win 5).blk t).view.emb y 0 := Fin.ext (by
        show 512 * t.val + (y 0).val = win0_5.index t 0 * 512 + 1 * (y 0).val; rw [h0]; omega)
      have e1 : (y 1 : Fin 1024) = ((cfg0.win 5).blk t).view.emb y 1 := Fin.ext (by
        show (y 1).val = win0_5.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.1
    refine ⟨⟨(i 0 : Nat) / 512, ht⟩, flush0_5 _, ?_⟩
    show i ∈ ((View.whole main_v6_0).slice (win0_5.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- Its half-precision copy. -/
theorem final6 (H : Holds m c I) (p : Fin 8192) (j : Fin 1024) :
    (dats m 0 c).arrAt 6 cfg0.N (ix2 p j) = (I.dr p j : EReal) := by
  have hN : cfg0.N = 16 := N_0
  refine (dats m 0 c).arrAt_forall_of_cover 6 (fun i v => v = (I.dr (i 0) (i 1) : EReal)) (fun t hf y => ?_) (fun i => ?_) (ix2 p j)
  · obtain ⟨h0, h1⟩ := (index_rows t).2.2.2.2.2.2.1
    rw [Value.flushed6]
    have e := outs6 H t (y 0) (y 1)
    have hy : (y : S512x1024.Idx) = ix2 (y 0) (y 1) := eq_ix2 _
    refine Eq.trans (?_ : _ = _) (e.trans ?_)
    · exact congrArg (outsAt0 m c t.val t.isLt).2.1 hy
    · have e0 : row t (y 0) = ((cfg0.win 6).blk t).view.emb y 0 := Fin.ext (by
        show 512 * t.val + (y 0).val = win0_6.index t 0 * 512 + 1 * (y 0).val; rw [h0]; omega)
      have e1 : (y 1 : Fin 1024) = ((cfg0.win 6).blk t).view.emb y 1 := Fin.ext (by
        show (y 1).val = win0_6.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.2.1
    refine ⟨⟨(i 0 : Nat) / 512, ht⟩, flush0_6 _, ?_⟩
    show i ∈ ((View.whole main_v6_1).slice (win0_6.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- The product array. -/
theorem final9 (H : Holds m c I) (p : Fin 8192) (j : Fin 2816) :
    (dats m 0 c).arrAt 9 cfg0.N (ix2 p j) = (I.da p j : EReal) := by
  have hN : cfg0.N = 16 := N_0
  refine (dats m 0 c).arrAt_forall_of_cover 9 (fun i v => v = (I.da (i 0) (i 1) : EReal)) (fun t hf y => ?_) (fun i => ?_) (ix2 p j)
  · obtain ⟨h0, h1⟩ := (index_rows t).2.2.2.2.2.2.2.2.2
    rw [Value.flushed9]
    have e := outs9 H t (y 0) (y 1)
    have hy : (y : S512x2816.Idx) = ix2 (y 0) (y 1) := eq_ix2 _
    refine Eq.trans (?_ : _ = _) (e.trans ?_)
    · exact congrArg (outsAt0 m c t.val t.isLt).2.2.2.2 hy
    · have e0 : row t (y 0) = ((cfg0.win 9).blk t).view.emb y 0 := Fin.ext (by
        show 512 * t.val + (y 0).val = win0_9.index t 0 * 512 + 1 * (y 0).val; rw [h0]; omega)
      have e1 : (y 1 : Fin 2816) = ((cfg0.win 9).blk t).view.emb y 1 := Fin.ext (by
        show (y 1).val = win0_9.index t 1 * 2816 + 1 * (y 1).val; rw [h1]; omega)
      rw [e0, e1]
  · have hi0 : (i 0 : Nat) < 8192 := (i 0).isLt
    have hi1 : (i 1 : Nat) < 2816 := (i 1).isLt
    have ht : (i 0 : Nat) / 512 < cfg0.N := by omega
    obtain ⟨h0, h1⟩ := (index_rows ⟨(i 0 : Nat) / 512, ht⟩).2.2.2.2.2.2.2.2.2
    refine ⟨⟨(i 0 : Nat) / 512, ht⟩, flush0_9 _, ?_⟩
    show i ∈ ((View.whole main_v6_4).slice (win0_9.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 2816 (i 1).val h1 (by omega)

/-- The scale's gradient, over all rows. -/
theorem final7 (H : Holds m c I) (j : Fin 1024) :
    (dats m 0 c).arrAt 7 cfg0.N (ix2 0 j) = ((∑ p, I.dgRow p j : ℝ) : EReal) := by
  have hN : cfg0.N = 16 := N_0
  refine (dats m 0 c).arrAt_forall_of_cover 7 (fun i v => v = ((∑ p, I.dgRow p (i 1) : ℝ) : EReal)) (fun t hf y => ?_) (fun i => ?_) (ix2 0 j)
  · obtain ⟨h0, h1⟩ := (index_rows t).2.2.2.2.2.2.2.1
    have ht := t.isLt
    have h15 : t.val = 15 := by have := (flush0_7 t).mp hf; have : cfg0.grid.N = 16 := N_0; omega
    rw [Value.flushed7]
    have e := outs7 H (y 1) t.val t.isLt
    have hy : (y : S1x1024.Idx) = ix2 0 (y 1) := (eq_ix2 _).trans (congrArg (fun k => ix2 k (y 1)) (Fin.fin_one_eq_zero _))
    refine Eq.trans (?_ : _ = _) (e.trans ?_)
    · exact congrArg (outsAt0 m c t.val t.isLt).2.2.1 hy
    · have e1 : (y 1 : Fin 1024) = ((cfg0.win 7).blk t).view.emb y 1 := Fin.ext (by
        show (y 1).val = win0_7.index t 1 * 1024 + 1 * (y 1).val; rw [h1]; omega)
      rw [h15, show 512 * (15 + 1) = 8192 from rfl, upTo_all, e1]
  · have hi0 : (i 0 : Nat) < 1 := (i 0).isLt
    have hi1 : (i 1 : Nat) < 1024 := (i 1).isLt
    have ht : 15 < cfg0.N := by omega
    obtain ⟨h0, h1⟩ := (index_rows ⟨15, ht⟩).2.2.2.2.2.2.2.1
    refine ⟨⟨15, ht⟩, (flush0_7 _).mpr rfl, ?_⟩
    show i ∈ ((View.whole main_v6_2).slice (win0_7.rect ⟨15, ht⟩)).set
    rw [View.set_slice_whole, Rect.mem_set_unit]
    intro a
    match a with
    | ⟨0, _⟩ => exact span 1 (i 0).val h0 (by omega)
    | ⟨1, _⟩ => exact span 1024 (i 1).val h1 (by omega)

/-- The shift's gradient, over all rows. -/
theorem final8 (H : Holds m c I) (j : Fin 1024) :
    (dats m 0 c).arrAt 8 cfg0.N (ix2 0 j) = ((∑ p, I.dbRow p j : ℝ) : EReal) := by
  have hN : cfg0.N = 16 := N_0
  refine (dats m 0 c).arrAt_forall_of_cover 8 (fun i v => v = ((∑ p, I.dbRow p (i 1) : ℝ) : EReal)) (fun t hf y => ?_) (fun i => ?_) (ix2 0 j)
  · obtain ⟨h0, h1⟩ := (index_rows t).2.2.2.2.2.2.2.2.1
    have ht := t.isLt
    have h15 : t.val = 15 := by have := (flush0_8 t).mp hf; have : cfg0.grid.N = 16 := N_0; omega
    rw [Value.flushed8]
    have e := outs8 H (y 1) t.val t.isLt
    have hy : (y : S1x1024.Idx) = ix2 0 (y 1) := (eq_ix2 _).trans (congrArg (fun k => ix2 k (y 1)) (Fin.fin_one_eq_zero _))
    refine Eq.trans (?_ : _ = _) (e.trans ?_)
    · exact congrArg (outsAt0 m c t.val t.isLt).2.2.2.1 hy
    · have e1 : (y 1 : Fin 1024) = ((cfg0.win 8).blk t).view.emb y 1 := Fin.ext (by
        show (y 1).val = win0_8.index t 1 * 1024 + 1 * (y 1).val; rw [h1]; omega)
      rw [h15, show 512 * (15 + 1) = 8192 from rfl, upTo_all, e1]
  · have hi0 : (i 0 : Nat) < 1 := (i 0).isLt
    have hi1 : (i 1 : Nat) < 1024 := (i 1).isLt
    have ht : 15 < cfg0.N := by omega
    obtain ⟨h0, h1⟩ := (index_rows ⟨15, ht⟩).2.2.2.2.2.2.2.2.1
    refine ⟨⟨15, ht⟩, (flush0_8 _).mpr rfl, ?_⟩
    show i ∈ ((View.whole main_v6_3).slice (win0_8.rect ⟨15, ht⟩)).set
    rw [View.set_slice_whole, Rect.mem_set_unit]
    intro a
    match a with
    | ⟨0, _⟩ => exact span 1 (i 0).val h0 (by omega)
    | ⟨1, _⟩ => exact span 1024 (i 1).val h1 (by omega)

end Cert.Norm

end
-- ==== Proof.NormFinite.lean ====
/-
  The precondition of the norm's claim: the arguments hold real numbers.
-/
module

public import proofs.«01_k».proof.Defs
public import proofs.«01_k».proof.Proof.Finite
public import proofs.«01_k».proof.Proof.NormArrays
public import proofs.«01_k».proof.Proof.Gen.Pre_all_finite

@[expose] public section

noncomputable section

namespace Cert.Norm

open Cert.Reals Cert.KernelIdeal Cert.KernelIdeal.Gen Idealize.ShloMosaic Idealize.ShloMosaic.TcCoe Idealize.SL.Sem

attribute [local instance] Cert.Pre_all_finite.Gen.facts

/-- The reals the arguments hold. -/
def inputs (m : (ℓ : Loc nD τ sig) → Buf (Elt Ideal) ℓ) (c : Dev nD) : Inputs where
  a p k := (m ((c : Thread nD τ).loc main_arg0) (ix2 p k) : EReal).toReal
  x p k := (m ((c : Thread nD τ).loc main_arg1) (ix2 p k) : EReal).toReal
  w p k := (m ((c : Thread nD τ).loc main_arg2) (ix2 p k) : EReal).toReal
  g k := (m ((c : Thread nD τ).loc main_arg3) (ix1 k) : EReal).toReal
  dya p k := (m ((c : Thread nD τ).loc main_arg5) (ix2 p k) : EReal).toReal
  dyb p k := (m ((c : Thread nD τ).loc main_arg6) (ix2 p k) : EReal).toReal

theorem holds_of_finite (m : (ℓ : Loc nD τ sig) → Buf (Elt Ideal) ℓ) (h : Cert.Pre_KernelIdeal_all_finite m) (c : Dev nD) :
    Holds m c (inputs m c) := by
  have e := congrFun (h c) (fun k => k.elim0)
  unfold Cert.Pre_all_finite.fn Cert.Pre_all_finite.fn_part1 at e
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun p k => (finite_of_all ofBits_inf h0 _).symm, fun p k => (finite_of_all ofBits_inf h1 _).symm, fun p k => (finite_of_all ofBits_inf h2 _).symm,
    fun k => (finite_of_all ofBits_inf h3 _).symm, fun p k => (finite_of_all ofBits_inf h5 _).symm, fun p k => (finite_of_all ofBits_inf h6 _).symm⟩

end Cert.Norm

end
-- ==== Proof.NormRef.lean ====
/-
  What the reference computes, at real inputs: the vector-Jacobian product of the residual layer norm and of the down
  projection, stage by stage, is the gradient arrays of `NormResult`.
-/
module

public import proofs.«01_k».proof.Proof.NormResult
public import proofs.«01_k».proof.Proof.Gen.ReferenceIdeal.Run

@[expose] public section

set_option maxRecDepth 16384

noncomputable section

namespace Cert.Norm

open Cert.Reals Cert.ReferenceIdeal Cert.ReferenceIdeal.Gen Cert.ReferenceIdeal.Value Idealize.ShloMosaic Idealize.ShloMosaic.TcCoe Idealize.SL.Sem

/-! ## The stages, as the reference writes them -/

section Stages

/-- The cotangent of the norm's output. -/
def refDy (a b : FVec Ideal S8192x1024 .f32) : FVec Ideal S8192x1024 .f32 :=
  addf (mulf (broadcastInDim S8192x1024 ![] bcast_S_S8192x1024 (constant S_ .f32 0x3FD744FD#32)) a) b

/-- The residual sum. -/
def refR (a : FVec Ideal S8192x2816 .f32) (x : FVec Ideal S8192x1024 .f32) (w : FVec Ideal S2816x1024 .f32) : FVec Ideal S8192x1024 .f32 :=
  addf (mulf (broadcastInDim S8192x1024 ![] bcast_S_S8192x1024 (constant S_ .f32 0x3FD744FD#32)) x)
    (Host.dotGeneral dot_S8192x2816_S2816x1024_S8192x1024_1_0_0_1_n_n none a w)

/-- A sum along each row, kept as a column. -/
def refSum (x : FVec Ideal S8192x1024 .f32) : FVec Ideal S8192x1 .f32 :=
  broadcastInDim S8192x1 ![0] bcast_S8192_S8192x1_0 (Host.reduceAdd x (constant S_ .f32 0x00000000#32) reducesTo_S8192x1024_S8192_d1 h_S_)

/-- The column of 1024. -/
def refN : FVec Ideal S8192x1 .f32 := broadcastInDim S8192x1 ![] bcast_S_S8192x1 (constant S_ .f32 0x44800000#32)

/-- The residual sum less its row means. -/
def refXc (r : FVec Ideal S8192x1024 .f32) : FVec Ideal S8192x1024 .f32 :=
  subf r (broadcastInDim S8192x1024 ![0, 1] bcast_S8192x1_S8192x1024_0_1 (Host.divf (refSum r) refN))

/-- The row variances plus epsilon. -/
def refSpread (xc : FVec Ideal S8192x1024 .f32) : FVec Ideal S8192x1 .f32 :=
  addf (Host.divf (refSum (mulf xc xc)) refN) (broadcastInDim S8192x1 ![] bcast_S_S8192x1 (constant S_ .f32 0x3727C5AC#32))

/-- The normalised rows. -/
def refUnit (xc : FVec Ideal S8192x1024 .f32) (s : FVec Ideal S8192x1 .f32) : FVec Ideal S8192x1024 .f32 :=
  mulf xc (broadcastInDim S8192x1024 ![0, 1] bcast_S8192x1_S8192x1024_0_1 (Host.rsqrt s))

/-- The cotangent of the normalised rows. -/
def refScaled (d : FVec Ideal S8192x1024 .f32) (g : FVec Ideal S1024 .f32) : FVec Ideal S8192x1024 .f32 :=
  mulf d (broadcastInDim S8192x1024 ![0, 1] bcast_S1x1024_S8192x1024_0_1 (broadcastInDim S1x1024 ![1] bcast_S1024_S1x1024_1 g))

/-- The cotangent of the variance sums. -/
def refVarCt (xc d : FVec Ideal S8192x1024 .f32) (s : FVec Ideal S8192x1 .f32) : FVec Ideal S8192x1 .f32 :=
  Host.divf (mulf (shapeCast _ (Host.reduceAdd (mulf xc d) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt s) s))) refN

/-- A column read along the rows. -/
def refSpreadCol (v : FVec Ideal S8192x1 .f32) : FVec Ideal S8192x1024 .f32 :=
  broadcastInDim S8192x1024 ![0] bcast_S8192_S8192x1024_0 (Host.reduceAdd v (constant S_ .f32 0x00000000#32) reducesTo_S8192x1_S8192_d1 h_S_)

/-- The variance's part of the gradient. -/
def refPart (xc : FVec Ideal S8192x1024 .f32) (v : FVec Ideal S8192x1 .f32) : FVec Ideal S8192x1024 .f32 :=
  mulf (refSpreadCol v) (mulf (broadcastInDim S8192x1024 ![] bcast_S_S8192x1024 (constant S_ .f32 0x40000000#32)) xc)

/-- The cotangent scaled by the inverse deviation. -/
def refStep (d : FVec Ideal S8192x1024 .f32) (s : FVec Ideal S8192x1 .f32) : FVec Ideal S8192x1024 .f32 :=
  mulf d (broadcastInDim S8192x1024 ![0, 1] bcast_S8192x1_S8192x1024_0_1 (Host.rsqrt s))

/-- Minus a row sum, kept as a column. -/
def refNegSum (x : FVec Ideal S8192x1024 .f32) : FVec Ideal S8192x1 .f32 :=
  shapeCast _ (Host.reduceAdd (Host.negf x) (constant S_ .f32 0x00000000#32) reducesTo_S8192x1024_S8192_d1 h_S_) shapeCasts_S8192_S8192x1

/-- The two parts and the mean's part together. -/
def refGrad (u v : FVec Ideal S8192x1024 .f32) : FVec Ideal S8192x1024 .f32 :=
  addf (addf u v) (refSpreadCol (Host.divf (addf (refNegSum u) (refNegSum v)) refN))

/-- A sum over all rows, as one row. -/
def refColSum (x : FVec Ideal S8192x1024 .f32) : FVec Ideal S1x1024 .f32 :=
  shapeCast _ (Host.reduceAdd (shapeCast S1x1024 (Host.reduceAdd x (constant S_ .f32 0x00000000#32) reducesTo_S8192x1024_S1024_d0 h_S_) shapeCasts_S1024_S1x1024)
    (constant S_ .f32 0x00000000#32) reducesTo_S1x1024_S1024_d0 h_S_) shapeCasts_S1024_S1x1024

end Stages

/-! ## The stages at real inputs -/

section AtReals

theorem refDy_at {x0 x1 : FVec Ideal S8192x1024 .f32} {a b : Fin 8192 → Fin 1024 → ℝ} (h0 : ∀ p j, x0 (ix2 p j) = (a p j : EReal))
    (h1 : ∀ p j, x1 (ix2 p j) = (b p j : EReal)) (p : Fin 8192) (j : Fin 1024) : refDy x0 x1 (ix2 p j) = (dy (a p) (b p) j : EReal) := by
  pointwise [refDy, h0, h1, ofBits_alpha]
  unfold dy; push_cast; rfl

theorem refSum_at {x : FVec Ideal S8192x1024 .f32} {f : Fin 8192 → Fin 1024 → ℝ} (h : ∀ p j, x (ix2 p j) = (f p j : EReal)) (p : Fin 8192) :
    refSum x (ix2 p 0) = ((∑ k, f p k : ℝ) : EReal) := by
  pointwise [refSum, h, sum_coe]

theorem refN_at (p : Fin 8192) : refN (ix2 p 0) = ((1024 : ℝ) : EReal) := by
  pointwise [refN, ofBits_1024]

theorem refXc_at {x : FVec Ideal S8192x1024 .f32} {r : Fin 8192 → Fin 1024 → ℝ} (h : ∀ p j, x (ix2 p j) = (r p j : EReal)) (p : Fin 8192) (j : Fin 1024) :
    refXc x (ix2 p j) = (centred (r p) j : EReal) := by
  pointwise [refXc, h, refSum_at h, refN_at]
  rw [div_coe_coe _ (by norm_num), ← EReal.coe_sub]; rfl

theorem refSpread_at {x : FVec Ideal S8192x1024 .f32} {r : Fin 8192 → Fin 1024 → ℝ} (h : ∀ p j, x (ix2 p j) = (centred (r p) j : EReal)) (p : Fin 8192) :
    refSpread x (ix2 p 0) = (spread (r p) : EReal) := by
  have hs : ∀ p j, mulf x x (ix2 p j) = ((centred (r p) j * centred (r p) j : ℝ) : EReal) := fun p j => by
    pointwise [h, ← EReal.coe_mul]
  pointwise [refSpread, refSum_at hs, refN_at, ofBits_eps]
  rw [div_coe_coe _ (by norm_num), ← EReal.coe_add]; rfl

/-- The inverse root of the spread. -/
theorem rsqrt_spread (f : Fin 1024 → ℝ) : Ideal.rsqrt (spread f : EReal) = (invStd f : EReal) := rsqrt_pos (spread_pos f)

theorem refUnit_at {x : FVec Ideal S8192x1024 .f32} {s : FVec Ideal S8192x1 .f32} {r : Fin 8192 → Fin 1024 → ℝ}
    (h : ∀ p j, x (ix2 p j) = (centred (r p) j : EReal)) (hs : ∀ p, s (ix2 p 0) = (spread (r p) : EReal)) (p : Fin 8192) (j : Fin 1024) :
    refUnit x s (ix2 p j) = (unit (r p) j : EReal) := by
  pointwise [refUnit, h, hs, rsqrt_spread, ← EReal.coe_mul]; rfl

theorem refScaled_at {d : FVec Ideal S8192x1024 .f32} {y : FVec Ideal S1024 .f32} {f : Fin 8192 → Fin 1024 → ℝ} {g : Fin 1024 → ℝ}
    (h : ∀ p j, d (ix2 p j) = (f p j : EReal)) (hg : ∀ j, y (ix1 j) = (g j : EReal)) (p : Fin 8192) (j : Fin 1024) :
    refScaled d y (ix2 p j) = (scaled g (f p) j : EReal) := by
  pointwise [refScaled, h, hg, ← EReal.coe_mul]; rfl

theorem refVarCt_at {x d : FVec Ideal S8192x1024 .f32} {s : FVec Ideal S8192x1 .f32} {r f : Fin 8192 → Fin 1024 → ℝ}
    (h : ∀ p j, x (ix2 p j) = (centred (r p) j : EReal)) (hd : ∀ p j, d (ix2 p j) = (f p j : EReal))
    (hs : ∀ p, s (ix2 p 0) = (spread (r p) : EReal)) (p : Fin 8192) :
    refVarCt x d s (ix2 p 0) = (varCt (r p) (f p) : EReal) := by
  pointwise [refVarCt, h, hd, hs, refN_at, rsqrt_spread, ofBits_neg_half, ← EReal.coe_mul, sum_coe]
  rw [div_coe_coe _ (spread_pos _).ne', ← EReal.coe_mul, ← EReal.coe_mul, div_coe_coe _ (by norm_num)]; rfl

theorem refSpreadCol_at {v : FVec Ideal S8192x1 .f32} {q : Fin 8192 → ℝ} (h : ∀ p, v (ix2 p 0) = (q p : EReal)) (p : Fin 8192) (j : Fin 1024) :
    refSpreadCol v (ix2 p j) = (q p : EReal) := by
  pointwise [refSpreadCol, h]
  simp [h]

theorem refPart_at {x : FVec Ideal S8192x1024 .f32} {v : FVec Ideal S8192x1 .f32} {f : Fin 8192 → Fin 1024 → ℝ} {q : Fin 8192 → ℝ}
    (hx : ∀ p j, x (ix2 p j) = (f p j : EReal)) (h : ∀ p, v (ix2 p 0) = (q p : EReal)) (p : Fin 8192) (j : Fin 1024) :
    refPart x v (ix2 p j) = ((q p * (2 * f p j) : ℝ) : EReal) := by
  pointwise [refPart, hx, refSpreadCol_at h, ofBits_two, ← EReal.coe_mul]

theorem refStep_at {d : FVec Ideal S8192x1024 .f32} {s : FVec Ideal S8192x1 .f32} {r f : Fin 8192 → Fin 1024 → ℝ}
    (h : ∀ p j, d (ix2 p j) = (f p j : EReal)) (hs : ∀ p, s (ix2 p 0) = (spread (r p) : EReal)) (p : Fin 8192) (j : Fin 1024) :
    refStep d s (ix2 p j) = ((f p j * invStd (r p) : ℝ) : EReal) := by
  pointwise [refStep, h, hs, rsqrt_spread, ← EReal.coe_mul]

theorem refNegSum_at {x : FVec Ideal S8192x1024 .f32} {f : Fin 8192 → Fin 1024 → ℝ} (h : ∀ p j, x (ix2 p j) = (f p j : EReal)) (p : Fin 8192) :
    refNegSum x (ix2 p 0) = ((∑ k, -(f p k) : ℝ) : EReal) := by
  pointwise [refNegSum, h, ← EReal.coe_neg, sum_coe]

theorem refGrad_at {u v : FVec Ideal S8192x1024 .f32} {e f : Fin 8192 → Fin 1024 → ℝ} (hu : ∀ p j, u (ix2 p j) = (e p j : EReal))
    (hv : ∀ p j, v (ix2 p j) = (f p j : EReal)) (p : Fin 8192) (j : Fin 1024) :
    refGrad u v (ix2 p j) = ((e p j + f p j + ((∑ k, -(e p k)) + (∑ k, -(f p k))) / 1024 : ℝ) : EReal) := by
  have h : ∀ p, Host.divf (addf (refNegSum u) (refNegSum v)) refN (ix2 p 0) = ((((∑ k, -(e p k)) + (∑ k, -(f p k))) / 1024 : ℝ) : EReal) := fun p => by
    pointwise [refNegSum_at hu, refNegSum_at hv, refN_at]
    rw [← EReal.coe_add, div_coe_coe _ (by norm_num)]
  pointwise [refGrad, hu, hv, refSpreadCol_at h, ← EReal.coe_add]

theorem refColSum_at {x : FVec Ideal S8192x1024 .f32} {f : Fin 8192 → Fin 1024 → ℝ} (h : ∀ p j, x (ix2 p j) = (f p j : EReal)) (j : Fin 1024) :
    refColSum x (ix2 0 j) = ((∑ p, f p j : ℝ) : EReal) := by
  pointwise [refColSum, h, sum_coe]
  simp

end AtReals

/-! ## The results -/

variable (m : (ℓ : Loc nD τ sig) → Buf (Elt Ideal) ℓ) (c : Dev nD) (I : Inputs)

/-- The reference's argument arrays hold the reals `I`. -/
structure RefHolds : Prop where
  a : ∀ p k, m ((c : Thread nD τ).loc main_arg0) (ix2 p k) = (I.a p k : EReal)
  x : ∀ p k, m ((c : Thread nD τ).loc main_arg1) (ix2 p k) = (I.x p k : EReal)
  w : ∀ p k, m ((c : Thread nD τ).loc main_arg2) (ix2 p k) = (I.w p k : EReal)
  g : ∀ k, m ((c : Thread nD τ).loc main_arg3) (ix1 k) = (I.g k : EReal)
  dya : ∀ p k, m ((c : Thread nD τ).loc main_arg5) (ix2 p k) = (I.dya p k : EReal)
  dyb : ∀ p k, m ((c : Thread nD τ).loc main_arg6) (ix2 p k) = (I.dyb p k : EReal)

/-- The residual sum less its means, the spread and the cotangent, of the arguments. -/
abbrev argXc : FVec Ideal S8192x1024 .f32 := refXc (refR (m ((c : Thread nD τ).loc main_arg0)) (m ((c : Thread nD τ).loc main_arg1)) (m ((c : Thread nD τ).loc main_arg2)))
abbrev argDy : FVec Ideal S8192x1024 .f32 := refDy (m ((c : Thread nD τ).loc main_arg5)) (m ((c : Thread nD τ).loc main_arg6))
abbrev argCt : FVec Ideal S8192x1024 .f32 := refScaled (argDy m c) (m ((c : Thread nD τ).loc main_arg3))
abbrev argGrad : FVec Ideal S8192x1024 .f32 :=
  refGrad (refStep (argCt m c) (refSpread (argXc m c))) (refPart (argXc m c) (refVarCt (argXc m c) (argCt m c) (refSpread (argXc m c))))

variable {m c I}

theorem refR_at (H : RefHolds m c I) (p : Fin 8192) (j : Fin 1024) :
    refR (m ((c : Thread nD τ).loc main_arg0)) (m ((c : Thread nD τ).loc main_arg1)) (m ((c : Thread nD τ).loc main_arg2)) (ix2 p j) = (I.r p j : EReal) := by
  pointwise [refR, dot_S8192x2816_S2816x1024_S8192x1024_1_0_0_1_n_n, ofBits_alpha, H.a, H.x, H.w, ← EReal.coe_mul, sum_coe]
  rw [← EReal.coe_add]; rfl

theorem argXc_at (H : RefHolds m c I) : ∀ p j, argXc m c (ix2 p j) = (centred (I.r p) j : EReal) := refXc_at (refR_at H)

theorem argCt_at (H : RefHolds m c I) : ∀ p j, argCt m c (ix2 p j) = (scaled I.g (dy (I.dya p) (I.dyb p)) j : EReal) :=
  refScaled_at (refDy_at H.dya H.dyb) H.g

theorem argGrad_at (H : RefHolds m c I) (p : Fin 8192) (j : Fin 1024) : argGrad m c (ix2 p j) = (I.dr p j : EReal) := by
  have hx := argXc_at H
  have hs := refSpread_at hx
  have hd := argCt_at H
  refine (refGrad_at (refStep_at hd hs) (refPart_at hx (refVarCt_at hx hd hs)) p j).trans ?_
  exact congrArg _ (chainGrad_eq (I.r p) (scaled I.g (dy (I.dya p) (I.dyb p))) j)

theorem out0_eq : res_out0 m c = argGrad m c := by unfold res_out0 res_main_v68; rfl
theorem out1_eq : res_out1 m c = truncf .bf16 (argGrad m c) bitsLt_bf16_f32 := by unfold res_out1 res_main_v70; rfl
theorem out4_eq : res_out4 m c
    = truncf .bf16 (Host.dotGeneral (φ₁ := .f32) (φ₂ := .f32) dot_S8192x1024_S2816x1024_S8192x2816_1_1_0_0_n_n none (argGrad m c) (m ((c : Thread nD τ).loc main_arg2))) bitsLt_bf16_f32 := by
  unfold res_out4 res_main_v73; rfl

theorem out0_at (H : RefHolds m c I) (p : Fin 8192) (j : Fin 1024) : res_out0 m c (ix2 p j) = (I.dr p j : EReal) :=
  (congrFun out0_eq _).trans (argGrad_at H p j)

theorem out1_at (H : RefHolds m c I) (p : Fin 8192) (j : Fin 1024) : res_out1 m c (ix2 p j) = (I.dr p j : EReal) :=
  (congrFun out1_eq _).trans (argGrad_at H p j)

theorem out4_at (H : RefHolds m c I) (p : Fin 8192) (n : Fin 2816) : res_out4 m c (ix2 p n) = (I.da p n : EReal) := by
  rw [out4_eq]
  pointwise [dot_S8192x1024_S2816x1024_S8192x2816_1_1_0_0_n_n, argGrad_at H, H.w, ← EReal.coe_mul, sum_coe]
  rfl

/-- The scale's gradient, as the reference writes it. -/
abbrev argDg (m : (ℓ : Loc nD τ sig) → Buf (Elt Ideal) ℓ) (c : Dev nD) : FVec Ideal S1x1024 .f32 :=
  refColSum (mulf (refUnit (argXc m c) (refSpread (argXc m c))) (argDy m c))
/-- The shift's gradient, as the reference writes it. -/
abbrev argDb (m : (ℓ : Loc nD τ sig) → Buf (Elt Ideal) ℓ) (c : Dev nD) : FVec Ideal S1x1024 .f32 := refColSum (argDy m c)

theorem argDg_at (H : RefHolds m c I) (j : Fin 1024) : argDg m c (ix2 0 j) = ((∑ p, I.dgRow p j : ℝ) : EReal) := by
  have hx := argXc_at H
  have hu := refUnit_at hx (refSpread_at hx)
  refine refColSum_at (f := I.dgRow) (fun p j => ?_) j
  pointwise [hu, refDy_at H.dya H.dyb, ← EReal.coe_mul]
  unfold Inputs.dgRow
  rw [mul_comm]

theorem argDb_at (H : RefHolds m c I) (j : Fin 1024) : argDb m c (ix2 0 j) = ((∑ p, I.dbRow p j : ℝ) : EReal) :=
  refColSum_at (f := I.dbRow) (refDy_at H.dya H.dyb) j

end Cert.Norm

end
-- ==== Proof.NormClaim.lean ====
/-
  The norm's claim: kernel and reference agree on finite arguments.
-/
module

public import proofs.«01_k».proof.Proof.NormFinite
public import proofs.«01_k».proof.Proof.NormRef

@[expose] public section

noncomputable section

namespace Cert.Norm

open Cert.Reals Idealize.ShloMosaic Idealize.ShloMosaic.TcCoe Idealize.SL.Sem

attribute [local instance] Cert.KernelIdeal.Gen.facts Cert.ReferenceIdeal.Gen.facts Cert.Pre_all_finite.Gen.facts

theorem agree : Cert.algebraic_KernelIdeal_ReferenceIdeal_pre_all_finite := by
  intro m g m' g' hp ha
  have H := holds_of_finite m hp
  have H' : ∀ c, RefHolds m' c (inputs m c) := fun c => by
    obtain ⟨e0, e1, e2, e3, e4, e5, e6⟩ := ha c
    exact ⟨fun p k => (congrFun e0 _).trans ((H c).a p k), fun p k => (congrFun e1 _).trans ((H c).x p k),
      fun p k => (congrFun e2 _).trans ((H c).w p k), fun k => (congrFun e3 _).trans ((H c).g k),
      fun p k => (congrFun e5 _).trans ((H c).dya p k), fun p k => (congrFun e6 _).trans ((H c).dyb p k)⟩
  refine ⟨_, _, _, _, _, Cert.KernelIdeal.Value.run_blocks m g,
    (θ_run Cert.ReferenceIdeal.defs _ _).mono (fun r h c => ?_) (Cert.ReferenceIdeal.Value.run m' g')⟩
  obtain ⟨h0, h1, h2, h3, h4, hk⟩ := h c
  refine ⟨h0.trans ?_, h1.trans ?_, h2.trans ?_, h3.trans ?_, h4.trans ?_, hk⟩
  · funext i; rw [← ix2_eta i]
    exact (out0_at (H' c) (i 0) (i 1)).trans (final5 (H c) (i 0) (i 1)).symm
  · funext i; rw [← ix2_eta i]
    exact (out1_at (H' c) (i 0) (i 1)).trans (final6 (H c) (i 0) (i 1)).symm
  · funext i; rw [← ix2_eta i, show i 0 = (0 : Fin 1) from Subsingleton.elim (α := Fin 1) _ _]
    exact (argDg_at (H' c) (i 1)).trans (final7 (H c) (i 1)).symm
  · funext i; rw [← ix2_eta i, show i 0 = (0 : Fin 1) from Subsingleton.elim (α := Fin 1) _ _]
    exact (argDb_at (H' c) (i 1)).trans (final8 (H c) (i 1)).symm
  · funext i; rw [← ix2_eta i]
    exact (out4_at (H' c) (i 0) (i 1)).trans (final9 (H c) (i 0) (i 1)).symm

end Cert.Norm

end
-- ==== Proof.InputGradClaim.lean ====
/-
  The gradient of the up projection's input: the kernel adds four products, one per half of the gate's and of the linear
  part's cotangents with the weight shard it came from; the reference takes one product of the joined cotangents with the
  joined shards.
-/
module

public import proofs.«01_k».proof.Defs
public import proofs.«01_k».proof.Proof.BlockAt
public import proofs.«01_k».proof.Proof.Sums
public import proofs.«01_k».proof.Proof.Gen.Kernel2Ideal.Value
public import proofs.«01_k».proof.Proof.Gen.Reference2Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InputGrad

section Kernel

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl
theorem hz4 : (![0, 0, 0, 0] : Fin 4 → Nat) = fun _ => 0 := funext fun a => by fin_cases a <;> rfl

/-- A block of the result. -/
theorem out_at (x0 x1 x2 x3 : Vec Ideal S1024x1408 .bf16) (x4 x5 x6 x7 : Vec Ideal S1x1x512x1408 .bf16) (p : Fin 1024) (q : Fin 512) :
    out0_8 x0 x1 x2 x3 x4 x5 x6 x7 (ix2 p q)
      = (((∑ k : Fin 1408, (x0 (ix2 p k) : EReal) * (x4 (ix4 0 0 q k) : EReal)) + ∑ k : Fin 1408, (x1 (ix2 p k) : EReal) * (x5 (ix4 0 0 q k) : EReal))
        + ∑ k : Fin 1408, (x2 (ix2 p k) : EReal) * (x6 (ix4 0 0 q k) : EReal)) + ∑ k : Fin 1408, (x3 (ix2 p k) : EReal) * (x7 (ix4 0 0 q k) : EReal) := by
  unfold out0_8
  rw [View.canon_unit_zero hz]
  simp only [View.ld_unit_zero (S := S1024x1408) hz, View.ld_unit_zero (S := S1x1x512x1408) hz4]
  pointwise [k0_pay1, dot_S1024x1408_S512x1408_S1024x512_1_1_0_0_n_n]

variable (m : (ℓ : Loc nD τ sig) → Buf (Elt Ideal) ℓ) (c : Dev nD)

/-- The cotangents of the gate's and of the linear part's projection, and the weights of a shard. -/
def gate (r : Fin 8192) (k : Fin 2816) : EReal := m ((c : Thread nD τ).loc main_arg0) (ix2 r k)
def lin (r : Fin 8192) (k : Fin 2816) : EReal := m ((c : Thread nD τ).loc main_arg1) (ix2 r k)
def weight (s : Fin 4) (j : Fin 1024) (k : Fin 1408) : EReal := m ((c : Thread nD τ).loc main_arg2) (ix4 s 1 j k)

/-- Column `k` of the first and of the second half. -/
def half0 (k : Fin 1408) : Fin 2816 := ⟨1408 * 0 + k.val, by have := k.isLt; omega⟩
def half1 (k : Fin 1408) : Fin 2816 := ⟨1408 * 1 + k.val, by have := k.isLt; omega⟩

/-- The rows and columns of grid point `t`'s block. -/
def row (t : Fin cfg0.N) (p : Fin 1024) : Fin 8192 := ⟨1024 * (t.val / 2) + p.val, by have := t.isLt; have : cfg0.N = 16 := N_0; have := p.isLt; omega⟩
def col (t : Fin cfg0.N) (q : Fin 512) : Fin 1024 := ⟨512 * (t.val % 2) + q.val, by have := q.isLt; omega⟩

theorem index0 : ∀ t : Fin grid0.N, win0_0.index t 0 = t.val / 2 ∧ win0_0.index t 1 = 0 := by decide +kernel
theorem index1 : ∀ t : Fin grid0.N, win0_1.index t 0 = t.val / 2 ∧ win0_1.index t 1 = 1 := by decide +kernel
theorem index2 : ∀ t : Fin grid0.N, win0_2.index t 0 = t.val / 2 ∧ win0_2.index t 1 = 0 := by decide +kernel
theorem index3 : ∀ t : Fin grid0.N, win0_3.index t 0 = t.val / 2 ∧ win0_3.index t 1 = 1 := by decide +kernel
theorem index4 : ∀ t : Fin grid0.N, win0_4.index t 0 = 0 ∧ win0_4.index t 1 = 1 ∧ win0_4.index t 2 = t.val % 2 ∧ win0_4.index t 3 = 0 := by decide +kernel
theorem index5 : ∀ t : Fin grid0.N, win0_5.index t 0 = 1 ∧ win0_5.index t 1 = 1 ∧ win0_5.index t 2 = t.val % 2 ∧ win0_5.index t 3 = 0 := by decide +kernel
theorem index6 : ∀ t : Fin grid0.N, win0_6.index t 0 = 2 ∧ win0_6.index t 1 = 1 ∧ win0_6.index t 2 = t.val % 2 ∧ win0_6.index t 3 = 0 := by decide +kernel
theorem index7 : ∀ t : Fin grid0.N, win0_7.index t 0 = 3 ∧ win0_7.index t 1 = 1 ∧ win0_7.index t 2 = t.val % 2 ∧ win0_7.index t 3 = 0 := by decide +kernel
theorem index8 : ∀ t : Fin grid0.N, win0_8.index t 0 = t.val / 2 ∧ win0_8.index t 1 = t.val % 2 := by decide +kernel

theorem iblk0 (t : Fin cfg0.N) (p : Fin 1024) (k : Fin 1408) : iblk m c 0 t (ix2 p k) = gate m c (row t p) (half0 k) := by
  obtain ⟨h0, h1⟩ := index0 t
  unfold gate
  rw [← V_main_arg0 m c]
  unfold iblk
  exact congrArg (V m c main_arg0) (at2 _ (spot 1024 p.val h0 (by show _ = 1024 * (t.val / 2) + p.val; omega)) (spot 1408 k.val h1 (by show _ = 1408 * 0 + k.val; omega)))

theorem iblk1 (t : Fin cfg0.N) (p : Fin 1024) (k : Fin 1408) : iblk m c 1 t (ix2 p k) = gate m c (row t p) (half1 k) := by
  obtain ⟨h0, h1⟩ := index1 t
  unfold gate
  rw [← V_main_arg0 m c]
  unfold iblk
  exact congrArg (V m c main_arg0) (at2 _ (spot 1024 p.val h0 (by show _ = 1024 * (t.val / 2) + p.val; omega)) (spot 1408 k.val h1 (by show _ = 1408 * 1 + k.val; omega)))

theorem iblk2 (t : Fin cfg0.N) (p : Fin 1024) (k : Fin 1408) : iblk m c 2 t (ix2 p k) = lin m c (row t p) (half0 k) := by
  obtain ⟨h0, h1⟩ := index2 t
  unfold lin
  rw [← V_main_arg1 m c]
  unfold iblk
  exact congrArg (V m c main_arg1) (at2 _ (spot 1024 p.val h0 (by show _ = 1024 * (t.val / 2) + p.val; omega)) (spot 1408 k.val h1 (by show _ = 1408 * 0 + k.val; omega)))

theorem iblk3 (t : Fin cfg0.N) (p : Fin 1024) (k : Fin 1408) : iblk m c 3 t (ix2 p k) = lin m c (row t p) (half1 k) := by
  obtain ⟨h0, h1⟩ := index3 t
  unfold lin
  rw [← V_main_arg1 m c]
  unfold iblk
  exact congrArg (V m c main_arg1) (at2 _ (spot 1024 p.val h0 (by show _ = 1024 * (t.val / 2) + p.val; omega)) (spot 1408 k.val h1 (by show _ = 1408 * 1 + k.val; omega)))

theorem iblk4 (t : Fin cfg0.N) (q : Fin 512) (k : Fin 1408) : iblk m c 4 t (ix4 0 0 q k) = weight m c 0 (col t q) k := by
  obtain ⟨h0, h1, h2, h3⟩ := index4 t
  unfold weight
  rw [← V_main_arg2 m c]
  unfold iblk
  rw [View.read_apply]
  show V m c main_arg2 _ = V m c main_arg2 _
  congr 1; funext a; apply Fin.ext
  match a with
  | ⟨0, _⟩ => show win0_4.index t 0 * 1 + 1 * 0 = 0; rw [h0]
  | ⟨1, _⟩ => show win0_4.index t 1 * 1 + 1 * 0 = 1; rw [h1]
  | ⟨2, _⟩ => show win0_4.index t 2 * 512 + 1 * q.val = 512 * (t.val % 2) + q.val; rw [h2]; omega
  | ⟨3, _⟩ => show win0_4.index t 3 * 1408 + 1 * k.val = k.val; rw [h3]; omega

theorem iblk5 (t : Fin cfg0.N) (q : Fin 512) (k : Fin 1408) : iblk m c 5 t (ix4 0 0 q k) = weight m c 1 (col t q) k := by
  obtain ⟨h0, h1, h2, h3⟩ := index5 t
  unfold weight
  rw [← V_main_arg2 m c]
  unfold iblk
  rw [View.read_apply]
  show V m c main_arg2 _ = V m c main_arg2 _
  congr 1; funext a; apply Fin.ext
  match a with
  | ⟨0, _⟩ => show win0_5.index t 0 * 1 + 1 * 0 = 1; rw [h0]
  | ⟨1, _⟩ => show win0_5.index t 1 * 1 + 1 * 0 = 1; rw [h1]
  | ⟨2, _⟩ => show win0_5.index t 2 * 512 + 1 * q.val = 512 * (t.val % 2) + q.val; rw [h2]; omega
  | ⟨3, _⟩ => show win0_5.index t 3 * 1408 + 1 * k.val = k.val; rw [h3]; omega

theorem iblk6 (t : Fin cfg0.N) (q : Fin 512) (k : Fin 1408) : iblk m c 6 t (ix4 0 0 q k) = weight m c 2 (col t q) k := by
  obtain ⟨h0, h1, h2, h3⟩ := index6 t
  unfold weight
  rw [← V_main_arg2 m c]
  unfold iblk
  rw [View.read_apply]
  show V m c main_arg2 _ = V m c main_arg2 _
  congr 1; funext a; apply Fin.ext
  match a with
  | ⟨0, _⟩ => show win0_6.index t 0 * 1 + 1 * 0 = 2; rw [h0]
  | ⟨1, _⟩ => show win0_6.index t 1 * 1 + 1 * 0 = 1; rw [h1]
  | ⟨2, _⟩ => show win0_6.index t 2 * 512 + 1 * q.val = 512 * (t.val % 2) + q.val; rw [h2]; omega
  | ⟨3, _⟩ => show win0_6.index t 3 * 1408 + 1 * k.val = k.val; rw [h3]; omega

theorem iblk7 (t : Fin cfg0.N) (q : Fin 512) (k : Fin 1408) : iblk m c 7 t (ix4 0 0 q k) = weight m c 3 (col t q) k := by
  obtain ⟨h0, h1, h2, h3⟩ := index7 t
  unfold weight
  rw [← V_main_arg2 m c]
  unfold iblk
  rw [View.read_apply]
  show V m c main_arg2 _ = V m c main_arg2 _
  congr 1; funext a; apply Fin.ext
  match a with
  | ⟨0, _⟩ => show win0_7.index t 0 * 1 + 1 * 0 = 3; rw [h0]
  | ⟨1, _⟩ => show win0_7.index t 1 * 1 + 1 * 0 = 1; rw [h1]
  | ⟨2, _⟩ => show win0_7.index t 2 * 512 + 1 * q.val = 512 * (t.val % 2) + q.val; rw [h2]; omega
  | ⟨3, _⟩ => show win0_7.index t 3 * 1408 + 1 * k.val = k.val; rw [h3]; omega

/-- The result: four products over a shard's columns each. -/
def product (r : Fin 8192) (j : Fin 1024) : EReal :=
  (((∑ k, gate m c r (half0 k) * weight m c 0 j k) + ∑ k, gate m c r (half1 k) * weight m c 1 j k)
    + ∑ k, lin m c r (half0 k) * weight m c 2 j k) + ∑ k, lin m c r (half1 k) * weight m c 3 j k

/-- The block of a grid point holds the products. -/
theorem block (t : Fin cfg0.N) (p : Fin 1024) (q : Fin 512) :
    out0_8 (iblk m c 0 t) (iblk m c 1 t) (iblk m c 2 t) (iblk m c 3 t) (iblk m c 4 t) (iblk m c 5 t) (iblk m c 6 t) (iblk m c 7 t) (ix2 p q)
      = product m c (row t p) (col t q) := by
  rw [out_at]
  simp only [iblk0, iblk1, iblk2, iblk3, iblk4, iblk5, iblk6, iblk7]
  rfl

theorem product_eq (r : Fin 8192) (j : Fin 1024) : product m c r j = (((∑ k, gate m c r (half0 k) * weight m c 0 j k) + ∑ k, gate m c r (half1 k) * weight m c 1 j k)
    + ∑ k, lin m c r (half0 k) * weight m c 2 j k) + ∑ k, lin m c r (half1 k) * weight m c 3 j k := rfl

attribute [local irreducible] product out0_8 iblk

theorem final : ∀ i, (dats m 0 c).arrAt 8 cfg0.N i = product m c (i 0) (i 1) := by
  have hN : cfg0.N = 16 := N_0
  refine (dats m 0 c).arrAt_forall_of_cover 8 (fun i v => v = product m c (i 0) (i 1)) (fun t hf y => ?_) (fun i => ?_)
  · obtain ⟨h0, h1⟩ := index8 t
    rw [Value.flushed8]
    have e := block m c t (y 0) (y 1)
    have hy : (y : S1024x512.Idx) = ix2 (y 0) (y 1) := eq_ix2 _
    refine Eq.trans (?_ : _ = _) (e.trans ?_)
    · exact congrArg (out0_8 (iblk m c 0 t) (iblk m c 1 t) (iblk m c 2 t) (iblk m c 3 t) (iblk m c 4 t) (iblk m c 5 t) (iblk m c 6 t) (iblk m c 7 t)) hy
    · have e0 : row t (y 0) = ((cfg0.win 8).blk t).view.emb y 0 := Fin.ext (by
        show 1024 * (t.val / 2) + (y 0).val = win0_8.index t 0 * 1024 + 1 * (y 0).val; rw [h0]; omega)
      have e1 : col t (y 1) = ((cfg0.win 8).blk t).view.emb y 1 := Fin.ext (by
        show 512 * (t.val % 2) + (y 1).val = win0_8.index t 1 * 512 + 1 * (y 1).val; rw [h1]; omega)
      rw [e0, e1]
  · have hi0 : (i 0 : Nat) < 8192 := (i 0).isLt
    have hi1 : (i 1 : Nat) < 1024 := (i 1).isLt
    have ht : 2 * ((i 0 : Nat) / 1024) + (i 1 : Nat) / 512 < cfg0.N := by omega
    obtain ⟨h0, h1⟩ := index8 ⟨2 * ((i 0 : Nat) / 1024) + (i 1 : Nat) / 512, ht⟩
    refine ⟨⟨2 * ((i 0 : Nat) / 1024) + (i 1 : Nat) / 512, ht⟩, flush0_8 _, ?_⟩
    show i ∈ ((View.whole main_v0).slice (win0_8.rect ⟨2 * ((i 0 : Nat) / 1024) + (i 1 : Nat) / 512, ht⟩)).set
    rw [View.set_slice_whole, Rect.mem_set_unit]
    intro a
    match a with
    | ⟨0, _⟩ => exact span 1024 (i 0).val h0 (by dsimp only; omega)
    | ⟨1, _⟩ => exact span 512 (i 1).val h1 (by dsimp only; omega)

end Kernel

/-! ## The reference -/

section Reference

open Cert.Reference2Ideal Cert.Reference2Ideal.Gen Idealize.ShloMosaic Idealize.ShloMosaic.TcCoe

/-- The reference's product of the joined cotangents with the joined shards. -/
def refProduct (a b : FVec Ideal S8192x2816 .bf16) (w : FVec Ideal S4x4x1024x1408 .bf16) : FVec Ideal S8192x1024 .f32 :=
  Host.dotGeneral (φ₁ := .f32) (φ₂ := .f32) dot_S8192x5632_S1024x5632_S8192x1024_1_1_0_0_n_n none (concatenate S8192x5632 1 [⟨S8192x2816, (extf .f32 a bitsLt_bf16_f32)⟩, ⟨S8192x2816, (extf .f32 b bitsLt_bf16_f32)⟩] concatenates_S8192x2816_S8192x2816_S8192x5632_d1) ((concatenate S1024x5632 1 [⟨S1024x1408, ((extf .f32 (shapeCast _ (extractStridedSlice S1x1x1024x1408 ![0, 1, 0, 0] w slices_S4x4x1024x1408_S1x1x1024x1408_0_1_0_0) shapeCasts_S1x1x1024x1408_S1024x1408) bitsLt_bf16_f32) : (⟨S1024x1408, .f32⟩ : BufTy).Contents (Elt Ideal))⟩, ⟨S1024x1408, ((extf .f32 (shapeCast _ (extractStridedSlice S1x1x1024x1408 ![1, 1, 0, 0] w slices_S4x4x1024x1408_S1x1x1024x1408_1_1_0_0) shapeCasts_S1x1x1024x1408_S1024x1408) bitsLt_bf16_f32) : (⟨S1024x1408, .f32⟩ : BufTy).Contents (Elt Ideal))⟩, ⟨S1024x1408, ((extf .f32 (shapeCast _ (extractStridedSlice S1x1x1024x1408 ![2, 1, 0, 0] w slices_S4x4x1024x1408_S1x1x1024x1408_2_1_0_0) shapeCasts_S1x1x1024x1408_S1024x1408) bitsLt_bf16_f32) : (⟨S1024x1408, .f32⟩ : BufTy).Contents (Elt Ideal))⟩, ⟨S1024x1408, ((extf .f32 (shapeCast _ (extractStridedSlice S1x1x1024x1408 ![3, 1, 0, 0] w slices_S4x4x1024x1408_S1x1x1024x1408_3_1_0_0) shapeCasts_S1x1x1024x1408_S1024x1408) bitsLt_bf16_f32) : (⟨S1024x1408, .f32⟩ : BufTy).Contents (Elt Ideal))⟩] concatenates_S1024x1408_S1024x1408_S1024x1408_S1024x1408_S1024x5632_d1 : (⟨S1024x5632, .f32⟩ : BufTy).Contents (Elt Ideal)))

/-- It is the four shards' products. -/
theorem refProduct_at (a b : FVec Ideal S8192x2816 .bf16) (w : FVec Ideal S4x4x1024x1408 .bf16) (r : Fin 8192) (j : Fin 1024) :
    refProduct a b w (ix2 r j)
      = (((∑ k, (a (ix2 r (half0 k)) : EReal) * (w (ix4 0 1 j k) : EReal)) + ∑ k, (a (ix2 r (half1 k)) : EReal) * (w (ix4 1 1 j k) : EReal))
        + ∑ k, (b (ix2 r (half0 k)) : EReal) * (w (ix4 2 1 j k) : EReal)) + ∑ k, (b (ix2 r (half1 k)) : EReal) * (w (ix4 3 1 j k) : EReal) := by
  pointwise [refProduct, dot_S8192x5632_S1024x5632_S8192x1024_1_1_0_0_n_n, half0, half1]
  rw [Cert.Sums.sum_four 1408 _ (by rfl)]
  have hk : ∀ k : Fin 1408, k.val < 1408 := fun k => k.isLt
  refine congrArg₂ (· + ·) (congrArg₂ (· + ·) (congrArg₂ (· + ·) ?_ ?_) ?_) ?_ <;> refine Finset.sum_congr rfl fun k _ => ?_ <;> have := hk k
  · rw [dif_pos (by dsimp only; omega), dif_pos (by dsimp only; omega)]
  · rw [dif_pos (by dsimp only; omega), dif_neg (by dsimp only; omega), dif_pos (by dsimp only; omega)]
    simp only [Nat.add_sub_cancel_left]
  · rw [dif_neg (by dsimp only; omega), dif_neg (by dsimp only; omega), dif_neg (by dsimp only; omega), dif_pos (by dsimp only; omega)]
    refine congrArg₂ (fun x y : EReal => x * y) (congrArg (fun i => (b (ix2 r i) : EReal)) (Fin.ext (by dsimp only; omega))) (congrArg (fun i => (w (ix4 2 1 j i) : EReal)) (Fin.ext (by dsimp only; omega)))
  · rw [dif_neg (by dsimp only; omega), dif_neg (by dsimp only; omega), dif_neg (by dsimp only; omega), dif_neg (by dsimp only; omega)]
    refine congrArg₂ (fun x y : EReal => x * y) (congrArg (fun i => (b (ix2 r i) : EReal)) (Fin.ext (by dsimp only; omega))) (congrArg (fun i => (w (ix4 3 1 j i) : EReal)) (Fin.ext (by dsimp only; omega)))

end Reference

/-! ## The claim -/

open Cert.Kernel2Ideal Idealize.ShloMosaic

attribute [local instance] Cert.Kernel2Ideal.Gen.facts Cert.Reference2Ideal.Gen.facts

theorem agree : Cert.algebraic_Kernel2Ideal_Reference2Ideal := by
  intro m g m' g' hp ha
  refine ⟨_, Cert.Kernel2Ideal.Value.run_blocks m g,
    (θ_run Cert.Reference2Ideal.defs _ _).mono (fun r h c => ?_) (Cert.Reference2Ideal.Value.run m' g')⟩
  obtain ⟨h0, hk⟩ := h c
  obtain ⟨e0, e1, e2⟩ := ha c
  refine ⟨h0.trans ?_, hk⟩
  rw [e0, e1, e2]
  funext i
  refine Eq.trans ?_ ((final m c i).trans (product_eq m c _ _)).symm
  rw [← ix2_eta i]
  exact refProduct_at _ _ _ (i 0) (i 1)

end Cert.InputGrad

end
-- ==== Proof.WeightGradClaim.lean ====
/-
  The gradient of the up projection's weights: the kernel adds, over four grid points, the products of 2048 rows each; the reference takes one product over
  all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel3Ideal.Value
public import proofs.«01_k».proof.Proof.Gen.Reference3Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.WeightGrad

open Cert.Sums Cert.Kernel3Ideal Cert.Kernel3Ideal.Gen Idealize.ShloMosaic Idealize.ShloMosaic.TcCoe Idealize.SL.Sem

/-! ## One grid point -/

section Case
variable (c : Dev nD) (i : grid0.Coords)
variable (a1 : Memref sig .tc .vmem S2048x1024 .bf16) (h1 : a1.IsWhole) (a2 : Memref sig .tc .vmem S2048x1408 .bf16) (h2 : a2.IsWhole) (a3 : Memref sig .tc .vmem S1024x1408 .f32) (h3 : a3.IsWhole)
variable (x0 : Vec Ideal S2048x1024 .bf16) (x1 : Vec Ideal S2048x1408 .bf16) (xo : Vec Ideal S1024x1408 .f32)

/-- The block's product. -/
theorem pay1_at (p : Fin 1024) (q : Fin 1408) :
    k0_pay1 x0 x1 (ix2 p q) = ∑ r : Fin 2048, (x0 (ix2 r p) : EReal) * (x1 (ix2 r q) : EReal) := by
  pointwise [k0_pay1, dot_S2048x1024_S2048x1408_S1024x1408_0_0_1_1_n_n]

/-- The block's product added to what the buffer held. -/
theorem pay2_at (p : Fin 1024) (q : Fin 1408) :
    k0_pay2 x0 x1 xo (ix2 p q) = (xo (ix2 p q) : EReal) + ∑ r : Fin 2048, (x0 (ix2 r p) : EReal) * (x1 (ix2 r q) : EReal) := by
  have h := pay1_at x0 x1 p q
  pointwise [k0_pay2, h]

/-- The first of the four points leaves the product. -/
theorem out_A (hc0 : cond0_0 i) (hc1 : ¬cond0_1 i) : out0_A_2 c i a1 h1 a2 h2 a3 h3 hc0 hc1 x0 x1 = k0_pay1 x0 x1 := by
  frame_out

/-- A later point adds its product. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two operands. -/
def left (r : Fin 8192) (k : Fin 1024) : EReal := m ((c : Thread nD τ).loc main_arg0) (ix2 r k)
def right (r : Fin 8192) (n : Fin 2816) : EReal := m ((c : Thread nD τ).loc main_arg1) (ix2 r n)

/-- Row `q` of grid point `t`'s blocks, and the columns of its operands' blocks. -/
def row (t : Fin cfg0.N) (q : Fin 2048) : Fin 8192 := ⟨2048 * (t.val % 4) + q.val, by have := q.isLt; omega⟩
def col0 (t : Fin cfg0.N) (p : Fin 1024) : Fin 1024 := ⟨p.val, by have := t.isLt; have : cfg0.N = 8 := N_0; have := p.isLt; omega⟩
def col1 (t : Fin cfg0.N) (p : Fin 1408) : Fin 2816 := ⟨1408 * (t.val / 4) + p.val, by have := t.isLt; have : cfg0.N = 8 := N_0; have := p.isLt; omega⟩

theorem index_at : ∀ t : Fin grid0.N, (win0_0.index t 0 = t.val % 4 ∧ win0_0.index t 1 = 0) ∧ (win0_1.index t 0 = t.val % 4 ∧ win0_1.index t 1 = t.val / 4)
    ∧ (win0_2.index t 0 = 0 ∧ win0_2.index t 1 = t.val / 4) := by
  decide +kernel

theorem iblk0 (t : Fin cfg0.N) (q : Fin 2048) (p : Fin 1024) : iblk m c 0 t (ix2 q p) = left m c (row t q) (col0 t p) := by
  obtain ⟨h0, h1⟩ := (index_at t).1
  unfold left
  rw [← V_main_arg0 m c]
  unfold iblk
  exact congrArg (V m c main_arg0) (at2 _ (spot 2048 q.val h0 (by show _ = 2048 * (t.val % 4) + q.val; omega)) (spot 1024 p.val h1 (by show _ = p.val; omega)))

theorem iblk1 (t : Fin cfg0.N) (q : Fin 2048) (p : Fin 1408) : iblk m c 1 t (ix2 q p) = right m c (row t q) (col1 t p) := by
  obtain ⟨h0, h1⟩ := (index_at t).2.1
  unfold right
  rw [← V_main_arg1 m c]
  unfold iblk
  exact congrArg (V m c main_arg1) (at2 _ (spot 2048 q.val h0 (by show _ = 2048 * (t.val % 4) + q.val; omega)) (spot 1408 p.val h1 (by show _ = 1408 * (t.val / 4) + p.val; omega)))

/-! ## The array -/

/-- The running sum after a point: the products of the rows so far. -/
theorem outs (p : Fin 1024) (q : Fin 1408) : ∀ (n : ℕ) (hn : n < cfg0.N),
    outsAt0 m c n hn (ix2 p q) = upTo (fun r => left m c r (col0 ⟨n, hn⟩ p) * right m c r (col1 ⟨n, hn⟩ q)) (2048 * (n % 4 + 1)) := by
  intro n
  induction n with
  | zero =>
    intro hn
    have hA := outsAt0_A m c ⟨0, hn⟩ (by dsimp only) (by simp)
    dsimp only at hA
    rw [hA, out_A, pay1_at]
    simp only [iblk0, iblk1]
    rw [show 2048 * (0 % 4 + 1) = 0 + 2048 from rfl, upTo_add _ _ 2048 (by omega), upTo_zero, zero_add]
    rfl
  | succ n ih =>
    intro hn
    have hN : cfg0.N = 8 := N_0
    by_cases h : (n + 1) % 4 = 0
    · have hA := outsAt0_A m c ⟨n + 1, hn⟩ (by dsimp only; omega) (by dsimp only; omega)
      dsimp only at hA
      rw [hA, out_A, pay1_at]
      simp only [iblk0, iblk1]
      rw [h, show 2048 * (0 + 1) = 0 + 2048 from rfl, upTo_add _ _ 2048 (by omega), upTo_zero, zero_add]
      refine Finset.sum_congr rfl fun r _ => ?_
      have e : row ⟨n + 1, hn⟩ r = ⟨0 + r.val, by have := r.isLt; omega⟩ := Fin.ext (by show 2048 * ((n + 1) % 4) + r.val = 0 + r.val; omega)
      rw [e]
    · have hB := outsAt0_B m c ⟨n + 1, hn⟩ (by dsimp only; omega) (by dsimp only; omega)
      dsimp only at hB
      rw [hB, out_B, pay2_at]
      simp only [iblk0, iblk1]
      have e0 : col0 ⟨n, Nat.lt_of_succ_lt hn⟩ p = col0 ⟨n + 1, hn⟩ p := Fin.ext (by show p.val = p.val; omega)
      have e1 : col1 ⟨n, Nat.lt_of_succ_lt hn⟩ q = col1 ⟨n + 1, hn⟩ q := Fin.ext (by show 1408 * (n / 4) + q.val = 1408 * ((n + 1) / 4) + q.val; omega)
      have ih' := ih (Nat.lt_of_succ_lt hn)
      rw [e0, e1] at ih'
      rw [show 2048 * ((n + 1) % 4 + 1) = 2048 * (n % 4 + 1) + 2048 by omega, upTo_add _ _ 2048 (by omega)]
      refine congrArg₂ (· + ·) ih' (Finset.sum_congr rfl fun r _ => ?_)
      have e : row ⟨n + 1, hn⟩ r = ⟨2048 * (n % 4 + 1) + r.val, by have := r.isLt; omega⟩ := Fin.ext (by show 2048 * ((n + 1) % 4) + r.val = 2048 * (n % 4 + 1) + r.val; omega)
      rw [e]

/-- The result: the product over all rows. -/
def product (k : Fin 1024) (n : Fin 2816) : EReal := ∑ r, left m c r k * right m c r n

theorem final (k : Fin 1024) (n : Fin 2816) : (dats m 0 c).arrAt 2 cfg0.N (ix2 k n) = product m c k n := by
  have hN : cfg0.N = 8 := N_0
  refine (dats m 0 c).arrAt_forall_of_cover 2 (fun i v => v = product m c (i 0) (i 1)) (fun t hf y => ?_) (fun i => ?_) (ix2 k n)
  · obtain ⟨h0, h1⟩ := (index_at t).2.2
    have h3 : t.val % 4 = 3 := (flush0_2 t).mp hf
    rw [Value.flushed2]
    have e := outs m c (y 0) (y 1) t.val t.isLt
    have hy : (y : S1024x1408.Idx) = ix2 (y 0) (y 1) := eq_ix2 _
    refine Eq.trans (?_ : _ = _) (e.trans ?_)
    · exact congrArg (outsAt0 m c t.val t.isLt) hy
    · have e0 : col0 t (y 0) = ((cfg0.win 2).blk t).view.emb y 0 := Fin.ext (by
        show (y 0).val = win0_2.index t 0 * 1024 + 1 * (y 0).val; rw [h0]; omega)
      have e1 : col1 t (y 1) = ((cfg0.win 2).blk t).view.emb y 1 := Fin.ext (by
        show 1408 * (t.val / 4) + (y 1).val = win0_2.index t 1 * 1408 + 1 * (y 1).val; rw [h1]; omega)
      rw [h3, show 2048 * (3 + 1) = 8192 from rfl, upTo_all, e0, e1]
      rfl
  · have hi0 : (i 0 : Nat) < 1024 := (i 0).isLt
    have hi1 : (i 1 : Nat) < 2816 := (i 1).isLt
    have ht : 4 * ((i 1 : Nat) / 1408) + 3 < cfg0.N := by omega
    obtain ⟨h0, h1⟩ := (index_at ⟨4 * ((i 1 : Nat) / 1408) + 3, ht⟩).2.2
    refine ⟨⟨4 * ((i 1 : Nat) / 1408) + 3, ht⟩, (flush0_2 _).mpr (by dsimp only; omega), ?_⟩
    show i ∈ ((View.whole main_v0).slice (win0_2.rect ⟨4 * ((i 1 : Nat) / 1408) + 3, ht⟩)).set
    rw [View.set_slice_whole, Rect.mem_set_unit]
    intro a
    match a with
    | ⟨0, _⟩ => exact span 1024 (i 0).val h0 (by dsimp only; omega)
    | ⟨1, _⟩ => exact span 1408 (i 1).val h1 (by dsimp only; omega)

/-! ## The reference -/

/-- The reference's product, of its own arrays. -/
def refProduct (x : FVec Ideal S8192x1024 .bf16) (d : FVec Ideal S8192x2816 .bf16) : FVec Ideal S1024x2816 .f32 :=
  transpose S1024x2816 [1, 0] (Host.dotGeneral Cert.Reference3Ideal.dot_S8192x2816_S8192x1024_S2816x1024_0_0_1_1_n_n none (extf .f32 d Cert.Reference3Ideal.Gen.bitsLt_bf16_f32)
    (extf .f32 x Cert.Reference3Ideal.Gen.bitsLt_bf16_f32)) Cert.Reference3Ideal.Gen.transposes_S2816x1024_S1024x2816_1_0

theorem refProduct_at (x : FVec Ideal S8192x1024 .bf16) (d : FVec Ideal S8192x2816 .bf16) (k : Fin 1024) (n : Fin 2816) :
    refProduct x d (ix2 k n) = ∑ r : Fin 8192, (x (ix2 r k) : EReal) * (d (ix2 r n) : EReal) := by
  pointwise [refProduct, Cert.Reference3Ideal.dot_S8192x2816_S8192x1024_S2816x1024_0_0_1_1_n_n]
  exact Finset.sum_congr rfl fun r _ => mul_comm _ _

/-! ## The claim -/

attribute [local instance] Cert.Kernel3Ideal.Gen.facts Cert.Reference3Ideal.Gen.facts

theorem agree : Cert.algebraic_Kernel3Ideal_Reference3Ideal := by
  intro m g m' g' hp ha
  refine ⟨_, Cert.Kernel3Ideal.Value.run_blocks m g,
    (θ_run Cert.Reference3Ideal.defs _ _).mono (fun r h c => ?_) (Cert.Reference3Ideal.Value.run m' g')⟩
  obtain ⟨h0, hk⟩ := h c
  obtain ⟨e0, e1⟩ := ha c
  refine ⟨h0.trans ?_, hk⟩
  rw [e0, e1]
  funext i; rw [← ix2_eta i]
  exact (refProduct_at _ _ (i 0) (i 1)).trans (final m c (i 0) (i 1)).symm

end Cert.WeightGrad

end
-- ==== Proof.DownGradClaim.lean ====
/-
  The gradient of the down projection's weights: the kernel adds, over four grid points, the products of 2048 rows each; the reference takes one product over
  all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel4Ideal.Value
public import proofs.«01_k».proof.Proof.Gen.Reference4Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.DownGrad

open Cert.Sums Cert.Kernel4Ideal Cert.Kernel4Ideal.Gen Idealize.ShloMosaic Idealize.ShloMosaic.TcCoe Idealize.SL.Sem

/-! ## One grid point -/

section Case
variable (c : Dev nD) (i : grid0.Coords)
variable (a1 : Memref sig .tc .vmem S2048x1408 .bf16) (h1 : a1.IsWhole) (a2 : Memref sig .tc .vmem S2048x1024 .bf16) (h2 : a2.IsWhole) (a3 : Memref sig .tc .vmem S1408x1024 .f32) (h3 : a3.IsWhole)
variable (x0 : Vec Ideal S2048x1408 .bf16) (x1 : Vec Ideal S2048x1024 .bf16) (xo : Vec Ideal S1408x1024 .f32)

/-- The block's product. -/
theorem pay1_at (p : Fin 1408) (q : Fin 1024) :
    k0_pay1 x0 x1 (ix2 p q) = ∑ r : Fin 2048, (x0 (ix2 r p) : EReal) * (x1 (ix2 r q) : EReal) := by
  pointwise [k0_pay1, dot_S2048x1408_S2048x1024_S1408x1024_0_0_1_1_n_n]

/-- The block's product added to what the buffer held. -/
theorem pay2_at (p : Fin 1408) (q : Fin 1024) :
    k0_pay2 x0 x1 xo (ix2 p q) = (xo (ix2 p q) : EReal) + ∑ r : Fin 2048, (x0 (ix2 r p) : EReal) * (x1 (ix2 r q) : EReal) := by
  have h := pay1_at x0 x1 p q
  pointwise [k0_pay2, h]

/-- The first of the four points leaves the product. -/
theorem out_A (hc0 : cond0_0 i) (hc1 : ¬cond0_1 i) : out0_A_2 c i a1 h1 a2 h2 a3 h3 hc0 hc1 x0 x1 = k0_pay1 x0 x1 := by
  frame_out

/-- A later point adds its product. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two operands. -/
def left (r : Fin 8192) (k : Fin 2816) : EReal := m ((c : Thread nD τ).loc main_arg0) (ix2 r k)
def right (r : Fin 8192) (n : Fin 1024) : EReal := m ((c : Thread nD τ).loc main_arg1) (ix2 r n)

/-- Row `q` of grid point `t`'s blocks, and the columns of its operands' blocks. -/
def row (t : Fin cfg0.N) (q : Fin 2048) : Fin 8192 := ⟨2048 * (t.val % 4) + q.val, by have := q.isLt; omega⟩
def col0 (t : Fin cfg0.N) (p : Fin 1408) : Fin 2816 := ⟨1408 * (t.val / 4) + p.val, by have := t.isLt; have : cfg0.N = 8 := N_0; have := p.isLt; omega⟩
def col1 (t : Fin cfg0.N) (p : Fin 1024) : Fin 1024 := ⟨p.val, by have := t.isLt; have : cfg0.N = 8 := N_0; have := p.isLt; omega⟩

theorem index_at : ∀ t : Fin grid0.N, (win0_0.index t 0 = t.val % 4 ∧ win0_0.index t 1 = t.val / 4) ∧ (win0_1.index t 0 = t.val % 4 ∧ win0_1.index t 1 = 0)
    ∧ (win0_2.index t 0 = t.val / 4 ∧ win0_2.index t 1 = 0) := by
  decide +kernel

theorem iblk0 (t : Fin cfg0.N) (q : Fin 2048) (p : Fin 1408) : iblk m c 0 t (ix2 q p) = left m c (row t q) (col0 t p) := by
  obtain ⟨h0, h1⟩ := (index_at t).1
  unfold left
  rw [← V_main_arg0 m c]
  unfold iblk
  exact congrArg (V m c main_arg0) (at2 _ (spot 2048 q.val h0 (by show _ = 2048 * (t.val % 4) + q.val; omega)) (spot 1408 p.val h1 (by show _ = 1408 * (t.val / 4) + p.val; omega)))

theorem iblk1 (t : Fin cfg0.N) (q : Fin 2048) (p : Fin 1024) : iblk m c 1 t (ix2 q p) = right m c (row t q) (col1 t p) := by
  obtain ⟨h0, h1⟩ := (index_at t).2.1
  unfold right
  rw [← V_main_arg1 m c]
  unfold iblk
  exact congrArg (V m c main_arg1) (at2 _ (spot 2048 q.val h0 (by show _ = 2048 * (t.val % 4) + q.val; omega)) (spot 1024 p.val h1 (by show _ = p.val; omega)))

/-! ## The array -/

/-- The running sum after a point: the products of the rows so far. -/
theorem outs (p : Fin 1408) (q : Fin 1024) : ∀ (n : ℕ) (hn : n < cfg0.N),
    outsAt0 m c n hn (ix2 p q) = upTo (fun r => left m c r (col0 ⟨n, hn⟩ p) * right m c r (col1 ⟨n, hn⟩ q)) (2048 * (n % 4 + 1)) := by
  intro n
  induction n with
  | zero =>
    intro hn
    have hA := outsAt0_A m c ⟨0, hn⟩ (by dsimp only) (by simp)
    dsimp only at hA
    rw [hA, out_A, pay1_at]
    simp only [iblk0, iblk1]
    rw [show 2048 * (0 % 4 + 1) = 0 + 2048 from rfl, upTo_add _ _ 2048 (by omega), upTo_zero, zero_add]
    rfl
  | succ n ih =>
    intro hn
    have hN : cfg0.N = 8 := N_0
    by_cases h : (n + 1) % 4 = 0
    · have hA := outsAt0_A m c ⟨n + 1, hn⟩ (by dsimp only; omega) (by dsimp only; omega)
      dsimp only at hA
      rw [hA, out_A, pay1_at]
      simp only [iblk0, iblk1]
      rw [h, show 2048 * (0 + 1) = 0 + 2048 from rfl, upTo_add _ _ 2048 (by omega), upTo_zero, zero_add]
      refine Finset.sum_congr rfl fun r _ => ?_
      have e : row ⟨n + 1, hn⟩ r = ⟨0 + r.val, by have := r.isLt; omega⟩ := Fin.ext (by show 2048 * ((n + 1) % 4) + r.val = 0 + r.val; omega)
      rw [e]
    · have hB := outsAt0_B m c ⟨n + 1, hn⟩ (by dsimp only; omega) (by dsimp only; omega)
      dsimp only at hB
      rw [hB, out_B, pay2_at]
      simp only [iblk0, iblk1]
      have e0 : col0 ⟨n, Nat.lt_of_succ_lt hn⟩ p = col0 ⟨n + 1, hn⟩ p := Fin.ext (by show 1408 * (n / 4) + p.val = 1408 * ((n + 1) / 4) + p.val; omega)
      have e1 : col1 ⟨n, Nat.lt_of_succ_lt hn⟩ q = col1 ⟨n + 1, hn⟩ q := Fin.ext (by show q.val = q.val; omega)
      have ih' := ih (Nat.lt_of_succ_lt hn)
      rw [e0, e1] at ih'
      rw [show 2048 * ((n + 1) % 4 + 1) = 2048 * (n % 4 + 1) + 2048 by omega, upTo_add _ _ 2048 (by omega)]
      refine congrArg₂ (· + ·) ih' (Finset.sum_congr rfl fun r _ => ?_)
      have e : row ⟨n + 1, hn⟩ r = ⟨2048 * (n % 4 + 1) + r.val, by have := r.isLt; omega⟩ := Fin.ext (by show 2048 * ((n + 1) % 4) + r.val = 2048 * (n % 4 + 1) + r.val; omega)
      rw [e]

/-- The result: the product over all rows. -/
def product (k : Fin 2816) (n : Fin 1024) : EReal := ∑ r, left m c r k * right m c r n

theorem final (k : Fin 2816) (n : Fin 1024) : (dats m 0 c).arrAt 2 cfg0.N (ix2 k n) = product m c k n := by
  have hN : cfg0.N = 8 := N_0
  refine (dats m 0 c).arrAt_forall_of_cover 2 (fun i v => v = product m c (i 0) (i 1)) (fun t hf y => ?_) (fun i => ?_) (ix2 k n)
  · obtain ⟨h0, h1⟩ := (index_at t).2.2
    have h3 : t.val % 4 = 3 := (flush0_2 t).mp hf
    rw [Value.flushed2]
    have e := outs m c (y 0) (y 1) t.val t.isLt
    have hy : (y : S1408x1024.Idx) = ix2 (y 0) (y 1) := eq_ix2 _
    refine Eq.trans (?_ : _ = _) (e.trans ?_)
    · exact congrArg (outsAt0 m c t.val t.isLt) hy
    · have e0 : col0 t (y 0) = ((cfg0.win 2).blk t).view.emb y 0 := Fin.ext (by
        show 1408 * (t.val / 4) + (y 0).val = win0_2.index t 0 * 1408 + 1 * (y 0).val; rw [h0]; omega)
      have e1 : col1 t (y 1) = ((cfg0.win 2).blk t).view.emb y 1 := Fin.ext (by
        show (y 1).val = win0_2.index t 1 * 1024 + 1 * (y 1).val; rw [h1]; omega)
      rw [h3, show 2048 * (3 + 1) = 8192 from rfl, upTo_all, e0, e1]
      rfl
  · have hi0 : (i 0 : Nat) < 2816 := (i 0).isLt
    have hi1 : (i 1 : Nat) < 1024 := (i 1).isLt
    have ht : 4 * ((i 0 : Nat) / 1408) + 3 < cfg0.N := by omega
    obtain ⟨h0, h1⟩ := (index_at ⟨4 * ((i 0 : Nat) / 1408) + 3, ht⟩).2.2
    refine ⟨⟨4 * ((i 0 : Nat) / 1408) + 3, ht⟩, (flush0_2 _).mpr (by dsimp only; omega), ?_⟩
    show i ∈ ((View.whole main_v0).slice (win0_2.rect ⟨4 * ((i 0 : Nat) / 1408) + 3, ht⟩)).set
    rw [View.set_slice_whole, Rect.mem_set_unit]
    intro a
    match a with
    | ⟨0, _⟩ => exact span 1408 (i 0).val h0 (by dsimp only; omega)
    | ⟨1, _⟩ => exact span 1024 (i 1).val h1 (by dsimp only; omega)

/-! ## The reference -/

/-- The reference's product, of its own arrays. -/
def refProduct (x : FVec Ideal S8192x2816 .bf16) (d : FVec Ideal S8192x1024 .bf16) : FVec Ideal S2816x1024 .f32 :=
  transpose S2816x1024 [1, 0] (Host.dotGeneral Cert.Reference4Ideal.dot_S8192x1024_S8192x2816_S1024x2816_0_0_1_1_n_n none (extf .f32 d Cert.Reference4Ideal.Gen.bitsLt_bf16_f32)
    (extf .f32 x Cert.Reference4Ideal.Gen.bitsLt_bf16_f32)) Cert.Reference4Ideal.Gen.transposes_S1024x2816_S2816x1024_1_0

theorem refProduct_at (x : FVec Ideal S8192x2816 .bf16) (d : FVec Ideal S8192x1024 .bf16) (k : Fin 2816) (n : Fin 1024) :
    refProduct x d (ix2 k n) = ∑ r : Fin 8192, (x (ix2 r k) : EReal) * (d (ix2 r n) : EReal) := by
  pointwise [refProduct, Cert.Reference4Ideal.dot_S8192x1024_S8192x2816_S1024x2816_0_0_1_1_n_n]
  exact Finset.sum_congr rfl fun r _ => mul_comm _ _

/-! ## The claim -/

attribute [local instance] Cert.Kernel4Ideal.Gen.facts Cert.Reference4Ideal.Gen.facts

theorem agree : Cert.algebraic_Kernel4Ideal_Reference4Ideal := by
  intro m g m' g' hp ha
  refine ⟨_, Cert.Kernel4Ideal.Value.run_blocks m g,
    (θ_run Cert.Reference4Ideal.defs _ _).mono (fun r h c => ?_) (Cert.Reference4Ideal.Value.run m' g')⟩
  obtain ⟨h0, hk⟩ := h c
  obtain ⟨e0, e1⟩ := ha c
  refine ⟨h0.trans ?_, hk⟩
  rw [e0, e1]
  funext i; rw [← ix2_eta i]
  exact (refProduct_at _ _ (i 0) (i 1)).trans (final m c (i 0) (i 1)).symm

end Cert.DownGrad

end
-- ==== Proof.UpClaim.lean ====
/-
  The up projection: the kernel writes the product with one weight shard after the other; the reference takes one product
  with the joined shards.
-/
module

public import proofs.«01_k».proof.Defs
public import proofs.«01_k».proof.Proof.BlockAt
public import proofs.«01_k».proof.Proof.Gen.Kernel5Ideal.Value
public import proofs.«01_k».proof.Proof.Gen.Reference5Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.Up

section Kernel

open Cert.Kernel5Ideal Cert.Kernel5Ideal.Gen Idealize.ShloMosaic Idealize.ShloMosaic.TcCoe Idealize.SL.Sem

theorem hz : (![0, 0] : Fin 2 → Nat) = fun _ => 0 := funext fun a => by fin_cases a <;> rfl
theorem hz4 : (![0, 0, 0, 0] : Fin 4 → Nat) = fun _ => 0 := funext fun a => by fin_cases a <;> rfl

/-- A block of the result. -/
theorem out_at (x0 : Vec Ideal S1024x1024 .bf16) (x1 : Vec Ideal S1x1x1024x1408 .bf16) (p : Fin 1024) (q : Fin 1408) :
    out0_2 x0 x1 (ix2 p q) = ∑ k : Fin 1024, (x0 (ix2 p k) : EReal) * (x1 (ix4 0 0 k q) : EReal) := by
  unfold out0_2
  rw [View.canon_unit_zero hz]
  simp only [View.ld_unit_zero (S := S1024x1024) hz, View.ld_unit_zero (S := S1x1x1024x1408) hz4]
  pointwise [k0_pay1, dot_S1024x1024_S1024x1408_S1024x1408_1_0_0_1_n_n]

variable (m : (ℓ : Loc nD τ sig) → Buf (Elt Ideal) ℓ) (c : Dev nD)

/-- The rows, and the weights of a shard. -/
def left (r : Fin 8192) (k : Fin 1024) : EReal := m ((c : Thread nD τ).loc main_arg0) (ix2 r k)
def weight (s : Fin 4) (k : Fin 1024) (n : Fin 1408) : EReal := m ((c : Thread nD τ).loc main_arg1) (ix4 s 1 k n)

/-- The rows of grid point `t`'s block, and its shard. -/
def row (t : Fin cfg0.N) (p : Fin 1024) : Fin 8192 := ⟨1024 * (t.val / 4) + p.val, by have := t.isLt; have : cfg0.N = 32 := N_0; have := p.isLt; omega⟩
def shard (t : Fin cfg0.N) : Fin 4 := ⟨t.val % 4, by omega⟩

/-- The shard of a column, and the column in it. -/
def shardOf (n : Fin 5632) : Fin 4 := ⟨n.val / 1408, by have := n.isLt; omega⟩
def colOf (n : Fin 5632) : Fin 1408 := ⟨n.val % 1408, by omega⟩

theorem index0 : ∀ t : Fin grid0.N, win0_0.index t 0 = t.val / 4 ∧ win0_0.index t 1 = 0 := by decide +kernel
theorem index1 : ∀ t : Fin grid0.N, win0_1.index t 0 = t.val % 4 ∧ win0_1.index t 1 = 1 ∧ win0_1.index t 2 = 0 ∧ win0_1.index t 3 = 0 := by decide +kernel
theorem index2 : ∀ t : Fin grid0.N, win0_2.index t 0 = t.val / 4 ∧ win0_2.index t 1 = t.val % 4 := by decide +kernel

theorem iblk0 (t : Fin cfg0.N) (p : Fin 1024) (k : Fin 1024) : iblk m c 0 t (ix2 p k) = left m c (row t p) k := by
  obtain ⟨h0, h1⟩ := index0 t
  unfold left
  rw [← V_main_arg0 m c]
  unfold iblk
  exact congrArg (V m c main_arg0) (at2 _ (spot 1024 p.val h0 (by show _ = 1024 * (t.val / 4) + p.val; omega)) (spot 1024 k.val h1 (by show _ = k.val; omega)))

theorem iblk1 (t : Fin cfg0.N) (k : Fin 1024) (q : Fin 1408) : iblk m c 1 t (ix4 0 0 k q) = weight m c (shard t) k q := by
  obtain ⟨h0, h1, h2, h3⟩ := index1 t
  unfold weight
  rw [← V_main_arg1 m c]
  unfold iblk
  rw [View.read_apply]
  show V m c main_arg1 _ = V m c main_arg1 _
  congr 1; funext a; apply Fin.ext
  match a with
  | ⟨0, _⟩ => show win0_1.index t 0 * 1 + 1 * 0 = t.val % 4; rw [h0]; omega
  | ⟨1, _⟩ => show win0_1.index t 1 * 1 + 1 * 0 = 1; rw [h1]
  | ⟨2, _⟩ => show win0_1.index t 2 * 1024 + 1 * k.val = k.val; rw [h2]; omega
  | ⟨3, _⟩ => show win0_1.index t 3 * 1408 + 1 * q.val = q.val; rw [h3]; omega

/-- The result: the product with the column's shard. -/
def product (r : Fin 8192) (n : Fin 5632) : EReal := ∑ k, left m c r k * weight m c (shardOf n) k (colOf n)

/-- The block of a grid point holds the products. -/
theorem block (t : Fin cfg0.N) (p : Fin 1024) (q : Fin 1408) (n : Fin 5632) (hn : n.val = 1408 * (t.val % 4) + q.val) :
    out0_2 (iblk m c 0 t) (iblk m c 1 t) (ix2 p q) = product m c (row t p) n := by
  have e0 : shard t = shardOf n := Fin.ext (by show t.val % 4 = n.val / 1408; have := q.isLt; omega)
  have e1 : q = colOf n := Fin.ext (by show q.val = n.val % 1408; have := q.isLt; omega)
  rw [out_at]
  simp only [iblk0, iblk1]
  rw [e0]
  unfold product
  rw [← e1]

theorem product_eq (r : Fin 8192) (n : Fin 5632) : product m c r n = ∑ k, left m c r k * weight m c (shardOf n) k (colOf n) := rfl

attribute [local irreducible] product out0_2 iblk

theorem final : ∀ i, (dats m 0 c).arrAt 2 cfg0.N i = product m c (i 0) (i 1) := by
  have hN : cfg0.N = 32 := N_0
  refine (dats m 0 c).arrAt_forall_of_cover 2 (fun i v => v = product m c (i 0) (i 1)) (fun t hf y => ?_) (fun i => ?_)
  · obtain ⟨h0, h1⟩ := index2 t
    rw [Value.flushed2]
    have e1 : (((cfg0.win 2).blk t).view.emb y 1 : Nat) = 1408 * (t.val % 4) + (y 1).val := by
      show win0_2.index t 1 * 1408 + 1 * (y 1).val = _; rw [h1]; omega
    have e := block m c t (y 0) (y 1) (((cfg0.win 2).blk t).view.emb y 1) e1
    have hy : (y : S1024x1408.Idx) = ix2 (y 0) (y 1) := eq_ix2 _
    refine Eq.trans (?_ : _ = _) (e.trans ?_)
    · exact congrArg (out0_2 (iblk m c 0 t) (iblk m c 1 t)) hy
    · have e0 : row t (y 0) = ((cfg0.win 2).blk t).view.emb y 0 := Fin.ext (by
        show 1024 * (t.val / 4) + (y 0).val = win0_2.index t 0 * 1024 + 1 * (y 0).val; rw [h0]; omega)
      rw [e0]
  · have hi0 : (i 0 : Nat) < 8192 := (i 0).isLt
    have hi1 : (i 1 : Nat) < 5632 := (i 1).isLt
    have ht : 4 * ((i 0 : Nat) / 1024) + (i 1 : Nat) / 1408 < cfg0.N := by omega
    obtain ⟨h0, h1⟩ := index2 ⟨4 * ((i 0 : Nat) / 1024) + (i 1 : Nat) / 1408, ht⟩
    refine ⟨⟨4 * ((i 0 : Nat) / 1024) + (i 1 : Nat) / 1408, ht⟩, flush0_2 _, ?_⟩
    show i ∈ ((View.whole main_v0).slice (win0_2.rect ⟨4 * ((i 0 : Nat) / 1024) + (i 1 : Nat) / 1408, ht⟩)).set
    rw [View.set_slice_whole, Rect.mem_set_unit]
    intro a
    match a with
    | ⟨0, _⟩ => exact span 1024 (i 0).val h0 (by dsimp only; omega)
    | ⟨1, _⟩ => exact span 1408 (i 1).val h1 (by dsimp only; omega)

end Kernel

/-! ## The reference -/

section Reference

open Cert.Reference5Ideal Cert.Reference5Ideal.Gen Idealize.ShloMosaic Idealize.ShloMosaic.TcCoe

/-- The reference's product with the joined shards. -/
def refProduct (x : FVec Ideal S8192x1024 .bf16) (w : FVec Ideal S4x4x1024x1408 .bf16) : FVec Ideal S8192x5632 .bf16 :=
  truncf .bf16 (Host.dotGeneral (φ₁ := .f32) (φ₂ := .f32) dot_S8192x1024_S1024x5632_S8192x5632_1_0_0_1_n_n none (extf .f32 x bitsLt_bf16_f32) ((concatenate S1024x5632 1 [⟨S1024x1408, ((extf .f32 (shapeCast _ (extractStridedSlice S1x1x1024x1408 ![0, 1, 0, 0] w slices_S4x4x1024x1408_S1x1x1024x1408_0_1_0_0) shapeCasts_S1x1x1024x1408_S1024x1408) bitsLt_bf16_f32) : (⟨S1024x1408, .f32⟩ : BufTy).Contents (Elt Ideal))⟩, ⟨S1024x1408, ((extf .f32 (shapeCast _ (extractStridedSlice S1x1x1024x1408 ![1, 1, 0, 0] w slices_S4x4x1024x1408_S1x1x1024x1408_1_1_0_0) shapeCasts_S1x1x1024x1408_S1024x1408) bitsLt_bf16_f32) : (⟨S1024x1408, .f32⟩ : BufTy).Contents (Elt Ideal))⟩, ⟨S1024x1408, ((extf .f32 (shapeCast _ (extractStridedSlice S1x1x1024x1408 ![2, 1, 0, 0] w slices_S4x4x1024x1408_S1x1x1024x1408_2_1_0_0) shapeCasts_S1x1x1024x1408_S1024x1408) bitsLt_bf16_f32) : (⟨S1024x1408, .f32⟩ : BufTy).Contents (Elt Ideal))⟩, ⟨S1024x1408, ((extf .f32 (shapeCast _ (extractStridedSlice S1x1x1024x1408 ![3, 1, 0, 0] w slices_S4x4x1024x1408_S1x1x1024x1408_3_1_0_0) shapeCasts_S1x1x1024x1408_S1024x1408) bitsLt_bf16_f32) : (⟨S1024x1408, .f32⟩ : BufTy).Contents (Elt Ideal))⟩] concatenates_S1024x1408_S1024x1408_S1024x1408_S1024x1408_S1024x5632_d1 : (⟨S1024x5632, .f32⟩ : BufTy).Contents (Elt Ideal)))) bitsLt_bf16_f32

/-- It is the product with the column's shard. -/
theorem refProduct_at (x : FVec Ideal S8192x1024 .bf16) (w : FVec Ideal S4x4x1024x1408 .bf16) (r : Fin 8192) (n : Fin 5632) :
    refProduct x w (ix2 r n) = ∑ k, (x (ix2 r k) : EReal) * (w (ix4 (shardOf n) 1 k (colOf n)) : EReal) := by
  pointwise [refProduct, dot_S8192x1024_S1024x5632_S8192x5632_1_0_0_1_n_n]
  have hn := n.isLt
  refine Finset.sum_congr rfl fun k _ => congrArg (fun v : EReal => (x (ix2 r k) : EReal) * v) ?_
  have key : ∀ (s : Fin 4) (q : Fin 1408), s.val = n.val / 1408 → q.val = n.val % 1408 →
      (w (ix4 s 1 k q) : EReal) = w (ix4 (shardOf n) 1 k (colOf n)) := by
    intro s q hs hq
    rw [show s = shardOf n from Fin.ext hs, show q = colOf n from Fin.ext hq]
  split
  · exact key 0 _ (by show 0 = _; omega) (by dsimp only; omega)
  · split
    · exact key 1 _ (by show 1 = _; omega) (by dsimp only; omega)
    · split
      · exact key 2 _ (by show 2 = _; omega) (by dsimp only; omega)
      · exact key 3 _ (by show 3 = _; omega) (by dsimp only; omega)

end Reference

/-! ## The claim -/

open Cert.Kernel5Ideal Idealize.ShloMosaic

attribute [local instance] Cert.Kernel5Ideal.Gen.facts Cert.Reference5Ideal.Gen.facts

theorem agree : Cert.algebraic_Kernel5Ideal_Reference5Ideal := by
  intro m g m' g' hp ha
  refine ⟨_, Cert.Kernel5Ideal.Value.run_blocks m g,
    (θ_run Cert.Reference5Ideal.defs _ _).mono (fun r h c => ?_) (Cert.Reference5Ideal.Value.run m' g')⟩
  obtain ⟨h0, hk⟩ := h c
  obtain ⟨e0, e1⟩ := ha c
  refine ⟨h0.trans ?_, hk⟩
  rw [e0, e1]
  funext i
  refine Eq.trans ?_ ((final m c i).trans (product_eq m c _ _)).symm
  rw [← ix2_eta i]
  exact refProduct_at _ _ (i 0) (i 1)

end Cert.Up

end
-- ==== Proof.GateChunk.lean ====
/-
  The gradient of the gated convolution, one chunk of 128 rows: the kernel's vector operations, read element by element.
-/
module

public import proofs.«01_k».proof.Proof.Gen.Kernel6Ideal.Frame
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.Gate

open Cert.Kernel6Ideal Cert.Kernel6Ideal.Gen Idealize.ShloMosaic Idealize.ShloMosaic.TcCoe Idealize.SL.Sem

/-! ## The chunk's operations -/

/-- The gradient at the gate's argument. -/
def dhGate (g u a : FVec Ideal S144x256 .f32) : FVec Ideal S144x256 .f32 :=
  mulf (mulf a u) (mulf (logistic g) (addf (broadcast S144x256 (Scalar.ofBits .f32 0x3F800000#32)) (mulf g (subf (broadcast S144x256 (Scalar.ofBits .f32 0x3F800000#32)) (logistic g)))))

/-- The gradient at the linear half's argument. -/
def dhLin (g a : FVec Ideal S144x256 .f32) : FVec Ideal S144x256 .f32 := mulf a (mulf g (logistic g))

/-- The chunk's rows two, one and no rows later. -/
def tap2 (d : FVec Ideal S144x256 .f32) : FVec Ideal S128x256 .f32 :=
  extractStridedSlice S128x256 ![0, 0] (dynamicRotate 0 142#32 none d rotates_S144x256_d0) slices_S144x256_o0_0_S128x256
def tap1 (d : FVec Ideal S144x256 .f32) : FVec Ideal S128x256 .f32 :=
  extractStridedSlice S128x256 ![0, 0] (dynamicRotate 0 143#32 none d rotates_S144x256_d0) slices_S144x256_o0_0_S128x256
def tap0 (d : FVec Ideal S144x256 .f32) : FVec Ideal S128x256 .f32 :=
  extractStridedSlice S128x256 ![0, 0] d slices_S144x256_o0_0_S128x256

/-- The gradient at the convolution's input. -/
def spread (w : FVec Ideal S8x256 .f32) (d : FVec Ideal S144x256 .f32) : FVec Ideal S128x256 .f32 :=
  addf (addf (mulf (broadcastTo S128x256 (extractStridedSlice S1x256 ![0, 0] w slices_S8x256_o0_0_S1x256) broadcasts_S1x256_S128x256) (tap2 d))
      (mulf (broadcastTo S128x256 (extractStridedSlice S1x256 ![1, 0] w slices_S8x256_o1_0_S1x256) broadcasts_S1x256_S128x256) (tap1 d)))
    (mulf (broadcastTo S128x256 (extractStridedSlice S1x256 ![2, 0] w slices_S8x256_o2_0_S1x256) broadcasts_S1x256_S128x256) (tap0 d))

/-- The sum over the chunk's rows. -/
def rows (v : FVec Ideal S128x256 .f32) : FVec Ideal S1x256 .f32 :=
  shapeCast S1x256 (multiReduction .add [0] S256 v 0x00000000#32 reduces_S128x256_S256 (.inl rfl) rfl) shapeCasts_S256_S1x256

/-- The chunk's part of the taps' gradient, and of the bias's. -/
def wpart (d : FVec Ideal S144x256 .f32) (x : FVec Ideal S128x256 .f32) : FVec Ideal S8x256 .f32 :=
  concatenate S8x256 0 [⟨S1x256, rows (mulf (tap2 d) x)⟩, ⟨S1x256, rows (mulf (tap1 d) x)⟩, ⟨S1x256, rows (mulf (tap0 d) x)⟩,
    ⟨S5x256, broadcast S5x256 (Scalar.ofBits .f32 0x00000000#32 : Ideal .f32)⟩] concatenates_S1x256_S1x256_S1x256_S5x256_S8x256_d0
def bpart (d : FVec Ideal S144x256 .f32) : FVec Ideal S1x256 .f32 := rows (tap0 d)

/-! ## Their elements -/

theorem dhGate_at (g u a : FVec Ideal S144x256 .f32) (r : Fin 144) (q : Fin 256) :
    dhGate g u a (ix2 r q) = (a (ix2 r q) : EReal) * u (ix2 r q)
      * (Ideal.logistic (g (ix2 r q)) * (1 + (g (ix2 r q) : EReal) * (1 - Ideal.logistic (g (ix2 r q))))) := by
  pointwise [dhGate]

theorem dhLin_at (g a : FVec Ideal S144x256 .f32) (r : Fin 144) (q : Fin 256) :
    dhLin g a (ix2 r q) = (a (ix2 r q) : EReal) * ((g (ix2 r q) : EReal) * Ideal.logistic (g (ix2 r q))) := by
  pointwise [dhLin]

theorem tap2_at (d : FVec Ideal S144x256 .f32) (p : Fin 128) (q : Fin 256) : tap2 d (ix2 p q) = d (ix2 ⟨p.val + 2, by omega⟩ q) := by
  pointwise [tap2]
  have e : (⟨(p.val + 144 - 142) % 144, Nat.mod_lt _ (by decide)⟩ : Fin 144) = ⟨p.val + 2, by omega⟩ :=
    Fin.ext (by show (p.val + 144 - 142) % 144 = p.val + 2; omega)
  rw [e]

theorem tap1_at (d : FVec Ideal S144x256 .f32) (p : Fin 128) (q : Fin 256) : tap1 d (ix2 p q) = d (ix2 ⟨p.val + 1, by omega⟩ q) := by
  pointwise [tap1]
  have e : (⟨(p.val + 144 - 143) % 144, Nat.mod_lt _ (by decide)⟩ : Fin 144) = ⟨p.val + 1, by omega⟩ :=
    Fin.ext (by show (p.val + 144 - 143) % 144 = p.val + 1; omega)
  rw [e]

theorem tap0_at (d : FVec Ideal S144x256 .f32) (p : Fin 128) (q : Fin 256) : tap0 d (ix2 p q) = d (ix2 ⟨p.val, by omega⟩ q) := by
  pointwise [tap0]

theorem spread_at (w : FVec Ideal S8x256 .f32) (d : FVec Ideal S144x256 .f32) (p : Fin 128) (q : Fin 256) :
    spread w d (ix2 p q) = (w (ix2 0 q) : EReal) * d (ix2 ⟨p.val + 2, by omega⟩ q) + (w (ix2 1 q) : EReal) * d (ix2 ⟨p.val + 1, by omega⟩ q)
      + (w (ix2 2 q) : EReal) * d (ix2 ⟨p.val, by omega⟩ q) := by
  have e2 := tap2_at d p q
  have e1 := tap1_at d p q
  have e0 := tap0_at d p q
  pointwise [spread, e2, e1, e0]

theorem rows_at (v : FVec Ideal S128x256 .f32) (q : Fin 256) : rows v (ix2 0 q) = ∑ p : Fin 128, (v (ix2 p q) : EReal) := by
  pointwise [rows]

/-- Rows 0, 1 and 2 are the three taps' sums, the other five are zero. -/
theorem wpart_at (d : FVec Ideal S144x256 .f32) (x : FVec Ideal S128x256 .f32) (q : Fin 256) (e : Fin 8) :
    wpart d x (ix2 e q) = if e.val < 3 then ∑ p : Fin 128, (d (ix2 ⟨p.val + (2 - e.val), by omega⟩ q) : EReal) * x (ix2 p q) else (0 : EReal) := by
  have r2 : rows (mulf (tap2 d) x) (ix2 0 q) = ∑ p : Fin 128, (d (ix2 ⟨p.val + 2, by omega⟩ q) : EReal) * x (ix2 p q) :=
    (rows_at _ q).trans (Finset.sum_congr rfl fun p _ => by rw [← tap2_at d p q]; rfl)
  have r1 : rows (mulf (tap1 d) x) (ix2 0 q) = ∑ p : Fin 128, (d (ix2 ⟨p.val + 1, by omega⟩ q) : EReal) * x (ix2 p q) :=
    (rows_at _ q).trans (Finset.sum_congr rfl fun p _ => by rw [← tap1_at d p q]; rfl)
  have r0 : rows (mulf (tap0 d) x) (ix2 0 q) = ∑ p : Fin 128, (d (ix2 ⟨p.val, by omega⟩ q) : EReal) * x (ix2 p q) :=
    (rows_at _ q).trans (Finset.sum_congr rfl fun p _ => by rw [← tap0_at d p q]; rfl)
  pointwise [wpart]
  match e with
  | ⟨0, _⟩ => exact r2
  | ⟨1, _⟩ => exact r1
  | ⟨2, _⟩ => exact r0
  | ⟨3, _⟩ => rfl
  | ⟨4, _⟩ => rfl
  | ⟨5, _⟩ => rfl
  | ⟨6, _⟩ => rfl
  | ⟨7, _⟩ => rfl

theorem bpart_at (d : FVec Ideal S144x256 .f32) (q : Fin 256) : bpart d (ix2 0 q) = ∑ p : Fin 128, (d (ix2 ⟨p.val, by omega⟩ q) : EReal) := by
  unfold bpart
  rw [rows_at]
  exact Finset.sum_congr rfl fun p _ => tap0_at d p q

end Cert.Gate

end
-- ==== Proof.GateTile.lean ====
/-
  The gradient of the gated convolution, one grid point: 16 chunks of 128 rows; each chunk also reads the 16 rows after it, the last one from the next
  block's first rows. What the point leaves in each of its six output blocks, as the chunk's operations.
-/
module

public import proofs.«01_k».proof.Proof.GateChunk
public import Idealize.ShloMosaic.Lib.Pipeline.ValueKit

@[expose] public section

set_option maxRecDepth 16384
set_option maxHeartbeats 4000000

noncomputable section

namespace Cert.Gate

open Cert.Kernel6Ideal Cert.Kernel6Ideal.Gen Idealize.ShloMosaic Idealize.ShloMosaic.TcCoe Idealize.SL.Sem

/-! ## What a chunk reads -/

/-- A chunk of 128 rows lies in the block, and for all but the last so do the 16 rows after it. -/
theorem inb (k : Fin 16) : ∀ a, (![128 * k.val, 0] : Fin 2 → Nat) a + S128x256.size a ≤ S2048x256.size a := by
  intro a
  fin_cases a
  · show 128 * k.val + 128 ≤ 2048; omega
  · show 0 + 256 ≤ 256; omega
theorem inbWide (k : Fin 16) (h : k.val < 15) : ∀ a, (![128 * k.val, 0] : Fin 2 → Nat) a + S144x256.size a ≤ S2048x256.size a := by
  intro a
  fin_cases a
  · show 128 * k.val + 144 ≤ 2048; omega
  · show 0 + 256 ≤ 256; omega

/-- The chunk's 128 rows. -/
def narrow (X : Vec Ideal S2048x256 .bf16) (k : Fin 16) : FVec Ideal S128x256 .f32 :=
  extf .f32 (View.ld X (Rect.unit ![128 * k.val, 0] ![128, 256] (inb k))) bitsLt_bf16_f32

/-- The chunk's 128 rows and the 16 after them. -/
def wide (X : Vec Ideal S2048x256 .bf16) (Y : FVec Ideal S16x256 .f32) (k : Fin 16) : FVec Ideal S144x256 .f32 :=
  if h : k.val < 15 then extf .f32 (shapeCast S144x256 (View.ld X (Rect.unit ![128 * k.val, 0] ![144, 256] (inbWide k h))) shapeCasts_S144x256_S144x256) bitsLt_bf16_f32
  else concatenate S144x256 0 [⟨S128x256, extf .f32 (shapeCast S128x256 (View.ld X (Rect.unit ![128 * k.val, 0] ![128, 256] (inb k))) shapeCasts_S128x256_S128x256) bitsLt_bf16_f32⟩,
    ⟨S16x256, Y⟩] concatenates_S128x256_S16x256_S144x256_d0
def wideA (X : Vec Ideal S2048x256 .bf16) (Y : FVec Ideal S16x256 .f32) (k : Fin 16) : FVec Ideal S144x256 .f32 :=
  if h : k.val < 15 then extf .f32 (View.ld X (Rect.unit ![128 * k.val, 0] ![144, 256] (inbWide k h))) bitsLt_bf16_f32
  else concatenate S144x256 0 [⟨S128x256, extf .f32 (View.ld X (Rect.unit ![128 * k.val, 0] ![128, 256] (inb k))) bitsLt_bf16_f32⟩,
    ⟨S16x256, Y⟩] concatenates_S128x256_S16x256_S144x256_d0

/-- The rows after the block: of the two gate arrays as they are, of the incoming gradient zero after the last block. -/
def after (Y : Vec Ideal S16x256 .bf16) : FVec Ideal S16x256 .f32 := extf .f32 (shapeCast S16x256 Y shapeCasts_S16x256_S16x256) bitsLt_bf16_f32
def afterA (i : grid0.Coords) (Y : Vec Ideal S16x256 .bf16) : FVec Ideal S16x256 .f32 :=
  Scalar.select (Scalar.cmpi CmpIPredicate.eq (BitVec.ofNat 32 (i 1).val) 3#32) (broadcast S16x256 (Scalar.ofBits .f32 0x00000000#32 : Ideal .f32)) (extf .f32 Y bitsLt_bf16_f32)

section Block
variable (i : grid0.Coords)
variable (x0 : Vec Ideal S2048x256 .bf16) (x1 : Vec Ideal S2048x256 .bf16) (x2 : Vec Ideal S2048x256 .bf16) (x3 : Vec Ideal S16x256 .bf16) (x4 : Vec Ideal S2048x256 .bf16) (x5 : Vec Ideal S16x256 .bf16) (x6 : Vec Ideal S2048x256 .bf16) (x7 : Vec Ideal S16x256 .bf16) (x8 : Vec Ideal S8x256 .f32) (x9 : Vec Ideal S8x256 .f32)

/-- The gradients at the two halves' arguments, on chunk `k`. -/
def dGate (k : Fin 16) : FVec Ideal S144x256 .f32 := dhGate (wide x2 (after x3) k) (wide x4 (after x5) k) (wideA x6 (afterA i x7) k)
def dLin (k : Fin 16) : FVec Ideal S144x256 .f32 := dhLin (wide x2 (after x3) k) (wideA x6 (afterA i x7) k)
end Block

/-- The sum of the chunks' parts, in the kernel's order. -/
def total {s : Shape} (f : Fin 16 → FVec Ideal s .f32) : FVec Ideal s .f32 :=
  addf (addf (addf (addf (addf (addf (addf (addf (addf (addf (addf (addf (addf (addf (addf (f 0) (f 1)) (f 2)) (f 3)) (f 4)) (f 5)) (f 6)) (f 7)) (f 8)) (f 9)) (f 10)) (f 11)) (f 12)) (f 13)) (f 14)) (f 15)

/-! ## What the point leaves -/

section Case
variable (c : Dev nD) (i : grid0.Coords)
variable (a2 : Memref sig .tc .vmem S2048x256 .bf16) (h2 : a2.IsWhole) (a3 : Memref sig .tc .vmem S2048x256 .bf16) (h3 : a3.IsWhole) (a4 : Memref sig .tc .vmem S2048x256 .bf16) (h4 : a4.IsWhole) (a5 : Memref sig .tc .vmem S16x256 .bf16) (h5 : a5.IsWhole) (a6 : Memref sig .tc .vmem S2048x256 .bf16) (h6 : a6.IsWhole) (a7 : Memref sig .tc .vmem S16x256 .bf16) (h7 : a7.IsWhole) (a8 : Memref sig .tc .vmem S2048x256 .bf16) (h8 : a8.IsWhole) (a9 : Memref sig .tc .vmem S16x256 .bf16) (h9 : a9.IsWhole) (a10 : Memref sig .tc .vmem S8x256 .f32) (h10 : a10.IsWhole) (a11 : Memref sig .tc .vmem S8x256 .f32) (h11 : a11.IsWhole) (a12 : Memref sig .tc .vmem S2048x256 .bf16) (h12 : a12.IsWhole) (a13 : Memref sig .tc .vmem S2048x256 .bf16) (h13 : a13.IsWhole) (a14 : Memref sig .tc .vmem S8x256 .f32) (h14 : a14.IsWhole) (a15 : Memref sig .tc .vmem S8x256 .f32) (h15 : a15.IsWhole) (a16 : Memref sig .tc .vmem S1x256 .f32) (h16 : a16.IsWhole) (a17 : Memref sig .tc .vmem S1x256 .f32) (h17 : a17.IsWhole)
variable (x0 : Vec Ideal S2048x256 .bf16) (x1 : Vec Ideal S2048x256 .bf16) (x2 : Vec Ideal S2048x256 .bf16) (x3 : Vec Ideal S16x256 .bf16) (x4 : Vec Ideal S2048x256 .bf16) (x5 : Vec Ideal S16x256 .bf16) (x6 : Vec Ideal S2048x256 .bf16) (x7 : Vec Ideal S16x256 .bf16) (x8 : Vec Ideal S8x256 .f32) (x9 : Vec Ideal S8x256 .f32)
variable (xo12 : Vec Ideal S8x256 .f32) (xo13 : Vec Ideal S8x256 .f32) (xo14 : Vec Ideal S1x256 .f32) (xo15 : Vec Ideal S1x256 .f32)

/-- The block of the gradient at the gate half's input, by its chunks. -/
theorem out_A_10 (hc0 : cond0_0 i) (hc1 : ¬cond0_1 i) (y : S2048x256.Idx) (G : Fin 16 → Fin 128 → Fin 256 → EReal)
    (hG : ∀ k p q, spread (shapeCast S8x256 x8 shapeCasts_S8x256_S8x256) (dGate i x2 x3 x4 x5 x6 x7 k) (ix2 p q) = G k p q)
    (v : EReal) (hv : ∀ k p q, (y 0).val = 128 * k.val + p.val → (y 1).val = q.val → G k p q = v) :
    out0_A_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 y = v := by
  have key : ∀ (k : Fin 16) (x : S128x256.Idx), (y 0).val = 128 * k.val + (x 0).val → (y 1).val = (x 1).val →
      spread (shapeCast S8x256 x8 shapeCasts_S8x256_S8x256) (dGate i x2 x3 x4 x5 x6 x7 k) x = v := fun k x h0 h1 => by
    rw [eq_ix2 x]; exact (hG k (x 0) (x 1)).trans (hv k (x 0) (x 1) h0 h1)
  frame_out
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

/-- The block of the gradient at the linear half's input, by its chunks. -/
theorem out_A_11 (hc0 : cond0_0 i) (hc1 : ¬cond0_1 i) (y : S2048x256.Idx) (G : Fin 16 → Fin 128 → Fin 256 → EReal)
    (hG : ∀ k p q, spread (shapeCast S8x256 x9 shapeCasts_S8x256_S8x256) (dLin i x2 x3 x6 x7 k) (ix2 p q) = G k p q)
    (v : EReal) (hv : ∀ k p q, (y 0).val = 128 * k.val + p.val → (y 1).val = q.val → G k p q = v) :
    out0_A_11 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 y = v := by
  have key : ∀ (k : Fin 16) (x : S128x256.Idx), (y 0).val = 128 * k.val + (x 0).val → (y 1).val = (x 1).val →
      spread (shapeCast S8x256 x9 shapeCasts_S8x256_S8x256) (dLin i x2 x3 x6 x7 k) x = v := fun k x h0 h1 => by
    rw [eq_ix2 x]; exact (hG k (x 0) (x 1)).trans (hv k (x 0) (x 1) h0 h1)
  frame_out
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

theorem out_A_12 (hc0 : cond0_0 i) (hc1 : ¬cond0_1 i) : out0_A_12 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 = total fun k => wpart (dGate i x2 x3 x4 x5 x6 x7 k) (narrow x0 k) := by
  frame_out
  rfl

theorem out_A_13 (hc0 : cond0_0 i) (hc1 : ¬cond0_1 i) : out0_A_13 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 = total fun k => wpart (dLin i x2 x3 x6 x7 k) (narrow x1 k) := by
  frame_out
  rfl

theorem out_A_14 (hc0 : cond0_0 i) (hc1 : ¬cond0_1 i) : out0_A_14 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 = total fun k => bpart (dGate i x2 x3 x4 x5 x6 x7 k) := by
  frame_out
  rfl

theorem out_A_15 (hc0 : cond0_0 i) (hc1 : ¬cond0_1 i) : out0_A_15 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 = total fun k => bpart (dLin i x2 x3 x6 x7 k) := by
  frame_out
  rfl

/-- The block of the gradient at the gate half's input, by its chunks. -/
theorem out_B_10 (hc0 : ¬cond0_0 i) (hc1 : cond0_1 i) (y : S2048x256.Idx) (G : Fin 16 → Fin 128 → Fin 256 → EReal)
    (hG : ∀ k p q, spread (shapeCast S8x256 x8 shapeCasts_S8x256_S8x256) (dGate i x2 x3 x4 x5 x6 x7 k) (ix2 p q) = G k p q)
    (v : EReal) (hv : ∀ k p q, (y 0).val = 128 * k.val + p.val → (y 1).val = q.val → G k p q = v) :
    out0_B_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 y = v := by
  have key : ∀ (k : Fin 16) (x : S128x256.Idx), (y 0).val = 128 * k.val + (x 0).val → (y 1).val = (x 1).val →
      spread (shapeCast S8x256 x8 shapeCasts_S8x256_S8x256) (dGate i x2 x3 x4 x5 x6 x7 k) x = v := fun k x h0 h1 => by
    rw [eq_ix2 x]; exact (hG k (x 0) (x 1)).trans (hv k (x 0) (x 1) h0 h1)
  frame_out
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

/-- The block of the gradient at the linear half's input, by its chunks. -/
theorem out_B_11 (hc0 : ¬cond0_0 i) (hc1 : cond0_1 i) (y : S2048x256.Idx) (G : Fin 16 → Fin 128 → Fin 256 → EReal)
    (hG : ∀ k p q, spread (shapeCast S8x256 x9 shapeCasts_S8x256_S8x256) (dLin i x2 x3 x6 x7 k) (ix2 p q) = G k p q)
    (v : EReal) (hv : ∀ k p q, (y 0).val = 128 * k.val + p.val → (y 1).val = q.val → G k p q = v) :
    out0_B_11 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 y = v := by
  have key : ∀ (k : Fin 16) (x : S128x256.Idx), (y 0).val = 128 * k.val + (x 0).val → (y 1).val = (x 1).val →
      spread (shapeCast S8x256 x9 shapeCasts_S8x256_S8x256) (dLin i x2 x3 x6 x7 k) x = v := fun k x h0 h1 => by
    rw [eq_ix2 x]; exact (hG k (x 0) (x 1)).trans (hv k (x 0) (x 1) h0 h1)
  frame_out
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

theorem out_B_12 (hc0 : ¬cond0_0 i) (hc1 : cond0_1 i) : out0_B_12 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 = addf (shapeCast S8x256 xo12 shapeCasts_S8x256_S8x256) (total fun k => wpart (dGate i x2 x3 x4 x5 x6 x7 k) (narrow x0 k)) := by
  frame_out
  rfl

theorem out_B_13 (hc0 : ¬cond0_0 i) (hc1 : cond0_1 i) : out0_B_13 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 = addf (shapeCast S8x256 xo13 shapeCasts_S8x256_S8x256) (total fun k => wpart (dLin i x2 x3 x6 x7 k) (narrow x1 k)) := by
  frame_out
  rfl

theorem out_B_14 (hc0 : ¬cond0_0 i) (hc1 : cond0_1 i) : out0_B_14 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 = addf (shapeCast S1x256 xo14 shapeCasts_S1x256_S1x256) (total fun k => bpart (dGate i x2 x3 x4 x5 x6 x7 k)) := by
  frame_out
  rfl

theorem out_B_15 (hc0 : ¬cond0_0 i) (hc1 : cond0_1 i) : out0_B_15 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 = addf (shapeCast S1x256 xo15 shapeCasts_S1x256_S1x256) (total fun k => bpart (dLin i x2 x3 x6 x7 k)) := by
  frame_out
  rfl

end Case

end Cert.Gate

end
-- ==== Proof.GateBlock.lean ====
/-
  The gradient of the gated convolution, one grid point: the chunks put together into the point's 2048 rows.
-/
module

public import proofs.«01_k».proof.Proof.GateTile

@[expose] public section

set_option maxRecDepth 16384

noncomputable section

namespace Cert.Gate

open Cert.Kernel6Ideal Cert.Kernel6Ideal.Gen Idealize.ShloMosaic Idealize.ShloMosaic.TcCoe Idealize.SL.Sem

/-! ## Rows of a block and of the one after it -/

/-- Row `n` of the block `X`, or of the 16 rows `Y` that follow it. -/
def ext (X : Vec Ideal S2048x256 .bf16) (Y : FVec Ideal S16x256 .f32) (n : ℕ) (q : Fin 256) : EReal :=
  if h : n < 2048 then X (ix2 ⟨n, h⟩ q) else if h' : n - 2048 < 16 then Y (ix2 ⟨n - 2048, h'⟩ q) else 0

theorem narrow_at (X : Vec Ideal S2048x256 .bf16) (Y : FVec Ideal S16x256 .f32) (k : Fin 16) (p : Fin 128) (q : Fin 256) :
    narrow X k (ix2 p q) = ext X Y (128 * k.val + p.val) q := by
  have hn : 128 * k.val + p.val < 2048 := by omega
  unfold narrow ext
  rw [dif_pos hn]
  show View.ld X (Rect.unit ![128 * k.val, 0] ![128, 256] (inb k)) (ix2 p q) = _
  exact View.ld_unit_apply_of X _ _ _ _ (ix2 ⟨128 * k.val + p.val, hn⟩ q) (fun a => by
    fin_cases a
    · rfl
    · exact (Nat.zero_add _).symm)

theorem wideA_at (X : Vec Ideal S2048x256 .bf16) (Y : FVec Ideal S16x256 .f32) (k : Fin 16) (r : Fin 144) (q : Fin 256) :
    wideA X Y k (ix2 r q) = ext X Y (128 * k.val + r.val) q := by
  unfold wideA ext
  by_cases h : k.val < 15
  · have hn : 128 * k.val + r.val < 2048 := by omega
    rw [dif_pos h, dif_pos hn]
    show View.ld X (Rect.unit ![128 * k.val, 0] ![144, 256] (inbWide k h)) (ix2 r q) = _
    exact View.ld_unit_apply_of X _ _ _ _ (ix2 ⟨128 * k.val + r.val, hn⟩ q) (fun a => by
      fin_cases a
      · rfl
      · exact (Nat.zero_add _).symm)
  · rw [dif_neg h]
    pointwise []
    by_cases hr : r.val < 128
    · have hn : 128 * k.val + r.val < 2048 := by omega
      rw [dif_pos hr, dif_pos hn]
    · have hn : ¬128 * k.val + r.val < 2048 := by omega
      have hn' : 128 * k.val + r.val - 2048 < 16 := by omega
      have e : (⟨r.val - 128, by omega⟩ : Fin 16) = ⟨128 * k.val + r.val - 2048, hn'⟩ := Fin.ext (by show r.val - 128 = 128 * k.val + r.val - 2048; omega)
      rw [dif_neg hr, dif_neg hn, dif_pos hn', e]

theorem wide_at (X : Vec Ideal S2048x256 .bf16) (Y : FVec Ideal S16x256 .f32) (k : Fin 16) (r : Fin 144) (q : Fin 256) :
    wide X Y k (ix2 r q) = ext X Y (128 * k.val + r.val) q := by
  rw [← wideA_at]
  unfold wide wideA
  by_cases h : k.val < 15
  · rw [dif_pos h, dif_pos h]
    exact congrArg (fun v : Vec Ideal S144x256 .bf16 => extf (F := Ideal) .f32 v bitsLt_bf16_f32 (ix2 r q)) (shapeCast_self _ _)
  · rw [dif_neg h, dif_neg h]
    exact congrArg (fun v : Vec Ideal S128x256 .bf16 => concatenate S144x256 0 [⟨S128x256, extf (F := Ideal) .f32 v bitsLt_bf16_f32⟩, ⟨S16x256, Y⟩]
      concatenates_S128x256_S16x256_S144x256_d0 (ix2 r q)) (shapeCast_self _ _)

theorem after_at (Y : Vec Ideal S16x256 .bf16) (p : Fin 16) (q : Fin 256) : after Y (ix2 p q) = Y (ix2 p q) := by
  unfold after
  rw [shapeCast_self]
  rfl

theorem afterA_at (i : grid0.Coords) (Y : Vec Ideal S16x256 .bf16) (p : Fin 16) (q : Fin 256) :
    afterA i Y (ix2 p q) = if (i 1).val = 3 then (0 : EReal) else Y (ix2 p q) := by
  unfold afterA
  obtain ⟨n, hn⟩ : ∃ n, n = (i 1).val := ⟨_, rfl⟩
  have h4 : n < 4 := hn ▸ (i 1).isLt
  rw [← hn]
  clear hn
  by_cases h : n = 3
  · rw [if_pos h, h, show Scalar.cmpi CmpIPredicate.eq (BitVec.ofNat 32 3) 3#32 = 1#1 from rfl, ValueIdx.select_one]
    pointwise []
  · have e : Scalar.cmpi CmpIPredicate.eq (BitVec.ofNat 32 n) 3#32 = 0#1 := by
      have h3 : n = 0 ∨ n = 1 ∨ n = 2 := by omega
      rcases h3 with h | h | h <;> (rw [h]; rfl)
    rw [if_neg h, e, ValueIdx.select_zero]
    rfl

/-- The gate's gradient from the gate `g`, the linear half `u` and the incoming gradient `a`. -/
def gateGrad (g u a : EReal) : EReal := a * u * (Ideal.logistic g * (1 + g * (1 - Ideal.logistic g)))
/-- The linear half's. -/
def linGrad (g a : EReal) : EReal := a * (g * Ideal.logistic g)

section Block
variable (i : grid0.Coords)
variable (x0 : Vec Ideal S2048x256 .bf16) (x1 : Vec Ideal S2048x256 .bf16) (x2 : Vec Ideal S2048x256 .bf16) (x3 : Vec Ideal S16x256 .bf16) (x4 : Vec Ideal S2048x256 .bf16) (x5 : Vec Ideal S16x256 .bf16) (x6 : Vec Ideal S2048x256 .bf16) (x7 : Vec Ideal S16x256 .bf16) (x8 : Vec Ideal S8x256 .f32) (x9 : Vec Ideal S8x256 .f32)

/-- The two gradients on row `n` of the block or of the rows after it. -/
def gRow (n : ℕ) (q : Fin 256) : EReal := gateGrad (ext x2 (after x3) n q) (ext x4 (after x5) n q) (ext x6 (afterA i x7) n q)
def lRow (n : ℕ) (q : Fin 256) : EReal := linGrad (ext x2 (after x3) n q) (ext x6 (afterA i x7) n q)

theorem dGate_at (k : Fin 16) (r : Fin 144) (q : Fin 256) :
    dGate i x2 x3 x4 x5 x6 x7 k (ix2 r q) = gRow i x2 x3 x4 x5 x6 x7 (128 * k.val + r.val) q := by
  unfold dGate gRow gateGrad
  rw [dhGate_at, wide_at, wide_at, wideA_at]

theorem dLin_at (k : Fin 16) (r : Fin 144) (q : Fin 256) :
    dLin i x2 x3 x6 x7 k (ix2 r q) = lRow i x2 x3 x6 x7 (128 * k.val + r.val) q := by
  unfold dLin lRow linGrad
  rw [dhLin_at, wide_at, wideA_at]

end Block

/-! ## Sums over the block -/

theorem total_at {s : Shape} (f : Fin 16 → FVec Ideal s .f32) (x : s.Idx) : total f x = ∑ k : Fin 16, (f k x : EReal) := by
  simp only [Fin.sum_univ_castSucc, Fin.sum_univ_zero, zero_add]
  rfl

/-- A sum over chunks and the rows in them is a sum over rows. -/
theorem sum_rows (f : ℕ → EReal) : ∑ k : Fin 16, ∑ p : Fin 128, f (128 * k.val + p.val) = ∑ n ∈ Finset.range 2048, f n := by
  have h : ∀ K : ℕ, ∑ k ∈ Finset.range K, ∑ p ∈ Finset.range 128, f (128 * k + p) = ∑ n ∈ Finset.range (128 * K), f n := by
    intro K
    induction K with
    | zero => simp
    | succ K ih => rw [Finset.sum_range_succ, ih, Nat.mul_succ, Finset.sum_range_add]
  rw [← h 16, ← Fin.sum_univ_eq_sum_range (fun k => ∑ p ∈ Finset.range 128, f (128 * k + p)) 16]
  exact Finset.sum_congr rfl fun k _ => Fin.sum_univ_eq_sum_range (fun p => f (128 * k.val + p)) 128

/-- The taps' part of the point: over its rows, the gradient `d` so many rows later times the input. -/
def tapSum {K : ℕ} (d : ℕ → Fin K → EReal) (x : ℕ → Fin K → EReal) (e : Fin 8) (q : Fin K) (N : ℕ) : EReal :=
  if e.val < 3 then ∑ n ∈ Finset.range N, d (n + (2 - e.val)) q * x n q else 0

theorem wsum_at (D : Fin 16 → FVec Ideal S144x256 .f32) (x : Vec Ideal S2048x256 .bf16) (Y : FVec Ideal S16x256 .f32) (d : ℕ → Fin 256 → EReal)
    (hD : ∀ k r q, D k (ix2 r q) = d (128 * k.val + r.val) q) (e : Fin 8) (q : Fin 256) :
    (total fun k => wpart (D k) (narrow x k)) (ix2 e q) = tapSum d (ext x Y) e q 2048 := by
  rw [total_at]
  unfold tapSum
  simp only [wpart_at, hD, fun k p q => narrow_at x Y k p q]
  by_cases h : e.val < 3
  · simp only [if_pos h]
    rw [← sum_rows fun n => d (n + (2 - e.val)) q * ext x Y n q]
    simp only [Nat.add_assoc]
  · simp only [if_neg h, Finset.sum_const_zero]

theorem bsum_at (D : Fin 16 → FVec Ideal S144x256 .f32) (d : ℕ → Fin 256 → EReal)
    (hD : ∀ k r q, D k (ix2 r q) = d (128 * k.val + r.val) q) (q : Fin 256) :
    (total fun k => bpart (D k)) (ix2 0 q) = ∑ n ∈ Finset.range 2048, d n q := by
  rw [total_at]
  simp only [bpart_at, hD]
  exact sum_rows fun n => d n q

/-- The gradient at the convolution's input from the taps `w` and the gradient `d` at the convolution's result. -/
def back {K : ℕ} (w : Fin 8 → Fin K → EReal) (d : ℕ → Fin K → EReal) (n : ℕ) (q : Fin K) : EReal :=
  w 0 q * d (n + 2) q + w 1 q * d (n + 1) q + w 2 q * d n q

theorem spread_back (w : Vec Ideal S8x256 .f32) (D : Fin 16 → FVec Ideal S144x256 .f32) (d : ℕ → Fin 256 → EReal)
    (hD : ∀ k r q, D k (ix2 r q) = d (128 * k.val + r.val) q) (k : Fin 16) (p : Fin 128) (q : Fin 256) :
    spread (shapeCast S8x256 w shapeCasts_S8x256_S8x256) (D k) (ix2 p q) = back (fun e q => w (ix2 e q)) d (128 * k.val + p.val) q := by
  rw [shapeCast_self, spread_at]
  simp only [hD]
  rfl

/-! ## The point's six blocks -/

section Case
variable (c : Dev nD) (i : grid0.Coords)
variable (a2 : Memref sig .tc .vmem S2048x256 .bf16) (h2 : a2.IsWhole) (a3 : Memref sig .tc .vmem S2048x256 .bf16) (h3 : a3.IsWhole) (a4 : Memref sig .tc .vmem S2048x256 .bf16) (h4 : a4.IsWhole) (a5 : Memref sig .tc .vmem S16x256 .bf16) (h5 : a5.IsWhole) (a6 : Memref sig .tc .vmem S2048x256 .bf16) (h6 : a6.IsWhole) (a7 : Memref sig .tc .vmem S16x256 .bf16) (h7 : a7.IsWhole) (a8 : Memref sig .tc .vmem S2048x256 .bf16) (h8 : a8.IsWhole) (a9 : Memref sig .tc .vmem S16x256 .bf16) (h9 : a9.IsWhole) (a10 : Memref sig .tc .vmem S8x256 .f32) (h10 : a10.IsWhole) (a11 : Memref sig .tc .vmem S8x256 .f32) (h11 : a11.IsWhole) (a12 : Memref sig .tc .vmem S2048x256 .bf16) (h12 : a12.IsWhole) (a13 : Memref sig .tc .vmem S2048x256 .bf16) (h13 : a13.IsWhole) (a14 : Memref sig .tc .vmem S8x256 .f32) (h14 : a14.IsWhole) (a15 : Memref sig .tc .vmem S8x256 .f32) (h15 : a15.IsWhole) (a16 : Memref sig .tc .vmem S1x256 .f32) (h16 : a16.IsWhole) (a17 : Memref sig .tc .vmem S1x256 .f32) (h17 : a17.IsWhole)
variable (x0 : Vec Ideal S2048x256 .bf16) (x1 : Vec Ideal S2048x256 .bf16) (x2 : Vec Ideal S2048x256 .bf16) (x3 : Vec Ideal S16x256 .bf16) (x4 : Vec Ideal S2048x256 .bf16) (x5 : Vec Ideal S16x256 .bf16) (x6 : Vec Ideal S2048x256 .bf16) (x7 : Vec Ideal S16x256 .bf16) (x8 : Vec Ideal S8x256 .f32) (x9 : Vec Ideal S8x256 .f32)
variable (xo12 : Vec Ideal S8x256 .f32) (xo13 : Vec Ideal S8x256 .f32) (xo14 : Vec Ideal S1x256 .f32) (xo15 : Vec Ideal S1x256 .f32)

theorem at_A_10 (hc0 : cond0_0 i) (hc1 : ¬cond0_1 i) (p : Fin 2048) (q : Fin 256) :
    out0_A_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 (ix2 p q) = back (fun e q => x8 (ix2 e q)) (gRow i x2 x3 x4 x5 x6 x7) p.val q := by
  refine out_A_10 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0 hc1 (ix2 p q) (fun k p q => back (fun e q => x8 (ix2 e q)) (gRow i x2 x3 x4 x5 x6 x7) (128 * k.val + p.val) q)
    (spread_back x8 _ _ (dGate_at i x2 x3 x4 x5 x6 x7)) _ fun k r s hr hs => ?_
  have hr' : p.val = 128 * k.val + r.val := hr
  have hs' : q = s := Fin.ext hs
  rw [hr', hs']

theorem at_A_11 (hc0 : cond0_0 i) (hc1 : ¬cond0_1 i) (p : Fin 2048) (q : Fin 256) :
    out0_A_11 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 (ix2 p q) = back (fun e q => x9 (ix2 e q)) (lRow i x2 x3 x6 x7) p.val q := by
  refine out_A_11 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0 hc1 (ix2 p q) (fun k p q => back (fun e q => x9 (ix2 e q)) (lRow i x2 x3 x6 x7) (128 * k.val + p.val) q)
    (spread_back x9 _ _ (dLin_at i x2 x3 x6 x7)) _ fun k r s hr hs => ?_
  have hr' : p.val = 128 * k.val + r.val := hr
  have hs' : q = s := Fin.ext hs
  rw [hr', hs']

theorem at_A_12 (hc0 : cond0_0 i) (hc1 : ¬cond0_1 i) (e : Fin 8) (q : Fin 256) :
    out0_A_12 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 (ix2 e q) = tapSum (gRow i x2 x3 x4 x5 x6 x7) (ext x0 (after x3)) e q 2048 := by
  rw [out_A_12]
  exact wsum_at _ x0 (after x3) _ (dGate_at i x2 x3 x4 x5 x6 x7) e q

theorem at_A_13 (hc0 : cond0_0 i) (hc1 : ¬cond0_1 i) (e : Fin 8) (q : Fin 256) :
    out0_A_13 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 (ix2 e q) = tapSum (lRow i x2 x3 x6 x7) (ext x1 (after x3)) e q 2048 := by
  rw [out_A_13]
  exact wsum_at _ x1 (after x3) _ (dLin_at i x2 x3 x6 x7) e q

theorem at_A_14 (hc0 : cond0_0 i) (hc1 : ¬cond0_1 i) (q : Fin 256) :
    out0_A_14 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 (ix2 0 q) = ∑ n ∈ Finset.range 2048, gRow i x2 x3 x4 x5 x6 x7 n q := by
  rw [out_A_14]
  exact bsum_at _ _ (dGate_at i x2 x3 x4 x5 x6 x7) q

theorem at_A_15 (hc0 : cond0_0 i) (hc1 : ¬cond0_1 i) (q : Fin 256) :
    out0_A_15 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 (ix2 0 q) = ∑ n ∈ Finset.range 2048, lRow i x2 x3 x6 x7 n q := by
  rw [out_A_15]
  exact bsum_at _ _ (dLin_at i x2 x3 x6 x7) q

theorem at_B_10 (hc0 : ¬cond0_0 i) (hc1 : cond0_1 i) (p : Fin 2048) (q : Fin 256) :
    out0_B_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 (ix2 p q) = back (fun e q => x8 (ix2 e q)) (gRow i x2 x3 x4 x5 x6 x7) p.val q := by
  refine out_B_10 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xo12 xo13 xo14 xo15 hc0 hc1 (ix2 p q) (fun k p q => back (fun e q => x8 (ix2 e q)) (gRow i x2 x3 x4 x5 x6 x7) (128 * k.val + p.val) q)
    (spread_back x8 _ _ (dGate_at i x2 x3 x4 x5 x6 x7)) _ fun k r s hr hs => ?_
  have hr' : p.val = 128 * k.val + r.val := hr
  have hs' : q = s := Fin.ext hs
  rw [hr', hs']

theorem at_B_11 (hc0 : ¬cond0_0 i) (hc1 : cond0_1 i) (p : Fin 2048) (q : Fin 256) :
    out0_B_11 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 (ix2 p q) = back (fun e q => x9 (ix2 e q)) (lRow i x2 x3 x6 x7) p.val q := by
  refine out_B_11 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xo12 xo13 xo14 xo15 hc0 hc1 (ix2 p q) (fun k p q => back (fun e q => x9 (ix2 e q)) (lRow i x2 x3 x6 x7) (128 * k.val + p.val) q)
    (spread_back x9 _ _ (dLin_at i x2 x3 x6 x7)) _ fun k r s hr hs => ?_
  have hr' : p.val = 128 * k.val + r.val := hr
  have hs' : q = s := Fin.ext hs
  rw [hr', hs']

theorem at_B_12 (hc0 : ¬cond0_0 i) (hc1 : cond0_1 i) (e : Fin 8) (q : Fin 256) :
    out0_B_12 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 (ix2 e q) = (xo12 (ix2 e q) : EReal) + tapSum (gRow i x2 x3 x4 x5 x6 x7) (ext x0 (after x3)) e q 2048 := by
  rw [out_B_12, shapeCast_self]
  exact (congrArg ((xo12 (ix2 e q) : EReal) + ·) (wsum_at _ x0 (after x3) _ (dGate_at i x2 x3 x4 x5 x6 x7) e q))

theorem at_B_13 (hc0 : ¬cond0_0 i) (hc1 : cond0_1 i) (e : Fin 8) (q : Fin 256) :
    out0_B_13 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 (ix2 e q) = (xo13 (ix2 e q) : EReal) + tapSum (lRow i x2 x3 x6 x7) (ext x1 (after x3)) e q 2048 := by
  rw [out_B_13, shapeCast_self]
  exact (congrArg ((xo13 (ix2 e q) : EReal) + ·) (wsum_at _ x1 (after x3) _ (dLin_at i x2 x3 x6 x7) e q))

theorem at_B_14 (hc0 : ¬cond0_0 i) (hc1 : cond0_1 i) (q : Fin 256) :
    out0_B_14 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 (ix2 0 q) = (xo14 (ix2 0 q) : EReal) + ∑ n ∈ Finset.range 2048, gRow i x2 x3 x4 x5 x6 x7 n q := by
  rw [out_B_14, shapeCast_self]
  exact (congrArg ((xo14 (ix2 0 q) : EReal) + ·) (bsum_at _ _ (dGate_at i x2 x3 x4 x5 x6 x7) q))

theorem at_B_15 (hc0 : ¬cond0_0 i) (hc1 : cond0_1 i) (q : Fin 256) :
    out0_B_15 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 xo12 xo13 xo14 xo15 (ix2 0 q) = (xo15 (ix2 0 q) : EReal) + ∑ n ∈ Finset.range 2048, lRow i x2 x3 x6 x7 n q := by
  rw [out_B_15, shapeCast_self]
  exact (congrArg ((xo15 (ix2 0 q) : EReal) + ·) (bsum_at _ _ (dLin_at i x2 x3 x6 x7) q))

end Case

end Cert.Gate

end
-- ==== Proof.GateArrays.lean ====
/-
  The gradient of the gated convolution: the grid's blocks read from the whole arrays, and the six result arrays the kernel leaves.
-/
module

public import proofs.«01_k».proof.Proof.BlockAt
public import proofs.«01_k».proof.Proof.GateBlock
public import proofs.«01_k».proof.Proof.Gen.Kernel6Ideal.Value
public import Idealize.ShloMosaic.Lib.Pipeline.Value
public import Idealize.ShloMosaic.Lib.Pointwise
public import Idealize.ShloMosaic.Lib.ValueIdx

@[expose] public section

set_option maxRecDepth 16384

noncomputable section

namespace Cert.Gate

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-! ## The whole arrays, row by row -/

/-- A row of an array of 8192 rows, and zero past its end. -/
def rowOf {K : ℕ} (X : Fin 8192 → Fin K → EReal) (n : ℕ) (j : Fin K) : EReal := if h : n < 8192 then X ⟨n, h⟩ j else 0

theorem rowOf_lt {K : ℕ} (X : Fin 8192 → Fin K → EReal) (n : ℕ) (h : n < 8192) (j : Fin K) : rowOf X n j = X ⟨n, h⟩ j := dif_pos h
theorem rowOf_ge {K : ℕ} (X : Fin 8192 → Fin K → EReal) (n : ℕ) (h : ¬n < 8192) (j : Fin K) : rowOf X n j = 0 := dif_neg h

/-- Column `j` of the gate's half and of the linear half. -/
def lo (j : Fin 2816) : Fin 5632 := ⟨j.val, by omega⟩
def hi (j : Fin 2816) : Fin 5632 := ⟨2816 + j.val, by omega⟩

/-- The gate, the linear half, the incoming gradient, the two halves of the input, the two halves of the taps. -/
def gA (p : Fin 8192) (j : Fin 2816) : EReal := V m c main_v28 (ix2 p j)
def uA (p : Fin 8192) (j : Fin 2816) : EReal := V m c main_v29 (ix2 p j)
def aA (p : Fin 8192) (j : Fin 2816) : EReal := V m c main_arg1 (ix2 p j)
def xA0 (p : Fin 8192) (j : Fin 2816) : EReal := V m c main_arg0 (ix2 p (lo j))
def xA1 (p : Fin 8192) (j : Fin 2816) : EReal := V m c main_arg0 (ix2 p (hi j))
def wA0 (e : Fin 8) (j : Fin 2816) : EReal := V m c main_v31 (ix2 e (lo j))
def wA1 (e : Fin 8) (j : Fin 2816) : EReal := V m c main_v31 (ix2 e (hi j))

/-- The two gradients at the convolution's result. -/
def DG : ℕ → Fin 2816 → EReal := rowOf fun p j => gateGrad (gA m c p j) (uA m c p j) (aA m c p j)
def DL : ℕ → Fin 2816 → EReal := rowOf fun p j => linGrad (gA m c p j) (aA m c p j)

theorem gateGrad_zero (g u : EReal) : gateGrad g u 0 = 0 := by unfold gateGrad; rw [zero_mul, zero_mul]
theorem linGrad_zero (g : EReal) : linGrad g 0 = 0 := by unfold linGrad; rw [zero_mul]

theorem DG_eq (n : ℕ) (j : Fin 2816) : DG m c n j = gateGrad (rowOf (gA m c) n j) (rowOf (uA m c) n j) (rowOf (aA m c) n j) := by
  by_cases h : n < 8192
  · unfold DG; simp only [rowOf_lt _ n h]
  · unfold DG; rw [rowOf_ge _ n h, rowOf_ge (aA m c) n h, gateGrad_zero]

theorem DL_eq (n : ℕ) (j : Fin 2816) : DL m c n j = linGrad (rowOf (gA m c) n j) (rowOf (aA m c) n j) := by
  by_cases h : n < 8192
  · unfold DL; simp only [rowOf_lt _ n h]
  · unfold DL; rw [rowOf_ge _ n h, rowOf_ge (aA m c) n h, linGrad_zero]

/-! ## The blocks a grid point reads -/

/-- Row `q` of grid point `t`'s blocks, and their column `j`. -/
def row (t : Fin cfg0.N) (q : Fin 2048) : Fin 8192 := ⟨2048 * (t.val % 4) + q.val, by have := q.isLt; omega⟩
def col (t : Fin cfg0.N) (j : Fin 256) : Fin 2816 := ⟨256 * (t.val / 4) + j.val, by have := t.isLt; have : cfg0.N = 44 := N_0; have := j.isLt; omega⟩

theorem coord_at : ∀ t : Fin grid0.N, (grid0.coords t 1).val = t.val % 4 := by decide +kernel

theorem index_at0 : ∀ t : Fin grid0.N, win0_0.index t 0 = t.val % 4 ∧ win0_0.index t 1 = t.val / 4 := by decide +kernel
theorem index_at1 : ∀ t : Fin grid0.N, win0_1.index t 0 = t.val % 4 ∧ win0_1.index t 1 = 11 + t.val / 4 := by decide +kernel
theorem index_at2 : ∀ t : Fin grid0.N, win0_2.index t 0 = t.val % 4 ∧ win0_2.index t 1 = t.val / 4 := by decide +kernel
theorem index_at3 : ∀ t : Fin grid0.N, win0_3.index t 0 = min ((t.val % 4 + 1) * 128) 511 ∧ win0_3.index t 1 = t.val / 4 := by decide +kernel
theorem index_at4 : ∀ t : Fin grid0.N, win0_4.index t 0 = t.val % 4 ∧ win0_4.index t 1 = t.val / 4 := by decide +kernel
theorem index_at5 : ∀ t : Fin grid0.N, win0_5.index t 0 = min ((t.val % 4 + 1) * 128) 511 ∧ win0_5.index t 1 = t.val / 4 := by decide +kernel
theorem index_at6 : ∀ t : Fin grid0.N, win0_6.index t 0 = t.val % 4 ∧ win0_6.index t 1 = t.val / 4 := by decide +kernel
theorem index_at7 : ∀ t : Fin grid0.N, win0_7.index t 0 = min ((t.val % 4 + 1) * 128) 511 ∧ win0_7.index t 1 = t.val / 4 := by decide +kernel
theorem index_at8 : ∀ t : Fin grid0.N, win0_8.index t 0 = 0 ∧ win0_8.index t 1 = t.val / 4 := by decide +kernel
theorem index_at9 : ∀ t : Fin grid0.N, win0_9.index t 0 = 0 ∧ win0_9.index t 1 = 11 + t.val / 4 := by decide +kernel
theorem index_at10 : ∀ t : Fin grid0.N, win0_10.index t 0 = t.val % 4 ∧ win0_10.index t 1 = t.val / 4 := by decide +kernel
theorem index_at11 : ∀ t : Fin grid0.N, win0_11.index t 0 = t.val % 4 ∧ win0_11.index t 1 = t.val / 4 := by decide +kernel
theorem index_at12 : ∀ t : Fin grid0.N, win0_12.index t 0 = 0 ∧ win0_12.index t 1 = t.val / 4 := by decide +kernel
theorem index_at13 : ∀ t : Fin grid0.N, win0_13.index t 0 = 0 ∧ win0_13.index t 1 = t.val / 4 := by decide +kernel
theorem index_at14 : ∀ t : Fin grid0.N, win0_14.index t 0 = 0 ∧ win0_14.index t 1 = t.val / 4 := by decide +kernel
theorem index_at15 : ∀ t : Fin grid0.N, win0_15.index t 0 = 0 ∧ win0_15.index t 1 = t.val / 4 := by decide +kernel

theorem iblk0 (t : Fin cfg0.N) (q : Fin 2048) (j : Fin 256) : iblk m c 0 t (ix2 q j) = xA0 m c (row t q) (col t j) := by
  obtain ⟨h0, h1⟩ := index_at0 t
  unfold xA0 iblk
  exact congrArg (V m c main_arg0) (at2 _ (spot 2048 q.val h0 (by show _ = 2048 * (t.val % 4) + q.val; omega)) (spot 256 j.val h1 (by show _ = 256 * (t.val / 4) + j.val; omega)))

theorem iblk1 (t : Fin cfg0.N) (q : Fin 2048) (j : Fin 256) : iblk m c 1 t (ix2 q j) = xA1 m c (row t q) (col t j) := by
  obtain ⟨h0, h1⟩ := index_at1 t
  unfold xA1 iblk
  exact congrArg (V m c main_arg0) (at2 _ (spot 2048 q.val h0 (by show _ = 2048 * (t.val % 4) + q.val; omega)) (spot 256 j.val h1 (by show _ = 2816 + (256 * (t.val / 4) + j.val); omega)))

theorem iblk2 (t : Fin cfg0.N) (q : Fin 2048) (j : Fin 256) : iblk m c 2 t (ix2 q j) = gA m c (row t q) (col t j) := by
  obtain ⟨h0, h1⟩ := index_at2 t
  unfold gA iblk
  exact congrArg (V m c main_v28) (at2 _ (spot 2048 q.val h0 (by show _ = 2048 * (t.val % 4) + q.val; omega)) (spot 256 j.val h1 (by show _ = 256 * (t.val / 4) + j.val; omega)))

theorem iblk4 (t : Fin cfg0.N) (q : Fin 2048) (j : Fin 256) : iblk m c 4 t (ix2 q j) = uA m c (row t q) (col t j) := by
  obtain ⟨h0, h1⟩ := index_at4 t
  unfold uA iblk
  exact congrArg (V m c main_v29) (at2 _ (spot 2048 q.val h0 (by show _ = 2048 * (t.val % 4) + q.val; omega)) (spot 256 j.val h1 (by show _ = 256 * (t.val / 4) + j.val; omega)))

theorem iblk6 (t : Fin cfg0.N) (q : Fin 2048) (j : Fin 256) : iblk m c 6 t (ix2 q j) = aA m c (row t q) (col t j) := by
  obtain ⟨h0, h1⟩ := index_at6 t
  unfold aA iblk
  exact congrArg (V m c main_arg1) (at2 _ (spot 2048 q.val h0 (by show _ = 2048 * (t.val % 4) + q.val; omega)) (spot 256 j.val h1 (by show _ = 256 * (t.val / 4) + j.val; omega)))

theorem iblk8 (t : Fin cfg0.N) (e : Fin 8) (j : Fin 256) : iblk m c 8 t (ix2 e j) = wA0 m c e (col t j) := by
  obtain ⟨h0, h1⟩ := index_at8 t
  unfold wA0 iblk
  exact congrArg (V m c main_v31) (at2 _ (spot 8 e.val h0 (by show _ = e.val; omega)) (spot 256 j.val h1 (by show _ = 256 * (t.val / 4) + j.val; omega)))

theorem iblk9 (t : Fin cfg0.N) (e : Fin 8) (j : Fin 256) : iblk m c 9 t (ix2 e j) = wA1 m c e (col t j) := by
  obtain ⟨h0, h1⟩ := index_at9 t
  unfold wA1 iblk
  exact congrArg (V m c main_v31) (at2 _ (spot 8 e.val h0 (by show _ = e.val; omega)) (spot 256 j.val h1 (by show _ = 2816 + (256 * (t.val / 4) + j.val); omega)))

theorem iblk3 (t : Fin cfg0.N) (ht : t.val % 4 < 3) (q : Fin 16) (j : Fin 256) :
    iblk m c 3 t (ix2 q j) = gA m c ⟨2048 * (t.val % 4 + 1) + q.val, by have := q.isLt; omega⟩ (col t j) := by
  obtain ⟨h0, h1⟩ := index_at3 t
  unfold gA iblk
  exact congrArg (V m c main_v28) (at2 _ (spot 16 q.val h0 (by show _ = 2048 * (t.val % 4 + 1) + q.val; omega)) (spot 256 j.val h1 (by show _ = 256 * (t.val / 4) + j.val; omega)))

theorem iblk5 (t : Fin cfg0.N) (ht : t.val % 4 < 3) (q : Fin 16) (j : Fin 256) :
    iblk m c 5 t (ix2 q j) = uA m c ⟨2048 * (t.val % 4 + 1) + q.val, by have := q.isLt; omega⟩ (col t j) := by
  obtain ⟨h0, h1⟩ := index_at5 t
  unfold uA iblk
  exact congrArg (V m c main_v29) (at2 _ (spot 16 q.val h0 (by show _ = 2048 * (t.val % 4 + 1) + q.val; omega)) (spot 256 j.val h1 (by show _ = 256 * (t.val / 4) + j.val; omega)))

theorem iblk7 (t : Fin cfg0.N) (ht : t.val % 4 < 3) (q : Fin 16) (j : Fin 256) :
    iblk m c 7 t (ix2 q j) = aA m c ⟨2048 * (t.val % 4 + 1) + q.val, by have := q.isLt; omega⟩ (col t j) := by
  obtain ⟨h0, h1⟩ := index_at7 t
  unfold aA iblk
  exact congrArg (V m c main_arg1) (at2 _ (spot 16 q.val h0 (by show _ = 2048 * (t.val % 4 + 1) + q.val; omega)) (spot 256 j.val h1 (by show _ = 256 * (t.val / 4) + j.val; omega)))

/-! ## Rows of a grid point -/

/-- A block and the rows after it read the whole array, away from its end. -/
theorem ext_rows (X : Vec Ideal S2048x256 .bf16) (Y : FVec Ideal S16x256 .f32) (f : Fin 8192 → Fin 2816 → EReal) (t : Fin cfg0.N)
    (hX : ∀ q j, X (ix2 q j) = f (row t q) (col t j))
    (hY : ∀ (h : t.val % 4 < 3) (q : Fin 16) j, Y (ix2 q j) = f ⟨2048 * (t.val % 4 + 1) + q.val, by have := q.isLt; omega⟩ (col t j))
    (n : ℕ) (hn : n < 2064) (hl : 2048 * (t.val % 4) + n < 8192) (j : Fin 256) : ext X Y n j = rowOf f (2048 * (t.val % 4) + n) (col t j) := by
  rw [rowOf_lt f _ hl]
  unfold ext
  by_cases h : n < 2048
  · rw [dif_pos h]; exact hX ⟨n, h⟩ j
  · rw [dif_neg h, dif_pos (by omega)]
    rw [hY (by omega) ⟨n - 2048, by omega⟩ j]
    congr 1
    exact Fin.ext (by show 2048 * (t.val % 4 + 1) + (n - 2048) = 2048 * (t.val % 4) + n; omega)

/-- Within a block the rows after it are not read. -/
theorem ext_block (X : Vec Ideal S2048x256 .bf16) (Y : FVec Ideal S16x256 .f32) (f : Fin 8192 → Fin 2816 → EReal) (t : Fin cfg0.N)
    (hX : ∀ q j, X (ix2 q j) = f (row t q) (col t j)) (n : ℕ) (hn : n < 2048) (j : Fin 256) :
    ext X Y n j = rowOf f (2048 * (t.val % 4) + n) (col t j) := by
  rw [rowOf_lt f _ (by omega)]
  unfold ext
  rw [dif_pos hn]; exact hX ⟨n, hn⟩ j

/-- The incoming gradient of the rows after the last block is zero. -/
theorem ext_end (X : Vec Ideal S2048x256 .bf16) (Y : FVec Ideal S16x256 .bf16) (t : Fin cfg0.N) (ht : t.val % 4 = 3) (n : ℕ) (hn : n < 2064) (hb : ¬n < 2048) (j : Fin 256) :
    ext X (afterA (grid0.coords t) Y) n j = 0 := by
  unfold ext
  rw [dif_neg hb, dif_pos (by omega), afterA_at, if_pos ((coord_at t).trans ht)]

theorem iblk7' (t : Fin cfg0.N) (ht : t.val % 4 < 3) (q : Fin 16) (j : Fin 256) :
    afterA (grid0.coords t) (iblk m c 7 t) (ix2 q j) = aA m c ⟨2048 * (t.val % 4 + 1) + q.val, by have := q.isLt; omega⟩ (col t j) := by
  rw [afterA_at, if_neg (by rw [coord_at t]; omega)]
  exact iblk7 m c t ht q j

/-- The point's two gradients are the whole arrays', also on the rows after the block. -/
theorem gRow_at (t : Fin cfg0.N) (n : ℕ) (hn : n < 2064) (j : Fin 256) :
    gRow (grid0.coords t) (iblk m c 2 t) (iblk m c 3 t) (iblk m c 4 t) (iblk m c 5 t) (iblk m c 6 t) (iblk m c 7 t) n j = DG m c (2048 * (t.val % 4) + n) (col t j) := by
  rw [DG_eq]
  unfold gRow
  by_cases hl : 2048 * (t.val % 4) + n < 8192
  · rw [ext_rows _ _ (gA m c) t (iblk2 m c t) (fun h q j => (after_at _ q j).trans (iblk3 m c t h q j)) n hn hl,
      ext_rows _ _ (uA m c) t (iblk4 m c t) (fun h q j => (after_at _ q j).trans (iblk5 m c t h q j)) n hn hl,
      ext_rows _ _ (aA m c) t (iblk6 m c t) (iblk7' m c t) n hn hl]
  · rw [ext_end _ _ t (by omega) n hn (by omega), gateGrad_zero, rowOf_ge (aA m c) _ hl, gateGrad_zero]

theorem lRow_at (t : Fin cfg0.N) (n : ℕ) (hn : n < 2064) (j : Fin 256) :
    lRow (grid0.coords t) (iblk m c 2 t) (iblk m c 3 t) (iblk m c 6 t) (iblk m c 7 t) n j = DL m c (2048 * (t.val % 4) + n) (col t j) := by
  rw [DL_eq]
  unfold lRow
  by_cases hl : 2048 * (t.val % 4) + n < 8192
  · rw [ext_rows _ _ (gA m c) t (iblk2 m c t) (fun h q j => (after_at _ q j).trans (iblk3 m c t h q j)) n hn hl,
      ext_rows _ _ (aA m c) t (iblk6 m c t) (iblk7' m c t) n hn hl]
  · rw [ext_end _ _ t (by omega) n hn (by omega), linGrad_zero, rowOf_ge (aA m c) _ hl, linGrad_zero]

/-! ## Sums over a block's rows -/

/-- The gradient at the convolution's input on a block's row. -/
theorem back_rows (w : Fin 8 → Fin 256 → EReal) (w' : Fin 8 → Fin 2816 → EReal) (d : ℕ → Fin 256 → EReal) (D : ℕ → Fin 2816 → EReal) (t : Fin cfg0.N) (q : Fin 2048) (j : Fin 256)
    (hw : ∀ e, w e j = w' e (col t j)) (hd : ∀ n, n < 2064 → d n j = D (2048 * (t.val % 4) + n) (col t j)) :
    back w d q.val j = back w' D (row t q).val (col t j) := by
  have := q.isLt
  unfold back
  rw [hw, hw, hw, hd _ (by omega), hd _ (by omega), hd _ (by omega)]
  rfl

/-- The taps' sum over a block's rows, added to the sum over the rows before. -/
theorem tap_rows (d x : ℕ → Fin 256 → EReal) (D X : ℕ → Fin 2816 → EReal) (b : ℕ) (j : Fin 256) (k : Fin 2816)
    (hd : ∀ n, n < 2064 → d n j = D (b + n) k) (hx : ∀ n, n < 2048 → x n j = X (b + n) k) (e : Fin 8) :
    tapSum D X e k b + tapSum d x e j 2048 = tapSum D X e k (b + 2048) := by
  unfold tapSum
  by_cases h : e.val < 3
  · rw [if_pos h, if_pos h, if_pos h, Finset.sum_range_add]
    refine congrArg (_ + ·) (Finset.sum_congr rfl fun n hn => ?_)
    have hn' := Finset.mem_range.mp hn
    rw [hd _ (by omega), hx n hn', add_assoc]
  · rw [if_neg h, if_neg h, if_neg h, add_zero]

/-- The first block's. -/
theorem tap_zero {K : ℕ} (D X : ℕ → Fin K → EReal) (e : Fin 8) (k : Fin K) : tapSum D X e k 0 = 0 := by
  unfold tapSum
  rw [Finset.range_zero, Finset.sum_empty, ite_self]

theorem add_rows (d : ℕ → Fin 256 → EReal) (D : ℕ → Fin 2816 → EReal) (b : ℕ) (j : Fin 256) (k : Fin 2816)
    (hd : ∀ n, n < 2064 → d n j = D (b + n) k) :
    (∑ n ∈ Finset.range b, D n k) + ∑ n ∈ Finset.range 2048, d n j = ∑ n ∈ Finset.range (b + 2048), D n k := by
  rw [Finset.sum_range_add]
  exact congrArg (_ + ·) (Finset.sum_congr rfl fun n hn => hd n (by have := Finset.mem_range.mp hn; omega))

/-! ## What the buffers hold after a grid point -/

theorem outs10 (t : Fin cfg0.N) (q : Fin 2048) (j : Fin 256) :
    (outsAt0 m c t.val t.isLt).1 (ix2 q j) = back (wA0 m c) (DG m c) (row t q).val (col t j) := by
  have e := back_rows (fun e q => iblk m c 8 t (ix2 e q)) (wA0 m c) _ (DG m c) t q j (fun e => iblk8 m c t e j) (fun n hn => gRow_at m c t n hn j)
  by_cases h : t.val % 4 = 0
  · rw [outsAt0_A m c t h (by omega)]
    dsimp only
    exact (at_A_10 _ _ _ _ _ _ _ _ _ _ _ _ _ _ _ _ _ _ _ _ _ _ _ _ _ _ _ _ _ _ _ _ _ _ _ _ _ _ _ _ _ _ _ _ _ _ _ _).trans e
  · rw [outsAt0_B m c t h (by omega)]
    dsimp only
    exact (at_B_10 _ _ _ _ _ _ _ _ _ _ _ _ _ _ _ _ _ _ _ _ _ _ _ _ _ _ _ _ _ _ _ _ _ _ _ _ _ _ _ _ _ _ _ _ _ _ _ _ _ _ _ _).trans e

theorem outs11 (t : Fin cfg0.N) (q : Fin 2048) (j : Fin 256) :
    (outsAt0 m c t.val t.isLt).2.1 (ix2 q j) = back (wA1 m c) (DL m c) (row t q).val (col t j) := by
  have e := back_rows (fun e q => iblk m c 9 t (ix2 e q)) (wA1 m c) _ (DL m c) t q j (fun e => iblk9 m c t e j) (fun n hn => lRow_at m c t n hn j)
  by_cases h : t.val % 4 = 0
  · rw [outsAt0_A m c t h (by omega)]
    dsimp only
    exact (at_A_11 _ _ _ _ _ _ _ _ _ _ _ _ _ _ _ _ _ _ _ _ _ _ _ _ _ _ _ _ _ _ _ _ _ _ _ _ _ _ _ _ _ _ _ _ _ _ _ _).trans e
  · rw [outsAt0_B m c t h (by omega)]
    dsimp only
    exact (at_B_11 _ _ _ _ _ _ _ _ _ _ _ _ _ _ _ _ _ _ _ _ _ _ _ _ _ _ _ _ _ _ _ _ _ _ _ _ _ _ _ _ _ _ _ _ _ _ _ _ _ _ _ _).trans e

theorem first12 (e : Fin 8) (j : Fin 256) (t : Fin cfg0.N) (h : t.val % 4 = 0) :
    (outsAt0 m c t.val t.isLt).2.2.1 (ix2 e j) = tapSum (DG m c) (rowOf (xA0 m c)) e (col t j) (2048 * (t.val % 4 + 1)) := by
  have e1 := tap_rows _ _ (DG m c) (rowOf (xA0 m c)) (2048 * (t.val % 4)) j (col t j) (fun k hk => gRow_at m c t k hk j) (fun k hk => ext_block _ (after (iblk m c 3 t)) (xA0 m c) t (iblk0 m c t) k hk j) e
  rw [outsAt0_A m c t h (by omega)]
  dsimp only
  rw [at_A_12]
  refine Eq.trans ?_ (e1.trans (by rw [Nat.mul_add]))
  rw [h, Nat.mul_zero, tap_zero, zero_add]

theorem outs12 (e : Fin 8) (j : Fin 256) : ∀ (n : ℕ) (hn : n < cfg0.N),
    (outsAt0 m c n hn).2.2.1 (ix2 e j) = tapSum (DG m c) (rowOf (xA0 m c)) e (col ⟨n, hn⟩ j) (2048 * (n % 4 + 1)) := by
  intro n
  induction n with
  | zero => exact fun hn => first12 m c e j ⟨0, hn⟩ rfl
  | succ n ih =>
    intro hn
    by_cases h : (n + 1) % 4 = 0
    · exact first12 m c e j ⟨n + 1, hn⟩ h
    · have hB := outsAt0_B m c ⟨n + 1, hn⟩ h (by dsimp only; omega)
      have ih' := ih (Nat.lt_of_succ_lt hn)
      have ec : col ⟨n, Nat.lt_of_succ_lt hn⟩ j = col ⟨n + 1, hn⟩ j := Fin.ext (by show 256 * (n / 4) + j.val = 256 * ((n + 1) / 4) + j.val; omega)
      have e1 := tap_rows _ _ (DG m c) (rowOf (xA0 m c)) (2048 * ((n + 1) % 4)) j (col ⟨n + 1, hn⟩ j) (fun k hk => gRow_at m c ⟨n + 1, hn⟩ k hk j) (fun k hk => ext_block _ (after (iblk m c 3 ⟨n + 1, hn⟩)) (xA0 m c) ⟨n + 1, hn⟩ (iblk0 m c ⟨n + 1, hn⟩) k hk j) e
      dsimp only at hB
      rw [hB]
      dsimp only
      rw [at_B_12]
      refine Eq.trans ?_ (e1.trans (by rw [Nat.mul_add]))
      refine congrArg (· + _) (ih'.trans ?_)
      rw [ec, show 2048 * (n % 4 + 1) = 2048 * ((n + 1) % 4) by omega]

theorem first13 (e : Fin 8) (j : Fin 256) (t : Fin cfg0.N) (h : t.val % 4 = 0) :
    (outsAt0 m c t.val t.isLt).2.2.2.1 (ix2 e j) = tapSum (DL m c) (rowOf (xA1 m c)) e (col t j) (2048 * (t.val % 4 + 1)) := by
  have e1 := tap_rows _ _ (DL m c) (rowOf (xA1 m c)) (2048 * (t.val % 4)) j (col t j) (fun k hk => lRow_at m c t k hk j) (fun k hk => ext_block _ (after (iblk m c 3 t)) (xA1 m c) t (iblk1 m c t) k hk j) e
  rw [outsAt0_A m c t h (by omega)]
  dsimp only
  rw [at_A_13]
  refine Eq.trans ?_ (e1.trans (by rw [Nat.mul_add]))
  rw [h, Nat.mul_zero, tap_zero, zero_add]

theorem outs13 (e : Fin 8) (j : Fin 256) : ∀ (n : ℕ) (hn : n < cfg0.N),
    (outsAt0 m c n hn).2.2.2.1 (ix2 e j) = tapSum (DL m c) (rowOf (xA1 m c)) e (col ⟨n, hn⟩ j) (2048 * (n % 4 + 1)) := by
  intro n
  induction n with
  | zero => exact fun hn => first13 m c e j ⟨0, hn⟩ rfl
  | succ n ih =>
    intro hn
    by_cases h : (n + 1) % 4 = 0
    · exact first13 m c e j ⟨n + 1, hn⟩ h
    · have hB := outsAt0_B m c ⟨n + 1, hn⟩ h (by dsimp only; omega)
      have ih' := ih (Nat.lt_of_succ_lt hn)
      have ec : col ⟨n, Nat.lt_of_succ_lt hn⟩ j = col ⟨n + 1, hn⟩ j := Fin.ext (by show 256 * (n / 4) + j.val = 256 * ((n + 1) / 4) + j.val; omega)
      have e1 := tap_rows _ _ (DL m c) (rowOf (xA1 m c)) (2048 * ((n + 1) % 4)) j (col ⟨n + 1, hn⟩ j) (fun k hk => lRow_at m c ⟨n + 1, hn⟩ k hk j) (fun k hk => ext_block _ (after (iblk m c 3 ⟨n + 1, hn⟩)) (xA1 m c) ⟨n + 1, hn⟩ (iblk1 m c ⟨n + 1, hn⟩) k hk j) e
      dsimp only at hB
      rw [hB]
      dsimp only
      rw [at_B_13]
      refine Eq.trans ?_ (e1.trans (by rw [Nat.mul_add]))
      refine congrArg (· + _) (ih'.trans ?_)
      rw [ec, show 2048 * (n % 4 + 1) = 2048 * ((n + 1) % 4) by omega]

theorem first14 (j : Fin 256) (t : Fin cfg0.N) (h : t.val % 4 = 0) :
    (outsAt0 m c t.val t.isLt).2.2.2.2.1 (ix2 0 j) = ∑ k ∈ Finset.range (2048 * (t.val % 4 + 1)), DG m c k (col t j) := by
  have e1 := add_rows _ (DG m c) (2048 * (t.val % 4)) j (col t j) (fun k hk => gRow_at m c t k hk j)
  rw [outsAt0_A m c t h (by omega)]
  dsimp only
  rw [at_A_14]
  refine Eq.trans ?_ (e1.trans (by rw [Nat.mul_add]))
  rw [h, Nat.mul_zero, Finset.range_zero, Finset.sum_empty, zero_add]

theorem outs14 (j : Fin 256) : ∀ (n : ℕ) (hn : n < cfg0.N),
    (outsAt0 m c n hn).2.2.2.2.1 (ix2 0 j) = ∑ k ∈ Finset.range (2048 * (n % 4 + 1)), DG m c k (col ⟨n, hn⟩ j) := by
  intro n
  induction n with
  | zero => exact fun hn => first14 m c j ⟨0, hn⟩ rfl
  | succ n ih =>
    intro hn
    by_cases h : (n + 1) % 4 = 0
    · exact first14 m c j ⟨n + 1, hn⟩ h
    · have hB := outsAt0_B m c ⟨n + 1, hn⟩ h (by dsimp only; omega)
      have ih' := ih (Nat.lt_of_succ_lt hn)
      have ec : col ⟨n, Nat.lt_of_succ_lt hn⟩ j = col ⟨n + 1, hn⟩ j := Fin.ext (by show 256 * (n / 4) + j.val = 256 * ((n + 1) / 4) + j.val; omega)
      have e1 := add_rows _ (DG m c) (2048 * ((n + 1) % 4)) j (col ⟨n + 1, hn⟩ j) (fun k hk => gRow_at m c ⟨n + 1, hn⟩ k hk j)
      dsimp only at hB
      rw [hB]
      dsimp only
      rw [at_B_14]
      refine Eq.trans ?_ (e1.trans (by rw [Nat.mul_add]))
      refine congrArg (· + _) (ih'.trans ?_)
      rw [ec, show 2048 * (n % 4 + 1) = 2048 * ((n + 1) % 4) by omega]

theorem first15 (j : Fin 256) (t : Fin cfg0.N) (h : t.val % 4 = 0) :
    (outsAt0 m c t.val t.isLt).2.2.2.2.2 (ix2 0 j) = ∑ k ∈ Finset.range (2048 * (t.val % 4 + 1)), DL m c k (col t j) := by
  have e1 := add_rows _ (DL m c) (2048 * (t.val % 4)) j (col t j) (fun k hk => lRow_at m c t k hk j)
  rw [outsAt0_A m c t h (by omega)]
  dsimp only
  rw [at_A_15]
  refine Eq.trans ?_ (e1.trans (by rw [Nat.mul_add]))
  rw [h, Nat.mul_zero, Finset.range_zero, Finset.sum_empty, zero_add]

theorem outs15 (j : Fin 256) : ∀ (n : ℕ) (hn : n < cfg0.N),
    (outsAt0 m c n hn).2.2.2.2.2 (ix2 0 j) = ∑ k ∈ Finset.range (2048 * (n % 4 + 1)), DL m c k (col ⟨n, hn⟩ j) := by
  intro n
  induction n with
  | zero => exact fun hn => first15 m c j ⟨0, hn⟩ rfl
  | succ n ih =>
    intro hn
    by_cases h : (n + 1) % 4 = 0
    · exact first15 m c j ⟨n + 1, hn⟩ h
    · have hB := outsAt0_B m c ⟨n + 1, hn⟩ h (by dsimp only; omega)
      have ih' := ih (Nat.lt_of_succ_lt hn)
      have ec : col ⟨n, Nat.lt_of_succ_lt hn⟩ j = col ⟨n + 1, hn⟩ j := Fin.ext (by show 256 * (n / 4) + j.val = 256 * ((n + 1) / 4) + j.val; omega)
      have e1 := add_rows _ (DL m c) (2048 * ((n + 1) % 4)) j (col ⟨n + 1, hn⟩ j) (fun k hk => lRow_at m c ⟨n + 1, hn⟩ k hk j)
      dsimp only at hB
      rw [hB]
      dsimp only
      rw [at_B_15]
      refine Eq.trans ?_ (e1.trans (by rw [Nat.mul_add]))
      refine congrArg (· + _) (ih'.trans ?_)
      rw [ec, show 2048 * (n % 4 + 1) = 2048 * ((n + 1) % 4) by omega]

/-! ## The arrays -/

attribute [local irreducible] DG DL rowOf tapSum back outsAt0

theorem final10 (p : Fin 8192) (j : Fin 2816) : (dats m 0 c).arrAt 10 cfg0.N (ix2 p j) = back (wA0 m c) (DG m c) p.val j := by
  have hN : cfg0.N = 44 := N_0
  refine (dats m 0 c).arrAt_forall_of_cover 10 (fun i v => v = back (wA0 m c) (DG m c) (i 0).val (i 1)) (fun t hf y => ?_) (fun i => ?_) (ix2 p j)
  · obtain ⟨h0, h1⟩ := index_at10 t
    rw [Value.flushed10]
    have hy : (y : S2048x256.Idx) = ix2 (y 0) (y 1) := eq_ix2 _
    have e0 : row t (y 0) = ((cfg0.win 10).blk t).view.emb y 0 := Fin.ext (by
      show 2048 * (t.val % 4) + (y 0).val = win0_10.index t 0 * 2048 + 1 * (y 0).val; rw [h0]; omega)
    have e1 : col t (y 1) = ((cfg0.win 10).blk t).view.emb y 1 := Fin.ext (by
      show 256 * (t.val / 4) + (y 1).val = win0_10.index t 1 * 256 + 1 * (y 1).val; rw [h1]; omega)
    refine Eq.trans (congrArg (outsAt0 m c t.val t.isLt).1 hy) ((outs10 m c t (y 0) (y 1)).trans ?_)
    rw [e0, e1]
  · have hi0 : (i 0 : Nat) < 8192 := (i 0).isLt
    have hi1 : (i 1 : Nat) < 2816 := (i 1).isLt
    have ht : 4 * ((i 1 : Nat) / 256) + (i 0 : Nat) / 2048 < cfg0.N := by omega
    obtain ⟨h0, h1⟩ := index_at10 ⟨4 * ((i 1 : Nat) / 256) + (i 0 : Nat) / 2048, ht⟩
    refine ⟨⟨4 * ((i 1 : Nat) / 256) + (i 0 : Nat) / 2048, ht⟩, flush0_10 _, ?_⟩
    show i ∈ ((View.whole main_v32_0).slice (win0_10.rect ⟨4 * ((i 1 : Nat) / 256) + (i 0 : Nat) / 2048, ht⟩)).set
    rw [View.set_slice_whole, Rect.mem_set_unit]
    intro a
    match a with
    | ⟨0, _⟩ => exact span 2048 (i 0).val h0 (by dsimp only; omega)
    | ⟨1, _⟩ => exact span 256 (i 1).val h1 (by dsimp only; omega)

theorem final11 (p : Fin 8192) (j : Fin 2816) : (dats m 0 c).arrAt 11 cfg0.N (ix2 p j) = back (wA1 m c) (DL m c) p.val j := by
  have hN : cfg0.N = 44 := N_0
  refine (dats m 0 c).arrAt_forall_of_cover 11 (fun i v => v = back (wA1 m c) (DL m c) (i 0).val (i 1)) (fun t hf y => ?_) (fun i => ?_) (ix2 p j)
  · obtain ⟨h0, h1⟩ := index_at11 t
    rw [Value.flushed11]
    have hy : (y : S2048x256.Idx) = ix2 (y 0) (y 1) := eq_ix2 _
    have e0 : row t (y 0) = ((cfg0.win 11).blk t).view.emb y 0 := Fin.ext (by
      show 2048 * (t.val % 4) + (y 0).val = win0_11.index t 0 * 2048 + 1 * (y 0).val; rw [h0]; omega)
    have e1 : col t (y 1) = ((cfg0.win 11).blk t).view.emb y 1 := Fin.ext (by
      show 256 * (t.val / 4) + (y 1).val = win0_11.index t 1 * 256 + 1 * (y 1).val; rw [h1]; omega)
    refine Eq.trans (congrArg (outsAt0 m c t.val t.isLt).2.1 hy) ((outs11 m c t (y 0) (y 1)).trans ?_)
    rw [e0, e1]
  · have hi0 : (i 0 : Nat) < 8192 := (i 0).isLt
    have hi1 : (i 1 : Nat) < 2816 := (i 1).isLt
    have ht : 4 * ((i 1 : Nat) / 256) + (i 0 : Nat) / 2048 < cfg0.N := by omega
    obtain ⟨h0, h1⟩ := index_at11 ⟨4 * ((i 1 : Nat) / 256) + (i 0 : Nat) / 2048, ht⟩
    refine ⟨⟨4 * ((i 1 : Nat) / 256) + (i 0 : Nat) / 2048, ht⟩, flush0_11 _, ?_⟩
    show i ∈ ((View.whole main_v32_1).slice (win0_11.rect ⟨4 * ((i 1 : Nat) / 256) + (i 0 : Nat) / 2048, ht⟩)).set
    rw [View.set_slice_whole, Rect.mem_set_unit]
    intro a
    match a with
    | ⟨0, _⟩ => exact span 2048 (i 0).val h0 (by dsimp only; omega)
    | ⟨1, _⟩ => exact span 256 (i 1).val h1 (by dsimp only; omega)

theorem final12 (e : Fin 8) (j : Fin 2816) : (dats m 0 c).arrAt 12 cfg0.N (ix2 e j) = tapSum (DG m c) (rowOf (xA0 m c)) e j 8192 := by
  have hN : cfg0.N = 44 := N_0
  refine (dats m 0 c).arrAt_forall_of_cover 12 (fun i v => v = tapSum (DG m c) (rowOf (xA0 m c)) (i 0) (i 1) 8192) (fun t hf y => ?_) (fun i => ?_) (ix2 e j)
  · obtain ⟨h0, h1⟩ := index_at12 t
    rw [Value.flushed12]
    have h3 : t.val % 4 = 3 := (flush0_12 t).mp hf
    have hy : (y : S8x256.Idx) = ix2 (y 0) (y 1) := eq_ix2 _
    have e0 : (y 0 : Fin 8) = ((cfg0.win 12).blk t).view.emb y 0 := Fin.ext (by
      show (y 0).val = win0_12.index t 0 * 8 + 1 * (y 0).val; rw [h0]; omega)
    have e1 : col t (y 1) = ((cfg0.win 12).blk t).view.emb y 1 := Fin.ext (by
      show 256 * (t.val / 4) + (y 1).val = win0_12.index t 1 * 256 + 1 * (y 1).val; rw [h1]; omega)
    refine Eq.trans (congrArg (outsAt0 m c t.val t.isLt).2.2.1 hy) ((outs12 m c (y 0) (y 1) t.val t.isLt).trans ?_)
    rw [h3, e0, e1]
  · have hi0 : (i 0 : Nat) < 8 := (i 0).isLt
    have hi1 : (i 1 : Nat) < 2816 := (i 1).isLt
    have ht : 4 * ((i 1 : Nat) / 256) + 3 < cfg0.N := by omega
    obtain ⟨h0, h1⟩ := index_at12 ⟨4 * ((i 1 : Nat) / 256) + 3, ht⟩
    refine ⟨⟨4 * ((i 1 : Nat) / 256) + 3, ht⟩, (flush0_12 _).mpr (by dsimp only; omega), ?_⟩
    show i ∈ ((View.whole main_v32_2).slice (win0_12.rect ⟨4 * ((i 1 : Nat) / 256) + 3, ht⟩)).set
    rw [View.set_slice_whole, Rect.mem_set_unit]
    intro a
    match a with
    | ⟨0, _⟩ => exact span 8 (i 0).val h0 (by dsimp only; omega)
    | ⟨1, _⟩ => exact span 256 (i 1).val h1 (by dsimp only; omega)

theorem final13 (e : Fin 8) (j : Fin 2816) : (dats m 0 c).arrAt 13 cfg0.N (ix2 e j) = tapSum (DL m c) (rowOf (xA1 m c)) e j 8192 := by
  have hN : cfg0.N = 44 := N_0
  refine (dats m 0 c).arrAt_forall_of_cover 13 (fun i v => v = tapSum (DL m c) (rowOf (xA1 m c)) (i 0) (i 1) 8192) (fun t hf y => ?_) (fun i => ?_) (ix2 e j)
  · obtain ⟨h0, h1⟩ := index_at13 t
    rw [Value.flushed13]
    have h3 : t.val % 4 = 3 := (flush0_13 t).mp hf
    have hy : (y : S8x256.Idx) = ix2 (y 0) (y 1) := eq_ix2 _
    have e0 : (y 0 : Fin 8) = ((cfg0.win 13).blk t).view.emb y 0 := Fin.ext (by
      show (y 0).val = win0_13.index t 0 * 8 + 1 * (y 0).val; rw [h0]; omega)
    have e1 : col t (y 1) = ((cfg0.win 13).blk t).view.emb y 1 := Fin.ext (by
      show 256 * (t.val / 4) + (y 1).val = win0_13.index t 1 * 256 + 1 * (y 1).val; rw [h1]; omega)
    refine Eq.trans (congrArg (outsAt0 m c t.val t.isLt).2.2.2.1 hy) ((outs13 m c (y 0) (y 1) t.val t.isLt).trans ?_)
    rw [h3, e0, e1]
  · have hi0 : (i 0 : Nat) < 8 := (i 0).isLt
    have hi1 : (i 1 : Nat) < 2816 := (i 1).isLt
    have ht : 4 * ((i 1 : Nat) / 256) + 3 < cfg0.N := by omega
    obtain ⟨h0, h1⟩ := index_at13 ⟨4 * ((i 1 : Nat) / 256) + 3, ht⟩
    refine ⟨⟨4 * ((i 1 : Nat) / 256) + 3, ht⟩, (flush0_13 _).mpr (by dsimp only; omega), ?_⟩
    show i ∈ ((View.whole main_v32_3).slice (win0_13.rect ⟨4 * ((i 1 : Nat) / 256) + 3, ht⟩)).set
    rw [View.set_slice_whole, Rect.mem_set_unit]
    intro a
    match a with
    | ⟨0, _⟩ => exact span 8 (i 0).val h0 (by dsimp only; omega)
    | ⟨1, _⟩ => exact span 256 (i 1).val h1 (by dsimp only; omega)

theorem final14 (j : Fin 2816) : (dats m 0 c).arrAt 14 cfg0.N (ix2 0 j) = ∑ n ∈ Finset.range 8192, DG m c n j := by
  have hN : cfg0.N = 44 := N_0
  refine (dats m 0 c).arrAt_forall_of_cover 14 (fun i v => v = ∑ n ∈ Finset.range 8192, DG m c n (i 1)) (fun t hf y => ?_) (fun i => ?_) (ix2 0 j)
  · obtain ⟨h0, h1⟩ := index_at14 t
    rw [Value.flushed14]
    have h3 : t.val % 4 = 3 := (flush0_14 t).mp hf
    have hy : (y : S1x256.Idx) = ix2 0 (y 1) := (eq_ix2 _).trans (congrArg (fun k => ix2 k (y 1)) (Fin.fin_one_eq_zero _))
    have e1 : col t (y 1) = ((cfg0.win 14).blk t).view.emb y 1 := Fin.ext (by
      show 256 * (t.val / 4) + (y 1).val = win0_14.index t 1 * 256 + 1 * (y 1).val; rw [h1]; omega)
    refine Eq.trans (congrArg (outsAt0 m c t.val t.isLt).2.2.2.2.1 hy) ((outs14 m c (y 1) t.val t.isLt).trans ?_)
    rw [h3, e1]
  · have hi0 : (i 0 : Nat) < 1 := (i 0).isLt
    have hi1 : (i 1 : Nat) < 2816 := (i 1).isLt
    have ht : 4 * ((i 1 : Nat) / 256) + 3 < cfg0.N := by omega
    obtain ⟨h0, h1⟩ := index_at14 ⟨4 * ((i 1 : Nat) / 256) + 3, ht⟩
    refine ⟨⟨4 * ((i 1 : Nat) / 256) + 3, ht⟩, (flush0_14 _).mpr (by dsimp only; omega), ?_⟩
    show i ∈ ((View.whole main_v32_4).slice (win0_14.rect ⟨4 * ((i 1 : Nat) / 256) + 3, ht⟩)).set
    rw [View.set_slice_whole, Rect.mem_set_unit]
    intro a
    match a with
    | ⟨0, _⟩ => exact span 1 (i 0).val h0 (by dsimp only; omega)
    | ⟨1, _⟩ => exact span 256 (i 1).val h1 (by dsimp only; omega)

theorem final15 (j : Fin 2816) : (dats m 0 c).arrAt 15 cfg0.N (ix2 0 j) = ∑ n ∈ Finset.range 8192, DL m c n j := by
  have hN : cfg0.N = 44 := N_0
  refine (dats m 0 c).arrAt_forall_of_cover 15 (fun i v => v = ∑ n ∈ Finset.range 8192, DL m c n (i 1)) (fun t hf y => ?_) (fun i => ?_) (ix2 0 j)
  · obtain ⟨h0, h1⟩ := index_at15 t
    rw [Value.flushed15]
    have h3 : t.val % 4 = 3 := (flush0_15 t).mp hf
    have hy : (y : S1x256.Idx) = ix2 0 (y 1) := (eq_ix2 _).trans (congrArg (fun k => ix2 k (y 1)) (Fin.fin_one_eq_zero _))
    have e1 : col t (y 1) = ((cfg0.win 15).blk t).view.emb y 1 := Fin.ext (by
      show 256 * (t.val / 4) + (y 1).val = win0_15.index t 1 * 256 + 1 * (y 1).val; rw [h1]; omega)
    refine Eq.trans (congrArg (outsAt0 m c t.val t.isLt).2.2.2.2.2 hy) ((outs15 m c (y 1) t.val t.isLt).trans ?_)
    rw [h3, e1]
  · have hi0 : (i 0 : Nat) < 1 := (i 0).isLt
    have hi1 : (i 1 : Nat) < 2816 := (i 1).isLt
    have ht : 4 * ((i 1 : Nat) / 256) + 3 < cfg0.N := by omega
    obtain ⟨h0, h1⟩ := index_at15 ⟨4 * ((i 1 : Nat) / 256) + 3, ht⟩
    refine ⟨⟨4 * ((i 1 : Nat) / 256) + 3, ht⟩, (flush0_15 _).mpr (by dsimp only; omega), ?_⟩
    show i ∈ ((View.whole main_v32_5).slice (win0_15.rect ⟨4 * ((i 1 : Nat) / 256) + 3, ht⟩)).set
    rw [View.set_slice_whole, Rect.mem_set_unit]
    intro a
    match a with
    | ⟨0, _⟩ => exact span 1 (i 0).val h0 (by dsimp only; omega)
    | ⟨1, _⟩ => exact span 256 (i 1).val h1 (by dsimp only; omega)

end Cert.Gate
-- ==== Proof.GateRef.lean ====
/-
  What the reference computes: the gradient of the gated convolution over the whole arrays, read entry by entry.
-/
module

public import proofs.«01_k».proof.Proof.GateArrays
public import proofs.«01_k».proof.Proof.Reals
public import proofs.«01_k».proof.Proof.Gen.Reference6Ideal.Run

@[expose] public section

set_option maxRecDepth 16384

noncomputable section

namespace Cert.Gate

open Cert.Reals Cert.Reference6Ideal Cert.Reference6Ideal.Gen Cert.Reference6Ideal.Value Idealize.ShloMosaic Idealize.ShloMosaic.TcCoe Idealize.SL.Sem

/-! ## The stages, as the reference writes them -/

/-- The three taps, each as a row, and a row read along all rows. -/
def refTap0 (w : FVec Ideal S3x5632 .f32) : FVec Ideal S1x5632 .f32 :=
  broadcastInDim S1x5632 ![1] bcast_S5632_S1x5632_1 (shapeCast _ (extractStridedSlice S1x5632 ![0, 0] w slices_S3x5632_S1x5632_0_0) shapeCasts_S1x5632_S5632)
def refTap1 (w : FVec Ideal S3x5632 .f32) : FVec Ideal S1x5632 .f32 :=
  broadcastInDim S1x5632 ![1] bcast_S5632_S1x5632_1 (shapeCast _ (extractStridedSlice S1x5632 ![1, 0] w slices_S3x5632_S1x5632_1_0) shapeCasts_S1x5632_S5632)
def refTap2 (w : FVec Ideal S3x5632 .f32) : FVec Ideal S1x5632 .f32 :=
  broadcastInDim S1x5632 ![1] bcast_S5632_S1x5632_1 (shapeCast _ (extractStridedSlice S1x5632 ![2, 0] w slices_S3x5632_S1x5632_2_0) shapeCasts_S1x5632_S5632)
def refRows (r : FVec Ideal S1x5632 .f32) : FVec Ideal S8192x5632 .f32 := broadcastInDim S8192x5632 ![0, 1] bcast_S1x5632_S8192x5632_0_1 r

/-- The input one and two rows later. -/
def refLater1 (h : FVec Ideal S8192x5632 .f32) : FVec Ideal S8192x5632 .f32 :=
  concatenate S8192x5632 0 [⟨S1x5632, broadcastInDim S1x5632 ![] bcast_S_S1x5632 (constant S_ .f32 0x00000000#32)⟩,
    ⟨S8191x5632, extractStridedSlice S8191x5632 ![0, 0] h slices_S8192x5632_S8191x5632_0_0⟩] concatenates_S1x5632_S8191x5632_S8192x5632_d0
def refLater2 (h : FVec Ideal S8192x5632 .f32) : FVec Ideal S8192x5632 .f32 :=
  concatenate S8192x5632 0 [⟨S2x5632, broadcastInDim S2x5632 ![] bcast_S_S2x5632 (constant S_ .f32 0x00000000#32)⟩,
    ⟨S8190x5632, extractStridedSlice S8190x5632 ![0, 0] h slices_S8192x5632_S8190x5632_0_0⟩] concatenates_S2x5632_S8190x5632_S8192x5632_d0

/-- The convolution. -/
def refConv (h : FVec Ideal S8192x5632 .f32) (w : FVec Ideal S3x5632 .f32) (b : FVec Ideal S5632 .f32) : FVec Ideal S8192x5632 .f32 :=
  addf (addf (addf (mulf (refRows (refTap0 w)) (refLater2 h)) (mulf (refRows (refTap1 w)) (refLater1 h))) (mulf (refRows (refTap2 w)) h))
    (refRows (broadcastInDim S1x5632 ![1] bcast_S5632_S1x5632_1 b))

/-- Its two halves. -/
def refLo (y : FVec Ideal S8192x5632 .f32) : FVec Ideal S8192x2816 .f32 := extractStridedSlice S8192x2816 ![0, 0] y slices_S8192x5632_S8192x2816_0_0
def refHi (y : FVec Ideal S8192x5632 .f32) : FVec Ideal S8192x2816 .f32 := extractStridedSlice S8192x2816 ![0, 2816] y slices_S8192x5632_S8192x2816_0_2816

/-- The array of ones, and the logistic function. -/
def refOnes : FVec Ideal S8192x2816 .f32 := broadcastInDim S8192x2816 ![] bcast_S_S8192x2816 (constant S_ .f32 0x3F800000#32)
def refSig (g : FVec Ideal S8192x2816 .f32) : FVec Ideal S8192x2816 .f32 := Host.divf refOnes (addf refOnes (Host.exp (Host.negf g)))

/-- The gradients at the convolution's two halves. -/
def refDG (g u a : FVec Ideal S8192x2816 .f32) : FVec Ideal S8192x2816 .f32 :=
  addf (mulf (mulf a u) (refSig g)) (mulf (mulf g (mulf a u)) (mulf (refSig g) (subf refOnes (refSig g))))
def refDL (g a : FVec Ideal S8192x2816 .f32) : FVec Ideal S8192x2816 .f32 := mulf (mulf g (refSig g)) a
def refD (y : FVec Ideal S8192x5632 .f32) (a : FVec Ideal S8192x2816 .f32) : FVec Ideal S8192x5632 .f32 :=
  concatenate S8192x5632 1 [⟨S8192x2816, refDG (refLo y) (refHi y) a⟩, ⟨S8192x2816, refDL (refLo y) a⟩] concatenates_S8192x2816_S8192x2816_S8192x5632_d1

/-- The sum of all rows, as the reference takes it: over the rows, then over one row. -/
def refSumRows (x : FVec Ideal S8192x5632 .f32) : FVec Ideal S5632 .f32 :=
  Host.reduceAdd (shapeCast S1x5632 (Host.reduceAdd x (constant S_ .f32 0x00000000#32) reducesTo_S8192x5632_S5632_d0 h_S_) shapeCasts_S5632_S1x5632)
    (constant S_ .f32 0x00000000#32) reducesTo_S1x5632_S5632_d0 h_S_

/-- The gradient at the input: each tap times the gradient, moved back by the tap's rows. -/
def refBack1 (x : FVec Ideal S8192x5632 .f32) : FVec Ideal S8192x5632 .f32 :=
  pad S8192x5632 ![0, 0] ![1, 0] ![0, 0] (extractStridedSlice S8191x5632 ![1, 0] x slices_S8192x5632_S8191x5632_1_0) (constant S_ .f32 0x00000000#32) pads_S8191x5632_S8192x5632_010_000 h_S_
def refBack2 (x : FVec Ideal S8192x5632 .f32) : FVec Ideal S8192x5632 .f32 :=
  pad S8192x5632 ![0, 0] ![2, 0] ![0, 0] (extractStridedSlice S8190x5632 ![2, 0] x slices_S8192x5632_S8190x5632_2_0) (constant S_ .f32 0x00000000#32) pads_S8190x5632_S8192x5632_020_000 h_S_
def refDh (d : FVec Ideal S8192x5632 .f32) (w : FVec Ideal S3x5632 .f32) : FVec Ideal S8192x5632 .f32 :=
  addf (addf (mulf (refRows (refTap2 w)) d) (refBack1 (mulf (refRows (refTap1 w)) d))) (refBack2 (mulf (refRows (refTap0 w)) d))

/-- The gradient of the taps, with five rows of zeros below. -/
def refRow (v : FVec Ideal S5632 .f32) : FVec Ideal S1x5632 .f32 := broadcastInDim S1x5632 ![1] bcast_S5632_S1x5632_1 v
def refDw (d h : FVec Ideal S8192x5632 .f32) : FVec Ideal S8x5632 .f32 :=
  pad S8x5632 ![0, 0] ![5, 0] ![0, 0]
    (addf (addf (pad S3x5632 ![2, 0] ![0, 0] ![0, 0] (refRow (refSumRows (mulf d h))) (constant S_ .f32 0x00000000#32) pads_S1x5632_S3x5632_200_000 h_S_)
      (pad S3x5632 ![1, 0] ![1, 0] ![0, 0] (refRow (refSumRows (mulf d (refLater1 h)))) (constant S_ .f32 0x00000000#32) pads_S1x5632_S3x5632_110_000 h_S_))
      (pad S3x5632 ![0, 0] ![2, 0] ![0, 0] (refRow (refSumRows (mulf d (refLater2 h)))) (constant S_ .f32 0x00000000#32) pads_S1x5632_S3x5632_020_000 h_S_))
    (sitofp .f32 (constantI S_ 32 0#32)) pads_S3x5632_S8x5632_050_000 h_S_

/-! ## The stages entry by entry -/

theorem refTap0_at (w : FVec Ideal S3x5632 .f32) (p : Fin 8192) (j : Fin 5632) : refRows (refTap0 w) (ix2 p j) = (w (ix2 0 j) : EReal) := by
  pointwise [refRows, refTap0]
theorem refTap1_at (w : FVec Ideal S3x5632 .f32) (p : Fin 8192) (j : Fin 5632) : refRows (refTap1 w) (ix2 p j) = (w (ix2 1 j) : EReal) := by
  pointwise [refRows, refTap1]
theorem refTap2_at (w : FVec Ideal S3x5632 .f32) (p : Fin 8192) (j : Fin 5632) : refRows (refTap2 w) (ix2 p j) = (w (ix2 2 j) : EReal) := by
  pointwise [refRows, refTap2]

/-- The rows of an array. -/
abbrev rowsOf {K : ℕ} {φ : FTy} (x : FVec Ideal ⟨2, ![8192, K]⟩ φ) : ℕ → Fin K → EReal := rowOf fun p j => x (ix2 p j)

theorem rowsOf_lt {K : ℕ} {φ : FTy} (x : FVec Ideal ⟨2, ![8192, K]⟩ φ) (n : ℕ) (h : n < 8192) (j : Fin K) : rowsOf x n j = x (ix2 ⟨n, h⟩ j) := dif_pos h
theorem rowsOf_ge {K : ℕ} {φ : FTy} (x : FVec Ideal ⟨2, ![8192, K]⟩ φ) (n : ℕ) (h : ¬n < 8192) (j : Fin K) : rowsOf x n j = 0 := dif_neg h
theorem rowsOf_val {K : ℕ} {φ : FTy} (x : FVec Ideal ⟨2, ![8192, K]⟩ φ) (p : Fin 8192) (j : Fin K) : rowsOf x p.val j = x (ix2 p j) := dif_pos p.isLt

theorem refLater1_at (h : FVec Ideal S8192x5632 .f32) (p : Fin 8192) (j : Fin 5632) :
    refLater1 h (ix2 p j) = if 1 ≤ p.val then rowsOf h (p.val - 1) j else 0 := by
  pointwise [refLater1]
  by_cases h1 : p.val < 1
  · rw [dif_pos h1, if_neg (by omega)]
  · exact (dif_neg h1).trans ((rowsOf_lt h (p.val - 1) (by omega) j).symm.trans (if_pos (by omega)).symm)

theorem refLater2_at (h : FVec Ideal S8192x5632 .f32) (p : Fin 8192) (j : Fin 5632) :
    refLater2 h (ix2 p j) = if 2 ≤ p.val then rowsOf h (p.val - 2) j else 0 := by
  pointwise [refLater2]
  by_cases h1 : p.val < 2
  · rw [dif_pos h1, if_neg (by omega)]
  · exact (dif_neg h1).trans ((rowsOf_lt h (p.val - 2) (by omega) j).symm.trans (if_pos (by omega)).symm)

theorem refBack1_at (x : FVec Ideal S8192x5632 .f32) (p : Fin 8192) (j : Fin 5632) : refBack1 x (ix2 p j) = rowsOf x (p.val + 1) j := by
  pointwise [refBack1]
  by_cases h1 : p.val < 8191
  · rw [dif_pos h1, rowsOf_lt _ (p.val + 1) (by omega)]
    exact congrArg x (congrArg (fun k => ix2 k j) (Fin.ext (Nat.add_comm 1 p.val)))
  · rw [dif_neg h1, rowsOf_ge _ (p.val + 1) (by omega)]

theorem refBack2_at (x : FVec Ideal S8192x5632 .f32) (p : Fin 8192) (j : Fin 5632) : refBack2 x (ix2 p j) = rowsOf x (p.val + 2) j := by
  pointwise [refBack2]
  by_cases h1 : p.val < 8190
  · rw [dif_pos h1, rowsOf_lt _ (p.val + 2) (by omega)]
    exact congrArg x (congrArg (fun k => ix2 k j) (Fin.ext (Nat.add_comm 2 p.val)))
  · rw [dif_neg h1, rowsOf_ge _ (p.val + 2) (by omega)]

theorem refSumRows_at (x : FVec Ideal S8192x5632 .f32) (j : Fin 5632) : refSumRows x (ix1 j) = ∑ p : Fin 8192, (x (ix2 p j) : EReal) := by
  pointwise [refSumRows]
  exact Fin.sum_univ_one _

/-! ## The results entry by entry -/

/-- A row times a factor. -/
theorem rowOf_mul {K : ℕ} (w : Fin K → EReal) (X : Fin 8192 → Fin K → EReal) (n : ℕ) (j : Fin K) :
    rowOf (fun p j => w j * X p j) n j = w j * rowOf X n j := by
  by_cases h : n < 8192
  · rw [rowOf_lt _ _ h, rowOf_lt _ _ h]
  · rw [rowOf_ge _ _ h, rowOf_ge _ _ h, mul_zero]

/-- The taps, with five rows of zeros below. -/
def tapsOf (w : FVec Ideal S3x5632 .f32) (e : Fin 8) (j : Fin 5632) : EReal := if h : e.val < 3 then w (ix2 ⟨e.val, h⟩ j) else 0

theorem refDh_at (d : FVec Ideal S8192x5632 .f32) (w : FVec Ideal S3x5632 .f32) (p : Fin 8192) (j : Fin 5632) :
    refDh d w (ix2 p j) = back (tapsOf w) (rowsOf d) p.val j := by
  have e1 : rowsOf (mulf (refRows (refTap1 w)) d) (p.val + 1) j = w (ix2 1 j) * rowsOf d (p.val + 1) j := by
    rw [← rowOf_mul fun j => w (ix2 1 j)]
    refine congrArg (fun f => rowOf f _ j) (funext fun p => funext fun j => ?_)
    pointwise [refTap1_at]
  have e2 : rowsOf (mulf (refRows (refTap0 w)) d) (p.val + 2) j = w (ix2 0 j) * rowsOf d (p.val + 2) j := by
    rw [← rowOf_mul fun j => w (ix2 0 j)]
    refine congrArg (fun f => rowOf f _ j) (funext fun p => funext fun j => ?_)
    pointwise [refTap0_at]
  pointwise [refDh, refTap2_at, refBack1_at, refBack2_at, e1, e2]
  have t0 : tapsOf w 0 j = w (ix2 0 j) := rfl
  have t1 : tapsOf w 1 j = w (ix2 1 j) := rfl
  have t2 : tapsOf w 2 j = w (ix2 2 j) := rfl
  unfold back
  rw [rowsOf_val, t0, t1, t2, add_comm (_ + _), add_assoc, add_comm (w (ix2 2 j) * _)]

/-- Sums over all rows. -/
theorem sum_rowsOf (f : ℕ → EReal) : ∑ p : Fin 8192, f p.val = ∑ n ∈ Finset.range 8192, f n := (Finset.sum_range f).symm

/-- A sum against a moved array: the gradient so many rows later against the array itself. -/
theorem shift_sum (D H : ℕ → EReal) (s M : ℕ) (hD : ∀ n, M + s ≤ n → D n = 0) :
    ∑ n ∈ Finset.range (M + s), D n * (if s ≤ n then H (n - s) else 0) = ∑ n ∈ Finset.range (M + s), D (n + s) * H n := by
  have l : ∑ n ∈ Finset.range s, D n * (if s ≤ n then H (n - s) else 0) = 0 :=
    Finset.sum_eq_zero fun n hn => by rw [if_neg (by have := Finset.mem_range.mp hn; omega), mul_zero]
  have r : ∑ n ∈ Finset.range s, D (M + n + s) * H (M + n) = 0 :=
    Finset.sum_eq_zero fun n _ => by rw [hD _ (by omega), zero_mul]
  rw [Finset.sum_range_add (fun n => D (n + s) * H n) M s, r, add_zero, Nat.add_comm M s, Finset.sum_range_add, l, zero_add]
  exact Finset.sum_congr rfl fun n _ => by rw [if_pos (by omega), Nat.add_sub_cancel_left, Nat.add_comm s n]

theorem refDw_at (d h : FVec Ideal S8192x5632 .f32) (e : Fin 8) (j : Fin 5632) :
    refDw d h (ix2 e j) = tapSum (rowsOf d) (rowsOf h) e j 8192 := by
  have e0 : ∑ p : Fin 8192, (d (ix2 p j) : EReal) * h (ix2 p j) = ∑ n ∈ Finset.range 8192, rowsOf d n j * rowsOf h n j := by
    rw [← sum_rowsOf fun n => rowsOf d n j * rowsOf h n j]
    exact Finset.sum_congr rfl fun p _ => by rw [rowsOf_val, rowsOf_val]
  have e1 : ∑ p : Fin 8192, (d (ix2 p j) : EReal) * refLater1 h (ix2 p j) = ∑ n ∈ Finset.range 8192, rowsOf d (n + 1) j * rowsOf h n j := by
    rw [← shift_sum (fun n => rowsOf d n j) (fun n => rowsOf h n j) 1 8191 (fun n hn => rowOf_ge _ _ (by omega) _),
      ← sum_rowsOf fun n => rowsOf d n j * (if 1 ≤ n then rowsOf h (n - 1) j else 0)]
    exact Finset.sum_congr rfl fun p _ => by rw [rowsOf_val, refLater1_at]
  have e2 : ∑ p : Fin 8192, (d (ix2 p j) : EReal) * refLater2 h (ix2 p j) = ∑ n ∈ Finset.range 8192, rowsOf d (n + 2) j * rowsOf h n j := by
    rw [← shift_sum (fun n => rowsOf d n j) (fun n => rowsOf h n j) 2 8190 (fun n hn => rowOf_ge _ _ (by omega) _),
      ← sum_rowsOf fun n => rowsOf d n j * (if 2 ≤ n then rowsOf h (n - 2) j else 0)]
    exact Finset.sum_congr rfl fun p _ => by rw [rowsOf_val, refLater2_at]
  pointwise [refDw, refRow, refSumRows_at, e0, e1, e2]
  have z : (FloatOps.sitofp .f32 0#32 : Ideal .f32) = (0 : EReal) := by
    show (((0#32).toInt : ℝ) : EReal) = 0
    simp
  unfold tapSum
  fin_cases e <;> simp [z]

theorem refD_lo (y : FVec Ideal S8192x5632 .f32) (a : FVec Ideal S8192x2816 .f32) (p : Fin 8192) (j : Fin 2816) :
    refD y a (ix2 p (lo j)) = refDG (refLo y) (refHi y) a (ix2 p j) := by
  pointwise [refD]
  exact dif_pos (show (lo j).val < 2816 from j.isLt)

theorem refD_hi (y : FVec Ideal S8192x5632 .f32) (a : FVec Ideal S8192x2816 .f32) (p : Fin 8192) (j : Fin 2816) :
    refD y a (ix2 p (hi j)) = refDL (refLo y) a (ix2 p j) := by
  pointwise [refD]
  rw [dif_neg (show ¬(hi j).val < 2816 by show ¬2816 + j.val < 2816; omega)]
  exact congrArg (refDL (refLo y) a) (congrArg (ix2 p) (Fin.ext (by show 2816 + j.val - 2816 = j.val; omega)))

theorem refDG_at (g u a : FVec Ideal S8192x2816 .f32) (p : Fin 8192) (j : Fin 2816) (r s t : ℝ)
    (hg : g (ix2 p j) = (r : EReal)) (hu : u (ix2 p j) = (s : EReal)) (ha : a (ix2 p j) = (t : EReal)) :
    refDG g u a (ix2 p j) = gateGrad (g (ix2 p j)) (u (ix2 p j)) (a (ix2 p j)) := by
  pointwise [refDG, refSig, refOnes]
  show _ * Ideal.logistic _ + _ * (Ideal.logistic _ * (1 - Ideal.logistic _)) = _
  unfold gateGrad
  rw [hg, hu, ha, Ideal.logistic_coe]
  simp only [← EReal.coe_mul, ← EReal.coe_one, ← EReal.coe_sub, ← EReal.coe_add]
  congr 1; ring

theorem refDL_at (g a : FVec Ideal S8192x2816 .f32) (p : Fin 8192) (j : Fin 2816) :
    refDL g a (ix2 p j) = linGrad (g (ix2 p j)) (a (ix2 p j)) := by
  pointwise [refDL, refSig, refOnes]
  exact mul_comm _ _

theorem refConv_real (h : FVec Ideal S8192x5632 .f32) (w : FVec Ideal S3x5632 .f32) (b : FVec Ideal S5632 .f32)
    (hh : ∀ p j, ∃ r : ℝ, h (ix2 p j) = (r : EReal)) (hw : ∀ e j, ∃ r : ℝ, w (ix2 e j) = (r : EReal)) (hb : ∀ j, ∃ r : ℝ, b (ix1 j) = (r : EReal))
    (p : Fin 8192) (j : Fin 5632) : ∃ r : ℝ, refConv h w b (ix2 p j) = (r : EReal) := by
  have hr : ∀ n, ∃ r : ℝ, rowsOf h n j = (r : EReal) := fun n => by
    by_cases hn : n < 8192
    · rw [rowsOf_lt _ _ hn]; exact hh _ _
    · rw [rowsOf_ge _ _ hn]; exact ⟨0, rfl⟩
  have h1 : ∃ r : ℝ, refLater1 h (ix2 p j) = (r : EReal) := by
    rw [refLater1_at]; split_ifs
    · exact hr _
    · exact ⟨0, rfl⟩
  have h2 : ∃ r : ℝ, refLater2 h (ix2 p j) = (r : EReal) := by
    rw [refLater2_at]; split_ifs
    · exact hr _
    · exact ⟨0, rfl⟩
  obtain ⟨x1, h1⟩ := h1
  obtain ⟨x2, h2⟩ := h2
  obtain ⟨x0, h0⟩ := hh p j
  obtain ⟨w0, hw0⟩ := hw 0 j
  obtain ⟨w1, hw1⟩ := hw 1 j
  obtain ⟨w2, hw2⟩ := hw 2 j
  obtain ⟨y, hy⟩ := hb j
  have e : refRows (broadcastInDim S1x5632 ![1] bcast_S5632_S1x5632_1 b) (ix2 p j) = (y : EReal) := by
    pointwise [refRows, hy]
  pointwise [refConv, refTap0_at, refTap1_at, refTap2_at, h0, h1, h2, hw0, hw1, hw2, e]
  simp only [← EReal.coe_mul, ← EReal.coe_add]
  exact ⟨_, rfl⟩

/-! ## The program's results -/

section Results
variable (m : (ℓ : Loc nD τ sig) → Buf (Elt Ideal) ℓ) (c : Dev nD)

/-- The arguments, the convolution, and the gradient at its result. -/
def refH : FVec Ideal S8192x5632 .f32 := extf (F := Ideal) (φ := .bf16) .f32 (m ((c.tc : Thread nD τ).loc main_arg0)) bitsLt_bf16_f32
def refA : FVec Ideal S8192x2816 .f32 := extf (F := Ideal) (φ := .bf16) .f32 (m ((c.tc : Thread nD τ).loc main_arg1)) bitsLt_bf16_f32
def refW : FVec Ideal S3x5632 .f32 := m ((c.tc : Thread nD τ).loc main_arg2)
def refB : FVec Ideal S5632 .f32 := m ((c.tc : Thread nD τ).loc main_arg3)
def refY : FVec Ideal S8192x5632 .f32 := refConv (refH m c) (refW m c) (refB m c)
def refDD : FVec Ideal S8192x5632 .f32 := refD (refY m c) (refA m c)

theorem out0_eq : res_out0 m c = extractStridedSlice S8192x2816 ![0, 0] (truncf (F := Ideal) .bf16 (refDh (refDD m c) (refW m c)) bitsLt_bf16_f32) slices_S8192x5632_S8192x2816_0_0 := rfl
theorem out1_eq : res_out1 m c = extractStridedSlice S8192x2816 ![0, 2816] (truncf (F := Ideal) .bf16 (refDh (refDD m c) (refW m c)) bitsLt_bf16_f32) slices_S8192x5632_S8192x2816_0_2816 := rfl
theorem out2_eq : res_out2 m c = extractStridedSlice S8x2816 ![0, 0] (refDw (refDD m c) (refH m c)) slices_S8x5632_S8x2816_0_0 := rfl
theorem out3_eq : res_out3 m c = extractStridedSlice S8x2816 ![0, 2816] (refDw (refDD m c) (refH m c)) slices_S8x5632_S8x2816_0_2816 := rfl
theorem out4_eq : res_out4 m c = extractStridedSlice S1x2816 ![0, 0] (shapeCast S1x5632 (refSumRows (refDD m c)) shapeCasts_S5632_S1x5632) slices_S1x5632_S1x2816_0_0 := rfl
theorem out5_eq : res_out5 m c = extractStridedSlice S1x2816 ![0, 2816] (shapeCast S1x5632 (refSumRows (refDD m c)) shapeCasts_S5632_S1x5632) slices_S1x5632_S1x2816_0_2816 := rfl

theorem out0_at (p : Fin 8192) (j : Fin 2816) : res_out0 m c (ix2 p j) = back (tapsOf (refW m c)) (rowsOf (refDD m c)) p.val (lo j) := by
  rw [out0_eq, ← refDh_at]
  pointwise
  rfl

theorem out1_at (p : Fin 8192) (j : Fin 2816) : res_out1 m c (ix2 p j) = back (tapsOf (refW m c)) (rowsOf (refDD m c)) p.val (hi j) := by
  rw [out1_eq, ← refDh_at]
  pointwise
  rfl

theorem out2_at (e : Fin 8) (j : Fin 2816) : res_out2 m c (ix2 e j) = tapSum (rowsOf (refDD m c)) (rowsOf (refH m c)) e (lo j) 8192 := by
  rw [out2_eq, ← refDw_at]
  pointwise
  rfl

theorem out3_at (e : Fin 8) (j : Fin 2816) : res_out3 m c (ix2 e j) = tapSum (rowsOf (refDD m c)) (rowsOf (refH m c)) e (hi j) 8192 := by
  rw [out3_eq, ← refDw_at]
  pointwise
  rfl

theorem out4_at (j : Fin 2816) : res_out4 m c (ix2 0 j) = ∑ n ∈ Finset.range 8192, rowsOf (refDD m c) n (lo j) := by
  rw [out4_eq, ← sum_rowsOf fun n => rowsOf (refDD m c) n (lo j)]
  simp only [rowsOf_val]
  rw [← refSumRows_at]
  pointwise
  rfl

theorem out5_at (j : Fin 2816) : res_out5 m c (ix2 0 j) = ∑ n ∈ Finset.range 8192, rowsOf (refDD m c) n (hi j) := by
  rw [out5_eq, ← sum_rowsOf fun n => rowsOf (refDD m c) n (hi j)]
  simp only [rowsOf_val]
  rw [← refSumRows_at]
  pointwise
  rfl

end Results

end Cert.Gate
end
-- ==== Proof.GateClaim.lean ====
/-
  The gated convolution's claim: on finite arguments kernel and reference leave the same gradients.
-/
module

public import proofs.«01_k».proof.Defs
public import proofs.«01_k».proof.Proof.Finite
public import proofs.«01_k».proof.Proof.GateRef
public import proofs.«01_k».proof.Proof.Gen.Pre_gate_finite

@[expose] public section

set_option maxRecDepth 16384

noncomputable section

namespace Cert.Gate

open Cert.Reals Idealize.ShloMosaic Idealize.ShloMosaic.TcCoe Idealize.SL.Sem

attribute [local instance] Cert.Kernel6Ideal.Gen.facts Cert.Reference6Ideal.Gen.facts Cert.Pre_gate_finite.Gen.facts

/-! ## The arrays the kernel's host code prepares -/

section Host
open Cert.Kernel6Ideal Cert.Kernel6Ideal.Gen
variable (m : (ℓ : Loc nD τ sig) → Buf (Elt Ideal) ℓ) (c : Dev nD)

/-- The input, the incoming gradient, the taps and the shift. -/
def argH : FVec Ideal S8192x5632 .f32 := extf (F := Ideal) (φ := .bf16) .f32 (m ((c.tc : Thread nD τ).loc main_arg0)) bitsLt_bf16_f32
def argA : FVec Ideal S8192x2816 .f32 := extf (F := Ideal) (φ := .bf16) .f32 (m ((c.tc : Thread nD τ).loc main_arg1)) bitsLt_bf16_f32
def argW : FVec Ideal S3x5632 .f32 := m ((c.tc : Thread nD τ).loc main_arg2)
def argB : FVec Ideal S5632 .f32 := m ((c.tc : Thread nD τ).loc main_arg3)
def argY : FVec Ideal S8192x5632 .f32 := refConv (argH m c) (argW m c) (argB m c)

theorem gA_eq (p : Fin 8192) (j : Fin 2816) : gA m c p j = argY m c (ix2 p (lo j)) := by
  have e : V m c main_v28 = extractStridedSlice S8192x2816 ![0, 0] (truncf (F := Ideal) (φ := .f32) .bf16 (argY m c) bitsLt_bf16_f32) slices_S8192x5632_S8192x2816_0_0 := by
    unfold V; after_results_simp <;> rfl
  unfold gA
  rw [e]
  pointwise
  rfl

theorem uA_eq (p : Fin 8192) (j : Fin 2816) : uA m c p j = argY m c (ix2 p (hi j)) := by
  have e : V m c main_v29 = extractStridedSlice S8192x2816 ![0, 2816] (truncf (F := Ideal) (φ := .f32) .bf16 (argY m c) bitsLt_bf16_f32) slices_S8192x5632_S8192x2816_0_2816 := by
    unfold V; after_results_simp <;> rfl
  unfold uA
  rw [e]
  pointwise
  rfl

theorem aA_eq (p : Fin 8192) (j : Fin 2816) : aA m c p j = argA m c (ix2 p j) := by
  unfold aA argA
  rw [V_main_arg1]; rfl

theorem xA0_eq (p : Fin 8192) (j : Fin 2816) : xA0 m c p j = argH m c (ix2 p (lo j)) := by
  unfold xA0 argH
  rw [V_main_arg0]; rfl

theorem xA1_eq (p : Fin 8192) (j : Fin 2816) : xA1 m c p j = argH m c (ix2 p (hi j)) := by
  unfold xA1 argH
  rw [V_main_arg0]; rfl

theorem V_taps (e : Fin 8) (j : Fin 5632) : V m c main_v31 (ix2 e j) = tapsOf (argW m c) e j := by
  have h : V m c main_v31 = concatenate S8x5632 0 [⟨S3x5632, argW m c⟩, ⟨S5x5632, broadcastInDim S5x5632 ![] bcast_S_S5x5632 (constant (F := Ideal) S_ .f32 0x00000000#32)⟩]
      concatenates_S3x5632_S5x5632_S8x5632_d0 := by
    unfold V; after_results_simp <;> rfl
  rw [h]
  pointwise
  rfl

/-! ## Kernel and reference -/

/-- The arguments are finite: every entry is a real. -/
structure Real : Prop where
  h : ∀ p j, ∃ r : ℝ, argH m c (ix2 p j) = (r : EReal)
  a : ∀ p j, ∃ r : ℝ, argA m c (ix2 p j) = (r : EReal)
  w : ∀ e j, ∃ r : ℝ, argW m c (ix2 e j) = (r : EReal)
  b : ∀ j, ∃ r : ℝ, argB m c (ix1 j) = (r : EReal)

theorem real_of_finite (h : Cert.Pre_Kernel6Ideal_gate_finite m) : Real m c := by
  have e := congrFun (h c) (fun k => k.elim0)
  unfold Cert.Pre_gate_finite.fn Cert.Pre_gate_finite.fn_part1 at e
  obtain ⟨e, h3⟩ := IntOp.andi_eq_one.1 e
  obtain ⟨e, h2⟩ := IntOp.andi_eq_one.1 e
  obtain ⟨h0, h1⟩ := IntOp.andi_eq_one.1 e
  exact ⟨fun p k => ⟨_, (finite_of_all ofBits_inf_half h0 _).symm⟩, fun p k => ⟨_, (finite_of_all ofBits_inf_half h1 _).symm⟩,
    fun p k => ⟨_, (finite_of_all ofBits_inf h2 _).symm⟩, fun k => ⟨_, (finite_of_all ofBits_inf h3 _).symm⟩⟩

/-- The gradient at the convolution's result, as the reference writes it. -/
def argD : FVec Ideal S8192x5632 .f32 := refD (argY m c) (argA m c)

variable {m c}

theorem DG_ref (H : Real m c) (n : ℕ) (j : Fin 2816) : DG m c n j = rowsOf (argD m c) n (lo j) := by
  by_cases h : n < 8192
  · obtain ⟨r, hr⟩ := refConv_real _ _ _ H.h H.w H.b ⟨n, h⟩ (lo j)
    obtain ⟨s, hs⟩ := refConv_real _ _ _ H.h H.w H.b ⟨n, h⟩ (hi j)
    obtain ⟨t, ht⟩ := H.a ⟨n, h⟩ j
    have e1 : refLo (argY m c) (ix2 ⟨n, h⟩ j) = argY m c (ix2 ⟨n, h⟩ (lo j)) := by pointwise [refLo]; rfl
    have e2 : refHi (argY m c) (ix2 ⟨n, h⟩ j) = argY m c (ix2 ⟨n, h⟩ (hi j)) := by pointwise [refHi]; rfl
    rw [rowsOf_lt _ _ h]
    unfold DG argD
    rw [rowOf_lt _ _ h, refD_lo, refDG_at _ _ _ _ _ r s t (e1.trans hr) (e2.trans hs) ht, gA_eq, uA_eq, aA_eq, e1, e2]
  · rw [rowsOf_ge _ _ h]
    exact rowOf_ge _ _ h _

theorem DL_ref (n : ℕ) (j : Fin 2816) : DL m c n j = rowsOf (argD m c) n (hi j) := by
  by_cases h : n < 8192
  · have e1 : refLo (argY m c) (ix2 ⟨n, h⟩ j) = argY m c (ix2 ⟨n, h⟩ (lo j)) := by pointwise [refLo]; rfl
    rw [rowsOf_lt _ _ h]
    unfold DL argD
    rw [rowOf_lt _ _ h, refD_hi, refDL_at, gA_eq, aA_eq, e1]
  · rw [rowsOf_ge _ _ h]
    exact rowOf_ge _ _ h _

theorem x0_ref (n : ℕ) (j : Fin 2816) : rowOf (xA0 m c) n j = rowsOf (argH m c) n (lo j) := by
  unfold rowsOf rowOf; simp only [xA0_eq]
theorem x1_ref (n : ℕ) (j : Fin 2816) : rowOf (xA1 m c) n j = rowsOf (argH m c) n (hi j) := by
  unfold rowsOf rowOf; simp only [xA1_eq]

theorem back_ref {w : Fin 8 → Fin 2816 → EReal} {D : ℕ → Fin 2816 → EReal} {w' : Fin 8 → Fin 5632 → EReal} {D' : ℕ → Fin 5632 → EReal} {j : Fin 2816} {k : Fin 5632}
    (hw : ∀ e, w e j = w' e k) (hD : ∀ n, D n j = D' n k) (n : ℕ) : back w D n j = back w' D' n k := by
  unfold back; simp only [hw, hD]
theorem tap_ref {D x : ℕ → Fin 2816 → EReal} {D' x' : ℕ → Fin 5632 → EReal} {j : Fin 2816} {k : Fin 5632}
    (hD : ∀ n, D n j = D' n k) (hx : ∀ n, x n j = x' n k) (e : Fin 8) (N : ℕ) : tapSum D x e j N = tapSum D' x' e k N := by
  unfold tapSum; simp only [hD, hx]

theorem sums_ref {f g : ℕ → EReal} (h : ∀ n, f n = g n) : ∑ n ∈ Finset.range 8192, f n = ∑ n ∈ Finset.range 8192, g n :=
  Finset.sum_congr rfl fun n _ => h n

/-- The kernel's six arrays in the reference's terms. -/
theorem kernel0 (H : Real m c) (p : Fin 8192) (j : Fin 2816) : (dats m 0 c).arrAt 10 cfg0.N (ix2 p j) = back (tapsOf (argW m c)) (rowsOf (argD m c)) p.val (lo j) :=
  (final10 m c p j).trans (back_ref (fun e => V_taps m c e (lo j)) (fun n => DG_ref H n j) _)
theorem kernel1 (p : Fin 8192) (j : Fin 2816) : (dats m 0 c).arrAt 11 cfg0.N (ix2 p j) = back (tapsOf (argW m c)) (rowsOf (argD m c)) p.val (hi j) :=
  (final11 m c p j).trans (back_ref (fun e => V_taps m c e (hi j)) (fun n => DL_ref n j) _)
theorem kernel2 (H : Real m c) (e : Fin 8) (j : Fin 2816) : (dats m 0 c).arrAt 12 cfg0.N (ix2 e j) = tapSum (rowsOf (argD m c)) (rowsOf (argH m c)) e (lo j) 8192 :=
  (final12 m c e j).trans (tap_ref (fun n => DG_ref H n j) (fun n => x0_ref n j) e 8192)
theorem kernel3 (e : Fin 8) (j : Fin 2816) : (dats m 0 c).arrAt 13 cfg0.N (ix2 e j) = tapSum (rowsOf (argD m c)) (rowsOf (argH m c)) e (hi j) 8192 :=
  (final13 m c e j).trans (tap_ref (fun n => DL_ref n j) (fun n => x1_ref n j) e 8192)
theorem kernel4 (H : Real m c) (j : Fin 2816) : (dats m 0 c).arrAt 14 cfg0.N (ix2 0 j) = (∑ n ∈ Finset.range 8192, rowsOf (argD m c) n (lo j) : EReal) :=
  (final14 m c j).trans (sums_ref fun n => DG_ref H n j)
theorem kernel5 (j : Fin 2816) : (dats m 0 c).arrAt 15 cfg0.N (ix2 0 j) = (∑ n ∈ Finset.range 8192, rowsOf (argD m c) n (hi j) : EReal) :=
  (final15 m c j).trans (sums_ref fun n => DL_ref n j)

end Host

theorem one_row (e : Fin 1) : e = 0 := Subsingleton.elim _ _

theorem agree : Cert.algebraic_Kernel6Ideal_Reference6Ideal_pre_gate_finite := by
  intro m g m' g' hp ha
  have H := fun c => real_of_finite m c hp
  have eD : ∀ c, argD m c = refDD m' c := fun c => by
    obtain ⟨e0, e1, e2, e3⟩ := ha c
    unfold refDD argD refY argY refH refA refW refB argH argA argW argB
    rw [e0, e1, e2, e3]
  have eH : ∀ c, argH m c = refH m' c := fun c => by
    unfold refH argH; rw [(ha c).1]
  have eW : ∀ c, argW m c = refW m' c := fun c => (ha c).2.2.1.symm
  refine ⟨_, _, _, _, _, _, Cert.Kernel6Ideal.Value.run_blocks m g,
    (θ_run Cert.Reference6Ideal.defs _ _).mono (fun r h c => ?_) (Cert.Reference6Ideal.Value.run m' g')⟩
  have k0 := fun p j => kernel0 (H c) p j
  have k1 := fun p j => kernel1 (m := m) (c := c) p j
  have k2 := fun e j => kernel2 (H c) e j
  have k3 := fun e j => kernel3 (m := m) (c := c) e j
  have k4 := fun j => kernel4 (H c) j
  have k5 := fun j => kernel5 (m := m) (c := c) j
  simp only [eD, eH, eW] at k0 k1 k2 k3 k4 k5
  obtain ⟨h0, h1, h2, h3, h4, h5, hk⟩ := h c
  refine ⟨h0.trans ?_, h1.trans ?_, h2.trans ?_, h3.trans ?_, h4.trans ?_, h5.trans ?_, hk⟩
  · funext i; rw [← ix2_eta i]
    exact (out0_at m' c (i 0) (i 1)).trans (k0 (i 0) (i 1)).symm
  · funext i; rw [← ix2_eta i]
    exact (out1_at m' c (i 0) (i 1)).trans (k1 (i 0) (i 1)).symm
  · funext i; rw [← ix2_eta i]
    exact (out2_at m' c (i 0) (i 1)).trans (k2 (i 0) (i 1)).symm
  · funext i; rw [← ix2_eta i]
    exact (out3_at m' c (i 0) (i 1)).trans (k3 (i 0) (i 1)).symm
  · funext i; rw [← ix2_eta i, one_row (i 0)]
    exact (out4_at m' c (i 1)).trans (k4 (i 1)).symm
  · funext i; rw [← ix2_eta i, one_row (i 0)]
    exact (out5_at m' c (i 1)).trans (k5 (i 1)).symm

end Cert.Gate

end
-- ==== Proof.NormRow.lean ====
/-
  The layer norm of one row of 1024 entries, as both programs compute it: the row less its mean, times the inverse root of
  the mean square and epsilon, times the gain, plus the shift. No entry need be finite.
-/
module

public import Idealize.ShloMosaic.Lib.Pointwise
public import Idealize.ShloMosaic.Lib.ValueIdx

@[expose] public section

noncomputable section

namespace Cert.NormRow

open Idealize.ShloMosaic

theorem hz : (![0, 0] : Fin 2 → Nat) = fun _ => 0 := funext fun a => by fin_cases a <;> rfl

/-- The residual scale, the row length and epsilon, as the programs' literals. -/
def scale : EReal := Ideal.ofBits .f32 0x3FD744FD#32
def count : EReal := Ideal.ofBits .f32 0x44800000#32
def small : EReal := Ideal.ofBits .f32 0x3727C5AC#32

/-- A row's mean, and the row less its mean. -/
def mean (f : Fin 1024 → EReal) : EReal := Ideal.div (∑ k, f k) count
def centred (f : Fin 1024 → EReal) (j : Fin 1024) : EReal := f j - mean f

/-- The norm of a row with gain `g` and shift `b` at its entry `j`. -/
def normed (f : Fin 1024 → EReal) (g b : EReal) (j : Fin 1024) : EReal :=
  centred f j * Ideal.rsqrt (mean (fun k => centred f k * centred f k) + small) * g + b

end Cert.NormRow

end
-- ==== Proof.DownNormClaim.lean ====
/-
  The down projection with the residual norm: each block of 512 rows is the product, the scaled residual and the norm of
  those rows; the reference does the same on all rows at once.
-/
module

public import proofs.«01_k».proof.Proof.BlockAt
public import proofs.«01_k».proof.Proof.NormRow
public import proofs.«01_k».proof.Defs
public import proofs.«01_k».proof.Proof.Gen.Kernel7Ideal.Value
public import proofs.«01_k».proof.Proof.Gen.Reference7Ideal.Run
public import Idealize.ShloMosaic.Lib.Pipeline.Value
public import Idealize.ShloMosaic.Lib.Tactic

@[expose] public section

set_option maxRecDepth 16384

noncomputable section

namespace Cert.DownNorm

open Cert.NormRow

section Kernel

open Cert.Kernel7Ideal Cert.Kernel7Ideal.Gen Idealize.ShloMosaic Idealize.ShloMosaic.TcCoe Idealize.SL.Sem

/-! ## One block -/

/-- The residual sum of a block. -/
theorem residual_at (x0 : Vec Ideal S512x2816 .bf16) (x1 : Vec Ideal S2816x1024 .bf16) (x2 : Vec Ideal S512x1024 .f32) (p : Fin 512) (j : Fin 1024) :
    k0_pay1 x2 x0 x1 (ix2 p j) = scale * (x2 (ix2 p j) : EReal) + ∑ k : Fin 2816, (x0 (ix2 p k) : EReal) * (x1 (ix2 k j) : EReal) := by
  pointwise [k0_pay1, dot_S512x2816_S2816x1024_S512x1024_1_0_0_1_n_n]
  rfl

/-- The normalised rows of a block. -/
theorem normed_at (x0 : Vec Ideal S512x2816 .bf16) (x1 : Vec Ideal S2816x1024 .bf16) (x2 : Vec Ideal S512x1024 .f32) (x3 : Vec Ideal S1x1024 .f32) (x4 : Vec Ideal S1x1024 .f32) (p : Fin 512) (j : Fin 1024) :
    k0_pay2 x2 x0 x1 x3 x4 (ix2 p j) = normed (fun k => k0_pay1 x2 x0 x1 (ix2 p k)) (x3 (ix2 0 j)) (x4 (ix2 0 j)) j := by
  pointwise [k0_pay2]
  rfl

theorem outR_at (x0 : Vec Ideal S512x2816 .bf16) (x1 : Vec Ideal S2816x1024 .bf16) (x2 : Vec Ideal S512x1024 .f32) (x3 : Vec Ideal S1x1024 .f32) (x4 : Vec Ideal S1x1024 .f32) (p : Fin 512) (j : Fin 1024) : out0_7 x0 x1 x2 x3 x4 (ix2 p j) = k0_pay1 x2 x0 x1 (ix2 p j) := by
  unfold out0_7
  rw [View.canon_unit_zero hz]
  simp only [View.ld_unit_zero (S := S512x2816) hz, View.ld_unit_zero (S := S2816x1024) hz, View.ld_unit_zero (S := S512x1024) hz, View.ld_unit_zero (S := S1x1024) hz]
theorem outY_at (x0 : Vec Ideal S512x2816 .bf16) (x1 : Vec Ideal S2816x1024 .bf16) (x2 : Vec Ideal S512x1024 .f32) (x3 : Vec Ideal S1x1024 .f32) (x4 : Vec Ideal S1x1024 .f32) (p : Fin 512) (j : Fin 1024) : out0_5 x0 x1 x2 x3 x4 (ix2 p j) = k0_pay2 x2 x0 x1 x3 x4 (ix2 p j) := by
  unfold out0_5
  rw [View.canon_unit_zero hz]
  simp only [View.ld_unit_zero (S := S512x2816) hz, View.ld_unit_zero (S := S2816x1024) hz, View.ld_unit_zero (S := S512x1024) hz, View.ld_unit_zero (S := S1x1024) hz]
theorem outB_at (x0 : Vec Ideal S512x2816 .bf16) (x1 : Vec Ideal S2816x1024 .bf16) (x2 : Vec Ideal S512x1024 .f32) (x3 : Vec Ideal S1x1024 .f32) (x4 : Vec Ideal S1x1024 .f32) (p : Fin 512) (j : Fin 1024) : out0_6 x0 x1 x2 x3 x4 (ix2 p j) = k0_pay2 x2 x0 x1 x3 x4 (ix2 p j) := by
  unfold out0_6
  rw [View.canon_unit_zero hz]
  simp only [View.ld_unit_zero (S := S512x2816) hz, View.ld_unit_zero (S := S2816x1024) hz, View.ld_unit_zero (S := S512x1024) hz, View.ld_unit_zero (S := S1x1024) hz]
  pointwise [k0_pay3]

/-! ## The arrays -/

variable (m : (ℓ : Loc nD τ sig) → Buf (Elt Ideal) ℓ) (c : Dev nD)

def hidden (p : Fin 8192) (j : Fin 2816) : EReal := m ((c : Thread nD τ).loc main_arg0) (ix2 p j)
def weight (p : Fin 2816) (j : Fin 1024) : EReal := m ((c : Thread nD τ).loc main_arg1) (ix2 p j)
def resid (p : Fin 8192) (j : Fin 1024) : EReal := m ((c : Thread nD τ).loc main_arg2) (ix2 p j)
def gain (j : Fin 1024) : EReal := m ((c : Thread nD τ).loc main_arg3) (ix1 j)
def shift (j : Fin 1024) : EReal := m ((c : Thread nD τ).loc main_arg4) (ix1 j)

/-- The residual sum, and the norm of its rows. -/
def total (p : Fin 8192) (j : Fin 1024) : EReal := scale * resid m c p j + ∑ k : Fin 2816, hidden m c p k * weight m c k j
def result (p : Fin 8192) (j : Fin 1024) : EReal := normed (total m c p) (gain m c j) (shift m c j) j

theorem total_eq (p : Fin 8192) (j : Fin 1024) : total m c p j = scale * resid m c p j + ∑ k : Fin 2816, hidden m c p k * weight m c k j := rfl
theorem result_eq (p : Fin 8192) (j : Fin 1024) : result m c p j = normed (total m c p) (gain m c j) (shift m c j) j := rfl

/-- Row `p` of grid point `t`'s blocks. -/
def row (t : Fin cfg0.N) (p : Fin 512) : Fin 8192 := ⟨512 * t.val + p.val, by have := t.isLt; have : cfg0.N = 16 := N_0; have := p.isLt; omega⟩

theorem V_gain (j : Fin 1024) : V m c main_v0 (ix2 0 j) = gain m c j := by
  have e : V m c main_v0 = shapeCast S1x1024 (m ((c : Thread nD τ).loc main_arg3)) shapeCasts_S1024_S1x1024 := by
    unfold V; after_results_simp <;> rfl
  rw [e]
  pointwise
  rfl
theorem V_shift (j : Fin 1024) : V m c main_v1 (ix2 0 j) = shift m c j := by
  have e : V m c main_v1 = shapeCast S1x1024 (m ((c : Thread nD τ).loc main_arg4)) shapeCasts_S1024_S1x1024 := by
    unfold V; after_results_simp <;> rfl
  rw [e]
  pointwise
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

theorem iblk0 (t : Fin cfg0.N) (p : Fin 512) (k : Fin 2816) : iblk m c 0 t (ix2 p k) = hidden m c (row t p) k := by
  obtain ⟨h0, h1⟩ := index0 t
  unfold hidden
  rw [← V_main_arg0 m c]
  unfold iblk
  exact congrArg (V m c main_arg0) (at2 _ (spot 512 p.val h0 (by show _ = 512 * t.val + p.val; omega)) (spot 2816 k.val h1 (by show _ = k.val; omega)))

theorem iblk1 (t : Fin cfg0.N) (k : Fin 2816) (j : Fin 1024) : iblk m c 1 t (ix2 k j) = weight m c k j := by
  obtain ⟨h0, h1⟩ := index1 t
  unfold weight
  rw [← V_main_arg1 m c]
  unfold iblk
  exact congrArg (V m c main_arg1) (at2 _ (spot 2816 k.val h0 (by show _ = k.val; omega)) (spot 1024 j.val h1 (by show _ = j.val; omega)))

theorem iblk2 (t : Fin cfg0.N) (p : Fin 512) (j : Fin 1024) : iblk m c 2 t (ix2 p j) = resid m c (row t p) j := by
  obtain ⟨h0, h1⟩ := index2 t
  unfold resid
  rw [← V_main_arg2 m c]
  unfold iblk
  exact congrArg (V m c main_arg2) (at2 _ (spot 512 p.val h0 (by show _ = 512 * t.val + p.val; omega)) (spot 1024 j.val h1 (by show _ = j.val; omega)))

theorem iblk3 (t : Fin cfg0.N) (j : Fin 1024) : iblk m c 3 t (ix2 0 j) = gain m c j := by
  obtain ⟨h0, h1⟩ := index3 t
  rw [← V_gain]
  unfold iblk
  exact congrArg (V m c main_v0) (at2 _ (spot 1 0 h0 (by show _ = 0; omega)) (spot 1024 j.val h1 (by show _ = j.val; omega)))

theorem iblk4 (t : Fin cfg0.N) (j : Fin 1024) : iblk m c 4 t (ix2 0 j) = shift m c j := by
  obtain ⟨h0, h1⟩ := index4 t
  rw [← V_shift]
  unfold iblk
  exact congrArg (V m c main_v1) (at2 _ (spot 1 0 h0 (by show _ = 0; omega)) (spot 1024 j.val h1 (by show _ = j.val; omega)))

/-- A block of each result. -/
theorem blockR (t : Fin cfg0.N) (p : Fin 512) (j : Fin 1024) : k0_pay1 (iblk m c 2 t) (iblk m c 0 t) (iblk m c 1 t) (ix2 p j) = total m c (row t p) j := by
  rw [residual_at, total_eq]
  simp only [iblk0, iblk1, iblk2]
theorem blockY (t : Fin cfg0.N) (p : Fin 512) (j : Fin 1024) : out0_5 (iblk m c 0 t) (iblk m c 1 t) (iblk m c 2 t) (iblk m c 3 t) (iblk m c 4 t) (ix2 p j) = result m c (row t p) j := by
  rw [outY_at, normed_at, result_eq, iblk3, iblk4]
  simp only [blockR]
theorem blockB (t : Fin cfg0.N) (p : Fin 512) (j : Fin 1024) : out0_6 (iblk m c 0 t) (iblk m c 1 t) (iblk m c 2 t) (iblk m c 3 t) (iblk m c 4 t) (ix2 p j) = result m c (row t p) j :=
  (outB_at _ _ _ _ _ p j).trans ((outY_at _ _ _ _ _ p j).symm.trans (blockY m c t p j))
theorem blockT (t : Fin cfg0.N) (p : Fin 512) (j : Fin 1024) : out0_7 (iblk m c 0 t) (iblk m c 1 t) (iblk m c 2 t) (iblk m c 3 t) (iblk m c 4 t) (ix2 p j) = total m c (row t p) j :=
  (outR_at _ _ _ _ _ p j).trans (blockR m c t p j)

attribute [local irreducible] total result out0_5 out0_6 out0_7 iblk

theorem final5 : ∀ i, (dats m 0 c).arrAt 5 cfg0.N i = result m c (i 0) (i 1) := by
  have hN : cfg0.N = 16 := N_0
  refine (dats m 0 c).arrAt_forall_of_cover 5 (fun i v => v = result m c (i 0) (i 1)) (fun t hf y => ?_) (fun i => ?_)
  · obtain ⟨h0, h1⟩ := index5 t
    rw [Value.flushed5]
    have e := blockY m c t (y 0) (y 1)
    have hy : (y : S512x1024.Idx) = ix2 (y 0) (y 1) := eq_ix2 _
    refine Eq.trans (?_ : _ = _) (e.trans ?_)
    · exact congrArg (out0_5 (iblk m c 0 t) (iblk m c 1 t) (iblk m c 2 t) (iblk m c 3 t) (iblk m c 4 t)) hy
    · have e0 : row t (y 0) = ((cfg0.win 5).blk t).view.emb y 0 := Fin.ext (by
        show 512 * t.val + (y 0).val = win0_5.index t 0 * 512 + 1 * (y 0).val; rw [h0]; omega)
      have e1 : (y 1 : Fin 1024) = ((cfg0.win 5).blk t).view.emb y 1 := Fin.ext (by
        show (y 1).val = win0_5.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := index5 ⟨(i 0 : Nat) / 512, ht⟩
    refine ⟨⟨(i 0 : Nat) / 512, ht⟩, flush0_5 _, ?_⟩
    show i ∈ ((View.whole main_v2_0).slice (win0_5.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

theorem final6 : ∀ i, (dats m 0 c).arrAt 6 cfg0.N i = result m c (i 0) (i 1) := by
  have hN : cfg0.N = 16 := N_0
  refine (dats m 0 c).arrAt_forall_of_cover 6 (fun i v => v = result m c (i 0) (i 1)) (fun t hf y => ?_) (fun i => ?_)
  · obtain ⟨h0, h1⟩ := index6 t
    rw [Value.flushed6]
    have e := blockB m c t (y 0) (y 1)
    have hy : (y : S512x1024.Idx) = ix2 (y 0) (y 1) := eq_ix2 _
    refine Eq.trans (?_ : _ = _) (e.trans ?_)
    · exact congrArg (out0_6 (iblk m c 0 t) (iblk m c 1 t) (iblk m c 2 t) (iblk m c 3 t) (iblk m c 4 t)) hy
    · have e0 : row t (y 0) = ((cfg0.win 6).blk t).view.emb y 0 := Fin.ext (by
        show 512 * t.val + (y 0).val = win0_6.index t 0 * 512 + 1 * (y 0).val; rw [h0]; omega)
      have e1 : (y 1 : Fin 1024) = ((cfg0.win 6).blk t).view.emb y 1 := Fin.ext (by
        show (y 1).val = win0_6.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := index6 ⟨(i 0 : Nat) / 512, ht⟩
    refine ⟨⟨(i 0 : Nat) / 512, ht⟩, flush0_6 _, ?_⟩
    show i ∈ ((View.whole main_v2_1).slice (win0_6.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

theorem final7 : ∀ i, (dats m 0 c).arrAt 7 cfg0.N i = total m c (i 0) (i 1) := by
  have hN : cfg0.N = 16 := N_0
  refine (dats m 0 c).arrAt_forall_of_cover 7 (fun i v => v = total m c (i 0) (i 1)) (fun t hf y => ?_) (fun i => ?_)
  · obtain ⟨h0, h1⟩ := index7 t
    rw [Value.flushed7]
    have e := blockT m c t (y 0) (y 1)
    have hy : (y : S512x1024.Idx) = ix2 (y 0) (y 1) := eq_ix2 _
    refine Eq.trans (?_ : _ = _) (e.trans ?_)
    · exact congrArg (out0_7 (iblk m c 0 t) (iblk m c 1 t) (iblk m c 2 t) (iblk m c 3 t) (iblk m c 4 t)) hy
    · have e0 : row t (y 0) = ((cfg0.win 7).blk t).view.emb y 0 := Fin.ext (by
        show 512 * t.val + (y 0).val = win0_7.index t 0 * 512 + 1 * (y 0).val; rw [h0]; omega)
      have e1 : (y 1 : Fin 1024) = ((cfg0.win 7).blk t).view.emb y 1 := Fin.ext (by
        show (y 1).val = win0_7.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := index7 ⟨(i 0 : Nat) / 512, ht⟩
    refine ⟨⟨(i 0 : Nat) / 512, ht⟩, flush0_7 _, ?_⟩
    show i ∈ ((View.whole main_v2_2).slice (win0_7.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

end Kernel

/-! ## The reference -/

section Reference

open Cert.Reference7Ideal Cert.Reference7Ideal.Gen Idealize.ShloMosaic Idealize.ShloMosaic.TcCoe

/-- The reference's residual sum. -/
def refTotal (a : FVec Ideal S8192x2816 .bf16) (w : FVec Ideal S2816x1024 .bf16) (x : FVec Ideal S8192x1024 .f32) : FVec Ideal S8192x1024 .f32 :=
  addf (mulf (broadcastInDim S8192x1024 ![] bcast_S_S8192x1024 (constant S_ .f32 0x3FD744FD#32)) x)
    (Host.dotGeneral (φ₁ := .f32) (φ₂ := .f32) dot_S8192x2816_S2816x1024_S8192x1024_1_0_0_1_n_n none (extf .f32 a bitsLt_bf16_f32) (extf .f32 w bitsLt_bf16_f32))

/-- Its row means, its rows less their means, and their norm. -/
def refMean (r : FVec Ideal S8192x1024 .f32) : FVec Ideal S8192x1 .f32 :=
  Host.divf (broadcastInDim S8192x1 ![0] bcast_S8192_S8192x1_0 (Host.reduceAdd r (constant S_ .f32 0x00000000#32) reducesTo_S8192x1024_S8192_d1 h_S_))
    (broadcastInDim S8192x1 ![] bcast_S_S8192x1 (constant S_ .f32 0x44800000#32))
def refCentred (r : FVec Ideal S8192x1024 .f32) : FVec Ideal S8192x1024 .f32 :=
  subf r (broadcastInDim S8192x1024 ![0, 1] bcast_S8192x1_S8192x1024_0_1 (refMean r))
def refSpread (r : FVec Ideal S8192x1024 .f32) : FVec Ideal S8192x1 .f32 :=
  addf (refMean (mulf (refCentred r) (refCentred r))) (broadcastInDim S8192x1 ![] bcast_S_S8192x1 (constant S_ .f32 0x3727C5AC#32))
def refNormed (r : FVec Ideal S8192x1024 .f32) (g b : FVec Ideal S1024 .f32) : FVec Ideal S8192x1024 .f32 :=
  addf (mulf (mulf (refCentred r) (broadcastInDim S8192x1024 ![0, 1] bcast_S8192x1_S8192x1024_0_1 (Host.rsqrt (refSpread r))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

theorem refTotal_at (a : FVec Ideal S8192x2816 .bf16) (w : FVec Ideal S2816x1024 .bf16) (x : FVec Ideal S8192x1024 .f32) (p : Fin 8192) (j : Fin 1024) : refTotal a w x (ix2 p j) = scale * (x (ix2 p j) : EReal) + ∑ k : Fin 2816, (a (ix2 p k) : EReal) * (w (ix2 k j) : EReal) := by
  pointwise [refTotal, dot_S8192x2816_S2816x1024_S8192x1024_1_0_0_1_n_n]
  rfl

theorem refMean_at (r : FVec Ideal S8192x1024 .f32) (p : Fin 8192) : refMean r (ix2 p 0) = mean fun k => r (ix2 p k) := by
  pointwise [refMean]
  rfl

theorem refCentred_at (r : FVec Ideal S8192x1024 .f32) (p : Fin 8192) (j : Fin 1024) : refCentred r (ix2 p j) = centred (fun k => r (ix2 p k)) j := by
  pointwise [refCentred, refMean_at]
  rfl

theorem refSpread_at (r : FVec Ideal S8192x1024 .f32) (p : Fin 8192) : refSpread r (ix2 p 0)
    = mean (fun k => centred (fun k => r (ix2 p k)) k * centred (fun k => r (ix2 p k)) k) + small := by
  pointwise [refSpread, refMean_at, refCentred_at]
  rfl

theorem refNormed_at (r : FVec Ideal S8192x1024 .f32) (g b : FVec Ideal S1024 .f32) (p : Fin 8192) (j : Fin 1024) :
    refNormed r g b (ix2 p j) = normed (fun k => r (ix2 p k)) (g (ix1 j)) (b (ix1 j)) j := by
  pointwise [refNormed, refCentred_at, refSpread_at]
  rfl

end Reference

/-! ## The claim -/

open Cert.Kernel7Ideal Idealize.ShloMosaic Idealize.ShloMosaic.TcCoe

attribute [local instance] Cert.Kernel7Ideal.Gen.facts Cert.Reference7Ideal.Gen.facts

section Same

variable (m : (ℓ : Loc nD τ sig) → Buf (Elt Ideal) ℓ) (c : Dev nD)

theorem total_ref (p : Fin 8192) (j : Fin 1024) : refTotal (m ((c : Thread nD τ).loc main_arg0)) (m ((c : Thread nD τ).loc main_arg1)) (m ((c : Thread nD τ).loc main_arg2)) (ix2 p j) = total m c p j := by
  rw [refTotal_at, total_eq]
  rfl
theorem result_ref (p : Fin 8192) (j : Fin 1024) : refNormed (refTotal (m ((c : Thread nD τ).loc main_arg0)) (m ((c : Thread nD τ).loc main_arg1)) (m ((c : Thread nD τ).loc main_arg2))) (m ((c : Thread nD τ).loc main_arg3)) (m ((c : Thread nD τ).loc main_arg4)) (ix2 p j) = result m c p j := by
  rw [refNormed_at, result_eq]
  simp only [total_ref]
  rfl

end Same

theorem agree : Cert.algebraic_Kernel7Ideal_Reference7Ideal := by
  intro m g m' g' hp ha
  refine ⟨_, _, _, Cert.Kernel7Ideal.Value.run_blocks m g,
    (θ_run Cert.Reference7Ideal.defs _ _).mono (fun r h c => ?_) (Cert.Reference7Ideal.Value.run m' g')⟩
  obtain ⟨h0, h1, h2, hk⟩ := h c
  obtain ⟨e0, e1, e2, e3, e4⟩ := ha c
  refine ⟨h0.trans ?_, h1.trans ?_, h2.trans ?_, hk⟩
  · rw [e0, e1, e2, e3, e4]
    funext i
    refine Eq.trans ?_ (final5 m c i).symm
    rw [← ix2_eta i]
    exact result_ref m c (i 0) (i 1)
  · rw [e0, e1, e2, e3, e4]
    funext i
    refine Eq.trans ?_ (final6 m c i).symm
    rw [← ix2_eta i]
    exact result_ref m c (i 0) (i 1)
  · rw [e0, e1, e2]
    funext i
    refine Eq.trans ?_ (final7 m c i).symm
    rw [← ix2_eta i]
    exact total_ref m c (i 0) (i 1)

end Cert.DownNorm

end
-- ==== Proof.ConvChunk.lean ====
/-
  The gradient of the mixer's convolution, one chunk of 128 rows: the kernel's vector operations, read element by element.
-/
module

public import proofs.«01_k».proof.Proof.Gen.Kernel8Ideal.Frame
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.Conv

open Cert.Kernel8Ideal Cert.Kernel8Ideal.Gen Idealize.ShloMosaic Idealize.ShloMosaic.TcCoe Idealize.SL.Sem

/-! ## The chunk's operations -/

/-- The chunk's rows three, two, one and no rows later. -/
def tap3 (d : FVec Ideal S144x256 .f32) : FVec Ideal S128x256 .f32 :=
  extractStridedSlice S128x256 ![0, 0] (dynamicRotate 0 141#32 none d rotates_S144x256_d0) slices_S144x256_o0_0_S128x256
def tap2 (d : FVec Ideal S144x256 .f32) : FVec Ideal S128x256 .f32 :=
  extractStridedSlice S128x256 ![0, 0] (dynamicRotate 0 142#32 none d rotates_S144x256_d0) slices_S144x256_o0_0_S128x256
def tap1 (d : FVec Ideal S144x256 .f32) : FVec Ideal S128x256 .f32 :=
  extractStridedSlice S128x256 ![0, 0] (dynamicRotate 0 143#32 none d rotates_S144x256_d0) slices_S144x256_o0_0_S128x256
def tap0 (d : FVec Ideal S144x256 .f32) : FVec Ideal S128x256 .f32 :=
  extractStridedSlice S128x256 ![0, 0] d slices_S144x256_o0_0_S128x256

/-- A tap read along the chunk's rows. -/
def along0 (w : FVec Ideal S8x256 .f32) : FVec Ideal S128x256 .f32 :=
  broadcastTo S128x256 (extractStridedSlice S1x256 ![0, 0] w slices_S8x256_o0_0_S1x256) broadcasts_S1x256_S128x256
def along1 (w : FVec Ideal S8x256 .f32) : FVec Ideal S128x256 .f32 :=
  broadcastTo S128x256 (extractStridedSlice S1x256 ![1, 0] w slices_S8x256_o1_0_S1x256) broadcasts_S1x256_S128x256
def along2 (w : FVec Ideal S8x256 .f32) : FVec Ideal S128x256 .f32 :=
  broadcastTo S128x256 (extractStridedSlice S1x256 ![2, 0] w slices_S8x256_o2_0_S1x256) broadcasts_S1x256_S128x256
def along3 (w : FVec Ideal S8x256 .f32) : FVec Ideal S128x256 .f32 :=
  broadcastTo S128x256 (extractStridedSlice S1x256 ![3, 0] w slices_S8x256_o3_0_S1x256) broadcasts_S1x256_S128x256

/-- The gradient at the convolution's input. -/
def spread (w : FVec Ideal S8x256 .f32) (d : FVec Ideal S144x256 .f32) : FVec Ideal S128x256 .f32 :=
  addf (addf (addf (mulf (along0 w) (tap3 d)) (mulf (along1 w) (tap2 d))) (mulf (along2 w) (tap1 d))) (mulf (along3 w) (tap0 d))

/-- The sum over the chunk's rows. -/
def rows (v : FVec Ideal S128x256 .f32) : FVec Ideal S1x256 .f32 :=
  shapeCast S1x256 (multiReduction .add [0] S256 v 0x00000000#32 reduces_S128x256_S256 (.inl rfl) rfl) shapeCasts_S256_S1x256

/-- The chunk's part of the taps' gradient, and of the bias's. -/
def wpart (d : FVec Ideal S144x256 .f32) (x : FVec Ideal S128x256 .f32) : FVec Ideal S8x256 .f32 :=
  concatenate S8x256 0 [⟨S1x256, rows (mulf (tap3 d) x)⟩, ⟨S1x256, rows (mulf (tap2 d) x)⟩, ⟨S1x256, rows (mulf (tap1 d) x)⟩, ⟨S1x256, rows (mulf (tap0 d) x)⟩,
    ⟨S4x256, broadcast S4x256 (Scalar.ofBits .f32 0x00000000#32 : Ideal .f32)⟩] concatenates_S1x256_S1x256_S1x256_S1x256_S4x256_S8x256_d0
def bpart (d : FVec Ideal S144x256 .f32) : FVec Ideal S1x256 .f32 := rows (tap0 d)

/-! ## Their elements -/

theorem tap3_at (d : FVec Ideal S144x256 .f32) (p : Fin 128) (q : Fin 256) : tap3 d (ix2 p q) = d (ix2 ⟨p.val + 3, by omega⟩ q) := by
  pointwise [tap3]
  have e : (⟨(p.val + 144 - 141) % 144, Nat.mod_lt _ (by decide)⟩ : Fin 144) = ⟨p.val + 3, by omega⟩ :=
    Fin.ext (by show (p.val + 144 - 141) % 144 = p.val + 3; omega)
  rw [e]

theorem tap2_at (d : FVec Ideal S144x256 .f32) (p : Fin 128) (q : Fin 256) : tap2 d (ix2 p q) = d (ix2 ⟨p.val + 2, by omega⟩ q) := by
  pointwise [tap2]
  have e : (⟨(p.val + 144 - 142) % 144, Nat.mod_lt _ (by decide)⟩ : Fin 144) = ⟨p.val + 2, by omega⟩ :=
    Fin.ext (by show (p.val + 144 - 142) % 144 = p.val + 2; omega)
  rw [e]

theorem tap1_at (d : FVec Ideal S144x256 .f32) (p : Fin 128) (q : Fin 256) : tap1 d (ix2 p q) = d (ix2 ⟨p.val + 1, by omega⟩ q) := by
  pointwise [tap1]
  have e : (⟨(p.val + 144 - 143) % 144, Nat.mod_lt _ (by decide)⟩ : Fin 144) = ⟨p.val + 1, by omega⟩ :=
    Fin.ext (by show (p.val + 144 - 143) % 144 = p.val + 1; omega)
  rw [e]

theorem tap0_at (d : FVec Ideal S144x256 .f32) (p : Fin 128) (q : Fin 256) : tap0 d (ix2 p q) = d (ix2 ⟨p.val, by omega⟩ q) := by
  pointwise [tap0]

theorem spread_at (w : FVec Ideal S8x256 .f32) (d : FVec Ideal S144x256 .f32) (p : Fin 128) (q : Fin 256) :
    spread w d (ix2 p q) = (w (ix2 0 q) : EReal) * d (ix2 ⟨p.val + 3, by omega⟩ q) + (w (ix2 1 q) : EReal) * d (ix2 ⟨p.val + 2, by omega⟩ q)
      + (w (ix2 2 q) : EReal) * d (ix2 ⟨p.val + 1, by omega⟩ q) + (w (ix2 3 q) : EReal) * d (ix2 ⟨p.val, by omega⟩ q) := by
  have e3 := tap3_at d p q
  have e2 := tap2_at d p q
  have e1 := tap1_at d p q
  have e0 := tap0_at d p q
  pointwise [spread, along0, along1, along2, along3, e3, e2, e1, e0]

theorem rows_at (v : FVec Ideal S128x256 .f32) (q : Fin 256) : rows v (ix2 0 q) = ∑ p : Fin 128, (v (ix2 p q) : EReal) := by
  pointwise [rows]

/-- Rows 0 to 3 are the four taps' sums, the other four are zero. -/
theorem wpart_at (d : FVec Ideal S144x256 .f32) (x : FVec Ideal S128x256 .f32) (q : Fin 256) (e : Fin 8) :
    wpart d x (ix2 e q) = if e.val < 4 then ∑ p : Fin 128, (d (ix2 ⟨p.val + (3 - e.val), by omega⟩ q) : EReal) * x (ix2 p q) else (0 : EReal) := by
  have r3 : rows (mulf (tap3 d) x) (ix2 0 q) = ∑ p : Fin 128, (d (ix2 ⟨p.val + 3, by omega⟩ q) : EReal) * x (ix2 p q) :=
    (rows_at _ q).trans (Finset.sum_congr rfl fun p _ => by rw [← tap3_at d p q]; rfl)
  have r2 : rows (mulf (tap2 d) x) (ix2 0 q) = ∑ p : Fin 128, (d (ix2 ⟨p.val + 2, by omega⟩ q) : EReal) * x (ix2 p q) :=
    (rows_at _ q).trans (Finset.sum_congr rfl fun p _ => by rw [← tap2_at d p q]; rfl)
  have r1 : rows (mulf (tap1 d) x) (ix2 0 q) = ∑ p : Fin 128, (d (ix2 ⟨p.val + 1, by omega⟩ q) : EReal) * x (ix2 p q) :=
    (rows_at _ q).trans (Finset.sum_congr rfl fun p _ => by rw [← tap1_at d p q]; rfl)
  have r0 : rows (mulf (tap0 d) x) (ix2 0 q) = ∑ p : Fin 128, (d (ix2 ⟨p.val, by omega⟩ q) : EReal) * x (ix2 p q) :=
    (rows_at _ q).trans (Finset.sum_congr rfl fun p _ => by rw [← tap0_at d p q]; rfl)
  pointwise [wpart]
  match e with
  | ⟨0, _⟩ => exact r3
  | ⟨1, _⟩ => exact r2
  | ⟨2, _⟩ => exact r1
  | ⟨3, _⟩ => exact r0
  | ⟨4, _⟩ => rfl
  | ⟨5, _⟩ => rfl
  | ⟨6, _⟩ => rfl
  | ⟨7, _⟩ => rfl

theorem bpart_at (d : FVec Ideal S144x256 .f32) (q : Fin 256) : bpart d (ix2 0 q) = ∑ p : Fin 128, (d (ix2 ⟨p.val, by omega⟩ q) : EReal) := by
  unfold bpart
  rw [rows_at]
  exact Finset.sum_congr rfl fun p _ => tap0_at d p q

end Cert.Conv

end
-- ==== Proof.ConvBlock.lean ====
/-
  The gradient of the mixer's convolution, one grid point: eight chunks of 128 rows; each chunk also reads the 16 rows after it, the last one from the
  next block's first rows. What the point leaves in each of its three output blocks: first as the chunk's operations, then row by row.
-/
module

public import proofs.«01_k».proof.Proof.ConvChunk
public import Idealize.ShloMosaic.Lib.Pipeline.ValueKit

@[expose] public section

set_option maxRecDepth 16384
set_option maxHeartbeats 4000000

noncomputable section

namespace Cert.Conv

open Cert.Kernel8Ideal Cert.Kernel8Ideal.Gen Idealize.ShloMosaic Idealize.ShloMosaic.TcCoe Idealize.SL.Sem

/-! ## What a chunk reads -/

/-- A chunk of 128 rows lies in the block, and for all but the last so do the 16 rows after it. -/
theorem inb (k : Fin 8) : ∀ a, (![128 * k.val, 0] : Fin 2 → Nat) a + S128x256.size a ≤ S1024x256.size a := by
  intro a
  fin_cases a
  · show 128 * k.val + 128 ≤ 1024; omega
  · show 0 + 256 ≤ 256; omega
theorem inbWide (k : Fin 8) (h : k.val < 7) : ∀ a, (![128 * k.val, 0] : Fin 2 → Nat) a + S144x256.size a ≤ S1024x256.size a := by
  intro a
  fin_cases a
  · show 128 * k.val + 144 ≤ 1024; omega
  · show 0 + 256 ≤ 256; omega

/-- The chunk's 128 rows. -/
def narrow (X : Vec Ideal S1024x256 .f32) (k : Fin 8) : FVec Ideal S128x256 .f32 :=
  View.ld X (Rect.unit ![128 * k.val, 0] ![128, 256] (inb k))

/-- The chunk's 128 rows and the 16 after them. -/
def wide (X : Vec Ideal S1024x256 .f32) (Y : FVec Ideal S16x256 .f32) (k : Fin 8) : FVec Ideal S144x256 .f32 :=
  if h : k.val < 7 then View.ld X (Rect.unit ![128 * k.val, 0] ![144, 256] (inbWide k h))
  else concatenate S144x256 0 [⟨S128x256, (View.ld X (Rect.unit ![128 * k.val, 0] ![128, 256] (inb k)) : FVec Ideal S128x256 .f32)⟩,
    ⟨S16x256, Y⟩] concatenates_S128x256_S16x256_S144x256_d0

/-- The rows after the block, zero after the last block. -/
def after (i : grid0.Coords) (Y : Vec Ideal S16x256 .f32) : FVec Ideal S16x256 .f32 :=
  Scalar.select (Scalar.cmpi CmpIPredicate.eq (BitVec.ofNat 32 (i 1).val) 7#32) (broadcast S16x256 (Scalar.ofBits .f32 0x00000000#32 : Ideal .f32)) Y

/-- The sum of the chunks' parts, in the kernel's order. -/
def total {s : Shape} (f : Fin 8 → FVec Ideal s .f32) : FVec Ideal s .f32 :=
  addf (addf (addf (addf (addf (addf (addf (f 0) (f 1)) (f 2)) (f 3)) (f 4)) (f 5)) (f 6)) (f 7)

/-! ## What the point leaves -/

section Case
variable (c : Dev nD) (i : grid0.Coords)
variable (a2 : Memref sig .tc .vmem S1024x256 .f32) (h2 : a2.IsWhole) (a3 : Memref sig .tc .vmem S16x256 .f32) (h3 : a3.IsWhole) (a4 : Memref sig .tc .vmem S1024x256 .f32) (h4 : a4.IsWhole) (a5 : Memref sig .tc .vmem S16x256 .f32) (h5 : a5.IsWhole) (a6 : Memref sig .tc .vmem S8x256 .f32) (h6 : a6.IsWhole) (a7 : Memref sig .tc .vmem S1024x256 .bf16) (h7 : a7.IsWhole) (a8 : Memref sig .tc .vmem S8x256 .f32) (h8 : a8.IsWhole) (a9 : Memref sig .tc .vmem S1x256 .f32) (h9 : a9.IsWhole)
variable (x0 : Vec Ideal S1024x256 .f32) (x1 : Vec Ideal S16x256 .f32) (x2 : Vec Ideal S1024x256 .f32) (x3 : Vec Ideal S16x256 .f32) (x4 : Vec Ideal S8x256 .f32)
variable (xo6 : Vec Ideal S8x256 .f32) (xo7 : Vec Ideal S1x256 .f32)

/-- The block of the gradient at the convolution's input, by its chunks. -/
theorem out_A_5 (hc0 : cond0_0 i) (hc1 : ¬cond0_1 i) (y : S1024x256.Idx) (G : Fin 8 → Fin 128 → Fin 256 → EReal)
    (hG : ∀ k p q, spread (shapeCast S8x256 x4 shapeCasts_S8x256_S8x256) (wide x0 (after i x1) k) (ix2 p q) = G k p q)
    (v : EReal) (hv : ∀ k p q, (y 0).val = 128 * k.val + p.val → (y 1).val = q.val → G k p q = v) :
    out0_A_5 c i a2 h2 a3 h3 a4 h4 a5 h5 a6 h6 a7 h7 a8 h8 a9 h9 hc0 hc1 x0 x1 x2 x3 x4 y = v := by
  have key : ∀ (k : Fin 8) (x : S128x256.Idx), (y 0).val = 128 * k.val + (x 0).val → (y 1).val = (x 1).val →
      spread (shapeCast S8x256 x4 shapeCasts_S8x256_S8x256) (wide x0 (after i x1) k) x = v := fun k x h0 h1 => by
    rw [eq_ix2 x]; exact (hG k (x 0) (x 1)).trans (hv k (x 0) (x 1) h0 h1)
  frame_out
  canon_tiles x h
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

theorem out_A_6 (hc0 : cond0_0 i) (hc1 : ¬cond0_1 i) : out0_A_6 c i a2 h2 a3 h3 a4 h4 a5 h5 a6 h6 a7 h7 a8 h8 a9 h9 hc0 hc1 x0 x1 x2 x3 x4 = total fun k => wpart (wide x0 (after i x1) k) (narrow x2 k) := by
  frame_out
  rfl

theorem out_A_7 (hc0 : cond0_0 i) (hc1 : ¬cond0_1 i) : out0_A_7 c i a2 h2 a3 h3 a4 h4 a5 h5 a6 h6 a7 h7 a8 h8 a9 h9 hc0 hc1 x0 x1 x2 x3 x4 = total fun k => bpart (wide x0 (after i x1) k) := by
  frame_out
  rfl

/-- The block of the gradient at the convolution's input, by its chunks. -/
theorem out_B_5 (hc0 : ¬cond0_0 i) (hc1 : cond0_1 i) (y : S1024x256.Idx) (G : Fin 8 → Fin 128 → Fin 256 → EReal)
    (hG : ∀ k p q, spread (shapeCast S8x256 x4 shapeCasts_S8x256_S8x256) (wide x0 (after i x1) k) (ix2 p q) = G k p q)
    (v : EReal) (hv : ∀ k p q, (y 0).val = 128 * k.val + p.val → (y 1).val = q.val → G k p q = v) :
    out0_B_5 c i a2 h2 a3 h3 a4 h4 a5 h5 a6 h6 a7 h7 a8 h8 a9 h9 hc0 hc1 x0 x1 x2 x3 x4 xo6 xo7 y = v := by
  have key : ∀ (k : Fin 8) (x : S128x256.Idx), (y 0).val = 128 * k.val + (x 0).val → (y 1).val = (x 1).val →
      spread (shapeCast S8x256 x4 shapeCasts_S8x256_S8x256) (wide x0 (after i x1) k) x = v := fun k x h0 h1 => by
    rw [eq_ix2 x]; exact (hG k (x 0) (x 1)).trans (hv k (x 0) (x 1) h0 h1)
  frame_out
  canon_tiles x h
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

theorem out_B_6 (hc0 : ¬cond0_0 i) (hc1 : cond0_1 i) : out0_B_6 c i a2 h2 a3 h3 a4 h4 a5 h5 a6 h6 a7 h7 a8 h8 a9 h9 hc0 hc1 x0 x1 x2 x3 x4 xo6 xo7 = addf (shapeCast S8x256 xo6 shapeCasts_S8x256_S8x256) (total fun k => wpart (wide x0 (after i x1) k) (narrow x2 k)) := by
  frame_out
  rfl

theorem out_B_7 (hc0 : ¬cond0_0 i) (hc1 : cond0_1 i) : out0_B_7 c i a2 h2 a3 h3 a4 h4 a5 h5 a6 h6 a7 h7 a8 h8 a9 h9 hc0 hc1 x0 x1 x2 x3 x4 xo6 xo7 = addf (shapeCast S1x256 xo7 shapeCasts_S1x256_S1x256) (total fun k => bpart (wide x0 (after i x1) k)) := by
  frame_out
  rfl

end Case

/-! ## Rows of a block and of the one after it -/

/-- Row `n` of the block `X`, or of the 16 rows `Y` that follow it. -/
def ext (X : Vec Ideal S1024x256 .f32) (Y : FVec Ideal S16x256 .f32) (n : ℕ) (q : Fin 256) : EReal :=
  if h : n < 1024 then X (ix2 ⟨n, h⟩ q) else if h' : n - 1024 < 16 then Y (ix2 ⟨n - 1024, h'⟩ q) else 0

theorem narrow_at (X : Vec Ideal S1024x256 .f32) (Y : FVec Ideal S16x256 .f32) (k : Fin 8) (p : Fin 128) (q : Fin 256) :
    narrow X k (ix2 p q) = ext X Y (128 * k.val + p.val) q := by
  have hn : 128 * k.val + p.val < 1024 := by omega
  unfold narrow ext
  rw [dif_pos hn]
  exact View.ld_unit_apply_of X _ _ _ _ (ix2 ⟨128 * k.val + p.val, hn⟩ q) (fun a => by
    fin_cases a
    · rfl
    · exact (Nat.zero_add _).symm)

theorem wide_at (X : Vec Ideal S1024x256 .f32) (Y : FVec Ideal S16x256 .f32) (k : Fin 8) (r : Fin 144) (q : Fin 256) :
    wide X Y k (ix2 r q) = ext X Y (128 * k.val + r.val) q := by
  unfold wide ext
  by_cases h : k.val < 7
  · have hn : 128 * k.val + r.val < 1024 := by omega
    rw [dif_pos h, dif_pos hn]
    exact View.ld_unit_apply_of X _ _ _ _ (ix2 ⟨128 * k.val + r.val, hn⟩ q) (fun a => by
      fin_cases a
      · rfl
      · exact (Nat.zero_add _).symm)
  · rw [dif_neg h]
    pointwise []
    by_cases hr : r.val < 128
    · have hn : 128 * k.val + r.val < 1024 := by omega
      rw [dif_pos hr, dif_pos hn]
    · have hn : ¬128 * k.val + r.val < 1024 := by omega
      have hn' : 128 * k.val + r.val - 1024 < 16 := by omega
      have e : (⟨r.val - 128, by omega⟩ : Fin 16) = ⟨128 * k.val + r.val - 1024, hn'⟩ := Fin.ext (by show r.val - 128 = 128 * k.val + r.val - 1024; omega)
      rw [dif_neg hr, dif_neg hn, dif_pos hn', e]

theorem after_at (i : grid0.Coords) (Y : Vec Ideal S16x256 .f32) (p : Fin 16) (q : Fin 256) :
    after i Y (ix2 p q) = if (i 1).val = 7 then (0 : EReal) else Y (ix2 p q) := by
  unfold after
  obtain ⟨n, hn⟩ : ∃ n, n = (i 1).val := ⟨_, rfl⟩
  have h8 : n < 8 := hn ▸ (i 1).isLt
  rw [← hn]
  clear hn
  by_cases h : n = 7
  · rw [if_pos h, h, show Scalar.cmpi CmpIPredicate.eq (BitVec.ofNat 32 7) 7#32 = 1#1 from rfl, ValueIdx.select_one]
    pointwise []
  · have e : Scalar.cmpi CmpIPredicate.eq (BitVec.ofNat 32 n) 7#32 = 0#1 := by
      have h7 : n = 0 ∨ n = 1 ∨ n = 2 ∨ n = 3 ∨ n = 4 ∨ n = 5 ∨ n = 6 := by omega
      rcases h7 with h | h | h | h | h | h | h <;> (rw [h]; rfl)
    rw [if_neg h, e, ValueIdx.select_zero]

/-! ## Sums over the block -/

theorem total_at {s : Shape} (f : Fin 8 → FVec Ideal s .f32) (x : s.Idx) : total f x = ∑ k : Fin 8, (f k x : EReal) := by
  simp only [Fin.sum_univ_castSucc, Fin.sum_univ_zero, zero_add]
  rfl

/-- A sum over chunks and the rows in them is a sum over rows. -/
theorem sum_rows (f : ℕ → EReal) : ∑ k : Fin 8, ∑ p : Fin 128, f (128 * k.val + p.val) = ∑ n ∈ Finset.range 1024, f n := by
  have h : ∀ K : ℕ, ∑ k ∈ Finset.range K, ∑ p ∈ Finset.range 128, f (128 * k + p) = ∑ n ∈ Finset.range (128 * K), f n := by
    intro K
    induction K with
    | zero => simp
    | succ K ih => rw [Finset.sum_range_succ, ih, Nat.mul_succ, Finset.sum_range_add]
  rw [← h 8, ← Fin.sum_univ_eq_sum_range (fun k => ∑ p ∈ Finset.range 128, f (128 * k + p)) 8]
  exact Finset.sum_congr rfl fun k _ => Fin.sum_univ_eq_sum_range (fun p => f (128 * k.val + p)) 128

/-- The taps' part of `N` rows: the gradient `d` so many rows later times the input. -/
def tapSum {K : ℕ} (d : ℕ → Fin K → EReal) (x : ℕ → Fin K → EReal) (e : Fin 8) (q : Fin K) (N : ℕ) : EReal :=
  if e.val < 4 then ∑ n ∈ Finset.range N, d (n + (3 - e.val)) q * x n q else 0

theorem wsum_at (D : Fin 8 → FVec Ideal S144x256 .f32) (x : Vec Ideal S1024x256 .f32) (Y : FVec Ideal S16x256 .f32) (d : ℕ → Fin 256 → EReal)
    (hD : ∀ k r q, D k (ix2 r q) = d (128 * k.val + r.val) q) (e : Fin 8) (q : Fin 256) :
    (total fun k => wpart (D k) (narrow x k)) (ix2 e q) = tapSum d (ext x Y) e q 1024 := by
  rw [total_at]
  unfold tapSum
  simp only [wpart_at, hD, fun k p q => narrow_at x Y k p q]
  by_cases h : e.val < 4
  · simp only [if_pos h]
    rw [← sum_rows fun n => d (n + (3 - e.val)) q * ext x Y n q]
    simp only [Nat.add_assoc]
  · simp only [if_neg h, Finset.sum_const_zero]

theorem bsum_at (D : Fin 8 → FVec Ideal S144x256 .f32) (d : ℕ → Fin 256 → EReal)
    (hD : ∀ k r q, D k (ix2 r q) = d (128 * k.val + r.val) q) (q : Fin 256) :
    (total fun k => bpart (D k)) (ix2 0 q) = ∑ n ∈ Finset.range 1024, d n q := by
  rw [total_at]
  simp only [bpart_at, hD]
  exact sum_rows fun n => d n q

/-- The gradient at the convolution's input from the taps `w` and the gradient `d` at the convolution's result. -/
def back {K : ℕ} (w : Fin 8 → Fin K → EReal) (d : ℕ → Fin K → EReal) (n : ℕ) (q : Fin K) : EReal :=
  w 0 q * d (n + 3) q + w 1 q * d (n + 2) q + w 2 q * d (n + 1) q + w 3 q * d n q

theorem spread_back (w : Vec Ideal S8x256 .f32) (D : Fin 8 → FVec Ideal S144x256 .f32) (d : ℕ → Fin 256 → EReal)
    (hD : ∀ k r q, D k (ix2 r q) = d (128 * k.val + r.val) q) (k : Fin 8) (p : Fin 128) (q : Fin 256) :
    spread (shapeCast S8x256 w shapeCasts_S8x256_S8x256) (D k) (ix2 p q) = back (fun e q => w (ix2 e q)) d (128 * k.val + p.val) q := by
  rw [shapeCast_self, spread_at]
  simp only [hD]
  rfl

/-! ## The point's three blocks -/

section Case
variable (c : Dev nD) (i : grid0.Coords)
variable (a2 : Memref sig .tc .vmem S1024x256 .f32) (h2 : a2.IsWhole) (a3 : Memref sig .tc .vmem S16x256 .f32) (h3 : a3.IsWhole) (a4 : Memref sig .tc .vmem S1024x256 .f32) (h4 : a4.IsWhole) (a5 : Memref sig .tc .vmem S16x256 .f32) (h5 : a5.IsWhole) (a6 : Memref sig .tc .vmem S8x256 .f32) (h6 : a6.IsWhole) (a7 : Memref sig .tc .vmem S1024x256 .bf16) (h7 : a7.IsWhole) (a8 : Memref sig .tc .vmem S8x256 .f32) (h8 : a8.IsWhole) (a9 : Memref sig .tc .vmem S1x256 .f32) (h9 : a9.IsWhole)
variable (x0 : Vec Ideal S1024x256 .f32) (x1 : Vec Ideal S16x256 .f32) (x2 : Vec Ideal S1024x256 .f32) (x3 : Vec Ideal S16x256 .f32) (x4 : Vec Ideal S8x256 .f32)
variable (xo6 : Vec Ideal S8x256 .f32) (xo7 : Vec Ideal S1x256 .f32)

theorem at_A_5 (hc0 : cond0_0 i) (hc1 : ¬cond0_1 i) (p : Fin 1024) (q : Fin 256) :
    out0_A_5 c i a2 h2 a3 h3 a4 h4 a5 h5 a6 h6 a7 h7 a8 h8 a9 h9 hc0 hc1 x0 x1 x2 x3 x4 (ix2 p q) = back (fun e q => x4 (ix2 e q)) (ext x0 (after i x1)) p.val q := by
  refine out_A_5 c i a2 h2 a3 h3 a4 h4 a5 h5 a6 h6 a7 h7 a8 h8 a9 h9 x0 x1 x2 x3 x4 hc0 hc1 (ix2 p q) (fun k p q => back (fun e q => x4 (ix2 e q)) (ext x0 (after i x1)) (128 * k.val + p.val) q)
    (spread_back x4 _ _ (wide_at x0 (after i x1))) _ fun k r s hr hs => ?_
  have hr' : p.val = 128 * k.val + r.val := hr
  have hs' : q = s := Fin.ext hs
  rw [hr', hs']

theorem at_A_6 (hc0 : cond0_0 i) (hc1 : ¬cond0_1 i) (e : Fin 8) (q : Fin 256) :
    out0_A_6 c i a2 h2 a3 h3 a4 h4 a5 h5 a6 h6 a7 h7 a8 h8 a9 h9 hc0 hc1 x0 x1 x2 x3 x4 (ix2 e q) = tapSum (ext x0 (after i x1)) (ext x2 x3) e q 1024 := by
  rw [out_A_6]
  exact wsum_at _ x2 x3 _ (wide_at x0 (after i x1)) e q

theorem at_A_7 (hc0 : cond0_0 i) (hc1 : ¬cond0_1 i) (q : Fin 256) :
    out0_A_7 c i a2 h2 a3 h3 a4 h4 a5 h5 a6 h6 a7 h7 a8 h8 a9 h9 hc0 hc1 x0 x1 x2 x3 x4 (ix2 0 q) = ∑ n ∈ Finset.range 1024, ext x0 (after i x1) n q := by
  rw [out_A_7]
  exact bsum_at _ _ (wide_at x0 (after i x1)) q

theorem at_B_5 (hc0 : ¬cond0_0 i) (hc1 : cond0_1 i) (p : Fin 1024) (q : Fin 256) :
    out0_B_5 c i a2 h2 a3 h3 a4 h4 a5 h5 a6 h6 a7 h7 a8 h8 a9 h9 hc0 hc1 x0 x1 x2 x3 x4 xo6 xo7 (ix2 p q) = back (fun e q => x4 (ix2 e q)) (ext x0 (after i x1)) p.val q := by
  refine out_B_5 c i a2 h2 a3 h3 a4 h4 a5 h5 a6 h6 a7 h7 a8 h8 a9 h9 x0 x1 x2 x3 x4 xo6 xo7 hc0 hc1 (ix2 p q) (fun k p q => back (fun e q => x4 (ix2 e q)) (ext x0 (after i x1)) (128 * k.val + p.val) q)
    (spread_back x4 _ _ (wide_at x0 (after i x1))) _ fun k r s hr hs => ?_
  have hr' : p.val = 128 * k.val + r.val := hr
  have hs' : q = s := Fin.ext hs
  rw [hr', hs']

theorem at_B_6 (hc0 : ¬cond0_0 i) (hc1 : cond0_1 i) (e : Fin 8) (q : Fin 256) :
    out0_B_6 c i a2 h2 a3 h3 a4 h4 a5 h5 a6 h6 a7 h7 a8 h8 a9 h9 hc0 hc1 x0 x1 x2 x3 x4 xo6 xo7 (ix2 e q) = (xo6 (ix2 e q) : EReal) + tapSum (ext x0 (after i x1)) (ext x2 x3) e q 1024 := by
  rw [out_B_6, shapeCast_self]
  exact (congrArg ((xo6 (ix2 e q) : EReal) + ·) (wsum_at _ x2 x3 _ (wide_at x0 (after i x1)) e q))

theorem at_B_7 (hc0 : ¬cond0_0 i) (hc1 : cond0_1 i) (q : Fin 256) :
    out0_B_7 c i a2 h2 a3 h3 a4 h4 a5 h5 a6 h6 a7 h7 a8 h8 a9 h9 hc0 hc1 x0 x1 x2 x3 x4 xo6 xo7 (ix2 0 q) = (xo7 (ix2 0 q) : EReal) + ∑ n ∈ Finset.range 1024, ext x0 (after i x1) n q := by
  rw [out_B_7, shapeCast_self]
  exact (congrArg ((xo7 (ix2 0 q) : EReal) + ·) (bsum_at _ _ (wide_at x0 (after i x1)) q))

end Case

end Cert.Conv

end
-- ==== Proof.ConvArrays.lean ====
/-
  The gradient of the mixer's convolution: the grid's blocks read from the whole arrays, and the three result arrays the kernel leaves.
-/
module

public import proofs.«01_k».proof.Proof.BlockAt
public import proofs.«01_k».proof.Proof.ConvBlock
public import proofs.«01_k».proof.Proof.GateRef
public import proofs.«01_k».proof.Proof.Gen.Kernel8Ideal.Value

@[expose] public section

set_option maxRecDepth 16384

noncomputable section

namespace Cert.Conv

open Cert.Gate (rowOf rowOf_lt rowOf_ge)
open Cert.Kernel8Ideal Cert.Kernel8Ideal.Gen Idealize.ShloMosaic Idealize.ShloMosaic.TcCoe Idealize.SL.Sem

variable (m : (ℓ : Loc nD τ sig) → Buf (Elt Ideal) ℓ) (c : Dev nD)

/-! ## The whole arrays -/

/-- Column `j` of the convolution's input within the projected row. -/
def mid (j : Fin 512) : Fin 1792 := ⟨1024 + j.val, by omega⟩

/-- The incoming gradient, the convolution's input, the taps. -/
def dA (p : Fin 8192) (j : Fin 512) : EReal := V m c main_arg0 (ix2 p j)
def xA (p : Fin 8192) (j : Fin 512) : EReal := V m c main_arg1 (ix2 p (mid j))
def wA (e : Fin 8) (j : Fin 512) : EReal := V m c main_v1 (ix2 e j)

/-! ## The blocks a grid point reads -/

/-- Row `q` of grid point `t`'s blocks, and their column `j`. -/
def row (t : Fin cfg0.N) (q : Fin 1024) : Fin 8192 := ⟨1024 * (t.val % 8) + q.val, by have := q.isLt; omega⟩
def col (t : Fin cfg0.N) (j : Fin 256) : Fin 512 := ⟨256 * (t.val / 8) + j.val, by have := t.isLt; have : cfg0.N = 16 := N_0; have := j.isLt; omega⟩

theorem coord_at : ∀ t : Fin grid0.N, (grid0.coords t 1).val = t.val % 8 := by decide +kernel

theorem index_at0 : ∀ t : Fin grid0.N, win0_0.index t 0 = t.val % 8 ∧ win0_0.index t 1 = t.val / 8 := by decide +kernel
theorem index_at1 : ∀ t : Fin grid0.N, win0_1.index t 0 = min ((t.val % 8 + 1) * 64) 511 ∧ win0_1.index t 1 = t.val / 8 := by decide +kernel
theorem index_at2 : ∀ t : Fin grid0.N, win0_2.index t 0 = t.val % 8 ∧ win0_2.index t 1 = 4 + t.val / 8 := by decide +kernel
theorem index_at4 : ∀ t : Fin grid0.N, win0_4.index t 0 = 0 ∧ win0_4.index t 1 = t.val / 8 := by decide +kernel
theorem index_at5 : ∀ t : Fin grid0.N, win0_5.index t 0 = t.val % 8 ∧ win0_5.index t 1 = t.val / 8 := by decide +kernel
theorem index_at6 : ∀ t : Fin grid0.N, win0_6.index t 0 = 0 ∧ win0_6.index t 1 = t.val / 8 := by decide +kernel
theorem index_at7 : ∀ t : Fin grid0.N, win0_7.index t 0 = 0 ∧ win0_7.index t 1 = t.val / 8 := by decide +kernel

theorem iblk0 (t : Fin cfg0.N) (q : Fin 1024) (j : Fin 256) : iblk m c 0 t (ix2 q j) = dA m c (row t q) (col t j) := by
  obtain ⟨h0, h1⟩ := index_at0 t
  unfold dA iblk
  exact congrArg (V m c main_arg0) (at2 _ (spot 1024 q.val h0 (by show _ = 1024 * (t.val % 8) + q.val; omega)) (spot 256 j.val h1 (by show _ = 256 * (t.val / 8) + j.val; omega)))

theorem iblk1 (t : Fin cfg0.N) (ht : t.val % 8 < 7) (q : Fin 16) (j : Fin 256) : iblk m c 1 t (ix2 q j) = dA m c ⟨1024 * (t.val % 8 + 1) + q.val, by have := q.isLt; omega⟩ (col t j) := by
  obtain ⟨h0, h1⟩ := index_at1 t
  unfold dA iblk
  exact congrArg (V m c main_arg0) (at2 _ (spot 16 q.val h0 (by show _ = 1024 * (t.val % 8 + 1) + q.val; omega)) (spot 256 j.val h1 (by show _ = 256 * (t.val / 8) + j.val; omega)))

theorem iblk2 (t : Fin cfg0.N) (q : Fin 1024) (j : Fin 256) : iblk m c 2 t (ix2 q j) = xA m c (row t q) (col t j) := by
  obtain ⟨h0, h1⟩ := index_at2 t
  unfold xA iblk
  exact congrArg (V m c main_arg1) (at2 _ (spot 1024 q.val h0 (by show _ = 1024 * (t.val % 8) + q.val; omega)) (spot 256 j.val h1 (by show _ = 1024 + (256 * (t.val / 8) + j.val); omega)))

theorem iblk4 (t : Fin cfg0.N) (q : Fin 8) (j : Fin 256) : iblk m c 4 t (ix2 q j) = wA m c q (col t j) := by
  obtain ⟨h0, h1⟩ := index_at4 t
  unfold wA iblk
  exact congrArg (V m c main_v1) (at2 _ (spot 8 q.val h0 (by show _ = q.val; omega)) (spot 256 j.val h1 (by show _ = 256 * (t.val / 8) + j.val; omega)))

/-! ## Rows of a grid point -/

/-- The incoming gradient's rows, also those after the block. -/
def dRow (t : Fin cfg0.N) : ℕ → Fin 256 → EReal := ext (iblk m c 0 t) (after (grid0.coords t) (iblk m c 1 t))
def xRow (t : Fin cfg0.N) : ℕ → Fin 256 → EReal := ext (iblk m c 2 t) (iblk m c 3 t)

theorem dRow_at (t : Fin cfg0.N) (n : ℕ) (hn : n < 1040) (j : Fin 256) : dRow m c t n j = rowOf (dA m c) (1024 * (t.val % 8) + n) (col t j) := by
  unfold dRow ext
  by_cases hb : n < 1024
  · rw [dif_pos hb, rowOf_lt _ _ (by omega)]
    exact iblk0 m c t ⟨n, hb⟩ j
  · rw [dif_neg hb, dif_pos (by omega), after_at, coord_at t]
    by_cases h7 : t.val % 8 = 7
    · rw [if_pos h7, rowOf_ge _ _ (by omega)]
    · rw [if_neg h7, rowOf_lt _ _ (by omega)]
      refine (iblk1 m c t (by omega) ⟨n - 1024, by omega⟩ j).trans (congrArg (fun p => dA m c p (col t j)) (Fin.ext ?_))
      show 1024 * (t.val % 8 + 1) + (n - 1024) = 1024 * (t.val % 8) + n
      omega

theorem xRow_at (t : Fin cfg0.N) (n : ℕ) (hn : n < 1024) (j : Fin 256) : xRow m c t n j = rowOf (xA m c) (1024 * (t.val % 8) + n) (col t j) := by
  unfold xRow ext
  rw [dif_pos hn, rowOf_lt _ _ (by omega)]
  exact iblk2 m c t ⟨n, hn⟩ j

/-! ## Sums over a block's rows -/

/-- The gradient at the convolution's input on a block's row. -/
theorem back_rows (t : Fin cfg0.N) (q : Fin 1024) (j : Fin 256) :
    back (fun e q => iblk m c 4 t (ix2 e q)) (dRow m c t) q.val j = back (wA m c) (rowOf (dA m c)) (row t q).val (col t j) := by
  have := q.isLt
  have hw : ∀ e : Fin 8, iblk m c 4 t (ix2 e j) = wA m c e (col t j) := fun e => iblk4 m c t e j
  unfold back
  beta_reduce
  rw [hw, hw, hw, hw, dRow_at m c t _ (by omega), dRow_at m c t _ (by omega), dRow_at m c t _ (by omega), dRow_at m c t _ (by omega)]
  rfl

/-- The taps' sum over a block's rows, added to the sum over the rows before. -/
theorem tap_rows (t : Fin cfg0.N) (e : Fin 8) (j : Fin 256) :
    tapSum (rowOf (dA m c)) (rowOf (xA m c)) e (col t j) (1024 * (t.val % 8)) + tapSum (dRow m c t) (xRow m c t) e j 1024
      = tapSum (rowOf (dA m c)) (rowOf (xA m c)) e (col t j) (1024 * (t.val % 8 + 1)) := by
  unfold tapSum
  by_cases h : e.val < 4
  · rw [if_pos h, if_pos h, if_pos h, Nat.mul_add, Nat.mul_one, Finset.sum_range_add]
    refine congrArg (_ + ·) (Finset.sum_congr rfl fun n hn => ?_)
    have hn' := Finset.mem_range.mp hn
    rw [dRow_at m c t _ (by omega), xRow_at m c t n hn', add_assoc]
  · rw [if_neg h, if_neg h, if_neg h, add_zero]

/-- The sum over no rows. -/
theorem tap_zero {K : ℕ} (D X : ℕ → Fin K → EReal) (e : Fin 8) (k : Fin K) : tapSum D X e k 0 = 0 := by
  unfold tapSum
  rw [Finset.range_zero, Finset.sum_empty, ite_self]

theorem add_rows (t : Fin cfg0.N) (j : Fin 256) :
    (∑ n ∈ Finset.range (1024 * (t.val % 8)), rowOf (dA m c) n (col t j)) + ∑ n ∈ Finset.range 1024, dRow m c t n j
      = ∑ n ∈ Finset.range (1024 * (t.val % 8 + 1)), rowOf (dA m c) n (col t j) := by
  rw [Nat.mul_add, Nat.mul_one, Finset.sum_range_add]
  exact congrArg (_ + ·) (Finset.sum_congr rfl fun n hn => dRow_at m c t n (by have := Finset.mem_range.mp hn; omega) j)

/-! ## What the buffers hold after a grid point -/

theorem outs5 (t : Fin cfg0.N) (q : Fin 1024) (j : Fin 256) :
    (outsAt0 m c t.val t.isLt).1 (ix2 q j) = back (wA m c) (rowOf (dA m c)) (row t q).val (col t j) := by
  have e := back_rows m c t q j
  by_cases h : t.val % 8 = 0
  · rw [outsAt0_A m c t h (by omega)]
    dsimp only
    exact (at_A_5 _ _ _ _ _ _ _ _ _ _ _ _ _ _ _ _ _ _ _ _ _ _ _ _ _ _ _).trans e
  · rw [outsAt0_B m c t h (by omega)]
    dsimp only
    exact (at_B_5 _ _ _ _ _ _ _ _ _ _ _ _ _ _ _ _ _ _ _ _ _ _ _ _ _ _ _ _ _).trans e

theorem first6 (e : Fin 8) (j : Fin 256) (t : Fin cfg0.N) (h : t.val % 8 = 0) :
    (outsAt0 m c t.val t.isLt).2.1 (ix2 e j) = tapSum (rowOf (dA m c)) (rowOf (xA m c)) e (col t j) (1024 * (t.val % 8 + 1)) := by
  have e1 := tap_rows m c t e j
  rw [outsAt0_A m c t h (by omega)]
  dsimp only
  rw [at_A_6]
  refine Eq.trans ?_ e1
  rw [h, Nat.mul_zero, tap_zero, zero_add]
  rfl

theorem first7 (j : Fin 256) (t : Fin cfg0.N) (h : t.val % 8 = 0) :
    (outsAt0 m c t.val t.isLt).2.2 (ix2 0 j) = ∑ k ∈ Finset.range (1024 * (t.val % 8 + 1)), rowOf (dA m c) k (col t j) := by
  have e1 := add_rows m c t j
  rw [outsAt0_A m c t h (by omega)]
  dsimp only
  rw [at_A_7]
  refine Eq.trans ?_ e1
  rw [h, Nat.mul_zero, Finset.range_zero, Finset.sum_empty, zero_add]
  rfl

theorem same_col (n : ℕ) (hn : n + 1 < cfg0.N) (h : ¬(n + 1) % 8 = 0) (j : Fin 256) : col ⟨n, Nat.lt_of_succ_lt hn⟩ j = col ⟨n + 1, hn⟩ j :=
  Fin.ext (by show 256 * (n / 8) + j.val = 256 * ((n + 1) / 8) + j.val; omega)

theorem outs6 (e : Fin 8) (j : Fin 256) : ∀ (n : ℕ) (hn : n < cfg0.N),
    (outsAt0 m c n hn).2.1 (ix2 e j) = tapSum (rowOf (dA m c)) (rowOf (xA m c)) e (col ⟨n, hn⟩ j) (1024 * (n % 8 + 1)) := by
  intro n
  induction n with
  | zero => exact fun hn => first6 m c e j ⟨0, hn⟩ rfl
  | succ n ih =>
    intro hn
    by_cases h : (n + 1) % 8 = 0
    · exact first6 m c e j ⟨n + 1, hn⟩ h
    · have hB := outsAt0_B m c ⟨n + 1, hn⟩ h (by dsimp only; omega)
      have ih' := ih (Nat.lt_of_succ_lt hn)
      have ec := same_col n hn h j
      have e1 := tap_rows m c ⟨n + 1, hn⟩ e j
      dsimp only at hB
      rw [hB]
      dsimp only
      rw [at_B_6]
      refine Eq.trans ?_ e1
      refine congrArg (· + _) (ih'.trans ?_)
      rw [ec, show 1024 * (n % 8 + 1) = 1024 * ((n + 1) % 8) by omega]

theorem outs7 (j : Fin 256) : ∀ (n : ℕ) (hn : n < cfg0.N),
    (outsAt0 m c n hn).2.2 (ix2 0 j) = ∑ k ∈ Finset.range (1024 * (n % 8 + 1)), rowOf (dA m c) k (col ⟨n, hn⟩ j) := by
  intro n
  induction n with
  | zero => exact fun hn => first7 m c j ⟨0, hn⟩ rfl
  | succ n ih =>
    intro hn
    by_cases h : (n + 1) % 8 = 0
    · exact first7 m c j ⟨n + 1, hn⟩ h
    · have hB := outsAt0_B m c ⟨n + 1, hn⟩ h (by dsimp only; omega)
      have ih' := ih (Nat.lt_of_succ_lt hn)
      have ec := same_col n hn h j
      have e1 := add_rows m c ⟨n + 1, hn⟩ j
      dsimp only at hB
      rw [hB]
      dsimp only
      rw [at_B_7]
      refine Eq.trans ?_ e1
      refine congrArg (· + _) (ih'.trans ?_)
      rw [ec, show 1024 * (n % 8 + 1) = 1024 * ((n + 1) % 8) by omega]

/-! ## The result arrays -/

theorem final5 (p : Fin 8192) (j : Fin 512) : (dats m 0 c).arrAt 5 cfg0.N (ix2 p j) = back (wA m c) (rowOf (dA m c)) p.val j := by
  have hN : cfg0.N = 16 := N_0
  refine (dats m 0 c).arrAt_forall_of_cover 5 (fun i v => v = back (wA m c) (rowOf (dA m c)) (i 0).val (i 1)) (fun t hf y => ?_) (fun i => ?_) (ix2 p j)
  · obtain ⟨h0, h1⟩ := index_at5 t
    rw [Value.flushed5]
    have hy : (y : S1024x256.Idx) = ix2 (y 0) (y 1) := eq_ix2 _
    have e0 : row t (y 0) = ((cfg0.win 5).blk t).view.emb y 0 := Fin.ext (by
      show 1024 * (t.val % 8) + (y 0).val = win0_5.index t 0 * 1024 + 1 * (y 0).val; rw [h0]; omega)
    have e1 : col t (y 1) = ((cfg0.win 5).blk t).view.emb y 1 := Fin.ext (by
      show 256 * (t.val / 8) + (y 1).val = win0_5.index t 1 * 256 + 1 * (y 1).val; rw [h1]; omega)
    refine Eq.trans (congrArg (outsAt0 m c t.val t.isLt).1 hy) ((outs5 m c t (y 0) (y 1)).trans ?_)
    rw [e0, e1]
  · have hi0 : (i 0 : Nat) < 8192 := (i 0).isLt
    have hi1 : (i 1 : Nat) < 512 := (i 1).isLt
    have ht : 8 * ((i 1 : Nat) / 256) + (i 0 : Nat) / 1024 < cfg0.N := by omega
    obtain ⟨h0, h1⟩ := index_at5 ⟨8 * ((i 1 : Nat) / 256) + (i 0 : Nat) / 1024, ht⟩
    refine ⟨⟨8 * ((i 1 : Nat) / 256) + (i 0 : Nat) / 1024, ht⟩, flush0_5 _, ?_⟩
    show i ∈ ((View.whole main_v2_0).slice (win0_5.rect ⟨8 * ((i 1 : Nat) / 256) + (i 0 : Nat) / 1024, ht⟩)).set
    rw [View.set_slice_whole, Rect.mem_set_unit]
    intro a
    match a with
    | ⟨0, _⟩ => exact span 1024 (i 0).val h0 (by dsimp only; omega)
    | ⟨1, _⟩ => exact span 256 (i 1).val h1 (by dsimp only; omega)

theorem final6 (e : Fin 8) (j : Fin 512) : (dats m 0 c).arrAt 6 cfg0.N (ix2 e j) = tapSum (rowOf (dA m c)) (rowOf (xA m c)) e j 8192 := by
  have hN : cfg0.N = 16 := N_0
  refine (dats m 0 c).arrAt_forall_of_cover 6 (fun i v => v = tapSum (rowOf (dA m c)) (rowOf (xA m c)) (i 0) (i 1) 8192) (fun t hf y => ?_) (fun i => ?_) (ix2 e j)
  · obtain ⟨h0, h1⟩ := index_at6 t
    rw [Value.flushed6]
    have h3 : t.val % 8 = 7 := (flush0_6 t).mp hf
    have hy : (y : S8x256.Idx) = ix2 (y 0) (y 1) := eq_ix2 _
    have e0 : (y 0 : Fin 8) = ((cfg0.win 6).blk t).view.emb y 0 := Fin.ext (by
      show (y 0).val = win0_6.index t 0 * 8 + 1 * (y 0).val; rw [h0]; omega)
    have e1 : col t (y 1) = ((cfg0.win 6).blk t).view.emb y 1 := Fin.ext (by
      show 256 * (t.val / 8) + (y 1).val = win0_6.index t 1 * 256 + 1 * (y 1).val; rw [h1]; omega)
    refine Eq.trans (congrArg (outsAt0 m c t.val t.isLt).2.1 hy) ((outs6 m c (y 0) (y 1) t.val t.isLt).trans ?_)
    rw [h3, e0, e1]
  · have hi0 : (i 0 : Nat) < 8 := (i 0).isLt
    have hi1 : (i 1 : Nat) < 512 := (i 1).isLt
    have ht : 8 * ((i 1 : Nat) / 256) + 7 < cfg0.N := by omega
    obtain ⟨h0, h1⟩ := index_at6 ⟨8 * ((i 1 : Nat) / 256) + 7, ht⟩
    refine ⟨⟨8 * ((i 1 : Nat) / 256) + 7, ht⟩, (flush0_6 _).mpr (by dsimp only; omega), ?_⟩
    show i ∈ ((View.whole main_v2_1).slice (win0_6.rect ⟨8 * ((i 1 : Nat) / 256) + 7, ht⟩)).set
    rw [View.set_slice_whole, Rect.mem_set_unit]
    intro a
    match a with
    | ⟨0, _⟩ => exact span 8 (i 0).val h0 (by dsimp only; omega)
    | ⟨1, _⟩ => exact span 256 (i 1).val h1 (by dsimp only; omega)

theorem final7 (j : Fin 512) : (dats m 0 c).arrAt 7 cfg0.N (ix2 0 j) = ∑ n ∈ Finset.range 8192, rowOf (dA m c) n j := by
  have hN : cfg0.N = 16 := N_0
  refine (dats m 0 c).arrAt_forall_of_cover 7 (fun i v => v = ∑ n ∈ Finset.range 8192, rowOf (dA m c) n (i 1)) (fun t hf y => ?_) (fun i => ?_) (ix2 0 j)
  · obtain ⟨h0, h1⟩ := index_at7 t
    rw [Value.flushed7]
    have h3 : t.val % 8 = 7 := (flush0_7 t).mp hf
    have hy : (y : S1x256.Idx) = ix2 0 (y 1) := (eq_ix2 _).trans (congrArg (fun k => ix2 k (y 1)) (Fin.fin_one_eq_zero _))
    have e1 : col t (y 1) = ((cfg0.win 7).blk t).view.emb y 1 := Fin.ext (by
      show 256 * (t.val / 8) + (y 1).val = win0_7.index t 1 * 256 + 1 * (y 1).val; rw [h1]; omega)
    refine Eq.trans (congrArg (outsAt0 m c t.val t.isLt).2.2 hy) ((outs7 m c (y 1) t.val t.isLt).trans ?_)
    rw [h3, e1]
  · have hi0 : (i 0 : Nat) < 1 := (i 0).isLt
    have hi1 : (i 1 : Nat) < 512 := (i 1).isLt
    have ht : 8 * ((i 1 : Nat) / 256) + 7 < cfg0.N := by omega
    obtain ⟨h0, h1⟩ := index_at7 ⟨8 * ((i 1 : Nat) / 256) + 7, ht⟩
    refine ⟨⟨8 * ((i 1 : Nat) / 256) + 7, ht⟩, (flush0_7 _).mpr (by dsimp only; omega), ?_⟩
    show i ∈ ((View.whole main_v2_2).slice (win0_7.rect ⟨8 * ((i 1 : Nat) / 256) + 7, ht⟩)).set
    rw [View.set_slice_whole, Rect.mem_set_unit]
    intro a
    match a with
    | ⟨0, _⟩ => exact span 1 (i 0).val h0 (by dsimp only; omega)
    | ⟨1, _⟩ => exact span 256 (i 1).val h1 (by dsimp only; omega)

end Cert.Conv

end
-- ==== Proof.ConvClaim.lean ====
/-
  The convolution's claim: kernel and reference leave the same gradients.
-/
module

public import proofs.«01_k».proof.Defs
public import proofs.«01_k».proof.Proof.ConvArrays
public import proofs.«01_k».proof.Proof.Gen.Reference8Ideal.Run

@[expose] public section

set_option maxRecDepth 16384

noncomputable section

namespace Cert.Conv

open Cert.Gate (rowOf rowOf_lt rowOf_ge rowsOf rowsOf_lt rowsOf_ge rowsOf_val rowOf_mul sum_rowsOf shift_sum)
open Idealize.ShloMosaic Idealize.ShloMosaic.TcCoe Idealize.SL.Sem

/-! ## What the reference computes -/

section Reference
open Cert.Reference8Ideal Cert.Reference8Ideal.Gen

/-- The taps, each as a row read along all rows. -/
def refTap0 (w : FVec Ideal S4x512 .f32) : FVec Ideal S8192x512 .f32 := broadcastInDim S8192x512 ![0, 1] bcast_S1x512_S8192x512_0_1
  (broadcastInDim S1x512 ![1] bcast_S512_S1x512_1 (shapeCast _ (extractStridedSlice S1x512 ![0, 0] w slices_S4x512_S1x512_0_0) shapeCasts_S1x512_S512))
def refTap1 (w : FVec Ideal S4x512 .f32) : FVec Ideal S8192x512 .f32 := broadcastInDim S8192x512 ![0, 1] bcast_S1x512_S8192x512_0_1
  (broadcastInDim S1x512 ![1] bcast_S512_S1x512_1 (shapeCast _ (extractStridedSlice S1x512 ![1, 0] w slices_S4x512_S1x512_1_0) shapeCasts_S1x512_S512))
def refTap2 (w : FVec Ideal S4x512 .f32) : FVec Ideal S8192x512 .f32 := broadcastInDim S8192x512 ![0, 1] bcast_S1x512_S8192x512_0_1
  (broadcastInDim S1x512 ![1] bcast_S512_S1x512_1 (shapeCast _ (extractStridedSlice S1x512 ![2, 0] w slices_S4x512_S1x512_2_0) shapeCasts_S1x512_S512))
def refTap3 (w : FVec Ideal S4x512 .f32) : FVec Ideal S8192x512 .f32 := broadcastInDim S8192x512 ![0, 1] bcast_S1x512_S8192x512_0_1
  (broadcastInDim S1x512 ![1] bcast_S512_S1x512_1 (shapeCast _ (extractStridedSlice S1x512 ![3, 0] w slices_S4x512_S1x512_3_0) shapeCasts_S1x512_S512))

/-- The input one, two and three rows later. -/
def refLater1 (x : FVec Ideal S8192x512 .f32) : FVec Ideal S8192x512 .f32 :=
  concatenate S8192x512 0 [⟨S1x512, broadcastInDim S1x512 ![] bcast_S_S1x512 (constant S_ .f32 0x00000000#32)⟩,
    ⟨S8191x512, extractStridedSlice S8191x512 ![0, 0] x slices_S8192x512_S8191x512_0_0⟩] concatenates_S1x512_S8191x512_S8192x512_d0
def refLater2 (x : FVec Ideal S8192x512 .f32) : FVec Ideal S8192x512 .f32 :=
  concatenate S8192x512 0 [⟨S2x512, broadcastInDim S2x512 ![] bcast_S_S2x512 (constant S_ .f32 0x00000000#32)⟩,
    ⟨S8190x512, extractStridedSlice S8190x512 ![0, 0] x slices_S8192x512_S8190x512_0_0⟩] concatenates_S2x512_S8190x512_S8192x512_d0
def refLater3 (x : FVec Ideal S8192x512 .f32) : FVec Ideal S8192x512 .f32 :=
  concatenate S8192x512 0 [⟨S3x512, broadcastInDim S3x512 ![] bcast_S_S3x512 (constant S_ .f32 0x00000000#32)⟩,
    ⟨S8189x512, extractStridedSlice S8189x512 ![0, 0] x slices_S8192x512_S8189x512_0_0⟩] concatenates_S3x512_S8189x512_S8192x512_d0

/-- An array moved back by one, two and three rows. -/
def refBack1 (x : FVec Ideal S8192x512 .f32) : FVec Ideal S8192x512 .f32 :=
  pad S8192x512 ![0, 0] ![1, 0] ![0, 0] (extractStridedSlice S8191x512 ![1, 0] x slices_S8192x512_S8191x512_1_0) (constant S_ .f32 0x00000000#32) pads_S8191x512_S8192x512_010_000 h_S_
def refBack2 (x : FVec Ideal S8192x512 .f32) : FVec Ideal S8192x512 .f32 :=
  pad S8192x512 ![0, 0] ![2, 0] ![0, 0] (extractStridedSlice S8190x512 ![2, 0] x slices_S8192x512_S8190x512_2_0) (constant S_ .f32 0x00000000#32) pads_S8190x512_S8192x512_020_000 h_S_
def refBack3 (x : FVec Ideal S8192x512 .f32) : FVec Ideal S8192x512 .f32 :=
  pad S8192x512 ![0, 0] ![3, 0] ![0, 0] (extractStridedSlice S8189x512 ![3, 0] x slices_S8192x512_S8189x512_3_0) (constant S_ .f32 0x00000000#32) pads_S8189x512_S8192x512_030_000 h_S_

/-- The gradient at the input: each tap times the gradient, moved back by the tap's rows. -/
def refDx (d : FVec Ideal S8192x512 .f32) (w : FVec Ideal S4x512 .f32) : FVec Ideal S8192x512 .f32 :=
  addf (addf (addf (mulf (refTap3 w) d) (refBack1 (mulf (refTap2 w) d))) (refBack2 (mulf (refTap1 w) d))) (refBack3 (mulf (refTap0 w) d))

/-- The sum of all rows, as the reference takes it: over the rows, then over one row. -/
def refSumRows (x : FVec Ideal S8192x512 .f32) : FVec Ideal S512 .f32 :=
  Host.reduceAdd (shapeCast S1x512 (Host.reduceAdd x (constant S_ .f32 0x00000000#32) reducesTo_S8192x512_S512_d0 h_S_) shapeCasts_S512_S1x512)
    (constant S_ .f32 0x00000000#32) reducesTo_S1x512_S512_d0 h_S_
def refRow (x : FVec Ideal S8192x512 .f32) : FVec Ideal S1x512 .f32 := broadcastInDim S1x512 ![1] bcast_S512_S1x512_1 (refSumRows x)

/-- The gradient of the taps, with four rows of zeros below. -/
def refDw (d x : FVec Ideal S8192x512 .f32) : FVec Ideal S8x512 .f32 :=
  pad S8x512 ![0, 0] ![4, 0] ![0, 0]
    (addf (addf (addf (pad S4x512 ![3, 0] ![0, 0] ![0, 0] (refRow (mulf d x)) (constant S_ .f32 0x00000000#32) pads_S1x512_S4x512_300_000 h_S_)
      (pad S4x512 ![2, 0] ![1, 0] ![0, 0] (refRow (mulf d (refLater1 x))) (constant S_ .f32 0x00000000#32) pads_S1x512_S4x512_210_000 h_S_))
      (pad S4x512 ![1, 0] ![2, 0] ![0, 0] (refRow (mulf d (refLater2 x))) (constant S_ .f32 0x00000000#32) pads_S1x512_S4x512_120_000 h_S_))
      (pad S4x512 ![0, 0] ![3, 0] ![0, 0] (refRow (mulf d (refLater3 x))) (constant S_ .f32 0x00000000#32) pads_S1x512_S4x512_030_000 h_S_))
    (sitofp .f32 (constantI S_ 32 0#32)) pads_S4x512_S8x512_040_000 h_S_

/-! ## Its stages entry by entry -/

theorem refTap0_at (w : FVec Ideal S4x512 .f32) (p : Fin 8192) (j : Fin 512) : refTap0 w (ix2 p j) = (w (ix2 0 j) : EReal) := by
  pointwise [refTap0]
theorem refTap1_at (w : FVec Ideal S4x512 .f32) (p : Fin 8192) (j : Fin 512) : refTap1 w (ix2 p j) = (w (ix2 1 j) : EReal) := by
  pointwise [refTap1]
theorem refTap2_at (w : FVec Ideal S4x512 .f32) (p : Fin 8192) (j : Fin 512) : refTap2 w (ix2 p j) = (w (ix2 2 j) : EReal) := by
  pointwise [refTap2]
theorem refTap3_at (w : FVec Ideal S4x512 .f32) (p : Fin 8192) (j : Fin 512) : refTap3 w (ix2 p j) = (w (ix2 3 j) : EReal) := by
  pointwise [refTap3]

theorem refLater1_at (x : FVec Ideal S8192x512 .f32) (p : Fin 8192) (j : Fin 512) :
    refLater1 x (ix2 p j) = if 1 ≤ p.val then rowsOf x (p.val - 1) j else 0 := by
  pointwise [refLater1]
  by_cases h1 : p.val < 1
  · rw [dif_pos h1, if_neg (by omega)]
  · exact (dif_neg h1).trans ((rowsOf_lt x (p.val - 1) (by omega) j).symm.trans (if_pos (by omega)).symm)

theorem refBack1_at (x : FVec Ideal S8192x512 .f32) (p : Fin 8192) (j : Fin 512) : refBack1 x (ix2 p j) = rowsOf x (p.val + 1) j := by
  pointwise [refBack1]
  by_cases h1 : p.val < 8191
  · rw [dif_pos h1, rowsOf_lt _ (p.val + 1) (by omega)]
    exact congrArg x (congrArg (fun k => ix2 k j) (Fin.ext (Nat.add_comm 1 p.val)))
  · rw [dif_neg h1, rowsOf_ge _ (p.val + 1) (by omega)]

theorem refLater2_at (x : FVec Ideal S8192x512 .f32) (p : Fin 8192) (j : Fin 512) :
    refLater2 x (ix2 p j) = if 2 ≤ p.val then rowsOf x (p.val - 2) j else 0 := by
  pointwise [refLater2]
  by_cases h1 : p.val < 2
  · rw [dif_pos h1, if_neg (by omega)]
  · exact (dif_neg h1).trans ((rowsOf_lt x (p.val - 2) (by omega) j).symm.trans (if_pos (by omega)).symm)

theorem refBack2_at (x : FVec Ideal S8192x512 .f32) (p : Fin 8192) (j : Fin 512) : refBack2 x (ix2 p j) = rowsOf x (p.val + 2) j := by
  pointwise [refBack2]
  by_cases h1 : p.val < 8190
  · rw [dif_pos h1, rowsOf_lt _ (p.val + 2) (by omega)]
    exact congrArg x (congrArg (fun k => ix2 k j) (Fin.ext (Nat.add_comm 2 p.val)))
  · rw [dif_neg h1, rowsOf_ge _ (p.val + 2) (by omega)]

theorem refLater3_at (x : FVec Ideal S8192x512 .f32) (p : Fin 8192) (j : Fin 512) :
    refLater3 x (ix2 p j) = if 3 ≤ p.val then rowsOf x (p.val - 3) j else 0 := by
  pointwise [refLater3]
  by_cases h1 : p.val < 3
  · rw [dif_pos h1, if_neg (by omega)]
  · exact (dif_neg h1).trans ((rowsOf_lt x (p.val - 3) (by omega) j).symm.trans (if_pos (by omega)).symm)

theorem refBack3_at (x : FVec Ideal S8192x512 .f32) (p : Fin 8192) (j : Fin 512) : refBack3 x (ix2 p j) = rowsOf x (p.val + 3) j := by
  pointwise [refBack3]
  by_cases h1 : p.val < 8189
  · rw [dif_pos h1, rowsOf_lt _ (p.val + 3) (by omega)]
    exact congrArg x (congrArg (fun k => ix2 k j) (Fin.ext (Nat.add_comm 3 p.val)))
  · rw [dif_neg h1, rowsOf_ge _ (p.val + 3) (by omega)]

theorem refSumRows_at (x : FVec Ideal S8192x512 .f32) (j : Fin 512) : refSumRows x (ix1 j) = ∑ p : Fin 8192, (x (ix2 p j) : EReal) := by
  pointwise [refSumRows]
  exact Fin.sum_univ_one _

/-- The taps, with four rows of zeros below. -/
def tapsOf (w : FVec Ideal S4x512 .f32) (e : Fin 8) (j : Fin 512) : EReal := if h : e.val < 4 then w (ix2 ⟨e.val, h⟩ j) else 0

/-- Four summands in the opposite order. -/
theorem rev_four (a b c d : EReal) : d + c + b + a = a + b + c + d := by ac_rfl

theorem refDx_at (d : FVec Ideal S8192x512 .f32) (w : FVec Ideal S4x512 .f32) (p : Fin 8192) (j : Fin 512) :
    refDx d w (ix2 p j) = back (tapsOf w) (rowsOf d) p.val j := by
  have e1 : rowsOf (mulf (refTap2 w) d) (p.val + 1) j = w (ix2 2 j) * rowsOf d (p.val + 1) j := by
    rw [← rowOf_mul fun j => w (ix2 2 j)]
    refine congrArg (fun f => rowOf f _ j) (funext fun p => funext fun j => ?_)
    pointwise [refTap2_at]
  have e2 : rowsOf (mulf (refTap1 w) d) (p.val + 2) j = w (ix2 1 j) * rowsOf d (p.val + 2) j := by
    rw [← rowOf_mul fun j => w (ix2 1 j)]
    refine congrArg (fun f => rowOf f _ j) (funext fun p => funext fun j => ?_)
    pointwise [refTap1_at]
  have e3 : rowsOf (mulf (refTap0 w) d) (p.val + 3) j = w (ix2 0 j) * rowsOf d (p.val + 3) j := by
    rw [← rowOf_mul fun j => w (ix2 0 j)]
    refine congrArg (fun f => rowOf f _ j) (funext fun p => funext fun j => ?_)
    pointwise [refTap0_at]
  pointwise [refDx, refTap3_at, refBack1_at, refBack2_at, refBack3_at, e1, e2, e3]
  have t0 : tapsOf w 0 j = w (ix2 0 j) := rfl
  have t1 : tapsOf w 1 j = w (ix2 1 j) := rfl
  have t2 : tapsOf w 2 j = w (ix2 2 j) := rfl
  have t3 : tapsOf w 3 j = w (ix2 3 j) := rfl
  unfold back
  rw [rowsOf_val, t0, t1, t2, t3]
  exact rev_four _ _ _ _

theorem refDw_at (d x : FVec Ideal S8192x512 .f32) (e : Fin 8) (j : Fin 512) :
    refDw d x (ix2 e j) = tapSum (rowsOf d) (rowsOf x) e j 8192 := by
  have e0 : ∑ p : Fin 8192, (d (ix2 p j) : EReal) * x (ix2 p j) = ∑ n ∈ Finset.range 8192, rowsOf d n j * rowsOf x n j := by
    rw [← sum_rowsOf fun n => rowsOf d n j * rowsOf x n j]
    exact Finset.sum_congr rfl fun p _ => by rw [rowsOf_val, rowsOf_val]
  have e1 : ∑ p : Fin 8192, (d (ix2 p j) : EReal) * refLater1 x (ix2 p j) = ∑ n ∈ Finset.range 8192, rowsOf d (n + 1) j * rowsOf x n j := by
    rw [← shift_sum (fun n => rowsOf d n j) (fun n => rowsOf x n j) 1 8191 (fun n hn => rowOf_ge _ _ (by omega) _),
      ← sum_rowsOf fun n => rowsOf d n j * (if 1 ≤ n then rowsOf x (n - 1) j else 0)]
    exact Finset.sum_congr rfl fun p _ => by rw [rowsOf_val, refLater1_at]
  have e2 : ∑ p : Fin 8192, (d (ix2 p j) : EReal) * refLater2 x (ix2 p j) = ∑ n ∈ Finset.range 8192, rowsOf d (n + 2) j * rowsOf x n j := by
    rw [← shift_sum (fun n => rowsOf d n j) (fun n => rowsOf x n j) 2 8190 (fun n hn => rowOf_ge _ _ (by omega) _),
      ← sum_rowsOf fun n => rowsOf d n j * (if 2 ≤ n then rowsOf x (n - 2) j else 0)]
    exact Finset.sum_congr rfl fun p _ => by rw [rowsOf_val, refLater2_at]
  have e3 : ∑ p : Fin 8192, (d (ix2 p j) : EReal) * refLater3 x (ix2 p j) = ∑ n ∈ Finset.range 8192, rowsOf d (n + 3) j * rowsOf x n j := by
    rw [← shift_sum (fun n => rowsOf d n j) (fun n => rowsOf x n j) 3 8189 (fun n hn => rowOf_ge _ _ (by omega) _),
      ← sum_rowsOf fun n => rowsOf d n j * (if 3 ≤ n then rowsOf x (n - 3) j else 0)]
    exact Finset.sum_congr rfl fun p _ => by rw [rowsOf_val, refLater3_at]
  pointwise [refDw, refRow, refSumRows_at, e0, e1, e2, e3]
  have z : (FloatOps.sitofp .f32 0#32 : Ideal .f32) = (0 : EReal) := by
    show (((0#32).toInt : ℝ) : EReal) = 0
    simp
  unfold tapSum
  fin_cases e <;> simp [z]

/-- The gradient of the bias. -/
def refDb (d : FVec Ideal S8192x512 .f32) : FVec Ideal S1x512 .f32 := shapeCast S1x512 (refSumRows d) shapeCasts_S512_S1x512

theorem refDb_at (d : FVec Ideal S8192x512 .f32) (j : Fin 512) : refDb d (ix2 0 j) = ∑ n ∈ Finset.range 8192, rowsOf d n j := by
  rw [← sum_rowsOf fun n => rowsOf d n j]
  simp only [rowsOf_val]
  rw [← refSumRows_at]
  pointwise [refDb]

/-- The incoming gradient as the reference's products take it, and the convolution's input. -/
def refD (d : FVec Ideal S8192x512 .f32) : FVec Ideal S8192x512 .f32 := shapeCast _ d shapeCasts_S8192x512_S8192x512
def refX (x : FVec Ideal S8192x1792 .f32) : FVec Ideal S8192x512 .f32 := extractStridedSlice S8192x512 ![0, 1024] x slices_S8192x1792_S8192x512_0_1024

theorem refX_at (x : FVec Ideal S8192x1792 .f32) (p : Fin 8192) (j : Fin 512) : refX x (ix2 p j) = x (ix2 p (mid j)) := by
  pointwise [refX]
  rfl

end Reference

/-! ## The arrays the kernel reads -/

section Host
open Cert.Kernel8Ideal Cert.Kernel8Ideal.Gen
variable (m : (ℓ : Loc nD τ sig) → Buf (Elt Ideal) ℓ) (c : Dev nD)

/-- The incoming gradient, the projected rows, the taps. -/
def argD : FVec Ideal S8192x512 .f32 := m ((c.tc : Thread nD τ).loc main_arg0)
def argX : FVec Ideal S8192x1792 .f32 := m ((c.tc : Thread nD τ).loc main_arg1)
def argW : FVec Ideal S4x512 .f32 := m ((c.tc : Thread nD τ).loc main_arg2)

theorem dA_rows : rowOf (dA m c) = rowsOf (argD m c) := by
  refine congrArg rowOf (funext fun p => funext fun j => ?_)
  unfold dA argD
  rw [V_main_arg0]

theorem xA_rows : rowOf (xA m c) = rowsOf (refX (argX m c)) := by
  refine congrArg rowOf (funext fun p => funext fun j => ?_)
  rw [refX_at]
  unfold xA argX
  rw [V_main_arg1]

theorem wA_eq (e : Fin 8) (j : Fin 512) : wA m c e j = tapsOf (argW m c) e j := by
  have h : V m c main_v1 = concatenate S8x512 0 [⟨S4x512, argW m c⟩, ⟨S4x512, broadcastInDim S4x512 ![] bcast_S_S4x512 (constant (F := Ideal) S_ .f32 0x00000000#32)⟩]
      concatenates_S4x512_S4x512_S8x512_d0 := by
    unfold V; after_results_simp <;> rfl
  unfold wA
  rw [h]
  pointwise
  rfl

end Host

/-! ## Kernel and reference -/

attribute [local instance] Cert.Kernel8Ideal.Gen.facts Cert.Reference8Ideal.Gen.facts

theorem agree : Cert.algebraic_Kernel8Ideal_Reference8Ideal := by
  intro m g m' g' _ ha
  refine ⟨_, _, _, Cert.Kernel8Ideal.Value.run_blocks m g,
    (θ_run Cert.Reference8Ideal.defs _ _).mono (fun r h c => ?_) (Cert.Reference8Ideal.Value.run m' g')⟩
  obtain ⟨a0, a1, a2⟩ := ha c
  have hd : refD (argD m c) = argD m c := shapeCast_self _ _
  have hw : wA m c = tapsOf (argW m c) := funext fun e => funext fun j => wA_eq m c e j
  obtain ⟨h0, h1, h2, hk⟩ := h c
  rw [a0, a2] at h0
  rw [a0, a1] at h1
  rw [a0] at h2
  refine ⟨h0.trans ?_, h1.trans ?_, h2.trans ?_, hk⟩
  · funext i; rw [← ix2_eta i]
    have e : refDx (refD (argD m c)) (argW m c) (ix2 (i 0) (i 1)) = back (tapsOf (argW m c)) (rowsOf (argD m c)) (i 0).val (i 1) :=
      (congrArg (fun d => refDx d (argW m c) (ix2 (i 0) (i 1))) hd).trans (refDx_at _ _ _ _)
    have k := final5 m c (i 0) (i 1)
    rw [hw, dA_rows] at k
    exact e.trans k.symm
  · funext i; rw [← ix2_eta i]
    have e : refDw (refD (argD m c)) (refX (argX m c)) (ix2 (i 0) (i 1)) = tapSum (rowsOf (argD m c)) (rowsOf (refX (argX m c))) (i 0) (i 1) 8192 :=
      (congrArg (fun d => refDw d (refX (argX m c)) (ix2 (i 0) (i 1))) hd).trans (refDw_at _ _ _ _)
    have k := final6 m c (i 0) (i 1)
    rw [dA_rows, xA_rows] at k
    exact e.trans k.symm
  · funext i; rw [← ix2_eta i, show i 0 = (0 : Fin 1) from Subsingleton.elim (α := Fin 1) _ _]
    have k := final7 m c (i 1)
    rw [dA_rows] at k
    exact (refDb_at (argD m c) (i 1)).trans k.symm

end Cert.Conv

end
-- ==== Proof.OutNormClaim.lean ====
/-
  The output projection with the residual norm: each block of 512 rows is the sum of the two halves' products, the scaled
  residual and the norm of those rows; the reference takes one product of the joined halves, on all rows at once.
-/
module

public import proofs.«01_k».proof.Proof.BlockAt
public import proofs.«01_k».proof.Proof.NormRow
public import proofs.«01_k».proof.Proof.Sums
public import proofs.«01_k».proof.Defs
public import proofs.«01_k».proof.Proof.Gen.Kernel9Ideal.Value
public import proofs.«01_k».proof.Proof.Gen.Reference9Ideal.Run
public import Idealize.ShloMosaic.Lib.Pipeline.Value
public import Idealize.ShloMosaic.Lib.Tactic

@[expose] public section

set_option maxRecDepth 16384

noncomputable section

namespace Cert.OutNorm

open Cert.NormRow

section Kernel

open Cert.Kernel9Ideal Cert.Kernel9Ideal.Gen Idealize.ShloMosaic Idealize.ShloMosaic.TcCoe Idealize.SL.Sem

/-! ## One block -/

/-- The residual sum of a block. -/
theorem residual_at (x0 : Vec Ideal S512x512 .bf16) (x1 : Vec Ideal S512x512 .bf16) (x2 : Vec Ideal S512x1024 .bf16) (x3 : Vec Ideal S512x1024 .bf16) (x4 : Vec Ideal S512x1024 .f32) (p : Fin 512) (j : Fin 1024) :
    k0_pay2 x4 x0 x2 x1 x3 (ix2 p j) = scale * (x4 (ix2 p j) : EReal) + ((∑ k : Fin 512, (x0 (ix2 p k) : EReal) * (x2 (ix2 k j) : EReal)) + ∑ k : Fin 512, (x1 (ix2 p k) : EReal) * (x3 (ix2 k j) : EReal)) := by
  pointwise [k0_pay2, dot_S512x512_S512x1024_S512x1024_1_0_0_1_n_n]
  exact add_assoc _ _ _

/-- The normalised rows of a block. -/
theorem normed_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1024 .f32) (x6 : Vec Ideal S1x1024 .f32) (p : Fin 512) (j : Fin 1024) :
    k0_pay3 x4 x0 x2 x1 x3 x5 x6 (ix2 p j) = normed (fun k => k0_pay2 x4 x0 x2 x1 x3 (ix2 p k)) (x5 (ix2 0 j)) (x6 (ix2 0 j)) j := by
  pointwise [k0_pay3]
  rfl

theorem outR_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1024 .f32) (x6 : Vec Ideal S1x1024 .f32) (p : Fin 512) (j : Fin 1024) : out0_9 x0 x1 x2 x3 x4 x5 x6 (ix2 p j) = k0_pay2 x4 x0 x2 x1 x3 (ix2 p j) := by
  unfold out0_9
  rw [View.canon_unit_zero hz]
  simp only [View.ld_unit_zero (S := S512x512) hz, View.ld_unit_zero (S := S512x1024) hz, View.ld_unit_zero (S := S1x1024) hz]
theorem outY_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1024 .f32) (x6 : Vec Ideal S1x1024 .f32) (p : Fin 512) (j : Fin 1024) : out0_7 x0 x1 x2 x3 x4 x5 x6 (ix2 p j) = k0_pay3 x4 x0 x2 x1 x3 x5 x6 (ix2 p j) := by
  unfold out0_7 k0_pay4
  rw [View.canon_unit_zero hz]
  simp only [View.ld_unit_zero (S := S512x512) hz, View.ld_unit_zero (S := S512x1024) hz, View.ld_unit_zero (S := S1x1024) hz]
theorem outB_at (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1024 .f32) (x6 : Vec Ideal S1x1024 .f32) (p : Fin 512) (j : Fin 1024) : out0_8 x0 x1 x2 x3 x4 x5 x6 (ix2 p j) = k0_pay3 x4 x0 x2 x1 x3 x5 x6 (ix2 p j) := by
  unfold out0_8 k0_pay4
  rw [View.canon_unit_zero hz]
  simp only [View.ld_unit_zero (S := S512x512) hz, View.ld_unit_zero (S := S512x1024) hz, View.ld_unit_zero (S := S1x1024) hz]
  pointwise [k0_pay1]

/-! ## The arrays -/

variable (m : (ℓ : Loc nD τ sig) → Buf (Elt Ideal) ℓ) (c : Dev nD)

def left (p : Fin 8192) (j : Fin 512) : EReal := m ((c : Thread nD τ).loc main_arg0) (ix2 p j)
def right (p : Fin 8192) (j : Fin 512) : EReal := m ((c : Thread nD τ).loc main_arg1) (ix2 p j)
def weight (p : Fin 1024) (j : Fin 1024) : EReal := m ((c : Thread nD τ).loc main_arg2) (ix2 p j)
def resid (p : Fin 8192) (j : Fin 1024) : EReal := m ((c : Thread nD τ).loc main_arg3) (ix2 p j)
def gain (j : Fin 1024) : EReal := m ((c : Thread nD τ).loc main_arg4) (ix1 j)
def shift (j : Fin 1024) : EReal := m ((c : Thread nD τ).loc main_arg5) (ix1 j)

/-- Row `k` of the weights' first and of their second half. -/
def low (k : Fin 512) : Fin 1024 := ⟨k.val, by have := k.isLt; omega⟩
def high (k : Fin 512) : Fin 1024 := ⟨512 + k.val, by have := k.isLt; omega⟩

/-- The residual sum, and the norm of its rows. -/
def total (p : Fin 8192) (j : Fin 1024) : EReal := scale * resid m c p j + ((∑ k : Fin 512, left m c p k * weight m c (low k) j) + ∑ k : Fin 512, right m c p k * weight m c (high k) j)
def result (p : Fin 8192) (j : Fin 1024) : EReal := normed (total m c p) (gain m c j) (shift m c j) j

theorem total_eq (p : Fin 8192) (j : Fin 1024) : total m c p j = scale * resid m c p j + ((∑ k : Fin 512, left m c p k * weight m c (low k) j) + ∑ k : Fin 512, right m c p k * weight m c (high k) j) := rfl
theorem result_eq (p : Fin 8192) (j : Fin 1024) : result m c p j = normed (total m c p) (gain m c j) (shift m c j) j := rfl

/-- Row `p` of grid point `t`'s blocks. -/
def row (t : Fin cfg0.N) (p : Fin 512) : Fin 8192 := ⟨512 * t.val + p.val, by have := t.isLt; have : cfg0.N = 16 := N_0; have := p.isLt; omega⟩

theorem V_gain (j : Fin 1024) : V m c main_v0 (ix2 0 j) = gain m c j := by
  have e : V m c main_v0 = shapeCast S1x1024 (m ((c : Thread nD τ).loc main_arg4)) shapeCasts_S1024_S1x1024 := by
    unfold V; after_results_simp <;> rfl
  rw [e]
  pointwise
  rfl
theorem V_shift (j : Fin 1024) : V m c main_v1 (ix2 0 j) = shift m c j := by
  have e : V m c main_v1 = shapeCast S1x1024 (m ((c : Thread nD τ).loc main_arg5)) shapeCasts_S1024_S1x1024 := by
    unfold V; after_results_simp <;> rfl
  rw [e]
  pointwise
  rfl

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 1 ∧ win0_3.index t 1 = 0 := by decide +kernel
theorem index4 : ∀ t : Fin grid0.N, win0_4.index t 0 = t.val ∧ win0_4.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel

theorem iblk0 (t : Fin cfg0.N) (p : Fin 512) (k : Fin 512) : iblk m c 0 t (ix2 p k) = left m c (row t p) k := by
  obtain ⟨h0, h1⟩ := index0 t
  unfold left
  rw [← V_main_arg0 m c]
  unfold iblk
  exact congrArg (V m c main_arg0) (at2 _ (spot 512 p.val h0 (by show _ = 512 * t.val + p.val; omega)) (spot 512 k.val h1 (by show _ = k.val; omega)))

theorem iblk1 (t : Fin cfg0.N) (p : Fin 512) (k : Fin 512) : iblk m c 1 t (ix2 p k) = right m c (row t p) k := by
  obtain ⟨h0, h1⟩ := index1 t
  unfold right
  rw [← V_main_arg1 m c]
  unfold iblk
  exact congrArg (V m c main_arg1) (at2 _ (spot 512 p.val h0 (by show _ = 512 * t.val + p.val; omega)) (spot 512 k.val h1 (by show _ = k.val; omega)))

theorem iblk2 (t : Fin cfg0.N) (k : Fin 512) (j : Fin 1024) : iblk m c 2 t (ix2 k j) = weight m c (low k) j := by
  obtain ⟨h0, h1⟩ := index2 t
  unfold weight
  rw [← V_main_arg2 m c]
  unfold iblk
  exact congrArg (V m c main_arg2) (at2 _ (spot 512 k.val h0 (by show _ = k.val; omega)) (spot 1024 j.val h1 (by show _ = j.val; omega)))

theorem iblk3 (t : Fin cfg0.N) (k : Fin 512) (j : Fin 1024) : iblk m c 3 t (ix2 k j) = weight m c (high k) j := by
  obtain ⟨h0, h1⟩ := index3 t
  unfold weight
  rw [← V_main_arg2 m c]
  unfold iblk
  exact congrArg (V m c main_arg2) (at2 _ (spot 512 k.val h0 (by show _ = 512 + k.val; omega)) (spot 1024 j.val h1 (by show _ = j.val; omega)))

theorem iblk4 (t : Fin cfg0.N) (p : Fin 512) (j : Fin 1024) : iblk m c 4 t (ix2 p j) = resid m c (row t p) j := by
  obtain ⟨h0, h1⟩ := index4 t
  unfold resid
  rw [← V_main_arg3 m c]
  unfold iblk
  exact congrArg (V m c main_arg3) (at2 _ (spot 512 p.val h0 (by show _ = 512 * t.val + p.val; omega)) (spot 1024 j.val h1 (by show _ = j.val; omega)))

theorem iblk5 (t : Fin cfg0.N) (j : Fin 1024) : iblk m c 5 t (ix2 0 j) = gain m c j := by
  obtain ⟨h0, h1⟩ := index5 t
  rw [← V_gain]
  unfold iblk
  exact congrArg (V m c main_v0) (at2 _ (spot 1 0 h0 (by show _ = 0; omega)) (spot 1024 j.val h1 (by show _ = j.val; omega)))

theorem iblk6 (t : Fin cfg0.N) (j : Fin 1024) : iblk m c 6 t (ix2 0 j) = shift m c j := by
  obtain ⟨h0, h1⟩ := index6 t
  rw [← V_shift]
  unfold iblk
  exact congrArg (V m c main_v1) (at2 _ (spot 1 0 h0 (by show _ = 0; omega)) (spot 1024 j.val h1 (by show _ = j.val; omega)))

/-- A block of each result. -/
theorem blockR (t : Fin cfg0.N) (p : Fin 512) (j : Fin 1024) : k0_pay2 (iblk m c 4 t) (iblk m c 0 t) (iblk m c 2 t) (iblk m c 1 t) (iblk m c 3 t) (ix2 p j) = total m c (row t p) j := by
  rw [residual_at, total_eq]
  simp only [iblk0, iblk1, iblk2, iblk3, iblk4]
theorem blockY (t : Fin cfg0.N) (p : Fin 512) (j : Fin 1024) : out0_7 (iblk m c 0 t) (iblk m c 1 t) (iblk m c 2 t) (iblk m c 3 t) (iblk m c 4 t) (iblk m c 5 t) (iblk m c 6 t) (ix2 p j) = result m c (row t p) j := by
  rw [outY_at, normed_at, result_eq, iblk5, iblk6]
  simp only [blockR]
theorem blockB (t : Fin cfg0.N) (p : Fin 512) (j : Fin 1024) : out0_8 (iblk m c 0 t) (iblk m c 1 t) (iblk m c 2 t) (iblk m c 3 t) (iblk m c 4 t) (iblk m c 5 t) (iblk m c 6 t) (ix2 p j) = result m c (row t p) j :=
  (outB_at _ _ _ _ _ _ _ p j).trans ((outY_at _ _ _ _ _ _ _ p j).symm.trans (blockY m c t p j))
theorem blockT (t : Fin cfg0.N) (p : Fin 512) (j : Fin 1024) : out0_9 (iblk m c 0 t) (iblk m c 1 t) (iblk m c 2 t) (iblk m c 3 t) (iblk m c 4 t) (iblk m c 5 t) (iblk m c 6 t) (ix2 p j) = total m c (row t p) j :=
  (outR_at _ _ _ _ _ _ _ p j).trans (blockR m c t p j)

attribute [local irreducible] total result out0_7 out0_8 out0_9 iblk

theorem final7 : ∀ i, (dats m 0 c).arrAt 7 cfg0.N i = result m c (i 0) (i 1) := by
  have hN : cfg0.N = 16 := N_0
  refine (dats m 0 c).arrAt_forall_of_cover 7 (fun i v => v = result m c (i 0) (i 1)) (fun t hf y => ?_) (fun i => ?_)
  · obtain ⟨h0, h1⟩ := index7 t
    rw [Value.flushed7]
    have e := blockY m c t (y 0) (y 1)
    have hy : (y : S512x1024.Idx) = ix2 (y 0) (y 1) := eq_ix2 _
    refine Eq.trans (?_ : _ = _) (e.trans ?_)
    · exact congrArg (out0_7 (iblk m c 0 t) (iblk m c 1 t) (iblk m c 2 t) (iblk m c 3 t) (iblk m c 4 t) (iblk m c 5 t) (iblk m c 6 t)) hy
    · have e0 : row t (y 0) = ((cfg0.win 7).blk t).view.emb y 0 := Fin.ext (by
        show 512 * t.val + (y 0).val = win0_7.index t 0 * 512 + 1 * (y 0).val; rw [h0]; omega)
      have e1 : (y 1 : Fin 1024) = ((cfg0.win 7).blk t).view.emb y 1 := Fin.ext (by
        show (y 1).val = win0_7.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := index7 ⟨(i 0 : Nat) / 512, ht⟩
    refine ⟨⟨(i 0 : Nat) / 512, ht⟩, flush0_7 _, ?_⟩
    show i ∈ ((View.whole main_v2_0).slice (win0_7.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

theorem final8 : ∀ i, (dats m 0 c).arrAt 8 cfg0.N i = result m c (i 0) (i 1) := by
  have hN : cfg0.N = 16 := N_0
  refine (dats m 0 c).arrAt_forall_of_cover 8 (fun i v => v = result m c (i 0) (i 1)) (fun t hf y => ?_) (fun i => ?_)
  · obtain ⟨h0, h1⟩ := index8 t
    rw [Value.flushed8]
    have e := blockB m c t (y 0) (y 1)
    have hy : (y : S512x1024.Idx) = ix2 (y 0) (y 1) := eq_ix2 _
    refine Eq.trans (?_ : _ = _) (e.trans ?_)
    · exact congrArg (out0_8 (iblk m c 0 t) (iblk m c 1 t) (iblk m c 2 t) (iblk m c 3 t) (iblk m c 4 t) (iblk m c 5 t) (iblk m c 6 t)) hy
    · have e0 : row t (y 0) = ((cfg0.win 8).blk t).view.emb y 0 := Fin.ext (by
        show 512 * t.val + (y 0).val = win0_8.index t 0 * 512 + 1 * (y 0).val; rw [h0]; omega)
      have e1 : (y 1 : Fin 1024) = ((cfg0.win 8).blk t).view.emb y 1 := Fin.ext (by
        show (y 1).val = win0_8.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := index8 ⟨(i 0 : Nat) / 512, ht⟩
    refine ⟨⟨(i 0 : Nat) / 512, ht⟩, flush0_8 _, ?_⟩
    show i ∈ ((View.whole main_v2_1).slice (win0_8.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

theorem final9 : ∀ i, (dats m 0 c).arrAt 9 cfg0.N i = total m c (i 0) (i 1) := by
  have hN : cfg0.N = 16 := N_0
  refine (dats m 0 c).arrAt_forall_of_cover 9 (fun i v => v = total m c (i 0) (i 1)) (fun t hf y => ?_) (fun i => ?_)
  · obtain ⟨h0, h1⟩ := index9 t
    rw [Value.flushed9]
    have e := blockT m c t (y 0) (y 1)
    have hy : (y : S512x1024.Idx) = ix2 (y 0) (y 1) := eq_ix2 _
    refine Eq.trans (?_ : _ = _) (e.trans ?_)
    · exact congrArg (out0_9 (iblk m c 0 t) (iblk m c 1 t) (iblk m c 2 t) (iblk m c 3 t) (iblk m c 4 t) (iblk m c 5 t) (iblk m c 6 t)) hy
    · have e0 : row t (y 0) = ((cfg0.win 9).blk t).view.emb y 0 := Fin.ext (by
        show 512 * t.val + (y 0).val = win0_9.index t 0 * 512 + 1 * (y 0).val; rw [h0]; omega)
      have e1 : (y 1 : Fin 1024) = ((cfg0.win 9).blk t).view.emb y 1 := Fin.ext (by
        show (y 1).val = win0_9.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := index9 ⟨(i 0 : Nat) / 512, ht⟩
    refine ⟨⟨(i 0 : Nat) / 512, ht⟩, flush0_9 _, ?_⟩
    show i ∈ ((View.whole main_v2_2).slice (win0_9.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

end Kernel

/-! ## The reference -/

section Reference

open Cert.Reference9Ideal Cert.Reference9Ideal.Gen Idealize.ShloMosaic Idealize.ShloMosaic.TcCoe

/-- The reference's residual sum. -/
def refTotal (u v : FVec Ideal S8192x512 .bf16) (w : FVec Ideal S1024x1024 .bf16) (x : FVec Ideal S8192x1024 .f32) : FVec Ideal S8192x1024 .f32 :=
  addf (mulf (broadcastInDim S8192x1024 ![] bcast_S_S8192x1024 (constant S_ .f32 0x3FD744FD#32)) x)
    (Host.dotGeneral (φ₁ := .f32) (φ₂ := .f32) dot_S8192x1024_S1024x1024_S8192x1024_1_0_0_1_n_n none (extf .f32 (concatenate S8192x1024 1 [⟨S8192x512, u⟩, ⟨S8192x512, v⟩] concatenates_S8192x512_S8192x512_S8192x1024_d1) bitsLt_bf16_f32) (extf .f32 w bitsLt_bf16_f32))

/-- Its row means, its rows less their means, and their norm. -/
def refMean (r : FVec Ideal S8192x1024 .f32) : FVec Ideal S8192x1 .f32 :=
  Host.divf (broadcastInDim S8192x1 ![0] bcast_S8192_S8192x1_0 (Host.reduceAdd r (constant S_ .f32 0x00000000#32) reducesTo_S8192x1024_S8192_d1 h_S_))
    (broadcastInDim S8192x1 ![] bcast_S_S8192x1 (constant S_ .f32 0x44800000#32))
def refCentred (r : FVec Ideal S8192x1024 .f32) : FVec Ideal S8192x1024 .f32 :=
  subf r (broadcastInDim S8192x1024 ![0, 1] bcast_S8192x1_S8192x1024_0_1 (refMean r))
def refSpread (r : FVec Ideal S8192x1024 .f32) : FVec Ideal S8192x1 .f32 :=
  addf (refMean (mulf (refCentred r) (refCentred r))) (broadcastInDim S8192x1 ![] bcast_S_S8192x1 (constant S_ .f32 0x3727C5AC#32))
def refNormed (r : FVec Ideal S8192x1024 .f32) (g b : FVec Ideal S1024 .f32) : FVec Ideal S8192x1024 .f32 :=
  addf (mulf (mulf (refCentred r) (broadcastInDim S8192x1024 ![0, 1] bcast_S8192x1_S8192x1024_0_1 (Host.rsqrt (refSpread r))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

theorem refTotal_at (u v : FVec Ideal S8192x512 .bf16) (w : FVec Ideal S1024x1024 .bf16) (x : FVec Ideal S8192x1024 .f32) (p : Fin 8192) (j : Fin 1024) : refTotal u v w x (ix2 p j) = scale * (x (ix2 p j) : EReal) + ((∑ k : Fin 512, (u (ix2 p k) : EReal) * (w (ix2 (low k) j) : EReal)) + ∑ k : Fin 512, (v (ix2 p k) : EReal) * (w (ix2 (high k) j) : EReal)) := by
  pointwise [refTotal, dot_S8192x1024_S1024x1024_S8192x1024_1_0_0_1_n_n]
  rfl

theorem refMean_at (r : FVec Ideal S8192x1024 .f32) (p : Fin 8192) : refMean r (ix2 p 0) = mean fun k => r (ix2 p k) := by
  pointwise [refMean]
  rfl

theorem refCentred_at (r : FVec Ideal S8192x1024 .f32) (p : Fin 8192) (j : Fin 1024) : refCentred r (ix2 p j) = centred (fun k => r (ix2 p k)) j := by
  pointwise [refCentred, refMean_at]
  rfl

theorem refSpread_at (r : FVec Ideal S8192x1024 .f32) (p : Fin 8192) : refSpread r (ix2 p 0)
    = mean (fun k => centred (fun k => r (ix2 p k)) k * centred (fun k => r (ix2 p k)) k) + small := by
  pointwise [refSpread, refMean_at, refCentred_at]
  rfl

theorem refNormed_at (r : FVec Ideal S8192x1024 .f32) (g b : FVec Ideal S1024 .f32) (p : Fin 8192) (j : Fin 1024) :
    refNormed r g b (ix2 p j) = normed (fun k => r (ix2 p k)) (g (ix1 j)) (b (ix1 j)) j := by
  pointwise [refNormed, refCentred_at, refSpread_at]
  rfl

/-- The reference's results in these words. -/
theorem res0 (m : (ℓ : Loc nD τ sig) → Buf (Elt Ideal) ℓ) (c : Dev nD) : Value.res_out0 m c = refNormed (refTotal (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl
theorem res1 (m : (ℓ : Loc nD τ sig) → Buf (Elt Ideal) ℓ) (c : Dev nD) : Value.res_out1 m c = Value.res_out0 m c := rfl

end Reference

/-! ## The claim -/

open Cert.Kernel9Ideal Idealize.ShloMosaic Idealize.ShloMosaic.TcCoe

attribute [local instance] Cert.Kernel9Ideal.Gen.facts Cert.Reference9Ideal.Gen.facts

section Same

variable (m : (ℓ : Loc nD τ sig) → Buf (Elt Ideal) ℓ) (c : Dev nD)

theorem total_ref (p : Fin 8192) (j : Fin 1024) : refTotal (m ((c : Thread nD τ).loc main_arg0)) (m ((c : Thread nD τ).loc main_arg1)) (m ((c : Thread nD τ).loc main_arg2)) (m ((c : Thread nD τ).loc main_arg3)) (ix2 p j) = total m c p j := by
  rw [refTotal_at, total_eq]
  rfl
theorem result_ref (p : Fin 8192) (j : Fin 1024) : refNormed (refTotal (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (ix2 p j) = result m c p j := by
  rw [refNormed_at, result_eq]
  simp only [total_ref]
  rfl

end Same

theorem agree : Cert.algebraic_Kernel9Ideal_Reference9Ideal := by
  intro m g m' g' hp ha
  refine ⟨_, _, _, Cert.Kernel9Ideal.Value.run_blocks m g,
    (θ_run Cert.Reference9Ideal.defs _ _).mono (fun r h c => ?_) (Cert.Reference9Ideal.Value.run m' g')⟩
  obtain ⟨h0, h1, h2, hk⟩ := h c
  obtain ⟨e0, e1, e2, e3, e4, e5⟩ := ha c
  refine ⟨h0.trans ?_, h1.trans ?_, h2.trans ?_, hk⟩
  · refine (Cert.OutNorm.res0 m' c).trans ?_
    rw [e0, e1, e2, e3, e4, e5]
    funext i
    refine Eq.trans ?_ (final7 m c i).symm
    rw [← ix2_eta i]
    exact result_ref m c (i 0) (i 1)
  · refine ((Cert.OutNorm.res1 m' c).trans (Cert.OutNorm.res0 m' c)).trans ?_
    rw [e0, e1, e2, e3, e4, e5]
    funext i
    refine Eq.trans ?_ (final8 m c i).symm
    rw [← ix2_eta i]
    exact result_ref m c (i 0) (i 1)
  · rw [e0, e1, e2, e3]
    funext i
    refine Eq.trans ?_ (final9 m c i).symm
    rw [← ix2_eta i]
    refine Eq.trans ?_ (total_ref m c (i 0) (i 1))
    exact congrFun (rfl : _ = refTotal (m ((c : Thread nD τ).loc main_arg0)) (m ((c : Thread nD τ).loc main_arg1)) (m ((c : Thread nD τ).loc main_arg2)) (m ((c : Thread nD τ).loc main_arg3))) _

end Cert.OutNorm

end
-- ==== Proof.OutGradClaim.lean ====
/-
  The gradient of half of the output projection's weights: the kernel adds, over four grid points, the products of 2048 rows each; the reference takes one product over
  all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel10Ideal.Value
public import proofs.«01_k».proof.Proof.Gen.Reference10Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.OutGrad

open Cert.Sums Cert.Kernel10Ideal Cert.Kernel10Ideal.Gen Idealize.ShloMosaic Idealize.ShloMosaic.TcCoe Idealize.SL.Sem

/-! ## One grid point -/

section Case
variable (c : Dev nD) (i : grid0.Coords)
variable (a1 : Memref sig .tc .vmem S2048x512 .bf16) (h1 : a1.IsWhole) (a2 : Memref sig .tc .vmem S2048x1024 .bf16) (h2 : a2.IsWhole) (a3 : Memref sig .tc .vmem S512x1024 .f32) (h3 : a3.IsWhole)
variable (x0 : Vec Ideal S2048x512 .bf16) (x1 : Vec Ideal S2048x1024 .bf16) (xo : Vec Ideal S512x1024 .f32)

/-- The block's product. -/
theorem pay1_at (p : Fin 512) (q : Fin 1024) :
    k0_pay1 x0 x1 (ix2 p q) = ∑ r : Fin 2048, (x0 (ix2 r p) : EReal) * (x1 (ix2 r q) : EReal) := by
  pointwise [k0_pay1, dot_S2048x512_S2048x1024_S512x1024_0_0_1_1_n_n]

/-- The block's product added to what the buffer held. -/
theorem pay2_at (p : Fin 512) (q : Fin 1024) :
    k0_pay2 x0 x1 xo (ix2 p q) = (xo (ix2 p q) : EReal) + ∑ r : Fin 2048, (x0 (ix2 r p) : EReal) * (x1 (ix2 r q) : EReal) := by
  have h := pay1_at x0 x1 p q
  pointwise [k0_pay2, h]

/-- The first of the four points leaves the product. -/
theorem out_A (hc0 : cond0_0 i) (hc1 : ¬cond0_1 i) : out0_A_2 c i a1 h1 a2 h2 a3 h3 hc0 hc1 x0 x1 = k0_pay1 x0 x1 := by
  frame_out

/-- A later point adds its product. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two operands. -/
def left (r : Fin 8192) (k : Fin 512) : EReal := m ((c : Thread nD τ).loc main_arg0) (ix2 r k)
def right (r : Fin 8192) (n : Fin 1024) : EReal := m ((c : Thread nD τ).loc main_arg1) (ix2 r n)

/-- Row `q` of grid point `t`'s blocks, and the columns of its operands' blocks. -/
def row (t : Fin cfg0.N) (q : Fin 2048) : Fin 8192 := ⟨2048 * (t.val % 4) + q.val, by have := q.isLt; omega⟩
def col0 (t : Fin cfg0.N) (p : Fin 512) : Fin 512 := ⟨p.val, by have := t.isLt; have : cfg0.N = 4 := N_0; have := p.isLt; omega⟩
def col1 (t : Fin cfg0.N) (p : Fin 1024) : Fin 1024 := ⟨p.val, by have := t.isLt; have : cfg0.N = 4 := N_0; have := p.isLt; omega⟩

theorem index_at : ∀ t : Fin grid0.N, (win0_0.index t 0 = t.val % 4 ∧ win0_0.index t 1 = 0) ∧ (win0_1.index t 0 = t.val % 4 ∧ win0_1.index t 1 = 0)
    ∧ (win0_2.index t 0 = 0 ∧ win0_2.index t 1 = 0) := by
  decide +kernel

theorem iblk0 (t : Fin cfg0.N) (q : Fin 2048) (p : Fin 512) : iblk m c 0 t (ix2 q p) = left m c (row t q) (col0 t p) := by
  obtain ⟨h0, h1⟩ := (index_at t).1
  unfold left
  rw [← V_main_arg0 m c]
  unfold iblk
  exact congrArg (V m c main_arg0) (at2 _ (spot 2048 q.val h0 (by show _ = 2048 * (t.val % 4) + q.val; omega)) (spot 512 p.val h1 (by show _ = p.val; omega)))

theorem iblk1 (t : Fin cfg0.N) (q : Fin 2048) (p : Fin 1024) : iblk m c 1 t (ix2 q p) = right m c (row t q) (col1 t p) := by
  obtain ⟨h0, h1⟩ := (index_at t).2.1
  unfold right
  rw [← V_main_arg1 m c]
  unfold iblk
  exact congrArg (V m c main_arg1) (at2 _ (spot 2048 q.val h0 (by show _ = 2048 * (t.val % 4) + q.val; omega)) (spot 1024 p.val h1 (by show _ = p.val; omega)))

/-! ## The array -/

/-- The running sum after a point: the products of the rows so far. -/
theorem outs (p : Fin 512) (q : Fin 1024) : ∀ (n : ℕ) (hn : n < cfg0.N),
    outsAt0 m c n hn (ix2 p q) = upTo (fun r => left m c r (col0 ⟨n, hn⟩ p) * right m c r (col1 ⟨n, hn⟩ q)) (2048 * (n % 4 + 1)) := by
  intro n
  induction n with
  | zero =>
    intro hn
    have hA := outsAt0_A m c ⟨0, hn⟩ (by dsimp only) (by simp)
    dsimp only at hA
    rw [hA, out_A, pay1_at]
    simp only [iblk0, iblk1]
    rw [show 2048 * (0 % 4 + 1) = 0 + 2048 from rfl, upTo_add _ _ 2048 (by omega), upTo_zero, zero_add]
    rfl
  | succ n ih =>
    intro hn
    have hN : cfg0.N = 4 := N_0
    by_cases h : (n + 1) % 4 = 0
    · have hA := outsAt0_A m c ⟨n + 1, hn⟩ (by dsimp only; omega) (by dsimp only; omega)
      dsimp only at hA
      rw [hA, out_A, pay1_at]
      simp only [iblk0, iblk1]
      rw [h, show 2048 * (0 + 1) = 0 + 2048 from rfl, upTo_add _ _ 2048 (by omega), upTo_zero, zero_add]
      refine Finset.sum_congr rfl fun r _ => ?_
      have e : row ⟨n + 1, hn⟩ r = ⟨0 + r.val, by have := r.isLt; omega⟩ := Fin.ext (by show 2048 * ((n + 1) % 4) + r.val = 0 + r.val; omega)
      rw [e]
    · have hB := outsAt0_B m c ⟨n + 1, hn⟩ (by dsimp only; omega) (by dsimp only; omega)
      dsimp only at hB
      rw [hB, out_B, pay2_at]
      simp only [iblk0, iblk1]
      have e0 : col0 ⟨n, Nat.lt_of_succ_lt hn⟩ p = col0 ⟨n + 1, hn⟩ p := Fin.ext (by show p.val = p.val; omega)
      have e1 : col1 ⟨n, Nat.lt_of_succ_lt hn⟩ q = col1 ⟨n + 1, hn⟩ q := Fin.ext (by show q.val = q.val; omega)
      have ih' := ih (Nat.lt_of_succ_lt hn)
      rw [e0, e1] at ih'
      rw [show 2048 * ((n + 1) % 4 + 1) = 2048 * (n % 4 + 1) + 2048 by omega, upTo_add _ _ 2048 (by omega)]
      refine congrArg₂ (· + ·) ih' (Finset.sum_congr rfl fun r _ => ?_)
      have e : row ⟨n + 1, hn⟩ r = ⟨2048 * (n % 4 + 1) + r.val, by have := r.isLt; omega⟩ := Fin.ext (by show 2048 * ((n + 1) % 4) + r.val = 2048 * (n % 4 + 1) + r.val; omega)
      rw [e]

/-- The result: the product over all rows. -/
def product (k : Fin 512) (n : Fin 1024) : EReal := ∑ r, left m c r k * right m c r n

theorem final (k : Fin 512) (n : Fin 1024) : (dats m 0 c).arrAt 2 cfg0.N (ix2 k n) = product m c k n := by
  have hN : cfg0.N = 4 := N_0
  refine (dats m 0 c).arrAt_forall_of_cover 2 (fun i v => v = product m c (i 0) (i 1)) (fun t hf y => ?_) (fun i => ?_) (ix2 k n)
  · obtain ⟨h0, h1⟩ := (index_at t).2.2
    have h3 : t.val % 4 = 3 := (flush0_2 t).mp hf
    rw [Value.flushed2]
    have e := outs m c (y 0) (y 1) t.val t.isLt
    have hy : (y : S512x1024.Idx) = ix2 (y 0) (y 1) := eq_ix2 _
    refine Eq.trans (?_ : _ = _) (e.trans ?_)
    · exact congrArg (outsAt0 m c t.val t.isLt) hy
    · have e0 : col0 t (y 0) = ((cfg0.win 2).blk t).view.emb y 0 := Fin.ext (by
        show (y 0).val = win0_2.index t 0 * 512 + 1 * (y 0).val; rw [h0]; omega)
      have e1 : col1 t (y 1) = ((cfg0.win 2).blk t).view.emb y 1 := Fin.ext (by
        show (y 1).val = win0_2.index t 1 * 1024 + 1 * (y 1).val; rw [h1]; omega)
      rw [h3, show 2048 * (3 + 1) = 8192 from rfl, upTo_all, e0, e1]
      rfl
  · have hi0 : (i 0 : Nat) < 512 := (i 0).isLt
    have hi1 : (i 1 : Nat) < 1024 := (i 1).isLt
    have ht : 3 < cfg0.N := by omega
    obtain ⟨h0, h1⟩ := (index_at ⟨3, ht⟩).2.2
    refine ⟨⟨3, ht⟩, (flush0_2 _).mpr rfl, ?_⟩
    show i ∈ ((View.whole main_v0).slice (win0_2.rect ⟨3, ht⟩)).set
    rw [View.set_slice_whole, Rect.mem_set_unit]
    intro a
    match a with
    | ⟨0, _⟩ => exact span 512 (i 0).val h0 (by dsimp only; omega)
    | ⟨1, _⟩ => exact span 1024 (i 1).val h1 (by dsimp only; omega)

/-! ## The reference -/

/-- The reference's product, of its own arrays. -/
def refProduct (x : FVec Ideal S8192x512 .bf16) (d : FVec Ideal S8192x1024 .bf16) : FVec Ideal S512x1024 .f32 :=
  transpose S512x1024 [1, 0] (Host.dotGeneral Cert.Reference10Ideal.dot_S8192x1024_S8192x512_S1024x512_0_0_1_1_n_n none (extf .f32 d Cert.Reference10Ideal.Gen.bitsLt_bf16_f32)
    (extf .f32 x Cert.Reference10Ideal.Gen.bitsLt_bf16_f32)) Cert.Reference10Ideal.Gen.transposes_S1024x512_S512x1024_1_0

theorem refProduct_at (x : FVec Ideal S8192x512 .bf16) (d : FVec Ideal S8192x1024 .bf16) (k : Fin 512) (n : Fin 1024) :
    refProduct x d (ix2 k n) = ∑ r : Fin 8192, (x (ix2 r k) : EReal) * (d (ix2 r n) : EReal) := by
  pointwise [refProduct, Cert.Reference10Ideal.dot_S8192x1024_S8192x512_S1024x512_0_0_1_1_n_n]
  exact Finset.sum_congr rfl fun r _ => mul_comm _ _

/-! ## The claim -/

attribute [local instance] Cert.Kernel10Ideal.Gen.facts Cert.Reference10Ideal.Gen.facts

theorem agree : Cert.algebraic_Kernel10Ideal_Reference10Ideal := by
  intro m g m' g' hp ha
  refine ⟨_, Cert.Kernel10Ideal.Value.run_blocks m g,
    (θ_run Cert.Reference10Ideal.defs _ _).mono (fun r h c => ?_) (Cert.Reference10Ideal.Value.run m' g')⟩
  obtain ⟨h0, hk⟩ := h c
  obtain ⟨e0, e1⟩ := ha c
  refine ⟨h0.trans ?_, hk⟩
  rw [e0, e1]
  funext i; rw [← ix2_eta i]
  exact (refProduct_at _ _ (i 0) (i 1)).trans (final m c (i 0) (i 1)).symm

end Cert.OutGrad

end
-- ==== Proof.InGradClaim.lean ====
/-
  The gradient of a piece of the input projection's weights: the kernel adds, over four grid points, the products of 2048 rows each; the reference takes one product over
  all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel11Ideal.Value
public import proofs.«01_k».proof.Proof.Gen.Reference11Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InGrad

open Cert.Sums Cert.Kernel11Ideal Cert.Kernel11Ideal.Gen Idealize.ShloMosaic Idealize.ShloMosaic.TcCoe Idealize.SL.Sem

/-! ## One grid point -/

section Case
variable (c : Dev nD) (i : grid0.Coords)
variable (a1 : Memref sig .tc .vmem S2048x1024 .bf16) (h1 : a1.IsWhole) (a2 : Memref sig .tc .vmem S2048x512 .bf16) (h2 : a2.IsWhole) (a3 : Memref sig .tc .vmem S1024x512 .f32) (h3 : a3.IsWhole)
variable (x0 : Vec Ideal S2048x1024 .bf16) (x1 : Vec Ideal S2048x512 .bf16) (xo : Vec Ideal S1024x512 .f32)

/-- The block's product. -/
theorem pay1_at (p : Fin 1024) (q : Fin 512) :
    k0_pay1 x0 x1 (ix2 p q) = ∑ r : Fin 2048, (x0 (ix2 r p) : EReal) * (x1 (ix2 r q) : EReal) := by
  pointwise [k0_pay1, dot_S2048x1024_S2048x512_S1024x512_0_0_1_1_n_n]

/-- The block's product added to what the buffer held. -/
theorem pay2_at (p : Fin 1024) (q : Fin 512) :
    k0_pay2 x0 x1 xo (ix2 p q) = (xo (ix2 p q) : EReal) + ∑ r : Fin 2048, (x0 (ix2 r p) : EReal) * (x1 (ix2 r q) : EReal) := by
  have h := pay1_at x0 x1 p q
  pointwise [k0_pay2, h]

/-- The first of the four points leaves the product. -/
theorem out_A (hc0 : cond0_0 i) (hc1 : ¬cond0_1 i) : out0_A_2 c i a1 h1 a2 h2 a3 h3 hc0 hc1 x0 x1 = k0_pay1 x0 x1 := by
  frame_out

/-- A later point adds its product. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two operands. -/
def left (r : Fin 8192) (k : Fin 1024) : EReal := m ((c : Thread nD τ).loc main_arg0) (ix2 r k)
def right (r : Fin 8192) (n : Fin 512) : EReal := m ((c : Thread nD τ).loc main_arg1) (ix2 r n)

/-- Row `q` of grid point `t`'s blocks, and the columns of its operands' blocks. -/
def row (t : Fin cfg0.N) (q : Fin 2048) : Fin 8192 := ⟨2048 * (t.val % 4) + q.val, by have := q.isLt; omega⟩
def col0 (t : Fin cfg0.N) (p : Fin 1024) : Fin 1024 := ⟨p.val, by have := t.isLt; have : cfg0.N = 4 := N_0; have := p.isLt; omega⟩
def col1 (t : Fin cfg0.N) (p : Fin 512) : Fin 512 := ⟨p.val, by have := t.isLt; have : cfg0.N = 4 := N_0; have := p.isLt; omega⟩

theorem index_at : ∀ t : Fin grid0.N, (win0_0.index t 0 = t.val % 4 ∧ win0_0.index t 1 = 0) ∧ (win0_1.index t 0 = t.val % 4 ∧ win0_1.index t 1 = 0)
    ∧ (win0_2.index t 0 = 0 ∧ win0_2.index t 1 = 0) := by
  decide +kernel

theorem iblk0 (t : Fin cfg0.N) (q : Fin 2048) (p : Fin 1024) : iblk m c 0 t (ix2 q p) = left m c (row t q) (col0 t p) := by
  obtain ⟨h0, h1⟩ := (index_at t).1
  unfold left
  rw [← V_main_arg0 m c]
  unfold iblk
  exact congrArg (V m c main_arg0) (at2 _ (spot 2048 q.val h0 (by show _ = 2048 * (t.val % 4) + q.val; omega)) (spot 1024 p.val h1 (by show _ = p.val; omega)))

theorem iblk1 (t : Fin cfg0.N) (q : Fin 2048) (p : Fin 512) : iblk m c 1 t (ix2 q p) = right m c (row t q) (col1 t p) := by
  obtain ⟨h0, h1⟩ := (index_at t).2.1
  unfold right
  rw [← V_main_arg1 m c]
  unfold iblk
  exact congrArg (V m c main_arg1) (at2 _ (spot 2048 q.val h0 (by show _ = 2048 * (t.val % 4) + q.val; omega)) (spot 512 p.val h1 (by show _ = p.val; omega)))

/-! ## The array -/

/-- The running sum after a point: the products of the rows so far. -/
theorem outs (p : Fin 1024) (q : Fin 512) : ∀ (n : ℕ) (hn : n < cfg0.N),
    outsAt0 m c n hn (ix2 p q) = upTo (fun r => left m c r (col0 ⟨n, hn⟩ p) * right m c r (col1 ⟨n, hn⟩ q)) (2048 * (n % 4 + 1)) := by
  intro n
  induction n with
  | zero =>
    intro hn
    have hA := outsAt0_A m c ⟨0, hn⟩ (by dsimp only) (by simp)
    dsimp only at hA
    rw [hA, out_A, pay1_at]
    simp only [iblk0, iblk1]
    rw [show 2048 * (0 % 4 + 1) = 0 + 2048 from rfl, upTo_add _ _ 2048 (by omega), upTo_zero, zero_add]
    rfl
  | succ n ih =>
    intro hn
    have hN : cfg0.N = 4 := N_0
    by_cases h : (n + 1) % 4 = 0
    · have hA := outsAt0_A m c ⟨n + 1, hn⟩ (by dsimp only; omega) (by dsimp only; omega)
      dsimp only at hA
      rw [hA, out_A, pay1_at]
      simp only [iblk0, iblk1]
      rw [h, show 2048 * (0 + 1) = 0 + 2048 from rfl, upTo_add _ _ 2048 (by omega), upTo_zero, zero_add]
      refine Finset.sum_congr rfl fun r _ => ?_
      have e : row ⟨n + 1, hn⟩ r = ⟨0 + r.val, by have := r.isLt; omega⟩ := Fin.ext (by show 2048 * ((n + 1) % 4) + r.val = 0 + r.val; omega)
      rw [e]
    · have hB := outsAt0_B m c ⟨n + 1, hn⟩ (by dsimp only; omega) (by dsimp only; omega)
      dsimp only at hB
      rw [hB, out_B, pay2_at]
      simp only [iblk0, iblk1]
      have e0 : col0 ⟨n, Nat.lt_of_succ_lt hn⟩ p = col0 ⟨n + 1, hn⟩ p := Fin.ext (by show p.val = p.val; omega)
      have e1 : col1 ⟨n, Nat.lt_of_succ_lt hn⟩ q = col1 ⟨n + 1, hn⟩ q := Fin.ext (by show q.val = q.val; omega)
      have ih' := ih (Nat.lt_of_succ_lt hn)
      rw [e0, e1] at ih'
      rw [show 2048 * ((n + 1) % 4 + 1) = 2048 * (n % 4 + 1) + 2048 by omega, upTo_add _ _ 2048 (by omega)]
      refine congrArg₂ (· + ·) ih' (Finset.sum_congr rfl fun r _ => ?_)
      have e : row ⟨n + 1, hn⟩ r = ⟨2048 * (n % 4 + 1) + r.val, by have := r.isLt; omega⟩ := Fin.ext (by show 2048 * ((n + 1) % 4) + r.val = 2048 * (n % 4 + 1) + r.val; omega)
      rw [e]

/-- The result: the product over all rows. -/
def product (k : Fin 1024) (n : Fin 512) : EReal := ∑ r, left m c r k * right m c r n

theorem final (k : Fin 1024) (n : Fin 512) : (dats m 0 c).arrAt 2 cfg0.N (ix2 k n) = product m c k n := by
  have hN : cfg0.N = 4 := N_0
  refine (dats m 0 c).arrAt_forall_of_cover 2 (fun i v => v = product m c (i 0) (i 1)) (fun t hf y => ?_) (fun i => ?_) (ix2 k n)
  · obtain ⟨h0, h1⟩ := (index_at t).2.2
    have h3 : t.val % 4 = 3 := (flush0_2 t).mp hf
    rw [Value.flushed2]
    have e := outs m c (y 0) (y 1) t.val t.isLt
    have hy : (y : S1024x512.Idx) = ix2 (y 0) (y 1) := eq_ix2 _
    refine Eq.trans (?_ : _ = _) (e.trans ?_)
    · exact congrArg (outsAt0 m c t.val t.isLt) hy
    · have e0 : col0 t (y 0) = ((cfg0.win 2).blk t).view.emb y 0 := Fin.ext (by
        show (y 0).val = win0_2.index t 0 * 1024 + 1 * (y 0).val; rw [h0]; omega)
      have e1 : col1 t (y 1) = ((cfg0.win 2).blk t).view.emb y 1 := Fin.ext (by
        show (y 1).val = win0_2.index t 1 * 512 + 1 * (y 1).val; rw [h1]; omega)
      rw [h3, show 2048 * (3 + 1) = 8192 from rfl, upTo_all, e0, e1]
      rfl
  · have hi0 : (i 0 : Nat) < 1024 := (i 0).isLt
    have hi1 : (i 1 : Nat) < 512 := (i 1).isLt
    have ht : 3 < cfg0.N := by omega
    obtain ⟨h0, h1⟩ := (index_at ⟨3, ht⟩).2.2
    refine ⟨⟨3, ht⟩, (flush0_2 _).mpr rfl, ?_⟩
    show i ∈ ((View.whole main_v0).slice (win0_2.rect ⟨3, ht⟩)).set
    rw [View.set_slice_whole, Rect.mem_set_unit]
    intro a
    match a with
    | ⟨0, _⟩ => exact span 1024 (i 0).val h0 (by dsimp only; omega)
    | ⟨1, _⟩ => exact span 512 (i 1).val h1 (by dsimp only; omega)

/-! ## The reference -/

/-- The reference's product, of its own arrays. -/
def refProduct (x : FVec Ideal S8192x1024 .bf16) (d : FVec Ideal S8192x512 .bf16) : FVec Ideal S1024x512 .f32 :=
  transpose S1024x512 [1, 0] (Host.dotGeneral Cert.Reference11Ideal.dot_S8192x512_S8192x1024_S512x1024_0_0_1_1_n_n none (extf .f32 d Cert.Reference11Ideal.Gen.bitsLt_bf16_f32)
    (extf .f32 x Cert.Reference11Ideal.Gen.bitsLt_bf16_f32)) Cert.Reference11Ideal.Gen.transposes_S512x1024_S1024x512_1_0

theorem refProduct_at (x : FVec Ideal S8192x1024 .bf16) (d : FVec Ideal S8192x512 .bf16) (k : Fin 1024) (n : Fin 512) :
    refProduct x d (ix2 k n) = ∑ r : Fin 8192, (x (ix2 r k) : EReal) * (d (ix2 r n) : EReal) := by
  pointwise [refProduct, Cert.Reference11Ideal.dot_S8192x512_S8192x1024_S512x1024_0_0_1_1_n_n]
  exact Finset.sum_congr rfl fun r _ => mul_comm _ _

/-! ## The claim -/

attribute [local instance] Cert.Kernel11Ideal.Gen.facts Cert.Reference11Ideal.Gen.facts

theorem agree : Cert.algebraic_Kernel11Ideal_Reference11Ideal := by
  intro m g m' g' hp ha
  refine ⟨_, Cert.Kernel11Ideal.Value.run_blocks m g,
    (θ_run Cert.Reference11Ideal.defs _ _).mono (fun r h c => ?_) (Cert.Reference11Ideal.Value.run m' g')⟩
  obtain ⟨h0, hk⟩ := h c
  obtain ⟨e0, e1⟩ := ha c
  refine ⟨h0.trans ?_, hk⟩
  rw [e0, e1]
  funext i; rw [← ix2_eta i]
  exact (refProduct_at _ _ (i 0) (i 1)).trans (final m c (i 0) (i 1)).symm

end Cert.InGrad

end
-- ==== Proof.InABClaim.lean ====
/-
  The input projection of a state-space layer: each block of the kernel is the product of its rows and columns, and the
  reference takes the product of all.
-/
module

public import proofs.«01_k».proof.Defs
public import proofs.«01_k».proof.Proof.BlockAt
public import proofs.«01_k».proof.Proof.Gen.Kernel12Ideal.Value
public import proofs.«01_k».proof.Proof.Gen.Reference12Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InAB

section Kernel

open Cert.Kernel12Ideal Cert.Kernel12Ideal.Gen Idealize.ShloMosaic Idealize.ShloMosaic.TcCoe Idealize.SL.Sem

theorem hz : (![0, 0] : Fin 2 → Nat) = fun _ => 0 := funext fun a => by fin_cases a <;> rfl

/-- A block of the result. -/
theorem out_at (x0 : Vec Ideal S1024x1024 .bf16) (x1 : Vec Ideal S1024x1152 .bf16) (p : Fin 1024) (q : Fin 1152) :
    out0_2 x0 x1 (ix2 p q) = ∑ k : Fin 1024, (x0 (ix2 p k) : EReal) * (x1 (ix2 k q) : EReal) := by
  unfold out0_2
  rw [View.canon_unit_zero hz]
  simp only [View.ld_unit_zero (S := S1024x1024) hz, View.ld_unit_zero (S := S1024x1152) hz]
  pointwise [k0_pay1, dot_S1024x1024_S1024x1152_S1024x1152_1_0_0_1_n_n]

variable (m : (ℓ : Loc nD τ sig) → Buf (Elt Ideal) ℓ) (c : Dev nD)

/-- The rows and the weights. -/
def left (r : Fin 8192) (k : Fin 1024) : EReal := m ((c : Thread nD τ).loc main_arg0) (ix2 r k)
def weight (k : Fin 1024) (n : Fin 3456) : EReal := m ((c : Thread nD τ).loc main_arg1) (ix2 k n)

/-- The rows and columns of grid point `t`'s block. -/
def row (t : Fin cfg0.N) (p : Fin 1024) : Fin 8192 := ⟨1024 * (t.val / 3) + p.val, by have := t.isLt; have : cfg0.N = 24 := N_0; have := p.isLt; omega⟩
def col (t : Fin cfg0.N) (q : Fin 1152) : Fin 3456 := ⟨1152 * (t.val % 3) + q.val, by have := q.isLt; omega⟩

theorem index0 : ∀ t : Fin grid0.N, win0_0.index t 0 = t.val / 3 ∧ win0_0.index t 1 = 0 := by decide +kernel
theorem index1 : ∀ t : Fin grid0.N, win0_1.index t 0 = 0 ∧ win0_1.index t 1 = t.val % 3 := by decide +kernel
theorem index2 : ∀ t : Fin grid0.N, win0_2.index t 0 = t.val / 3 ∧ win0_2.index t 1 = t.val % 3 := by decide +kernel

theorem iblk0 (t : Fin cfg0.N) (p : Fin 1024) (k : Fin 1024) : iblk m c 0 t (ix2 p k) = left m c (row t p) k := by
  obtain ⟨h0, h1⟩ := index0 t
  unfold left
  rw [← V_main_arg0 m c]
  unfold iblk
  exact congrArg (V m c main_arg0) (at2 _ (spot 1024 p.val h0 (by show _ = 1024 * (t.val / 3) + p.val; omega)) (spot 1024 k.val h1 (by show _ = k.val; omega)))

theorem iblk1 (t : Fin cfg0.N) (k : Fin 1024) (q : Fin 1152) : iblk m c 1 t (ix2 k q) = weight m c k (col t q) := by
  obtain ⟨h0, h1⟩ := index1 t
  unfold weight
  rw [← V_main_arg1 m c]
  unfold iblk
  exact congrArg (V m c main_arg1) (at2 _ (spot 1024 k.val h0 (by show _ = k.val; omega)) (spot 1152 q.val h1 (by show _ = 1152 * (t.val % 3) + q.val; omega)))

/-- The result: the product. -/
def product (r : Fin 8192) (n : Fin 3456) : EReal := ∑ k, left m c r k * weight m c k n

/-- The block of a grid point holds the products. -/
theorem block (t : Fin cfg0.N) (p : Fin 1024) (q : Fin 1152) :
    out0_2 (iblk m c 0 t) (iblk m c 1 t) (ix2 p q) = product m c (row t p) (col t q) := by
  rw [out_at]
  simp only [iblk0, iblk1]
  rfl

theorem product_eq (r : Fin 8192) (n : Fin 3456) : product m c r n = ∑ k, left m c r k * weight m c k n := rfl

attribute [local irreducible] product out0_2 iblk

theorem final : ∀ i, (dats m 0 c).arrAt 2 cfg0.N i = product m c (i 0) (i 1) := by
  have hN : cfg0.N = 24 := N_0
  refine (dats m 0 c).arrAt_forall_of_cover 2 (fun i v => v = product m c (i 0) (i 1)) (fun t hf y => ?_) (fun i => ?_)
  · obtain ⟨h0, h1⟩ := index2 t
    rw [Value.flushed2]
    have e := block m c t (y 0) (y 1)
    have hy : (y : S1024x1152.Idx) = ix2 (y 0) (y 1) := eq_ix2 _
    refine Eq.trans (?_ : _ = _) (e.trans ?_)
    · exact congrArg (out0_2 (iblk m c 0 t) (iblk m c 1 t)) hy
    · have e0 : row t (y 0) = ((cfg0.win 2).blk t).view.emb y 0 := Fin.ext (by
        show 1024 * (t.val / 3) + (y 0).val = win0_2.index t 0 * 1024 + 1 * (y 0).val; rw [h0]; omega)
      have e1 : col t (y 1) = ((cfg0.win 2).blk t).view.emb y 1 := Fin.ext (by
        show 1152 * (t.val % 3) + (y 1).val = win0_2.index t 1 * 1152 + 1 * (y 1).val; rw [h1]; omega)
      rw [e0, e1]
  · have hi0 : (i 0 : Nat) < 8192 := (i 0).isLt
    have hi1 : (i 1 : Nat) < 3456 := (i 1).isLt
    have ht : 3 * ((i 0 : Nat) / 1024) + (i 1 : Nat) / 1152 < cfg0.N := by omega
    obtain ⟨h0, h1⟩ := index2 ⟨3 * ((i 0 : Nat) / 1024) + (i 1 : Nat) / 1152, ht⟩
    refine ⟨⟨3 * ((i 0 : Nat) / 1024) + (i 1 : Nat) / 1152, ht⟩, flush0_2 _, ?_⟩
    show i ∈ ((View.whole main_v0).slice (win0_2.rect ⟨3 * ((i 0 : Nat) / 1024) + (i 1 : Nat) / 1152, ht⟩)).set
    rw [View.set_slice_whole, Rect.mem_set_unit]
    intro a
    match a with
    | ⟨0, _⟩ => exact span 1024 (i 0).val h0 (by dsimp only; omega)
    | ⟨1, _⟩ => exact span 1152 (i 1).val h1 (by dsimp only; omega)

end Kernel

/-! ## The reference -/

section Reference

open Cert.Reference12Ideal Cert.Reference12Ideal.Gen Idealize.ShloMosaic Idealize.ShloMosaic.TcCoe

/-- The reference's product. -/
def refProduct (x : FVec Ideal S8192x1024 .bf16) (w : FVec Ideal S1024x3456 .bf16) : FVec Ideal S8192x3456 .f32 :=
  Host.dotGeneral (φ₁ := .f32) (φ₂ := .f32) dot_S8192x1024_S1024x3456_S8192x3456_1_0_0_1_n_n none (extf .f32 x bitsLt_bf16_f32) (extf .f32 w bitsLt_bf16_f32)

theorem refProduct_at (x : FVec Ideal S8192x1024 .bf16) (w : FVec Ideal S1024x3456 .bf16) (r : Fin 8192) (n : Fin 3456) :
    refProduct x w (ix2 r n) = ∑ k : Fin 1024, (x (ix2 r k) : EReal) * (w (ix2 k n) : EReal) := by
  pointwise [refProduct, dot_S8192x1024_S1024x3456_S8192x3456_1_0_0_1_n_n]

end Reference

/-! ## The claim -/

open Cert.Kernel12Ideal Idealize.ShloMosaic

attribute [local instance] Cert.Kernel12Ideal.Gen.facts Cert.Reference12Ideal.Gen.facts

theorem agree : Cert.algebraic_Kernel12Ideal_Reference12Ideal := by
  intro m g m' g' hp ha
  refine ⟨_, Cert.Kernel12Ideal.Value.run_blocks m g,
    (θ_run Cert.Reference12Ideal.defs _ _).mono (fun r h c => ?_) (Cert.Reference12Ideal.Value.run m' g')⟩
  obtain ⟨h0, hk⟩ := h c
  obtain ⟨e0, e1⟩ := ha c
  refine ⟨h0.trans ?_, hk⟩
  rw [e0, e1]
  funext i
  refine Eq.trans ?_ ((final m c i).trans (product_eq m c _ _)).symm
  rw [← ix2_eta i]
  exact refProduct_at _ _ (i 0) (i 1)

end Cert.InAB

end
-- ==== Proof.InCDClaim.lean ====
/-
  The input projection of an attention layer: each block of the kernel is the product of its rows and columns, and the
  reference takes the product of all.
-/
module

public import proofs.«01_k».proof.Defs
public import proofs.«01_k».proof.Proof.BlockAt
public import proofs.«01_k».proof.Proof.Gen.Kernel13Ideal.Value
public import proofs.«01_k».proof.Proof.Gen.Reference13Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InCD

section Kernel

open Cert.Kernel13Ideal Cert.Kernel13Ideal.Gen Idealize.ShloMosaic Idealize.ShloMosaic.TcCoe Idealize.SL.Sem

theorem hz : (![0, 0] : Fin 2 → Nat) = fun _ => 0 := funext fun a => by fin_cases a <;> rfl

/-- A block of the result. -/
theorem out_at (x0 : Vec Ideal S1024x1024 .bf16) (x1 : Vec Ideal S1024x896 .bf16) (p : Fin 1024) (q : Fin 896) :
    out0_2 x0 x1 (ix2 p q) = ∑ k : Fin 1024, (x0 (ix2 p k) : EReal) * (x1 (ix2 k q) : EReal) := by
  unfold out0_2
  rw [View.canon_unit_zero hz]
  simp only [View.ld_unit_zero (S := S1024x1024) hz, View.ld_unit_zero (S := S1024x896) hz]
  pointwise [k0_pay1, dot_S1024x1024_S1024x896_S1024x896_1_0_0_1_n_n]

variable (m : (ℓ : Loc nD τ sig) → Buf (Elt Ideal) ℓ) (c : Dev nD)

/-- The rows and the weights. -/
def left (r : Fin 8192) (k : Fin 1024) : EReal := m ((c : Thread nD τ).loc main_arg0) (ix2 r k)
def weight (k : Fin 1024) (n : Fin 1792) : EReal := m ((c : Thread nD τ).loc main_arg1) (ix2 k n)

/-- The rows and columns of grid point `t`'s block. -/
def row (t : Fin cfg0.N) (p : Fin 1024) : Fin 8192 := ⟨1024 * (t.val / 2) + p.val, by have := t.isLt; have : cfg0.N = 16 := N_0; have := p.isLt; omega⟩
def col (t : Fin cfg0.N) (q : Fin 896) : Fin 1792 := ⟨896 * (t.val % 2) + q.val, by have := q.isLt; omega⟩

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = t.val % 2 := by decide +kernel

theorem iblk0 (t : Fin cfg0.N) (p : Fin 1024) (k : Fin 1024) : iblk m c 0 t (ix2 p k) = left m c (row t p) k := by
  obtain ⟨h0, h1⟩ := index0 t
  unfold left
  rw [← V_main_arg0 m c]
  unfold iblk
  exact congrArg (V m c main_arg0) (at2 _ (spot 1024 p.val h0 (by show _ = 1024 * (t.val / 2) + p.val; omega)) (spot 1024 k.val h1 (by show _ = k.val; omega)))

theorem iblk1 (t : Fin cfg0.N) (k : Fin 1024) (q : Fin 896) : iblk m c 1 t (ix2 k q) = weight m c k (col t q) := by
  obtain ⟨h0, h1⟩ := index1 t
  unfold weight
  rw [← V_main_arg1 m c]
  unfold iblk
  exact congrArg (V m c main_arg1) (at2 _ (spot 1024 k.val h0 (by show _ = k.val; omega)) (spot 896 q.val h1 (by show _ = 896 * (t.val % 2) + q.val; omega)))

/-- The result: the product. -/
def product (r : Fin 8192) (n : Fin 1792) : EReal := ∑ k, left m c r k * weight m c k n

/-- The block of a grid point holds the products. -/
theorem block (t : Fin cfg0.N) (p : Fin 1024) (q : Fin 896) :
    out0_2 (iblk m c 0 t) (iblk m c 1 t) (ix2 p q) = product m c (row t p) (col t q) := by
  rw [out_at]
  simp only [iblk0, iblk1]
  rfl

theorem product_eq (r : Fin 8192) (n : Fin 1792) : product m c r n = ∑ k, left m c r k * weight m c k n := rfl

attribute [local irreducible] product out0_2 iblk

theorem final : ∀ i, (dats m 0 c).arrAt 2 cfg0.N i = product m c (i 0) (i 1) := by
  have hN : cfg0.N = 16 := N_0
  refine (dats m 0 c).arrAt_forall_of_cover 2 (fun i v => v = product m c (i 0) (i 1)) (fun t hf y => ?_) (fun i => ?_)
  · obtain ⟨h0, h1⟩ := index2 t
    rw [Value.flushed2]
    have e := block m c t (y 0) (y 1)
    have hy : (y : S1024x896.Idx) = ix2 (y 0) (y 1) := eq_ix2 _
    refine Eq.trans (?_ : _ = _) (e.trans ?_)
    · exact congrArg (out0_2 (iblk m c 0 t) (iblk m c 1 t)) hy
    · have e0 : row t (y 0) = ((cfg0.win 2).blk t).view.emb y 0 := Fin.ext (by
        show 1024 * (t.val / 2) + (y 0).val = win0_2.index t 0 * 1024 + 1 * (y 0).val; rw [h0]; omega)
      have e1 : col t (y 1) = ((cfg0.win 2).blk t).view.emb y 1 := Fin.ext (by
        show 896 * (t.val % 2) + (y 1).val = win0_2.index t 1 * 896 + 1 * (y 1).val; rw [h1]; omega)
      rw [e0, e1]
  · have hi0 : (i 0 : Nat) < 8192 := (i 0).isLt
    have hi1 : (i 1 : Nat) < 1792 := (i 1).isLt
    have ht : 2 * ((i 0 : Nat) / 1024) + (i 1 : Nat) / 896 < cfg0.N := by omega
    obtain ⟨h0, h1⟩ := index2 ⟨2 * ((i 0 : Nat) / 1024) + (i 1 : Nat) / 896, ht⟩
    refine ⟨⟨2 * ((i 0 : Nat) / 1024) + (i 1 : Nat) / 896, ht⟩, flush0_2 _, ?_⟩
    show i ∈ ((View.whole main_v0).slice (win0_2.rect ⟨2 * ((i 0 : Nat) / 1024) + (i 1 : Nat) / 896, ht⟩)).set
    rw [View.set_slice_whole, Rect.mem_set_unit]
    intro a
    match a with
    | ⟨0, _⟩ => exact span 1024 (i 0).val h0 (by dsimp only; omega)
    | ⟨1, _⟩ => exact span 896 (i 1).val h1 (by dsimp only; omega)

end Kernel

/-! ## The reference -/

section Reference

open Cert.Reference13Ideal Cert.Reference13Ideal.Gen Idealize.ShloMosaic Idealize.ShloMosaic.TcCoe

/-- The reference's product. -/
def refProduct (x : FVec Ideal S8192x1024 .bf16) (w : FVec Ideal S1024x1792 .bf16) : FVec Ideal S8192x1792 .f32 :=
  Host.dotGeneral (φ₁ := .f32) (φ₂ := .f32) dot_S8192x1024_S1024x1792_S8192x1792_1_0_0_1_n_n none (extf .f32 x bitsLt_bf16_f32) (extf .f32 w bitsLt_bf16_f32)

theorem refProduct_at (x : FVec Ideal S8192x1024 .bf16) (w : FVec Ideal S1024x1792 .bf16) (r : Fin 8192) (n : Fin 1792) :
    refProduct x w (ix2 r n) = ∑ k : Fin 1024, (x (ix2 r k) : EReal) * (w (ix2 k n) : EReal) := by
  pointwise [refProduct, dot_S8192x1024_S1024x1792_S8192x1792_1_0_0_1_n_n]

end Reference

/-! ## The claim -/

open Cert.Kernel13Ideal Idealize.ShloMosaic

attribute [local instance] Cert.Kernel13Ideal.Gen.facts Cert.Reference13Ideal.Gen.facts

theorem agree : Cert.algebraic_Kernel13Ideal_Reference13Ideal := by
  intro m g m' g' hp ha
  refine ⟨_, Cert.Kernel13Ideal.Value.run_blocks m g,
    (θ_run Cert.Reference13Ideal.defs _ _).mono (fun r h c => ?_) (Cert.Reference13Ideal.Value.run m' g')⟩
  obtain ⟨h0, hk⟩ := h c
  obtain ⟨e0, e1⟩ := ha c
  refine ⟨h0.trans ?_, hk⟩
  rw [e0, e1]
  funext i
  refine Eq.trans ?_ ((final m c i).trans (product_eq m c _ _)).symm
  rw [← ix2_eta i]
  exact refProduct_at _ _ (i 0) (i 1)

end Cert.InCD

end
-- ==== Proof.InputABClaim.lean ====
/-
  The gradient of a state-space layer's input through the input projection: the kernel adds the products of nine pieces of
  the cotangent with their columns of the weights; the reference takes one product with the joined pieces.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel14Ideal.Value
public import proofs.«01_k».proof.Proof.Gen.Reference14Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InputAB

section Kernel

open Cert.Kernel14Ideal Cert.Kernel14Ideal.Gen Idealize.ShloMosaic Idealize.ShloMosaic.TcCoe Idealize.SL.Sem

/-- A block of the result. -/
theorem out_at (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x256 .bf16) (h5 : a5.IsWhole) (a6 : Memref sig .tc .vmem S1024x256 .bf16) (h6 : a6.IsWhole) (a7 : Memref sig .tc .vmem S1024x256 .bf16) (h7 : a7.IsWhole) (a8 : Memref sig .tc .vmem S1024x128 .bf16) (h8 : a8.IsWhole) (a9 : Memref sig .tc .vmem S512x512 .bf16) (h9 : a9.IsWhole) (a10 : Memref sig .tc .vmem S512x512 .bf16) (h10 : a10.IsWhole) (a11 : Memref sig .tc .vmem S512x512 .bf16) (h11 : a11.IsWhole) (a12 : Memref sig .tc .vmem S512x512 .bf16) (h12 : a12.IsWhole) (a13 : Memref sig .tc .vmem S512x512 .bf16) (h13 : a13.IsWhole) (a14 : Memref sig .tc .vmem S512x256 .bf16) (h14 : a14.IsWhole) (a15 : Memref sig .tc .vmem S512x256 .bf16) (h15 : a15.IsWhole) (a16 : Memref sig .tc .vmem S512x256 .bf16) (h16 : a16.IsWhole) (a17 : Memref sig .tc .vmem S512x128 .bf16) (h17 : a17.IsWhole) (a18 : Memref sig .tc .vmem S1024x512 .f32) (h18 : a18.IsWhole)
    (x0 : Vec Ideal S1024x512 .bf16) (x1 : Vec Ideal S1024x512 .bf16) (x2 : Vec Ideal S1024x512 .bf16) (x3 : Vec Ideal S1024x512 .bf16) (x4 : Vec Ideal S1024x512 .bf16) (x5 : Vec Ideal S1024x256 .bf16) (x6 : Vec Ideal S1024x256 .bf16) (x7 : Vec Ideal S1024x256 .bf16) (x8 : Vec Ideal S1024x128 .bf16) (x9 : Vec Ideal S512x512 .bf16) (x10 : Vec Ideal S512x512 .bf16) (x11 : Vec Ideal S512x512 .bf16) (x12 : Vec Ideal S512x512 .bf16) (x13 : Vec Ideal S512x512 .bf16) (x14 : Vec Ideal S512x256 .bf16) (x15 : Vec Ideal S512x256 .bf16) (x16 : Vec Ideal S512x256 .bf16) (x17 : Vec Ideal S512x128 .bf16) (p : Fin 1024) (q : Fin 512) :
    out0_A_18 c i a0 h0 a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14 x15 x16 x17 (ix2 p q)
      = ((((((((∑ k : Fin 512, (x0 (ix2 p k) : EReal) * (x9 (ix2 q k) : EReal)) + (∑ k : Fin 512, (x1 (ix2 p k) : EReal) * (x10 (ix2 q k) : EReal))) + (∑ k : Fin 512, (x2 (ix2 p k) : EReal) * (x11 (ix2 q k) : EReal))) + (∑ k : Fin 512, (x3 (ix2 p k) : EReal) * (x12 (ix2 q k) : EReal))) + (∑ k : Fin 512, (x4 (ix2 p k) : EReal) * (x13 (ix2 q k) : EReal))) + (∑ k : Fin 256, (x5 (ix2 p k) : EReal) * (x14 (ix2 q k) : EReal))) + (∑ k : Fin 256, (x6 (ix2 p k) : EReal) * (x15 (ix2 q k) : EReal))) + (∑ k : Fin 256, (x7 (ix2 p k) : EReal) * (x16 (ix2 q k) : EReal))) + (∑ k : Fin 128, (x8 (ix2 p k) : EReal) * (x17 (ix2 q k) : EReal)) := by
  frame_out
  pointwise [k0_pay1, k0_pay2, dot_S1024x512_S512x512_S1024x512_1_1_0_0_n_n, dot_S1024x256_S512x256_S1024x512_1_1_0_0_n_n, dot_S1024x128_S512x128_S1024x512_1_1_0_0_n_n]

variable (m : (ℓ : Loc nD τ sig) → Buf (Elt Ideal) ℓ) (c : Dev nD)

/-- The cotangents of the projection's pieces, and the weights. -/
def dz (r : Fin 8192) (k : Fin 512) : EReal := m ((c : Thread nD τ).loc main_arg0) (ix2 r k)
def dq (r : Fin 8192) (k : Fin 512) : EReal := m ((c : Thread nD τ).loc main_arg1) (ix2 r k)
def df (r : Fin 8192) (k : Fin 512) : EReal := m ((c : Thread nD τ).loc main_arg2) (ix2 r k)
def di (r : Fin 8192) (k : Fin 512) : EReal := m ((c : Thread nD τ).loc main_arg3) (ix2 r k)
def dg (r : Fin 8192) (k : Fin 512) : EReal := m ((c : Thread nD τ).loc main_arg4) (ix2 r k)
def dc (r : Fin 8192) (k : Fin 768) : EReal := m ((c : Thread nD τ).loc main_arg5) (ix2 r k)
def dt (r : Fin 8192) (k : Fin 128) : EReal := m ((c : Thread nD τ).loc main_arg6) (ix2 r k)
def weight (j : Fin 1024) (k : Fin 3456) : EReal := m ((c : Thread nD τ).loc main_arg7) (ix2 j k)

/-- Entry `k` of a row from column `o` on. -/
def past {a b : Nat} (o : Nat) (h : o + a ≤ b) (k : Fin a) : Fin b := ⟨o + k.val, by have := k.isLt; omega⟩

/-- The rows and columns of grid point `t`'s block. -/
def row (t : Fin cfg0.N) (p : Fin 1024) : Fin 8192 := ⟨1024 * (t.val / 2) + p.val, by have := t.isLt; have : cfg0.N = 16 := N_0; have := p.isLt; omega⟩
def col (t : Fin cfg0.N) (q : Fin 512) : Fin 1024 := ⟨512 * (t.val % 2) + q.val, by have := q.isLt; omega⟩

theorem index0 : ∀ t : Fin grid0.N, win0_0.index t 0 = t.val / 2 ∧ win0_0.index t 1 = 0 := by decide +kernel
theorem index1 : ∀ t : Fin grid0.N, win0_1.index t 0 = t.val / 2 ∧ win0_1.index t 1 = 0 := by decide +kernel
theorem index2 : ∀ t : Fin grid0.N, win0_2.index t 0 = t.val / 2 ∧ win0_2.index t 1 = 0 := by decide +kernel
theorem index3 : ∀ t : Fin grid0.N, win0_3.index t 0 = t.val / 2 ∧ win0_3.index t 1 = 0 := by decide +kernel
theorem index4 : ∀ t : Fin grid0.N, win0_4.index t 0 = t.val / 2 ∧ win0_4.index t 1 = 0 := by decide +kernel
theorem index5 : ∀ t : Fin grid0.N, win0_5.index t 0 = t.val / 2 ∧ win0_5.index t 1 = 0 := by decide +kernel
theorem index6 : ∀ t : Fin grid0.N, win0_6.index t 0 = t.val / 2 ∧ win0_6.index t 1 = 1 := by decide +kernel
theorem index7 : ∀ t : Fin grid0.N, win0_7.index t 0 = t.val / 2 ∧ win0_7.index t 1 = 2 := by decide +kernel
theorem index8 : ∀ t : Fin grid0.N, win0_8.index t 0 = t.val / 2 ∧ win0_8.index t 1 = 0 := by decide +kernel
theorem index9 : ∀ t : Fin grid0.N, win0_9.index t 0 = t.val % 2 ∧ win0_9.index t 1 = 0 := by decide +kernel
theorem index10 : ∀ t : Fin grid0.N, win0_10.index t 0 = t.val % 2 ∧ win0_10.index t 1 = 1 := by decide +kernel
theorem index11 : ∀ t : Fin grid0.N, win0_11.index t 0 = t.val % 2 ∧ win0_11.index t 1 = 2 := by decide +kernel
theorem index12 : ∀ t : Fin grid0.N, win0_12.index t 0 = t.val % 2 ∧ win0_12.index t 1 = 3 := by decide +kernel
theorem index13 : ∀ t : Fin grid0.N, win0_13.index t 0 = t.val % 2 ∧ win0_13.index t 1 = 4 := by decide +kernel
theorem index14 : ∀ t : Fin grid0.N, win0_14.index t 0 = t.val % 2 ∧ win0_14.index t 1 = 10 := by decide +kernel
theorem index15 : ∀ t : Fin grid0.N, win0_15.index t 0 = t.val % 2 ∧ win0_15.index t 1 = 11 := by decide +kernel
theorem index16 : ∀ t : Fin grid0.N, win0_16.index t 0 = t.val % 2 ∧ win0_16.index t 1 = 12 := by decide +kernel
theorem index17 : ∀ t : Fin grid0.N, win0_17.index t 0 = t.val % 2 ∧ win0_17.index t 1 = 26 := by decide +kernel
theorem index18 : ∀ t : Fin grid0.N, win0_18.index t 0 = t.val / 2 ∧ win0_18.index t 1 = t.val % 2 := by decide +kernel

theorem iblk0 (t : Fin cfg0.N) (p : Fin 1024) (k : Fin 512) : iblk m c 0 t (ix2 p k) = dz m c (row t p) k := by
  obtain ⟨h0, h1⟩ := index0 t
  unfold dz
  rw [← V_main_arg0 m c]
  unfold iblk
  exact congrArg (V m c main_arg0) (at2 _ (spot 1024 p.val h0 (by show _ = 1024 * (t.val / 2) + p.val; omega)) (spot 512 k.val h1 (by show _ = k.val; omega)))

theorem iblk1 (t : Fin cfg0.N) (p : Fin 1024) (k : Fin 512) : iblk m c 1 t (ix2 p k) = dq m c (row t p) k := by
  obtain ⟨h0, h1⟩ := index1 t
  unfold dq
  rw [← V_main_arg1 m c]
  unfold iblk
  exact congrArg (V m c main_arg1) (at2 _ (spot 1024 p.val h0 (by show _ = 1024 * (t.val / 2) + p.val; omega)) (spot 512 k.val h1 (by show _ = k.val; omega)))

theorem iblk2 (t : Fin cfg0.N) (p : Fin 1024) (k : Fin 512) : iblk m c 2 t (ix2 p k) = df m c (row t p) k := by
  obtain ⟨h0, h1⟩ := index2 t
  unfold df
  rw [← V_main_arg2 m c]
  unfold iblk
  exact congrArg (V m c main_arg2) (at2 _ (spot 1024 p.val h0 (by show _ = 1024 * (t.val / 2) + p.val; omega)) (spot 512 k.val h1 (by show _ = k.val; omega)))

theorem iblk3 (t : Fin cfg0.N) (p : Fin 1024) (k : Fin 512) : iblk m c 3 t (ix2 p k) = di m c (row t p) k := by
  obtain ⟨h0, h1⟩ := index3 t
  unfold di
  rw [← V_main_arg3 m c]
  unfold iblk
  exact congrArg (V m c main_arg3) (at2 _ (spot 1024 p.val h0 (by show _ = 1024 * (t.val / 2) + p.val; omega)) (spot 512 k.val h1 (by show _ = k.val; omega)))

theorem iblk4 (t : Fin cfg0.N) (p : Fin 1024) (k : Fin 512) : iblk m c 4 t (ix2 p k) = dg m c (row t p) k := by
  obtain ⟨h0, h1⟩ := index4 t
  unfold dg
  rw [← V_main_arg4 m c]
  unfold iblk
  exact congrArg (V m c main_arg4) (at2 _ (spot 1024 p.val h0 (by show _ = 1024 * (t.val / 2) + p.val; omega)) (spot 512 k.val h1 (by show _ = k.val; omega)))

theorem iblk5 (t : Fin cfg0.N) (p : Fin 1024) (k : Fin 256) : iblk m c 5 t (ix2 p k) = dc m c (row t p) (past 0 (by decide) k) := by
  obtain ⟨h0, h1⟩ := index5 t
  unfold dc
  rw [← V_main_arg5 m c]
  unfold iblk
  exact congrArg (V m c main_arg5) (at2 _ (spot 1024 p.val h0 (by show _ = 1024 * (t.val / 2) + p.val; omega)) (spot 256 k.val h1 (by show _ = 0 + k.val; omega)))

theorem iblk6 (t : Fin cfg0.N) (p : Fin 1024) (k : Fin 256) : iblk m c 6 t (ix2 p k) = dc m c (row t p) (past 256 (by decide) k) := by
  obtain ⟨h0, h1⟩ := index6 t
  unfold dc
  rw [← V_main_arg5 m c]
  unfold iblk
  exact congrArg (V m c main_arg5) (at2 _ (spot 1024 p.val h0 (by show _ = 1024 * (t.val / 2) + p.val; omega)) (spot 256 k.val h1 (by show _ = 256 + k.val; omega)))

theorem iblk7 (t : Fin cfg0.N) (p : Fin 1024) (k : Fin 256) : iblk m c 7 t (ix2 p k) = dc m c (row t p) (past 512 (by decide) k) := by
  obtain ⟨h0, h1⟩ := index7 t
  unfold dc
  rw [← V_main_arg5 m c]
  unfold iblk
  exact congrArg (V m c main_arg5) (at2 _ (spot 1024 p.val h0 (by show _ = 1024 * (t.val / 2) + p.val; omega)) (spot 256 k.val h1 (by show _ = 512 + k.val; omega)))

theorem iblk8 (t : Fin cfg0.N) (p : Fin 1024) (k : Fin 128) : iblk m c 8 t (ix2 p k) = dt m c (row t p) k := by
  obtain ⟨h0, h1⟩ := index8 t
  unfold dt
  rw [← V_main_arg6 m c]
  unfold iblk
  exact congrArg (V m c main_arg6) (at2 _ (spot 1024 p.val h0 (by show _ = 1024 * (t.val / 2) + p.val; omega)) (spot 128 k.val h1 (by show _ = k.val; omega)))

theorem block9 (t : Fin cfg0.N) (q : Fin 512) (k : Fin 512) : X0_9 m c t (ix2 q k) = weight m c (col t q) (past 0 (by decide) k) := by
  obtain ⟨h0, h1⟩ := index9 t
  unfold weight
  rw [← V_main_arg7 m c]
  unfold X0_9 Pipeline.Window.fill
  rw [dif_pos (moved0_9 t _)]
  unfold iblk
  exact congrArg (V m c main_arg7) (at2 _ (spot 512 q.val h0 (by show _ = 512 * (t.val % 2) + q.val; omega)) (spot 512 k.val h1 (by show _ = 0 + k.val; omega)))

theorem block10 (t : Fin cfg0.N) (q : Fin 512) (k : Fin 512) : X0_10 m c t (ix2 q k) = weight m c (col t q) (past 512 (by decide) k) := by
  obtain ⟨h0, h1⟩ := index10 t
  unfold weight
  rw [← V_main_arg7 m c]
  unfold X0_10 Pipeline.Window.fill
  rw [dif_pos (moved0_10 t _)]
  unfold iblk
  exact congrArg (V m c main_arg7) (at2 _ (spot 512 q.val h0 (by show _ = 512 * (t.val % 2) + q.val; omega)) (spot 512 k.val h1 (by show _ = 512 + k.val; omega)))

theorem block11 (t : Fin cfg0.N) (q : Fin 512) (k : Fin 512) : X0_11 m c t (ix2 q k) = weight m c (col t q) (past 1024 (by decide) k) := by
  obtain ⟨h0, h1⟩ := index11 t
  unfold weight
  rw [← V_main_arg7 m c]
  unfold X0_11 Pipeline.Window.fill
  rw [dif_pos (moved0_11 t _)]
  unfold iblk
  exact congrArg (V m c main_arg7) (at2 _ (spot 512 q.val h0 (by show _ = 512 * (t.val % 2) + q.val; omega)) (spot 512 k.val h1 (by show _ = 1024 + k.val; omega)))

theorem block12 (t : Fin cfg0.N) (q : Fin 512) (k : Fin 512) : X0_12 m c t (ix2 q k) = weight m c (col t q) (past 1536 (by decide) k) := by
  obtain ⟨h0, h1⟩ := index12 t
  unfold weight
  rw [← V_main_arg7 m c]
  unfold X0_12 Pipeline.Window.fill
  rw [dif_pos (moved0_12 t _)]
  unfold iblk
  exact congrArg (V m c main_arg7) (at2 _ (spot 512 q.val h0 (by show _ = 512 * (t.val % 2) + q.val; omega)) (spot 512 k.val h1 (by show _ = 1536 + k.val; omega)))

theorem block13 (t : Fin cfg0.N) (q : Fin 512) (k : Fin 512) : X0_13 m c t (ix2 q k) = weight m c (col t q) (past 2048 (by decide) k) := by
  obtain ⟨h0, h1⟩ := index13 t
  unfold weight
  rw [← V_main_arg7 m c]
  unfold X0_13 Pipeline.Window.fill
  rw [dif_pos (moved0_13 t _)]
  unfold iblk
  exact congrArg (V m c main_arg7) (at2 _ (spot 512 q.val h0 (by show _ = 512 * (t.val % 2) + q.val; omega)) (spot 512 k.val h1 (by show _ = 2048 + k.val; omega)))

theorem block14 (t : Fin cfg0.N) (q : Fin 512) (k : Fin 256) : X0_14 m c t (ix2 q k) = weight m c (col t q) (past 2560 (by decide) k) := by
  obtain ⟨h0, h1⟩ := index14 t
  unfold weight
  rw [← V_main_arg7 m c]
  unfold X0_14 Pipeline.Window.fill
  rw [dif_pos (moved0_14 t _)]
  unfold iblk
  exact congrArg (V m c main_arg7) (at2 _ (spot 512 q.val h0 (by show _ = 512 * (t.val % 2) + q.val; omega)) (spot 256 k.val h1 (by show _ = 2560 + k.val; omega)))

theorem block15 (t : Fin cfg0.N) (q : Fin 512) (k : Fin 256) : X0_15 m c t (ix2 q k) = weight m c (col t q) (past 2816 (by decide) k) := by
  obtain ⟨h0, h1⟩ := index15 t
  unfold weight
  rw [← V_main_arg7 m c]
  unfold X0_15 Pipeline.Window.fill
  rw [dif_pos (moved0_15 t _)]
  unfold iblk
  exact congrArg (V m c main_arg7) (at2 _ (spot 512 q.val h0 (by show _ = 512 * (t.val % 2) + q.val; omega)) (spot 256 k.val h1 (by show _ = 2816 + k.val; omega)))

theorem block16 (t : Fin cfg0.N) (q : Fin 512) (k : Fin 256) : X0_16 m c t (ix2 q k) = weight m c (col t q) (past 3072 (by decide) k) := by
  obtain ⟨h0, h1⟩ := index16 t
  unfold weight
  rw [← V_main_arg7 m c]
  unfold X0_16 Pipeline.Window.fill
  rw [dif_pos (moved0_16 t _)]
  unfold iblk
  exact congrArg (V m c main_arg7) (at2 _ (spot 512 q.val h0 (by show _ = 512 * (t.val % 2) + q.val; omega)) (spot 256 k.val h1 (by show _ = 3072 + k.val; omega)))

theorem iblk17 (t : Fin cfg0.N) (q : Fin 512) (k : Fin 128) : iblk m c 17 t (ix2 q k) = weight m c (col t q) (past 3328 (by decide) k) := by
  obtain ⟨h0, h1⟩ := index17 t
  unfold weight
  rw [← V_main_arg7 m c]
  unfold iblk
  exact congrArg (V m c main_arg7) (at2 _ (spot 512 q.val h0 (by show _ = 512 * (t.val % 2) + q.val; omega)) (spot 128 k.val h1 (by show _ = 3328 + k.val; omega)))

/-- The result: one product for each piece. -/
def product (r : Fin 8192) (j : Fin 1024) : EReal :=
  ((((((((∑ k : Fin 512, dz m c r k * weight m c j (past 0 (by decide) k)) + (∑ k : Fin 512, dq m c r k * weight m c j (past 512 (by decide) k))) + (∑ k : Fin 512, df m c r k * weight m c j (past 1024 (by decide) k))) + (∑ k : Fin 512, di m c r k * weight m c j (past 1536 (by decide) k))) + (∑ k : Fin 512, dg m c r k * weight m c j (past 2048 (by decide) k))) + (∑ k : Fin 256, dc m c r (past 0 (by decide) k) * weight m c j (past 2560 (by decide) k))) + (∑ k : Fin 256, dc m c r (past 256 (by decide) k) * weight m c j (past 2816 (by decide) k))) + (∑ k : Fin 256, dc m c r (past 512 (by decide) k) * weight m c j (past 3072 (by decide) k))) + (∑ k : Fin 128, dt m c r k * weight m c j (past 3328 (by decide) k))

/-- The block of a grid point holds the products. -/
theorem block (t : Fin cfg0.N) (p : Fin 1024) (q : Fin 512) :
    outsAt0 m c t (ix2 p q) = product m c (row t p) (col t q) := by
  unfold outsAt0
  rw [out_at]
  simp only [iblk0, iblk1, iblk2, iblk3, iblk4, iblk5, iblk6, iblk7, iblk8, block9, block10, block11, block12, block13, block14, block15, block16, iblk17]
  rfl

theorem product_eq (r : Fin 8192) (j : Fin 1024) : product m c r j
    = ((((((((∑ k : Fin 512, dz m c r k * weight m c j (past 0 (by decide) k)) + (∑ k : Fin 512, dq m c r k * weight m c j (past 512 (by decide) k))) + (∑ k : Fin 512, df m c r k * weight m c j (past 1024 (by decide) k))) + (∑ k : Fin 512, di m c r k * weight m c j (past 1536 (by decide) k))) + (∑ k : Fin 512, dg m c r k * weight m c j (past 2048 (by decide) k))) + (∑ k : Fin 256, dc m c r (past 0 (by decide) k) * weight m c j (past 2560 (by decide) k))) + (∑ k : Fin 256, dc m c r (past 256 (by decide) k) * weight m c j (past 2816 (by decide) k))) + (∑ k : Fin 256, dc m c r (past 512 (by decide) k) * weight m c j (past 3072 (by decide) k))) + (∑ k : Fin 128, dt m c r k * weight m c j (past 3328 (by decide) k)) := rfl

attribute [local irreducible] product outsAt0 iblk

theorem final : ∀ i, (dats m 0 c).arrAt 18 cfg0.N i = product m c (i 0) (i 1) := by
  have hN : cfg0.N = 16 := N_0
  refine (dats m 0 c).arrAt_forall_of_cover 18 (fun i v => v = product m c (i 0) (i 1)) (fun t hf y => ?_) (fun i => ?_)
  · obtain ⟨h0, h1⟩ := index18 t
    rw [Value.flushed18]
    have e := block m c t (y 0) (y 1)
    have hy : (y : S1024x512.Idx) = ix2 (y 0) (y 1) := eq_ix2 _
    refine Eq.trans (?_ : _ = _) (e.trans ?_)
    · exact congrArg (outsAt0 m c t) hy
    · have e0 : row t (y 0) = ((cfg0.win 18).blk t).view.emb y 0 := Fin.ext (by
        show 1024 * (t.val / 2) + (y 0).val = win0_18.index t 0 * 1024 + 1 * (y 0).val; rw [h0]; omega)
      have e1 : col t (y 1) = ((cfg0.win 18).blk t).view.emb y 1 := Fin.ext (by
        show 512 * (t.val % 2) + (y 1).val = win0_18.index t 1 * 512 + 1 * (y 1).val; rw [h1]; omega)
      rw [e0, e1]
  · have hi0 : (i 0 : Nat) < 8192 := (i 0).isLt
    have hi1 : (i 1 : Nat) < 1024 := (i 1).isLt
    have ht : 2 * ((i 0 : Nat) / 1024) + (i 1 : Nat) / 512 < cfg0.N := by omega
    obtain ⟨h0, h1⟩ := index18 ⟨2 * ((i 0 : Nat) / 1024) + (i 1 : Nat) / 512, ht⟩
    refine ⟨⟨2 * ((i 0 : Nat) / 1024) + (i 1 : Nat) / 512, ht⟩, flush0_18 _, ?_⟩
    show i ∈ ((View.whole main_v0).slice (win0_18.rect ⟨2 * ((i 0 : Nat) / 1024) + (i 1 : Nat) / 512, ht⟩)).set
    rw [View.set_slice_whole, Rect.mem_set_unit]
    intro a
    match a with
    | ⟨0, _⟩ => exact span 1024 (i 0).val h0 (by dsimp only; omega)
    | ⟨1, _⟩ => exact span 512 (i 1).val h1 (by dsimp only; omega)

end Kernel

/-! ## The reference -/

section Reference

open Cert.Reference14Ideal Cert.Reference14Ideal.Gen Idealize.ShloMosaic Idealize.ShloMosaic.TcCoe

/-- The joined cotangents. -/
def joined (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) : FVec Ideal S8192x3456 .f32 :=
  concatenate S8192x3456 1 [⟨S8192x512, (extf .f32 dz bitsLt_bf16_f32)⟩, ⟨S8192x512, (extf .f32 dq bitsLt_bf16_f32)⟩, ⟨S8192x512, (extf .f32 df bitsLt_bf16_f32)⟩, ⟨S8192x512, (extf .f32 di bitsLt_bf16_f32)⟩, ⟨S8192x512, (extf .f32 dg bitsLt_bf16_f32)⟩, ⟨S8192x768, (extf .f32 dc bitsLt_bf16_f32)⟩, ⟨S8192x128, (extf .f32 dt bitsLt_bf16_f32)⟩] concatenates_S8192x512_S8192x512_S8192x512_S8192x512_S8192x512_S8192x768_S8192x128_S8192x3456_d1

theorem joined_dz (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 512) (i : Fin 3456) (h : i.val = 0 + k.val) :
    joined dz dq df di dg dc dt (ix2 r i) = dz (ix2 r k) := by
  have hk : k.val < 512 := k.isLt
  pointwise [joined]
  refine (dif_pos (by omega)).trans ?_
  exact congrArg (fun i => (dz (ix2 r i) : EReal)) (Fin.ext (by dsimp only; omega))

theorem joined_dq (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 512) (i : Fin 3456) (h : i.val = 512 + k.val) :
    joined dz dq df di dg dc dt (ix2 r i) = dq (ix2 r k) := by
  have hk : k.val < 512 := k.isLt
  pointwise [joined]
  refine (dif_neg (by omega)).trans ?_
  refine (dif_pos (by omega)).trans ?_
  exact congrArg (fun i => (dq (ix2 r i) : EReal)) (Fin.ext (by dsimp only; omega))

theorem joined_df (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 512) (i : Fin 3456) (h : i.val = 1024 + k.val) :
    joined dz dq df di dg dc dt (ix2 r i) = df (ix2 r k) := by
  have hk : k.val < 512 := k.isLt
  pointwise [joined]
  refine (dif_neg (by omega)).trans ?_
  refine (dif_neg (by omega)).trans ?_
  refine (dif_pos (by omega)).trans ?_
  exact congrArg (fun i => (df (ix2 r i) : EReal)) (Fin.ext (by dsimp only; omega))

theorem joined_di (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 512) (i : Fin 3456) (h : i.val = 1536 + k.val) :
    joined dz dq df di dg dc dt (ix2 r i) = di (ix2 r k) := by
  have hk : k.val < 512 := k.isLt
  pointwise [joined]
  refine (dif_neg (by omega)).trans ?_
  refine (dif_neg (by omega)).trans ?_
  refine (dif_neg (by omega)).trans ?_
  refine (dif_pos (by omega)).trans ?_
  exact congrArg (fun i => (di (ix2 r i) : EReal)) (Fin.ext (by dsimp only; omega))

theorem joined_dg (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 512) (i : Fin 3456) (h : i.val = 2048 + k.val) :
    joined dz dq df di dg dc dt (ix2 r i) = dg (ix2 r k) := by
  have hk : k.val < 512 := k.isLt
  pointwise [joined]
  refine (dif_neg (by omega)).trans ?_
  refine (dif_neg (by omega)).trans ?_
  refine (dif_neg (by omega)).trans ?_
  refine (dif_neg (by omega)).trans ?_
  refine (dif_pos (by omega)).trans ?_
  exact congrArg (fun i => (dg (ix2 r i) : EReal)) (Fin.ext (by dsimp only; omega))

theorem joined_dc (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 768) (i : Fin 3456) (h : i.val = 2560 + k.val) :
    joined dz dq df di dg dc dt (ix2 r i) = dc (ix2 r k) := by
  have hk : k.val < 768 := k.isLt
  pointwise [joined]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i => (dc (ix2 r i) : EReal)) (Fin.ext (by dsimp only; omega))

theorem joined_dt (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (r : Fin 8192) (k : Fin 128) (i : Fin 3456) (h : i.val = 3328 + k.val) :
    joined dz dq df di dg dc dt (ix2 r i) = dt (ix2 r k) := by
  have hk : k.val < 128 := k.isLt
  pointwise [joined]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact congrArg (fun i => (dt (ix2 r i) : EReal)) (Fin.ext (by dsimp only; omega))

/-- The reference's product of the joined cotangents with the weights. -/
def refProduct (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (w : FVec Ideal S1024x3456 .bf16) : FVec Ideal S8192x1024 .f32 :=
  Host.dotGeneral (φ₁ := .f32) (φ₂ := .f32) dot_S8192x3456_S1024x3456_S8192x1024_1_1_0_0_n_n none (joined dz dq df di dg dc dt) (extf .f32 w bitsLt_bf16_f32)

theorem refProduct_sum (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (w : FVec Ideal S1024x3456 .bf16) (r : Fin 8192) (j : Fin 1024) :
    refProduct dz dq df di dg dc dt w (ix2 r j) = ∑ k : Fin 3456, (joined dz dq df di dg dc dt (ix2 r k) : EReal) * (w (ix2 j k) : EReal) := by
  pointwise [refProduct, dot_S8192x3456_S1024x3456_S8192x1024_1_1_0_0_n_n]

/-- It is the pieces' products. -/
theorem refProduct_at (dz : FVec Ideal S8192x512 .bf16) (dq : FVec Ideal S8192x512 .bf16) (df : FVec Ideal S8192x512 .bf16) (di : FVec Ideal S8192x512 .bf16) (dg : FVec Ideal S8192x512 .bf16) (dc : FVec Ideal S8192x768 .bf16) (dt : FVec Ideal S8192x128 .bf16) (w : FVec Ideal S1024x3456 .bf16) (r : Fin 8192) (j : Fin 1024) :
    refProduct dz dq df di dg dc dt w (ix2 r j)
      = ((((((((∑ k : Fin 512, (dz (ix2 r k) : EReal) * (w (ix2 j (past 0 (by decide) k)) : EReal)) + (∑ k : Fin 512, (dq (ix2 r k) : EReal) * (w (ix2 j (past 512 (by decide) k)) : EReal))) + (∑ k : Fin 512, (df (ix2 r k) : EReal) * (w (ix2 j (past 1024 (by decide) k)) : EReal))) + (∑ k : Fin 512, (di (ix2 r k) : EReal) * (w (ix2 j (past 1536 (by decide) k)) : EReal))) + (∑ k : Fin 512, (dg (ix2 r k) : EReal) * (w (ix2 j (past 2048 (by decide) k)) : EReal))) + (∑ k : Fin 256, (dc (ix2 r (past 0 (by decide) k)) : EReal) * (w (ix2 j (past 2560 (by decide) k)) : EReal))) + (∑ k : Fin 256, (dc (ix2 r (past 256 (by decide) k)) : EReal) * (w (ix2 j (past 2816 (by decide) k)) : EReal))) + (∑ k : Fin 256, (dc (ix2 r (past 512 (by decide) k)) : EReal) * (w (ix2 j (past 3072 (by decide) k)) : EReal))) + (∑ k : Fin 128, (dt (ix2 r k) : EReal) * (w (ix2 j (past 3328 (by decide) k)) : EReal)) := by
  rw [refProduct_sum]
  rw [Cert.Sums.sum_split (n := 3456) 3328 128 (by decide), Cert.Sums.sum_split (n := 3328) 3072 256 (by decide), Cert.Sums.sum_split (n := 3072) 2816 256 (by decide), Cert.Sums.sum_split (n := 2816) 2560 256 (by decide), Cert.Sums.sum_split (n := 2560) 2048 512 (by decide), Cert.Sums.sum_split (n := 2048) 1536 512 (by decide), Cert.Sums.sum_split (n := 1536) 1024 512 (by decide), Cert.Sums.sum_split (n := 1024) 512 512 (by decide)]
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_ <;> refine Finset.sum_congr rfl fun k _ => ?_
  · refine congrArg₂ (fun x y : EReal => x * y) (joined_dz dz dq df di dg dc dt r k _ (by first | rfl | (dsimp only; omega))) (congrArg (fun i => (w (ix2 j i) : EReal)) (Fin.ext (by unfold past; first | rfl | (dsimp only; omega))))
  · refine congrArg₂ (fun x y : EReal => x * y) (joined_dq dz dq df di dg dc dt r k _ (by first | rfl | (dsimp only; omega))) (congrArg (fun i => (w (ix2 j i) : EReal)) (Fin.ext (by unfold past; first | rfl | (dsimp only; omega))))
  · refine congrArg₂ (fun x y : EReal => x * y) (joined_df dz dq df di dg dc dt r k _ (by first | rfl | (dsimp only; omega))) (congrArg (fun i => (w (ix2 j i) : EReal)) (Fin.ext (by unfold past; first | rfl | (dsimp only; omega))))
  · refine congrArg₂ (fun x y : EReal => x * y) (joined_di dz dq df di dg dc dt r k _ (by first | rfl | (dsimp only; omega))) (congrArg (fun i => (w (ix2 j i) : EReal)) (Fin.ext (by unfold past; first | rfl | (dsimp only; omega))))
  · refine congrArg₂ (fun x y : EReal => x * y) (joined_dg dz dq df di dg dc dt r k _ (by first | rfl | (dsimp only; omega))) (congrArg (fun i => (w (ix2 j i) : EReal)) (Fin.ext (by unfold past; first | rfl | (dsimp only; omega))))
  · refine congrArg₂ (fun x y : EReal => x * y) (joined_dc dz dq df di dg dc dt r (past 0 (by decide) k) _ (by unfold past; first | rfl | (dsimp only; omega))) (congrArg (fun i => (w (ix2 j i) : EReal)) (Fin.ext (by unfold past; first | rfl | (dsimp only; omega))))
  · refine congrArg₂ (fun x y : EReal => x * y) (joined_dc dz dq df di dg dc dt r (past 256 (by decide) k) _ (by unfold past; first | rfl | (dsimp only; omega))) (congrArg (fun i => (w (ix2 j i) : EReal)) (Fin.ext (by unfold past; first | rfl | (dsimp only; omega))))
  · refine congrArg₂ (fun x y : EReal => x * y) (joined_dc dz dq df di dg dc dt r (past 512 (by decide) k) _ (by unfold past; first | rfl | (dsimp only; omega))) (congrArg (fun i => (w (ix2 j i) : EReal)) (Fin.ext (by unfold past; first | rfl | (dsimp only; omega))))
  · refine congrArg₂ (fun x y : EReal => x * y) (joined_dt dz dq df di dg dc dt r k _ (by first | rfl | (dsimp only; omega))) (congrArg (fun i => (w (ix2 j i) : EReal)) (Fin.ext (by unfold past; first | rfl | (dsimp only; omega))))

end Reference

/-! ## The claim -/

open Cert.Kernel14Ideal Idealize.ShloMosaic

attribute [local instance] Cert.Kernel14Ideal.Gen.facts Cert.Reference14Ideal.Gen.facts

theorem agree : Cert.algebraic_Kernel14Ideal_Reference14Ideal := by
  intro m g m' g' hp ha
  refine ⟨_, Cert.Kernel14Ideal.Value.run_blocks m g,
    (θ_run Cert.Reference14Ideal.defs _ _).mono (fun r h c => ?_) (Cert.Reference14Ideal.Value.run m' g')⟩
  obtain ⟨h0, hk⟩ := h c
  obtain ⟨e0, e1, e2, e3, e4, e5, e6, e7⟩ := ha c
  refine ⟨h0.trans ?_, hk⟩
  rw [e0, e1, e2, e3, e4, e5, e6, e7]
  funext i
  refine Eq.trans ?_ ((final m c i).trans (product_eq m c _ _)).symm
  rw [← ix2_eta i]
  exact refProduct_at _ _ _ _ _ _ _ _ (i 0) (i 1)

end Cert.InputAB

end
-- ==== Proof.InputCDClaim.lean ====
/-
  The gradient of an attention layer's input through the input projection: the kernel adds the products of five pieces of
  the cotangent with their columns of the weights; the reference takes one product with the joined pieces.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel15Ideal.Value
public import proofs.«01_k».proof.Proof.Gen.Reference15Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InputCD

section Kernel

open Cert.Kernel15Ideal Cert.Kernel15Ideal.Gen Idealize.ShloMosaic Idealize.ShloMosaic.TcCoe Idealize.SL.Sem

/-- A block of the result. -/
theorem out_at (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x512 .bf16) (h2 : a2.IsWhole) (a3 : Memref sig .tc .vmem S1024x128 .f32) (h3 : a3.IsWhole) (a4 : Memref sig .tc .vmem S1024x128 .f32) (h4 : a4.IsWhole) (a5 : Memref sig .tc .vmem S1024x512 .bf16) (h5 : a5.IsWhole) (a6 : Memref sig .tc .vmem S1024x512 .bf16) (h6 : a6.IsWhole) (a7 : Memref sig .tc .vmem S1024x512 .bf16) (h7 : a7.IsWhole) (a8 : Memref sig .tc .vmem S1024x128 .bf16) (h8 : a8.IsWhole) (a9 : Memref sig .tc .vmem S1024x128 .bf16) (h9 : a9.IsWhole) (a10 : Memref sig .tc .vmem S1024x1024 .f32) (h10 : a10.IsWhole)
    (x0 : Vec Ideal S1024x512 .bf16) (x1 : Vec Ideal S1024x512 .bf16) (x2 : Vec Ideal S1024x512 .bf16) (x3 : Vec Ideal S1024x128 .f32) (x4 : Vec Ideal S1024x128 .f32) (x5 : Vec Ideal S1024x512 .bf16) (x6 : Vec Ideal S1024x512 .bf16) (x7 : Vec Ideal S1024x512 .bf16) (x8 : Vec Ideal S1024x128 .bf16) (x9 : Vec Ideal S1024x128 .bf16) (p : Fin 1024) (q : Fin 1024) :
    out0_A_10 c i a0 h0 a1 h1 a2 h2 a3 h3 a4 h4 a5 h5 a6 h6 a7 h7 a8 h8 a9 h9 a10 h10 x0 x1 x2 x3 x4 x5 x6 x7 x8 x9 (ix2 p q)
      = ((((∑ k : Fin 512, (x0 (ix2 p k) : EReal) * (x5 (ix2 q k) : EReal)) + (∑ k : Fin 512, (x1 (ix2 p k) : EReal) * (x6 (ix2 q k) : EReal))) + (∑ k : Fin 512, (x2 (ix2 p k) : EReal) * (x7 (ix2 q k) : EReal))) + (∑ k : Fin 128, (x3 (ix2 p k) : EReal) * (x8 (ix2 q k) : EReal))) + (∑ k : Fin 128, (x4 (ix2 p k) : EReal) * (x9 (ix2 q k) : EReal)) := by
  frame_out
  pointwise [k0_pay1, dot_S1024x512_S1024x512_S1024x1024_1_1_0_0_n_n, dot_S1024x128_S1024x128_S1024x1024_1_1_0_0_n_n]

variable (m : (ℓ : Loc nD τ sig) → Buf (Elt Ideal) ℓ) (c : Dev nD)

/-- The cotangents of the projection's pieces, and the weights. -/
def dq (r : Fin 8192) (k : Fin 512) : EReal := m ((c : Thread nD τ).loc main_arg0) (ix2 r k)
def dg (r : Fin 8192) (k : Fin 512) : EReal := m ((c : Thread nD τ).loc main_arg1) (ix2 r k)
def dr (r : Fin 8192) (k : Fin 512) : EReal := m ((c : Thread nD τ).loc main_arg2) (ix2 r k)
def dk (r : Fin 8192) (k : Fin 128) : EReal := m ((c : Thread nD τ).loc main_arg3) (ix2 r k)
def dv (r : Fin 8192) (k : Fin 128) : EReal := m ((c : Thread nD τ).loc main_arg4) (ix2 r k)
def weight (j : Fin 1024) (k : Fin 1792) : EReal := m ((c : Thread nD τ).loc main_arg5) (ix2 j k)

/-- Entry `k` of a row from column `o` on. -/
def past {a b : Nat} (o : Nat) (h : o + a ≤ b) (k : Fin a) : Fin b := ⟨o + k.val, by have := k.isLt; omega⟩

/-- The rows and columns of grid point `t`'s block. -/
def row (t : Fin cfg0.N) (p : Fin 1024) : Fin 8192 := ⟨1024 * (t.val) + p.val, by have := t.isLt; have : cfg0.N = 8 := N_0; have := p.isLt; omega⟩
def col (t : Fin cfg0.N) (q : Fin 1024) : Fin 1024 := ⟨1024 * (0) + q.val, by have := q.isLt; omega⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 1 := by decide +kernel
theorem index7 : ∀ t : Fin grid0.N, win0_7.index t 0 = 0 ∧ win0_7.index t 1 = 2 := by decide +kernel
theorem index8 : ∀ t : Fin grid0.N, win0_8.index t 0 = 0 ∧ win0_8.index t 1 = 12 := by decide +kernel
theorem index9 : ∀ t : Fin grid0.N, win0_9.index t 0 = 0 ∧ win0_9.index t 1 = 13 := by decide +kernel
theorem index10 : ∀ t : Fin grid0.N, win0_10.index t 0 = t.val ∧ win0_10.index t 1 = 0 := by decide +kernel

theorem iblk0 (t : Fin cfg0.N) (p : Fin 1024) (k : Fin 512) : iblk m c 0 t (ix2 p k) = dq m c (row t p) k := by
  obtain ⟨h0, h1⟩ := index0 t
  unfold dq
  rw [← V_main_arg0 m c]
  unfold iblk
  exact congrArg (V m c main_arg0) (at2 _ (spot 1024 p.val h0 (by show _ = 1024 * (t.val) + p.val; omega)) (spot 512 k.val h1 (by show _ = k.val; omega)))

theorem iblk1 (t : Fin cfg0.N) (p : Fin 1024) (k : Fin 512) : iblk m c 1 t (ix2 p k) = dg m c (row t p) k := by
  obtain ⟨h0, h1⟩ := index1 t
  unfold dg
  rw [← V_main_arg1 m c]
  unfold iblk
  exact congrArg (V m c main_arg1) (at2 _ (spot 1024 p.val h0 (by show _ = 1024 * (t.val) + p.val; omega)) (spot 512 k.val h1 (by show _ = k.val; omega)))

theorem iblk2 (t : Fin cfg0.N) (p : Fin 1024) (k : Fin 512) : iblk m c 2 t (ix2 p k) = dr m c (row t p) k := by
  obtain ⟨h0, h1⟩ := index2 t
  unfold dr
  rw [← V_main_arg2 m c]
  unfold iblk
  exact congrArg (V m c main_arg2) (at2 _ (spot 1024 p.val h0 (by show _ = 1024 * (t.val) + p.val; omega)) (spot 512 k.val h1 (by show _ = k.val; omega)))

theorem iblk3 (t : Fin cfg0.N) (p : Fin 1024) (k : Fin 128) : iblk m c 3 t (ix2 p k) = dk m c (row t p) k := by
  obtain ⟨h0, h1⟩ := index3 t
  unfold dk
  rw [← V_main_arg3 m c]
  unfold iblk
  exact congrArg (V m c main_arg3) (at2 _ (spot 1024 p.val h0 (by show _ = 1024 * (t.val) + p.val; omega)) (spot 128 k.val h1 (by show _ = k.val; omega)))

theorem iblk4 (t : Fin cfg0.N) (p : Fin 1024) (k : Fin 128) : iblk m c 4 t (ix2 p k) = dv m c (row t p) k := by
  obtain ⟨h0, h1⟩ := index4 t
  unfold dv
  rw [← V_main_arg4 m c]
  unfold iblk
  exact congrArg (V m c main_arg4) (at2 _ (spot 1024 p.val h0 (by show _ = 1024 * (t.val) + p.val; omega)) (spot 128 k.val h1 (by show _ = k.val; omega)))

theorem block5 (t : Fin cfg0.N) (q : Fin 1024) (k : Fin 512) : X0_5 m c t (ix2 q k) = weight m c (col t q) (past 0 (by decide) k) := by
  obtain ⟨h0, h1⟩ := index5 t
  unfold weight
  rw [← V_main_arg5 m c]
  unfold X0_5 Pipeline.Window.fill
  rw [dif_pos (moved0_5 t _)]
  unfold iblk
  exact congrArg (V m c main_arg5) (at2 _ (spot 1024 q.val h0 (by show _ = 1024 * (0) + q.val; omega)) (spot 512 k.val h1 (by show _ = 0 + k.val; omega)))

theorem block6 (t : Fin cfg0.N) (q : Fin 1024) (k : Fin 512) : X0_6 m c t (ix2 q k) = weight m c (col t q) (past 512 (by decide) k) := by
  obtain ⟨h0, h1⟩ := index6 t
  unfold weight
  rw [← V_main_arg5 m c]
  unfold X0_6 Pipeline.Window.fill
  rw [dif_pos (moved0_6 t _)]
  unfold iblk
  exact congrArg (V m c main_arg5) (at2 _ (spot 1024 q.val h0 (by show _ = 1024 * (0) + q.val; omega)) (spot 512 k.val h1 (by show _ = 512 + k.val; omega)))

theorem block7 (t : Fin cfg0.N) (q : Fin 1024) (k : Fin 512) : X0_7 m c t (ix2 q k) = weight m c (col t q) (past 1024 (by decide) k) := by
  obtain ⟨h0, h1⟩ := index7 t
  unfold weight
  rw [← V_main_arg5 m c]
  unfold X0_7 Pipeline.Window.fill
  rw [dif_pos (moved0_7 t _)]
  unfold iblk
  exact congrArg (V m c main_arg5) (at2 _ (spot 1024 q.val h0 (by show _ = 1024 * (0) + q.val; omega)) (spot 512 k.val h1 (by show _ = 1024 + k.val; omega)))

theorem iblk8 (t : Fin cfg0.N) (q : Fin 1024) (k : Fin 128) : iblk m c 8 t (ix2 q k) = weight m c (col t q) (past 1536 (by decide) k) := by
  obtain ⟨h0, h1⟩ := index8 t
  unfold weight
  rw [← V_main_arg5 m c]
  unfold iblk
  exact congrArg (V m c main_arg5) (at2 _ (spot 1024 q.val h0 (by show _ = 1024 * (0) + q.val; omega)) (spot 128 k.val h1 (by show _ = 1536 + k.val; omega)))

theorem iblk9 (t : Fin cfg0.N) (q : Fin 1024) (k : Fin 128) : iblk m c 9 t (ix2 q k) = weight m c (col t q) (past 1664 (by decide) k) := by
  obtain ⟨h0, h1⟩ := index9 t
  unfold weight
  rw [← V_main_arg5 m c]
  unfold iblk
  exact congrArg (V m c main_arg5) (at2 _ (spot 1024 q.val h0 (by show _ = 1024 * (0) + q.val; omega)) (spot 128 k.val h1 (by show _ = 1664 + k.val; omega)))

/-- The result: one product for each piece. -/
def product (r : Fin 8192) (j : Fin 1024) : EReal :=
  ((((∑ k : Fin 512, dq m c r k * weight m c j (past 0 (by decide) k)) + (∑ k : Fin 512, dg m c r k * weight m c j (past 512 (by decide) k))) + (∑ k : Fin 512, dr m c r k * weight m c j (past 1024 (by decide) k))) + (∑ k : Fin 128, dk m c r k * weight m c j (past 1536 (by decide) k))) + (∑ k : Fin 128, dv m c r k * weight m c j (past 1664 (by decide) k))

/-- The block of a grid point holds the products. -/
theorem block (t : Fin cfg0.N) (p : Fin 1024) (q : Fin 1024) :
    outsAt0 m c t (ix2 p q) = product m c (row t p) (col t q) := by
  unfold outsAt0
  rw [out_at]
  simp only [iblk0, iblk1, iblk2, iblk3, iblk4, block5, block6, block7, iblk8, iblk9]
  rfl

theorem product_eq (r : Fin 8192) (j : Fin 1024) : product m c r j
    = ((((∑ k : Fin 512, dq m c r k * weight m c j (past 0 (by decide) k)) + (∑ k : Fin 512, dg m c r k * weight m c j (past 512 (by decide) k))) + (∑ k : Fin 512, dr m c r k * weight m c j (past 1024 (by decide) k))) + (∑ k : Fin 128, dk m c r k * weight m c j (past 1536 (by decide) k))) + (∑ k : Fin 128, dv m c r k * weight m c j (past 1664 (by decide) k)) := rfl

attribute [local irreducible] product outsAt0 iblk

theorem final : ∀ i, (dats m 0 c).arrAt 10 cfg0.N i = product m c (i 0) (i 1) := by
  have hN : cfg0.N = 8 := N_0
  refine (dats m 0 c).arrAt_forall_of_cover 10 (fun i v => v = product m c (i 0) (i 1)) (fun t hf y => ?_) (fun i => ?_)
  · obtain ⟨h0, h1⟩ := index10 t
    rw [Value.flushed10]
    have e := block m c t (y 0) (y 1)
    have hy : (y : S1024x1024.Idx) = ix2 (y 0) (y 1) := eq_ix2 _
    refine Eq.trans (?_ : _ = _) (e.trans ?_)
    · exact congrArg (outsAt0 m c t) hy
    · have e0 : row t (y 0) = ((cfg0.win 10).blk t).view.emb y 0 := Fin.ext (by
        show 1024 * (t.val) + (y 0).val = win0_10.index t 0 * 1024 + 1 * (y 0).val; rw [h0]; omega)
      have e1 : col t (y 1) = ((cfg0.win 10).blk t).view.emb y 1 := Fin.ext (by
        show 1024 * (0) + (y 1).val = win0_10.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 1024 < cfg0.N := by omega
    obtain ⟨h0, h1⟩ := index10 ⟨(i 0 : Nat) / 1024, ht⟩
    refine ⟨⟨(i 0 : Nat) / 1024, ht⟩, flush0_10 _, ?_⟩
    show i ∈ ((View.whole main_v0).slice (win0_10.rect ⟨(i 0 : Nat) / 1024, ht⟩)).set
    rw [View.set_slice_whole, Rect.mem_set_unit]
    intro a
    match a with
    | ⟨0, _⟩ => exact span 1024 (i 0).val h0 (by dsimp only; omega)
    | ⟨1, _⟩ => exact span 1024 (i 1).val h1 (by dsimp only; omega)

end Kernel

/-! ## The reference -/

section Reference

open Cert.Reference15Ideal Cert.Reference15Ideal.Gen Idealize.ShloMosaic Idealize.ShloMosaic.TcCoe

/-- The joined cotangents. -/
def joined (dq : FVec Ideal S8192x512 .bf16) (dg : FVec Ideal S8192x512 .bf16) (dr : FVec Ideal S8192x512 .bf16) (dk : FVec Ideal S8192x128 .f32) (dv : FVec Ideal S8192x128 .f32) : FVec Ideal S8192x1792 .f32 :=
  concatenate S8192x1792 1 [⟨S8192x512, (extf .f32 dq bitsLt_bf16_f32)⟩, ⟨S8192x512, (extf .f32 dg bitsLt_bf16_f32)⟩, ⟨S8192x512, (extf .f32 dr bitsLt_bf16_f32)⟩, ⟨S8192x128, dk⟩, ⟨S8192x128, dv⟩] concatenates_S8192x512_S8192x512_S8192x512_S8192x128_S8192x128_S8192x1792_d1

theorem joined_dq (dq : FVec Ideal S8192x512 .bf16) (dg : FVec Ideal S8192x512 .bf16) (dr : FVec Ideal S8192x512 .bf16) (dk : FVec Ideal S8192x128 .f32) (dv : FVec Ideal S8192x128 .f32) (r : Fin 8192) (k : Fin 512) (i : Fin 1792) (h : i.val = 0 + k.val) :
    joined dq dg dr dk dv (ix2 r i) = dq (ix2 r k) := by
  have hk : k.val < 512 := k.isLt
  pointwise [joined]
  refine (dif_pos (by omega)).trans ?_
  exact congrArg (fun i => (dq (ix2 r i) : EReal)) (Fin.ext (by dsimp only; omega))

theorem joined_dg (dq : FVec Ideal S8192x512 .bf16) (dg : FVec Ideal S8192x512 .bf16) (dr : FVec Ideal S8192x512 .bf16) (dk : FVec Ideal S8192x128 .f32) (dv : FVec Ideal S8192x128 .f32) (r : Fin 8192) (k : Fin 512) (i : Fin 1792) (h : i.val = 512 + k.val) :
    joined dq dg dr dk dv (ix2 r i) = dg (ix2 r k) := by
  have hk : k.val < 512 := k.isLt
  pointwise [joined]
  refine (dif_neg (by omega)).trans ?_
  refine (dif_pos (by omega)).trans ?_
  exact congrArg (fun i => (dg (ix2 r i) : EReal)) (Fin.ext (by dsimp only; omega))

theorem joined_dr (dq : FVec Ideal S8192x512 .bf16) (dg : FVec Ideal S8192x512 .bf16) (dr : FVec Ideal S8192x512 .bf16) (dk : FVec Ideal S8192x128 .f32) (dv : FVec Ideal S8192x128 .f32) (r : Fin 8192) (k : Fin 512) (i : Fin 1792) (h : i.val = 1024 + k.val) :
    joined dq dg dr dk dv (ix2 r i) = dr (ix2 r k) := by
  have hk : k.val < 512 := k.isLt
  pointwise [joined]
  refine (dif_neg (by omega)).trans ?_
  refine (dif_neg (by omega)).trans ?_
  refine (dif_pos (by omega)).trans ?_
  exact congrArg (fun i => (dr (ix2 r i) : EReal)) (Fin.ext (by dsimp only; omega))

theorem joined_dk (dq : FVec Ideal S8192x512 .bf16) (dg : FVec Ideal S8192x512 .bf16) (dr : FVec Ideal S8192x512 .bf16) (dk : FVec Ideal S8192x128 .f32) (dv : FVec Ideal S8192x128 .f32) (r : Fin 8192) (k : Fin 128) (i : Fin 1792) (h : i.val = 1536 + k.val) :
    joined dq dg dr dk dv (ix2 r i) = dk (ix2 r k) := by
  have hk : k.val < 128 := k.isLt
  pointwise [joined]
  refine (dif_neg (by omega)).trans ?_
  refine (dif_neg (by omega)).trans ?_
  refine (dif_neg (by omega)).trans ?_
  refine (dif_pos (by omega)).trans ?_
  exact congrArg (fun i => (dk (ix2 r i) : EReal)) (Fin.ext (by dsimp only; omega))

theorem joined_dv (dq : FVec Ideal S8192x512 .bf16) (dg : FVec Ideal S8192x512 .bf16) (dr : FVec Ideal S8192x512 .bf16) (dk : FVec Ideal S8192x128 .f32) (dv : FVec Ideal S8192x128 .f32) (r : Fin 8192) (k : Fin 128) (i : Fin 1792) (h : i.val = 1664 + k.val) :
    joined dq dg dr dk dv (ix2 r i) = dv (ix2 r k) := by
  have hk : k.val < 128 := k.isLt
  pointwise [joined]
  refine (dif_neg (by omega)).trans ?_
  refine (dif_neg (by omega)).trans ?_
  refine (dif_neg (by omega)).trans ?_
  refine (dif_neg (by omega)).trans ?_
  exact congrArg (fun i => (dv (ix2 r i) : EReal)) (Fin.ext (by dsimp only; omega))

/-- The reference's product of the joined cotangents with the weights. -/
def refProduct (dq : FVec Ideal S8192x512 .bf16) (dg : FVec Ideal S8192x512 .bf16) (dr : FVec Ideal S8192x512 .bf16) (dk : FVec Ideal S8192x128 .f32) (dv : FVec Ideal S8192x128 .f32) (w : FVec Ideal S1024x1792 .bf16) : FVec Ideal S8192x1024 .f32 :=
  Host.dotGeneral (φ₁ := .f32) (φ₂ := .f32) dot_S8192x1792_S1024x1792_S8192x1024_1_1_0_0_n_n none (joined dq dg dr dk dv) (extf .f32 w bitsLt_bf16_f32)

theorem refProduct_sum (dq : FVec Ideal S8192x512 .bf16) (dg : FVec Ideal S8192x512 .bf16) (dr : FVec Ideal S8192x512 .bf16) (dk : FVec Ideal S8192x128 .f32) (dv : FVec Ideal S8192x128 .f32) (w : FVec Ideal S1024x1792 .bf16) (r : Fin 8192) (j : Fin 1024) :
    refProduct dq dg dr dk dv w (ix2 r j) = ∑ k : Fin 1792, (joined dq dg dr dk dv (ix2 r k) : EReal) * (w (ix2 j k) : EReal) := by
  pointwise [refProduct, dot_S8192x1792_S1024x1792_S8192x1024_1_1_0_0_n_n]

/-- It is the pieces' products. -/
theorem refProduct_at (dq : FVec Ideal S8192x512 .bf16) (dg : FVec Ideal S8192x512 .bf16) (dr : FVec Ideal S8192x512 .bf16) (dk : FVec Ideal S8192x128 .f32) (dv : FVec Ideal S8192x128 .f32) (w : FVec Ideal S1024x1792 .bf16) (r : Fin 8192) (j : Fin 1024) :
    refProduct dq dg dr dk dv w (ix2 r j)
      = ((((∑ k : Fin 512, (dq (ix2 r k) : EReal) * (w (ix2 j (past 0 (by decide) k)) : EReal)) + (∑ k : Fin 512, (dg (ix2 r k) : EReal) * (w (ix2 j (past 512 (by decide) k)) : EReal))) + (∑ k : Fin 512, (dr (ix2 r k) : EReal) * (w (ix2 j (past 1024 (by decide) k)) : EReal))) + (∑ k : Fin 128, (dk (ix2 r k) : EReal) * (w (ix2 j (past 1536 (by decide) k)) : EReal))) + (∑ k : Fin 128, (dv (ix2 r k) : EReal) * (w (ix2 j (past 1664 (by decide) k)) : EReal)) := by
  rw [refProduct_sum]
  rw [Cert.Sums.sum_split (n := 1792) 1664 128 (by decide), Cert.Sums.sum_split (n := 1664) 1536 128 (by decide), Cert.Sums.sum_split (n := 1536) 1024 512 (by decide), Cert.Sums.sum_split (n := 1024) 512 512 (by decide)]
  refine congrArg₂ (· + ·) (congrArg₂ (· + ·) (congrArg₂ (· + ·) (congrArg₂ (· + ·) ?_ ?_) ?_) ?_) ?_ <;> refine Finset.sum_congr rfl fun k _ => ?_
  · refine congrArg₂ (fun x y : EReal => x * y) (joined_dq dq dg dr dk dv r k _ (by first | rfl | (dsimp only; omega))) (congrArg (fun i => (w (ix2 j i) : EReal)) (Fin.ext (by unfold past; first | rfl | (dsimp only; omega))))
  · refine congrArg₂ (fun x y : EReal => x * y) (joined_dg dq dg dr dk dv r k _ (by first | rfl | (dsimp only; omega))) (congrArg (fun i => (w (ix2 j i) : EReal)) (Fin.ext (by unfold past; first | rfl | (dsimp only; omega))))
  · refine congrArg₂ (fun x y : EReal => x * y) (joined_dr dq dg dr dk dv r k _ (by first | rfl | (dsimp only; omega))) (congrArg (fun i => (w (ix2 j i) : EReal)) (Fin.ext (by unfold past; first | rfl | (dsimp only; omega))))
  · refine congrArg₂ (fun x y : EReal => x * y) (joined_dk dq dg dr dk dv r k _ (by first | rfl | (dsimp only; omega))) (congrArg (fun i => (w (ix2 j i) : EReal)) (Fin.ext (by unfold past; first | rfl | (dsimp only; omega))))
  · refine congrArg₂ (fun x y : EReal => x * y) (joined_dv dq dg dr dk dv r k _ (by first | rfl | (dsimp only; omega))) (congrArg (fun i => (w (ix2 j i) : EReal)) (Fin.ext (by unfold past; first | rfl | (dsimp only; omega))))

end Reference

/-! ## The claim -/

open Cert.Kernel15Ideal Idealize.ShloMosaic

attribute [local instance] Cert.Kernel15Ideal.Gen.facts Cert.Reference15Ideal.Gen.facts

theorem agree : Cert.algebraic_Kernel15Ideal_Reference15Ideal := by
  intro m g m' g' hp ha
  refine ⟨_, Cert.Kernel15Ideal.Value.run_blocks m g,
    (θ_run Cert.Reference15Ideal.defs _ _).mono (fun r h c => ?_) (Cert.Reference15Ideal.Value.run m' g')⟩
  obtain ⟨h0, hk⟩ := h c
  obtain ⟨e0, e1, e2, e3, e4, e5⟩ := ha c
  refine ⟨h0.trans ?_, hk⟩
  rw [e0, e1, e2, e3, e4, e5]
  funext i
  refine Eq.trans ?_ ((final m c i).trans (product_eq m c _ _)).symm
  rw [← ix2_eta i]
  exact refProduct_at _ _ _ _ _ _ (i 0) (i 1)

end Cert.InputCD

end
-- ==== Proof.MixResult.lean ====
/-
  The gradient of the residual layer norm as whole arrays of reals: what both programs are shown to return. The residual
  sum is `alpha * x + a @ w`, and the incoming gradient is `alpha * dya + dyb`.
-/
module

public import proofs.«01_k».proof.Proof.NormResult

@[expose] public section

noncomputable section

namespace Cert.Mix

open Cert.Norm

open Cert.Reals

/-- The arrays the gradient is taken at, as reals: mixers' output, residual stream, output projection, scale, and the
    two incoming gradients. -/
structure Inputs where
  a : Fin 8192 → Fin 1024 → ℝ
  x : Fin 8192 → Fin 1024 → ℝ
  w : Fin 1024 → Fin 1024 → ℝ
  g : Fin 1024 → ℝ
  dya : Fin 8192 → Fin 1024 → ℝ
  dyb : Fin 8192 → Fin 1024 → ℝ

variable (I : Inputs)

/-- The residual sum the norm is applied to. -/
def Inputs.r (p : Fin 8192) (j : Fin 1024) : ℝ := alpha * I.x p j + ∑ k, I.a p k * I.w k j

/-- The gradient with respect to the residual sum. -/
def Inputs.dr (p : Fin 8192) (j : Fin 1024) : ℝ := rowGrad (I.dya p) (I.dyb p) (I.r p) I.g j

/-- One row's part of the scale's gradient. -/
def Inputs.dgRow (p : Fin 8192) (j : Fin 1024) : ℝ := dy (I.dya p) (I.dyb p) j * unit (I.r p) j

/-- One row's part of the shift's gradient. -/
def Inputs.dbRow (p : Fin 8192) (j : Fin 1024) : ℝ := dy (I.dya p) (I.dyb p) j

/-- The gradient with respect to the mixers' output. -/
def Inputs.da (p : Fin 8192) (n : Fin 1024) : ℝ := ∑ k, I.dr p k * I.w n k

end Cert.Mix

end
-- ==== Proof.MixBlock.lean ====
/-
  What one grid point of the output norm-gradient kernel computes from its blocks, at real inputs: the scaled sum of the two
  incoming gradients, the norm's gradient row by row, and the partial sums for scale and shift.
-/
module

public import proofs.«01_k».proof.Proof.MixResult
public import proofs.«01_k».proof.Proof.Gen.Kernel16Ideal.Skeleton

@[expose] public section

set_option maxRecDepth 16384

noncomputable section

namespace Cert.Mix

open Cert.Norm

open Cert.Reals Cert.Kernel16Ideal Cert.Kernel16Ideal.Gen Idealize.ShloMosaic

section
variable (x0 x1 x2 : Vec Ideal S512x1024 .f32) (x3 : Vec Ideal S1x1024 .f32)
variable (a b r : Fin 512 → Fin 1024 → ℝ) (g : Fin 1024 → ℝ)

theorem pay8_at (h0 : ∀ p j, x0 (ix2 p j) = (a p j : EReal)) (h1 : ∀ p j, x1 (ix2 p j) = (b p j : EReal)) (p : Fin 512) (j : Fin 1024) :
    k0_pay8 x0 x1 (ix2 p j) = (dy (a p) (b p) j : EReal) := by
  pointwise [k0_pay8, h0, h1, ofBits_alpha]
  unfold dy; push_cast; rfl

theorem pay9_at (h2 : ∀ p j, x2 (ix2 p j) = (r p j : EReal)) (p : Fin 512) (j : Fin 1024) :
    k0_pay9 x2 (ix2 p j) = (centred (r p) j : EReal) := by
  pointwise [k0_pay9, h2, ofBits_1024, sum_coe]
  rw [div_coe_coe _ (by norm_num), ← EReal.coe_sub]; rfl

theorem pay10_at (h2 : ∀ p j, x2 (ix2 p j) = (r p j : EReal)) (p : Fin 512) :
    k0_pay10 x2 (ix2 p 0) = (invStd (r p) : EReal) := by
  have h := pay9_at x2 r h2
  pointwise [k0_pay10, h, ofBits_1024, ofBits_eps, ← EReal.coe_mul, sum_coe]
  rw [div_coe_coe _ (by norm_num), ← EReal.coe_add]
  exact rsqrt_pos (spread_pos (r p))

theorem pay11_at (h2 : ∀ p j, x2 (ix2 p j) = (r p j : EReal)) (p : Fin 512) (j : Fin 1024) :
    k0_pay11 x2 (ix2 p j) = (unit (r p) j : EReal) := by
  have h := pay9_at x2 r h2
  have h' := pay10_at x2 r h2
  pointwise [k0_pay11, h, h', ← EReal.coe_mul]
  rfl

theorem pay12_at (h0 : ∀ p j, x0 (ix2 p j) = (a p j : EReal)) (h1 : ∀ p j, x1 (ix2 p j) = (b p j : EReal))
    (h3 : ∀ j, x3 (ix2 0 j) = (g j : EReal)) (p : Fin 512) (j : Fin 1024) :
    k0_pay12 x0 x1 x3 (ix2 p j) = (scaled g (dy (a p) (b p)) j : EReal) := by
  have h := pay8_at x0 x1 a b h0 h1
  pointwise [k0_pay12, h, h3, ← EReal.coe_mul]
  rfl

theorem pay13_at (h0 : ∀ p j, x0 (ix2 p j) = (a p j : EReal)) (h1 : ∀ p j, x1 (ix2 p j) = (b p j : EReal))
    (h3 : ∀ j, x3 (ix2 0 j) = (g j : EReal)) (p : Fin 512) (j : Fin 1024) :
    k0_pay13 x0 x1 x3 (ix2 p j)
      = (scaled g (dy (a p) (b p)) j - mean (scaled g (dy (a p) (b p))) : ℝ) := by
  have h := pay12_at x0 x1 x3 a b g h0 h1 h3
  pointwise [k0_pay13, h, ofBits_1024, sum_coe]
  rw [div_coe_coe _ (by norm_num), ← EReal.coe_sub]; rfl

theorem pay14_at (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) :
    k0_pay14 x0 x1 x2 x3 (ix2 p 0)
      = (mean (fun k => scaled g (dy (a p) (b p)) k * unit (r p) k) : EReal) := by
  have h := pay12_at x0 x1 x3 a b g h0 h1 h3
  have h' := pay11_at x2 r h2
  pointwise [k0_pay14, h, h', ofBits_1024, ← EReal.coe_mul, sum_coe]
  rw [div_coe_coe _ (by norm_num)]; rfl

/-- The stored gradient block. -/
theorem pay1_at (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) (j : Fin 1024) :
    k0_pay1 (k0_pay10 x2) (k0_pay11 x2) (k0_pay13 x0 x1 x3) (k0_pay14 x0 x1 x2 x3) (ix2 p j)
      = (rowGrad (a p) (b p) (r p) g j : EReal) := by
  have h10 := pay10_at x2 r h2
  have h11 := pay11_at x2 r h2
  have h13 := pay13_at x0 x1 x3 a b g h0 h1 h3
  have h14 := pay14_at x0 x1 x2 x3 a b r g h0 h1 h2 h3
  pointwise [k0_pay1, h10, h11, h13, h14]
  rw [← EReal.coe_mul, ← EReal.coe_sub, ← EReal.coe_mul]; rfl

/-- The stored product block: the gradient times the transposed matrix. -/
theorem pay3_at (w : Vec Ideal S1024x1024 .bf16)
    (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) (n : Fin 1024) :
    k0_pay3 (k0_pay10 x2) (k0_pay11 x2) (k0_pay13 x0 x1 x3) (k0_pay14 x0 x1 x2 x3) w (ix2 p n)
      = ∑ k : Fin 1024, (rowGrad (a p) (b p) (r p) g k : EReal) * w (ix2 n k) := by
  have h := pay1_at x0 x1 x2 x3 a b r g h0 h1 h2 h3
  pointwise [k0_pay3, k0_pay2, dot_S512x1024_S1024x1024_S512x1024_1_1_0_0_n_n, h]

/-- The block's part of the scale's gradient. -/
theorem pay4_at (h0 : ∀ p j, x0 (ix2 p j) = (a p j : EReal)) (h1 : ∀ p j, x1 (ix2 p j) = (b p j : EReal))
    (h2 : ∀ p j, x2 (ix2 p j) = (r p j : EReal)) (j : Fin 1024) :
    k0_pay4 (k0_pay8 x0 x1) (k0_pay11 x2) (ix2 0 j) = ((∑ p, dy (a p) (b p) j * unit (r p) j : ℝ) : EReal) := by
  have h8 := pay8_at x0 x1 a b h0 h1
  have h11 := pay11_at x2 r h2
  pointwise [k0_pay4, h8, h11, ← EReal.coe_mul, sum_coe]

/-- The block's part of the shift's gradient. -/
theorem pay5_at (h0 : ∀ p j, x0 (ix2 p j) = (a p j : EReal)) (h1 : ∀ p j, x1 (ix2 p j) = (b p j : EReal)) (j : Fin 1024) :
    k0_pay5 (k0_pay8 x0 x1) (ix2 0 j) = ((∑ p, dy (a p) (b p) j : ℝ) : EReal) := by
  have h8 := pay8_at x0 x1 a b h0 h1
  pointwise [k0_pay5, h8, sum_coe]

end

end Cert.Mix

end
-- ==== Proof.MixCases.lean ====
/-
  What one grid point of the output norm-gradient kernel leaves in each output's staging buffer: at the first point (case A) the
  block's values, at a later point (case B) the same with the running sums for scale and shift added to.
-/
module

public import Idealize.ShloMosaic.Lib.Pipeline.ValueKit
public import proofs.«01_k».proof.Proof.Gen.Kernel16Ideal.Frame
public import Idealize.ShloMosaic.Lib.Pipeline.Value
public import Idealize.ShloMosaic.Lib.Tactic

@[expose] public section

set_option maxRecDepth 16384

noncomputable section

namespace Cert.Mix

open Cert.Kernel16Ideal Cert.Kernel16Ideal.Gen Idealize.ShloMosaic Idealize.ShloMosaic.TcCoe Idealize.SL.Sem

variable {F : FTy → Type} [FloatOps F]
variable (c : Dev nD) (i : grid0.Coords)
variable (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S1024x1024 .bf16) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (a10 : Memref sig .tc .vmem S512x1024 .f32) (h10 : a10.IsWhole)
variable (x0 x1 x2 : Vec F S512x1024 .f32) (x3 : Vec F S1x1024 .f32) (x4 : Vec F S1024x1024 .bf16) (xo7 xo8 : Vec F S1x1024 .f32)

/-- Case A, the gradient block. -/
theorem out_A_5 (hc0 : cond0_0 i) (hc1 : ¬cond0_1 i) :
    out0_A_5 c i a1 h1 a2 h2 a3 h3 a4 h4 a5 h5 a6 h6 a7 h7 a8 h8 a9 h9 a10 h10 hc0 hc1 x0 x1 x2 x3 x4
      = k0_pay1 (k0_pay10 x2) (k0_pay11 x2) (k0_pay13 x0 x1 x3) (k0_pay14 x0 x1 x2 x3) := by
  frame_out

/-- Case A, its half-precision copy. -/
theorem out_A_6 (hc0 : cond0_0 i) (hc1 : ¬cond0_1 i) :
    out0_A_6 c i a1 h1 a2 h2 a3 h3 a4 h4 a5 h5 a6 h6 a7 h7 a8 h8 a9 h9 a10 h10 hc0 hc1 x0 x1 x2 x3 x4
      = k0_pay2 (k0_pay10 x2) (k0_pay11 x2) (k0_pay13 x0 x1 x3) (k0_pay14 x0 x1 x2 x3) := by
  frame_out

/-- Case A, the scale's gradient. -/
theorem out_A_7 (hc0 : cond0_0 i) (hc1 : ¬cond0_1 i) :
    out0_A_7 c i a1 h1 a2 h2 a3 h3 a4 h4 a5 h5 a6 h6 a7 h7 a8 h8 a9 h9 a10 h10 hc0 hc1 x0 x1 x2 x3 x4
      = k0_pay4 (k0_pay8 x0 x1) (k0_pay11 x2) := by
  frame_out

/-- Case A, the shift's gradient. -/
theorem out_A_8 (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4
      = k0_pay5 (k0_pay8 x0 x1) := by
  frame_out

/-- Case A, the product block. -/
theorem out_A_9 (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4
      = k0_pay3 (k0_pay10 x2) (k0_pay11 x2) (k0_pay13 x0 x1 x3) (k0_pay14 x0 x1 x2 x3) x4 := by
  frame_out

/-- Case B, the gradient block. -/
theorem out_B_5 (hc0 : ¬cond0_0 i) (hc1 : cond0_1 i) :
    out0_B_5 c i a1 h1 a2 h2 a3 h3 a4 h4 a5 h5 a6 h6 a7 h7 a8 h8 a9 h9 a10 h10 hc0 hc1 x0 x1 x2 x3 x4 xo7 xo8
      = k0_pay1 (k0_pay10 x2) (k0_pay11 x2) (k0_pay13 x0 x1 x3) (k0_pay14 x0 x1 x2 x3) := by
  frame_out

/-- Case B, its half-precision copy. -/
theorem out_B_6 (hc0 : ¬cond0_0 i) (hc1 : cond0_1 i) :
    out0_B_6 c i a1 h1 a2 h2 a3 h3 a4 h4 a5 h5 a6 h6 a7 h7 a8 h8 a9 h9 a10 h10 hc0 hc1 x0 x1 x2 x3 x4 xo7 xo8
      = k0_pay2 (k0_pay10 x2) (k0_pay11 x2) (k0_pay13 x0 x1 x3) (k0_pay14 x0 x1 x2 x3) := by
  frame_out

/-- Case B, the scale's gradient. -/
theorem out_B_7 (hc0 : ¬cond0_0 i) (hc1 : cond0_1 i) :
    out0_B_7 c i a1 h1 a2 h2 a3 h3 a4 h4 a5 h5 a6 h6 a7 h7 a8 h8 a9 h9 a10 h10 hc0 hc1 x0 x1 x2 x3 x4 xo7 xo8
      = k0_pay6 (k0_pay8 x0 x1) (k0_pay11 x2) xo7 := by
  frame_out

/-- Case B, the shift's gradient. -/
theorem out_B_8 (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 xo7 xo8
      = k0_pay7 (k0_pay8 x0 x1) xo8 := by
  frame_out

/-- Case B, the product block. -/
theorem out_B_9 (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 xo7 xo8
      = k0_pay3 (k0_pay10 x2) (k0_pay11 x2) (k0_pay13 x0 x1 x3) (k0_pay14 x0 x1 x2 x3) x4 := by
  frame_out

end Cert.Mix

end
-- ==== Proof.MixArrays.lean ====
/-
  The arrays the output norm-gradient kernel leaves, at real inputs: the blocks each grid point reads, what it writes back, and
  the five result arrays whole.
-/
module

public import proofs.«01_k».proof.Proof.BlockAt
public import proofs.«01_k».proof.Proof.MixBlock
public import proofs.«01_k».proof.Proof.MixCases
public import proofs.«01_k».proof.Proof.Gen.Kernel16Ideal.Value

@[expose] public section

set_option maxRecDepth 16384

noncomputable section

namespace Cert.Mix

open Cert.Norm

open Cert.Reals Cert.Sums Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ) (c : Dev nD) (I : Inputs)

/-- The kernel's argument arrays hold the reals `I`. -/
structure Holds : Prop where
  a : ∀ p k, m ((c : Thread nD τ).loc main_arg0) (ix2 p k) = (I.a p k : EReal)
  x : ∀ p k, m ((c : Thread nD τ).loc main_arg1) (ix2 p k) = (I.x p k : EReal)
  w : ∀ p k, m ((c : Thread nD τ).loc main_arg2) (ix2 p k) = (I.w p k : EReal)
  g : ∀ k, m ((c : Thread nD τ).loc main_arg3) (ix1 k) = (I.g k : EReal)
  dya : ∀ p k, m ((c : Thread nD τ).loc main_arg5) (ix2 p k) = (I.dya p k : EReal)
  dyb : ∀ p k, m ((c : Thread nD τ).loc main_arg6) (ix2 p k) = (I.dyb p k : EReal)

variable {m c I}

/-- The residual sum the host prepares. -/
theorem V_r (H : Holds m c I) (p : Fin 8192) (j : Fin 1024) : V m c main_v3 (ix2 p j) = (I.r p j : EReal) := by
  have e : V m c main_v3 = addf (F := Ideal) (φ := .f32) (mulf (broadcastInDim S8192x1024 ![] bcast_S_S8192x1024 (constant S_ .f32 0x3FD744FD#32)) (m ((c : Thread nD τ).loc main_arg1)))
      (Host.dotGeneral (φ₁ := .f32) (φ₂ := .f32) dot_S8192x1024_S1024x1024_S8192x1024_1_0_0_1_n_n none (m ((c : Thread nD τ).loc main_arg0)) (m ((c : Thread nD τ).loc main_arg2))) := by
    unfold V; after_results_simp <;> rfl
  rw [e]
  pointwise [dot_S8192x1024_S1024x1024_S8192x1024_1_0_0_1_n_n, ofBits_alpha, H.a, H.x, H.w, ← EReal.coe_mul, sum_coe]
  rw [← EReal.coe_add]; rfl

/-- The row of scales. -/
theorem V_g (H : Holds m c I) (j : Fin 1024) : V m c main_v5 (ix2 0 j) = (I.g j : EReal) := by
  have e : V m c main_v5 = shapeCast S1x1024 (m ((c : Thread nD τ).loc main_arg3)) shapeCasts_S1024_S1x1024 := by
    unfold V; after_results_simp <;> rfl
  rw [e]
  pointwise [H.g]

/-- The projection in half precision. -/
theorem V_w (H : Holds m c I) (p : Fin 1024) (j : Fin 1024) : V m c main_v4 (ix2 p j) = (I.w p j : EReal) := by
  have e : V m c main_v4 = truncf (F := Ideal) (φ := .f32) .bf16 (m ((c : Thread nD τ).loc main_arg2)) bitsLt_bf16_f32 := by
    unfold V; after_results_simp <;> rfl
  rw [e]
  pointwise [H.w]

/-- Row `q` of grid point `t`'s blocks, as a row of the arrays. -/
def row (t : Fin cfg0.N) (q : Fin 512) : Fin 8192 := ⟨512 * t.val + q.val, by have := t.isLt; have : cfg0.N = 16 := N_0; have := q.isLt; omega⟩

theorem index_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) ∧ (win0_9.index t 0 = t.val ∧ win0_9.index t 1 = 0) := by
  decide +kernel

theorem iblk0 (H : Holds m c I) (t : Fin cfg0.N) (q : Fin 512) (j : Fin 1024) : iblk m c 0 t (ix2 q j) = (I.dya (row t q) j : EReal) := by
  obtain ⟨h0, h1⟩ := (index_rows t).1
  rw [← H.dya, ← V_main_arg5 m c]
  unfold iblk
  exact congrArg (V m c main_arg5) (at2 _ (spot 512 q.val h0 (by show _ = 512 * t.val + q.val; omega)) (spot 1024 j.val h1 (by show _ = j.val; omega)))

theorem iblk1 (H : Holds m c I) (t : Fin cfg0.N) (q : Fin 512) (j : Fin 1024) : iblk m c 1 t (ix2 q j) = (I.dyb (row t q) j : EReal) := by
  obtain ⟨h0, h1⟩ := (index_rows t).2.1
  rw [← H.dyb, ← V_main_arg6 m c]
  unfold iblk
  exact congrArg (V m c main_arg6) (at2 _ (spot 512 q.val h0 (by show _ = 512 * t.val + q.val; omega)) (spot 1024 j.val h1 (by show _ = j.val; omega)))

theorem iblk2 (H : Holds m c I) (t : Fin cfg0.N) (q : Fin 512) (j : Fin 1024) : iblk m c 2 t (ix2 q j) = (I.r (row t q) j : EReal) := by
  obtain ⟨h0, h1⟩ := (index_rows t).2.2.1
  rw [← V_r H]
  unfold iblk
  exact congrArg (V m c main_v3) (at2 _ (spot 512 q.val h0 (by show _ = 512 * t.val + q.val; omega)) (spot 1024 j.val h1 (by show _ = j.val; omega)))

theorem iblk3 (H : Holds m c I) (t : Fin cfg0.N) (j : Fin 1024) : iblk m c 3 t (ix2 0 j) = (I.g j : EReal) := by
  obtain ⟨h0, h1⟩ := (index_rows t).2.2.2.1
  rw [← V_g H]
  unfold iblk
  exact congrArg (V m c main_v5) (at2 _ (spot 1 0 h0 (by show _ = 0; omega)) (spot 1024 j.val h1 (by show _ = j.val; omega)))

theorem iblk4 (H : Holds m c I) (t : Fin cfg0.N) (q : Fin 1024) (j : Fin 1024) : iblk m c 4 t (ix2 q j) = (I.w q j : EReal) := by
  obtain ⟨h0, h1⟩ := (index_rows t).2.2.2.2.1
  rw [← V_w H]
  unfold iblk
  exact congrArg (V m c main_v4) (at2 _ (spot 1024 q.val h0 (by show _ = q.val; omega)) (spot 1024 j.val h1 (by show _ = j.val; omega)))

/-- The gradient block a point leaves. -/
theorem outs5 (H : Holds m c I) (t : Fin cfg0.N) (q : Fin 512) (j : Fin 1024) :
    (outsAt0 m c t.val t.isLt).1 (ix2 q j) = (I.dr (row t q) j : EReal) := by
  have hN : cfg0.N = 16 := N_0
  have ht := t.isLt
  by_cases h : t.val = 0
  · rw [outsAt0_A m c t (by omega) (by omega)]
    dsimp only
    rw [out_A_5]
    exact pay1_at _ _ _ _ _ _ _ _ (iblk0 H t) (iblk1 H t) (iblk2 H t) (iblk3 H t) q j
  · rw [outsAt0_B m c t (by omega) (by omega)]
    dsimp only
    rw [out_B_5]
    exact pay1_at _ _ _ _ _ _ _ _ (iblk0 H t) (iblk1 H t) (iblk2 H t) (iblk3 H t) q j

/-- Its half-precision copy. -/
theorem outs6 (H : Holds m c I) (t : Fin cfg0.N) (q : Fin 512) (j : Fin 1024) :
    (outsAt0 m c t.val t.isLt).2.1 (ix2 q j) = (I.dr (row t q) j : EReal) := by
  have hN : cfg0.N = 16 := N_0
  have ht := t.isLt
  by_cases h : t.val = 0
  · rw [outsAt0_A m c t (by omega) (by omega)]
    dsimp only
    rw [out_A_6]
    exact pay1_at _ _ _ _ _ _ _ _ (iblk0 H t) (iblk1 H t) (iblk2 H t) (iblk3 H t) q j
  · rw [outsAt0_B m c t (by omega) (by omega)]
    dsimp only
    rw [out_B_6]
    exact pay1_at _ _ _ _ _ _ _ _ (iblk0 H t) (iblk1 H t) (iblk2 H t) (iblk3 H t) q j

/-- The product block. -/
theorem outs9 (H : Holds m c I) (t : Fin cfg0.N) (q : Fin 512) (n : Fin 1024) :
    (outsAt0 m c t.val t.isLt).2.2.2.2 (ix2 q n) = (I.da (row t q) n : EReal) := by
  have hN : cfg0.N = 16 := N_0
  have ht := t.isLt
  by_cases h : t.val = 0
  · rw [outsAt0_A m c t (by omega) (by omega)]
    dsimp only
    rw [out_A_9]
    rw [pay3_at _ _ _ _ _ _ _ _ _ (iblk0 H t) (iblk1 H t) (iblk2 H t) (iblk3 H t) q n]
    simp only [iblk4 H t, ← EReal.coe_mul, sum_coe]; rfl
  · rw [outsAt0_B m c t (by omega) (by omega)]
    dsimp only
    rw [out_B_9]
    rw [pay3_at _ _ _ _ _ _ _ _ _ (iblk0 H t) (iblk1 H t) (iblk2 H t) (iblk3 H t) q n]
    simp only [iblk4 H t, ← EReal.coe_mul, sum_coe]; rfl

/-- The running sum for the scale after point `n`: the rows of the blocks so far. -/
theorem outs7 (H : Holds m c I) (j : Fin 1024) : ∀ (n : ℕ) (hn : n < cfg0.N),
    (outsAt0 m c n hn).2.2.1 (ix2 0 j) = ((upTo (fun p => I.dgRow p j) (512 * (n + 1)) : ℝ) : EReal)
  | 0, hn => by
    have hA := outsAt0_A m c ⟨0, hn⟩ (by simp) (by simp)
    dsimp only at hA
    rw [hA]
    dsimp only
    rw [out_A_7, pay4_at _ _ _ _ _ _ (iblk0 H _) (iblk1 H _) (iblk2 H _) j]
    rw [show 512 * (0 + 1) = 0 + 512 from rfl, upTo_add _ _ 512 (by omega), upTo_zero, zero_add]
    rfl
  | n + 1, hn => by
    have hN : cfg0.N = 16 := N_0
    have hB := outsAt0_B m c ⟨n + 1, hn⟩ (by dsimp only; omega) (by dsimp only; omega)
    dsimp only at hB
    rw [hB]
    dsimp only
    have ih := outs7 H j n (Nat.lt_of_succ_lt hn)
    have hb := pay4_at _ _ _ _ _ _ (iblk0 H ⟨n + 1, hn⟩) (iblk1 H ⟨n + 1, hn⟩) (iblk2 H ⟨n + 1, hn⟩) j
    rw [out_B_7]
    pointwise [k0_pay6, hb]
    have e : (outsAt0 m c (n + 1 - 1) (Nat.lt_of_succ_lt hn)).2.2.1 (ix2 0 j) = _ := ih
    rw [show 512 * (n + 1 + 1) = 512 * (n + 1) + 512 by ring, upTo_add _ _ 512 (by omega), EReal.coe_add]
    exact congrArg₂ (· + ·) ih rfl

/-- The running sum for the shift after point `n`: the rows of the blocks so far. -/
theorem outs8 (H : Holds m c I) (j : Fin 1024) : ∀ (n : ℕ) (hn : n < cfg0.N),
    (outsAt0 m c n hn).2.2.2.1 (ix2 0 j) = ((upTo (fun p => I.dbRow p j) (512 * (n + 1)) : ℝ) : EReal)
  | 0, hn => by
    have hA := outsAt0_A m c ⟨0, hn⟩ (by simp) (by simp)
    dsimp only at hA
    rw [hA]
    dsimp only
    rw [out_A_8, pay5_at _ _ _ _ (iblk0 H _) (iblk1 H _) j]
    rw [show 512 * (0 + 1) = 0 + 512 from rfl, upTo_add _ _ 512 (by omega), upTo_zero, zero_add]
    rfl
  | n + 1, hn => by
    have hN : cfg0.N = 16 := N_0
    have hB := outsAt0_B m c ⟨n + 1, hn⟩ (by dsimp only; omega) (by dsimp only; omega)
    dsimp only at hB
    rw [hB]
    dsimp only
    have ih := outs8 H j n (Nat.lt_of_succ_lt hn)
    have hb := pay5_at _ _ _ _ (iblk0 H ⟨n + 1, hn⟩) (iblk1 H ⟨n + 1, hn⟩) j
    rw [out_B_8]
    pointwise [k0_pay7, hb]
    have e : (outsAt0 m c (n + 1 - 1) (Nat.lt_of_succ_lt hn)).2.2.2.1 (ix2 0 j) = _ := ih
    rw [show 512 * (n + 1 + 1) = 512 * (n + 1) + 512 by ring, upTo_add _ _ 512 (by omega), EReal.coe_add]
    exact congrArg₂ (· + ·) ih rfl

/-- The gradient array. -/
theorem final5 (H : Holds m c I) (p : Fin 8192) (j : Fin 1024) :
    (dats m 0 c).arrAt 5 cfg0.N (ix2 p j) = (I.dr p j : EReal) := by
  have hN : cfg0.N = 16 := N_0
  refine (dats m 0 c).arrAt_forall_of_cover 5 (fun i v => v = (I.dr (i 0) (i 1) : EReal)) (fun t hf y => ?_) (fun i => ?_) (ix2 p j)
  · obtain ⟨h0, h1⟩ := (index_rows t).2.2.2.2.2.1
    rw [Value.flushed5]
    have e := outs5 H t (y 0) (y 1)
    have hy : (y : S512x1024.Idx) = ix2 (y 0) (y 1) := eq_ix2 _
    refine Eq.trans (?_ : _ = _) (e.trans ?_)
    · exact congrArg (outsAt0 m c t.val t.isLt).1 hy
    · have e0 : row t (y 0) = ((cfg0.win 5).blk t).view.emb y 0 := Fin.ext (by
        show 512 * t.val + (y 0).val = win0_5.index t 0 * 512 + 1 * (y 0).val; rw [h0]; omega)
      have e1 : (y 1 : Fin 1024) = ((cfg0.win 5).blk t).view.emb y 1 := Fin.ext (by
        show (y 1).val = win0_5.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.1
    refine ⟨⟨(i 0 : Nat) / 512, ht⟩, flush0_5 _, ?_⟩
    show i ∈ ((View.whole main_v6_0).slice (win0_5.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- Its half-precision copy. -/
theorem final6 (H : Holds m c I) (p : Fin 8192) (j : Fin 1024) :
    (dats m 0 c).arrAt 6 cfg0.N (ix2 p j) = (I.dr p j : EReal) := by
  have hN : cfg0.N = 16 := N_0
  refine (dats m 0 c).arrAt_forall_of_cover 6 (fun i v => v = (I.dr (i 0) (i 1) : EReal)) (fun t hf y => ?_) (fun i => ?_) (ix2 p j)
  · obtain ⟨h0, h1⟩ := (index_rows t).2.2.2.2.2.2.1
    rw [Value.flushed6]
    have e := outs6 H t (y 0) (y 1)
    have hy : (y : S512x1024.Idx) = ix2 (y 0) (y 1) := eq_ix2 _
    refine Eq.trans (?_ : _ = _) (e.trans ?_)
    · exact congrArg (outsAt0 m c t.val t.isLt).2.1 hy
    · have e0 : row t (y 0) = ((cfg0.win 6).blk t).view.emb y 0 := Fin.ext (by
        show 512 * t.val + (y 0).val = win0_6.index t 0 * 512 + 1 * (y 0).val; rw [h0]; omega)
      have e1 : (y 1 : Fin 1024) = ((cfg0.win 6).blk t).view.emb y 1 := Fin.ext (by
        show (y 1).val = win0_6.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.2.1
    refine ⟨⟨(i 0 : Nat) / 512, ht⟩, flush0_6 _, ?_⟩
    show i ∈ ((View.whole main_v6_1).slice (win0_6.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- The product array. -/
theorem final9 (H : Holds m c I) (p : Fin 8192) (j : Fin 1024) :
    (dats m 0 c).arrAt 9 cfg0.N (ix2 p j) = (I.da p j : EReal) := by
  have hN : cfg0.N = 16 := N_0
  refine (dats m 0 c).arrAt_forall_of_cover 9 (fun i v => v = (I.da (i 0) (i 1) : EReal)) (fun t hf y => ?_) (fun i => ?_) (ix2 p j)
  · obtain ⟨h0, h1⟩ := (index_rows t).2.2.2.2.2.2.2.2.2
    rw [Value.flushed9]
    have e := outs9 H t (y 0) (y 1)
    have hy : (y : S512x1024.Idx) = ix2 (y 0) (y 1) := eq_ix2 _
    refine Eq.trans (?_ : _ = _) (e.trans ?_)
    · exact congrArg (outsAt0 m c t.val t.isLt).2.2.2.2 hy
    · have e0 : row t (y 0) = ((cfg0.win 9).blk t).view.emb y 0 := Fin.ext (by
        show 512 * t.val + (y 0).val = win0_9.index t 0 * 512 + 1 * (y 0).val; rw [h0]; omega)
      have e1 : (y 1 : Fin 1024) = ((cfg0.win 9).blk t).view.emb y 1 := Fin.ext (by
        show (y 1).val = win0_9.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.2.2.2.2
    refine ⟨⟨(i 0 : Nat) / 512, ht⟩, flush0_9 _, ?_⟩
    show i ∈ ((View.whole main_v6_4).slice (win0_9.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- The scale's gradient, over all rows. -/
theorem final7 (H : Holds m c I) (j : Fin 1024) :
    (dats m 0 c).arrAt 7 cfg0.N (ix2 0 j) = ((∑ p, I.dgRow p j : ℝ) : EReal) := by
  have hN : cfg0.N = 16 := N_0
  refine (dats m 0 c).arrAt_forall_of_cover 7 (fun i v => v = ((∑ p, I.dgRow p (i 1) : ℝ) : EReal)) (fun t hf y => ?_) (fun i => ?_) (ix2 0 j)
  · obtain ⟨h0, h1⟩ := (index_rows t).2.2.2.2.2.2.2.1
    have ht := t.isLt
    have h15 : t.val = 15 := by have := (flush0_7 t).mp hf; have : cfg0.grid.N = 16 := N_0; omega
    rw [Value.flushed7]
    have e := outs7 H (y 1) t.val t.isLt
    have hy : (y : S1x1024.Idx) = ix2 0 (y 1) := (eq_ix2 _).trans (congrArg (fun k => ix2 k (y 1)) (Fin.fin_one_eq_zero _))
    refine Eq.trans (?_ : _ = _) (e.trans ?_)
    · exact congrArg (outsAt0 m c t.val t.isLt).2.2.1 hy
    · have e1 : (y 1 : Fin 1024) = ((cfg0.win 7).blk t).view.emb y 1 := Fin.ext (by
        show (y 1).val = win0_7.index t 1 * 1024 + 1 * (y 1).val; rw [h1]; omega)
      rw [h15, show 512 * (15 + 1) = 8192 from rfl, upTo_all, e1]
  · have hi0 : (i 0 : Nat) < 1 := (i 0).isLt
    have hi1 : (i 1 : Nat) < 1024 := (i 1).isLt
    have ht : 15 < cfg0.N := by omega
    obtain ⟨h0, h1⟩ := (index_rows ⟨15, ht⟩).2.2.2.2.2.2.2.1
    refine ⟨⟨15, ht⟩, (flush0_7 _).mpr rfl, ?_⟩
    show i ∈ ((View.whole main_v6_2).slice (win0_7.rect ⟨15, ht⟩)).set
    rw [View.set_slice_whole, Rect.mem_set_unit]
    intro a
    match a with
    | ⟨0, _⟩ => exact span 1 (i 0).val h0 (by omega)
    | ⟨1, _⟩ => exact span 1024 (i 1).val h1 (by omega)

/-- The shift's gradient, over all rows. -/
theorem final8 (H : Holds m c I) (j : Fin 1024) :
    (dats m 0 c).arrAt 8 cfg0.N (ix2 0 j) = ((∑ p, I.dbRow p j : ℝ) : EReal) := by
  have hN : cfg0.N = 16 := N_0
  refine (dats m 0 c).arrAt_forall_of_cover 8 (fun i v => v = ((∑ p, I.dbRow p (i 1) : ℝ) : EReal)) (fun t hf y => ?_) (fun i => ?_) (ix2 0 j)
  · obtain ⟨h0, h1⟩ := (index_rows t).2.2.2.2.2.2.2.2.1
    have ht := t.isLt
    have h15 : t.val = 15 := by have := (flush0_8 t).mp hf; have : cfg0.grid.N = 16 := N_0; omega
    rw [Value.flushed8]
    have e := outs8 H (y 1) t.val t.isLt
    have hy : (y : S1x1024.Idx) = ix2 0 (y 1) := (eq_ix2 _).trans (congrArg (fun k => ix2 k (y 1)) (Fin.fin_one_eq_zero _))
    refine Eq.trans (?_ : _ = _) (e.trans ?_)
    · exact congrArg (outsAt0 m c t.val t.isLt).2.2.2.1 hy
    · have e1 : (y 1 : Fin 1024) = ((cfg0.win 8).blk t).view.emb y 1 := Fin.ext (by
        show (y 1).val = win0_8.index t 1 * 1024 + 1 * (y 1).val; rw [h1]; omega)
      rw [h15, show 512 * (15 + 1) = 8192 from rfl, upTo_all, e1]
  · have hi0 : (i 0 : Nat) < 1 := (i 0).isLt
    have hi1 : (i 1 : Nat) < 1024 := (i 1).isLt
    have ht : 15 < cfg0.N := by omega
    obtain ⟨h0, h1⟩ := (index_rows ⟨15, ht⟩).2.2.2.2.2.2.2.2.1
    refine ⟨⟨15, ht⟩, (flush0_8 _).mpr rfl, ?_⟩
    show i ∈ ((View.whole main_v6_3).slice (win0_8.rect ⟨15, ht⟩)).set
    rw [View.set_slice_whole, Rect.mem_set_unit]
    intro a
    match a with
    | ⟨0, _⟩ => exact span 1 (i 0).val h0 (by omega)
    | ⟨1, _⟩ => exact span 1024 (i 1).val h1 (by omega)

end Cert.Mix

end
-- ==== Proof.MixFinite.lean ====
/-
  The precondition of the norm's claim: the arguments hold real numbers.
-/
module

public import proofs.«01_k».proof.Defs
public import proofs.«01_k».proof.Proof.Finite
public import proofs.«01_k».proof.Proof.MixArrays
public import proofs.«01_k».proof.Proof.Gen.Pre_out_finite

@[expose] public section

noncomputable section

namespace Cert.Mix

open Cert.Norm

open Cert.Reals Cert.Kernel16Ideal Cert.Kernel16Ideal.Gen Idealize.ShloMosaic Idealize.ShloMosaic.TcCoe Idealize.SL.Sem

attribute [local instance] Cert.Pre_out_finite.Gen.facts

/-- The reals the arguments hold. -/
def inputs (m : (ℓ : Loc nD τ sig) → Buf (Elt Ideal) ℓ) (c : Dev nD) : Inputs where
  a p k := (m ((c : Thread nD τ).loc main_arg0) (ix2 p k) : EReal).toReal
  x p k := (m ((c : Thread nD τ).loc main_arg1) (ix2 p k) : EReal).toReal
  w p k := (m ((c : Thread nD τ).loc main_arg2) (ix2 p k) : EReal).toReal
  g k := (m ((c : Thread nD τ).loc main_arg3) (ix1 k) : EReal).toReal
  dya p k := (m ((c : Thread nD τ).loc main_arg5) (ix2 p k) : EReal).toReal
  dyb p k := (m ((c : Thread nD τ).loc main_arg6) (ix2 p k) : EReal).toReal

theorem holds_of_finite (m : (ℓ : Loc nD τ sig) → Buf (Elt Ideal) ℓ) (h : Cert.Pre_Kernel16Ideal_out_finite m) (c : Dev nD) :
    Holds m c (inputs m c) := by
  have e := congrFun (h c) (fun k => k.elim0)
  unfold Cert.Pre_out_finite.fn Cert.Pre_out_finite.fn_part1 at e
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun p k => (finite_of_all ofBits_inf h0 _).symm, fun p k => (finite_of_all ofBits_inf h1 _).symm, fun p k => (finite_of_all ofBits_inf h2 _).symm,
    fun k => (finite_of_all ofBits_inf h3 _).symm, fun p k => (finite_of_all ofBits_inf h5 _).symm, fun p k => (finite_of_all ofBits_inf h6 _).symm⟩

end Cert.Mix

end
-- ==== Proof.MixRef.lean ====
/-
  What the reference computes, at real inputs: the vector-Jacobian product of the residual layer norm and of the output
  projection, stage by stage, is the gradient arrays of `MixResult`.
-/
module

public import proofs.«01_k».proof.Proof.MixResult
public import proofs.«01_k».proof.Proof.Gen.Reference16Ideal.Run

@[expose] public section

set_option maxRecDepth 16384

noncomputable section

namespace Cert.Mix

open Cert.Norm

open Cert.Reals Cert.Reference16Ideal Cert.Reference16Ideal.Gen Cert.Reference16Ideal.Value Idealize.ShloMosaic Idealize.ShloMosaic.TcCoe Idealize.SL.Sem

/-! ## The stages, as the reference writes them -/

section Stages

/-- The cotangent of the norm's output. -/
def refDy (a b : FVec Ideal S8192x1024 .f32) : FVec Ideal S8192x1024 .f32 :=
  addf (mulf (broadcastInDim S8192x1024 ![] bcast_S_S8192x1024 (constant S_ .f32 0x3FD744FD#32)) a) b

/-- The residual sum. -/
def refR (a : FVec Ideal S8192x1024 .f32) (x : FVec Ideal S8192x1024 .f32) (w : FVec Ideal S1024x1024 .f32) : FVec Ideal S8192x1024 .f32 :=
  addf (mulf (broadcastInDim S8192x1024 ![] bcast_S_S8192x1024 (constant S_ .f32 0x3FD744FD#32)) x)
    (Host.dotGeneral dot_S8192x1024_S1024x1024_S8192x1024_1_0_0_1_n_n none a w)

/-- A sum along each row, kept as a column. -/
def refSum (x : FVec Ideal S8192x1024 .f32) : FVec Ideal S8192x1 .f32 :=
  broadcastInDim S8192x1 ![0] bcast_S8192_S8192x1_0 (Host.reduceAdd x (constant S_ .f32 0x00000000#32) reducesTo_S8192x1024_S8192_d1 h_S_)

/-- The column of 1024. -/
def refN : FVec Ideal S8192x1 .f32 := broadcastInDim S8192x1 ![] bcast_S_S8192x1 (constant S_ .f32 0x44800000#32)

/-- The residual sum less its row means. -/
def refXc (r : FVec Ideal S8192x1024 .f32) : FVec Ideal S8192x1024 .f32 :=
  subf r (broadcastInDim S8192x1024 ![0, 1] bcast_S8192x1_S8192x1024_0_1 (Host.divf (refSum r) refN))

/-- The row variances plus epsilon. -/
def refSpread (xc : FVec Ideal S8192x1024 .f32) : FVec Ideal S8192x1 .f32 :=
  addf (Host.divf (refSum (mulf xc xc)) refN) (broadcastInDim S8192x1 ![] bcast_S_S8192x1 (constant S_ .f32 0x3727C5AC#32))

/-- The normalised rows. -/
def refUnit (xc : FVec Ideal S8192x1024 .f32) (s : FVec Ideal S8192x1 .f32) : FVec Ideal S8192x1024 .f32 :=
  mulf xc (broadcastInDim S8192x1024 ![0, 1] bcast_S8192x1_S8192x1024_0_1 (Host.rsqrt s))

/-- The cotangent of the normalised rows. -/
def refScaled (d : FVec Ideal S8192x1024 .f32) (g : FVec Ideal S1024 .f32) : FVec Ideal S8192x1024 .f32 :=
  mulf d (broadcastInDim S8192x1024 ![0, 1] bcast_S1x1024_S8192x1024_0_1 (broadcastInDim S1x1024 ![1] bcast_S1024_S1x1024_1 g))

/-- The cotangent of the variance sums. -/
def refVarCt (xc d : FVec Ideal S8192x1024 .f32) (s : FVec Ideal S8192x1 .f32) : FVec Ideal S8192x1 .f32 :=
  Host.divf (mulf (shapeCast _ (Host.reduceAdd (mulf xc d) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt s) s))) refN

/-- A column read along the rows. -/
def refSpreadCol (v : FVec Ideal S8192x1 .f32) : FVec Ideal S8192x1024 .f32 :=
  broadcastInDim S8192x1024 ![0] bcast_S8192_S8192x1024_0 (Host.reduceAdd v (constant S_ .f32 0x00000000#32) reducesTo_S8192x1_S8192_d1 h_S_)

/-- The variance's part of the gradient. -/
def refPart (xc : FVec Ideal S8192x1024 .f32) (v : FVec Ideal S8192x1 .f32) : FVec Ideal S8192x1024 .f32 :=
  mulf (refSpreadCol v) (mulf (broadcastInDim S8192x1024 ![] bcast_S_S8192x1024 (constant S_ .f32 0x40000000#32)) xc)

/-- The cotangent scaled by the inverse deviation. -/
def refStep (d : FVec Ideal S8192x1024 .f32) (s : FVec Ideal S8192x1 .f32) : FVec Ideal S8192x1024 .f32 :=
  mulf d (broadcastInDim S8192x1024 ![0, 1] bcast_S8192x1_S8192x1024_0_1 (Host.rsqrt s))

/-- Minus a row sum, kept as a column. -/
def refNegSum (x : FVec Ideal S8192x1024 .f32) : FVec Ideal S8192x1 .f32 :=
  shapeCast _ (Host.reduceAdd (Host.negf x) (constant S_ .f32 0x00000000#32) reducesTo_S8192x1024_S8192_d1 h_S_) shapeCasts_S8192_S8192x1

/-- The two parts and the mean's part together. -/
def refGrad (u v : FVec Ideal S8192x1024 .f32) : FVec Ideal S8192x1024 .f32 :=
  addf (addf u v) (refSpreadCol (Host.divf (addf (refNegSum u) (refNegSum v)) refN))

/-- A sum over all rows, as one row. -/
def refColSum (x : FVec Ideal S8192x1024 .f32) : FVec Ideal S1x1024 .f32 :=
  shapeCast _ (Host.reduceAdd (shapeCast S1x1024 (Host.reduceAdd x (constant S_ .f32 0x00000000#32) reducesTo_S8192x1024_S1024_d0 h_S_) shapeCasts_S1024_S1x1024)
    (constant S_ .f32 0x00000000#32) reducesTo_S1x1024_S1024_d0 h_S_) shapeCasts_S1024_S1x1024

end Stages

/-! ## The stages at real inputs -/

section AtReals

theorem refDy_at {x0 x1 : FVec Ideal S8192x1024 .f32} {a b : Fin 8192 → Fin 1024 → ℝ} (h0 : ∀ p j, x0 (ix2 p j) = (a p j : EReal))
    (h1 : ∀ p j, x1 (ix2 p j) = (b p j : EReal)) (p : Fin 8192) (j : Fin 1024) : refDy x0 x1 (ix2 p j) = (dy (a p) (b p) j : EReal) := by
  pointwise [refDy, h0, h1, ofBits_alpha]
  unfold dy; push_cast; rfl

theorem refSum_at {x : FVec Ideal S8192x1024 .f32} {f : Fin 8192 → Fin 1024 → ℝ} (h : ∀ p j, x (ix2 p j) = (f p j : EReal)) (p : Fin 8192) :
    refSum x (ix2 p 0) = ((∑ k, f p k : ℝ) : EReal) := by
  pointwise [refSum, h, sum_coe]

theorem refN_at (p : Fin 8192) : refN (ix2 p 0) = ((1024 : ℝ) : EReal) := by
  pointwise [refN, ofBits_1024]

theorem refXc_at {x : FVec Ideal S8192x1024 .f32} {r : Fin 8192 → Fin 1024 → ℝ} (h : ∀ p j, x (ix2 p j) = (r p j : EReal)) (p : Fin 8192) (j : Fin 1024) :
    refXc x (ix2 p j) = (centred (r p) j : EReal) := by
  pointwise [refXc, h, refSum_at h, refN_at]
  rw [div_coe_coe _ (by norm_num), ← EReal.coe_sub]; rfl

theorem refSpread_at {x : FVec Ideal S8192x1024 .f32} {r : Fin 8192 → Fin 1024 → ℝ} (h : ∀ p j, x (ix2 p j) = (centred (r p) j : EReal)) (p : Fin 8192) :
    refSpread x (ix2 p 0) = (spread (r p) : EReal) := by
  have hs : ∀ p j, mulf x x (ix2 p j) = ((centred (r p) j * centred (r p) j : ℝ) : EReal) := fun p j => by
    pointwise [h, ← EReal.coe_mul]
  pointwise [refSpread, refSum_at hs, refN_at, ofBits_eps]
  rw [div_coe_coe _ (by norm_num), ← EReal.coe_add]; rfl

/-- The inverse root of the spread. -/
theorem rsqrt_spread (f : Fin 1024 → ℝ) : Ideal.rsqrt (spread f : EReal) = (invStd f : EReal) := rsqrt_pos (spread_pos f)

theorem refUnit_at {x : FVec Ideal S8192x1024 .f32} {s : FVec Ideal S8192x1 .f32} {r : Fin 8192 → Fin 1024 → ℝ}
    (h : ∀ p j, x (ix2 p j) = (centred (r p) j : EReal)) (hs : ∀ p, s (ix2 p 0) = (spread (r p) : EReal)) (p : Fin 8192) (j : Fin 1024) :
    refUnit x s (ix2 p j) = (unit (r p) j : EReal) := by
  pointwise [refUnit, h, hs, rsqrt_spread, ← EReal.coe_mul]; rfl

theorem refScaled_at {d : FVec Ideal S8192x1024 .f32} {y : FVec Ideal S1024 .f32} {f : Fin 8192 → Fin 1024 → ℝ} {g : Fin 1024 → ℝ}
    (h : ∀ p j, d (ix2 p j) = (f p j : EReal)) (hg : ∀ j, y (ix1 j) = (g j : EReal)) (p : Fin 8192) (j : Fin 1024) :
    refScaled d y (ix2 p j) = (scaled g (f p) j : EReal) := by
  pointwise [refScaled, h, hg, ← EReal.coe_mul]; rfl

theorem refVarCt_at {x d : FVec Ideal S8192x1024 .f32} {s : FVec Ideal S8192x1 .f32} {r f : Fin 8192 → Fin 1024 → ℝ}
    (h : ∀ p j, x (ix2 p j) = (centred (r p) j : EReal)) (hd : ∀ p j, d (ix2 p j) = (f p j : EReal))
    (hs : ∀ p, s (ix2 p 0) = (spread (r p) : EReal)) (p : Fin 8192) :
    refVarCt x d s (ix2 p 0) = (varCt (r p) (f p) : EReal) := by
  pointwise [refVarCt, h, hd, hs, refN_at, rsqrt_spread, ofBits_neg_half, ← EReal.coe_mul, sum_coe]
  rw [div_coe_coe _ (spread_pos _).ne', ← EReal.coe_mul, ← EReal.coe_mul, div_coe_coe _ (by norm_num)]; rfl

theorem refSpreadCol_at {v : FVec Ideal S8192x1 .f32} {q : Fin 8192 → ℝ} (h : ∀ p, v (ix2 p 0) = (q p : EReal)) (p : Fin 8192) (j : Fin 1024) :
    refSpreadCol v (ix2 p j) = (q p : EReal) := by
  pointwise [refSpreadCol, h]
  simp [h]

theorem refPart_at {x : FVec Ideal S8192x1024 .f32} {v : FVec Ideal S8192x1 .f32} {f : Fin 8192 → Fin 1024 → ℝ} {q : Fin 8192 → ℝ}
    (hx : ∀ p j, x (ix2 p j) = (f p j : EReal)) (h : ∀ p, v (ix2 p 0) = (q p : EReal)) (p : Fin 8192) (j : Fin 1024) :
    refPart x v (ix2 p j) = ((q p * (2 * f p j) : ℝ) : EReal) := by
  pointwise [refPart, hx, refSpreadCol_at h, ofBits_two, ← EReal.coe_mul]

theorem refStep_at {d : FVec Ideal S8192x1024 .f32} {s : FVec Ideal S8192x1 .f32} {r f : Fin 8192 → Fin 1024 → ℝ}
    (h : ∀ p j, d (ix2 p j) = (f p j : EReal)) (hs : ∀ p, s (ix2 p 0) = (spread (r p) : EReal)) (p : Fin 8192) (j : Fin 1024) :
    refStep d s (ix2 p j) = ((f p j * invStd (r p) : ℝ) : EReal) := by
  pointwise [refStep, h, hs, rsqrt_spread, ← EReal.coe_mul]

theorem refNegSum_at {x : FVec Ideal S8192x1024 .f32} {f : Fin 8192 → Fin 1024 → ℝ} (h : ∀ p j, x (ix2 p j) = (f p j : EReal)) (p : Fin 8192) :
    refNegSum x (ix2 p 0) = ((∑ k, -(f p k) : ℝ) : EReal) := by
  pointwise [refNegSum, h, ← EReal.coe_neg, sum_coe]

theorem refGrad_at {u v : FVec Ideal S8192x1024 .f32} {e f : Fin 8192 → Fin 1024 → ℝ} (hu : ∀ p j, u (ix2 p j) = (e p j : EReal))
    (hv : ∀ p j, v (ix2 p j) = (f p j : EReal)) (p : Fin 8192) (j : Fin 1024) :
    refGrad u v (ix2 p j) = ((e p j + f p j + ((∑ k, -(e p k)) + (∑ k, -(f p k))) / 1024 : ℝ) : EReal) := by
  have h : ∀ p, Host.divf (addf (refNegSum u) (refNegSum v)) refN (ix2 p 0) = ((((∑ k, -(e p k)) + (∑ k, -(f p k))) / 1024 : ℝ) : EReal) := fun p => by
    pointwise [refNegSum_at hu, refNegSum_at hv, refN_at]
    rw [← EReal.coe_add, div_coe_coe _ (by norm_num)]
  pointwise [refGrad, hu, hv, refSpreadCol_at h, ← EReal.coe_add]

theorem refColSum_at {x : FVec Ideal S8192x1024 .f32} {f : Fin 8192 → Fin 1024 → ℝ} (h : ∀ p j, x (ix2 p j) = (f p j : EReal)) (j : Fin 1024) :
    refColSum x (ix2 0 j) = ((∑ p, f p j : ℝ) : EReal) := by
  pointwise [refColSum, h, sum_coe]
  simp

end AtReals

/-! ## The results -/

variable (m : (ℓ : Loc nD τ sig) → Buf (Elt Ideal) ℓ) (c : Dev nD) (I : Inputs)

/-- The reference's argument arrays hold the reals `I`. -/
structure RefHolds : Prop where
  a : ∀ p k, m ((c : Thread nD τ).loc main_arg0) (ix2 p k) = (I.a p k : EReal)
  x : ∀ p k, m ((c : Thread nD τ).loc main_arg1) (ix2 p k) = (I.x p k : EReal)
  w : ∀ p k, m ((c : Thread nD τ).loc main_arg2) (ix2 p k) = (I.w p k : EReal)
  g : ∀ k, m ((c : Thread nD τ).loc main_arg3) (ix1 k) = (I.g k : EReal)
  dya : ∀ p k, m ((c : Thread nD τ).loc main_arg5) (ix2 p k) = (I.dya p k : EReal)
  dyb : ∀ p k, m ((c : Thread nD τ).loc main_arg6) (ix2 p k) = (I.dyb p k : EReal)

/-- The residual sum less its means, the spread and the cotangent, of the arguments. -/
abbrev argXc : FVec Ideal S8192x1024 .f32 := refXc (refR (m ((c : Thread nD τ).loc main_arg0)) (m ((c : Thread nD τ).loc main_arg1)) (m ((c : Thread nD τ).loc main_arg2)))
abbrev argDy : FVec Ideal S8192x1024 .f32 := refDy (m ((c : Thread nD τ).loc main_arg5)) (m ((c : Thread nD τ).loc main_arg6))
abbrev argCt : FVec Ideal S8192x1024 .f32 := refScaled (argDy m c) (m ((c : Thread nD τ).loc main_arg3))
abbrev argGrad : FVec Ideal S8192x1024 .f32 :=
  refGrad (refStep (argCt m c) (refSpread (argXc m c))) (refPart (argXc m c) (refVarCt (argXc m c) (argCt m c) (refSpread (argXc m c))))

variable {m c I}

theorem refR_at (H : RefHolds m c I) (p : Fin 8192) (j : Fin 1024) :
    refR (m ((c : Thread nD τ).loc main_arg0)) (m ((c : Thread nD τ).loc main_arg1)) (m ((c : Thread nD τ).loc main_arg2)) (ix2 p j) = (I.r p j : EReal) := by
  pointwise [refR, dot_S8192x1024_S1024x1024_S8192x1024_1_0_0_1_n_n, ofBits_alpha, H.a, H.x, H.w, ← EReal.coe_mul, sum_coe]
  rw [← EReal.coe_add]; rfl

theorem argXc_at (H : RefHolds m c I) : ∀ p j, argXc m c (ix2 p j) = (centred (I.r p) j : EReal) := refXc_at (refR_at H)

theorem argCt_at (H : RefHolds m c I) : ∀ p j, argCt m c (ix2 p j) = (scaled I.g (dy (I.dya p) (I.dyb p)) j : EReal) :=
  refScaled_at (refDy_at H.dya H.dyb) H.g

theorem argGrad_at (H : RefHolds m c I) (p : Fin 8192) (j : Fin 1024) : argGrad m c (ix2 p j) = (I.dr p j : EReal) := by
  have hx := argXc_at H
  have hs := refSpread_at hx
  have hd := argCt_at H
  refine (refGrad_at (refStep_at hd hs) (refPart_at hx (refVarCt_at hx hd hs)) p j).trans ?_
  exact congrArg _ (chainGrad_eq (I.r p) (scaled I.g (dy (I.dya p) (I.dyb p))) j)

theorem out0_eq : res_out0 m c = argGrad m c := by unfold res_out0 res_main_v68; rfl
theorem out1_eq : res_out1 m c = truncf .bf16 (argGrad m c) bitsLt_bf16_f32 := by unfold res_out1 res_main_v70; rfl
theorem out4_eq : res_out4 m c
    = Host.dotGeneral (φ₁ := .f32) (φ₂ := .f32) dot_S8192x1024_S1024x1024_S8192x1024_1_1_0_0_n_n none (argGrad m c) (m ((c : Thread nD τ).loc main_arg2)) := by
  unfold res_out4 res_main_v69; rfl

theorem out0_at (H : RefHolds m c I) (p : Fin 8192) (j : Fin 1024) : res_out0 m c (ix2 p j) = (I.dr p j : EReal) :=
  (congrFun out0_eq _).trans (argGrad_at H p j)

theorem out1_at (H : RefHolds m c I) (p : Fin 8192) (j : Fin 1024) : res_out1 m c (ix2 p j) = (I.dr p j : EReal) :=
  (congrFun out1_eq _).trans (argGrad_at H p j)

theorem out4_at (H : RefHolds m c I) (p : Fin 8192) (n : Fin 1024) : res_out4 m c (ix2 p n) = (I.da p n : EReal) := by
  rw [out4_eq]
  pointwise [dot_S8192x1024_S1024x1024_S8192x1024_1_1_0_0_n_n, argGrad_at H, H.w, ← EReal.coe_mul, sum_coe]
  rfl

/-- The scale's gradient, as the reference writes it. -/
abbrev argDg (m : (ℓ : Loc nD τ sig) → Buf (Elt Ideal) ℓ) (c : Dev nD) : FVec Ideal S1x1024 .f32 :=
  refColSum (mulf (refUnit (argXc m c) (refSpread (argXc m c))) (argDy m c))
/-- The shift's gradient, as the reference writes it. -/
abbrev argDb (m : (ℓ : Loc nD τ sig) → Buf (Elt Ideal) ℓ) (c : Dev nD) : FVec Ideal S1x1024 .f32 := refColSum (argDy m c)

theorem argDg_at (H : RefHolds m c I) (j : Fin 1024) : argDg m c (ix2 0 j) = ((∑ p, I.dgRow p j : ℝ) : EReal) := by
  have hx := argXc_at H
  have hu := refUnit_at hx (refSpread_at hx)
  refine refColSum_at (f := I.dgRow) (fun p j => ?_) j
  pointwise [hu, refDy_at H.dya H.dyb, ← EReal.coe_mul]
  unfold Inputs.dgRow
  rw [mul_comm]

theorem argDb_at (H : RefHolds m c I) (j : Fin 1024) : argDb m c (ix2 0 j) = ((∑ p, I.dbRow p j : ℝ) : EReal) :=
  refColSum_at (f := I.dbRow) (refDy_at H.dya H.dyb) j

end Cert.Mix

end
-- ==== Proof.MixClaim.lean ====
/-
  The output norm's claim: kernel and reference agree on finite arguments.
-/
module

public import proofs.«01_k».proof.Proof.MixFinite
public import proofs.«01_k».proof.Proof.MixRef

@[expose] public section

noncomputable section

namespace Cert.Mix

open Cert.Norm

open Cert.Reals Idealize.ShloMosaic Idealize.ShloMosaic.TcCoe Idealize.SL.Sem

attribute [local instance] Cert.Kernel16Ideal.Gen.facts Cert.Reference16Ideal.Gen.facts Cert.Pre_out_finite.Gen.facts

theorem agree : Cert.algebraic_Kernel16Ideal_Reference16Ideal_pre_out_finite := by
  intro m g m' g' hp ha
  have H := holds_of_finite m hp
  have H' : ∀ c, RefHolds m' c (inputs m c) := fun c => by
    obtain ⟨e0, e1, e2, e3, e4, e5, e6⟩ := ha c
    exact ⟨fun p k => (congrFun e0 _).trans ((H c).a p k), fun p k => (congrFun e1 _).trans ((H c).x p k),
      fun p k => (congrFun e2 _).trans ((H c).w p k), fun k => (congrFun e3 _).trans ((H c).g k),
      fun p k => (congrFun e5 _).trans ((H c).dya p k), fun p k => (congrFun e6 _).trans ((H c).dyb p k)⟩
  refine ⟨_, _, _, _, _, Cert.Kernel16Ideal.Value.run_blocks m g,
    (θ_run Cert.Reference16Ideal.defs _ _).mono (fun r h c => ?_) (Cert.Reference16Ideal.Value.run m' g')⟩
  obtain ⟨h0, h1, h2, h3, h4, hk⟩ := h c
  refine ⟨h0.trans ?_, h1.trans ?_, h2.trans ?_, h3.trans ?_, h4.trans ?_, hk⟩
  · funext i; rw [← ix2_eta i]
    exact (out0_at (H' c) (i 0) (i 1)).trans (final5 (H c) (i 0) (i 1)).symm
  · funext i; rw [← ix2_eta i]
    exact (out1_at (H' c) (i 0) (i 1)).trans (final6 (H c) (i 0) (i 1)).symm
  · funext i; rw [← ix2_eta i, show i 0 = (0 : Fin 1) from Subsingleton.elim (α := Fin 1) _ _]
    exact (argDg_at (H' c) (i 1)).trans (final7 (H c) (i 1)).symm
  · funext i; rw [← ix2_eta i, show i 0 = (0 : Fin 1) from Subsingleton.elim (α := Fin 1) _ _]
    exact (argDb_at (H' c) (i 1)).trans (final8 (H c) (i 1)).symm
  · funext i; rw [← ix2_eta i]
    exact (out4_at (H' c) (i 0) (i 1)).trans (final9 (H c) (i 0) (i 1)).symm

end Cert.Mix

end
-- ==== Proof.LastResult.lean ====
/-
  The gradient of the residual layer norm as whole arrays of reals: what both programs are shown to return. The residual
  sum is `alpha * x + a @ w`, and the incoming gradient is that of
  the loss, `(dya - dyb) / 1024` for output `dya` and target `dyb`.
-/
module

public import proofs.«01_k».proof.Proof.NormResult

@[expose] public section

noncomputable section

namespace Cert.Last

open Cert.Norm

open Cert.Reals

/-- The arrays the gradient is taken at, as reals: hidden activations, residual stream, down projection, scale, the
    step's output and its target. -/
structure Inputs where
  a : Fin 8192 → Fin 2816 → ℝ
  x : Fin 8192 → Fin 1024 → ℝ
  w : Fin 2816 → Fin 1024 → ℝ
  g : Fin 1024 → ℝ
  dya : Fin 8192 → Fin 1024 → ℝ
  dyb : Fin 8192 → Fin 1024 → ℝ

/-- The incoming gradient of a row. -/
def dy (a b : Fin 1024 → ℝ) (j : Fin 1024) : ℝ := 1 / 1024 * a j + -1 / 1024 * b j

/-- The gradient of one row. -/
abbrev rowGrad (a b r g : Fin 1024 → ℝ) : Fin 1024 → ℝ := grad r (scaled g (dy a b))

/-- The literal of the output's factor. -/
theorem ofBits_inv : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num

/-- The literal of a half. -/
theorem ofBits_half : Idealize.ShloMosaic.Ideal.ofBits .f32 0x3F000000#32 = ((1 / 2 : ℝ) : EReal) := by
  simp [Idealize.ShloMosaic.Ideal.ofBits, Idealize.ShloMosaic.Ideal.ieee, -EReal.coe_mul]; norm_num

/-- The literal of one. -/
theorem ofBits_one : Idealize.ShloMosaic.Ideal.ofBits .f32 0x3F800000#32 = ((1 : ℝ) : EReal) := by
  simp [Idealize.ShloMosaic.Ideal.ofBits, Idealize.ShloMosaic.Ideal.ieee, -EReal.coe_mul]; norm_num

/-- The literal of the target's factor. -/
theorem ofBits_neg_inv : Idealize.ShloMosaic.Ideal.ofBits .f32 0xBA800000#32 = ((-1 / 1024 : ℝ) : EReal) := by
  simp [Idealize.ShloMosaic.Ideal.ofBits, Idealize.ShloMosaic.Ideal.ieee, -EReal.coe_mul]; norm_num

variable (I : Inputs)

/-- The residual sum the norm is applied to. -/
def Inputs.r (p : Fin 8192) (j : Fin 1024) : ℝ := alpha * I.x p j + ∑ k, I.a p k * I.w k j

/-- The gradient with respect to the residual sum. -/
def Inputs.dr (p : Fin 8192) (j : Fin 1024) : ℝ := rowGrad (I.dya p) (I.dyb p) (I.r p) I.g j

/-- One row's part of the scale's gradient. -/
def Inputs.dgRow (p : Fin 8192) (j : Fin 1024) : ℝ := dy (I.dya p) (I.dyb p) j * unit (I.r p) j

/-- One row's part of the shift's gradient. -/
def Inputs.dbRow (p : Fin 8192) (j : Fin 1024) : ℝ := dy (I.dya p) (I.dyb p) j

/-- The gradient with respect to the hidden activations. -/
def Inputs.da (p : Fin 8192) (n : Fin 2816) : ℝ := ∑ k, I.dr p k * I.w n k

end Cert.Last

end
-- ==== Proof.LastBlock.lean ====
/-
  What one grid point of the last norm-gradient kernel computes from its blocks, at real inputs: the loss' gradient at
  output and target, the norm's gradient row by row, and the partial sums for scale and shift.
-/
module

public import proofs.«01_k».proof.Proof.LastResult
public import proofs.«01_k».proof.Proof.Gen.Kernel17Ideal.Skeleton

@[expose] public section

set_option maxRecDepth 16384

noncomputable section

namespace Cert.Last

open Cert.Norm

open Cert.Reals Cert.Kernel17Ideal Cert.Kernel17Ideal.Gen Idealize.ShloMosaic

section
variable (x0 x1 x2 : Vec Ideal S512x1024 .f32) (x3 : Vec Ideal S1x1024 .f32)
variable (a b r : Fin 512 → Fin 1024 → ℝ) (g : Fin 1024 → ℝ)

theorem pay8_at (h0 : ∀ p j, x0 (ix2 p j) = (a p j : EReal)) (h1 : ∀ p j, x1 (ix2 p j) = (b p j : EReal)) (p : Fin 512) (j : Fin 1024) :
    k0_pay8 x0 x1 (ix2 p j) = (dy (a p) (b p) j : EReal) := by
  pointwise [k0_pay8, h0, h1, ofBits_inv, ofBits_neg_inv]
  unfold dy; push_cast; rfl

theorem pay9_at (h2 : ∀ p j, x2 (ix2 p j) = (r p j : EReal)) (p : Fin 512) (j : Fin 1024) :
    k0_pay9 x2 (ix2 p j) = (centred (r p) j : EReal) := by
  pointwise [k0_pay9, h2, ofBits_1024, sum_coe]
  rw [div_coe_coe _ (by norm_num), ← EReal.coe_sub]; rfl

theorem pay10_at (h2 : ∀ p j, x2 (ix2 p j) = (r p j : EReal)) (p : Fin 512) :
    k0_pay10 x2 (ix2 p 0) = (invStd (r p) : EReal) := by
  have h := pay9_at x2 r h2
  pointwise [k0_pay10, h, ofBits_1024, ofBits_eps, ← EReal.coe_mul, sum_coe]
  rw [div_coe_coe _ (by norm_num), ← EReal.coe_add]
  exact rsqrt_pos (spread_pos (r p))

theorem pay11_at (h2 : ∀ p j, x2 (ix2 p j) = (r p j : EReal)) (p : Fin 512) (j : Fin 1024) :
    k0_pay11 x2 (ix2 p j) = (unit (r p) j : EReal) := by
  have h := pay9_at x2 r h2
  have h' := pay10_at x2 r h2
  pointwise [k0_pay11, h, h', ← EReal.coe_mul]
  rfl

theorem pay12_at (h0 : ∀ p j, x0 (ix2 p j) = (a p j : EReal)) (h1 : ∀ p j, x1 (ix2 p j) = (b p j : EReal))
    (h3 : ∀ j, x3 (ix2 0 j) = (g j : EReal)) (p : Fin 512) (j : Fin 1024) :
    k0_pay12 x0 x1 x3 (ix2 p j) = (scaled g (dy (a p) (b p)) j : EReal) := by
  have h := pay8_at x0 x1 a b h0 h1
  pointwise [k0_pay12, h, h3, ← EReal.coe_mul]
  rfl

theorem pay13_at (h0 : ∀ p j, x0 (ix2 p j) = (a p j : EReal)) (h1 : ∀ p j, x1 (ix2 p j) = (b p j : EReal))
    (h3 : ∀ j, x3 (ix2 0 j) = (g j : EReal)) (p : Fin 512) (j : Fin 1024) :
    k0_pay13 x0 x1 x3 (ix2 p j)
      = (scaled g (dy (a p) (b p)) j - mean (scaled g (dy (a p) (b p))) : ℝ) := by
  have h := pay12_at x0 x1 x3 a b g h0 h1 h3
  pointwise [k0_pay13, h, ofBits_1024, sum_coe]
  rw [div_coe_coe _ (by norm_num), ← EReal.coe_sub]; rfl

theorem pay14_at (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) :
    k0_pay14 x0 x1 x2 x3 (ix2 p 0)
      = (mean (fun k => scaled g (dy (a p) (b p)) k * unit (r p) k) : EReal) := by
  have h := pay12_at x0 x1 x3 a b g h0 h1 h3
  have h' := pay11_at x2 r h2
  pointwise [k0_pay14, h, h', ofBits_1024, ← EReal.coe_mul, sum_coe]
  rw [div_coe_coe _ (by norm_num)]; rfl

/-- The stored gradient block. -/
theorem pay1_at (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) (j : Fin 1024) :
    k0_pay1 (k0_pay10 x2) (k0_pay11 x2) (k0_pay13 x0 x1 x3) (k0_pay14 x0 x1 x2 x3) (ix2 p j)
      = (rowGrad (a p) (b p) (r p) g j : EReal) := by
  have h10 := pay10_at x2 r h2
  have h11 := pay11_at x2 r h2
  have h13 := pay13_at x0 x1 x3 a b g h0 h1 h3
  have h14 := pay14_at x0 x1 x2 x3 a b r g h0 h1 h2 h3
  pointwise [k0_pay1, h10, h11, h13, h14]
  rw [← EReal.coe_mul, ← EReal.coe_sub, ← EReal.coe_mul]; rfl

/-- The stored product block: the gradient times the transposed matrix. -/
theorem pay3_at (w : Vec Ideal S2816x1024 .bf16)
    (h0 : ∀ p j, x0 (ix2 p j) = (a p j : EReal)) (h1 : ∀ p j, x1 (ix2 p j) = (b p j : EReal))
    (h2 : ∀ p j, x2 (ix2 p j) = (r p j : EReal)) (h3 : ∀ j, x3 (ix2 0 j) = (g j : EReal)) (p : Fin 512) (n : Fin 2816) :
    k0_pay3 (k0_pay10 x2) (k0_pay11 x2) (k0_pay13 x0 x1 x3) (k0_pay14 x0 x1 x2 x3) w (ix2 p n)
      = ∑ k : Fin 1024, (rowGrad (a p) (b p) (r p) g k : EReal) * w (ix2 n k) := by
  have h := pay1_at x0 x1 x2 x3 a b r g h0 h1 h2 h3
  pointwise [k0_pay3, k0_pay2, dot_S512x1024_S2816x1024_S512x2816_1_1_0_0_n_n, h]

/-- The block's part of the scale's gradient. -/
theorem pay4_at (h0 : ∀ p j, x0 (ix2 p j) = (a p j : EReal)) (h1 : ∀ p j, x1 (ix2 p j) = (b p j : EReal))
    (h2 : ∀ p j, x2 (ix2 p j) = (r p j : EReal)) (j : Fin 1024) :
    k0_pay4 (k0_pay8 x0 x1) (k0_pay11 x2) (ix2 0 j) = ((∑ p, dy (a p) (b p) j * unit (r p) j : ℝ) : EReal) := by
  have h8 := pay8_at x0 x1 a b h0 h1
  have h11 := pay11_at x2 r h2
  pointwise [k0_pay4, h8, h11, ← EReal.coe_mul, sum_coe]

/-- The block's part of the shift's gradient. -/
theorem pay5_at (h0 : ∀ p j, x0 (ix2 p j) = (a p j : EReal)) (h1 : ∀ p j, x1 (ix2 p j) = (b p j : EReal)) (j : Fin 1024) :
    k0_pay5 (k0_pay8 x0 x1) (ix2 0 j) = ((∑ p, dy (a p) (b p) j : ℝ) : EReal) := by
  have h8 := pay8_at x0 x1 a b h0 h1
  pointwise [k0_pay5, h8, sum_coe]

end

end Cert.Last

end
-- ==== Proof.LastCases.lean ====
/-
  What one grid point of the last norm-gradient kernel leaves in each output's staging buffer: at the first point (case A) the
  block's values, at a later point (case B) the same with the running sums for scale and shift added to.
-/
module

public import Idealize.ShloMosaic.Lib.Pipeline.ValueKit
public import proofs.«01_k».proof.Proof.Gen.Kernel17Ideal.Frame
public import Idealize.ShloMosaic.Lib.Pipeline.Value
public import Idealize.ShloMosaic.Lib.Tactic

@[expose] public section

set_option maxRecDepth 16384

noncomputable section

namespace Cert.Last

open Cert.Kernel17Ideal Cert.Kernel17Ideal.Gen Idealize.ShloMosaic Idealize.ShloMosaic.TcCoe Idealize.SL.Sem

variable {F : FTy → Type} [FloatOps F]
variable (c : Dev nD) (i : grid0.Coords)
variable (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S2816x1024 .bf16) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (a10 : Memref sig .tc .vmem S512x2816 .bf16) (h10 : a10.IsWhole)
variable (x0 x1 x2 : Vec F S512x1024 .f32) (x3 : Vec F S1x1024 .f32) (x4 : Vec F S2816x1024 .bf16) (xo7 xo8 : Vec F S1x1024 .f32)

/-- Case A, the gradient block. -/
theorem out_A_5 (hc0 : cond0_0 i) (hc1 : ¬cond0_1 i) :
    out0_A_5 c i a1 h1 a2 h2 a3 h3 a4 h4 a5 h5 a6 h6 a7 h7 a8 h8 a9 h9 a10 h10 hc0 hc1 x0 x1 x2 x3 x4
      = k0_pay1 (k0_pay10 x2) (k0_pay11 x2) (k0_pay13 x0 x1 x3) (k0_pay14 x0 x1 x2 x3) := by
  frame_out

/-- Case A, its half-precision copy. -/
theorem out_A_6 (hc0 : cond0_0 i) (hc1 : ¬cond0_1 i) :
    out0_A_6 c i a1 h1 a2 h2 a3 h3 a4 h4 a5 h5 a6 h6 a7 h7 a8 h8 a9 h9 a10 h10 hc0 hc1 x0 x1 x2 x3 x4
      = k0_pay2 (k0_pay10 x2) (k0_pay11 x2) (k0_pay13 x0 x1 x3) (k0_pay14 x0 x1 x2 x3) := by
  frame_out

/-- Case A, the scale's gradient. -/
theorem out_A_7 (hc0 : cond0_0 i) (hc1 : ¬cond0_1 i) :
    out0_A_7 c i a1 h1 a2 h2 a3 h3 a4 h4 a5 h5 a6 h6 a7 h7 a8 h8 a9 h9 a10 h10 hc0 hc1 x0 x1 x2 x3 x4
      = k0_pay4 (k0_pay8 x0 x1) (k0_pay11 x2) := by
  frame_out

/-- Case A, the shift's gradient. -/
theorem out_A_8 (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4
      = k0_pay5 (k0_pay8 x0 x1) := by
  frame_out

/-- Case A, the product block. -/
theorem out_A_9 (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4
      = k0_pay3 (k0_pay10 x2) (k0_pay11 x2) (k0_pay13 x0 x1 x3) (k0_pay14 x0 x1 x2 x3) x4 := by
  frame_out

/-- Case B, the gradient block. -/
theorem out_B_5 (hc0 : ¬cond0_0 i) (hc1 : cond0_1 i) :
    out0_B_5 c i a1 h1 a2 h2 a3 h3 a4 h4 a5 h5 a6 h6 a7 h7 a8 h8 a9 h9 a10 h10 hc0 hc1 x0 x1 x2 x3 x4 xo7 xo8
      = k0_pay1 (k0_pay10 x2) (k0_pay11 x2) (k0_pay13 x0 x1 x3) (k0_pay14 x0 x1 x2 x3) := by
  frame_out

/-- Case B, its half-precision copy. -/
theorem out_B_6 (hc0 : ¬cond0_0 i) (hc1 : cond0_1 i) :
    out0_B_6 c i a1 h1 a2 h2 a3 h3 a4 h4 a5 h5 a6 h6 a7 h7 a8 h8 a9 h9 a10 h10 hc0 hc1 x0 x1 x2 x3 x4 xo7 xo8
      = k0_pay2 (k0_pay10 x2) (k0_pay11 x2) (k0_pay13 x0 x1 x3) (k0_pay14 x0 x1 x2 x3) := by
  frame_out

/-- Case B, the scale's gradient. -/
theorem out_B_7 (hc0 : ¬cond0_0 i) (hc1 : cond0_1 i) :
    out0_B_7 c i a1 h1 a2 h2 a3 h3 a4 h4 a5 h5 a6 h6 a7 h7 a8 h8 a9 h9 a10 h10 hc0 hc1 x0 x1 x2 x3 x4 xo7 xo8
      = k0_pay6 (k0_pay8 x0 x1) (k0_pay11 x2) xo7 := by
  frame_out

/-- Case B, the shift's gradient. -/
theorem out_B_8 (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 xo7 xo8
      = k0_pay7 (k0_pay8 x0 x1) xo8 := by
  frame_out

/-- Case B, the product block. -/
theorem out_B_9 (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 xo7 xo8
      = k0_pay3 (k0_pay10 x2) (k0_pay11 x2) (k0_pay13 x0 x1 x3) (k0_pay14 x0 x1 x2 x3) x4 := by
  frame_out

end Cert.Last

end
-- ==== Proof.LastArrays.lean ====
/-
  The arrays the last norm-gradient kernel leaves, at real inputs: the blocks each grid point reads, what it writes back, and
  the five result arrays whole.
-/
module

public import proofs.«01_k».proof.Proof.BlockAt
public import proofs.«01_k».proof.Proof.LastBlock
public import proofs.«01_k».proof.Proof.LastCases
public import proofs.«01_k».proof.Proof.Gen.Kernel17Ideal.Value

@[expose] public section

set_option maxRecDepth 16384

noncomputable section

namespace Cert.Last

open Cert.Norm

open Cert.Reals Cert.Sums Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ) (c : Dev nD) (I : Inputs)

/-- The kernel's argument arrays hold the reals `I`. -/
structure Holds : Prop where
  a : ∀ p k, m ((c : Thread nD τ).loc main_arg0) (ix2 p k) = (I.a p k : EReal)
  x : ∀ p k, m ((c : Thread nD τ).loc main_arg1) (ix2 p k) = (I.x p k : EReal)
  w : ∀ p k, m ((c : Thread nD τ).loc main_arg2) (ix2 p k) = (I.w p k : EReal)
  g : ∀ k, m ((c : Thread nD τ).loc main_arg3) (ix1 k) = (I.g k : EReal)
  dya : ∀ p k, m ((c : Thread nD τ).loc main_arg5) (ix2 p k) = (I.dya p k : EReal)
  dyb : ∀ p k, m ((c : Thread nD τ).loc main_arg6) (ix2 p k) = (I.dyb p k : EReal)

variable {m c I}

/-- The residual sum the host prepares. -/
theorem V_r (H : Holds m c I) (p : Fin 8192) (j : Fin 1024) : V m c main_v3 (ix2 p j) = (I.r p j : EReal) := by
  have e : V m c main_v3 = addf (F := Ideal) (φ := .f32) (mulf (broadcastInDim S8192x1024 ![] bcast_S_S8192x1024 (constant S_ .f32 0x3FD744FD#32)) (m ((c : Thread nD τ).loc main_arg1)))
      (Host.dotGeneral (φ₁ := .f32) (φ₂ := .f32) dot_S8192x2816_S2816x1024_S8192x1024_1_0_0_1_n_n none (m ((c : Thread nD τ).loc main_arg0)) (m ((c : Thread nD τ).loc main_arg2))) := by
    unfold V; after_results_simp <;> rfl
  rw [e]
  pointwise [dot_S8192x2816_S2816x1024_S8192x1024_1_0_0_1_n_n, ofBits_alpha, H.a, H.x, H.w, ← EReal.coe_mul, sum_coe]
  rw [← EReal.coe_add]; rfl

/-- The row of scales. -/
theorem V_g (H : Holds m c I) (j : Fin 1024) : V m c main_v5 (ix2 0 j) = (I.g j : EReal) := by
  have e : V m c main_v5 = shapeCast S1x1024 (m ((c : Thread nD τ).loc main_arg3)) shapeCasts_S1024_S1x1024 := by
    unfold V; after_results_simp <;> rfl
  rw [e]
  pointwise [H.g]

/-- The projection in half precision. -/
theorem V_w (H : Holds m c I) (p : Fin 2816) (j : Fin 1024) : V m c main_v4 (ix2 p j) = (I.w p j : EReal) := by
  have e : V m c main_v4 = truncf (F := Ideal) (φ := .f32) .bf16 (m ((c : Thread nD τ).loc main_arg2)) bitsLt_bf16_f32 := by
    unfold V; after_results_simp <;> rfl
  rw [e]
  pointwise [H.w]

/-- Row `q` of grid point `t`'s blocks, as a row of the arrays. -/
def row (t : Fin cfg0.N) (q : Fin 512) : Fin 8192 := ⟨512 * t.val + q.val, by have := t.isLt; have : cfg0.N = 16 := N_0; have := q.isLt; omega⟩

theorem index_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) ∧ (win0_9.index t 0 = t.val ∧ win0_9.index t 1 = 0) := by
  decide +kernel

theorem iblk0 (H : Holds m c I) (t : Fin cfg0.N) (q : Fin 512) (j : Fin 1024) : iblk m c 0 t (ix2 q j) = (I.dya (row t q) j : EReal) := by
  obtain ⟨h0, h1⟩ := (index_rows t).1
  rw [← H.dya, ← V_main_arg5 m c]
  unfold iblk
  exact congrArg (V m c main_arg5) (at2 _ (spot 512 q.val h0 (by show _ = 512 * t.val + q.val; omega)) (spot 1024 j.val h1 (by show _ = j.val; omega)))

theorem iblk1 (H : Holds m c I) (t : Fin cfg0.N) (q : Fin 512) (j : Fin 1024) : iblk m c 1 t (ix2 q j) = (I.dyb (row t q) j : EReal) := by
  obtain ⟨h0, h1⟩ := (index_rows t).2.1
  rw [← H.dyb, ← V_main_arg6 m c]
  unfold iblk
  exact congrArg (V m c main_arg6) (at2 _ (spot 512 q.val h0 (by show _ = 512 * t.val + q.val; omega)) (spot 1024 j.val h1 (by show _ = j.val; omega)))

theorem iblk2 (H : Holds m c I) (t : Fin cfg0.N) (q : Fin 512) (j : Fin 1024) : iblk m c 2 t (ix2 q j) = (I.r (row t q) j : EReal) := by
  obtain ⟨h0, h1⟩ := (index_rows t).2.2.1
  rw [← V_r H]
  unfold iblk
  exact congrArg (V m c main_v3) (at2 _ (spot 512 q.val h0 (by show _ = 512 * t.val + q.val; omega)) (spot 1024 j.val h1 (by show _ = j.val; omega)))

theorem iblk3 (H : Holds m c I) (t : Fin cfg0.N) (j : Fin 1024) : iblk m c 3 t (ix2 0 j) = (I.g j : EReal) := by
  obtain ⟨h0, h1⟩ := (index_rows t).2.2.2.1
  rw [← V_g H]
  unfold iblk
  exact congrArg (V m c main_v5) (at2 _ (spot 1 0 h0 (by show _ = 0; omega)) (spot 1024 j.val h1 (by show _ = j.val; omega)))

theorem iblk4 (H : Holds m c I) (t : Fin cfg0.N) (q : Fin 2816) (j : Fin 1024) : iblk m c 4 t (ix2 q j) = (I.w q j : EReal) := by
  obtain ⟨h0, h1⟩ := (index_rows t).2.2.2.2.1
  rw [← V_w H]
  unfold iblk
  exact congrArg (V m c main_v4) (at2 _ (spot 2816 q.val h0 (by show _ = q.val; omega)) (spot 1024 j.val h1 (by show _ = j.val; omega)))

/-- The gradient block a point leaves. -/
theorem outs5 (H : Holds m c I) (t : Fin cfg0.N) (q : Fin 512) (j : Fin 1024) :
    (outsAt0 m c t.val t.isLt).1 (ix2 q j) = (I.dr (row t q) j : EReal) := by
  have hN : cfg0.N = 16 := N_0
  have ht := t.isLt
  by_cases h : t.val = 0
  · rw [outsAt0_A m c t (by omega) (by omega)]
    dsimp only
    rw [out_A_5]
    exact pay1_at _ _ _ _ _ _ _ _ (iblk0 H t) (iblk1 H t) (iblk2 H t) (iblk3 H t) q j
  · rw [outsAt0_B m c t (by omega) (by omega)]
    dsimp only
    rw [out_B_5]
    exact pay1_at _ _ _ _ _ _ _ _ (iblk0 H t) (iblk1 H t) (iblk2 H t) (iblk3 H t) q j

/-- Its half-precision copy. -/
theorem outs6 (H : Holds m c I) (t : Fin cfg0.N) (q : Fin 512) (j : Fin 1024) :
    (outsAt0 m c t.val t.isLt).2.1 (ix2 q j) = (I.dr (row t q) j : EReal) := by
  have hN : cfg0.N = 16 := N_0
  have ht := t.isLt
  by_cases h : t.val = 0
  · rw [outsAt0_A m c t (by omega) (by omega)]
    dsimp only
    rw [out_A_6]
    exact pay1_at _ _ _ _ _ _ _ _ (iblk0 H t) (iblk1 H t) (iblk2 H t) (iblk3 H t) q j
  · rw [outsAt0_B m c t (by omega) (by omega)]
    dsimp only
    rw [out_B_6]
    exact pay1_at _ _ _ _ _ _ _ _ (iblk0 H t) (iblk1 H t) (iblk2 H t) (iblk3 H t) q j

/-- The product block. -/
theorem outs9 (H : Holds m c I) (t : Fin cfg0.N) (q : Fin 512) (n : Fin 2816) :
    (outsAt0 m c t.val t.isLt).2.2.2.2 (ix2 q n) = (I.da (row t q) n : EReal) := by
  have hN : cfg0.N = 16 := N_0
  have ht := t.isLt
  by_cases h : t.val = 0
  · rw [outsAt0_A m c t (by omega) (by omega)]
    dsimp only
    rw [out_A_9]
    rw [pay3_at _ _ _ _ _ _ _ _ _ (iblk0 H t) (iblk1 H t) (iblk2 H t) (iblk3 H t) q n]
    simp only [iblk4 H t, ← EReal.coe_mul, sum_coe]; rfl
  · rw [outsAt0_B m c t (by omega) (by omega)]
    dsimp only
    rw [out_B_9]
    rw [pay3_at _ _ _ _ _ _ _ _ _ (iblk0 H t) (iblk1 H t) (iblk2 H t) (iblk3 H t) q n]
    simp only [iblk4 H t, ← EReal.coe_mul, sum_coe]; rfl

/-- The running sum for the scale after point `n`: the rows of the blocks so far. -/
theorem outs7 (H : Holds m c I) (j : Fin 1024) : ∀ (n : ℕ) (hn : n < cfg0.N),
    (outsAt0 m c n hn).2.2.1 (ix2 0 j) = ((upTo (fun p => I.dgRow p j) (512 * (n + 1)) : ℝ) : EReal)
  | 0, hn => by
    have hA := outsAt0_A m c ⟨0, hn⟩ (by simp) (by simp)
    dsimp only at hA
    rw [hA]
    dsimp only
    rw [out_A_7, pay4_at _ _ _ _ _ _ (iblk0 H _) (iblk1 H _) (iblk2 H _) j]
    rw [show 512 * (0 + 1) = 0 + 512 from rfl, upTo_add _ _ 512 (by omega), upTo_zero, zero_add]
    rfl
  | n + 1, hn => by
    have hN : cfg0.N = 16 := N_0
    have hB := outsAt0_B m c ⟨n + 1, hn⟩ (by dsimp only; omega) (by dsimp only; omega)
    dsimp only at hB
    rw [hB]
    dsimp only
    have ih := outs7 H j n (Nat.lt_of_succ_lt hn)
    have hb := pay4_at _ _ _ _ _ _ (iblk0 H ⟨n + 1, hn⟩) (iblk1 H ⟨n + 1, hn⟩) (iblk2 H ⟨n + 1, hn⟩) j
    rw [out_B_7]
    pointwise [k0_pay6, hb]
    have e : (outsAt0 m c (n + 1 - 1) (Nat.lt_of_succ_lt hn)).2.2.1 (ix2 0 j) = _ := ih
    rw [show 512 * (n + 1 + 1) = 512 * (n + 1) + 512 by ring, upTo_add _ _ 512 (by omega), EReal.coe_add]
    exact congrArg₂ (· + ·) ih rfl

/-- The running sum for the shift after point `n`: the rows of the blocks so far. -/
theorem outs8 (H : Holds m c I) (j : Fin 1024) : ∀ (n : ℕ) (hn : n < cfg0.N),
    (outsAt0 m c n hn).2.2.2.1 (ix2 0 j) = ((upTo (fun p => I.dbRow p j) (512 * (n + 1)) : ℝ) : EReal)
  | 0, hn => by
    have hA := outsAt0_A m c ⟨0, hn⟩ (by simp) (by simp)
    dsimp only at hA
    rw [hA]
    dsimp only
    rw [out_A_8, pay5_at _ _ _ _ (iblk0 H _) (iblk1 H _) j]
    rw [show 512 * (0 + 1) = 0 + 512 from rfl, upTo_add _ _ 512 (by omega), upTo_zero, zero_add]
    rfl
  | n + 1, hn => by
    have hN : cfg0.N = 16 := N_0
    have hB := outsAt0_B m c ⟨n + 1, hn⟩ (by dsimp only; omega) (by dsimp only; omega)
    dsimp only at hB
    rw [hB]
    dsimp only
    have ih := outs8 H j n (Nat.lt_of_succ_lt hn)
    have hb := pay5_at _ _ _ _ (iblk0 H ⟨n + 1, hn⟩) (iblk1 H ⟨n + 1, hn⟩) j
    rw [out_B_8]
    pointwise [k0_pay7, hb]
    have e : (outsAt0 m c (n + 1 - 1) (Nat.lt_of_succ_lt hn)).2.2.2.1 (ix2 0 j) = _ := ih
    rw [show 512 * (n + 1 + 1) = 512 * (n + 1) + 512 by ring, upTo_add _ _ 512 (by omega), EReal.coe_add]
    exact congrArg₂ (· + ·) ih rfl

/-- The gradient array. -/
theorem final5 (H : Holds m c I) (p : Fin 8192) (j : Fin 1024) :
    (dats m 0 c).arrAt 5 cfg0.N (ix2 p j) = (I.dr p j : EReal) := by
  have hN : cfg0.N = 16 := N_0
  refine (dats m 0 c).arrAt_forall_of_cover 5 (fun i v => v = (I.dr (i 0) (i 1) : EReal)) (fun t hf y => ?_) (fun i => ?_) (ix2 p j)
  · obtain ⟨h0, h1⟩ := (index_rows t).2.2.2.2.2.1
    rw [Value.flushed5]
    have e := outs5 H t (y 0) (y 1)
    have hy : (y : S512x1024.Idx) = ix2 (y 0) (y 1) := eq_ix2 _
    refine Eq.trans (?_ : _ = _) (e.trans ?_)
    · exact congrArg (outsAt0 m c t.val t.isLt).1 hy
    · have e0 : row t (y 0) = ((cfg0.win 5).blk t).view.emb y 0 := Fin.ext (by
        show 512 * t.val + (y 0).val = win0_5.index t 0 * 512 + 1 * (y 0).val; rw [h0]; omega)
      have e1 : (y 1 : Fin 1024) = ((cfg0.win 5).blk t).view.emb y 1 := Fin.ext (by
        show (y 1).val = win0_5.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.1
    refine ⟨⟨(i 0 : Nat) / 512, ht⟩, flush0_5 _, ?_⟩
    show i ∈ ((View.whole main_v6_0).slice (win0_5.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- Its half-precision copy. -/
theorem final6 (H : Holds m c I) (p : Fin 8192) (j : Fin 1024) :
    (dats m 0 c).arrAt 6 cfg0.N (ix2 p j) = (I.dr p j : EReal) := by
  have hN : cfg0.N = 16 := N_0
  refine (dats m 0 c).arrAt_forall_of_cover 6 (fun i v => v = (I.dr (i 0) (i 1) : EReal)) (fun t hf y => ?_) (fun i => ?_) (ix2 p j)
  · obtain ⟨h0, h1⟩ := (index_rows t).2.2.2.2.2.2.1
    rw [Value.flushed6]
    have e := outs6 H t (y 0) (y 1)
    have hy : (y : S512x1024.Idx) = ix2 (y 0) (y 1) := eq_ix2 _
    refine Eq.trans (?_ : _ = _) (e.trans ?_)
    · exact congrArg (outsAt0 m c t.val t.isLt).2.1 hy
    · have e0 : row t (y 0) = ((cfg0.win 6).blk t).view.emb y 0 := Fin.ext (by
        show 512 * t.val + (y 0).val = win0_6.index t 0 * 512 + 1 * (y 0).val; rw [h0]; omega)
      have e1 : (y 1 : Fin 1024) = ((cfg0.win 6).blk t).view.emb y 1 := Fin.ext (by
        show (y 1).val = win0_6.index t 1 * 1024 + 1 * (y 1).val; rw [h1]; omega)
      rw [e0, e1]
  · have hi0 : (i 0 : Nat) < 8192 := (i 0).isLt
    have hi1 : (i 1 : Nat) < 1024 := (i 1).isLt
    have ht : (i 0 : Nat) / 512 < cfg0.N := by omega
    obtain ⟨h0, h1⟩ := (index_rows ⟨(i 0 : Nat) / 512, ht⟩).2.2.2.2.2.2.1
    refine ⟨⟨(i 0 : Nat) / 512, ht⟩, flush0_6 _, ?_⟩
    show i ∈ ((View.whole main_v6_1).slice (win0_6.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 1024 (i 1).val h1 (by omega)

/-- The product array. -/
theorem final9 (H : Holds m c I) (p : Fin 8192) (j : Fin 2816) :
    (dats m 0 c).arrAt 9 cfg0.N (ix2 p j) = (I.da p j : EReal) := by
  have hN : cfg0.N = 16 := N_0
  refine (dats m 0 c).arrAt_forall_of_cover 9 (fun i v => v = (I.da (i 0) (i 1) : EReal)) (fun t hf y => ?_) (fun i => ?_) (ix2 p j)
  · obtain ⟨h0, h1⟩ := (index_rows t).2.2.2.2.2.2.2.2.2
    rw [Value.flushed9]
    have e := outs9 H t (y 0) (y 1)
    have hy : (y : S512x2816.Idx) = ix2 (y 0) (y 1) := eq_ix2 _
    refine Eq.trans (?_ : _ = _) (e.trans ?_)
    · exact congrArg (outsAt0 m c t.val t.isLt).2.2.2.2 hy
    · have e0 : row t (y 0) = ((cfg0.win 9).blk t).view.emb y 0 := Fin.ext (by
        show 512 * t.val + (y 0).val = win0_9.index t 0 * 512 + 1 * (y 0).val; rw [h0]; omega)
      have e1 : (y 1 : Fin 2816) = ((cfg0.win 9).blk t).view.emb y 1 := Fin.ext (by
        show (y 1).val = win0_9.index t 1 * 2816 + 1 * (y 1).val; rw [h1]; omega)
      rw [e0, e1]
  · have hi0 : (i 0 : Nat) < 8192 := (i 0).isLt
    have hi1 : (i 1 : Nat) < 2816 := (i 1).isLt
    have ht : (i 0 : Nat) / 512 < cfg0.N := by omega
    obtain ⟨h0, h1⟩ := (index_rows ⟨(i 0 : Nat) / 512, ht⟩).2.2.2.2.2.2.2.2.2
    refine ⟨⟨(i 0 : Nat) / 512, ht⟩, flush0_9 _, ?_⟩
    show i ∈ ((View.whole main_v6_4).slice (win0_9.rect ⟨(i 0 : Nat) / 512, ht⟩)).set
    rw [View.set_slice_whole, Rect.mem_set_unit]
    intro a
    match a with
    | ⟨0, _⟩ => exact span 512 (i 0).val h0 (by dsimp only; omega)
    | ⟨1, _⟩ => exact span 2816 (i 1).val h1 (by omega)

/-- The scale's gradient, over all rows. -/
theorem final7 (H : Holds m c I) (j : Fin 1024) :
    (dats m 0 c).arrAt 7 cfg0.N (ix2 0 j) = ((∑ p, I.dgRow p j : ℝ) : EReal) := by
  have hN : cfg0.N = 16 := N_0
  refine (dats m 0 c).arrAt_forall_of_cover 7 (fun i v => v = ((∑ p, I.dgRow p (i 1) : ℝ) : EReal)) (fun t hf y => ?_) (fun i => ?_) (ix2 0 j)
  · obtain ⟨h0, h1⟩ := (index_rows t).2.2.2.2.2.2.2.1
    have ht := t.isLt
    have h15 : t.val = 15 := by have := (flush0_7 t).mp hf; have : cfg0.grid.N = 16 := N_0; omega
    rw [Value.flushed7]
    have e := outs7 H (y 1) t.val t.isLt
    have hy : (y : S1x1024.Idx) = ix2 0 (y 1) := (eq_ix2 _).trans (congrArg (fun k => ix2 k (y 1)) (Fin.fin_one_eq_zero _))
    refine Eq.trans (?_ : _ = _) (e.trans ?_)
    · exact congrArg (outsAt0 m c t.val t.isLt).2.2.1 hy
    · have e1 : (y 1 : Fin 1024) = ((cfg0.win 7).blk t).view.emb y 1 := Fin.ext (by
        show (y 1).val = win0_7.index t 1 * 1024 + 1 * (y 1).val; rw [h1]; omega)
      rw [h15, show 512 * (15 + 1) = 8192 from rfl, upTo_all, e1]
  · have hi0 : (i 0 : Nat) < 1 := (i 0).isLt
    have hi1 : (i 1 : Nat) < 1024 := (i 1).isLt
    have ht : 15 < cfg0.N := by omega
    obtain ⟨h0, h1⟩ := (index_rows ⟨15, ht⟩).2.2.2.2.2.2.2.1
    refine ⟨⟨15, ht⟩, (flush0_7 _).mpr rfl, ?_⟩
    show i ∈ ((View.whole main_v6_2).slice (win0_7.rect ⟨15, ht⟩)).set
    rw [View.set_slice_whole, Rect.mem_set_unit]
    intro a
    match a with
    | ⟨0, _⟩ => exact span 1 (i 0).val h0 (by omega)
    | ⟨1, _⟩ => exact span 1024 (i 1).val h1 (by omega)

/-- The shift's gradient, over all rows. -/
theorem final8 (H : Holds m c I) (j : Fin 1024) :
    (dats m 0 c).arrAt 8 cfg0.N (ix2 0 j) = ((∑ p, I.dbRow p j : ℝ) : EReal) := by
  have hN : cfg0.N = 16 := N_0
  refine (dats m 0 c).arrAt_forall_of_cover 8 (fun i v => v = ((∑ p, I.dbRow p (i 1) : ℝ) : EReal)) (fun t hf y => ?_) (fun i => ?_) (ix2 0 j)
  · obtain ⟨h0, h1⟩ := (index_rows t).2.2.2.2.2.2.2.2.1
    have ht := t.isLt
    have h15 : t.val = 15 := by have := (flush0_8 t).mp hf; have : cfg0.grid.N = 16 := N_0; omega
    rw [Value.flushed8]
    have e := outs8 H (y 1) t.val t.isLt
    have hy : (y : S1x1024.Idx) = ix2 0 (y 1) := (eq_ix2 _).trans (congrArg (fun k => ix2 k (y 1)) (Fin.fin_one_eq_zero _))
    refine Eq.trans (?_ : _ = _) (e.trans ?_)
    · exact congrArg (outsAt0 m c t.val t.isLt).2.2.2.1 hy
    · have e1 : (y 1 : Fin 1024) = ((cfg0.win 8).blk t).view.emb y 1 := Fin.ext (by
        show (y 1).val = win0_8.index t 1 * 1024 + 1 * (y 1).val; rw [h1]; omega)
      rw [h15, show 512 * (15 + 1) = 8192 from rfl, upTo_all, e1]
  · have hi0 : (i 0 : Nat) < 1 := (i 0).isLt
    have hi1 : (i 1 : Nat) < 1024 := (i 1).isLt
    have ht : 15 < cfg0.N := by omega
    obtain ⟨h0, h1⟩ := (index_rows ⟨15, ht⟩).2.2.2.2.2.2.2.2.1
    refine ⟨⟨15, ht⟩, (flush0_8 _).mpr rfl, ?_⟩
    show i ∈ ((View.whole main_v6_3).slice (win0_8.rect ⟨15, ht⟩)).set
    rw [View.set_slice_whole, Rect.mem_set_unit]
    intro a
    match a with
    | ⟨0, _⟩ => exact span 1 (i 0).val h0 (by omega)
    | ⟨1, _⟩ => exact span 1024 (i 1).val h1 (by omega)

end Cert.Last

end
-- ==== Proof.LastFinite.lean ====
/-
  The precondition of the norm's claim: the arguments hold real numbers.
-/
module

public import proofs.«01_k».proof.Defs
public import proofs.«01_k».proof.Proof.Finite
public import proofs.«01_k».proof.Proof.LastArrays
public import proofs.«01_k».proof.Proof.Gen.Pre_last_finite

@[expose] public section

noncomputable section

namespace Cert.Last

open Cert.Norm

open Cert.Reals Cert.Kernel17Ideal Cert.Kernel17Ideal.Gen Idealize.ShloMosaic Idealize.ShloMosaic.TcCoe Idealize.SL.Sem

attribute [local instance] Cert.Pre_last_finite.Gen.facts

/-- The reals the arguments hold. -/
def inputs (m : (ℓ : Loc nD τ sig) → Buf (Elt Ideal) ℓ) (c : Dev nD) : Inputs where
  a p k := (m ((c : Thread nD τ).loc main_arg0) (ix2 p k) : EReal).toReal
  x p k := (m ((c : Thread nD τ).loc main_arg1) (ix2 p k) : EReal).toReal
  w p k := (m ((c : Thread nD τ).loc main_arg2) (ix2 p k) : EReal).toReal
  g k := (m ((c : Thread nD τ).loc main_arg3) (ix1 k) : EReal).toReal
  dya p k := (m ((c : Thread nD τ).loc main_arg5) (ix2 p k) : EReal).toReal
  dyb p k := (m ((c : Thread nD τ).loc main_arg6) (ix2 p k) : EReal).toReal

theorem holds_of_finite (m : (ℓ : Loc nD τ sig) → Buf (Elt Ideal) ℓ) (h : Cert.Pre_Kernel17Ideal_last_finite m) (c : Dev nD) :
    Holds m c (inputs m c) := by
  have e := congrFun (h c) (fun k => k.elim0)
  unfold Cert.Pre_last_finite.fn Cert.Pre_last_finite.fn_part1 at e
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun p k => (finite_of_all ofBits_inf h0 _).symm, fun p k => (finite_of_all ofBits_inf h1 _).symm, fun p k => (finite_of_all ofBits_inf h2 _).symm,
    fun k => (finite_of_all ofBits_inf h3 _).symm, fun p k => (finite_of_all ofBits_inf h5 _).symm, fun p k => (finite_of_all ofBits_inf h6 _).symm⟩

end Cert.Last

end
-- ==== Proof.LastRef.lean ====
/-
  What the reference computes, at real inputs: the vector-Jacobian product of the residual layer norm and of the down
  projection, stage by stage, is the gradient arrays of `LastResult`.
-/
module

public import proofs.«01_k».proof.Proof.LastResult
public import proofs.«01_k».proof.Proof.Gen.Reference17Ideal.Run

@[expose] public section

set_option maxRecDepth 16384

noncomputable section

namespace Cert.Last

open Cert.Norm

open Cert.Reals Cert.Reference17Ideal Cert.Reference17Ideal.Gen Cert.Reference17Ideal.Value Idealize.ShloMosaic Idealize.ShloMosaic.TcCoe Idealize.SL.Sem

/-! ## The stages, as the reference writes them -/

section Stages

/-- The loss' gradient at the norm's output. -/
def refLoss (a b : FVec Ideal S8192x1024 .f32) : FVec Ideal S8192x1024 .f32 :=
  mulf (broadcastInDim S8192x1024 ![0] bcast_S8192_S8192x1024_0
      (Host.divf (broadcastInDim S8192 ![] bcast_S_S8192 (mulf (constant S_ .f32 0x3F000000#32) (constant S_ .f32 0x3F800000#32)))
        (broadcastInDim S8192 ![] bcast_S_S8192 (constant S_ .f32 0x44800000#32))))
    (mulf (broadcastInDim S8192x1024 ![] bcast_S_S8192x1024 (constant S_ .f32 0x40000000#32)) (subf a b))

/-- The cotangent of the norm's output. -/
def refDy (a b : FVec Ideal S8192x1024 .f32) : FVec Ideal S8192x1024 .f32 :=
  shapeCast _ (refLoss a b) shapeCasts_S8192x1024_S8192x1024

/-- The residual sum. -/
def refR (a : FVec Ideal S8192x2816 .f32) (x : FVec Ideal S8192x1024 .f32) (w : FVec Ideal S2816x1024 .f32) : FVec Ideal S8192x1024 .f32 :=
  addf (mulf (broadcastInDim S8192x1024 ![] bcast_S_S8192x1024 (constant S_ .f32 0x3FD744FD#32)) x)
    (Host.dotGeneral dot_S8192x2816_S2816x1024_S8192x1024_1_0_0_1_n_n none a w)

/-- A sum along each row, kept as a column. -/
def refSum (x : FVec Ideal S8192x1024 .f32) : FVec Ideal S8192x1 .f32 :=
  broadcastInDim S8192x1 ![0] bcast_S8192_S8192x1_0 (Host.reduceAdd x (constant S_ .f32 0x00000000#32) reducesTo_S8192x1024_S8192_d1 h_S_)

/-- The column of 1024. -/
def refN : FVec Ideal S8192x1 .f32 := broadcastInDim S8192x1 ![] bcast_S_S8192x1 (constant S_ .f32 0x44800000#32)

/-- The residual sum less its row means. -/
def refXc (r : FVec Ideal S8192x1024 .f32) : FVec Ideal S8192x1024 .f32 :=
  subf r (broadcastInDim S8192x1024 ![0, 1] bcast_S8192x1_S8192x1024_0_1 (Host.divf (refSum r) refN))

/-- The row variances plus epsilon. -/
def refSpread (xc : FVec Ideal S8192x1024 .f32) : FVec Ideal S8192x1 .f32 :=
  addf (Host.divf (refSum (mulf xc xc)) refN) (broadcastInDim S8192x1 ![] bcast_S_S8192x1 (constant S_ .f32 0x3727C5AC#32))

/-- The normalised rows. -/
def refUnit (xc : FVec Ideal S8192x1024 .f32) (s : FVec Ideal S8192x1 .f32) : FVec Ideal S8192x1024 .f32 :=
  mulf xc (broadcastInDim S8192x1024 ![0, 1] bcast_S8192x1_S8192x1024_0_1 (Host.rsqrt s))

/-- The cotangent of the normalised rows. -/
def refScaled (d : FVec Ideal S8192x1024 .f32) (g : FVec Ideal S1024 .f32) : FVec Ideal S8192x1024 .f32 :=
  mulf d (broadcastInDim S8192x1024 ![0, 1] bcast_S1x1024_S8192x1024_0_1 (broadcastInDim S1x1024 ![1] bcast_S1024_S1x1024_1 g))

/-- The cotangent of the variance sums. -/
def refVarCt (xc d : FVec Ideal S8192x1024 .f32) (s : FVec Ideal S8192x1 .f32) : FVec Ideal S8192x1 .f32 :=
  Host.divf (mulf (shapeCast _ (Host.reduceAdd (mulf xc d) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt s) s))) refN

/-- A column read along the rows. -/
def refSpreadCol (v : FVec Ideal S8192x1 .f32) : FVec Ideal S8192x1024 .f32 :=
  broadcastInDim S8192x1024 ![0] bcast_S8192_S8192x1024_0 (Host.reduceAdd v (constant S_ .f32 0x00000000#32) reducesTo_S8192x1_S8192_d1 h_S_)

/-- The variance's part of the gradient. -/
def refPart (xc : FVec Ideal S8192x1024 .f32) (v : FVec Ideal S8192x1 .f32) : FVec Ideal S8192x1024 .f32 :=
  mulf (refSpreadCol v) (mulf (broadcastInDim S8192x1024 ![] bcast_S_S8192x1024 (constant S_ .f32 0x40000000#32)) xc)

/-- The cotangent scaled by the inverse deviation. -/
def refStep (d : FVec Ideal S8192x1024 .f32) (s : FVec Ideal S8192x1 .f32) : FVec Ideal S8192x1024 .f32 :=
  mulf d (broadcastInDim S8192x1024 ![0, 1] bcast_S8192x1_S8192x1024_0_1 (Host.rsqrt s))

/-- Minus a row sum, kept as a column. -/
def refNegSum (x : FVec Ideal S8192x1024 .f32) : FVec Ideal S8192x1 .f32 :=
  shapeCast _ (Host.reduceAdd (Host.negf x) (constant S_ .f32 0x00000000#32) reducesTo_S8192x1024_S8192_d1 h_S_) shapeCasts_S8192_S8192x1

/-- The two parts and the mean's part together. -/
def refGrad (u v : FVec Ideal S8192x1024 .f32) : FVec Ideal S8192x1024 .f32 :=
  addf (addf u v) (refSpreadCol (Host.divf (addf (refNegSum u) (refNegSum v)) refN))

/-- A sum over all rows, as one row. -/
def refColSum (x : FVec Ideal S8192x1024 .f32) : FVec Ideal S1x1024 .f32 :=
  shapeCast _ (Host.reduceAdd (shapeCast S1x1024 (Host.reduceAdd x (constant S_ .f32 0x00000000#32) reducesTo_S8192x1024_S1024_d0 h_S_) shapeCasts_S1024_S1x1024)
    (constant S_ .f32 0x00000000#32) reducesTo_S1x1024_S1024_d0 h_S_) shapeCasts_S1024_S1x1024

end Stages

/-! ## The stages at real inputs -/

section AtReals

theorem refLoss_at {x0 x1 : FVec Ideal S8192x1024 .f32} {a b : Fin 8192 → Fin 1024 → ℝ} (h0 : ∀ p j, x0 (ix2 p j) = (a p j : EReal))
    (h1 : ∀ p j, x1 (ix2 p j) = (b p j : EReal)) (p : Fin 8192) (j : Fin 1024) : refLoss x0 x1 (ix2 p j) = (dy (a p) (b p) j : EReal) := by
  unfold refLoss
  pointwise [h0, h1, ofBits_half, ofBits_one, ofBits_two, ofBits_1024]
  rw [← EReal.coe_mul, div_coe_coe _ (by norm_num), ← EReal.coe_sub, ← EReal.coe_mul, ← EReal.coe_mul]
  refine congrArg _ ?_
  unfold dy; ring

theorem refDy_eq (a b : FVec Ideal S8192x1024 .f32) : refDy a b = refLoss a b := shapeCast_self _ _

theorem refDy_at {x0 x1 : FVec Ideal S8192x1024 .f32} {a b : Fin 8192 → Fin 1024 → ℝ} (h0 : ∀ p j, x0 (ix2 p j) = (a p j : EReal))
    (h1 : ∀ p j, x1 (ix2 p j) = (b p j : EReal)) (p : Fin 8192) (j : Fin 1024) : refDy x0 x1 (ix2 p j) = (dy (a p) (b p) j : EReal) :=
  (congrFun (refDy_eq x0 x1) _).trans (refLoss_at h0 h1 p j)

theorem refSum_at {x : FVec Ideal S8192x1024 .f32} {f : Fin 8192 → Fin 1024 → ℝ} (h : ∀ p j, x (ix2 p j) = (f p j : EReal)) (p : Fin 8192) :
    refSum x (ix2 p 0) = ((∑ k, f p k : ℝ) : EReal) := by
  pointwise [refSum, h, sum_coe]

theorem refN_at (p : Fin 8192) : refN (ix2 p 0) = ((1024 : ℝ) : EReal) := by
  pointwise [refN, ofBits_1024]

theorem refXc_at {x : FVec Ideal S8192x1024 .f32} {r : Fin 8192 → Fin 1024 → ℝ} (h : ∀ p j, x (ix2 p j) = (r p j : EReal)) (p : Fin 8192) (j : Fin 1024) :
    refXc x (ix2 p j) = (centred (r p) j : EReal) := by
  pointwise [refXc, h, refSum_at h, refN_at]
  rw [div_coe_coe _ (by norm_num), ← EReal.coe_sub]; rfl

theorem refSpread_at {x : FVec Ideal S8192x1024 .f32} {r : Fin 8192 → Fin 1024 → ℝ} (h : ∀ p j, x (ix2 p j) = (centred (r p) j : EReal)) (p : Fin 8192) :
    refSpread x (ix2 p 0) = (spread (r p) : EReal) := by
  have hs : ∀ p j, mulf x x (ix2 p j) = ((centred (r p) j * centred (r p) j : ℝ) : EReal) := fun p j => by
    pointwise [h, ← EReal.coe_mul]
  pointwise [refSpread, refSum_at hs, refN_at, ofBits_eps]
  rw [div_coe_coe _ (by norm_num), ← EReal.coe_add]; rfl

/-- The inverse root of the spread. -/
theorem rsqrt_spread (f : Fin 1024 → ℝ) : Ideal.rsqrt (spread f : EReal) = (invStd f : EReal) := rsqrt_pos (spread_pos f)

theorem refUnit_at {x : FVec Ideal S8192x1024 .f32} {s : FVec Ideal S8192x1 .f32} {r : Fin 8192 → Fin 1024 → ℝ}
    (h : ∀ p j, x (ix2 p j) = (centred (r p) j : EReal)) (hs : ∀ p, s (ix2 p 0) = (spread (r p) : EReal)) (p : Fin 8192) (j : Fin 1024) :
    refUnit x s (ix2 p j) = (unit (r p) j : EReal) := by
  pointwise [refUnit, h, hs, rsqrt_spread, ← EReal.coe_mul]; rfl

theorem refScaled_at {d : FVec Ideal S8192x1024 .f32} {y : FVec Ideal S1024 .f32} {f : Fin 8192 → Fin 1024 → ℝ} {g : Fin 1024 → ℝ}
    (h : ∀ p j, d (ix2 p j) = (f p j : EReal)) (hg : ∀ j, y (ix1 j) = (g j : EReal)) (p : Fin 8192) (j : Fin 1024) :
    refScaled d y (ix2 p j) = (scaled g (f p) j : EReal) := by
  pointwise [refScaled, h, hg, ← EReal.coe_mul]; rfl

theorem refVarCt_at {x d : FVec Ideal S8192x1024 .f32} {s : FVec Ideal S8192x1 .f32} {r f : Fin 8192 → Fin 1024 → ℝ}
    (h : ∀ p j, x (ix2 p j) = (centred (r p) j : EReal)) (hd : ∀ p j, d (ix2 p j) = (f p j : EReal))
    (hs : ∀ p, s (ix2 p 0) = (spread (r p) : EReal)) (p : Fin 8192) :
    refVarCt x d s (ix2 p 0) = (varCt (r p) (f p) : EReal) := by
  pointwise [refVarCt, h, hd, hs, refN_at, rsqrt_spread, ofBits_neg_half, ← EReal.coe_mul, sum_coe]
  rw [div_coe_coe _ (spread_pos _).ne', ← EReal.coe_mul, ← EReal.coe_mul, div_coe_coe _ (by norm_num)]; rfl

theorem refSpreadCol_at {v : FVec Ideal S8192x1 .f32} {q : Fin 8192 → ℝ} (h : ∀ p, v (ix2 p 0) = (q p : EReal)) (p : Fin 8192) (j : Fin 1024) :
    refSpreadCol v (ix2 p j) = (q p : EReal) := by
  pointwise [refSpreadCol, h]
  simp [h]

theorem refPart_at {x : FVec Ideal S8192x1024 .f32} {v : FVec Ideal S8192x1 .f32} {f : Fin 8192 → Fin 1024 → ℝ} {q : Fin 8192 → ℝ}
    (hx : ∀ p j, x (ix2 p j) = (f p j : EReal)) (h : ∀ p, v (ix2 p 0) = (q p : EReal)) (p : Fin 8192) (j : Fin 1024) :
    refPart x v (ix2 p j) = ((q p * (2 * f p j) : ℝ) : EReal) := by
  pointwise [refPart, hx, refSpreadCol_at h, ofBits_two, ← EReal.coe_mul]

theorem refStep_at {d : FVec Ideal S8192x1024 .f32} {s : FVec Ideal S8192x1 .f32} {r f : Fin 8192 → Fin 1024 → ℝ}
    (h : ∀ p j, d (ix2 p j) = (f p j : EReal)) (hs : ∀ p, s (ix2 p 0) = (spread (r p) : EReal)) (p : Fin 8192) (j : Fin 1024) :
    refStep d s (ix2 p j) = ((f p j * invStd (r p) : ℝ) : EReal) := by
  pointwise [refStep, h, hs, rsqrt_spread, ← EReal.coe_mul]

theorem refNegSum_at {x : FVec Ideal S8192x1024 .f32} {f : Fin 8192 → Fin 1024 → ℝ} (h : ∀ p j, x (ix2 p j) = (f p j : EReal)) (p : Fin 8192) :
    refNegSum x (ix2 p 0) = ((∑ k, -(f p k) : ℝ) : EReal) := by
  pointwise [refNegSum, h, ← EReal.coe_neg, sum_coe]

theorem refGrad_at {u v : FVec Ideal S8192x1024 .f32} {e f : Fin 8192 → Fin 1024 → ℝ} (hu : ∀ p j, u (ix2 p j) = (e p j : EReal))
    (hv : ∀ p j, v (ix2 p j) = (f p j : EReal)) (p : Fin 8192) (j : Fin 1024) :
    refGrad u v (ix2 p j) = ((e p j + f p j + ((∑ k, -(e p k)) + (∑ k, -(f p k))) / 1024 : ℝ) : EReal) := by
  have h : ∀ p, Host.divf (addf (refNegSum u) (refNegSum v)) refN (ix2 p 0) = ((((∑ k, -(e p k)) + (∑ k, -(f p k))) / 1024 : ℝ) : EReal) := fun p => by
    pointwise [refNegSum_at hu, refNegSum_at hv, refN_at]
    rw [← EReal.coe_add, div_coe_coe _ (by norm_num)]
  pointwise [refGrad, hu, hv, refSpreadCol_at h, ← EReal.coe_add]

theorem refColSum_at {x : FVec Ideal S8192x1024 .f32} {f : Fin 8192 → Fin 1024 → ℝ} (h : ∀ p j, x (ix2 p j) = (f p j : EReal)) (j : Fin 1024) :
    refColSum x (ix2 0 j) = ((∑ p, f p j : ℝ) : EReal) := by
  pointwise [refColSum, h, sum_coe]
  simp

end AtReals

/-! ## The results -/

variable (m : (ℓ : Loc nD τ sig) → Buf (Elt Ideal) ℓ) (c : Dev nD) (I : Inputs)

/-- The reference's argument arrays hold the reals `I`. -/
structure RefHolds : Prop where
  a : ∀ p k, m ((c : Thread nD τ).loc main_arg0) (ix2 p k) = (I.a p k : EReal)
  x : ∀ p k, m ((c : Thread nD τ).loc main_arg1) (ix2 p k) = (I.x p k : EReal)
  w : ∀ p k, m ((c : Thread nD τ).loc main_arg2) (ix2 p k) = (I.w p k : EReal)
  g : ∀ k, m ((c : Thread nD τ).loc main_arg3) (ix1 k) = (I.g k : EReal)
  dya : ∀ p k, m ((c : Thread nD τ).loc main_arg5) (ix2 p k) = (I.dya p k : EReal)
  dyb : ∀ p k, m ((c : Thread nD τ).loc main_arg6) (ix2 p k) = (I.dyb p k : EReal)

/-- The residual sum less its means, the spread and the cotangent, of the arguments. -/
abbrev argXc : FVec Ideal S8192x1024 .f32 := refXc (refR (m ((c : Thread nD τ).loc main_arg0)) (m ((c : Thread nD τ).loc main_arg1)) (m ((c : Thread nD τ).loc main_arg2)))
abbrev argDy : FVec Ideal S8192x1024 .f32 := refDy (m ((c : Thread nD τ).loc main_arg5)) (m ((c : Thread nD τ).loc main_arg6))
abbrev argCt : FVec Ideal S8192x1024 .f32 := refScaled (argDy m c) (m ((c : Thread nD τ).loc main_arg3))
abbrev argGrad : FVec Ideal S8192x1024 .f32 :=
  refGrad (refStep (argCt m c) (refSpread (argXc m c))) (refPart (argXc m c) (refVarCt (argXc m c) (argCt m c) (refSpread (argXc m c))))

variable {m c I}

theorem refR_at (H : RefHolds m c I) (p : Fin 8192) (j : Fin 1024) :
    refR (m ((c : Thread nD τ).loc main_arg0)) (m ((c : Thread nD τ).loc main_arg1)) (m ((c : Thread nD τ).loc main_arg2)) (ix2 p j) = (I.r p j : EReal) := by
  pointwise [refR, dot_S8192x2816_S2816x1024_S8192x1024_1_0_0_1_n_n, ofBits_alpha, H.a, H.x, H.w, ← EReal.coe_mul, sum_coe]
  rw [← EReal.coe_add]; rfl

theorem argXc_at (H : RefHolds m c I) : ∀ p j, argXc m c (ix2 p j) = (centred (I.r p) j : EReal) := refXc_at (refR_at H)

theorem argCt_at (H : RefHolds m c I) : ∀ p j, argCt m c (ix2 p j) = (scaled I.g (dy (I.dya p) (I.dyb p)) j : EReal) :=
  refScaled_at (refDy_at H.dya H.dyb) H.g

theorem argGrad_at (H : RefHolds m c I) (p : Fin 8192) (j : Fin 1024) : argGrad m c (ix2 p j) = (I.dr p j : EReal) := by
  have hx := argXc_at H
  have hs := refSpread_at hx
  have hd := argCt_at H
  refine (refGrad_at (refStep_at hd hs) (refPart_at hx (refVarCt_at hx hd hs)) p j).trans ?_
  exact congrArg _ (chainGrad_eq (I.r p) (scaled I.g (dy (I.dya p) (I.dyb p))) j)

theorem out0_eq : res_out0 m c = argGrad m c := by unfold res_out0 res_main_v81; rfl
theorem out1_eq : res_out1 m c = truncf .bf16 (argGrad m c) bitsLt_bf16_f32 := by unfold res_out1 res_main_v83; rfl
theorem out4_eq : res_out4 m c
    = truncf .bf16 (Host.dotGeneral (φ₁ := .f32) (φ₂ := .f32) dot_S8192x1024_S2816x1024_S8192x2816_1_1_0_0_n_n none (argGrad m c) (m ((c : Thread nD τ).loc main_arg2))) bitsLt_bf16_f32 := by
  unfold res_out4 res_main_v86; rfl

theorem out0_at (H : RefHolds m c I) (p : Fin 8192) (j : Fin 1024) : res_out0 m c (ix2 p j) = (I.dr p j : EReal) :=
  (congrFun out0_eq _).trans (argGrad_at H p j)

theorem out1_at (H : RefHolds m c I) (p : Fin 8192) (j : Fin 1024) : res_out1 m c (ix2 p j) = (I.dr p j : EReal) :=
  (congrFun out1_eq _).trans (argGrad_at H p j)

theorem out4_at (H : RefHolds m c I) (p : Fin 8192) (n : Fin 2816) : res_out4 m c (ix2 p n) = (I.da p n : EReal) := by
  rw [out4_eq]
  pointwise [dot_S8192x1024_S2816x1024_S8192x2816_1_1_0_0_n_n, argGrad_at H, H.w, ← EReal.coe_mul, sum_coe]
  rfl

/-- The scale's gradient, as the reference writes it. -/
abbrev argDg (m : (ℓ : Loc nD τ sig) → Buf (Elt Ideal) ℓ) (c : Dev nD) : FVec Ideal S1x1024 .f32 :=
  refColSum (mulf (refUnit (argXc m c) (refSpread (argXc m c))) (argDy m c))
/-- The shift's gradient, as the reference writes it. -/
abbrev argDb (m : (ℓ : Loc nD τ sig) → Buf (Elt Ideal) ℓ) (c : Dev nD) : FVec Ideal S1x1024 .f32 :=
  refColSum (refLoss (m ((c : Thread nD τ).loc main_arg5)) (m ((c : Thread nD τ).loc main_arg6)))

theorem argDg_at (H : RefHolds m c I) (j : Fin 1024) : argDg m c (ix2 0 j) = ((∑ p, I.dgRow p j : ℝ) : EReal) := by
  have hx := argXc_at H
  have hu := refUnit_at hx (refSpread_at hx)
  refine refColSum_at (f := I.dgRow) (fun p j => ?_) j
  pointwise [hu, refDy_at H.dya H.dyb, ← EReal.coe_mul]
  unfold Inputs.dgRow
  rw [mul_comm]

theorem argDb_at (H : RefHolds m c I) (j : Fin 1024) : argDb m c (ix2 0 j) = ((∑ p, I.dbRow p j : ℝ) : EReal) :=
  refColSum_at (f := I.dbRow) (refLoss_at H.dya H.dyb) j

end Cert.Last

end
-- ==== Proof.LastClaim.lean ====
/-
  The last norm's claim: kernel and reference agree on finite arguments.
-/
module

public import proofs.«01_k».proof.Proof.LastFinite
public import proofs.«01_k».proof.Proof.LastRef

@[expose] public section

noncomputable section

namespace Cert.Last

open Cert.Norm

open Cert.Reals Idealize.ShloMosaic Idealize.ShloMosaic.TcCoe Idealize.SL.Sem

attribute [local instance] Cert.Kernel17Ideal.Gen.facts Cert.Reference17Ideal.Gen.facts Cert.Pre_last_finite.Gen.facts

theorem agree : Cert.algebraic_Kernel17Ideal_Reference17Ideal_pre_last_finite := by
  intro m g m' g' hp ha
  have H := holds_of_finite m hp
  have H' : ∀ c, RefHolds m' c (inputs m c) := fun c => by
    obtain ⟨e0, e1, e2, e3, e4, e5, e6⟩ := ha c
    exact ⟨fun p k => (congrFun e0 _).trans ((H c).a p k), fun p k => (congrFun e1 _).trans ((H c).x p k),
      fun p k => (congrFun e2 _).trans ((H c).w p k), fun k => (congrFun e3 _).trans ((H c).g k),
      fun p k => (congrFun e5 _).trans ((H c).dya p k), fun p k => (congrFun e6 _).trans ((H c).dyb p k)⟩
  refine ⟨_, _, _, _, _, Cert.Kernel17Ideal.Value.run_blocks m g,
    (θ_run Cert.Reference17Ideal.defs _ _).mono (fun r h c => ?_) (Cert.Reference17Ideal.Value.run m' g')⟩
  obtain ⟨h0, h1, h2, h3, h4, hk⟩ := h c
  refine ⟨h0.trans ?_, h1.trans ?_, h2.trans ?_, h3.trans ?_, h4.trans ?_, hk⟩
  · funext i; rw [← ix2_eta i]
    exact (out0_at (H' c) (i 0) (i 1)).trans (final5 (H c) (i 0) (i 1)).symm
  · funext i; rw [← ix2_eta i]
    exact (out1_at (H' c) (i 0) (i 1)).trans (final6 (H c) (i 0) (i 1)).symm
  · funext i; rw [← ix2_eta i, show i 0 = (0 : Fin 1) from Subsingleton.elim (α := Fin 1) _ _]
    exact (argDg_at (H' c) (i 1)).trans (final7 (H c) (i 1)).symm
  · funext i; rw [← ix2_eta i, show i 0 = (0 : Fin 1) from Subsingleton.elim (α := Fin 1) _ _]
    exact (argDb_at (H' c) (i 1)).trans (final8 (H c) (i 1)).symm
  · funext i; rw [← ix2_eta i]
    exact (out4_at (H' c) (i 0) (i 1)).trans (final9 (H c) (i 0) (i 1)).symm

end Cert.Last

end
-- ==== Proof.InXbcClaim.lean ====
/-
  The gradient of the input projection's weights for the state-space mixer's convolved columns: the kernel adds, over four grid points, the products of 2048 rows each; the reference takes one product over
  all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel18Ideal.Value
public import proofs.«01_k».proof.Proof.Gen.Reference18Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InXbc

open Cert.Sums Cert.Kernel18Ideal Cert.Kernel18Ideal.Gen Idealize.ShloMosaic Idealize.ShloMosaic.TcCoe Idealize.SL.Sem

/-! ## One grid point -/

section Case
variable (c : Dev nD) (i : grid0.Coords)
variable (a1 : Memref sig .tc .vmem S2048x1024 .bf16) (h1 : a1.IsWhole) (a2 : Memref sig .tc .vmem S2048x768 .bf16) (h2 : a2.IsWhole) (a3 : Memref sig .tc .vmem S1024x768 .f32) (h3 : a3.IsWhole)
variable (x0 : Vec Ideal S2048x1024 .bf16) (x1 : Vec Ideal S2048x768 .bf16) (xo : Vec Ideal S1024x768 .f32)

/-- The block's product. -/
theorem pay1_at (p : Fin 1024) (q : Fin 768) :
    k0_pay1 x0 x1 (ix2 p q) = ∑ r : Fin 2048, (x0 (ix2 r p) : EReal) * (x1 (ix2 r q) : EReal) := by
  pointwise [k0_pay1, dot_S2048x1024_S2048x768_S1024x768_0_0_1_1_n_n]

/-- The block's product added to what the buffer held. -/
theorem pay2_at (p : Fin 1024) (q : Fin 768) :
    k0_pay2 x0 x1 xo (ix2 p q) = (xo (ix2 p q) : EReal) + ∑ r : Fin 2048, (x0 (ix2 r p) : EReal) * (x1 (ix2 r q) : EReal) := by
  have h := pay1_at x0 x1 p q
  pointwise [k0_pay2, h]

/-- The first of the four points leaves the product. -/
theorem out_A (hc0 : cond0_0 i) (hc1 : ¬cond0_1 i) : out0_A_2 c i a1 h1 a2 h2 a3 h3 hc0 hc1 x0 x1 = k0_pay1 x0 x1 := by
  frame_out

/-- A later point adds its product. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two operands. -/
def left (r : Fin 8192) (k : Fin 1024) : EReal := m ((c : Thread nD τ).loc main_arg0) (ix2 r k)
def right (r : Fin 8192) (n : Fin 768) : EReal := m ((c : Thread nD τ).loc main_arg1) (ix2 r n)

/-- Row `q` of grid point `t`'s blocks, and the columns of its operands' blocks. -/
def row (t : Fin cfg0.N) (q : Fin 2048) : Fin 8192 := ⟨2048 * (t.val % 4) + q.val, by have := q.isLt; omega⟩
def col0 (t : Fin cfg0.N) (p : Fin 1024) : Fin 1024 := ⟨p.val, by have := t.isLt; have : cfg0.N = 4 := N_0; have := p.isLt; omega⟩
def col1 (t : Fin cfg0.N) (p : Fin 768) : Fin 768 := ⟨p.val, by have := t.isLt; have : cfg0.N = 4 := N_0; have := p.isLt; omega⟩

theorem index_at : ∀ t : Fin grid0.N, (win0_0.index t 0 = t.val % 4 ∧ win0_0.index t 1 = 0) ∧ (win0_1.index t 0 = t.val % 4 ∧ win0_1.index t 1 = 0)
    ∧ (win0_2.index t 0 = 0 ∧ win0_2.index t 1 = 0) := by
  decide +kernel

theorem iblk0 (t : Fin cfg0.N) (q : Fin 2048) (p : Fin 1024) : iblk m c 0 t (ix2 q p) = left m c (row t q) (col0 t p) := by
  obtain ⟨h0, h1⟩ := (index_at t).1
  unfold left
  rw [← V_main_arg0 m c]
  unfold iblk
  exact congrArg (V m c main_arg0) (at2 _ (spot 2048 q.val h0 (by show _ = 2048 * (t.val % 4) + q.val; omega)) (spot 1024 p.val h1 (by show _ = p.val; omega)))

theorem iblk1 (t : Fin cfg0.N) (q : Fin 2048) (p : Fin 768) : iblk m c 1 t (ix2 q p) = right m c (row t q) (col1 t p) := by
  obtain ⟨h0, h1⟩ := (index_at t).2.1
  unfold right
  rw [← V_main_arg1 m c]
  unfold iblk
  exact congrArg (V m c main_arg1) (at2 _ (spot 2048 q.val h0 (by show _ = 2048 * (t.val % 4) + q.val; omega)) (spot 768 p.val h1 (by show _ = p.val; omega)))

/-! ## The array -/

/-- The running sum after a point: the products of the rows so far. -/
theorem outs (p : Fin 1024) (q : Fin 768) : ∀ (n : ℕ) (hn : n < cfg0.N),
    outsAt0 m c n hn (ix2 p q) = upTo (fun r => left m c r (col0 ⟨n, hn⟩ p) * right m c r (col1 ⟨n, hn⟩ q)) (2048 * (n % 4 + 1)) := by
  intro n
  induction n with
  | zero =>
    intro hn
    have hA := outsAt0_A m c ⟨0, hn⟩ (by dsimp only) (by simp)
    dsimp only at hA
    rw [hA, out_A, pay1_at]
    simp only [iblk0, iblk1]
    rw [show 2048 * (0 % 4 + 1) = 0 + 2048 from rfl, upTo_add _ _ 2048 (by omega), upTo_zero, zero_add]
    rfl
  | succ n ih =>
    intro hn
    have hN : cfg0.N = 4 := N_0
    by_cases h : (n + 1) % 4 = 0
    · have hA := outsAt0_A m c ⟨n + 1, hn⟩ (by dsimp only; omega) (by dsimp only; omega)
      dsimp only at hA
      rw [hA, out_A, pay1_at]
      simp only [iblk0, iblk1]
      rw [h, show 2048 * (0 + 1) = 0 + 2048 from rfl, upTo_add _ _ 2048 (by omega), upTo_zero, zero_add]
      refine Finset.sum_congr rfl fun r _ => ?_
      have e : row ⟨n + 1, hn⟩ r = ⟨0 + r.val, by have := r.isLt; omega⟩ := Fin.ext (by show 2048 * ((n + 1) % 4) + r.val = 0 + r.val; omega)
      rw [e]
    · have hB := outsAt0_B m c ⟨n + 1, hn⟩ (by dsimp only; omega) (by dsimp only; omega)
      dsimp only at hB
      rw [hB, out_B, pay2_at]
      simp only [iblk0, iblk1]
      have e0 : col0 ⟨n, Nat.lt_of_succ_lt hn⟩ p = col0 ⟨n + 1, hn⟩ p := Fin.ext (by show p.val = p.val; omega)
      have e1 : col1 ⟨n, Nat.lt_of_succ_lt hn⟩ q = col1 ⟨n + 1, hn⟩ q := Fin.ext (by show q.val = q.val; omega)
      have ih' := ih (Nat.lt_of_succ_lt hn)
      rw [e0, e1] at ih'
      rw [show 2048 * ((n + 1) % 4 + 1) = 2048 * (n % 4 + 1) + 2048 by omega, upTo_add _ _ 2048 (by omega)]
      refine congrArg₂ (· + ·) ih' (Finset.sum_congr rfl fun r _ => ?_)
      have e : row ⟨n + 1, hn⟩ r = ⟨2048 * (n % 4 + 1) + r.val, by have := r.isLt; omega⟩ := Fin.ext (by show 2048 * ((n + 1) % 4) + r.val = 2048 * (n % 4 + 1) + r.val; omega)
      rw [e]

/-- The result: the product over all rows. -/
def product (k : Fin 1024) (n : Fin 768) : EReal := ∑ r, left m c r k * right m c r n

theorem final (k : Fin 1024) (n : Fin 768) : (dats m 0 c).arrAt 2 cfg0.N (ix2 k n) = product m c k n := by
  have hN : cfg0.N = 4 := N_0
  refine (dats m 0 c).arrAt_forall_of_cover 2 (fun i v => v = product m c (i 0) (i 1)) (fun t hf y => ?_) (fun i => ?_) (ix2 k n)
  · obtain ⟨h0, h1⟩ := (index_at t).2.2
    have h3 : t.val % 4 = 3 := (flush0_2 t).mp hf
    rw [Value.flushed2]
    have e := outs m c (y 0) (y 1) t.val t.isLt
    have hy : (y : S1024x768.Idx) = ix2 (y 0) (y 1) := eq_ix2 _
    refine Eq.trans (?_ : _ = _) (e.trans ?_)
    · exact congrArg (outsAt0 m c t.val t.isLt) hy
    · have e0 : col0 t (y 0) = ((cfg0.win 2).blk t).view.emb y 0 := Fin.ext (by
        show (y 0).val = win0_2.index t 0 * 1024 + 1 * (y 0).val; rw [h0]; omega)
      have e1 : col1 t (y 1) = ((cfg0.win 2).blk t).view.emb y 1 := Fin.ext (by
        show (y 1).val = win0_2.index t 1 * 768 + 1 * (y 1).val; rw [h1]; omega)
      rw [h3, show 2048 * (3 + 1) = 8192 from rfl, upTo_all, e0, e1]
      rfl
  · have hi0 : (i 0 : Nat) < 1024 := (i 0).isLt
    have hi1 : (i 1 : Nat) < 768 := (i 1).isLt
    have ht : 3 < cfg0.N := by omega
    obtain ⟨h0, h1⟩ := (index_at ⟨3, ht⟩).2.2
    refine ⟨⟨3, ht⟩, (flush0_2 _).mpr rfl, ?_⟩
    show i ∈ ((View.whole main_v0).slice (win0_2.rect ⟨3, ht⟩)).set
    rw [View.set_slice_whole, Rect.mem_set_unit]
    intro a
    match a with
    | ⟨0, _⟩ => exact span 1024 (i 0).val h0 (by dsimp only; omega)
    | ⟨1, _⟩ => exact span 768 (i 1).val h1 (by dsimp only; omega)

/-! ## The reference -/

/-- The reference's product, of its own arrays. -/
def refProduct (x : FVec Ideal S8192x1024 .bf16) (d : FVec Ideal S8192x768 .bf16) : FVec Ideal S1024x768 .f32 :=
  transpose S1024x768 [1, 0] (Host.dotGeneral Cert.Reference18Ideal.dot_S8192x768_S8192x1024_S768x1024_0_0_1_1_n_n none (extf .f32 d Cert.Reference18Ideal.Gen.bitsLt_bf16_f32)
    (extf .f32 x Cert.Reference18Ideal.Gen.bitsLt_bf16_f32)) Cert.Reference18Ideal.Gen.transposes_S768x1024_S1024x768_1_0

theorem refProduct_at (x : FVec Ideal S8192x1024 .bf16) (d : FVec Ideal S8192x768 .bf16) (k : Fin 1024) (n : Fin 768) :
    refProduct x d (ix2 k n) = ∑ r : Fin 8192, (x (ix2 r k) : EReal) * (d (ix2 r n) : EReal) := by
  pointwise [refProduct, Cert.Reference18Ideal.dot_S8192x768_S8192x1024_S768x1024_0_0_1_1_n_n]
  exact Finset.sum_congr rfl fun r _ => mul_comm _ _

/-! ## The claim -/

attribute [local instance] Cert.Kernel18Ideal.Gen.facts Cert.Reference18Ideal.Gen.facts

theorem agree : Cert.algebraic_Kernel18Ideal_Reference18Ideal := by
  intro m g m' g' hp ha
  refine ⟨_, Cert.Kernel18Ideal.Value.run_blocks m g,
    (θ_run Cert.Reference18Ideal.defs _ _).mono (fun r h c => ?_) (Cert.Reference18Ideal.Value.run m' g')⟩
  obtain ⟨h0, hk⟩ := h c
  obtain ⟨e0, e1⟩ := ha c
  refine ⟨h0.trans ?_, hk⟩
  rw [e0, e1]
  funext i; rw [← ix2_eta i]
  exact (refProduct_at _ _ (i 0) (i 1)).trans (final m c (i 0) (i 1)).symm

end Cert.InXbc

end
-- ==== Proof.InSideClaim.lean ====
/-
  The gradient of a piece of 128 columns of the input projection's weights, whose cotangent both round to half precision: the kernel adds, over four grid points, the products of 2048 rows each; the reference takes one product over
  all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel19Ideal.Value
public import proofs.«01_k».proof.Proof.Gen.Reference19Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InSide

open Cert.Sums Cert.Kernel19Ideal Cert.Kernel19Ideal.Gen Idealize.ShloMosaic Idealize.ShloMosaic.TcCoe Idealize.SL.Sem

/-! ## One grid point -/

section Case
variable (c : Dev nD) (i : grid0.Coords)
variable (a1 : Memref sig .tc .vmem S2048x1024 .bf16) (h1 : a1.IsWhole) (a2 : Memref sig .tc .vmem S2048x128 .f32) (h2 : a2.IsWhole) (a3 : Memref sig .tc .vmem S1024x128 .f32) (h3 : a3.IsWhole)
variable (x0 : Vec Ideal S2048x1024 .bf16) (x1 : Vec Ideal S2048x128 .f32) (xo : Vec Ideal S1024x128 .f32)

/-- The block's product. -/
theorem pay1_at (p : Fin 1024) (q : Fin 128) :
    k0_pay1 x0 x1 (ix2 p q) = ∑ r : Fin 2048, (x0 (ix2 r p) : EReal) * (x1 (ix2 r q) : EReal) := by
  pointwise [k0_pay1, dot_S2048x1024_S2048x128_S1024x128_0_0_1_1_n_n]

/-- The block's product added to what the buffer held. -/
theorem pay2_at (p : Fin 1024) (q : Fin 128) :
    k0_pay2 x0 x1 xo (ix2 p q) = (xo (ix2 p q) : EReal) + ∑ r : Fin 2048, (x0 (ix2 r p) : EReal) * (x1 (ix2 r q) : EReal) := by
  have h := pay1_at x0 x1 p q
  pointwise [k0_pay2, h]

/-- The first of the four points leaves the product. -/
theorem out_A (hc0 : cond0_0 i) (hc1 : ¬cond0_1 i) : out0_A_2 c i a1 h1 a2 h2 a3 h3 hc0 hc1 x0 x1 = k0_pay1 x0 x1 := by
  frame_out

/-- A later point adds its product. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two operands. -/
def left (r : Fin 8192) (k : Fin 1024) : EReal := m ((c : Thread nD τ).loc main_arg0) (ix2 r k)
def right (r : Fin 8192) (n : Fin 128) : EReal := m ((c : Thread nD τ).loc main_arg1) (ix2 r n)

/-- Row `q` of grid point `t`'s blocks, and the columns of its operands' blocks. -/
def row (t : Fin cfg0.N) (q : Fin 2048) : Fin 8192 := ⟨2048 * (t.val % 4) + q.val, by have := q.isLt; omega⟩
def col0 (t : Fin cfg0.N) (p : Fin 1024) : Fin 1024 := ⟨p.val, by have := t.isLt; have : cfg0.N = 4 := N_0; have := p.isLt; omega⟩
def col1 (t : Fin cfg0.N) (p : Fin 128) : Fin 128 := ⟨p.val, by have := t.isLt; have : cfg0.N = 4 := N_0; have := p.isLt; omega⟩

theorem index_at : ∀ t : Fin grid0.N, (win0_0.index t 0 = t.val % 4 ∧ win0_0.index t 1 = 0) ∧ (win0_1.index t 0 = t.val % 4 ∧ win0_1.index t 1 = 0)
    ∧ (win0_2.index t 0 = 0 ∧ win0_2.index t 1 = 0) := by
  decide +kernel

theorem iblk0 (t : Fin cfg0.N) (q : Fin 2048) (p : Fin 1024) : iblk m c 0 t (ix2 q p) = left m c (row t q) (col0 t p) := by
  obtain ⟨h0, h1⟩ := (index_at t).1
  unfold left
  rw [← V_main_arg0 m c]
  unfold iblk
  exact congrArg (V m c main_arg0) (at2 _ (spot 2048 q.val h0 (by show _ = 2048 * (t.val % 4) + q.val; omega)) (spot 1024 p.val h1 (by show _ = p.val; omega)))

theorem iblk1 (t : Fin cfg0.N) (q : Fin 2048) (p : Fin 128) : iblk m c 1 t (ix2 q p) = right m c (row t q) (col1 t p) := by
  obtain ⟨h0, h1⟩ := (index_at t).2.1
  unfold right
  rw [← V_main_arg1 m c]
  unfold iblk
  exact congrArg (V m c main_arg1) (at2 _ (spot 2048 q.val h0 (by show _ = 2048 * (t.val % 4) + q.val; omega)) (spot 128 p.val h1 (by show _ = p.val; omega)))

/-! ## The array -/

/-- The running sum after a point: the products of the rows so far. -/
theorem outs (p : Fin 1024) (q : Fin 128) : ∀ (n : ℕ) (hn : n < cfg0.N),
    outsAt0 m c n hn (ix2 p q) = upTo (fun r => left m c r (col0 ⟨n, hn⟩ p) * right m c r (col1 ⟨n, hn⟩ q)) (2048 * (n % 4 + 1)) := by
  intro n
  induction n with
  | zero =>
    intro hn
    have hA := outsAt0_A m c ⟨0, hn⟩ (by dsimp only) (by simp)
    dsimp only at hA
    rw [hA, out_A, pay1_at]
    simp only [iblk0, iblk1]
    rw [show 2048 * (0 % 4 + 1) = 0 + 2048 from rfl, upTo_add _ _ 2048 (by omega), upTo_zero, zero_add]
    rfl
  | succ n ih =>
    intro hn
    have hN : cfg0.N = 4 := N_0
    by_cases h : (n + 1) % 4 = 0
    · have hA := outsAt0_A m c ⟨n + 1, hn⟩ (by dsimp only; omega) (by dsimp only; omega)
      dsimp only at hA
      rw [hA, out_A, pay1_at]
      simp only [iblk0, iblk1]
      rw [h, show 2048 * (0 + 1) = 0 + 2048 from rfl, upTo_add _ _ 2048 (by omega), upTo_zero, zero_add]
      refine Finset.sum_congr rfl fun r _ => ?_
      have e : row ⟨n + 1, hn⟩ r = ⟨0 + r.val, by have := r.isLt; omega⟩ := Fin.ext (by show 2048 * ((n + 1) % 4) + r.val = 0 + r.val; omega)
      rw [e]
    · have hB := outsAt0_B m c ⟨n + 1, hn⟩ (by dsimp only; omega) (by dsimp only; omega)
      dsimp only at hB
      rw [hB, out_B, pay2_at]
      simp only [iblk0, iblk1]
      have e0 : col0 ⟨n, Nat.lt_of_succ_lt hn⟩ p = col0 ⟨n + 1, hn⟩ p := Fin.ext (by show p.val = p.val; omega)
      have e1 : col1 ⟨n, Nat.lt_of_succ_lt hn⟩ q = col1 ⟨n + 1, hn⟩ q := Fin.ext (by show q.val = q.val; omega)
      have ih' := ih (Nat.lt_of_succ_lt hn)
      rw [e0, e1] at ih'
      rw [show 2048 * ((n + 1) % 4 + 1) = 2048 * (n % 4 + 1) + 2048 by omega, upTo_add _ _ 2048 (by omega)]
      refine congrArg₂ (· + ·) ih' (Finset.sum_congr rfl fun r _ => ?_)
      have e : row ⟨n + 1, hn⟩ r = ⟨2048 * (n % 4 + 1) + r.val, by have := r.isLt; omega⟩ := Fin.ext (by show 2048 * ((n + 1) % 4) + r.val = 2048 * (n % 4 + 1) + r.val; omega)
      rw [e]

/-- The result: the product over all rows. -/
def product (k : Fin 1024) (n : Fin 128) : EReal := ∑ r, left m c r k * right m c r n

theorem final (k : Fin 1024) (n : Fin 128) : (dats m 0 c).arrAt 2 cfg0.N (ix2 k n) = product m c k n := by
  have hN : cfg0.N = 4 := N_0
  refine (dats m 0 c).arrAt_forall_of_cover 2 (fun i v => v = product m c (i 0) (i 1)) (fun t hf y => ?_) (fun i => ?_) (ix2 k n)
  · obtain ⟨h0, h1⟩ := (index_at t).2.2
    have h3 : t.val % 4 = 3 := (flush0_2 t).mp hf
    rw [Value.flushed2]
    have e := outs m c (y 0) (y 1) t.val t.isLt
    have hy : (y : S1024x128.Idx) = ix2 (y 0) (y 1) := eq_ix2 _
    refine Eq.trans (?_ : _ = _) (e.trans ?_)
    · exact congrArg (outsAt0 m c t.val t.isLt) hy
    · have e0 : col0 t (y 0) = ((cfg0.win 2).blk t).view.emb y 0 := Fin.ext (by
        show (y 0).val = win0_2.index t 0 * 1024 + 1 * (y 0).val; rw [h0]; omega)
      have e1 : col1 t (y 1) = ((cfg0.win 2).blk t).view.emb y 1 := Fin.ext (by
        show (y 1).val = win0_2.index t 1 * 128 + 1 * (y 1).val; rw [h1]; omega)
      rw [h3, show 2048 * (3 + 1) = 8192 from rfl, upTo_all, e0, e1]
      rfl
  · have hi0 : (i 0 : Nat) < 1024 := (i 0).isLt
    have hi1 : (i 1 : Nat) < 128 := (i 1).isLt
    have ht : 3 < cfg0.N := by omega
    obtain ⟨h0, h1⟩ := (index_at ⟨3, ht⟩).2.2
    refine ⟨⟨3, ht⟩, (flush0_2 _).mpr rfl, ?_⟩
    show i ∈ ((View.whole main_v0).slice (win0_2.rect ⟨3, ht⟩)).set
    rw [View.set_slice_whole, Rect.mem_set_unit]
    intro a
    match a with
    | ⟨0, _⟩ => exact span 1024 (i 0).val h0 (by dsimp only; omega)
    | ⟨1, _⟩ => exact span 128 (i 1).val h1 (by dsimp only; omega)

/-! ## The reference -/

/-- The reference's product, of its own arrays. -/
def refProduct (x : FVec Ideal S8192x1024 .bf16) (d : FVec Ideal S8192x128 .f32) : FVec Ideal S1024x128 .f32 :=
  transpose S1024x128 [1, 0] (Host.dotGeneral Cert.Reference19Ideal.dot_S8192x128_S8192x1024_S128x1024_0_0_1_1_n_n none (extf .f32 (truncf .bf16 d Cert.Reference19Ideal.Gen.bitsLt_bf16_f32) Cert.Reference19Ideal.Gen.bitsLt_bf16_f32)
    (extf .f32 x Cert.Reference19Ideal.Gen.bitsLt_bf16_f32)) Cert.Reference19Ideal.Gen.transposes_S128x1024_S1024x128_1_0

theorem refProduct_at (x : FVec Ideal S8192x1024 .bf16) (d : FVec Ideal S8192x128 .f32) (k : Fin 1024) (n : Fin 128) :
    refProduct x d (ix2 k n) = ∑ r : Fin 8192, (x (ix2 r k) : EReal) * (d (ix2 r n) : EReal) := by
  pointwise [refProduct, Cert.Reference19Ideal.dot_S8192x128_S8192x1024_S128x1024_0_0_1_1_n_n]
  exact Finset.sum_congr rfl fun r _ => mul_comm _ _

/-! ## The claim -/

attribute [local instance] Cert.Kernel19Ideal.Gen.facts Cert.Reference19Ideal.Gen.facts

theorem agree : Cert.algebraic_Kernel19Ideal_Reference19Ideal := by
  intro m g m' g' hp ha
  refine ⟨_, Cert.Kernel19Ideal.Value.run_blocks m g,
    (θ_run Cert.Reference19Ideal.defs _ _).mono (fun r h c => ?_) (Cert.Reference19Ideal.Value.run m' g')⟩
  obtain ⟨h0, hk⟩ := h c
  obtain ⟨e0, e1⟩ := ha c
  refine ⟨h0.trans ?_, hk⟩
  rw [e0, e1]
  funext i; rw [← ix2_eta i]
  exact (refProduct_at _ _ (i 0) (i 1)).trans (final m c (i 0) (i 1)).symm

end Cert.InSide

end
-- ==== Proof.InputSumClaim.lean ====
/-
  The gradient of the step's input: the kernel multiplies the second summand by one, the reference doesn't.
-/
module

public import proofs.«01_k».proof.Defs
public import proofs.«01_k».proof.Proof.Gen.Kernel20Ideal.Value
public import proofs.«01_k».proof.Proof.Gen.Reference20Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.InputSum

open Cert.Kernel20Ideal Idealize.ShloMosaic

/-- The factor of the second summand is one. -/
theorem ofBits_one : Idealize.ShloMosaic.Ideal.ofBits .f32 0x3F800000#32 = ((1 : ℝ) : EReal) := by
  simp [Idealize.ShloMosaic.Ideal.ofBits, Idealize.ShloMosaic.Ideal.ieee, -EReal.coe_mul]; norm_num

/-- So the two sums agree. -/
theorem sum_eq (a b d : EReal) : a * d + b = a * d + Idealize.ShloMosaic.Ideal.ofBits .f32 0x3F800000#32 * b := by
  rw [ofBits_one, EReal.coe_one, one_mul]

attribute [local instance] Cert.Kernel20Ideal.Gen.facts Cert.Reference20Ideal.Gen.facts

theorem agree : Cert.algebraic_Kernel20Ideal_Reference20Ideal := by
  intro m g m' g' hp ha
  refine ⟨_, Cert.Kernel20Ideal.Value.run m g,
    (θ_run Cert.Reference20Ideal.defs _ _).mono (fun r h c => ?_) (Cert.Reference20Ideal.Value.run m' g')⟩
  obtain ⟨h0, hk⟩ := h c
  obtain ⟨e0, e1⟩ := ha c
  refine ⟨h0.trans ?_, hk⟩
  rw [e0, e1]
  funext i
  exact sum_eq _ _ _

end Cert.InputSum

end
-- ==== Proof.LossClaim.lean ====
/-
  The loss' squared errors, summed over the rows: the kernel adds, over 32 grid points, the sums of 256 rows each; the
  reference takes one sum over all 8192 rows.
-/
module

public import Idealize.ShloMosaic.Lib.Pipeline.ValueKit
public import proofs.«01_k».proof.Defs
public import proofs.«01_k».proof.Proof.BlockAt
public import proofs.«01_k».proof.Proof.Sums
public import proofs.«01_k».proof.Proof.Gen.Kernel21Ideal.Value
public import proofs.«01_k».proof.Proof.Gen.Reference21Ideal.Run
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.Loss

open Cert.Sums Cert.Kernel21Ideal Cert.Kernel21Ideal.Gen Idealize.ShloMosaic Idealize.ShloMosaic.TcCoe Idealize.SL.Sem

/-! ## One grid point -/

section Case
variable (c : Dev nD) (i : grid0.Coords)
variable (a1 : Memref sig .tc .vmem S256x1024 .f32) (h1 : a1.IsWhole) (a2 : Memref sig .tc .vmem S256x1024 .f32) (h2 : a2.IsWhole) (a3 : Memref sig .tc .vmem S1x1024 .f32) (h3 : a3.IsWhole)
variable (x0 : Vec Ideal S256x1024 .f32) (x1 : Vec Ideal S256x1024 .f32) (xo : Vec Ideal S1x1024 .f32)

/-- The block's sum. -/
theorem pay1_at (p : Fin 1) (q : Fin 1024) :
    k0_pay1 x0 x1 (ix2 p q) = ∑ r : Fin 256, ((x0 (ix2 r q) : EReal) - x1 (ix2 r q)) * ((x0 (ix2 r q) : EReal) - x1 (ix2 r q)) := by
  pointwise [k0_pay1]

/-- The block's sum added to what the buffer held. -/
theorem pay2_at (p : Fin 1) (q : Fin 1024) :
    k0_pay2 x0 x1 xo (ix2 p q) = (xo (ix2 p q) : EReal) + ∑ r : Fin 256, ((x0 (ix2 r q) : EReal) - x1 (ix2 r q)) * ((x0 (ix2 r q) : EReal) - x1 (ix2 r q)) := by
  have h := pay1_at x0 x1 p q
  unfold k0_pay2
  simp only [shapeCast_self]
  pointwise [h]

/-- The first of the 32 points leaves the sum. -/
theorem out_A (hc0 : cond0_0 i) (hc1 : ¬cond0_1 i) : out0_A_2 c i a1 h1 a2 h2 a3 h3 hc0 hc1 x0 x1 = k0_pay1 x0 x1 := by
  frame_out

/-- A later point adds its sum. -/
theorem out_B (hc0 : ¬cond0_0 i) (hc1 : cond0_1 i) : out0_B_2 c i a1 h1 a2 h2 a3 h3 hc0 hc1 x0 x1 xo = k0_pay2 x0 x1 xo := by
  frame_out

end Case

/-! ## The blocks a grid point reads -/

variable (m : (ℓ : Loc nD τ sig) → Buf (Elt Ideal) ℓ) (c : Dev nD)

/-- The two arrays. -/
def left (r : Fin 8192) (k : Fin 1024) : EReal := m ((c : Thread nD τ).loc main_arg0) (ix2 r k)
def right (r : Fin 8192) (k : Fin 1024) : EReal := m ((c : Thread nD τ).loc main_arg1) (ix2 r k)

/-- Row `q` of grid point `t`'s blocks. -/
def row (t : Fin cfg0.N) (q : Fin 256) : Fin 8192 := ⟨256 * t.val + q.val, by have := q.isLt; have := t.isLt; have : cfg0.N = 32 := N_0; omega⟩

theorem index_at : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) := by
  decide +kernel

theorem iblk0 (t : Fin cfg0.N) (q : Fin 256) (p : Fin 1024) : iblk m c 0 t (ix2 q p) = left m c (row t q) p := by
  obtain ⟨h0, h1⟩ := (index_at t).1
  unfold left
  rw [← V_main_arg0 m c]
  unfold iblk
  exact congrArg (V m c main_arg0) (at2 _ (spot 256 q.val h0 (by show _ = 256 * t.val + q.val; omega)) (spot 1024 p.val h1 (by show _ = p.val; omega)))

theorem iblk1 (t : Fin cfg0.N) (q : Fin 256) (p : Fin 1024) : iblk m c 1 t (ix2 q p) = right m c (row t q) p := by
  obtain ⟨h0, h1⟩ := (index_at t).2.1
  unfold right
  rw [← V_main_arg1 m c]
  unfold iblk
  exact congrArg (V m c main_arg1) (at2 _ (spot 256 q.val h0 (by show _ = 256 * t.val + q.val; omega)) (spot 1024 p.val h1 (by show _ = p.val; omega)))

/-! ## The array -/

/-- The squared error of one entry. -/
def square (k : Fin 1024) (r : Fin 8192) : EReal := (left m c r k - right m c r k) * (left m c r k - right m c r k)

/-- The running sum after a point: the squared errors of the rows so far. -/
theorem outs (p : Fin 1) (q : Fin 1024) : ∀ (n : ℕ) (hn : n < cfg0.N),
    outsAt0 m c n hn (ix2 p q) = upTo (square m c q) (256 * (n + 1)) := by
  intro n
  induction n with
  | zero =>
    intro hn
    have hA := outsAt0_A m c ⟨0, hn⟩ (by dsimp only) (by simp)
    dsimp only at hA
    rw [hA, out_A, pay1_at]
    simp only [iblk0, iblk1]
    rw [show 256 * (0 + 1) = 0 + 256 from rfl, upTo_add _ _ 256 (by omega), upTo_zero, zero_add]
    rfl
  | succ n ih =>
    intro hn
    have hN : cfg0.N = 32 := N_0
    have hB := outsAt0_B m c ⟨n + 1, hn⟩ (by dsimp only; omega) (by dsimp only; omega)
    dsimp only at hB
    rw [hB, out_B, pay2_at]
    simp only [iblk0, iblk1]
    rw [show 256 * (n + 1 + 1) = 256 * (n + 1) + 256 by omega, upTo_add _ _ 256 (by omega)]
    exact congrArg₂ (· + ·) (ih (Nat.lt_of_succ_lt hn)) rfl

/-- The result: the sum over all rows. -/
def total (k : Fin 1024) : EReal := ∑ r, square m c k r

theorem final (p : Fin 1) (k : Fin 1024) : (dats m 0 c).arrAt 2 cfg0.N (ix2 p k) = total m c k := by
  have hN : cfg0.N = 32 := N_0
  refine (dats m 0 c).arrAt_forall_of_cover 2 (fun i v => v = total m c (i 1)) (fun t hf y => ?_) (fun i => ?_) (ix2 p k)
  · obtain ⟨h0, h1⟩ := (index_at t).2.2
    have h3 : t.val % 32 = 31 := (flush0_2 t).mp hf
    have ht : t.val < 32 := lt_of_lt_of_eq t.isLt hN
    rw [Value.flushed2]
    have e := outs m c (y 0) (y 1) t.val t.isLt
    have hy : (y : S1x1024.Idx) = ix2 (y 0) (y 1) := eq_ix2 _
    refine Eq.trans (?_ : _ = _) (e.trans ?_)
    · exact congrArg (outsAt0 m c t.val t.isLt) hy
    · have e1 : y 1 = ((cfg0.win 2).blk t).view.emb y 1 := Fin.ext (by
        show (y 1).val = win0_2.index t 1 * 1024 + 1 * (y 1).val; rw [h1]; omega)
      rw [show 256 * (t.val + 1) = 8192 by omega, upTo_all, e1]
      rfl
  · have hi0 : (i 0 : Nat) < 1 := (i 0).isLt
    have hi1 : (i 1 : Nat) < 1024 := (i 1).isLt
    have ht : 31 < cfg0.N := by omega
    obtain ⟨h0, h1⟩ := (index_at ⟨31, ht⟩).2.2
    refine ⟨⟨31, ht⟩, (flush0_2 _).mpr rfl, ?_⟩
    show i ∈ ((View.whole main_v0).slice (win0_2.rect ⟨31, ht⟩)).set
    rw [View.set_slice_whole, Rect.mem_set_unit]
    intro a
    match a with
    | ⟨0, _⟩ => exact span 1 (i 0).val h0 (by dsimp only; omega)
    | ⟨1, _⟩ => exact span 1024 (i 1).val h1 (by dsimp only; omega)

/-! ## The reference -/

/-- The reference's sum, of its own arrays. -/
def refTotal (x t : FVec Ideal S8192x1024 .f32) : FVec Ideal S1x1024 .f32 :=
  shapeCast _ (Host.reduceAdd (mulf (subf x t) (subf x t)) (constant Cert.Reference21Ideal.S_ .f32 0x00000000#32) Cert.Reference21Ideal.Gen.reducesTo_S8192x1024_S1024_d0
    Cert.Reference21Ideal.Gen.h_S_) Cert.Reference21Ideal.Gen.shapeCasts_S1024_S1x1024

theorem refTotal_at (x t : FVec Ideal S8192x1024 .f32) (p : Fin 1) (k : Fin 1024) :
    refTotal x t (ix2 p k) = ∑ r : Fin 8192, ((x (ix2 r k) : EReal) - t (ix2 r k)) * ((x (ix2 r k) : EReal) - t (ix2 r k)) := by
  pointwise [refTotal]

/-! ## The claim -/

attribute [local instance] Cert.Kernel21Ideal.Gen.facts Cert.Reference21Ideal.Gen.facts

theorem agree : Cert.algebraic_Kernel21Ideal_Reference21Ideal := by
  intro m g m' g' hp ha
  refine ⟨_, Cert.Kernel21Ideal.Value.run_blocks m g,
    (θ_run Cert.Reference21Ideal.defs _ _).mono (fun r h c => ?_) (Cert.Reference21Ideal.Value.run m' g')⟩
  obtain ⟨h0, hk⟩ := h c
  obtain ⟨e0, e1⟩ := ha c
  refine ⟨h0.trans ?_, hk⟩
  rw [e0, e1]
  funext i; rw [← ix2_eta i]
  exact (refTotal_at _ _ (i 0) (i 1)).trans (final m c (i 0) (i 1)).symm

end Cert.Loss

end
-- ==== Proof.FwdChunk.lean ====
/-
  The convolution along the rows, one chunk of 128 rows: the kernel's vector operations read element by element. Each chunk also reads the 16 rows before
  it, the first one of a block from the block before.
-/
module

public import proofs.«01_k».proof.Proof.ConvChunk
public import proofs.«01_k».proof.Proof.GateRef
public import proofs.«01_k».proof.Proof.Gen.Kernel22Ideal.Frame

@[expose] public section

set_option maxRecDepth 16384

noncomputable section

namespace Cert.Fwd

open Cert.Conv (along0 along1 along2 along3)
open Cert.Gate (rowOf rowOf_lt rowOf_ge)
open Cert.Kernel22Ideal Cert.Kernel22Ideal.Gen Idealize.ShloMosaic Idealize.ShloMosaic.TcCoe Idealize.SL.Sem

/-! ## The chunk's operations -/

/-- The chunk's rows three, two, one and no rows earlier. -/
def tap3 (d : FVec Ideal S144x256 .f32) : FVec Ideal S128x256 .f32 :=
  extractStridedSlice S128x256 ![16, 0] (dynamicRotate 0 3#32 none d rotates_S144x256_d0) slices_S144x256_o16_0_S128x256
def tap2 (d : FVec Ideal S144x256 .f32) : FVec Ideal S128x256 .f32 :=
  extractStridedSlice S128x256 ![16, 0] (dynamicRotate 0 2#32 none d rotates_S144x256_d0) slices_S144x256_o16_0_S128x256
def tap1 (d : FVec Ideal S144x256 .f32) : FVec Ideal S128x256 .f32 :=
  extractStridedSlice S128x256 ![16, 0] (dynamicRotate 0 1#32 none d rotates_S144x256_d0) slices_S144x256_o16_0_S128x256
def tap0 (d : FVec Ideal S144x256 .f32) : FVec Ideal S128x256 .f32 :=
  extractStridedSlice S128x256 ![16, 0] d slices_S144x256_o16_0_S128x256

/-- The convolutions with four and with three taps. -/
def conv4 (w : FVec Ideal S8x256 .f32) (b : FVec Ideal S1x256 .f32) (d : FVec Ideal S144x256 .f32) : FVec Ideal S128x256 .f32 :=
  addf (addf (addf (addf (broadcastTo S128x256 b broadcasts_S1x256_S128x256) (mulf (along3 w) (tap0 d))) (mulf (along0 w) (tap3 d))) (mulf (along1 w) (tap2 d)))
    (mulf (along2 w) (tap1 d))
def conv3 (w : FVec Ideal S8x256 .f32) (b : FVec Ideal S1x256 .f32) (d : FVec Ideal S144x256 .f32) : FVec Ideal S128x256 .f32 :=
  addf (addf (addf (broadcastTo S128x256 b broadcasts_S1x256_S128x256) (mulf (along2 w) (tap0 d))) (mulf (along0 w) (tap2 d))) (mulf (along1 w) (tap1 d))

/-! ## Their elements -/

theorem tap3_at (d : FVec Ideal S144x256 .f32) (p : Fin 128) (q : Fin 256) : tap3 d (ix2 p q) = d (ix2 ⟨p.val + 13, by omega⟩ q) := by
  pointwise [tap3]
  exact congrArg (fun r => d (ix2 r q)) (Fin.ext (by show (16 + p.val + 144 - 3) % 144 = p.val + 13; omega))
theorem tap2_at (d : FVec Ideal S144x256 .f32) (p : Fin 128) (q : Fin 256) : tap2 d (ix2 p q) = d (ix2 ⟨p.val + 14, by omega⟩ q) := by
  pointwise [tap2]
  exact congrArg (fun r => d (ix2 r q)) (Fin.ext (by show (16 + p.val + 144 - 2) % 144 = p.val + 14; omega))
theorem tap1_at (d : FVec Ideal S144x256 .f32) (p : Fin 128) (q : Fin 256) : tap1 d (ix2 p q) = d (ix2 ⟨p.val + 15, by omega⟩ q) := by
  pointwise [tap1]
  exact congrArg (fun r => d (ix2 r q)) (Fin.ext (by show (16 + p.val + 144 - 1) % 144 = p.val + 15; omega))
theorem tap0_at (d : FVec Ideal S144x256 .f32) (p : Fin 128) (q : Fin 256) : tap0 d (ix2 p q) = d (ix2 ⟨p.val + 16, by omega⟩ q) := by
  pointwise [tap0]
  exact congrArg (fun r => d (ix2 r q)) (Fin.ext (Nat.add_comm 16 p.val))

/-- The convolutions from the taps `w`, the bias `b` and the rows `d`, which begin 16 rows before row 0. -/
def out4 {K : ℕ} (w : Fin 8 → Fin K → EReal) (b : Fin K → EReal) (d : ℕ → Fin K → EReal) (n : ℕ) (q : Fin K) : EReal :=
  b q + w 3 q * d (n + 16) q + w 0 q * d (n + 13) q + w 1 q * d (n + 14) q + w 2 q * d (n + 15) q
def out3 {K : ℕ} (w : Fin 8 → Fin K → EReal) (b : Fin K → EReal) (d : ℕ → Fin K → EReal) (n : ℕ) (q : Fin K) : EReal :=
  b q + w 2 q * d (n + 16) q + w 0 q * d (n + 14) q + w 1 q * d (n + 15) q

/-- The summands in the reference's order. -/
theorem four (a b c d e : EReal) : a + b + c + d + e = e + d + a + b + c := by ac_rfl
theorem three (a b c d : EReal) : a + b + c + d = d + c + a + b := by ac_rfl

theorem conv4_at (w : FVec Ideal S8x256 .f32) (b : FVec Ideal S1x256 .f32) (D : FVec Ideal S144x256 .f32) (d : ℕ → Fin 256 → EReal) (o : ℕ)
    (hD : ∀ r q, D (ix2 r q) = d (o + r.val) q) (p : Fin 128) (q : Fin 256) :
    conv4 w b D (ix2 p q) = out4 (fun e q => w (ix2 e q)) (fun q => b (ix2 0 q)) d (o + p.val) q := by
  have e3 := (tap3_at D p q).trans (hD _ q)
  have e2 := (tap2_at D p q).trans (hD _ q)
  have e1 := (tap1_at D p q).trans (hD _ q)
  have e0 := (tap0_at D p q).trans (hD _ q)
  pointwise [conv4, along0, along1, along2, along3, e3, e2, e1, e0]
  rfl
theorem conv3_at (w : FVec Ideal S8x256 .f32) (b : FVec Ideal S1x256 .f32) (D : FVec Ideal S144x256 .f32) (d : ℕ → Fin 256 → EReal) (o : ℕ)
    (hD : ∀ r q, D (ix2 r q) = d (o + r.val) q) (p : Fin 128) (q : Fin 256) :
    conv3 w b D (ix2 p q) = out3 (fun e q => w (ix2 e q)) (fun q => b (ix2 0 q)) d (o + p.val) q := by
  have e2 := (tap2_at D p q).trans (hD _ q)
  have e1 := (tap1_at D p q).trans (hD _ q)
  have e0 := (tap0_at D p q).trans (hD _ q)
  pointwise [conv3, along0, along1, along2, e2, e1, e0]
  rfl

/-! ## What a chunk of a block of `128 * M` rows reads -/

variable {M : ℕ}

/-- A chunk of 128 rows lies in the block, and for all but the first so do the 16 rows before it. -/
theorem inb (k : Fin M) : ∀ a, (![128 * k.val, 0] : Fin 2 → Nat) a + S128x256.size a ≤ (⟨2, ![128 * M, 256]⟩ : Shape).size a := by
  intro a
  fin_cases a
  · show 128 * k.val + 128 ≤ 128 * M; omega
  · show 0 + 256 ≤ 256; omega
theorem inbWide (k : Fin M) (h : 0 < k.val) : ∀ a, (![128 * k.val - 16, 0] : Fin 2 → Nat) a + S144x256.size a ≤ (⟨2, ![128 * M, 256]⟩ : Shape).size a := by
  intro a
  fin_cases a
  · show 128 * k.val - 16 + 144 ≤ 128 * M; omega
  · show 0 + 256 ≤ 256; omega

/-- The 16 rows before the chunk and its 128 rows. -/
def wide (X : Vec Ideal ⟨2, ![128 * M, 256]⟩ .f32) (Y : FVec Ideal S16x256 .f32) (k : Fin M) : FVec Ideal S144x256 .f32 :=
  if h : 0 < k.val then View.ld X (Rect.unit ![128 * k.val - 16, 0] ![144, 256] (inbWide k h))
  else concatenate S144x256 0 [⟨S16x256, Y⟩, ⟨S128x256, (View.ld X (Rect.unit ![128 * k.val, 0] ![128, 256] (inb k)) : FVec Ideal S128x256 .f32)⟩]
    concatenates_S16x256_S128x256_S144x256_d0

/-- The rows before block number `t`, zero before the first block. -/
def before (t : ℕ) (Y : FVec Ideal S16x256 .f32) : FVec Ideal S16x256 .f32 :=
  Scalar.select (Scalar.cmpi CmpIPredicate.eq (BitVec.ofNat 32 t) 0#32) (broadcast S16x256 (Scalar.ofBits .f32 0x00000000#32 : Ideal .f32)) Y

/-- Row `n` of the 16 rows `Y` followed by the block `X`. -/
def ext (X : Vec Ideal ⟨2, ![128 * M, 256]⟩ .f32) (Y : FVec Ideal S16x256 .f32) (n : ℕ) (q : Fin 256) : EReal :=
  if h : n < 16 then Y (ix2 ⟨n, h⟩ q) else if h' : n - 16 < 128 * M then X (ix2 ⟨n - 16, h'⟩ q) else 0

theorem wide_at (X : Vec Ideal ⟨2, ![128 * M, 256]⟩ .f32) (Y : FVec Ideal S16x256 .f32) (k : Fin M) (r : Fin 144) (q : Fin 256) :
    wide X Y k (ix2 r q) = ext X Y (128 * k.val + r.val) q := by
  unfold wide ext
  by_cases h : 0 < k.val
  · rw [dif_pos h, dif_neg (by omega), dif_pos (by omega)]
    exact View.ld_unit_apply_of X _ _ _ _ (ix2 ⟨128 * k.val + r.val - 16, by omega⟩ q) (fun a => by
      fin_cases a
      · show 128 * k.val + r.val - 16 = 128 * k.val - 16 + r.val; omega
      · exact (Nat.zero_add _).symm)
  · have hk : k.val = 0 := by omega
    rw [dif_neg h]
    pointwise []
    by_cases hr : r.val < 16
    · rw [dif_pos hr, dif_pos (by omega)]
      exact congrArg (fun r => Y (ix2 r q)) (Fin.ext (by show r.val = 128 * k.val + r.val; omega))
    · rw [dif_neg hr, dif_neg (by omega), dif_pos (by omega)]
      refine congrArg X (funext fun a => Fin.ext ?_)
      match a with
      | ⟨0, _⟩ => show 128 * k.val + (r.val - 16) = 128 * k.val + r.val - 16; omega
      | ⟨1, _⟩ => exact Nat.zero_add q.val

theorem before_at (t : ℕ) (ht : t < 8) (Y : FVec Ideal S16x256 .f32) (p : Fin 16) (q : Fin 256) :
    before t Y (ix2 p q) = if t = 0 then (0 : EReal) else Y (ix2 p q) := by
  unfold before
  by_cases h : t = 0
  · rw [if_pos h, h, show Scalar.cmpi CmpIPredicate.eq (BitVec.ofNat 32 0) 0#32 = 1#1 from rfl, ValueIdx.select_one]
    pointwise []
  · have e : Scalar.cmpi CmpIPredicate.eq (BitVec.ofNat 32 t) 0#32 = 0#1 := by
      have h7 : t = 1 ∨ t = 2 ∨ t = 3 ∨ t = 4 ∨ t = 5 ∨ t = 6 ∨ t = 7 := by omega
      rcases h7 with h | h | h | h | h | h | h <;> (rw [h]; rfl)
    rw [if_neg h, e, ValueIdx.select_zero]

/-! ## Rows of the whole array -/

/-- The rows of an array, with 16 rows of zeros before them. -/
def lag {K : ℕ} (A : Fin 8192 → Fin K → EReal) (n : ℕ) (j : Fin K) : EReal := if n < 16 then 0 else rowOf A (n - 16) j

theorem lag_at {K : ℕ} (A : Fin 8192 → Fin K → EReal) (p s o : ℕ) (ho : o + s = 16) (j : Fin K) :
    lag A (p + o) j = if s ≤ p then rowOf A (p - s) j else 0 := by
  unfold lag
  by_cases h : s ≤ p
  · rw [if_neg (by omega), if_pos h, show p + o - 16 = p - s by omega]
  · rw [if_pos (by omega), if_neg h]

/-- A block's rows and the 16 before it are rows of the array. -/
theorem ext_lag {K : ℕ} (A : Fin 8192 → Fin K → EReal) (col : Fin 256 → Fin K) (X : Vec Ideal ⟨2, ![128 * M, 256]⟩ .f32) (Y : FVec Ideal S16x256 .f32)
    (t : ℕ) (ht : t < 8) (hM : 128 * M * (t + 1) ≤ 8192) (h0 : 0 < M)
    (hX : ∀ (r : Fin (128 * M)) (q : Fin 256) (h : 128 * M * t + r.val < 8192), X (ix2 r q) = A ⟨128 * M * t + r.val, h⟩ (col q))
    (hY : 0 < t → ∀ (r : Fin 16) (q : Fin 256) (h : 128 * M * t - 16 + r.val < 8192), Y (ix2 r q) = A ⟨128 * M * t - 16 + r.val, h⟩ (col q))
    (n : ℕ) (hn : n < 128 * M + 16) (q : Fin 256) : ext X (before t Y) n q = lag A (128 * M * t + n) (col q) := by
  rw [Nat.mul_succ] at hM
  unfold ext lag
  by_cases h : n < 16
  · rw [dif_pos h, before_at t ht]
    by_cases h1 : t = 0
    · rw [if_pos h1, h1, if_pos (by omega)]
    · have : 128 * M * 1 ≤ 128 * M * t := Nat.mul_le_mul_left _ (by omega)
      rw [if_neg h1, if_neg (by omega), rowOf_lt _ _ (by omega)]
      exact (hY (by omega) ⟨n, h⟩ q (by show 128 * M * t - 16 + n < 8192; omega)).trans
        (congrArg (fun p => A p (col q)) (Fin.ext (by show 128 * M * t - 16 + n = 128 * M * t + n - 16; omega)))
  · rw [dif_neg h, dif_pos (by omega), if_neg (by omega), rowOf_lt _ _ (by omega)]
    exact (hX ⟨n - 16, by omega⟩ q (by show 128 * M * t + (n - 16) < 8192; omega)).trans
      (congrArg (fun p => A p (col q)) (Fin.ext (by show 128 * M * t + (n - 16) = 128 * M * t + n - 16; omega)))

end Cert.Fwd

end
-- ==== Proof.FwdConvClaim.lean ====
/-
  The forward's convolution of the linear recurrence: kernel and reference leave the same result.
-/
module

public import proofs.«01_k».proof.Defs
public import proofs.«01_k».proof.Proof.BlockAt
public import proofs.«01_k».proof.Proof.FwdChunk
public import proofs.«01_k».proof.Proof.Gen.Kernel22Ideal.Value
public import proofs.«01_k».proof.Proof.Gen.Reference22Ideal.Run
public import Idealize.ShloMosaic.Lib.Pipeline.ValueKit

@[expose] public section

set_option maxRecDepth 16384
set_option maxHeartbeats 4000000

noncomputable section

namespace Cert.FwdConv

open Cert.Fwd
open Cert.Gate (rowOf rowsOf rowsOf_lt rowsOf_val)
open Idealize.ShloMosaic Idealize.ShloMosaic.TcCoe Idealize.SL.Sem

/-- Column `j` of the convolution's input within the projected row. -/
def mid (j : Fin 512) : Fin 1792 := ⟨1024 + j.val, by omega⟩

/-- The taps, with four rows of zeros below. -/
def tapsOf (w : FVec Ideal ⟨2, ![4, 512]⟩ .f32) (e : Fin 8) (j : Fin 512) : EReal := if h : e.val < 4 then w (ix2 ⟨e.val, h⟩ j) else 0

/-- The convolution of the argument arrays. -/
def value (x : FVec Ideal ⟨2, ![8192, 1792]⟩ .f32) (w : FVec Ideal ⟨2, ![4, 512]⟩ .f32) (b : FVec Ideal ⟨1, ![512]⟩ .f32) (p : Fin 8192) (j : Fin 512) : EReal :=
  out4 (tapsOf w) (fun j => b (ix1 j)) (lag fun p j => x (ix2 p (mid j))) p.val j

/-! ## What the kernel leaves -/

section Kernel
open Cert.Kernel22Ideal Cert.Kernel22Ideal.Gen
variable (m : (ℓ : Loc nD τ sig) → Buf (Elt Ideal) ℓ) (c : Dev nD)

/-- The block a grid point leaves. -/
theorem out_at (i : grid0.Coords) (x0 : Vec Ideal S1024x256 .f32) (x1 : Vec Ideal S16x256 .f32) (x2 : Vec Ideal S8x256 .f32) (x3 : Vec Ideal S1x256 .f32)
    (p : Fin 1024) (q : Fin 256) :
    out0_4 i x0 x1 x2 x3 (ix2 p q) = out4 (fun e q => x2 (ix2 e q)) (fun q => x3 (ix2 0 q)) (ext (M := 8) x0 (before (i 0).val x1)) p.val q := by
  have z : (![0, 0] : Fin 2 → Nat) = fun _ => 0 := funext fun a => by fin_cases a <;> rfl
  have hw : shapeCast S8x256 (View.ld x2 r0_0) shapeCasts_S8x256_S8x256 = x2 := (shapeCast_self _ _).trans (View.ld_unit_zero z _ x2)
  have hb : shapeCast S1x256 (View.ld x3 r0_1) shapeCasts_S1x256_S1x256 = x3 := (shapeCast_self _ _).trans (View.ld_unit_zero z _ x3)
  have hy : (View.ld x1 r0_2 : FVec Ideal S16x256 .f32) = x1 := View.ld_unit_zero z _ x1
  have key : ∀ (k : Fin 8) (x : S128x256.Idx), p.val = 128 * k.val + (x 0).val → q.val = (x 1).val →
      conv4 (shapeCast S8x256 (View.ld x2 r0_0) shapeCasts_S8x256_S8x256) (shapeCast S1x256 (View.ld x3 r0_1) shapeCasts_S1x256_S1x256)
        (wide (M := 8) x0 (before (i 0).val (View.ld x1 r0_2)) k) x
        = out4 (fun e q => x2 (ix2 e q)) (fun q => x3 (ix2 0 q)) (ext (M := 8) x0 (before (i 0).val x1)) p.val q := by
    intro k x h0 h1
    have hq : q = x 1 := Fin.ext h1
    rw [hw, hb, hy, h0, hq, eq_ix2 x]
    exact conv4_at x2 x3 _ _ (128 * k.val) (fun r q => wide_at (M := 8) x0 (before (i 0).val x1) k r q) (x 0) (x 1)
  unfold out0_4
  canon_tiles x h
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

/-! ## The blocks a grid point reads -/

def xA (p : Fin 8192) (j : Fin 512) : EReal := V m c main_arg0 (ix2 p (mid j))
def col (t : Fin cfg0.N) (j : Fin 256) : Fin 512 := ⟨256 * (t.val % 2) + j.val, by have := j.isLt; omega⟩

theorem coord_at : ∀ t : Fin grid0.N, (grid0.coords t 0).val = t.val / 2 := by decide +kernel
theorem index_at0 : ∀ t : Fin grid0.N, win0_0.index t 0 = t.val / 2 ∧ win0_0.index t 1 = 4 + t.val % 2 := by decide +kernel
theorem index_at1 : ∀ t : Fin grid0.N, win0_1.index t 0 = t.val / 2 * 64 - 1 ∧ win0_1.index t 1 = 4 + t.val % 2 := by decide +kernel
theorem index_at2 : ∀ t : Fin grid0.N, win0_2.index t 0 = 0 ∧ win0_2.index t 1 = t.val % 2 := by decide +kernel
theorem index_at3 : ∀ t : Fin grid0.N, win0_3.index t 0 = 0 ∧ win0_3.index t 1 = t.val % 2 := by decide +kernel
theorem index_at4 : ∀ t : Fin grid0.N, win0_4.index t 0 = t.val / 2 ∧ win0_4.index t 1 = t.val % 2 := by decide +kernel

theorem iblk0 (t : Fin cfg0.N) (q : Fin 1024) (j : Fin 256) (h : 1024 * (t.val / 2) + q.val < 8192) :
    iblk m c 0 t (ix2 q j) = xA m c ⟨1024 * (t.val / 2) + q.val, h⟩ (col t j) := by
  obtain ⟨h0, h1⟩ := index_at0 t
  unfold xA iblk
  exact congrArg (V m c main_arg0) (at2 _ (spot 1024 q.val h0 (by show _ = 1024 * (t.val / 2) + q.val; omega)) (spot 256 j.val h1 (by show _ = 1024 + (256 * (t.val % 2) + j.val); omega)))

theorem iblk1 (t : Fin cfg0.N) (ht : 0 < t.val / 2) (q : Fin 16) (j : Fin 256) (h : 1024 * (t.val / 2) - 16 + q.val < 8192) :
    iblk m c 1 t (ix2 q j) = xA m c ⟨1024 * (t.val / 2) - 16 + q.val, h⟩ (col t j) := by
  obtain ⟨h0, h1⟩ := index_at1 t
  unfold xA iblk
  exact congrArg (V m c main_arg0) (at2 _ (spot 16 q.val h0 (by show _ = 1024 * (t.val / 2) - 16 + q.val; omega)) (spot 256 j.val h1 (by show _ = 1024 + (256 * (t.val % 2) + j.val); omega)))

theorem iblk2 (t : Fin cfg0.N) (e : Fin 8) (j : Fin 256) : iblk m c 2 t (ix2 e j) = V m c main_v1 (ix2 e (col t j)) := by
  obtain ⟨h0, h1⟩ := index_at2 t
  unfold iblk
  exact congrArg (V m c main_v1) (at2 _ (spot 8 e.val h0 (by show _ = e.val; omega)) (spot 256 j.val h1 (by show _ = 256 * (t.val % 2) + j.val; omega)))

theorem iblk3 (t : Fin cfg0.N) (j : Fin 256) : iblk m c 3 t (ix2 0 j) = V m c main_v2 (ix2 0 (col t j)) := by
  obtain ⟨h0, h1⟩ := index_at3 t
  unfold iblk
  exact congrArg (V m c main_v2) (at2 _ (spot 1 0 h0 (by show _ = 0; omega)) (spot 256 j.val h1 (by show _ = 256 * (t.val % 2) + j.val; omega)))

def argX : FVec Ideal S8192x1792 .f32 := m ((c.tc : Thread nD τ).loc main_arg0)
def argW : FVec Ideal S4x512 .f32 := m ((c.tc : Thread nD τ).loc main_arg1)
def argB : FVec Ideal S512 .f32 := m ((c.tc : Thread nD τ).loc main_arg2)

theorem xA_eq : xA m c = fun p j => argX m c (ix2 p (mid j)) := by unfold xA argX; rw [V_main_arg0]

theorem wA_eq (e : Fin 8) (j : Fin 512) : V m c main_v1 (ix2 e j) = tapsOf (argW m c) e j := by
  have h : V m c main_v1 = concatenate S8x512 0 [⟨S4x512, argW m c⟩, ⟨S4x512, broadcastInDim S4x512 ![] bcast_S_S4x512 (constant (F := Ideal) S_ .f32 0x00000000#32)⟩]
      concatenates_S4x512_S4x512_S8x512_d0 := by
    unfold V; after_results_simp <;> rfl
  rw [h]
  pointwise
  rfl

theorem bA_eq (j : Fin 512) : V m c main_v2 (ix2 0 j) = argB m c (ix1 j) := by
  have h : V m c main_v2 = shapeCast S1x512 (argB m c) shapeCasts_S512_S1x512 := by
    unfold V; after_results_simp <;> rfl
  rw [h]
  pointwise

theorem block (t : Fin cfg0.N) (p : Fin 1024) (j : Fin 256) (r : Fin 8192) (hr : r.val = 1024 * (t.val / 2) + p.val) :
    out0_4 (grid0.coords t) (iblk m c 0 t) (iblk m c 1 t) (iblk m c 2 t) (iblk m c 3 t) (ix2 p j) = value (argX m c) (argW m c) (argB m c) r (col t j) := by
  have hp := p.isLt
  have ht : t.val < 16 := lt_of_lt_of_eq t.isLt N_0
  have d : ∀ n, n < 1040 → ext (M := 8) (iblk m c 0 t) (before (t.val / 2) (iblk m c 1 t)) n j = lag (xA m c) (1024 * (t.val / 2) + n) (col t j) := fun n hn =>
    ext_lag (M := 8) (xA m c) (col t) (iblk m c 0 t) (iblk m c 1 t) (t.val / 2) (by omega) (by omega) (by omega)
      (fun r q h => iblk0 m c t r q h) (fun h0 r q h => iblk1 m c t h0 r q h) n hn j
  have hw : ∀ e : Fin 8, iblk m c 2 t (ix2 e j) = tapsOf (argW m c) e (col t j) := fun e => (iblk2 m c t e j).trans (wA_eq m c e _)
  have hb : iblk m c 3 t (ix2 0 j) = argB m c (ix1 (col t j)) := (iblk3 m c t j).trans (bA_eq m c _)
  rw [out_at, coord_at t]
  unfold value out4
  beta_reduce
  rw [hw, hw, hw, hw, hb, d _ (by omega), d _ (by omega), d _ (by omega), d _ (by omega), hr, xA_eq]
  rfl

attribute [local irreducible] value out0_4 iblk

theorem final : ∀ i, (dats m 0 c).arrAt 4 cfg0.N i = value (argX m c) (argW m c) (argB m c) (i 0) (i 1) := by
  have hN : cfg0.N = 16 := N_0
  refine (dats m 0 c).arrAt_forall_of_cover 4 (fun i v => v = value (argX m c) (argW m c) (argB m c) (i 0) (i 1)) (fun t hf y => ?_) (fun i => ?_)
  · obtain ⟨h0, h1⟩ := index_at4 t
    rw [Value.flushed4]
    have e0 : (((cfg0.win 4).blk t).view.emb y 0 : Nat) = 1024 * (t.val / 2) + (y 0).val := by
      show win0_4.index t 0 * 1024 + 1 * (y 0).val = _; rw [h0]; omega
    have e1 : col t (y 1) = ((cfg0.win 4).blk t).view.emb y 1 := Fin.ext (by
      show 256 * (t.val % 2) + (y 1).val = win0_4.index t 1 * 256 + 1 * (y 1).val; rw [h1]; omega)
    have e := block m c t (y 0) (y 1) (((cfg0.win 4).blk t).view.emb y 0) e0
    have hy : (y : S1024x256.Idx) = ix2 (y 0) (y 1) := eq_ix2 _
    rw [e1] at e
    exact Eq.trans (congrArg (out0_4 (grid0.coords t) (iblk m c 0 t) (iblk m c 1 t) (iblk m c 2 t) (iblk m c 3 t)) hy) e
  · have hi0 : (i 0 : Nat) < 8192 := (i 0).isLt
    have hi1 : (i 1 : Nat) < 512 := (i 1).isLt
    have ht : 2 * ((i 0 : Nat) / 1024) + (i 1 : Nat) / 256 < cfg0.N := by omega
    obtain ⟨h0, h1⟩ := index_at4 ⟨2 * ((i 0 : Nat) / 1024) + (i 1 : Nat) / 256, ht⟩
    refine ⟨⟨2 * ((i 0 : Nat) / 1024) + (i 1 : Nat) / 256, ht⟩, flush0_4 _, ?_⟩
    show i ∈ ((View.whole main_v3).slice (win0_4.rect ⟨2 * ((i 0 : Nat) / 1024) + (i 1 : Nat) / 256, ht⟩)).set
    rw [View.set_slice_whole, Rect.mem_set_unit]
    intro a
    match a with
    | ⟨0, _⟩ => exact span 1024 (i 0).val h0 (by dsimp only; omega)
    | ⟨1, _⟩ => exact span 256 (i 1).val h1 (by dsimp only; omega)

end Kernel

/-! ## What the reference computes -/

section Reference
open Cert.Reference22Ideal Cert.Reference22Ideal.Gen

def refX (x : FVec Ideal S8192x1792 .f32) : FVec Ideal S8192x512 .f32 := extractStridedSlice S8192x512 ![0, 1024] x slices_S8192x1792_S8192x512_0_1024

theorem refX_rows (x : FVec Ideal S8192x1792 .f32) : rowsOf (refX x) = rowOf fun p j => x (ix2 p (mid j)) := by
  refine congrArg rowOf (funext fun p => funext fun j => ?_)
  pointwise [refX]
  rfl

/-- The input one, two and three rows later. -/
def refLater1 (x : FVec Ideal S8192x512 .f32) : FVec Ideal S8192x512 .f32 :=
  concatenate S8192x512 0 [⟨S1x512, broadcastInDim S1x512 ![] bcast_S_S1x512 (constant S_ .f32 0x00000000#32)⟩,
    ⟨S8191x512, extractStridedSlice S8191x512 ![0, 0] x slices_S8192x512_S8191x512_0_0⟩] concatenates_S1x512_S8191x512_S8192x512_d0
def refLater2 (x : FVec Ideal S8192x512 .f32) : FVec Ideal S8192x512 .f32 :=
  concatenate S8192x512 0 [⟨S2x512, broadcastInDim S2x512 ![] bcast_S_S2x512 (constant S_ .f32 0x00000000#32)⟩,
    ⟨S8190x512, extractStridedSlice S8190x512 ![0, 0] x slices_S8192x512_S8190x512_0_0⟩] concatenates_S2x512_S8190x512_S8192x512_d0
def refLater3 (x : FVec Ideal S8192x512 .f32) : FVec Ideal S8192x512 .f32 :=
  concatenate S8192x512 0 [⟨S3x512, broadcastInDim S3x512 ![] bcast_S_S3x512 (constant S_ .f32 0x00000000#32)⟩,
    ⟨S8189x512, extractStridedSlice S8189x512 ![0, 0] x slices_S8192x512_S8189x512_0_0⟩] concatenates_S3x512_S8189x512_S8192x512_d0

theorem refLater1_at (x : FVec Ideal S8192x512 .f32) (p : Fin 8192) (j : Fin 512) : refLater1 x (ix2 p j) = if 1 ≤ p.val then rowsOf x (p.val - 1) j else 0 := by
  pointwise [refLater1]
  by_cases h1 : p.val < 1
  · rw [dif_pos h1, if_neg (by omega)]
  · exact (dif_neg h1).trans ((rowsOf_lt x (p.val - 1) (by omega) j).symm.trans (if_pos (by omega)).symm)
theorem refLater2_at (x : FVec Ideal S8192x512 .f32) (p : Fin 8192) (j : Fin 512) : refLater2 x (ix2 p j) = if 2 ≤ p.val then rowsOf x (p.val - 2) j else 0 := by
  pointwise [refLater2]
  by_cases h1 : p.val < 2
  · rw [dif_pos h1, if_neg (by omega)]
  · exact (dif_neg h1).trans ((rowsOf_lt x (p.val - 2) (by omega) j).symm.trans (if_pos (by omega)).symm)
theorem refLater3_at (x : FVec Ideal S8192x512 .f32) (p : Fin 8192) (j : Fin 512) : refLater3 x (ix2 p j) = if 3 ≤ p.val then rowsOf x (p.val - 3) j else 0 := by
  pointwise [refLater3]
  by_cases h1 : p.val < 3
  · rw [dif_pos h1, if_neg (by omega)]
  · exact (dif_neg h1).trans ((rowsOf_lt x (p.val - 3) (by omega) j).symm.trans (if_pos (by omega)).symm)

/-- A row read along all rows. -/
def refRows (r : FVec Ideal S512 .f32) : FVec Ideal S8192x512 .f32 :=
  broadcastInDim S8192x512 ![0, 1] bcast_S1x512_S8192x512_0_1 (broadcastInDim S1x512 ![1] bcast_S512_S1x512_1 r)

def refOut (x : FVec Ideal S8192x512 .f32) (w : FVec Ideal S4x512 .f32) (b : FVec Ideal S512 .f32) : FVec Ideal S8192x512 .f32 :=
  addf (addf (addf (addf (mulf (refRows (shapeCast _ (extractStridedSlice S1x512 ![0, 0] w slices_S4x512_S1x512_0_0) shapeCasts_S1x512_S512)) (refLater3 x))
    (mulf (refRows (shapeCast _ (extractStridedSlice S1x512 ![1, 0] w slices_S4x512_S1x512_1_0) shapeCasts_S1x512_S512)) (refLater2 x)))
    (mulf (refRows (shapeCast _ (extractStridedSlice S1x512 ![2, 0] w slices_S4x512_S1x512_2_0) shapeCasts_S1x512_S512)) (refLater1 x)))
    (mulf (refRows (shapeCast _ (extractStridedSlice S1x512 ![3, 0] w slices_S4x512_S1x512_3_0) shapeCasts_S1x512_S512)) x)) (refRows b)

theorem refOut_at (x : FVec Ideal S8192x1792 .f32) (w : FVec Ideal S4x512 .f32) (b : FVec Ideal S512 .f32) (p : Fin 8192) (j : Fin 512) :
    refOut (refX x) w b (ix2 p j) = value x w b p j := by
  have t0 : tapsOf w 0 j = w (ix2 0 j) := rfl
  have t1 : tapsOf w 1 j = w (ix2 1 j) := rfl
  have t2 : tapsOf w 2 j = w (ix2 2 j) := rfl
  have t3 : tapsOf w 3 j = w (ix2 3 j) := rfl
  pointwise [refOut, refRows, refLater1_at, refLater2_at, refLater3_at]
  unfold value out4
  rw [t0, t1, t2, t3, lag_at _ p.val 0 16 rfl, lag_at _ p.val 3 13 rfl, lag_at _ p.val 2 14 rfl, lag_at _ p.val 1 15 rfl, if_pos (Nat.zero_le _), Nat.sub_zero,
    ← refX_rows, rowsOf_val]
  exact four _ _ _ _ _

end Reference

/-! ## Kernel and reference -/

attribute [local instance] Cert.Kernel22Ideal.Gen.facts Cert.Reference22Ideal.Gen.facts

theorem agree : Cert.algebraic_Kernel22Ideal_Reference22Ideal := by
  intro m g m' g' _ ha
  refine ⟨_, Cert.Kernel22Ideal.Value.run_blocks m g,
    (θ_run Cert.Reference22Ideal.defs _ _).mono (fun r h c => ?_) (Cert.Reference22Ideal.Value.run m' g')⟩
  obtain ⟨a0, a1, a2⟩ := ha c
  obtain ⟨h0, hk⟩ := h c
  rw [a0, a1, a2] at h0
  refine ⟨h0.trans ?_, hk⟩
  funext i; rw [← ix2_eta i]
  have e : refOut (refX (argX m c)) (argW m c) (argB m c) (ix2 (i 0) (i 1)) = value (argX m c) (argW m c) (argB m c) (i 0) (i 1) := refOut_at _ _ _ _ _
  exact e.trans (final m c (ix2 (i 0) (i 1))).symm

end Cert.FwdConv

end
-- ==== Proof.FwdGateClaim.lean ====
/-
  The forward's gated convolution: kernel and reference leave the same gated product and the same two halves.
-/
module

public import proofs.«01_k».proof.Defs
public import proofs.«01_k».proof.Proof.BlockAt
public import proofs.«01_k».proof.Proof.FwdChunk
public import proofs.«01_k».proof.Proof.Gen.Kernel23Ideal.Value
public import proofs.«01_k».proof.Proof.Gen.Reference23Ideal.Run
public import Idealize.ShloMosaic.Lib.Pipeline.ValueKit

@[expose] public section

set_option maxRecDepth 16384
set_option maxHeartbeats 4000000

noncomputable section

namespace Cert.FwdGate

open Cert.Fwd
open Cert.Gate (rowOf rowsOf rowsOf_lt rowsOf_val lo hi tapsOf)
open Idealize.ShloMosaic Idealize.ShloMosaic.TcCoe Idealize.SL.Sem

/-- The convolution of the argument arrays, and the gated product of its halves. -/
def value (h : FVec Ideal ⟨2, ![8192, 5632]⟩ .f32) (w : FVec Ideal ⟨2, ![3, 5632]⟩ .f32) (b : FVec Ideal ⟨1, ![5632]⟩ .f32) (p : Fin 8192) (j : Fin 5632) : EReal :=
  out3 (tapsOf w) (fun j => b (ix1 j)) (lag fun p j => h (ix2 p j)) p.val j
def gated (g u : EReal) : EReal := g * Ideal.logistic g * u

/-! ## What the kernel leaves -/

section Kernel
open Cert.Kernel23Ideal Cert.Kernel23Ideal.Gen
variable (m : (ℓ : Loc nD τ sig) → Buf (Elt Ideal) ℓ) (c : Dev nD)

/-- A chunk of one half of the convolution, and its rows. -/
def half (i : grid0.Coords) (x : Vec Ideal S2048x256 .bf16) (y : Vec Ideal S16x256 .bf16) (w : Vec Ideal S8x256 .f32) (b : Vec Ideal S1x256 .f32) (k : Fin 16) :
    FVec Ideal S128x256 .f32 :=
  conv3 (shapeCast S8x256 (View.ld w r0_0) shapeCasts_S8x256_S8x256) (shapeCast S1x256 (View.ld b r0_1) shapeCasts_S1x256_S1x256)
    (wide (M := 16) x (before (i 0).val (View.ld y r0_2)) k)
def halfRow (i : grid0.Coords) (x : Vec Ideal S2048x256 .bf16) (y : Vec Ideal S16x256 .bf16) (w : Vec Ideal S8x256 .f32) (b : Vec Ideal S1x256 .f32) (n : ℕ) (q : Fin 256) :
    EReal :=
  out3 (fun e q => w (ix2 e q)) (fun q => b (ix2 0 q)) (ext (M := 16) x (before (i 0).val y)) n q

theorem half_at (i : grid0.Coords) (x : Vec Ideal S2048x256 .bf16) (y : Vec Ideal S16x256 .bf16) (w : Vec Ideal S8x256 .f32) (b : Vec Ideal S1x256 .f32)
    (p : Fin 2048) (q : Fin 256) (k : Fin 16) (z : S128x256.Idx) (h0 : p.val = 128 * k.val + (z 0).val) (h1 : q.val = (z 1).val) :
    half i x y w b k z = halfRow i x y w b p.val q := by
  have z0 : (![0, 0] : Fin 2 → Nat) = fun _ => 0 := funext fun a => by fin_cases a <;> rfl
  have hw : shapeCast S8x256 (View.ld w r0_0) shapeCasts_S8x256_S8x256 = w := (shapeCast_self _ _).trans (View.ld_unit_zero z0 _ w)
  have hb : shapeCast S1x256 (View.ld b r0_1) shapeCasts_S1x256_S1x256 = b := (shapeCast_self _ _).trans (View.ld_unit_zero z0 _ b)
  have hy : (View.ld y r0_2 : FVec Ideal S16x256 .bf16) = y := View.ld_unit_zero z0 _ y
  have hq : q = z 1 := Fin.ext h1
  unfold half halfRow
  rw [hw, hb, hy, h0, hq, eq_ix2 z]
  exact conv3_at w b _ _ (128 * k.val) (fun r q => wide_at (M := 16) x (before (i 0).val y) k r q) (z 0) (z 1)

section Blocks
variable (i : grid0.Coords) (x0 : Vec Ideal S2048x256 .bf16) (x1 : Vec Ideal S16x256 .bf16) (x2 : Vec Ideal S2048x256 .bf16) (x3 : Vec Ideal S16x256 .bf16)
  (x4 x5 : Vec Ideal S8x256 .f32) (x6 x7 : Vec Ideal S1x256 .f32) (p : Fin 2048) (q : Fin 256)

/-- The blocks a grid point leaves. -/
theorem out8_at : out0_8 i x0 x1 x2 x3 x4 x5 x6 x7 (ix2 p q) = gated (halfRow i x0 x1 x4 x6 p.val q) (halfRow i x2 x3 x5 x7 p.val q) := by
  have key : ∀ (k : Fin 16) (z : S128x256.Idx), p.val = 128 * k.val + (z 0).val → q.val = (z 1).val →
      mulf (mulf (half i x0 x1 x4 x6 k) (logistic (half i x0 x1 x4 x6 k))) (half i x2 x3 x5 x7 k) z
        = gated (halfRow i x0 x1 x4 x6 p.val q) (halfRow i x2 x3 x5 x7 p.val q) := fun k z h0 h1 => by
    rw [← half_at i x0 x1 x4 x6 p q k z h0 h1, ← half_at i x2 x3 x5 x7 p q k z h0 h1]
    rfl
  unfold_out out0_8
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

theorem out9_at : out0_9 i x0 x1 x2 x3 x4 x5 x6 x7 (ix2 p q) = halfRow i x0 x1 x4 x6 p.val q := by
  have key := half_at i x0 x1 x4 x6 p q
  unfold_out out0_9
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

theorem out10_at : out0_10 i x0 x1 x2 x3 x4 x5 x6 x7 (ix2 p q) = halfRow i x2 x3 x5 x7 p.val q := by
  have key := half_at i x2 x3 x5 x7 p q
  unfold_out out0_10
  canon_tiles x h
  · exact key 15 x h0 h1
  · exact key 14 x h0 h1
  · exact key 13 x h0 h1
  · exact key 12 x h0 h1
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

end Blocks

/-! ## The blocks a grid point reads -/

def xA (p : Fin 8192) (j : Fin 5632) : EReal := V m c main_arg0 (ix2 p j)
def col (t : Fin cfg0.N) (j : Fin 256) : Fin 2816 := ⟨256 * (t.val % 11) + j.val, by have := j.isLt; omega⟩

theorem coord_at : ∀ t : Fin grid0.N, (grid0.coords t 0).val = t.val / 11 := by decide +kernel
theorem index_at0 : ∀ t : Fin grid0.N, win0_0.index t 0 = t.val / 11 ∧ win0_0.index t 1 = t.val % 11 := by decide +kernel
theorem index_at1 : ∀ t : Fin grid0.N, win0_1.index t 0 = t.val / 11 * 128 - 1 ∧ win0_1.index t 1 = t.val % 11 := by decide +kernel
theorem index_at2 : ∀ t : Fin grid0.N, win0_2.index t 0 = t.val / 11 ∧ win0_2.index t 1 = 11 + t.val % 11 := by decide +kernel
theorem index_at3 : ∀ t : Fin grid0.N, win0_3.index t 0 = t.val / 11 * 128 - 1 ∧ win0_3.index t 1 = 11 + t.val % 11 := by decide +kernel
theorem index_at4 : ∀ t : Fin grid0.N, win0_4.index t 0 = 0 ∧ win0_4.index t 1 = t.val % 11 := by decide +kernel
theorem index_at5 : ∀ t : Fin grid0.N, win0_5.index t 0 = 0 ∧ win0_5.index t 1 = 11 + t.val % 11 := by decide +kernel
theorem index_at6 : ∀ t : Fin grid0.N, win0_6.index t 0 = 0 ∧ win0_6.index t 1 = t.val % 11 := by decide +kernel
theorem index_at7 : ∀ t : Fin grid0.N, win0_7.index t 0 = 0 ∧ win0_7.index t 1 = 11 + t.val % 11 := by decide +kernel
theorem index_at8 : ∀ t : Fin grid0.N, win0_8.index t 0 = t.val / 11 ∧ win0_8.index t 1 = t.val % 11 := by decide +kernel
theorem index_at9 : ∀ t : Fin grid0.N, win0_9.index t 0 = t.val / 11 ∧ win0_9.index t 1 = t.val % 11 := by decide +kernel
theorem index_at10 : ∀ t : Fin grid0.N, win0_10.index t 0 = t.val / 11 ∧ win0_10.index t 1 = t.val % 11 := by decide +kernel

theorem iblk0 (t : Fin cfg0.N) (q : Fin 2048) (j : Fin 256) (h : 128 * 16 * (t.val / 11) + q.val < 8192) :
    iblk m c 0 t (ix2 q j) = xA m c ⟨128 * 16 * (t.val / 11) + q.val, h⟩ (lo (col t j)) := by
  obtain ⟨h0, h1⟩ := index_at0 t
  unfold xA iblk
  exact congrArg (V m c main_arg0) (at2 _ (spot 2048 q.val h0 (by show _ = 128 * 16 * (t.val / 11) + q.val; omega)) (spot 256 j.val h1 (by show _ = 256 * (t.val % 11) + j.val; omega)))

theorem iblk1 (t : Fin cfg0.N) (ht : 0 < t.val / 11) (q : Fin 16) (j : Fin 256) (h : 128 * 16 * (t.val / 11) - 16 + q.val < 8192) :
    iblk m c 1 t (ix2 q j) = xA m c ⟨128 * 16 * (t.val / 11) - 16 + q.val, h⟩ (lo (col t j)) := by
  obtain ⟨h0, h1⟩ := index_at1 t
  unfold xA iblk
  exact congrArg (V m c main_arg0) (at2 _ (spot 16 q.val h0 (by show _ = 128 * 16 * (t.val / 11) - 16 + q.val; omega)) (spot 256 j.val h1 (by show _ = 256 * (t.val % 11) + j.val; omega)))

theorem iblk2 (t : Fin cfg0.N) (q : Fin 2048) (j : Fin 256) (h : 128 * 16 * (t.val / 11) + q.val < 8192) :
    iblk m c 2 t (ix2 q j) = xA m c ⟨128 * 16 * (t.val / 11) + q.val, h⟩ (hi (col t j)) := by
  obtain ⟨h0, h1⟩ := index_at2 t
  unfold xA iblk
  exact congrArg (V m c main_arg0) (at2 _ (spot 2048 q.val h0 (by show _ = 128 * 16 * (t.val / 11) + q.val; omega)) (spot 256 j.val h1 (by show _ = 2816 + (256 * (t.val % 11) + j.val); omega)))

theorem iblk3 (t : Fin cfg0.N) (ht : 0 < t.val / 11) (q : Fin 16) (j : Fin 256) (h : 128 * 16 * (t.val / 11) - 16 + q.val < 8192) :
    iblk m c 3 t (ix2 q j) = xA m c ⟨128 * 16 * (t.val / 11) - 16 + q.val, h⟩ (hi (col t j)) := by
  obtain ⟨h0, h1⟩ := index_at3 t
  unfold xA iblk
  exact congrArg (V m c main_arg0) (at2 _ (spot 16 q.val h0 (by show _ = 128 * 16 * (t.val / 11) - 16 + q.val; omega)) (spot 256 j.val h1 (by show _ = 2816 + (256 * (t.val % 11) + j.val); omega)))

theorem iblk4 (t : Fin cfg0.N) (e : Fin 8) (j : Fin 256) : iblk m c 4 t (ix2 e j) = V m c main_v1 (ix2 e (lo (col t j))) := by
  obtain ⟨h0, h1⟩ := index_at4 t
  unfold iblk
  exact congrArg (V m c main_v1) (at2 _ (spot 8 e.val h0 (by show _ = e.val; omega)) (spot 256 j.val h1 (by show _ = 256 * (t.val % 11) + j.val; omega)))

theorem iblk5 (t : Fin cfg0.N) (e : Fin 8) (j : Fin 256) : iblk m c 5 t (ix2 e j) = V m c main_v1 (ix2 e (hi (col t j))) := by
  obtain ⟨h0, h1⟩ := index_at5 t
  unfold iblk
  exact congrArg (V m c main_v1) (at2 _ (spot 8 e.val h0 (by show _ = e.val; omega)) (spot 256 j.val h1 (by show _ = 2816 + (256 * (t.val % 11) + j.val); omega)))

theorem iblk6 (t : Fin cfg0.N) (j : Fin 256) : iblk m c 6 t (ix2 0 j) = V m c main_v2 (ix2 0 (lo (col t j))) := by
  obtain ⟨h0, h1⟩ := index_at6 t
  unfold iblk
  exact congrArg (V m c main_v2) (at2 _ (spot 1 0 h0 (by show _ = 0; omega)) (spot 256 j.val h1 (by show _ = 256 * (t.val % 11) + j.val; omega)))

theorem iblk7 (t : Fin cfg0.N) (j : Fin 256) : iblk m c 7 t (ix2 0 j) = V m c main_v2 (ix2 0 (hi (col t j))) := by
  obtain ⟨h0, h1⟩ := index_at7 t
  unfold iblk
  exact congrArg (V m c main_v2) (at2 _ (spot 1 0 h0 (by show _ = 0; omega)) (spot 256 j.val h1 (by show _ = 2816 + (256 * (t.val % 11) + j.val); omega)))

def argH : FVec Ideal S8192x5632 .f32 := extf (F := Ideal) (φ := .bf16) .f32 (m ((c.tc : Thread nD τ).loc main_arg0)) bitsLt_bf16_f32
def argW : FVec Ideal S3x5632 .f32 := m ((c.tc : Thread nD τ).loc main_arg1)
def argB : FVec Ideal S5632 .f32 := m ((c.tc : Thread nD τ).loc main_arg2)

theorem xA_eq : xA m c = fun p j => argH m c (ix2 p j) := by unfold xA argH; rw [V_main_arg0]; rfl

theorem wA_eq (e : Fin 8) (j : Fin 5632) : V m c main_v1 (ix2 e j) = tapsOf (argW m c) e j := by
  have h : V m c main_v1 = concatenate S8x5632 0 [⟨S3x5632, argW m c⟩, ⟨S5x5632, broadcastInDim S5x5632 ![] bcast_S_S5x5632 (constant (F := Ideal) S_ .f32 0x00000000#32)⟩]
      concatenates_S3x5632_S5x5632_S8x5632_d0 := by
    unfold V; after_results_simp <;> rfl
  rw [h]
  pointwise
  rfl

theorem bA_eq (j : Fin 5632) : V m c main_v2 (ix2 0 j) = argB m c (ix1 j) := by
  have h : V m c main_v2 = shapeCast S1x5632 (argB m c) shapeCasts_S5632_S1x5632 := by
    unfold V; after_results_simp <;> rfl
  rw [h]
  pointwise

/-- One half's rows of a block are rows of the convolution. -/
theorem row_eq (t : Fin cfg0.N) (cl : Fin 256 → Fin 5632) (x : Vec Ideal S2048x256 .bf16) (y : Vec Ideal S16x256 .bf16) (w : Vec Ideal S8x256 .f32) (b : Vec Ideal S1x256 .f32)
    (hx : ∀ (q : Fin 2048) (j : Fin 256) (h : 128 * 16 * (t.val / 11) + q.val < 8192), x (ix2 q j) = xA m c ⟨128 * 16 * (t.val / 11) + q.val, h⟩ (cl j))
    (hy : 0 < t.val / 11 → ∀ (q : Fin 16) (j : Fin 256) (h : 128 * 16 * (t.val / 11) - 16 + q.val < 8192),
      y (ix2 q j) = xA m c ⟨128 * 16 * (t.val / 11) - 16 + q.val, h⟩ (cl j))
    (hw : ∀ (e : Fin 8) j, w (ix2 e j) = V m c main_v1 (ix2 e (cl j))) (hb : ∀ j, b (ix2 0 j) = V m c main_v2 (ix2 0 (cl j)))
    (p : Fin 2048) (j : Fin 256) (r : Fin 8192) (hr : r.val = 2048 * (t.val / 11) + p.val) :
    halfRow (grid0.coords t) x y w b p.val j = value (argH m c) (argW m c) (argB m c) r (cl j) := by
  have hp := p.isLt
  have ht : t.val < 44 := lt_of_lt_of_eq t.isLt N_0
  have d : ∀ n, n < 2064 → ext (M := 16) x (before (t.val / 11) y) n j = lag (xA m c) (2048 * (t.val / 11) + n) (cl j) := fun n hn =>
    ext_lag (M := 16) (xA m c) cl x y (t.val / 11) (by omega) (by omega) (by omega) hx hy n hn j
  have hw : ∀ e : Fin 8, w (ix2 e j) = tapsOf (argW m c) e (cl j) := fun e => (hw e j).trans (wA_eq m c e _)
  have hb : b (ix2 0 j) = argB m c (ix1 (cl j)) := (hb j).trans (bA_eq m c _)
  unfold halfRow value out3
  beta_reduce
  rw [coord_at t, hw, hw, hw, hb, d _ (by omega), d _ (by omega), d _ (by omega), hr, xA_eq]
  rfl

theorem row_lo (t : Fin cfg0.N) (p : Fin 2048) (j : Fin 256) (r : Fin 8192) (hr : r.val = 2048 * (t.val / 11) + p.val) :
    halfRow (grid0.coords t) (iblk m c 0 t) (iblk m c 1 t) (iblk m c 4 t) (iblk m c 6 t) p.val j = value (argH m c) (argW m c) (argB m c) r (lo (col t j)) :=
  row_eq m c t (fun j => lo (col t j)) _ _ _ _ (iblk0 m c t) (iblk1 m c t) (iblk4 m c t) (iblk6 m c t) p j r hr
theorem row_hi (t : Fin cfg0.N) (p : Fin 2048) (j : Fin 256) (r : Fin 8192) (hr : r.val = 2048 * (t.val / 11) + p.val) :
    halfRow (grid0.coords t) (iblk m c 2 t) (iblk m c 3 t) (iblk m c 5 t) (iblk m c 7 t) p.val j = value (argH m c) (argW m c) (argB m c) r (hi (col t j)) :=
  row_eq m c t (fun j => hi (col t j)) _ _ _ _ (iblk2 m c t) (iblk3 m c t) (iblk5 m c t) (iblk7 m c t) p j r hr

/-- The results: the gated product and the two halves. -/
def lows (p : Fin 8192) (j : Fin 2816) : EReal := value (argH m c) (argW m c) (argB m c) p (lo j)
def highs (p : Fin 8192) (j : Fin 2816) : EReal := value (argH m c) (argW m c) (argB m c) p (hi j)
def prods (p : Fin 8192) (j : Fin 2816) : EReal := gated (lows m c p j) (highs m c p j)

theorem block8 (t : Fin cfg0.N) (p : Fin 2048) (j : Fin 256) (r : Fin 8192) (hr : r.val = 2048 * (t.val / 11) + p.val) :
    out0_8 (grid0.coords t) (iblk m c 0 t) (iblk m c 1 t) (iblk m c 2 t) (iblk m c 3 t) (iblk m c 4 t) (iblk m c 5 t) (iblk m c 6 t) (iblk m c 7 t) (ix2 p j) = prods m c r (col t j) :=
  (out8_at _ _ _ _ _ _ _ _ _ p j).trans (congrArg₂ gated (row_lo m c t p j r hr) (row_hi m c t p j r hr))
theorem block9 (t : Fin cfg0.N) (p : Fin 2048) (j : Fin 256) (r : Fin 8192) (hr : r.val = 2048 * (t.val / 11) + p.val) :
    out0_9 (grid0.coords t) (iblk m c 0 t) (iblk m c 1 t) (iblk m c 2 t) (iblk m c 3 t) (iblk m c 4 t) (iblk m c 5 t) (iblk m c 6 t) (iblk m c 7 t) (ix2 p j) = lows m c r (col t j) :=
  (out9_at _ _ _ _ _ _ _ _ _ p j).trans (row_lo m c t p j r hr)
theorem block10 (t : Fin cfg0.N) (p : Fin 2048) (j : Fin 256) (r : Fin 8192) (hr : r.val = 2048 * (t.val / 11) + p.val) :
    out0_10 (grid0.coords t) (iblk m c 0 t) (iblk m c 1 t) (iblk m c 2 t) (iblk m c 3 t) (iblk m c 4 t) (iblk m c 5 t) (iblk m c 6 t) (iblk m c 7 t) (ix2 p j) = highs m c r (col t j) :=
  (out10_at _ _ _ _ _ _ _ _ _ p j).trans (row_hi m c t p j r hr)

attribute [local irreducible] lows highs prods out0_8 out0_9 out0_10 iblk

theorem final8 : ∀ i, (dats m 0 c).arrAt 8 cfg0.N i = prods m c (i 0) (i 1) := by
  have hN : cfg0.N = 44 := N_0
  refine (dats m 0 c).arrAt_forall_of_cover 8 (fun i v => v = prods m c (i 0) (i 1)) (fun t hf y => ?_) (fun i => ?_)
  · obtain ⟨h0, h1⟩ := index_at8 t
    rw [Value.flushed8]
    have e0 : (((cfg0.win 8).blk t).view.emb y 0 : Nat) = 2048 * (t.val / 11) + (y 0).val := by
      show win0_8.index t 0 * 2048 + 1 * (y 0).val = _; rw [h0]; omega
    have e1 : col t (y 1) = ((cfg0.win 8).blk t).view.emb y 1 := Fin.ext (by
      show 256 * (t.val % 11) + (y 1).val = win0_8.index t 1 * 256 + 1 * (y 1).val; rw [h1]; omega)
    have e := block8 m c t (y 0) (y 1) (((cfg0.win 8).blk t).view.emb y 0) e0
    have hy : (y : S2048x256.Idx) = ix2 (y 0) (y 1) := eq_ix2 _
    rw [e1] at e
    exact Eq.trans (congrArg (out0_8 (grid0.coords t) (iblk m c 0 t) (iblk m c 1 t) (iblk m c 2 t) (iblk m c 3 t) (iblk m c 4 t) (iblk m c 5 t) (iblk m c 6 t) (iblk m c 7 t)) hy) e
  · have hi1 : (i 1 : Nat) < 2816 := (i 1).isLt
    have hi0 : (i 0 : Nat) < 8192 := (i 0).isLt
    have ht : 11 * ((i 0 : Nat) / 2048) + (i 1 : Nat) / 256 < cfg0.N := by omega
    obtain ⟨h0, h1⟩ := index_at8 ⟨_, ht⟩
    refine ⟨⟨_, ht⟩, flush0_8 _, ?_⟩
    show i ∈ ((View.whole main_v3_0).slice (win0_8.rect ⟨_, ht⟩)).set
    rw [View.set_slice_whole, Rect.mem_set_unit]
    intro a
    match a with
    | ⟨0, _⟩ => exact span 2048 (i 0).val h0 (by dsimp only; omega)
    | ⟨1, _⟩ => exact span 256 (i 1).val h1 (by dsimp only; omega)

theorem final9 : ∀ i, (dats m 0 c).arrAt 9 cfg0.N i = lows m c (i 0) (i 1) := by
  have hN : cfg0.N = 44 := N_0
  refine (dats m 0 c).arrAt_forall_of_cover 9 (fun i v => v = lows m c (i 0) (i 1)) (fun t hf y => ?_) (fun i => ?_)
  · obtain ⟨h0, h1⟩ := index_at9 t
    rw [Value.flushed9]
    have e0 : (((cfg0.win 9).blk t).view.emb y 0 : Nat) = 2048 * (t.val / 11) + (y 0).val := by
      show win0_9.index t 0 * 2048 + 1 * (y 0).val = _; rw [h0]; omega
    have e1 : col t (y 1) = ((cfg0.win 9).blk t).view.emb y 1 := Fin.ext (by
      show 256 * (t.val % 11) + (y 1).val = win0_9.index t 1 * 256 + 1 * (y 1).val; rw [h1]; omega)
    have e := block9 m c t (y 0) (y 1) (((cfg0.win 9).blk t).view.emb y 0) e0
    have hy : (y : S2048x256.Idx) = ix2 (y 0) (y 1) := eq_ix2 _
    rw [e1] at e
    exact Eq.trans (congrArg (out0_9 (grid0.coords t) (iblk m c 0 t) (iblk m c 1 t) (iblk m c 2 t) (iblk m c 3 t) (iblk m c 4 t) (iblk m c 5 t) (iblk m c 6 t) (iblk m c 7 t)) hy) e
  · have hi1 : (i 1 : Nat) < 2816 := (i 1).isLt
    have hi0 : (i 0 : Nat) < 8192 := (i 0).isLt
    have ht : 11 * ((i 0 : Nat) / 2048) + (i 1 : Nat) / 256 < cfg0.N := by omega
    obtain ⟨h0, h1⟩ := index_at9 ⟨_, ht⟩
    refine ⟨⟨_, ht⟩, flush0_9 _, ?_⟩
    show i ∈ ((View.whole main_v3_1).slice (win0_9.rect ⟨_, ht⟩)).set
    rw [View.set_slice_whole, Rect.mem_set_unit]
    intro a
    match a with
    | ⟨0, _⟩ => exact span 2048 (i 0).val h0 (by dsimp only; omega)
    | ⟨1, _⟩ => exact span 256 (i 1).val h1 (by dsimp only; omega)

theorem final10 : ∀ i, (dats m 0 c).arrAt 10 cfg0.N i = highs m c (i 0) (i 1) := by
  have hN : cfg0.N = 44 := N_0
  refine (dats m 0 c).arrAt_forall_of_cover 10 (fun i v => v = highs m c (i 0) (i 1)) (fun t hf y => ?_) (fun i => ?_)
  · obtain ⟨h0, h1⟩ := index_at10 t
    rw [Value.flushed10]
    have e0 : (((cfg0.win 10).blk t).view.emb y 0 : Nat) = 2048 * (t.val / 11) + (y 0).val := by
      show win0_10.index t 0 * 2048 + 1 * (y 0).val = _; rw [h0]; omega
    have e1 : col t (y 1) = ((cfg0.win 10).blk t).view.emb y 1 := Fin.ext (by
      show 256 * (t.val % 11) + (y 1).val = win0_10.index t 1 * 256 + 1 * (y 1).val; rw [h1]; omega)
    have e := block10 m c t (y 0) (y 1) (((cfg0.win 10).blk t).view.emb y 0) e0
    have hy : (y : S2048x256.Idx) = ix2 (y 0) (y 1) := eq_ix2 _
    rw [e1] at e
    exact Eq.trans (congrArg (out0_10 (grid0.coords t) (iblk m c 0 t) (iblk m c 1 t) (iblk m c 2 t) (iblk m c 3 t) (iblk m c 4 t) (iblk m c 5 t) (iblk m c 6 t) (iblk m c 7 t)) hy) e
  · have hi1 : (i 1 : Nat) < 2816 := (i 1).isLt
    have hi0 : (i 0 : Nat) < 8192 := (i 0).isLt
    have ht : 11 * ((i 0 : Nat) / 2048) + (i 1 : Nat) / 256 < cfg0.N := by omega
    obtain ⟨h0, h1⟩ := index_at10 ⟨_, ht⟩
    refine ⟨⟨_, ht⟩, flush0_10 _, ?_⟩
    show i ∈ ((View.whole main_v3_2).slice (win0_10.rect ⟨_, ht⟩)).set
    rw [View.set_slice_whole, Rect.mem_set_unit]
    intro a
    match a with
    | ⟨0, _⟩ => exact span 2048 (i 0).val h0 (by dsimp only; omega)
    | ⟨1, _⟩ => exact span 256 (i 1).val h1 (by dsimp only; omega)

end Kernel

/-! ## What the reference computes -/

section Reference
open Cert.Gate

theorem refConv_at (h : FVec Ideal ⟨2, ![8192, 5632]⟩ .f32) (w : FVec Ideal ⟨2, ![3, 5632]⟩ .f32) (b : FVec Ideal ⟨1, ![5632]⟩ .f32) (p : Fin 8192) (j : Fin 5632) :
    refConv h w b (ix2 p j) = value h w b p j := by
  have t0 : tapsOf w 0 j = w (ix2 0 j) := rfl
  have t1 : tapsOf w 1 j = w (ix2 1 j) := rfl
  have t2 : tapsOf w 2 j = w (ix2 2 j) := rfl
  have e : refRows (broadcastInDim Cert.Reference6Ideal.S1x5632 ![1] Cert.Reference6Ideal.Gen.bcast_S5632_S1x5632_1 b) (ix2 p j) = (b (ix1 j) : EReal) := by
    pointwise [refRows]
  have e0 : rowOf (fun p j => h (ix2 p j)) p.val j = (h (ix2 p j) : EReal) := rowsOf_val h p j
  pointwise [refConv, refTap0_at, refTap1_at, refTap2_at, refLater1_at, refLater2_at, e]
  unfold value out3
  rw [t0, t1, t2, lag_at _ p.val 0 16 rfl, lag_at _ p.val 2 14 rfl, lag_at _ p.val 1 15 rfl, if_pos (Nat.zero_le _), Nat.sub_zero, e0]
  exact three _ _ _ _

theorem refLo_at (y : FVec Ideal ⟨2, ![8192, 5632]⟩ .f32) (p : Fin 8192) (j : Fin 2816) : refLo y (ix2 p j) = y (ix2 p (lo j)) := by
  pointwise [refLo]
  rfl
theorem refHi_at (y : FVec Ideal ⟨2, ![8192, 5632]⟩ .f32) (p : Fin 8192) (j : Fin 2816) : refHi y (ix2 p j) = y (ix2 p (hi j)) := by
  pointwise [refHi]
  rfl
def refProd (y : FVec Ideal ⟨2, ![8192, 5632]⟩ .f32) : FVec Ideal ⟨2, ![8192, 2816]⟩ .f32 := mulf (mulf (refLo y) (refSig (refLo y))) (refHi y)
theorem refProd_at (y : FVec Ideal ⟨2, ![8192, 5632]⟩ .f32) (p : Fin 8192) (j : Fin 2816) : refProd y (ix2 p j) = gated (y (ix2 p (lo j))) (y (ix2 p (hi j))) := by
  pointwise [refProd, refSig, refOnes, refLo_at, refHi_at]
  rfl

end Reference

/-! ## Kernel and reference -/

attribute [local instance] Cert.Kernel23Ideal.Gen.facts Cert.Reference23Ideal.Gen.facts

theorem agree : Cert.algebraic_Kernel23Ideal_Reference23Ideal := by
  intro m g m' g' _ ha
  refine ⟨_, _, _, Cert.Kernel23Ideal.Value.run_blocks m g,
    (θ_run Cert.Reference23Ideal.defs _ _).mono (fun r h c => ?_) (Cert.Reference23Ideal.Value.run m' g')⟩
  obtain ⟨a0, a1, a2⟩ := ha c
  obtain ⟨h0, h1, h2, hk⟩ := h c
  unfold Cert.Reference23Ideal.Value.res_main_v31 at h0
  rw [a0, a1, a2] at h0 h1 h2
  have y := refConv_at (argH m c) (argW m c) (argB m c)
  have e8 : ∀ p j, refProd (Cert.Gate.refConv (argH m c) (argW m c) (argB m c)) (ix2 p j) = prods m c p j := fun p j => by
    rw [refProd_at, y, y]; unfold prods lows highs; rfl
  have e9 : ∀ p j, Cert.Gate.refLo (Cert.Gate.refConv (argH m c) (argW m c) (argB m c)) (ix2 p j) = lows m c p j := fun p j => by
    rw [refLo_at, y]; unfold lows; rfl
  have e10 : ∀ p j, Cert.Gate.refHi (Cert.Gate.refConv (argH m c) (argW m c) (argB m c)) (ix2 p j) = highs m c p j := fun p j => by
    rw [refHi_at, y]; unfold highs; rfl
  refine ⟨h0.trans ?_, h1.trans ?_, h2.trans ?_, hk⟩ <;> (funext i; rw [← ix2_eta i])
  · exact (e8 (i 0) (i 1)).trans (final8 m c (ix2 (i 0) (i 1))).symm
  · exact (e9 (i 0) (i 1)).trans (final9 m c (ix2 (i 0) (i 1))).symm
  · exact (e10 (i 0) (i 1)).trans (final10 m c (ix2 (i 0) (i 1))).symm

end Cert.FwdGate

end
-- ==== Proof.FwdXbcClaim.lean ====
/-
  The forward's convolution of the state-space mixer: kernel and reference leave the same result.
-/
module

public import proofs.«01_k».proof.Defs
public import proofs.«01_k».proof.Proof.BlockAt
public import proofs.«01_k».proof.Proof.FwdChunk
public import proofs.«01_k».proof.Proof.Gen.Kernel24Ideal.Value
public import proofs.«01_k».proof.Proof.Gen.Reference24Ideal.Run
public import Idealize.ShloMosaic.Lib.Pipeline.ValueKit

@[expose] public section

set_option maxRecDepth 16384
set_option maxHeartbeats 4000000

noncomputable section

namespace Cert.FwdXbc

open Cert.Fwd
open Cert.Gate (rowOf rowsOf rowsOf_lt rowsOf_val)
open Idealize.ShloMosaic Idealize.ShloMosaic.TcCoe Idealize.SL.Sem

/-- Column `j` of the convolution's input within the projected row. -/
def mid (j : Fin 768) : Fin 3456 := ⟨2560 + j.val, by omega⟩

/-- The taps, with four rows of zeros below. -/
def tapsOf (w : FVec Ideal ⟨2, ![4, 768]⟩ .f32) (e : Fin 8) (j : Fin 768) : EReal := if h : e.val < 4 then w (ix2 ⟨e.val, h⟩ j) else 0

/-- The convolution of the argument arrays. -/
def value (x : FVec Ideal ⟨2, ![8192, 3456]⟩ .f32) (w : FVec Ideal ⟨2, ![4, 768]⟩ .f32) (b : FVec Ideal ⟨1, ![768]⟩ .f32) (p : Fin 8192) (j : Fin 768) : EReal :=
  out4 (tapsOf w) (fun j => b (ix1 j)) (lag fun p j => x (ix2 p (mid j))) p.val j

/-! ## What the kernel leaves -/

section Kernel
open Cert.Kernel24Ideal Cert.Kernel24Ideal.Gen
variable (m : (ℓ : Loc nD τ sig) → Buf (Elt Ideal) ℓ) (c : Dev nD)

/-- The block a grid point leaves. -/
theorem out_at (c : Dev nD) (i : grid0.Coords) (a2 : Memref sig .tc .vmem S1024x256 .f32) (h2 : a2.IsWhole) (a3 : Memref sig .tc .vmem S16x256 .f32) (h3 : a3.IsWhole) (a4 : Memref sig .tc .vmem S8x256 .f32) (h4 : a4.IsWhole) (a5 : Memref sig .tc .vmem S1x256 .f32) (h5 : a5.IsWhole) (a6 : Memref sig .tc .vmem S1024x256 .f32) (h6 : a6.IsWhole)
    (x0 : Vec Ideal S1024x256 .f32) (x1 : Vec Ideal S16x256 .f32) (x2 : Vec Ideal S8x256 .f32) (x3 : Vec Ideal S1x256 .f32)
    (p : Fin 1024) (q : Fin 256) :
    out0_A_4 c i a2 h2 a3 h3 a4 h4 a5 h5 a6 h6 x0 x1 x2 x3 (ix2 p q) = out4 (fun e q => x2 (ix2 e q)) (fun q => x3 (ix2 0 q)) (ext (M := 8) x0 (before (i 0).val x1)) p.val q := by
  have hw : shapeCast S8x256 x2 shapeCasts_S8x256_S8x256 = x2 := shapeCast_self _ _
  have hb : shapeCast S1x256 x3 shapeCasts_S1x256_S1x256 = x3 := shapeCast_self _ _
  have key : ∀ (k : Fin 8) (x : S128x256.Idx), p.val = 128 * k.val + (x 0).val → q.val = (x 1).val →
      conv4 (shapeCast S8x256 x2 shapeCasts_S8x256_S8x256) (shapeCast S1x256 x3 shapeCasts_S1x256_S1x256)
        (wide (M := 8) x0 (before (i 0).val x1) k) x
        = out4 (fun e q => x2 (ix2 e q)) (fun q => x3 (ix2 0 q)) (ext (M := 8) x0 (before (i 0).val x1)) p.val q := by
    intro k x h0 h1
    have hq : q = x 1 := Fin.ext h1
    rw [hw, hb, h0, hq, eq_ix2 x]
    exact conv4_at x2 x3 _ _ (128 * k.val) (fun r q => wide_at (M := 8) x0 (before (i 0).val x1) k r q) (x 0) (x 1)
  frame_out
  canon_tiles x h
  · exact key 7 x h0 h1
  · exact key 6 x h0 h1
  · exact key 5 x h0 h1
  · exact key 4 x h0 h1
  · exact key 3 x h0 h1
  · exact key 2 x h0 h1
  · exact key 1 x h0 h1
  · exact key 0 x (h0.trans (Nat.zero_add _).symm) h1

/-! ## The blocks a grid point reads -/

def xA (p : Fin 8192) (j : Fin 768) : EReal := V m c main_arg0 (ix2 p (mid j))
def col (t : Fin cfg0.N) (j : Fin 256) : Fin 768 := ⟨256 * (t.val % 3) + j.val, by have := j.isLt; omega⟩

theorem coord_at : ∀ t : Fin grid0.N, (grid0.coords t 0).val = t.val / 3 := by decide +kernel
theorem index_at0 : ∀ t : Fin grid0.N, win0_0.index t 0 = t.val / 3 ∧ win0_0.index t 1 = 10 + t.val % 3 := by decide +kernel
theorem index_at1 : ∀ t : Fin grid0.N, win0_1.index t 0 = t.val / 3 * 64 - 1 ∧ win0_1.index t 1 = 10 + t.val % 3 := by decide +kernel
theorem index_at2 : ∀ t : Fin grid0.N, win0_2.index t 0 = 0 ∧ win0_2.index t 1 = t.val % 3 := by decide +kernel
theorem index_at3 : ∀ t : Fin grid0.N, win0_3.index t 0 = 0 ∧ win0_3.index t 1 = t.val % 3 := by decide +kernel
theorem index_at4 : ∀ t : Fin grid0.N, win0_4.index t 0 = t.val / 3 ∧ win0_4.index t 1 = t.val % 3 := by decide +kernel

theorem block0 (t : Fin cfg0.N) (q : Fin 1024) (j : Fin 256) (h : 1024 * (t.val / 3) + q.val < 8192) :
    X0_0 m c t (ix2 q j) = xA m c ⟨1024 * (t.val / 3) + q.val, h⟩ (col t j) := by
  obtain ⟨h0, h1⟩ := index_at0 t
  unfold xA X0_0 Pipeline.Window.fill
  rw [dif_pos (moved0_0 t _)]
  unfold iblk
  exact congrArg (V m c main_arg0) (at2 _ (spot 1024 q.val h0 (by show _ = 1024 * (t.val / 3) + q.val; omega)) (spot 256 j.val h1 (by show _ = 2560 + (256 * (t.val % 3) + j.val); omega)))

theorem block1 (t : Fin cfg0.N) (ht : 0 < t.val / 3) (q : Fin 16) (j : Fin 256) (h : 1024 * (t.val / 3) - 16 + q.val < 8192) :
    X0_1 m c t (ix2 q j) = xA m c ⟨1024 * (t.val / 3) - 16 + q.val, h⟩ (col t j) := by
  obtain ⟨h0, h1⟩ := index_at1 t
  unfold xA X0_1 Pipeline.Window.fill
  rw [dif_pos (moved0_1 t _)]
  unfold iblk
  exact congrArg (V m c main_arg0) (at2 _ (spot 16 q.val h0 (by show _ = 1024 * (t.val / 3) - 16 + q.val; omega)) (spot 256 j.val h1 (by show _ = 2560 + (256 * (t.val % 3) + j.val); omega)))

theorem iblk2 (t : Fin cfg0.N) (e : Fin 8) (j : Fin 256) : iblk m c 2 t (ix2 e j) = V m c main_v1 (ix2 e (col t j)) := by
  obtain ⟨h0, h1⟩ := index_at2 t
  unfold iblk
  exact congrArg (V m c main_v1) (at2 _ (spot 8 e.val h0 (by show _ = e.val; omega)) (spot 256 j.val h1 (by show _ = 256 * (t.val % 3) + j.val; omega)))

theorem iblk3 (t : Fin cfg0.N) (j : Fin 256) : iblk m c 3 t (ix2 0 j) = V m c main_v2 (ix2 0 (col t j)) := by
  obtain ⟨h0, h1⟩ := index_at3 t
  unfold iblk
  exact congrArg (V m c main_v2) (at2 _ (spot 1 0 h0 (by show _ = 0; omega)) (spot 256 j.val h1 (by show _ = 256 * (t.val % 3) + j.val; omega)))

def argX : FVec Ideal S8192x3456 .f32 := m ((c.tc : Thread nD τ).loc main_arg0)
def argW : FVec Ideal S4x768 .f32 := m ((c.tc : Thread nD τ).loc main_arg1)
def argB : FVec Ideal S768 .f32 := m ((c.tc : Thread nD τ).loc main_arg2)

theorem xA_eq : xA m c = fun p j => argX m c (ix2 p (mid j)) := by unfold xA argX; rw [V_main_arg0]

theorem wA_eq (e : Fin 8) (j : Fin 768) : V m c main_v1 (ix2 e j) = tapsOf (argW m c) e j := by
  have h : V m c main_v1 = concatenate S8x768 0 [⟨S4x768, argW m c⟩, ⟨S4x768, broadcastInDim S4x768 ![] bcast_S_S4x768 (constant (F := Ideal) S_ .f32 0x00000000#32)⟩]
      concatenates_S4x768_S4x768_S8x768_d0 := by
    unfold V; after_results_simp <;> rfl
  rw [h]
  pointwise
  rfl

theorem bA_eq (j : Fin 768) : V m c main_v2 (ix2 0 j) = argB m c (ix1 j) := by
  have h : V m c main_v2 = shapeCast S1x768 (argB m c) shapeCasts_S768_S1x768 := by
    unfold V; after_results_simp <;> rfl
  rw [h]
  pointwise

theorem block (t : Fin cfg0.N) (p : Fin 1024) (j : Fin 256) (r : Fin 8192) (hr : r.val = 1024 * (t.val / 3) + p.val) :
    outsAt0 m c t (ix2 p j) = value (argX m c) (argW m c) (argB m c) r (col t j) := by
  have hp := p.isLt
  have ht : t.val < 24 := lt_of_lt_of_eq t.isLt N_0
  have d : ∀ n, n < 1040 → ext (M := 8) (X0_0 m c t) (before (t.val / 3) (X0_1 m c t)) n j = lag (xA m c) (1024 * (t.val / 3) + n) (col t j) := fun n hn =>
    ext_lag (M := 8) (xA m c) (col t) (X0_0 m c t) (X0_1 m c t) (t.val / 3) (by omega) (by omega) (by omega)
      (fun r q h => block0 m c t r q h) (fun h0 r q h => block1 m c t h0 r q h) n hn j
  have hw : ∀ e : Fin 8, iblk m c 2 t (ix2 e j) = tapsOf (argW m c) e (col t j) := fun e => (iblk2 m c t e j).trans (wA_eq m c e _)
  have hb : iblk m c 3 t (ix2 0 j) = argB m c (ix1 (col t j)) := (iblk3 m c t j).trans (bA_eq m c _)
  unfold outsAt0
  rw [out_at, coord_at t]
  unfold value out4
  beta_reduce
  rw [hw, hw, hw, hw, hb, d _ (by omega), d _ (by omega), d _ (by omega), d _ (by omega), hr, xA_eq]
  rfl

attribute [local irreducible] value outsAt0 iblk X0_0 X0_1

theorem final : ∀ i, (dats m 0 c).arrAt 4 cfg0.N i = value (argX m c) (argW m c) (argB m c) (i 0) (i 1) := by
  have hN : cfg0.N = 24 := N_0
  refine (dats m 0 c).arrAt_forall_of_cover 4 (fun i v => v = value (argX m c) (argW m c) (argB m c) (i 0) (i 1)) (fun t hf y => ?_) (fun i => ?_)
  · obtain ⟨h0, h1⟩ := index_at4 t
    rw [Value.flushed4]
    have e0 : (((cfg0.win 4).blk t).view.emb y 0 : Nat) = 1024 * (t.val / 3) + (y 0).val := by
      show win0_4.index t 0 * 1024 + 1 * (y 0).val = _; rw [h0]; omega
    have e1 : col t (y 1) = ((cfg0.win 4).blk t).view.emb y 1 := Fin.ext (by
      show 256 * (t.val % 3) + (y 1).val = win0_4.index t 1 * 256 + 1 * (y 1).val; rw [h1]; omega)
    have e := block m c t (y 0) (y 1) (((cfg0.win 4).blk t).view.emb y 0) e0
    have hy : (y : S1024x256.Idx) = ix2 (y 0) (y 1) := eq_ix2 _
    rw [e1] at e
    exact Eq.trans (congrArg (outsAt0 m c t) hy) e
  · have hi0 : (i 0 : Nat) < 8192 := (i 0).isLt
    have hi1 : (i 1 : Nat) < 768 := (i 1).isLt
    have ht : 3 * ((i 0 : Nat) / 1024) + (i 1 : Nat) / 256 < cfg0.N := by omega
    obtain ⟨h0, h1⟩ := index_at4 ⟨3 * ((i 0 : Nat) / 1024) + (i 1 : Nat) / 256, ht⟩
    refine ⟨⟨3 * ((i 0 : Nat) / 1024) + (i 1 : Nat) / 256, ht⟩, flush0_4 _, ?_⟩
    show i ∈ ((View.whole main_v3).slice (win0_4.rect ⟨3 * ((i 0 : Nat) / 1024) + (i 1 : Nat) / 256, ht⟩)).set
    rw [View.set_slice_whole, Rect.mem_set_unit]
    intro a
    match a with
    | ⟨0, _⟩ => exact span 1024 (i 0).val h0 (by dsimp only; omega)
    | ⟨1, _⟩ => exact span 256 (i 1).val h1 (by dsimp only; omega)

end Kernel

/-! ## What the reference computes -/

section Reference
open Cert.Reference24Ideal Cert.Reference24Ideal.Gen

def refX (x : FVec Ideal S8192x3456 .f32) : FVec Ideal S8192x768 .f32 := extractStridedSlice S8192x768 ![0, 2560] x slices_S8192x3456_S8192x768_0_2560

theorem refX_rows (x : FVec Ideal S8192x3456 .f32) : rowsOf (refX x) = rowOf fun p j => x (ix2 p (mid j)) := by
  refine congrArg rowOf (funext fun p => funext fun j => ?_)
  pointwise [refX]
  rfl

/-- The input one, two and three rows later. -/
def refLater1 (x : FVec Ideal S8192x768 .f32) : FVec Ideal S8192x768 .f32 :=
  concatenate S8192x768 0 [⟨S1x768, broadcastInDim S1x768 ![] bcast_S_S1x768 (constant S_ .f32 0x00000000#32)⟩,
    ⟨S8191x768, extractStridedSlice S8191x768 ![0, 0] x slices_S8192x768_S8191x768_0_0⟩] concatenates_S1x768_S8191x768_S8192x768_d0
def refLater2 (x : FVec Ideal S8192x768 .f32) : FVec Ideal S8192x768 .f32 :=
  concatenate S8192x768 0 [⟨S2x768, broadcastInDim S2x768 ![] bcast_S_S2x768 (constant S_ .f32 0x00000000#32)⟩,
    ⟨S8190x768, extractStridedSlice S8190x768 ![0, 0] x slices_S8192x768_S8190x768_0_0⟩] concatenates_S2x768_S8190x768_S8192x768_d0
def refLater3 (x : FVec Ideal S8192x768 .f32) : FVec Ideal S8192x768 .f32 :=
  concatenate S8192x768 0 [⟨S3x768, broadcastInDim S3x768 ![] bcast_S_S3x768 (constant S_ .f32 0x00000000#32)⟩,
    ⟨S8189x768, extractStridedSlice S8189x768 ![0, 0] x slices_S8192x768_S8189x768_0_0⟩] concatenates_S3x768_S8189x768_S8192x768_d0

theorem refLater1_at (x : FVec Ideal S8192x768 .f32) (p : Fin 8192) (j : Fin 768) : refLater1 x (ix2 p j) = if 1 ≤ p.val then rowsOf x (p.val - 1) j else 0 := by
  pointwise [refLater1]
  by_cases h1 : p.val < 1
  · rw [dif_pos h1, if_neg (by omega)]
  · exact (dif_neg h1).trans ((rowsOf_lt x (p.val - 1) (by omega) j).symm.trans (if_pos (by omega)).symm)
theorem refLater2_at (x : FVec Ideal S8192x768 .f32) (p : Fin 8192) (j : Fin 768) : refLater2 x (ix2 p j) = if 2 ≤ p.val then rowsOf x (p.val - 2) j else 0 := by
  pointwise [refLater2]
  by_cases h1 : p.val < 2
  · rw [dif_pos h1, if_neg (by omega)]
  · exact (dif_neg h1).trans ((rowsOf_lt x (p.val - 2) (by omega) j).symm.trans (if_pos (by omega)).symm)
theorem refLater3_at (x : FVec Ideal S8192x768 .f32) (p : Fin 8192) (j : Fin 768) : refLater3 x (ix2 p j) = if 3 ≤ p.val then rowsOf x (p.val - 3) j else 0 := by
  pointwise [refLater3]
  by_cases h1 : p.val < 3
  · rw [dif_pos h1, if_neg (by omega)]
  · exact (dif_neg h1).trans ((rowsOf_lt x (p.val - 3) (by omega) j).symm.trans (if_pos (by omega)).symm)

/-- A row read along all rows. -/
def refRows (r : FVec Ideal S768 .f32) : FVec Ideal S8192x768 .f32 :=
  broadcastInDim S8192x768 ![0, 1] bcast_S1x768_S8192x768_0_1 (broadcastInDim S1x768 ![1] bcast_S768_S1x768_1 r)

def refOut (x : FVec Ideal S8192x768 .f32) (w : FVec Ideal S4x768 .f32) (b : FVec Ideal S768 .f32) : FVec Ideal S8192x768 .f32 :=
  addf (addf (addf (addf (mulf (refRows (shapeCast _ (extractStridedSlice S1x768 ![0, 0] w slices_S4x768_S1x768_0_0) shapeCasts_S1x768_S768)) (refLater3 x))
    (mulf (refRows (shapeCast _ (extractStridedSlice S1x768 ![1, 0] w slices_S4x768_S1x768_1_0) shapeCasts_S1x768_S768)) (refLater2 x)))
    (mulf (refRows (shapeCast _ (extractStridedSlice S1x768 ![2, 0] w slices_S4x768_S1x768_2_0) shapeCasts_S1x768_S768)) (refLater1 x)))
    (mulf (refRows (shapeCast _ (extractStridedSlice S1x768 ![3, 0] w slices_S4x768_S1x768_3_0) shapeCasts_S1x768_S768)) x)) (refRows b)

theorem refOut_at (x : FVec Ideal S8192x3456 .f32) (w : FVec Ideal S4x768 .f32) (b : FVec Ideal S768 .f32) (p : Fin 8192) (j : Fin 768) :
    refOut (refX x) w b (ix2 p j) = value x w b p j := by
  have t0 : tapsOf w 0 j = w (ix2 0 j) := rfl
  have t1 : tapsOf w 1 j = w (ix2 1 j) := rfl
  have t2 : tapsOf w 2 j = w (ix2 2 j) := rfl
  have t3 : tapsOf w 3 j = w (ix2 3 j) := rfl
  pointwise [refOut, refRows, refLater1_at, refLater2_at, refLater3_at]
  unfold value out4
  rw [t0, t1, t2, t3, lag_at _ p.val 0 16 rfl, lag_at _ p.val 3 13 rfl, lag_at _ p.val 2 14 rfl, lag_at _ p.val 1 15 rfl, if_pos (Nat.zero_le _), Nat.sub_zero,
    ← refX_rows, rowsOf_val]
  exact four _ _ _ _ _

end Reference

/-! ## Kernel and reference -/

attribute [local instance] Cert.Kernel24Ideal.Gen.facts Cert.Reference24Ideal.Gen.facts

theorem agree : Cert.algebraic_Kernel24Ideal_Reference24Ideal := by
  intro m g m' g' _ ha
  refine ⟨_, Cert.Kernel24Ideal.Value.run_blocks m g,
    (θ_run Cert.Reference24Ideal.defs _ _).mono (fun r h c => ?_) (Cert.Reference24Ideal.Value.run m' g')⟩
  obtain ⟨a0, a1, a2⟩ := ha c
  obtain ⟨h0, hk⟩ := h c
  rw [a0, a1, a2] at h0
  refine ⟨h0.trans ?_, hk⟩
  funext i; rw [← ix2_eta i]
  have e : refOut (refX (argX m c)) (argW m c) (argB m c) (ix2 (i 0) (i 1)) = value (argX m c) (argW m c) (argB m c) (i 0) (i 1) := refOut_at _ _ _ _ _
  exact e.trans (final m c (ix2 (i 0) (i 1))).symm

end Cert.FwdXbc

end
-- ==== Proof.RefFrames.lean ====
/-
  The references' frames: a host program runs, keeps its arguments and declares no semaphore.
-/
module

public import Idealize.ShloMosaic.Lib.Quiescent
public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run

@[expose] public section

noncomputable section

namespace Cert.RefFrames

open Idealize.ShloMosaic Idealize.SL.Sem

theorem frame1 : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run m ρ)

theorem frame2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem frame3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

theorem frame4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

theorem frame5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

theorem frame6 : Cert.quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩)
    (Cert.Reference6Ideal.Value.run m ρ)

theorem frame7 : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run m ρ)

theorem frame8 : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩)
    (Cert.Reference8Ideal.Value.run m ρ)

theorem frame9 : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run m ρ)

theorem frame10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)

theorem frame11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run m ρ)

theorem frame12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run m ρ)

theorem frame13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run m ρ)

theorem frame14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run m ρ)

theorem frame15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run m ρ)

theorem frame16 : Cert.quiescent_Reference16Ideal (hReference16Ideal := Cert.Reference16Ideal.Gen.facts) := fun m ρ _ =>
  (θ_run Cert.Reference16Ideal.defs _ _).mono (fun r h => ⟨fun c => (h c).2.2.2.2.2, sem_eq_zero_of_no_sems (by decide) r.2⟩)
    (Cert.Reference16Ideal.Value.run m ρ)

theorem frame17 : Cert.quiescent_Reference17Ideal (hReference17Ideal := Cert.Reference17Ideal.Gen.facts) := fun m ρ _ =>
  (θ_run Cert.Reference17Ideal.defs _ _).mono (fun r h => ⟨fun c => (h c).2.2.2.2.2, sem_eq_zero_of_no_sems (by decide) r.2⟩)
    (Cert.Reference17Ideal.Value.run m ρ)

theorem frame18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run m ρ)

theorem frame19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run m ρ)

theorem frame20 : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run m ρ)

theorem frame21 : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run m ρ)

theorem frame22 : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run m ρ)

theorem frame23 : Cert.quiescent_Reference23Ideal (hReference23Ideal := Cert.Reference23Ideal.Gen.facts) := fun m ρ _ =>
  (θ_run Cert.Reference23Ideal.defs _ _).mono (fun r h => ⟨fun c => (h c).2.2.2, sem_eq_zero_of_no_sems (by decide) r.2⟩)
    (Cert.Reference23Ideal.Value.run m ρ)

theorem frame24 : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run m ρ)

end Cert.RefFrames

end
-- ==== Proof.lean ====
/-
  The proof of the certificate's claim: the frames of the programs, and the value claims of the modules.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Pre_all_finite
public import proofs.«01_k».proof.Proof.Gen.Pre_gate_finite
public import proofs.«01_k».proof.Proof.Gen.Pre_out_finite
public import proofs.«01_k».proof.Proof.Gen.Pre_last_finite
public import proofs.«01_k».proof.Proof.NormClaim
public import proofs.«01_k».proof.Proof.InputGradClaim
public import proofs.«01_k».proof.Proof.WeightGradClaim
public import proofs.«01_k».proof.Proof.DownGradClaim
public import proofs.«01_k».proof.Proof.UpClaim
public import proofs.«01_k».proof.Proof.GateClaim
public import proofs.«01_k».proof.Proof.DownNormClaim
public import proofs.«01_k».proof.Proof.ConvClaim
public import proofs.«01_k».proof.Proof.OutNormClaim
public import proofs.«01_k».proof.Proof.OutGradClaim
public import proofs.«01_k».proof.Proof.InGradClaim
public import proofs.«01_k».proof.Proof.InABClaim
public import proofs.«01_k».proof.Proof.InCDClaim
public import proofs.«01_k».proof.Proof.InputABClaim
public import proofs.«01_k».proof.Proof.InputCDClaim
public import proofs.«01_k».proof.Proof.MixClaim
public import proofs.«01_k».proof.Proof.LastClaim
public import proofs.«01_k».proof.Proof.InXbcClaim
public import proofs.«01_k».proof.Proof.InSideClaim
public import proofs.«01_k».proof.Proof.InputSumClaim
public import proofs.«01_k».proof.Proof.LossClaim
public import proofs.«01_k».proof.Proof.FwdConvClaim
public import proofs.«01_k».proof.Proof.FwdGateClaim
public import proofs.«01_k».proof.Proof.FwdXbcClaim
public import proofs.«01_k».proof.Proof.RefFrames
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Pre_all_finite.Gen.facts, Cert.Pre_gate_finite.Gen.facts, Cert.Pre_out_finite.Gen.facts, Cert.Pre_last_finite.Gen.facts,
  fun m ρ _ => Cert.Kernel.Gen.frame m ρ, fun m ρ _ => Cert.KernelIdeal.Gen.frame m ρ, fun m ρ _ => Cert.KernelIdeal.Gen.frame m ρ, RefFrames.frame1, fun m ρ _ => RefFrames.frame1 m ρ trivial,
  fun m ρ _ => Cert.Kernel2.Gen.frame m ρ, fun m ρ _ => Cert.Kernel2Ideal.Gen.frame m ρ, RefFrames.frame2,
  fun m ρ _ => Cert.Kernel3.Gen.frame m ρ, fun m ρ _ => Cert.Kernel3Ideal.Gen.frame m ρ, RefFrames.frame3,
  fun m ρ _ => Cert.Kernel4.Gen.frame m ρ, fun m ρ _ => Cert.Kernel4Ideal.Gen.frame m ρ, RefFrames.frame4,
  fun m ρ _ => Cert.Kernel5.Gen.frame m ρ, fun m ρ _ => Cert.Kernel5Ideal.Gen.frame m ρ, RefFrames.frame5,
  fun m ρ _ => Cert.Kernel6.Gen.frame m ρ, fun m ρ _ => Cert.Kernel6Ideal.Gen.frame m ρ, fun m ρ _ => Cert.Kernel6Ideal.Gen.frame m ρ, RefFrames.frame6, fun m ρ _ => RefFrames.frame6 m ρ trivial,
  fun m ρ _ => Cert.Kernel7.Gen.frame m ρ, fun m ρ _ => Cert.Kernel7Ideal.Gen.frame m ρ, RefFrames.frame7,
  fun m ρ _ => Cert.Kernel8.Gen.frame m ρ, fun m ρ _ => Cert.Kernel8Ideal.Gen.frame m ρ, RefFrames.frame8,
  fun m ρ _ => Cert.Kernel9.Gen.frame m ρ, fun m ρ _ => Cert.Kernel9Ideal.Gen.frame m ρ, RefFrames.frame9,
  fun m ρ _ => Cert.Kernel10.Gen.frame m ρ, fun m ρ _ => Cert.Kernel10Ideal.Gen.frame m ρ, RefFrames.frame10,
  fun m ρ _ => Cert.Kernel11.Gen.frame m ρ, fun m ρ _ => Cert.Kernel11Ideal.Gen.frame m ρ, RefFrames.frame11,
  fun m ρ _ => Cert.Kernel12.Gen.frame m ρ, fun m ρ _ => Cert.Kernel12Ideal.Gen.frame m ρ, RefFrames.frame12,
  fun m ρ _ => Cert.Kernel13.Gen.frame m ρ, fun m ρ _ => Cert.Kernel13Ideal.Gen.frame m ρ, RefFrames.frame13,
  fun m ρ _ => Cert.Kernel14.Gen.frame m ρ, fun m ρ _ => Cert.Kernel14Ideal.Gen.frame m ρ, RefFrames.frame14,
  fun m ρ _ => Cert.Kernel15.Gen.frame m ρ, fun m ρ _ => Cert.Kernel15Ideal.Gen.frame m ρ, RefFrames.frame15,
  fun m ρ _ => Cert.Kernel16.Gen.frame m ρ, fun m ρ _ => Cert.Kernel16Ideal.Gen.frame m ρ, fun m ρ _ => Cert.Kernel16Ideal.Gen.frame m ρ, RefFrames.frame16, fun m ρ _ => RefFrames.frame16 m ρ trivial,
  fun m ρ _ => Cert.Kernel17.Gen.frame m ρ, fun m ρ _ => Cert.Kernel17Ideal.Gen.frame m ρ, fun m ρ _ => Cert.Kernel17Ideal.Gen.frame m ρ, RefFrames.frame17, fun m ρ _ => RefFrames.frame17 m ρ trivial,
  fun m ρ _ => Cert.Kernel18.Gen.frame m ρ, fun m ρ _ => Cert.Kernel18Ideal.Gen.frame m ρ, RefFrames.frame18,
  fun m ρ _ => Cert.Kernel19.Gen.frame m ρ, fun m ρ _ => Cert.Kernel19Ideal.Gen.frame m ρ, RefFrames.frame19,
  fun m ρ _ => Cert.Kernel20.Gen.frame m ρ, fun m ρ _ => Cert.Kernel20Ideal.Gen.frame m ρ, RefFrames.frame20,
  fun m ρ _ => Cert.Kernel21.Gen.frame m ρ, fun m ρ _ => Cert.Kernel21Ideal.Gen.frame m ρ, RefFrames.frame21,
  fun m ρ _ => Cert.Kernel22.Gen.frame m ρ, fun m ρ _ => Cert.Kernel22Ideal.Gen.frame m ρ, RefFrames.frame22,
  fun m ρ _ => Cert.Kernel23.Gen.frame m ρ, fun m ρ _ => Cert.Kernel23Ideal.Gen.frame m ρ, RefFrames.frame23,
  fun m ρ _ => Cert.Kernel24.Gen.frame m ρ, fun m ρ _ => Cert.Kernel24Ideal.Gen.frame m ρ, RefFrames.frame24,
  trivial, Norm.agree, trivial, InputGrad.agree, trivial, WeightGrad.agree, trivial, DownGrad.agree, trivial, Up.agree, trivial, Gate.agree, trivial, DownNorm.agree, trivial, Conv.agree, trivial, OutNorm.agree, trivial, OutGrad.agree, trivial, InGrad.agree, trivial, InAB.agree, trivial, InCD.agree, trivial, InputAB.agree, trivial, InputCD.agree, trivial, Mix.agree, trivial, Last.agree, trivial, InXbc.agree, trivial, InSide.agree, trivial, InputSum.agree, trivial, Loss.agree, trivial, FwdConv.agree, trivial, FwdGate.agree, trivial, FwdXbc.agree⟩

end Cert.Proof

end
